-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v11_2)) (v3 : (c : Dev Cert.Kernel8Ideal.nD) → Buf (Elt Ideal) ((c.tc : Thread Cert.Kernel8Ideal.nD Cert.Kernel8Ideal.τ).loc Cert.Kernel8Ideal.main_v11_3)) (v4 : (c : Dev Cert.Kernel8Ideal.nD) → Buf (Elt Ideal) ((c.tc : Thread Cert.Kernel8Ideal.nD Cert.Kernel8Ideal.τ).loc Cert.Kernel8Ideal.main_v12)) (v5 : (c : Dev Cert.Kernel8Ideal.nD) → Buf (Elt Ideal) ((c.tc : Thread Cert.Kernel8Ideal.nD Cert.Kernel8Ideal.τ).loc Cert.Kernel8Ideal.main_v13)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v11_2) = v2 c
          ∧ r.2.mem ((c.tc : Thread Cert.Kernel8Ideal.nD Cert.Kernel8Ideal.τ).loc Cert.Kernel8Ideal.main_v11_3) = v3 c
          ∧ r.2.mem ((c.tc : Thread Cert.Kernel8Ideal.nD Cert.Kernel8Ideal.τ).loc Cert.Kernel8Ideal.main_v12) = v4 c
          ∧ r.2.mem ((c.tc : Thread Cert.Kernel8Ideal.nD Cert.Kernel8Ideal.τ).loc Cert.Kernel8Ideal.main_v13) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v49) = v1 c
          ∧ r.2.mem ((c.tc : Thread Cert.Reference8Ideal.nD Cert.Reference8Ideal.τ).loc Cert.Reference8Ideal.main_v59) = v2 c
          ∧ r.2.mem ((c.tc : Thread Cert.Reference8Ideal.nD Cert.Reference8Ideal.τ).loc Cert.Reference8Ideal.main_v60) = v3 c
          ∧ r.2.mem ((c.tc : Thread Cert.Reference8Ideal.nD Cert.Reference8Ideal.τ).loc Cert.Reference8Ideal.main_v61) = v4 c
          ∧ r.2.mem ((c.tc : Thread Cert.Reference8Ideal.nD Cert.Reference8Ideal.τ).loc Cert.Reference8Ideal.main_v62) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v5)) (v1 : (c : Dev Cert.Kernel12Ideal.nD) → Buf (Elt Ideal) ((c.tc : Thread Cert.Kernel12Ideal.nD Cert.Kernel12Ideal.τ).loc Cert.Kernel12Ideal.main_v6_0)) (v2 : (c : Dev Cert.Kernel12Ideal.nD) → Buf (Elt Ideal) ((c.tc : Thread Cert.Kernel12Ideal.nD Cert.Kernel12Ideal.τ).loc Cert.Kernel12Ideal.main_v6_1)) (v3 : (c : Dev Cert.Kernel12Ideal.nD) → Buf (Elt Ideal) ((c.tc : Thread Cert.Kernel12Ideal.nD Cert.Kernel12Ideal.τ).loc Cert.Kernel12Ideal.main_v7)) (v4 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_v6_0) = v1 c
          ∧ r.2.mem ((c.tc : Thread Cert.Kernel12Ideal.nD Cert.Kernel12Ideal.τ).loc Cert.Kernel12Ideal.main_v6_1) = v2 c
          ∧ r.2.mem ((c.tc : Thread Cert.Kernel12Ideal.nD Cert.Kernel12Ideal.τ).loc Cert.Kernel12Ideal.main_v7) = v3 c
          ∧ r.2.mem ((c.tc : Thread Cert.Kernel12Ideal.nD Cert.Kernel12Ideal.τ).loc Cert.Kernel12Ideal.main_v8) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v2) = v1 c
          ∧ r.2.mem ((c.tc : Thread Cert.Reference12Ideal.nD Cert.Reference12Ideal.τ).loc Cert.Reference12Ideal.main_v16) = v2 c
          ∧ r.2.mem ((c.tc : Thread Cert.Reference12Ideal.nD Cert.Reference12Ideal.τ).loc Cert.Reference12Ideal.main_v18) = v3 c
          ∧ r.2.mem ((c.tc : Thread Cert.Reference12Ideal.nD Cert.Reference12Ideal.τ).loc Cert.Reference12Ideal.main_v20) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2)) (v1 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_v5) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  IdealRules.named_const.Statement Cert.Kernel19Ideal.κ "xscale" .f32 0x3DB504F3#32 (((Real.sqrt 128)⁻¹ : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  IdealRules.named_const.Statement Cert.Kernel20Ideal.κ "xscale" .f32 0x3DB504F3#32 (((Real.sqrt 128)⁻¹ : ℝ) : EReal)

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v66) = v0 c
          ∧ r.2.mem ((c.tc : Thread Cert.Reference20Ideal.nD Cert.Reference20Ideal.τ).loc Cert.Reference20Ideal.main_v67) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v4_4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v49) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite2 : Cert.Pre_finite2.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal (hKernel21Ideal := hKernel21Ideal) (hReference21Ideal := hReference21Ideal)
-- ==== Pre_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)

variable [Facts]

def fn {F : FTy → Type} [FloatOps F] (main_arg0 : FVec F S8192x8x96 .f32) (main_arg1 : FVec F S8192x8x96 .f32) (main_arg2 : FVec F S8192x8x64 .f32) (main_arg3 : FVec F S8192x8x64 .f32) : IVec S8192x8x96 1 × IVec S8192x8x96 1 × IVec S8192x8x64 1 × IVec S8192x8x64 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8x64 .f32 := Host.absf main_arg3
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  (main_v2, main_v5, main_v8, main_v11)
-- ==== Pre_finite2.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1024x2816 .f32) (main_arg3 : FVec F S1024x2816 .f32) (main_arg4 : FVec F S2816x1024 .f32) (main_arg5 : FVec F S8192x1024 .f32) : IVec S8192x1024 1 × IVec S1024x2816 1 × IVec S1024x2816 1 × IVec S2816x1024 1 × IVec S8192x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg3
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite20.lean ====
abbrev S8192x512 : Shape := ⟨2, ![8192, 512]⟩
abbrev S256x1024 : Shape := ⟨2, ![256, 1024]⟩
abbrev S_ : Shape := ⟨0, ![]⟩

class Facts : Prop where
  bcast_S_S8192x512 : S_.BroadcastsInDim S8192x512 (![] : Fin 0 → Fin S8192x512.rank)
  bcast_S_S256x1024 : S_.BroadcastsInDim S256x1024 (![] : Fin 0 → Fin S256x1024.rank)

variable [Facts]

def fn {F : FTy → Type} [FloatOps F] (main_arg0 : FVec F S8192x512 .f32) (main_arg1 : FVec F S256x1024 .f32) (main_arg2 : FVec F S8192x512 .f32) : IVec S8192x512 1 × IVec S256x1024 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Kernel.lean ====
abbrev S8192x8x96 : Shape := ⟨3, ![8192, 8, 96]⟩
abbrev S8192x8x64 : Shape := ⟨3, ![8192, 8, 64]⟩
abbrev S_ : Shape := ⟨0, ![]⟩
abbrev S8192x8x128 : Shape := ⟨3, ![8192, 8, 128]⟩
abbrev S8192x1024 : Shape := ⟨2, ![8192, 1024]⟩
abbrev S8x8192x1 : Shape := ⟨3, ![8, 8192, 1]⟩
abbrev S1024x128 : Shape := ⟨2, ![1024, 128]⟩
abbrev S8192x128 : Shape := ⟨2, ![8192, 128]⟩
abbrev S1x1024x1 : Shape := ⟨3, ![1, 1024, 1]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 47
  | .vmem => 28
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x8x96, .f32⟩
  | .hbm, ⟨12, _⟩ => ⟨S8192x8x96, .f32⟩
  | .hbm, ⟨13, _⟩ => ⟨S_, .i32⟩
  | .hbm, ⟨14, _⟩ => ⟨S_, .f32⟩
  | .hbm, ⟨15, _⟩ => ⟨S8192x8x128, .f32⟩
  | .hbm, ⟨16, _⟩ => ⟨S8192x1024, .f32⟩
  | .hbm, ⟨17, _⟩ => ⟨S8192x1024, .bf16⟩
  | .hbm, ⟨18, _⟩ => ⟨S_, .i32⟩
  | .hbm, ⟨19, _⟩ => ⟨S_, .f32⟩
  | .hbm, ⟨20, _⟩ => ⟨S8192x8x128, .f32⟩
  | .hbm, ⟨21, _⟩ => ⟨S8192x1024, .f32⟩
  | .hbm, ⟨22, _⟩ => ⟨S8192x1024, .bf16⟩
  | .hbm, ⟨23, _⟩ => ⟨S_, .i32⟩
  | .hbm, ⟨24, _⟩ => ⟨S_, .f32⟩
  | .hbm, ⟨25, _⟩ => ⟨S8192x8x128, .f32⟩
  | .hbm, ⟨26, _⟩ => ⟨S8192x1024, .f32⟩
  | .hbm, ⟨27, _⟩ => ⟨S8192x1024, .bf16⟩
  | .hbm, ⟨28, _⟩ => ⟨S_, .i32⟩
  | .hbm, ⟨29, _⟩ => ⟨S_, .f32⟩
  | .hbm, ⟨30, _⟩ => ⟨S8192x8x128, .f32⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S8x8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x8x128, .bf16⟩
  | .hbm, ⟨39, _⟩ => ⟨S8192x8x64, .bf16⟩
  | .hbm, ⟨40, _⟩ => ⟨S8192x8x64, .f32⟩
  | .hbm, ⟨41, _⟩ => ⟨S8192x8x128, .f32⟩
  | .hbm, ⟨42, _⟩ => ⟨S8192x8x96, .f32⟩
  | .hbm, ⟨43, _⟩ => ⟨S8192x8x128, .f32⟩
  | .hbm, ⟨44, _⟩ => ⟨S8192x8x96, .f32⟩
  | .hbm, ⟨45, _⟩ => ⟨S8192x8x128, .f32⟩
  | .hbm, ⟨46, _⟩ => ⟨S8192x8x64, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x128, .bf16⟩
  | .local _ .vmem, ⟨11, _⟩ => ⟨S1024x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1x1024x1, .f32⟩
  | .local _ .vmem, ⟨21, _⟩ => ⟨S1x1024x1, .f32⟩
  | .local _ .vmem, ⟨22, _⟩ => ⟨S1024x128, .f32⟩
  | .local _ .vmem, ⟨23, _⟩ => ⟨S1024x128, .f32⟩
  | .local _ .vmem, ⟨24, _⟩ => ⟨S8192x128, .f32⟩
  | .local _ .vmem, ⟨25, _⟩ => ⟨S8192x128, .f32⟩
  | .local _ .vmem, ⟨26, _⟩ => ⟨S8192x128, .f32⟩
  | .local _ .vmem, ⟨27, _⟩ => ⟨S8192x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_call3_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_8 : BitVec 32 := 0#32
  let arg1 : BitVec 32 := BitVec.ofNat 32 (i 1).val
  let c1_i32 : BitVec 32 := 1#32
  let v5 : BitVec 32 := Scalar.muli arg1 c1_i32
  let c0_i32 : BitVec 32 := 0#32
  let v7 : BitVec 1 := Scalar.cmpi .sgt v5 c0_i32
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c2_i32 : BitVec 32 := 2#32
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi v5 c2_i32
  let c0_i32_6 : BitVec 32 := 0#32
  let v19 : BitVec 1 := Scalar.cmpi .ne v18 c0_i32_6
  let v20 : BitVec 1 := Scalar.andi v17 v19
  let v6 : BitVec 32 := Scalar.divsi v5 c2_i32
  let c1_i32_7 : BitVec 32 := 1#32
  let v21 : BitVec 32 := Scalar.subi v6 c1_i32_7
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_10 : BitVec 32 := 1#32
  ⟨c0_i32_8, v27, c1_i32_10⟩
def k0_mult1 (i : grid0.Coords) (k0_t1 : Fin (k0_t1_loop i).trips) : BitVec 32 :=
  let c2_i32_41 : BitVec 32 := 2#32
  let c0_i32_8 : BitVec 32 := 0#32
  let c1_i32_10 : BitVec 32 := 1#32
  let arg7 : BitVec 32 := Scf.iv c0_i32_8 c1_i32_10 k0_t1
  let v103 : BitVec 32 := Scalar.muli c2_i32_41 arg7
  let c1024_i32_42 : BitVec 32 := 1024#32
  let v104 : BitVec 32 := Scalar.muli v103 c1024_i32_42
  v104
def k0_off1 (i : grid0.Coords) (k0_t1 : Fin (k0_t1_loop i).trips) : Fin 2 → Nat :=
  let c2_i32_41 : BitVec 32 := 2#32
  let c0_i32_8 : BitVec 32 := 0#32
  let c1_i32_10 : BitVec 32 := 1#32
  let arg7 : BitVec 32 := Scf.iv c0_i32_8 c1_i32_10 k0_t1
  let v103 : BitVec 32 := Scalar.muli c2_i32_41 arg7
  let c1024_i32_42 : BitVec 32 := 1024#32
  let v104 : BitVec 32 := Scalar.muli v103 c1024_i32_42
  let v105 : BitVec 32 := v104
  let v106 : Index := Scalar.indexCast v105
  let c0_43 : Index := 0#32
  ![v106.toNat, 0]
def k0_mult2 (i : grid0.Coords) (k0_t1 : Fin (k0_t1_loop i).trips) : BitVec 32 :=
  let c2_i32_39 : BitVec 32 := 2#32
  let c0_i32_8 : BitVec 32 := 0#32
  let c1_i32_10 : BitVec 32 := 1#32
  let arg7 : BitVec 32 := Scf.iv c0_i32_8 c1_i32_10 k0_t1
  let v101 : BitVec 32 := Scalar.muli c2_i32_39 arg7
  let c1_i32_40 : BitVec 32 := 1#32
  let v102 : BitVec 32 := Scalar.addi v101 c1_i32_40
  let c1024_i32_49 : BitVec 32 := 1024#32
  let v130 : BitVec 32 := Scalar.muli v102 c1024_i32_49
  v130
def k0_off2 (i : grid0.Coords) (k0_t1 : Fin (k0_t1_loop i).trips) : Fin 2 → Nat :=
  let c2_i32_39 : BitVec 32 := 2#32
  let c0_i32_8 : BitVec 32 := 0#32
  let c1_i32_10 : BitVec 32 := 1#32
  let arg7 : BitVec 32 := Scf.iv c0_i32_8 c1_i32_10 k0_t1
  let v101 : BitVec 32 := Scalar.muli c2_i32_39 arg7
  let c1_i32_40 : BitVec 32 := 1#32
  let v102 : BitVec 32 := Scalar.addi v101 c1_i32_40
  let c1024_i32_49 : BitVec 32 := 1024#32
  let v130 : BitVec 32 := Scalar.muli v102 c1024_i32_49
  let v131 : BitVec 32 := v130
  let v132 : Index := Scalar.indexCast v131
  let c0_50 : Index := 0#32
  ![v132.toNat, 0]
@[reducible] def k0_t2_loop (i : grid0.Coords) : Scf.Loop 32 :=
  let c0_i32_8 : BitVec 32 := 0#32
  let arg1 : BitVec 32 := BitVec.ofNat 32 (i 1).val
  let c1_i32 : BitVec 32 := 1#32
  let v5 : BitVec 32 := Scalar.muli arg1 c1_i32
  let c0_i32 : BitVec 32 := 0#32
  let v7 : BitVec 1 := Scalar.cmpi .sgt v5 c0_i32
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c2_i32 : BitVec 32 := 2#32
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi v5 c2_i32
  let c0_i32_6 : BitVec 32 := 0#32
  let v19 : BitVec 1 := Scalar.cmpi .ne v18 c0_i32_6
  let v20 : BitVec 1 := Scalar.andi v17 v19
  let v6 : BitVec 32 := Scalar.divsi v5 c2_i32
  let c1_i32_7 : BitVec 32 := 1#32
  let v21 : BitVec 32 := Scalar.subi v6 c1_i32_7
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let v24 : BitVec 32 := Scalar.addi c0_i32_8 v23
  let c1_i32_11 : BitVec 32 := 1#32
  ⟨v27, v24, c1_i32_11⟩
def k0_mult3 (i : grid0.Coords) (k0_t2 : Fin (k0_t2_loop i).trips) : BitVec 32 :=
  let c2_i32_41 : BitVec 32 := 2#32
  let c0_i32_8 : BitVec 32 := 0#32
  let arg1 : BitVec 32 := BitVec.ofNat 32 (i 1).val
  let c1_i32 : BitVec 32 := 1#32
  let v5 : BitVec 32 := Scalar.muli arg1 c1_i32
  let c0_i32 : BitVec 32 := 0#32
  let v7 : BitVec 1 := Scalar.cmpi .sgt v5 c0_i32
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c2_i32 : BitVec 32 := 2#32
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi v5 c2_i32
  let c0_i32_6 : BitVec 32 := 0#32
  let v19 : BitVec 1 := Scalar.cmpi .ne v18 c0_i32_6
  let v20 : BitVec 1 := Scalar.andi v17 v19
  let v6 : BitVec 32 := Scalar.divsi v5 c2_i32
  let c1_i32_7 : BitVec 32 := 1#32
  let v21 : BitVec 32 := Scalar.subi v6 c1_i32_7
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v103 : BitVec 32 := Scalar.muli c2_i32_41 arg7
  let c1024_i32_42 : BitVec 32 := 1024#32
  let v104 : BitVec 32 := Scalar.muli v103 c1024_i32_42
  v104
def k0_off3 (i : grid0.Coords) (k0_t2 : Fin (k0_t2_loop i).trips) : Fin 2 → Nat :=
  let c2_i32_41 : BitVec 32 := 2#32
  let c0_i32_8 : BitVec 32 := 0#32
  let arg1 : BitVec 32 := BitVec.ofNat 32 (i 1).val
  let c1_i32 : BitVec 32 := 1#32
  let v5 : BitVec 32 := Scalar.muli arg1 c1_i32
  let c0_i32 : BitVec 32 := 0#32
  let v7 : BitVec 1 := Scalar.cmpi .sgt v5 c0_i32
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c2_i32 : BitVec 32 := 2#32
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi v5 c2_i32
  let c0_i32_6 : BitVec 32 := 0#32
  let v19 : BitVec 1 := Scalar.cmpi .ne v18 c0_i32_6
  let v20 : BitVec 1 := Scalar.andi v17 v19
  let v6 : BitVec 32 := Scalar.divsi v5 c2_i32
  let c1_i32_7 : BitVec 32 := 1#32
  let v21 : BitVec 32 := Scalar.subi v6 c1_i32_7
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v103 : BitVec 32 := Scalar.muli c2_i32_41 arg7
  let c1024_i32_42 : BitVec 32 := 1024#32
  let v104 : BitVec 32 := Scalar.muli v103 c1024_i32_42
  let v105 : BitVec 32 := v104
  let v106 : Index := Scalar.indexCast v105
  let c0_43 : Index := 0#32
  ![v106.toNat, 0]
def k0_mult4 (i : grid0.Coords) (k0_t2 : Fin (k0_t2_loop i).trips) : BitVec 32 :=
  let c2_i32_39 : BitVec 32 := 2#32
  let c0_i32_8 : BitVec 32 := 0#32
  let arg1 : BitVec 32 := BitVec.ofNat 32 (i 1).val
  let c1_i32 : BitVec 32 := 1#32
  let v5 : BitVec 32 := Scalar.muli arg1 c1_i32
  let c0_i32 : BitVec 32 := 0#32
  let v7 : BitVec 1 := Scalar.cmpi .sgt v5 c0_i32
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c2_i32 : BitVec 32 := 2#32
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi v5 c2_i32
  let c0_i32_6 : BitVec 32 := 0#32
  let v19 : BitVec 1 := Scalar.cmpi .ne v18 c0_i32_6
  let v20 : BitVec 1 := Scalar.andi v17 v19
  let v6 : BitVec 32 := Scalar.divsi v5 c2_i32
  let c1_i32_7 : BitVec 32 := 1#32
  let v21 : BitVec 32 := Scalar.subi v6 c1_i32_7
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v101 : BitVec 32 := Scalar.muli c2_i32_39 arg7
  let c1_i32_40 : BitVec 32 := 1#32
  let v102 : BitVec 32 := Scalar.addi v101 c1_i32_40
  let c1024_i32_49 : BitVec 32 := 1024#32
  let v130 : BitVec 32 := Scalar.muli v102 c1024_i32_49
  v130
def k0_off4 (i : grid0.Coords) (k0_t2 : Fin (k0_t2_loop i).trips) : Fin 2 → Nat :=
  let c2_i32_39 : BitVec 32 := 2#32
  let c0_i32_8 : BitVec 32 := 0#32
  let arg1 : BitVec 32 := BitVec.ofNat 32 (i 1).val
  let c1_i32 : BitVec 32 := 1#32
  let v5 : BitVec 32 := Scalar.muli arg1 c1_i32
  let c0_i32 : BitVec 32 := 0#32
  let v7 : BitVec 1 := Scalar.cmpi .sgt v5 c0_i32
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c2_i32 : BitVec 32 := 2#32
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi v5 c2_i32
  let c0_i32_6 : BitVec 32 := 0#32
  let v19 : BitVec 1 := Scalar.cmpi .ne v18 c0_i32_6
  let v20 : BitVec 1 := Scalar.andi v17 v19
  let v6 : BitVec 32 := Scalar.divsi v5 c2_i32
  let c1_i32_7 : BitVec 32 := 1#32
  let v21 : BitVec 32 := Scalar.subi v6 c1_i32_7
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg7 : BitVec 32 := Scf.iv v27 c1_i32_11 k0_t2
  let v101 : BitVec 32 := Scalar.muli c2_i32_39 arg7
  let c1_i32_40 : BitVec 32 := 1#32
  let v102 : BitVec 32 := Scalar.addi v101 c1_i32_40
  let c1024_i32_49 : BitVec 32 := 1024#32
  let v130 : BitVec 32 := Scalar.muli v102 c1024_i32_49
  let v131 : BitVec 32 := v130
  let v132 : Index := Scalar.indexCast v131
  let c0_50 : Index := 0#32
  ![v132.toNat, 0]
@[reducible] def k0_t3_loop (i : grid0.Coords) : Scf.Loop 32 :=
  let arg1 : BitVec 32 := BitVec.ofNat 32 (i 1).val
  let c1_i32 : BitVec 32 := 1#32
  let v5 : BitVec 32 := Scalar.muli arg1 c1_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v5 c2_i32_12
  let c0_i32_17 : BitVec 32 := 0#32
  let v43 : BitVec 1 := Scalar.cmpi .ne v42 c0_i32_17
  let v44 : BitVec 1 := Scalar.andi v41 v43
  let v30 : BitVec 32 := Scalar.divsi v5 c2_i32_12
  let c1_i32_18 : BitVec 32 := 1#32
  let v45 : BitVec 32 := Scalar.subi v30 c1_i32_18
  let v46 : BitVec 32 := Scalar.select v44 v45 v30
  let c2_i32_19 : BitVec 32 := 2#32
  let v47 : BitVec 32 := Scalar.muli v46 c2_i32_19
  let v48 : BitVec 32 := Scalar.subi v5 v47
  let c1_i32_20 : BitVec 32 := 1#32
  let v50 : BitVec 32 := Scalar.divsi v48 c1_i32_20
  let v51 : BitVec 32 := Scalar.muli v50 c1_i32_20
  let v52 : BitVec 32 := Scalar.addi v47 v51
  let c1_i32_21 : BitVec 32 := 1#32
  ⟨v47, v52, c1_i32_21⟩
def k0_mult5 (i : grid0.Coords) (k0_t3 : Fin (k0_t3_loop i).trips) : BitVec 32 :=
  let arg1 : BitVec 32 := BitVec.ofNat 32 (i 1).val
  let c1_i32 : BitVec 32 := 1#32
  let v5 : BitVec 32 := Scalar.muli arg1 c1_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v5 c2_i32_12
  let c0_i32_17 : BitVec 32 := 0#32
  let v43 : BitVec 1 := Scalar.cmpi .ne v42 c0_i32_17
  let v44 : BitVec 1 := Scalar.andi v41 v43
  let v30 : BitVec 32 := Scalar.divsi v5 c2_i32_12
  let c1_i32_18 : BitVec 32 := 1#32
  let v45 : BitVec 32 := Scalar.subi v30 c1_i32_18
  let v46 : BitVec 32 := Scalar.select v44 v45 v30
  let c2_i32_19 : BitVec 32 := 2#32
  let v47 : BitVec 32 := Scalar.muli v46 c2_i32_19
  let c1_i32_21 : BitVec 32 := 1#32
  let arg7 : BitVec 32 := Scf.iv v47 c1_i32_21 k0_t3
  let c1024_i32_39 : BitVec 32 := 1024#32
  let v101 : BitVec 32 := Scalar.muli arg7 c1024_i32_39
  v101
def k0_off5 (i : grid0.Coords) (k0_t3 : Fin (k0_t3_loop i).trips) : Fin 2 → Nat :=
  let arg1 : BitVec 32 := BitVec.ofNat 32 (i 1).val
  let c1_i32 : BitVec 32 := 1#32
  let v5 : BitVec 32 := Scalar.muli arg1 c1_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v5 c2_i32_12
  let c0_i32_17 : BitVec 32 := 0#32
  let v43 : BitVec 1 := Scalar.cmpi .ne v42 c0_i32_17
  let v44 : BitVec 1 := Scalar.andi v41 v43
  let v30 : BitVec 32 := Scalar.divsi v5 c2_i32_12
  let c1_i32_18 : BitVec 32 := 1#32
  let v45 : BitVec 32 := Scalar.subi v30 c1_i32_18
  let v46 : BitVec 32 := Scalar.select v44 v45 v30
  let c2_i32_19 : BitVec 32 := 2#32
  let v47 : BitVec 32 := Scalar.muli v46 c2_i32_19
  let c1_i32_21 : BitVec 32 := 1#32
  let arg7 : BitVec 32 := Scf.iv v47 c1_i32_21 k0_t3
  let c1024_i32_39 : BitVec 32 := 1024#32
  let v101 : BitVec 32 := Scalar.muli arg7 c1024_i32_39
  let v102 : BitVec 32 := v101
  let v103 : Index := Scalar.indexCast v102
  let c0_40 : Index := 0#32
  ![v103.toNat, 0]
@[reducible] def k0_t4_loop (i : grid0.Coords) : Scf.Loop 32 :=
  let arg1 : BitVec 32 := BitVec.ofNat 32 (i 1).val
  let c1_i32 : BitVec 32 := 1#32
  let v5 : BitVec 32 := Scalar.muli arg1 c1_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v5 c2_i32_12
  let c0_i32_17 : BitVec 32 := 0#32
  let v43 : BitVec 1 := Scalar.cmpi .ne v42 c0_i32_17
  let v44 : BitVec 1 := Scalar.andi v41 v43
  let v30 : BitVec 32 := Scalar.divsi v5 c2_i32_12
  let c1_i32_18 : BitVec 32 := 1#32
  let v45 : BitVec 32 := Scalar.subi v30 c1_i32_18
  let v46 : BitVec 32 := Scalar.select v44 v45 v30
  let c2_i32_19 : BitVec 32 := 2#32
  let v47 : BitVec 32 := Scalar.muli v46 c2_i32_19
  let v48 : BitVec 32 := Scalar.subi v5 v47
  let c1_i32_20 : BitVec 32 := 1#32
  let v50 : BitVec 32 := Scalar.divsi v48 c1_i32_20
  let v51 : BitVec 32 := Scalar.muli v50 c1_i32_20
  let v52 : BitVec 32 := Scalar.addi v47 v51
  let v49 : BitVec 32 := Scalar.addi v47 v48
  let c1_i32_22 : BitVec 32 := 1#32
  ⟨v52, v49, c1_i32_22⟩
def k0_mult6 (i : grid0.Coords) (k0_t4 : Fin (k0_t4_loop i).trips) : BitVec 32 :=
  let arg1 : BitVec 32 := BitVec.ofNat 32 (i 1).val
  let c1_i32 : BitVec 32 := 1#32
  let v5 : BitVec 32 := Scalar.muli arg1 c1_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v5 c2_i32_12
  let c0_i32_17 : BitVec 32 := 0#32
  let v43 : BitVec 1 := Scalar.cmpi .ne v42 c0_i32_17
  let v44 : BitVec 1 := Scalar.andi v41 v43
  let v30 : BitVec 32 := Scalar.divsi v5 c2_i32_12
  let c1_i32_18 : BitVec 32 := 1#32
  let v45 : BitVec 32 := Scalar.subi v30 c1_i32_18
  let v46 : BitVec 32 := Scalar.select v44 v45 v30
  let c2_i32_19 : BitVec 32 := 2#32
  let v47 : BitVec 32 := Scalar.muli v46 c2_i32_19
  let v48 : BitVec 32 := Scalar.subi v5 v47
  let c1_i32_20 : BitVec 32 := 1#32
  let v50 : BitVec 32 := Scalar.divsi v48 c1_i32_20
  let v51 : BitVec 32 := Scalar.muli v50 c1_i32_20
  let v52 : BitVec 32 := Scalar.addi v47 v51
  let c1_i32_22 : BitVec 32 := 1#32
  let arg7 : BitVec 32 := Scf.iv v52 c1_i32_22 k0_t4
  let c1024_i32_39 : BitVec 32 := 1024#32
  let v101 : BitVec 32 := Scalar.muli arg7 c1024_i32_39
  v101
def k0_off6 (i : grid0.Coords) (k0_t4 : Fin (k0_t4_loop i).trips) : Fin 2 → Nat :=
  let arg1 : BitVec 32 := BitVec.ofNat 32 (i 1).val
  let c1_i32 : BitVec 32 := 1#32
  let v5 : BitVec 32 := Scalar.muli arg1 c1_i32
  let c0_i32_13 : BitVec 32 := 0#32
  let v31 : BitVec 1 := Scalar.cmpi .sgt v5 c0_i32_13
  let v32 : BitVec 32 := Scalar.extui v31
  let c0_i32_14 : BitVec 32 := 0#32
  let v33 : BitVec 1 := Scalar.cmpi .slt v5 c0_i32_14
  let v34 : BitVec 32 := Scalar.extui v33
  let v35 : BitVec 32 := Scalar.subi v32 v34
  let c2_i32_12 : BitVec 32 := 2#32
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi v5 c2_i32_12
  let c0_i32_17 : BitVec 32 := 0#32
  let v43 : BitVec 1 := Scalar.cmpi .ne v42 c0_i32_17
  let v44 : BitVec 1 := Scalar.andi v41 v43
  let v30 : BitVec 32 := Scalar.divsi v5 c2_i32_12
  let c1_i32_18 : BitVec 32 := 1#32
  let v45 : BitVec 32 := Scalar.subi v30 c1_i32_18
  let v46 : BitVec 32 := Scalar.select v44 v45 v30
  let c2_i32_19 : BitVec 32 := 2#32
  let v47 : BitVec 32 := Scalar.muli v46 c2_i32_19
  let v48 : BitVec 32 := Scalar.subi v5 v47
  let c1_i32_20 : BitVec 32 := 1#32
  let v50 : BitVec 32 := Scalar.divsi v48 c1_i32_20
  let v51 : BitVec 32 := Scalar.muli v50 c1_i32_20
  let v52 : BitVec 32 := Scalar.addi v47 v51
  let c1_i32_22 : BitVec 32 := 1#32
  let arg7 : BitVec 32 := Scf.iv v52 c1_i32_22 k0_t4
  let c1024_i32_39 : BitVec 32 := 1024#32
  let v101 : BitVec 32 := Scalar.muli arg7 c1024_i32_39
  let v102 : BitVec 32 := v101
  let v103 : Index := Scalar.indexCast v102
  let c0_40 : Index := 0#32
  ![v103.toNat, 0]
def k0_mult7 (i : grid0.Coords) : BitVec 32 :=
  let arg1 : BitVec 32 := BitVec.ofNat 32 (i 1).val
  let c1_i32_23 : BitVec 32 := 1#32
  let v55 : BitVec 32 := Scalar.muli arg1 c1_i32_23
  let c0_i32_24 : BitVec 32 := 0#32
  let v56 : BitVec 32 := Scalar.addi v55 c0_i32_24
  let c1024_i32 : BitVec 32 := 1024#32
  let v57 : BitVec 32 := Scalar.muli v56 c1024_i32
  v57
def k0_off7 (i : grid0.Coords) : Fin 2 → Nat :=
  let arg1 : BitVec 32 := BitVec.ofNat 32 (i 1).val
  let c1_i32_23 : BitVec 32 := 1#32
  let v55 : BitVec 32 := Scalar.muli arg1 c1_i32_23
  let c0_i32_24 : BitVec 32 := 0#32
  let v56 : BitVec 32 := Scalar.addi v55 c0_i32_24
  let c1024_i32 : BitVec 32 := 1024#32
  let v57 : BitVec 32 := Scalar.muli v56 c1024_i32
  let v58 : BitVec 32 := v57
  let v59 : Index := Scalar.indexCast v58
  let c0_25 : Index := 0#32
  ![v59.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

@[reducible] def k1_t1_loop (i : grid1.Coords) : Scf.Loop 32 :=
  let c0_i32_10 : BitVec 32 := 0#32
  let arg1 : BitVec 32 := BitVec.ofNat 32 (i 1).val
  let c1_i32 : BitVec 32 := 1#32
  let v16 : BitVec 32 := Scalar.muli arg1 c1_i32
  let v18 : BitVec 32 := Scalar.subi v16 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let c1_i32_12 : BitVec 32 := 1#32
  ⟨c0_i32_10, v22, c1_i32_12⟩
def k1_mult1 (i : grid1.Coords) (k1_t1 : Fin (k1_t1_loop i).trips) : BitVec 32 :=
  let c0_i32_10 : BitVec 32 := 0#32
  let c1_i32_12 : BitVec 32 := 1#32
  let arg11 : BitVec 32 := Scf.iv c0_i32_10 c1_i32_12 k1_t1
  let c1024_i32_33 : BitVec 32 := 1024#32
  let v73 : BitVec 32 := Scalar.muli arg11 c1024_i32_33
  v73
def k1_off1 (i : grid1.Coords) (k1_t1 : Fin (k1_t1_loop i).trips) : Fin 2 → Nat :=
  let c0_i32_10 : BitVec 32 := 0#32
  let c1_i32_12 : BitVec 32 := 1#32
  let arg11 : BitVec 32 := Scf.iv c0_i32_10 c1_i32_12 k1_t1
  let c1024_i32_33 : BitVec 32 := 1024#32
  let v73 : BitVec 32 := Scalar.muli arg11 c1024_i32_33
  let v74 : BitVec 32 := v73
  let v75 : Index := Scalar.indexCast v74
  let c0_34 : Index := 0#32
  ![v75.toNat, 0]
@[reducible] def k1_t2_loop (i : grid1.Coords) : Scf.Loop 32 :=
  let c0_i32_10 : BitVec 32 := 0#32
  let arg1 : BitVec 32 := BitVec.ofNat 32 (i 1).val
  let c1_i32 : BitVec 32 := 1#32
  let v16 : BitVec 32 := Scalar.muli arg1 c1_i32
  let v18 : BitVec 32 := Scalar.subi v16 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let v19 : BitVec 32 := Scalar.addi c0_i32_10 v18
  let c1_i32_13 : BitVec 32 := 1#32
  ⟨v22, v19, c1_i32_13⟩
def k1_mult2 (i : grid1.Coords) (k1_t2 : Fin (k1_t2_loop i).trips) : BitVec 32 :=
  let c0_i32_10 : BitVec 32 := 0#32
  let arg1 : BitVec 32 := BitVec.ofNat 32 (i 1).val
  let c1_i32 : BitVec 32 := 1#32
  let v16 : BitVec 32 := Scalar.muli arg1 c1_i32
  let v18 : BitVec 32 := Scalar.subi v16 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let c1_i32_13 : BitVec 32 := 1#32
  let arg11 : BitVec 32 := Scf.iv v22 c1_i32_13 k1_t2
  let c1024_i32_33 : BitVec 32 := 1024#32
  let v73 : BitVec 32 := Scalar.muli arg11 c1024_i32_33
  v73
def k1_off2 (i : grid1.Coords) (k1_t2 : Fin (k1_t2_loop i).trips) : Fin 2 → Nat :=
  let c0_i32_10 : BitVec 32 := 0#32
  let arg1 : BitVec 32 := BitVec.ofNat 32 (i 1).val
  let c1_i32 : BitVec 32 := 1#32
  let v16 : BitVec 32 := Scalar.muli arg1 c1_i32
  let v18 : BitVec 32 := Scalar.subi v16 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let c1_i32_13 : BitVec 32 := 1#32
  let arg11 : BitVec 32 := Scf.iv v22 c1_i32_13 k1_t2
  let c1024_i32_33 : BitVec 32 := 1024#32
  let v73 : BitVec 32 := Scalar.muli arg11 c1024_i32_33
  let v74 : BitVec 32 := v73
  let v75 : Index := Scalar.indexCast v74
  let c0_34 : Index := 0#32
  ![v75.toNat, 0]
def k1_mult3 (i : grid1.Coords) : BitVec 32 :=
  let arg1 : BitVec 32 := BitVec.ofNat 32 (i 1).val
  let c1_i32_14 : BitVec 32 := 1#32
  let v25 : BitVec 32 := Scalar.muli arg1 c1_i32_14
  let c0_i32_15 : BitVec 32 := 0#32
  let v26 : BitVec 32 := Scalar.addi v25 c0_i32_15
  let c1024_i32 : BitVec 32 := 1024#32
  let v27 : BitVec 32 := Scalar.muli v26 c1024_i32
  v27
def k1_off3 (i : grid1.Coords) : Fin 2 → Nat :=
  let arg1 : BitVec 32 := BitVec.ofNat 32 (i 1).val
  let c1_i32_14 : BitVec 32 := 1#32
  let v25 : BitVec 32 := Scalar.muli arg1 c1_i32_14
  let c0_i32_15 : BitVec 32 := 0#32
  let v26 : BitVec 32 := Scalar.addi v25 c0_i32_15
  let c1024_i32 : BitVec 32 := 1024#32
  let v27 : BitVec 32 := Scalar.muli v26 c1024_i32
  let v28 : BitVec 32 := v27
  let v29 : Index := Scalar.indexCast v28
  let c0_16 : Index := 0#32
  ![v29.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S8192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "scale" => some (((Real.sqrt 96)⁻¹ : ℝ) : EReal)
  | _ => none
-- ==== ReferenceIdeal.lean ====
abbrev S8192x8x96 : Shape := ⟨3, ![8192, 8, 96]⟩
abbrev S8192x8x64 : Shape := ⟨3, ![8192, 8, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 91
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S8x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .i1⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S8x8192, .i1⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S8x8192x8192, .f32⟩
  | .hbm, ⟨57, _⟩ => ⟨S8x8192x8192, .f32⟩
  | .hbm, ⟨58, _⟩ => ⟨S8x8192x1, .f32⟩
  | .hbm, ⟨59, _⟩ => ⟨S_, .f32⟩
  | .hbm, ⟨60, _⟩ => ⟨S8x8192x1, .f32⟩
  | .hbm, ⟨61, _⟩ => ⟨S8x8192x1, .f32⟩
  | .hbm, ⟨62, _⟩ => ⟨S8x64x8192, .f32⟩
  | .hbm, ⟨63, _⟩ => ⟨S8192x8x64, .f32⟩
  | .hbm, ⟨64, _⟩ => ⟨S8x64x8192, .f32⟩
  | .hbm, ⟨65, _⟩ => ⟨S8x8192x8192, .f32⟩
  | .hbm, ⟨66, _⟩ => ⟨S8x64x8192, .f32⟩
  | .hbm, ⟨67, _⟩ => ⟨S8192x8x64, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S8x8192x96, .f32⟩
  | .hbm, ⟨88, _⟩ => ⟨S8192x8x96, .f32⟩
  | .hbm, ⟨89, _⟩ => ⟨S8x8192x96, .f32⟩
  | .hbm, ⟨90, _⟩ => ⟨S8192x8x96, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_v11_1 : Ref sig .tc := ⟨.hbm, 19, rfl⟩
abbrev main_call0_v2 : Ref sig .tc := ⟨.hbm, 20, rfl⟩
abbrev main_v11_0 : Ref sig .tc := ⟨.hbm, 21, rfl⟩
abbrev main_call0_cst : Ref sig .tc := ⟨.hbm, 22, rfl⟩
abbrev main_v11_2 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call1_cst : Ref sig .tc := ⟨.hbm, 82, rfl⟩
abbrev main_call1_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel2.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S1024x1024 : Shape := ⟨2, ![1024, 1024]⟩
abbrev S1024x1408 : Shape := ⟨2, ![1024, 1408]⟩
abbrev S256x1024 : Shape := ⟨2, ![256, 1024]⟩
abbrev S256x1408 : Shape := ⟨2, ![256, 1408]⟩
abbrev S1408x1024 : Shape := ⟨2, ![1408, 1024]⟩

abbrev nBuf : Space → Nat
  | .hbm => 19
  | .vmem => 43
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S8192x1024, .bf16⟩
  | .hbm, ⟨10, _⟩ => ⟨S8192x2816, .bf16⟩
  | .hbm, ⟨11, _⟩ => ⟨S8192x2816, .bf16⟩
  | .hbm, ⟨12, _⟩ => ⟨S8192x2816, .bf16⟩
  | .hbm, ⟨13, _⟩ => ⟨S8192x1024, .f32⟩
  | .hbm, ⟨14, _⟩ => ⟨S8192x2816, .bf16⟩
  | .hbm, ⟨15, _⟩ => ⟨S8192x2816, .bf16⟩
  | .hbm, ⟨16, _⟩ => ⟨S8192x1024, .f32⟩
  | .hbm, ⟨17, _⟩ => ⟨S8192x1024, .bf16⟩
  | .hbm, ⟨18, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1408x1024, .bf16⟩
  | .local _ .vmem, ⟨22, _⟩ => ⟨S1408x1024, .bf16⟩
  | .local _ .vmem, ⟨23, _⟩ => ⟨S1024x1408, .bf16⟩
  | .local _ .vmem, ⟨24, _⟩ => ⟨S1024x1408, .bf16⟩
  | .local _ .vmem, ⟨25, _⟩ => ⟨S1024x1408, .bf16⟩
  | .local _ .vmem, ⟨26, _⟩ => ⟨S1024x1408, .bf16⟩
  | .local _ .vmem, ⟨27, _⟩ => ⟨S1024x1408, .bf16⟩
  | .local _ .vmem, ⟨28, _⟩ => ⟨S1024x1408, .bf16⟩
  | .local _ .vmem, ⟨29, _⟩ => ⟨S1024x1408, .bf16⟩
  | .local _ .vmem, ⟨30, _⟩ => ⟨S1024x1408, .bf16⟩
  | .local _ .vmem, ⟨31, _⟩ => ⟨S1024x2816, .bf16⟩
  | .local _ .vmem, ⟨32, _⟩ => ⟨S1024x2816, .bf16⟩
  | .local _ .vmem, ⟨33, _⟩ => ⟨S1024x2816, .bf16⟩
  | .local _ .vmem, ⟨34, _⟩ => ⟨S1024x1024, .f32⟩
  | .local _ .vmem, ⟨35, _⟩ => ⟨S1024x1024, .f32⟩
  | .local _ .vmem, ⟨36, _⟩ => ⟨S1024x2816, .bf16⟩
  | .local _ .vmem, ⟨37, _⟩ => ⟨S1024x2816, .bf16⟩
  | .local _ .vmem, ⟨38, _⟩ => ⟨S1024x2816, .bf16⟩
  | .local _ .vmem, ⟨39, _⟩ => ⟨S1024x1024, .f32⟩
  | .local _ .vmem, ⟨40, _⟩ => ⟨S1024x1024, .f32⟩
  | .local _ .vmem, ⟨41, _⟩ => ⟨S1024x1024, .bf16⟩
  | .local _ .vmem, ⟨42, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem3_1 : DmaSem sig := 42

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1024x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1024x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x2816 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x2816 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== Reference2Ideal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x4096 : Shape := ⟨2, ![1024, 4096]⟩
abbrev S512x1024 : Shape := ⟨2, ![512, 1024]⟩
abbrev S512 : Shape := ⟨1, ![512]⟩
abbrev S512x1 : Shape := ⟨2, ![512, 1]⟩
abbrev S8192x4096 : Shape := ⟨2, ![8192, 4096]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S1024x4096, .bf16⟩
  | .hbm, ⟨4, _⟩ => ⟨S8192x1024, .bf16⟩
  | .hbm, ⟨5, _⟩ => ⟨S8192x4096, .bf16⟩
  | .hbm, ⟨6, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference5Ideal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel6.lean ====
abbrev S8192x4096 : Shape := ⟨2, ![8192, 4096]⟩
abbrev S1024x4096 : Shape := ⟨2, ![1024, 4096]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x4096, .bf16⟩
  | .hbm, ⟨3, _⟩ => ⟨S1024x4096, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S_, .f32⟩
  | .hbm, ⟨3, _⟩ => ⟨S8192x1024, .f32⟩
  | .hbm, ⟨4, _⟩ => ⟨S8192x4096, .f32⟩
  | .hbm, ⟨5, _⟩ => ⟨S8192x1024, .f32⟩
  | .hbm, ⟨6, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S8192x4096 : Shape := ⟨2, ![8192, 4096]⟩
abbrev S8192x512 : Shape := ⟨2, ![8192, 512]⟩
abbrev S2x1024 : Shape := ⟨2, ![2, 1024]⟩
abbrev S1024x1024 : Shape := ⟨2, ![1024, 1024]⟩
abbrev S512x1024 : Shape := ⟨2, ![512, 1024]⟩
abbrev S1x1024 : Shape := ⟨2, ![1, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 29
  | .vmem => 66
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .f32⟩
  | .hbm, ⟨3, _⟩ => ⟨S8192x512, .f32⟩
  | .hbm, ⟨4, _⟩ => ⟨S2x1024, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S8192x1024, .f32⟩
  | .hbm, ⟨10, _⟩ => ⟨S8192x4096, .bf16⟩
  | .hbm, ⟨11, _⟩ => ⟨S8192x1024, .bf16⟩
  | .hbm, ⟨12, _⟩ => ⟨S8192x512, .bf16⟩
  | .hbm, ⟨13, _⟩ => ⟨S1024x1024, .bf16⟩
  | .hbm, ⟨14, _⟩ => ⟨S512x1024, .bf16⟩
  | .hbm, ⟨15, _⟩ => ⟨S1024x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S2x1024, .f32⟩
  | .hbm, ⟨27, _⟩ => ⟨S8192x1024, .bf16⟩
  | .hbm, ⟨28, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S2x1024, .f32⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | .local _ .vmem, ⟨26, _⟩ => ⟨S1x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .bf16⟩
  | .local _ .vmem, ⟨30, _⟩ => ⟨S1024x1024, .bf16⟩
  | .local _ .vmem, ⟨31, _⟩ => ⟨S1024x1024, .f32⟩
  | .local _ .vmem, ⟨32, _⟩ => ⟨S1024x1024, .f32⟩
  | .local _ .vmem, ⟨33, _⟩ => ⟨S1024x1024, .bf16⟩
  | .local _ .vmem, ⟨34, _⟩ => ⟨S1024x1024, .bf16⟩
  | .local _ .vmem, ⟨35, _⟩ => ⟨S1024x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S2x1024, .f32⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x1024, .bf16⟩
  | .local _ .vmem, ⟨54, _⟩ => ⟨S512x1024, .bf16⟩
  | .local _ .vmem, ⟨55, _⟩ => ⟨S2x1024, .f32⟩
  | .local _ .vmem, ⟨56, _⟩ => ⟨S1024x1024, .bf16⟩
  | .local _ .vmem, ⟨57, _⟩ => ⟨S1024x1024, .bf16⟩
  | .local _ .vmem, ⟨58, _⟩ => ⟨S1024x1024, .bf16⟩
  | .local _ .vmem, ⟨59, _⟩ => ⟨S1024x1024, .bf16⟩
  | .local _ .vmem, ⟨60, _⟩ => ⟨S1024x1024, .bf16⟩
  | .local _ .vmem, ⟨61, _⟩ => ⟨S1024x1024, .bf16⟩
  | .local _ .vmem, ⟨62, _⟩ => ⟨S1024x1024, .bf16⟩
  | .local _ .vmem, ⟨63, _⟩ => ⟨S512x1024, .bf16⟩
  | .local _ .vmem, ⟨64, _⟩ => ⟨S1024x512, .bf16⟩
  | .local _ .vmem, ⟨65, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg6_0 : Ref sig .tc := ⟨.vmem, 47, rfl⟩
abbrev cc5_stg6_1 : Ref sig .tc := ⟨.vmem, 48, rfl⟩
abbrev cc5_stg7_0 : Ref sig .tc := ⟨.vmem, 49, rfl⟩
abbrev cc5_stg7_1 : Ref sig .tc := ⟨.vmem, 50, rfl⟩
abbrev cc5_stg8_0 : Ref sig .tc := ⟨.vmem, 51, rfl⟩
abbrev cc5_stg8_1 : Ref sig .tc := ⟨.vmem, 52, rfl⟩
abbrev cc5_stg9_0 : Ref sig .tc := ⟨.vmem, 53, rfl⟩
abbrev cc5_stg9_1 : Ref sig .tc := ⟨.vmem, 54, rfl⟩
abbrev cc5_stg10_0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg2_1 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg2_0 : Ref sig .tc := ⟨.vmem, 64, rfl⟩
abbrev cc7_stg2_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem4_1 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43
abbrev cc5_sem4_0 : DmaSem sig := 44
abbrev cc5_sem4_1 : DmaSem sig := 45
abbrev cc5_sem5_0 : DmaSem sig := 46
abbrev cc5_sem6_0 : DmaSem sig := 47
abbrev cc5_sem6_1 : DmaSem sig := 48
abbrev cc5_sem7_0 : DmaSem sig := 49
abbrev cc5_sem7_1 : DmaSem sig := 50
abbrev cc5_sem8_0 : DmaSem sig := 51
abbrev cc5_sem8_1 : DmaSem sig := 52
abbrev cc5_sem9_0 : DmaSem sig := 53
abbrev cc5_sem9_1 : DmaSem sig := 54
abbrev cc5_sem10_0 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem2_1 : DmaSem sig := 60
abbrev cc7_sem0_0 : DmaSem sig := 61
abbrev cc7_sem0_1 : DmaSem sig := 62
abbrev cc7_sem1_0 : DmaSem sig := 63
abbrev cc7_sem2_0 : DmaSem sig := 64
abbrev cc7_sem2_1 : DmaSem sig := 65

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S2x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false, false]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1024x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c1_i32 : BitVec 32 := 1#32
  let c0_i32 : BitVec 32 := 0#32
  ![arg0.toNat, c1_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x1024 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S2x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S512x1024 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S512x1024 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S512x1024 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S512x1024 .bf16 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 1 → Memref sig .tc .vmem S2x1024 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev grid6 : Pipeline.Grid := ⟨3, ![8, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![8, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S512x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference8Ideal.lean ====
abbrev S8192x1024 : Shape := ⟨2, ![8192, 1024]⟩
abbrev S8192x4096 : Shape := ⟨2, ![8192, 4096]⟩
abbrev S8192x512 : Shape := ⟨2, ![8192, 512]⟩
abbrev S2x1024 : Shape := ⟨2, ![2, 1024]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .f32⟩
  | .hbm, ⟨3, _⟩ => ⟨S8192x512, .f32⟩
  | .hbm, ⟨4, _⟩ => ⟨S2x1024, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x512, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .bf16⟩
  | .hbm, ⟨79, _⟩ => ⟨S8192x1024, .bf16⟩
  | .hbm, ⟨80, _⟩ => ⟨S8192x1024, .bf16⟩
  | .hbm, ⟨81, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S8192x512 : Shape := ⟨2, ![8192, 512]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 18
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S1024x512, .f32⟩
  | .hbm, ⟨4, _⟩ => ⟨S512x1024, .f32⟩
  | .hbm, ⟨5, _⟩ => ⟨S1x1024, .f32⟩
  | .hbm, ⟨6, _⟩ => ⟨S8192x1024, .f32⟩
  | .hbm, ⟨7, _⟩ => ⟨S8192x512, .f32⟩
  | .hbm, ⟨8, _⟩ => ⟨S8192x1024, .bf16⟩
  | .hbm, ⟨9, _⟩ => ⟨S8192x512, .bf16⟩
  | .hbm, ⟨10, _⟩ => ⟨S8192x512, .bf16⟩
  | .hbm, ⟨11, _⟩ => ⟨S1024x512, .bf16⟩
  | .hbm, ⟨12, _⟩ => ⟨S512x1024, .bf16⟩
  | .hbm, ⟨13, _⟩ => ⟨S8192x512, .bf16⟩
  | .hbm, ⟨14, _⟩ => ⟨S8192x1024, .f32⟩
  | .hbm, ⟨15, _⟩ => ⟨S8192x1024, .bf16⟩
  | .hbm, ⟨16, _⟩ => ⟨S8192x512, .bf16⟩
  | .hbm, ⟨17, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S512x1024, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x1024, .bf16⟩
  | .local _ .vmem, ⟨24, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference12Ideal.lean ====
abbrev S8192x1024 : Shape := ⟨2, ![8192, 1024]⟩
abbrev S8192x512 : Shape := ⟨2, ![8192, 512]⟩
abbrev S1024x512 : Shape := ⟨2, ![1024, 512]⟩
abbrev S512x1024 : Shape := ⟨2, ![512, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S1024x512, .f32⟩
  | .hbm, ⟨4, _⟩ => ⟨S512x1024, .f32⟩
  | .hbm, ⟨5, _⟩ => ⟨S1x1024, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S8192x512, .bf16⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x512, .f32⟩
  | .hbm, ⟨29, _⟩ => ⟨S8192x512, .bf16⟩
  | .hbm, ⟨30, _⟩ => ⟨S8192x1024, .f32⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel13.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S8192x512, .bf16⟩
  | .hbm, ⟨4, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x128 : Shape := ⟨2, ![8192, 128]⟩
abbrev S128x1024 : Shape := ⟨2, ![128, 1024]⟩
abbrev S8192x1024 : Shape := ⟨2, ![8192, 1024]⟩
abbrev S256x1024 : Shape := ⟨2, ![256, 1024]⟩
abbrev S1024x128 : Shape := ⟨2, ![1024, 128]⟩
abbrev S1024x1024 : Shape := ⟨2, ![1024, 1024]⟩
abbrev S8192x256 : Shape := ⟨2, ![8192, 256]⟩
abbrev S1024x256 : Shape := ⟨2, ![1024, 256]⟩

abbrev nBuf : Space → Nat
  | .hbm => 10
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S128x1024, .f32⟩
  | .hbm, ⟨2, _⟩ => ⟨S8192x1024, .f32⟩
  | .hbm, ⟨3, _⟩ => ⟨S256x1024, .f32⟩
  | .hbm, ⟨4, _⟩ => ⟨S8192x128, .bf16⟩
  | .hbm, ⟨5, _⟩ => ⟨S128x1024, .bf16⟩
  | .hbm, ⟨6, _⟩ => ⟨S8192x1024, .bf16⟩
  | .hbm, ⟨7, _⟩ => ⟨S8192x1024, .bf16⟩
  | .hbm, ⟨8, _⟩ => ⟨S256x1024, .bf16⟩
  | .hbm, ⟨9, _⟩ => ⟨S8192x256, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x1024, .bf16⟩
  | .local _ .vmem, ⟨8, _⟩ => ⟨S1024x256, .f32⟩
  | .local _ .vmem, ⟨9, _⟩ => ⟨S1024x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference15Ideal.lean ====
abbrev S8192x128 : Shape := ⟨2, ![8192, 128]⟩
abbrev S128x1024 : Shape := ⟨2, ![128, 1024]⟩
abbrev S8192x1024 : Shape := ⟨2, ![8192, 1024]⟩
abbrev S256x1024 : Shape := ⟨2, ![256, 1024]⟩
abbrev S_ : Shape := ⟨0, ![]⟩
abbrev S8192x256 : Shape := ⟨2, ![8192, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x1024, .f32⟩
  | .hbm, ⟨2, _⟩ => ⟨S8192x1024, .f32⟩
  | .hbm, ⟨3, _⟩ => ⟨S256x1024, .f32⟩
  | .hbm, ⟨4, _⟩ => ⟨S_, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x256, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel16.lean ====
abbrev S8192x2048 : Shape := ⟨2, ![8192, 2048]⟩
abbrev S128x2048 : Shape := ⟨2, ![128, 2048]⟩
abbrev S8192x128 : Shape := ⟨2, ![8192, 128]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S8192x2048, .bf16⟩
  | .hbm, ⟨3, _⟩ => ⟨S128x2048, .bf16⟩
  | .hbm, ⟨4, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S128x2048 : Shape := ⟨2, ![128, 2048]⟩
abbrev S_ : Shape := ⟨0, ![]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S_, .f32⟩
  | .hbm, ⟨3, _⟩ => ⟨S8192x128, .f32⟩
  | .hbm, ⟨4, _⟩ => ⟨S8192x2048, .f32⟩
  | .hbm, ⟨5, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x128 : Shape := ⟨2, ![8192, 128]⟩
abbrev S8192x2048 : Shape := ⟨2, ![8192, 2048]⟩
abbrev S128x2048 : Shape := ⟨2, ![128, 2048]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x2048, .f32⟩
  | .hbm, ⟨2, _⟩ => ⟨S8192x128, .bf16⟩
  | .hbm, ⟨3, _⟩ => ⟨S8192x2048, .bf16⟩
  | .hbm, ⟨4, _⟩ => ⟨S128x2048, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x128 : Shape := ⟨2, ![8192, 128]⟩
abbrev S8192x2048 : Shape := ⟨2, ![8192, 2048]⟩
abbrev S_ : Shape := ⟨0, ![]⟩
abbrev S128x2048 : Shape := ⟨2, ![128, 2048]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x2048, .f32⟩
  | .hbm, ⟨2, _⟩ => ⟨S_, .f32⟩
  | .hbm, ⟨3, _⟩ => ⟨S128x2048, .f32⟩
  | .hbm, ⟨4, _⟩ => ⟨S8192x2048, .f32⟩
  | .hbm, ⟨5, _⟩ => ⟨S2048x128, .f32⟩
  | .hbm, ⟨6, _⟩ => ⟨S128x2048, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8192x512 : Shape := ⟨2, ![8192, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .bf16⟩
  | .hbm, ⟨3, _⟩ => ⟨S256x1024, .bf16⟩
  | .hbm, ⟨4, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel19Ideal.lean ====
variable {F : FTy → Type} [FloatOps F] [Named F]
def κ : String → Option EReal := fun
  | "xscale" => some (((Real.sqrt 128)⁻¹ : ℝ) : EReal)
  | _ => none
-- ==== Reference19Ideal.lean ====
abbrev S8192x512 : Shape := ⟨2, ![8192, 512]⟩
abbrev S256x1024 : Shape := ⟨2, ![256, 1024]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S256x512, .f32⟩
  | .hbm, ⟨3, _⟩ => ⟨S256x512, .f32⟩
  | .hbm, ⟨4, _⟩ => ⟨S8192x4x128, .f32⟩
  | .hbm, ⟨5, _⟩ => ⟨S256x4x128, .f32⟩
  | .hbm, ⟨6, _⟩ => ⟨S256x4x128, .f32⟩
  | .hbm, ⟨7, _⟩ => ⟨S4x8192x256, .f32⟩
  | .hbm, ⟨8, _⟩ => ⟨S_, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x128x8192, .f32⟩
  | .hbm, ⟨27, _⟩ => ⟨S8192x4x128, .f32⟩
  | .hbm, ⟨28, _⟩ => ⟨S8192x512, .f32⟩
  | .hbm, ⟨29, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel20.lean ====
abbrev S8192x512 : Shape := ⟨2, ![8192, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .hbm, ⟨3, _⟩ => ⟨S8192x512, .bf16⟩
  | .hbm, ⟨4, _⟩ => ⟨S256x1024, .bf16⟩
  | .hbm, ⟨5, _⟩ => ⟨S8192x512, .bf16⟩
  | .hbm, ⟨6, _⟩ => ⟨S8192x512, .bf16⟩
  | .hbm, ⟨7, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S256x1024, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Kernel20Ideal.lean ====
variable {F : FTy → Type} [FloatOps F] [Named F]
def κ : String → Option EReal := fun
  | "xscale" => some (((Real.sqrt 128)⁻¹ : ℝ) : EReal)
  | _ => none
-- ==== Reference20Ideal.lean ====
abbrev S8192x512 : Shape := ⟨2, ![8192, 512]⟩
abbrev S256x1024 : Shape := ⟨2, ![256, 1024]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .hbm, ⟨3, _⟩ => ⟨S256x512, .f32⟩
  | .hbm, ⟨4, _⟩ => ⟨S256x512, .f32⟩
  | .hbm, ⟨5, _⟩ => ⟨S8192x4x128, .f32⟩
  | .hbm, ⟨6, _⟩ => ⟨S256x4x128, .f32⟩
  | .hbm, ⟨7, _⟩ => ⟨S256x4x128, .f32⟩
  | .hbm, ⟨8, _⟩ => ⟨S4x8192x256, .f32⟩
  | .hbm, ⟨9, _⟩ => ⟨S_, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x128x8192, .f32⟩
  | .hbm, ⟨52, _⟩ => ⟨S8192x4x128, .f32⟩
  | .hbm, ⟨53, _⟩ => ⟨S8192x512, .f32⟩
  | .hbm, ⟨54, _⟩ => ⟨S8192x4x128, .f32⟩
  | .hbm, ⟨55, _⟩ => ⟨S4x128x8192, .f32⟩
  | .hbm, ⟨56, _⟩ => ⟨S4x8192x256, .f32⟩
  | .hbm, ⟨57, _⟩ => ⟨S4x128x256, .f32⟩
  | .hbm, ⟨58, _⟩ => ⟨S256x4x128, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S4x8192x1, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192x256, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S4x256x128, .f32⟩
  | .hbm, ⟨76, _⟩ => ⟨S256x4x128, .f32⟩
  | .hbm, ⟨77, _⟩ => ⟨S4x8192x128, .f32⟩
  | .hbm, ⟨78, _⟩ => ⟨S8192x4x128, .f32⟩
  | .hbm, ⟨79, _⟩ => ⟨S256x512, .f32⟩
  | .hbm, ⟨80, _⟩ => ⟨S256x512, .f32⟩
  | .hbm, ⟨81, _⟩ => ⟨S8192x512, .f32⟩
  | .hbm, ⟨82, _⟩ => ⟨S8192x512, .bf16⟩
  | .hbm, ⟨83, _⟩ => ⟨S256x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩

abbrev nD : Nat := 1
abbrev τ : Topo := Topo.v7x

variable {F : FTy → Type} [FloatOps F]
-- ==== Kernel21.lean ====
abbrev S8192x4096 : Shape := ⟨2, ![8192, 4096]⟩
abbrev S8192x1024 : Shape := ⟨2, ![8192, 1024]⟩
abbrev S2x1024 : Shape := ⟨2, ![2, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S8192x4096, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S2x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference21Ideal.lean ====
abbrev S8192x4096 : Shape := ⟨2, ![8192, 4096]⟩
abbrev S8192x1024 : Shape := ⟨2, ![8192, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x1024, .f32⟩
  | .hbm, ⟨3, _⟩ => ⟨S2x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S2x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S2x1024, .f32⟩
  | .hbm, ⟨66, _⟩ => ⟨S2x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.Lin.lean ====
module

public import Idealize.ShloMosaic.Lib.Pipeline.ValueKit
public import Idealize.ShloMosaic.Lib.StableHlo.RunRead

/-!
# Products, norms and gates, entry by entry
-/

@[expose] public section

noncomputable section

namespace Cert.Lin

open Idealize.ShloMosaic Idealize.ShloMosaic.Tactic

theorem hz : (![0, 0] : Fin 2 → Nat) = fun _ => 0 := funext fun a => by fin_cases a <;> rfl

/-- The logistic function as the kernels write it. -/
def sg (g : EReal) : EReal := Ideal.div 1 (1 + Ideal.exp (0 - g))

/-- The rows of one matrix times the columns of another. -/
def rc {M K N : ℕ} (x : (⟨2, ![M, K]⟩ : Shape).Idx → EReal) (w : (⟨2, ![K, N]⟩ : Shape).Idx → EReal) (y : (⟨2, ![M, N]⟩ : Shape).Idx) : EReal :=
  ∑ k : Fin K, x (ix2 (y 0) k) * w (ix2 k (y 1))

/-- The rows of one matrix times the rows of another. -/
def rr {M K N : ℕ} (x : (⟨2, ![M, K]⟩ : Shape).Idx → EReal) (w : (⟨2, ![N, K]⟩ : Shape).Idx → EReal) (y : (⟨2, ![M, N]⟩ : Shape).Idx) : EReal :=
  ∑ k : Fin K, x (ix2 (y 0) k) * w (ix2 (y 1) k)

/-- Each row divided by the square root of the mean of its squares plus a small number, times a weight per column. -/
def rn {M K : ℕ} (x : (⟨2, ![M, K]⟩ : Shape).Idx → EReal) (g : (⟨2, ![1, K]⟩ : Shape).Idx → EReal) (y : (⟨2, ![M, K]⟩ : Shape).Idx) : EReal :=
  x (ix2 (y 0) (y 1)) * Ideal.rsqrt (Ideal.div (∑ k : Fin K, x (ix2 (y 0) k) * x (ix2 (y 0) k)) (Ideal.ofBits .f32 0x44800000#32) + Ideal.ofBits .f32 0x358637BD#32)
    * g (ix2 0 (y 1))

theorem idx2_self {a b : ℕ} (i : (⟨2, ![a, b]⟩ : Shape).Idx) : ∃ (u : Fin a) (v : Fin b), i = ix2 u v :=
  ⟨i 0, i 1, by funext t; match t with | ⟨0, _⟩ => rfl | ⟨1, _⟩ => rfl⟩

/-- A product of blocks is the product of the arrays where their rows and columns are the arrays'. -/
theorem rc_blk {M K N M' N' : ℕ} {x : (⟨2, ![M, K]⟩ : Shape).Idx → EReal} {w : (⟨2, ![K, N]⟩ : Shape).Idx → EReal} {X : (⟨2, ![M', K]⟩ : Shape).Idx → EReal}
    {W : (⟨2, ![K, N']⟩ : Shape).Idx → EReal} {a : Fin M} {b : Fin N} {a' : Fin M'} {b' : Fin N'}
    (hx : ∀ k, x (ix2 a k) = X (ix2 a' k)) (hw : ∀ k, w (ix2 k b) = W (ix2 k b')) : rc x w (ix2 a b) = rc X W (ix2 a' b') :=
  Finset.sum_congr rfl fun k _ => congrArg₂ (· * ·) (hx k) (hw k)

theorem rr_blk {M K N M' N' : ℕ} {x : (⟨2, ![M, K]⟩ : Shape).Idx → EReal} {w : (⟨2, ![N, K]⟩ : Shape).Idx → EReal} {X : (⟨2, ![M', K]⟩ : Shape).Idx → EReal}
    {W : (⟨2, ![N', K]⟩ : Shape).Idx → EReal} {a : Fin M} {b : Fin N} {a' : Fin M'} {b' : Fin N'}
    (hx : ∀ k, x (ix2 a k) = X (ix2 a' k)) (hw : ∀ k, w (ix2 b k) = W (ix2 b' k)) : rr x w (ix2 a b) = rr X W (ix2 a' b') :=
  Finset.sum_congr rfl fun k _ => congrArg₂ (· * ·) (hx k) (hw k)

theorem rn_blk {M K M' : ℕ} {x : (⟨2, ![M, K]⟩ : Shape).Idx → EReal} {X : (⟨2, ![M', K]⟩ : Shape).Idx → EReal} {g G : (⟨2, ![1, K]⟩ : Shape).Idx → EReal}
    {a : Fin M} {b : Fin K} {a' : Fin M'} (hx : ∀ k, x (ix2 a k) = X (ix2 a' k)) (hg : ∀ k, g (ix2 0 k) = G (ix2 0 k)) : rn x g (ix2 a b) = rn X G (ix2 a' b) := by
  show x (ix2 a b) * Ideal.rsqrt (Ideal.div (∑ k : Fin K, x (ix2 a k) * x (ix2 a k)) _ + _) * g (ix2 0 b)
    = X (ix2 a' b) * Ideal.rsqrt (Ideal.div (∑ k : Fin K, X (ix2 a' k) * X (ix2 a' k)) _ + _) * G (ix2 0 b)
  simp only [hx, hg]

theorem idx_eq {a b : ℕ} {i j : (⟨2, ![a, b]⟩ : Shape).Idx} (h0 : (i 0).val = (j 0).val) (h1 : (i 1).val = (j 1).val) : i = j := by
  funext t; match t with
    | ⟨0, _⟩ => exact Fin.ext h0
    | ⟨1, _⟩ => exact Fin.ext h1

theorem c0 : Ideal.ofBits .f32 0x00000000#32 = (0 : EReal) := by simp [Ideal.ofBits, Ideal.ieee]

theorem c1 : Ideal.ofBits .f32 0x3F800000#32 = (1 : EReal) := by
  simp [Ideal.ofBits, Ideal.ieee]
  rw [← EReal.coe_mul, ← EReal.coe_one]; norm_num

end Cert.Lin
-- ==== Proof.In5.lean ====
module

public import proofs.«01_k».proof.Proof.Lin
public import proofs.«01_k».proof.Proof.Gen.Kernel5Ideal.Frame

/-!
# The input norm and projection
-/

@[expose] public section

set_option maxRecDepth 16384

noncomputable section

namespace Cert.Kernel5Ideal.Val

open Idealize.ShloMosaic TcCoe Tactic
open Idealize.ShloMosaic.Pipeline (Dat)
open Cert.Kernel5Ideal Cert.Kernel5Ideal.Gen Cert.Lin

theorem o0_2 (x0 : Vec Ideal S512x1024 .f32) (x1 : Vec Ideal S1x1024 .f32) (a : Fin 512) (b : Fin 1024) :
    out0_2 (F := Ideal) x0 x1 (ix2 a b) = rn (M := 512) (K := 1024) x0 x1 (ix2 a b) := by
  unfold out0_2
  rw [View.canon_unit_zero (S := S512x1024) hz, View.ld_unit_zero (S := S512x1024) hz, View.ld_unit_zero (S := S1x1024) hz]
  pointwise [k0_pay1]
  rfl

theorem o1_2 (x0 x1 : Vec Ideal S1024x1024 .bf16) (a b : Fin 1024) :
    out1_2 (F := Ideal) x0 x1 (ix2 a b) = rc (M := 1024) (K := 1024) (N := 1024) x0 x1 (ix2 a b) := by
  unfold out1_2
  rw [View.canon_unit_zero (S := S1024x1024) hz, View.ld_unit_zero (S := S1024x1024) hz, View.ld_unit_zero (S := S1024x1024) hz]
  pointwise [k1_pay1]
  rfl

variable (V : (c : Dev nD) → (b : Ref sig .tc) → Buf (Elt Ideal) ((c : Thread nD τ).loc b)) (c : Dev nD)

theorem lt0 (t : Fin cfg0.N) : t.val < 16 := t.isLt

theorem idx0 : ∀ t : Fin cfg0.N, win0_0.index t = ![t.val, 0] ∧ win0_1.index t = ![0, 0] ∧ win0_2.index t = ![t.val, 0] :=
  (by decide +kernel : ∀ t : Fin grid0.N, _)

theorem emb0_0 (t : Fin cfg0.N) (a : Fin 512) (b : Fin 1024) :
    (win0_0.blk t).view.emb (ix2 a b : S512x1024.Idx) = (ix2 ⟨512 * (t.val) + a.val, by have := lt0 t; omega⟩ b : S8192x1024.Idx) := by
  funext q; match q with
    | ⟨0, _⟩ | ⟨1, _⟩ => apply Fin.ext; blk_simp [idx0 t]; try simp; try omega

theorem blk0_0 (t : Fin cfg0.N) (a : Fin 512) (b : Fin 1024) :
    (iblk0 V c 0 t : Vec Ideal S512x1024 .f32) (ix2 a b) = (V c main_arg0 : S8192x1024.Idx → EReal) (ix2 ⟨512 * (t.val) + a.val, by have := lt0 t; omega⟩ b) := by
  blk_simp [iblk0]
  rw [emb0_0]

theorem emb0_1 (t : Fin cfg0.N) (a : Fin 1) (b : Fin 1024) :
    (win0_1.blk t).view.emb (ix2 a b : S1x1024.Idx) = (ix2 a b : S1x1024.Idx) := by
  funext q; match q with
    | ⟨0, _⟩ | ⟨1, _⟩ => apply Fin.ext; blk_simp [idx0 t]; try simp; try omega

theorem blk0_1 (t : Fin cfg0.N) (a : Fin 1) (b : Fin 1024) :
    (iblk0 V c 1 t : Vec Ideal S1x1024 .f32) (ix2 a b) = (V c main_arg1 : S1x1024.Idx → EReal) (ix2 a b) := by
  blk_simp [iblk0]
  rw [emb0_1]

theorem emb0_2 (t : Fin cfg0.N) (a : Fin 512) (b : Fin 1024) :
    (win0_2.blk t).view.emb (ix2 a b : S512x1024.Idx) = (ix2 ⟨512 * (t.val) + a.val, by have := lt0 t; omega⟩ b : S8192x1024.Idx) := by
  funext q; match q with
    | ⟨0, _⟩ | ⟨1, _⟩ => apply Fin.ext; blk_simp [idx0 t]; try simp; try omega
theorem lt1 (t : Fin cfg1.N) : t.val < 32 := t.isLt

theorem idx1 : ∀ t : Fin cfg1.N, win1_0.index t = ![t.val / 4, 0] ∧ win1_1.index t = ![0, t.val % 4] ∧ win1_2.index t = ![t.val / 4, t.val % 4] :=
  (by decide +kernel : ∀ t : Fin grid1.N, _)

theorem emb1_0 (t : Fin cfg1.N) (a : Fin 1024) (b : Fin 1024) :
    (win1_0.blk t).view.emb (ix2 a b : S1024x1024.Idx) = (ix2 ⟨1024 * (t.val / 4) + a.val, by have := lt1 t; omega⟩ b : S8192x1024.Idx) := by
  funext q; match q with
    | ⟨0, _⟩ | ⟨1, _⟩ => apply Fin.ext; blk_simp [idx1 t]; try simp; try omega

theorem blk1_0 (t : Fin cfg1.N) (a : Fin 1024) (b : Fin 1024) :
    (iblk1 V c 0 t : Vec Ideal S1024x1024 .bf16) (ix2 a b) = (V c main_v1 : S8192x1024.Idx → EReal) (ix2 ⟨1024 * (t.val / 4) + a.val, by have := lt1 t; omega⟩ b) := by
  blk_simp [iblk1]
  rw [emb1_0]

theorem emb1_1 (t : Fin cfg1.N) (a : Fin 1024) (b : Fin 1024) :
    (win1_1.blk t).view.emb (ix2 a b : S1024x1024.Idx) = (ix2 a ⟨1024 * (t.val % 4) + b.val, by have := lt1 t; omega⟩ : S1024x4096.Idx) := by
  funext q; match q with
    | ⟨0, _⟩ | ⟨1, _⟩ => apply Fin.ext; blk_simp [idx1 t]; try simp; try omega

theorem blk1_1 (t : Fin cfg1.N) (a : Fin 1024) (b : Fin 1024) :
    (iblk1 V c 1 t : Vec Ideal S1024x1024 .bf16) (ix2 a b) = (V c main_v0 : S1024x4096.Idx → EReal) (ix2 a ⟨1024 * (t.val % 4) + b.val, by have := lt1 t; omega⟩) := by
  blk_simp [iblk1]
  rw [emb1_1]

theorem emb1_2 (t : Fin cfg1.N) (a : Fin 1024) (b : Fin 1024) :
    (win1_2.blk t).view.emb (ix2 a b : S1024x1024.Idx) = (ix2 ⟨1024 * (t.val / 4) + a.val, by have := lt1 t; omega⟩ ⟨1024 * (t.val % 4) + b.val, by have := lt1 t; omega⟩ : S8192x4096.Idx) := by
  funext q; match q with
    | ⟨0, _⟩ | ⟨1, _⟩ => apply Fin.ext; blk_simp [idx1 t]; try simp; try omega
theorem arr0_2 : ((dat0 V c).arrAt 2 cfg0.N : S8192x1024.Idx → EReal) = fun y => rn (M := 8192) (K := 1024) (V c main_arg0 : S8192x1024.Idx → EReal) (V c main_arg1 : S1x1024.Idx → EReal) y := by
  refine (dat0 V c).arrAt_eq_of_covers 2 (fun y => rn (M := 8192) (K := 1024) (V c main_arg0 : S8192x1024.Idx → EReal) (V c main_arg1 : S1x1024.Idx → EReal) y) (by decide +kernel) fun t _ y => ?_
  obtain ⟨a, b, rfl⟩ := idx2_self y
  blk_simp
  rw [after0_2, emb0_2]
  refine (o0_2 _ _ a b).trans ?_
  exact rn_blk (fun k => blk0_0 V c t _ _) (fun k => blk0_1 V c t _ _)
theorem arr1_2 : ((dat1 V c).arrAt 2 cfg1.N : S8192x4096.Idx → EReal) = fun y => rc (M := 8192) (K := 1024) (N := 4096) (V c main_v1 : S8192x1024.Idx → EReal) (V c main_v0 : S1024x4096.Idx → EReal) y := by
  refine (dat1 V c).arrAt_eq_of_covers 2 (fun y => rc (M := 8192) (K := 1024) (N := 4096) (V c main_v1 : S8192x1024.Idx → EReal) (V c main_v0 : S1024x4096.Idx → EReal) y) (by decide +kernel) fun t _ y => ?_
  obtain ⟨a, b, rfl⟩ := idx2_self y
  blk_simp
  rw [after1_2, emb1_2]
  refine (o1_2 _ _ a b).trans ?_
  exact rc_blk (fun k => blk1_0 V c t _ _) (fun k => blk1_1 V c t _ _)

end Cert.Kernel5Ideal.Val
-- ==== Proof.In5Main.lean ====
module

public import proofs.«01_k».proof.Proof.In5
public import proofs.«01_k».proof.Proof.Gen.Reference5Ideal.Read
public import proofs.«01_k».proof.Proof.Gen.Reference5Ideal.Run
public import proofs.«01_k».proof.Defs

/-!
# The input norm and projection, side by side with the reference
-/

@[expose] public section

set_option maxRecDepth 16384

noncomputable section

namespace Cert.Kernel5Ideal.Val

open Idealize.ShloMosaic TcCoe Tactic
open Idealize.ShloMosaic.Pipeline (Dat)
open Cert.Kernel5Ideal Cert.Kernel5Ideal.Gen Cert.Lin

variable (m : (ℓ : Loc nD τ sig) → Buf (Elt Ideal) ℓ) (ρ : Dev nD → PrngReg) (c : Dev nD)

/-- The arguments. -/
def a0 : S8192x1024.Idx → EReal := m ((c : Thread nD τ).loc main_arg0)
def a1 : S1x1024.Idx → EReal := m ((c : Thread nD τ).loc main_arg1)
def a2 : S1024x4096.Idx → EReal := m ((c : Thread nD τ).loc main_arg2)

theorem V1_v0 : (V1 m ρ c main_v0 : S1024x4096.Idx → EReal) = a2 m c := by
  show W1 m ρ c (Proc.devRef .tc main_v0) = _
  after_results_simp
  rfl

theorem V1_arg0 : (V1 m ρ c main_arg0 : S8192x1024.Idx → EReal) = a0 m c := by
  show W1 m ρ c (Proc.devRef .tc main_arg0) = _
  after_results_simp
  rfl

theorem V1_arg1 : (V1 m ρ c main_arg1 : S1x1024.Idx → EReal) = a1 m c := by
  show W1 m ρ c (Proc.devRef .tc main_arg1) = _
  after_results_simp
  rfl

theorem V2_of (r : Ref sig .tc) (h : ∀ w : Fin cfg0.W, Pipeline.arrRef spec0 w = r → (cfg0.win w).isOut = false) : V2 m ρ c r = V1 m ρ c r := W2_of m ρ c r h
theorem V2_v0 : (V2 m ρ c main_v0 : S1024x4096.Idx → EReal) = a2 m c := (V2_of m ρ c main_v0 (by decide)).trans (V1_v0 m ρ c)
theorem V2_v1 : (V2 m ρ c main_v1 : S8192x1024.Idx → EReal) = fun y => rn (M := 8192) (K := 1024) (a0 m c) (a1 m c) y :=
  (W2_arr m ρ c 2).trans ((arr0_2 (V1 m ρ) c).trans (by rw [V1_arg0, V1_arg1]))
theorem W3_v2 : (W3 m ρ c (Proc.devRef .tc main_v2) : S8192x4096.Idx → EReal) = fun y => rc (M := 8192) (K := 1024) (N := 4096) (fun y => rn (M := 8192) (K := 1024) (a0 m c) (a1 m c) y) (a2 m c) y :=
  (W3_arr m ρ c 2).trans ((arr1_2 (V2 m ρ) c).trans (by rw [V2_v1, V2_v0]))
theorem W4_v3 : (W4 m ρ c (Proc.devRef .tc main_v3) : S8192x4096.Idx → EReal) = fun y => rc (M := 8192) (K := 1024) (N := 4096) (fun y => rn (M := 8192) (K := 1024) (a0 m c) (a1 m c) y) (a2 m c) y := by
  refine Eq.trans ?_ (W3_v2 m ρ c)
  after_results_simp
  rfl

end Cert.Kernel5Ideal.Val

namespace Cert.Reference5Ideal.Val

open Idealize.ShloMosaic TcCoe Tactic
open Cert.Reference5Ideal Cert.Reference5Ideal.Gen Cert.Reference5Ideal.Read Cert.Lin

variable {x0 : (⟨S8192x1024, .f32⟩ : BufTy).Contents (Elt Ideal)} {x1 : (⟨S1x1024, .f32⟩ : BufTy).Contents (Elt Ideal)} {x2 : (⟨S1024x4096, .f32⟩ : BufTy).Contents (Elt Ideal)}

/-- The norm of the rows. -/
theorem r11  (y : S8192x1024.Idx) : val_main_v11 (F := Ideal) x0 x1 y = rn (M := 8192) (K := 1024) ((x0 : S8192x1024.Idx → EReal)) x1 y := by
  obtain ⟨u, v, rfl⟩ := idx2_self y
  rw [val_main_v11_apply, val_main_v9_apply, val_main_v8_apply, val_main_v7_apply, val_main_v6_apply, val_main_v4_apply, val_main_v2_apply, val_main_v1_apply, val_main_v3_apply, val_main_v5_apply, val_main_v10_apply]
  generalize hX : ((x0 : S8192x1024.Idx → EReal)) = X
  have e : ∀ i : S8192x1024.Idx, val_main_v0 (F := Ideal) x0 i = X i * X i := fun i => by subst hX; rfl
  simp only [e]
  show X (ix2 u v) * Ideal.rsqrt (Ideal.div (Ideal.ofBits .f32 0x00000000#32 + ∑ k : Fin 1024, X _ * X _) _ + _) * x1 _ = X (ix2 u v) * Ideal.rsqrt (Ideal.div (∑ k : Fin 1024, X (ix2 u k) * X (ix2 u k)) _ + _) * x1 (ix2 0 v)
  rw [c0, zero_add]
  refine congrArg₂ (fun p q : EReal => p * q) (congrArg (fun p : EReal => X (ix2 u v) * Ideal.rsqrt (Ideal.div p _ + _)) (Finset.sum_congr rfl fun k _ => ?_)) (congrArg x1 (idx_eq rfl rfl))
  exact congrArg₂ (fun p q : EReal => p * q) (congrArg X (idx_eq rfl rfl)) (congrArg X (idx_eq rfl rfl))

theorem r12  (y : S8192x4096.Idx) : val_main_v12 (F := Ideal) x0 x1 x2 y = rc (M := 8192) (K := 1024) (N := 4096) (fun y => rn (M := 8192) (K := 1024) x0 x1 y) x2 y := by
  rw [val_main_v12_apply]
  exact Finset.sum_congr rfl fun k _ => congrArg₂ (· * ·) ((r11 _).trans (congrArg (rn (M := 8192) (K := 1024) x0 x1) (idx_eq rfl rfl))) (congrArg (x2) (idx_eq rfl rfl))

end Cert.Reference5Ideal.Val

namespace Cert.Kernel5Ideal.Val

open Idealize.ShloMosaic TcCoe Tactic
open Idealize.ShloMosaic.Pipeline (Dat)
open Cert.Kernel5Ideal Cert.Kernel5Ideal.Gen Cert.Lin
open Idealize.SL Idealize.SL.RA Idealize.SL.BI
open scoped Idealize.SL.BI
open Idealize.SL.BI.BIBase Idealize.SL.BI.Laws Idealize.SL.ProofMode Idealize.SL.Sem
open Idealize.ShloMosaic.Rounds

section run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, and every buffer ends at what the segments leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end run

/-- The value claim. -/
theorem algebraic : Cert.algebraic_Kernel5Ideal_Reference5Ideal := by
  intro m g m' g' _ hagree
  refine ⟨fun c => fun y => rc (M := 8192) (K := 1024) (N := 4096) (fun y => rn (M := 8192) (K := 1024) (a0 m c) (a1 m c) y) (a2 m c) y, ?_, ?_⟩
  · refine θ_run_mono (run_all m g) ?_
    intro r h c
    exact ⟨(h c _ (mem_uc main_v3 (by decide))).trans (W4_v3 m g c), (h c _ (mem_uc main_arg0 (by decide))).trans (W4_main_arg0 m g c), (h c _ (mem_uc main_arg1 (by decide))).trans (W4_main_arg1 m g c), (h c _ (mem_uc main_arg2 (by decide))).trans (W4_main_arg2 m g c)⟩
  · refine θ_run_mono (Cert.Reference5Ideal.Value.run m' g') ?_
    intro r h c
    obtain ⟨h0, ha⟩ := h c
    obtain ⟨a0, a1, a2⟩ := hagree c
    rw [Cert.Reference5Ideal.Read.val_main_v12_eq, a0, a1, a2] at h0
    exact ⟨h0.trans (funext fun y => Cert.Reference5Ideal.Val.r12 y), ha⟩

end Cert.Kernel5Ideal.Val
-- ==== Proof.In6.lean ====
module

public import proofs.«01_k».proof.Proof.Lin
public import proofs.«01_k».proof.Proof.Gen.Kernel6Ideal.Value
public import proofs.«01_k».proof.Proof.Gen.Reference6Ideal.Read

/-!
# The gradient of the input projection’s input
-/

@[expose] public section

set_option maxRecDepth 16384

namespace Cert.Kernel6Ideal.Val

open Idealize.ShloMosaic TcCoe Tactic
open Idealize.ShloMosaic.Pipeline (Dat)
open Cert.Kernel6Ideal Cert.Kernel6Ideal.Gen Cert.Lin

theorem pay1_at (a b : Fin 1024) : k0_pay1 (F := Ideal) (ix2 a b : S1024x1024.Idx) = (0 : EReal) := by
  pointwise [k0_pay1]

/-- One step of the sum. -/
theorem pay2_at (x : Vec Ideal S1024x2048 .bf16) (o : Vec Ideal S1024x1024 .f32) (w : Vec Ideal S1024x2048 .bf16) (a b : Fin 1024) :
    k0_pay2 (F := Ideal) x o w (ix2 a b : S1024x1024.Idx) = (o (ix2 a b) : EReal) + ∑ k : Fin 2048, (x (ix2 a k) : EReal) * (w (ix2 b k) : EReal) := by
  pointwise [k0_pay2]

theorem pay3_at (o : Vec Ideal S1024x1024 .f32) (a b : Fin 1024) : k0_pay3 (F := Ideal) o (ix2 a b : S1024x1024.Idx) = (o (ix2 a b) : EReal) := by
  pointwise [k0_pay3]

section pieces

variable (c : Dev nD) (i : grid0.Coords) (arg3 : Memref sig .tc .vmem S1024x2048 .bf16) (harg3 : arg3.IsWhole)
  (arg4 : Memref sig .tc .vmem S1024x2048 .bf16) (harg4 : arg4.IsWhole) (arg5 : Memref sig .tc .vmem S1024x1024 .bf16) (harg5 : arg5.IsWhole)
  (arg6 : Memref sig .tc .vmem S1024x1024 .f32) (harg6 : arg6.IsWhole) (x0 x1 : Vec Ideal S1024x2048 .bf16) (xs : Vec Ideal S1024x1024 .f32)

theorem sA (h0 : cond0_0 i) (h1 : ¬cond0_1 i) :
    sout0_A_0 (F := Ideal) c i arg3 harg3 arg4 harg4 arg5 harg5 arg6 harg6 h0 h1 x0 x1 = k0_pay2 (F := Ideal) x0 (k0_pay1 (F := Ideal)) x1 := by
  unfold sout0_A_0
  rw [View.read_writes_eq_canon _ _ _ (scover0_A_0 c i arg3 harg3 arg4 harg4 arg5 harg5 arg6 harg6 h0 h1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz, View.ld_unit_zero (S := S1024x1024) hz]

theorem oB (h0 : ¬cond0_0 i) (h1 : cond0_1 i) :
    out0_B_2 (F := Ideal) c i arg3 harg3 arg4 harg4 arg5 harg5 arg6 harg6 h0 h1 x0 x1 xs = k0_pay3 (F := Ideal) (k0_pay2 (F := Ideal) x0 xs x1) := by
  unfold out0_B_2
  rw [View.read_writes_eq_canon _ _ _ (cover0_B_2 c i arg3 harg3 arg4 harg4 arg5 harg5 arg6 harg6 h0 h1 x0 x1 xs)]
  unfold kernelRun0_B
  dsimp only
  sl_unfold_words
  rw [View.canon_unit_zero (S := S1024x1024) hz, View.readCov_unit_zero (S := S1024x1024) _ hz]
  simp only [View.readAt_eq_ld, harg3.read_unread, harg4.read_unread, harg6.read_unread, View.ld_unit_zero (S := S1024x2048) hz, View.ld_unit_zero (S := S1024x1024) hz]

end pieces

theorem lt0 (t : Fin cfg0.N) : t.val < 16 := t.isLt

theorem idx0 : ∀ t : Fin cfg0.N, win0_0.index t = ![t.val / 2, t.val % 2] ∧ win0_1.index t = ![0, t.val % 2] ∧ win0_2.index t = ![t.val / 2, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x4096.Idx → EReal := V m c main_v0
noncomputable def opB : S1024x4096.Idx → EReal := V m c main_v1

/-- The row of the first operand a block's row is. -/
def rowA (n : ℕ) (hn : n < 16) (a : Fin 1024) : Fin 8192 := ⟨1024 * (n / 2) + a.val, by omega⟩

theorem blkA (t : Fin cfg0.N) (a : Fin 1024) (k : Fin 2048) (r : Fin 8192) (hr : r = rowA t.val (lt0 t) a) (q : Fin 4096) (hq : q.val = 2048 * (t.val % 2) + k.val) :
    (iblk m c 0 t : Vec Ideal S1024x2048 .bf16) (ix2 a k) = opA m c (ix2 r q) := by
  subst hr
  refine Eq.trans (b := (V m c main_v0 : S8192x4096.Idx → EReal) (((cfg0.win 0).blk t).view.emb (ix2 a k : S1024x2048.Idx))) ?_ (congrArg (V m c main_v0 : S8192x4096.Idx → EReal) ?_)
  · blk_simp [iblk]
  · funext b
    match b with
    | ⟨0, _⟩ => apply Fin.ext; blk_simp [idx0 t]; simp [rowA]; try omega
    | ⟨1, _⟩ => apply Fin.ext; blk_simp [idx0 t]; simp [hq]; try omega

theorem blkB (t : Fin cfg0.N) (a : Fin 1024) (k : Fin 2048) (q : Fin 4096) (hq : q.val = 2048 * (t.val % 2) + k.val) :
    (iblk m c 1 t : Vec Ideal S1024x2048 .bf16) (ix2 a k) = opB m c (ix2 a q) := by
  refine Eq.trans (b := (V m c main_v1 : S1024x4096.Idx → EReal) (((cfg0.win 1).blk t).view.emb (ix2 a k : S1024x2048.Idx))) ?_ (congrArg (V m c main_v1 : S1024x4096.Idx → EReal) ?_)
  · blk_simp [iblk]
  · funext b
    match b with
    | ⟨0, _⟩ => apply Fin.ext; blk_simp [idx0 t]; try simp; try omega
    | ⟨1, _⟩ => apply Fin.ext; blk_simp [idx0 t]; simp [hq]; try omega

/-- The first half of an entry's sum, in the scratch after an even point. -/
theorem scr (t : Fin cfg0.N) (h0 : t.val % 2 = 0) (a b : Fin 1024) :
    ((outsAt0 m c t.val t.isLt).2 : Vec Ideal S1024x1024 .f32) (ix2 a b)
      = ∑ k : Fin 2048, opA m c (ix2 (rowA t.val (lt0 t) a) (Fin.castAdd 2048 k)) * opB m c (ix2 b (Fin.castAdd 2048 k)) := by
  have h1 : ¬ t.val % 2 = 1 := by omega
  refine (congrFun (congrArg Prod.snd (outsAt0_A m c t h0 h1)) (ix2 a b : S1024x1024.Idx)).trans ?_
  dsimp only
  rw [sA]
  refine (pay2_at _ _ _ a b).trans ?_
  rw [pay1_at, zero_add]
  exact Finset.sum_congr rfl fun k _ => congrArg₂ (· * ·) (blkA m c t a k _ rfl _ (by rw [h0]; simp)) (blkB m c t b k _ (by rw [h0]; simp))

/-- What the output's buffer holds after an odd point: the whole sum. -/
theorem out_at (t : Fin cfg0.N) (h1 : t.val % 2 = 1) (a b : Fin 1024) :
    ((outsAt0 m c t.val t.isLt).1 : Vec Ideal S1024x1024 .bf16) (ix2 a b)
      = ∑ k : Fin 4096, opA m c (ix2 (rowA t.val (lt0 t) a) k) * opB m c (ix2 b k) := by
  have h0 : ¬ t.val % 2 = 0 := by omega
  refine (congrFun (congrArg Prod.fst (outsAt0_B m c t h0 h1)) (ix2 a b : S1024x1024.Idx)).trans ?_
  dsimp only
  rw [oB]
  refine (pay3_at _ a b).trans ((pay2_at _ _ _ a b).trans ?_)
  have hl : t.val - 1 < cfg0.N := Nat.lt_of_le_of_lt (Nat.sub_le _ _) t.isLt
  have hp := scr m c ⟨t.val - 1, hl⟩ (show (t.val - 1) % 2 = 0 by omega) a b
  have hr : rowA (t.val - 1) (lt0 ⟨t.val - 1, hl⟩) a = rowA t.val (lt0 t) a := Fin.ext (by simp only [rowA]; omega)
  dsimp only at hp
  rw [hr] at hp
  rw [show (∑ k : Fin 4096, opA m c (ix2 (rowA t.val (lt0 t) a) k) * opB m c (ix2 b k)) = _ from
    Fin.sum_univ_add (a := 2048) (b := 2048) (fun k : Fin (2048 + 2048) => opA m c (ix2 (rowA t.val (lt0 t) a) k) * opB m c (ix2 b k))]
  exact congrArg₂ (fun p q : EReal => p + q) hp (Finset.sum_congr rfl fun k _ => congrArg₂ (· * ·)
    (blkA m c t a k _ rfl (Fin.natAdd 2048 k) (by rw [h1]; simp [Nat.add_comm])) (blkB m c t b k (Fin.natAdd 2048 k) (by rw [h1]; simp [Nat.add_comm])))

/-- The result. -/
noncomputable def total : S8192x1024.Idx → EReal := fun i => rr (M := 8192) (K := 4096) (N := 1024) (opA m c) (opB m c) i

theorem arr : ((dats m 0 c).arrAt 2 cfg0.N : S8192x1024.Idx → EReal) = total m c := by
  refine (dats m 0 c).arrAt_eq_of_covers 2 (total m c) (by decide +kernel) fun t hf y => ?_
  have h1 : t.val % 2 = 1 := (flush0_2 t).mp hf
  blk_simp
  rw [after0_2]
  obtain ⟨a, d, rfl⟩ := idx2_self y
  refine (out_at m c t h1 a d).trans ?_
  have e : (((cfg0.win 2).blk t).view.emb (ix2 a d : S1024x1024.Idx) : S8192x1024.Idx) = ix2 (rowA t.val (lt0 t) a) d := by
    funext b
    match b with
    | ⟨0, _⟩ => apply Fin.ext; blk_simp [idx0 t]; simp [rowA]; try omega
    | ⟨1, _⟩ => apply Fin.ext; blk_simp [idx0 t]; try simp; try omega
  refine Eq.trans ?_ (congrArg (total m c) e.symm)
  rfl

theorem opA_eq : opA m c = (m ((c : Thread nD τ).loc main_arg0) : S8192x4096.Idx → EReal) := by
  unfold opA
  show StableHlo.after hostOps0 (fun b => m (c, b)) (Proc.devRef .tc main_v0) = _
  after_results_simp
  rfl

theorem opB_eq : opB m c = (m ((c : Thread nD τ).loc main_arg1) : S1024x4096.Idx → EReal) := by
  unfold opB
  show StableHlo.after hostOps0 (fun b => m (c, b)) (Proc.devRef .tc main_v1) = _
  after_results_simp
  rfl

/-- The reference's result is the same sum. -/
theorem ref_total : (Cert.Reference6Ideal.Read.val_main_v3 (F := Ideal) (m ((c : Thread nD τ).loc main_arg0)) (m ((c : Thread nD τ).loc main_arg1)) : S8192x1024.Idx → EReal) = total m c := by
  funext i
  show (Cert.Reference6Ideal.Read.val_main_v2 (F := Ideal) (m ((c : Thread nD τ).loc main_arg0)) (m ((c : Thread nD τ).loc main_arg1)) : S8192x1024.Idx → EReal) i = _
  rw [Cert.Reference6Ideal.Read.val_main_v2_apply]

  unfold total rr
  refine Finset.sum_congr rfl fun k _ => ?_
  rw [opA_eq, opB_eq]
  refine congrArg₂ (· * ·) (congrArg _ ?_) (congrArg _ ?_)
  · funext b
    match b with
    | ⟨0, _⟩ | ⟨1, _⟩ => rfl
  · funext b
    match b with
    | ⟨0, _⟩ | ⟨1, _⟩ => rfl

end Cert.Kernel6Ideal.Val
-- ==== Proof.Sums.lean ====
module

public import Idealize.ShloMosaic.Lib.Pipeline.ValueKit
public import Mathlib.Algebra.BigOperators.Fin

/-!
# A long sum taken a block of terms at a time
-/

@[expose] public section

namespace Cert.Feed

open Idealize.ShloMosaic

/-- The first `n` terms of a sum of 8192 terms. -/
noncomputable def psum (f : Fin 8192 → EReal) (n : ℕ) : EReal :=
  ∑ k ∈ Finset.range n, if h : k < 8192 then f ⟨k, h⟩ else 0

theorem psum_zero (f : Fin 8192 → EReal) : psum f 0 = 0 := rfl

theorem psum_full (f : Fin 8192 → EReal) : psum f 8192 = ∑ k, f k := by
  unfold psum
  rw [Finset.sum_range]
  exact Finset.sum_congr rfl fun k _ => dif_pos k.isLt

/-- One more block of 1024 terms. -/
theorem psum_add (f : Fin 8192 → EReal) (n : ℕ) (hn : n + 1024 ≤ 8192) :
    psum f (n + 1024) = psum f n + ∑ k : Fin 1024, f ⟨n + k.val, by omega⟩ := by
  unfold psum
  rw [Finset.sum_range_add, Finset.sum_range (n := 1024)]
  congr 1
  exact Finset.sum_congr rfl fun k _ => dif_pos _

/-- Two indices of a matrix agree when their coordinates do. -/
theorem ext2 {s : Fin 2 → ℕ} {i j : (⟨2, s⟩ : Shape).Idx} (h0 : i 0 = j 0) (h1 : i 1 = j 1) : i = j := by
  funext b
  match b with
  | ⟨0, _⟩ => exact h0
  | ⟨1, _⟩ => exact h1

theorem ext3 {s : Fin 3 → ℕ} {i j : (⟨3, s⟩ : Shape).Idx} (h0 : i 0 = j 0) (h1 : i 1 = j 1) (h2 : i 2 = j 2) : i = j := by
  funext b
  match b with
  | ⟨0, _⟩ => exact h0
  | ⟨1, _⟩ => exact h1
  | ⟨2, _⟩ => exact h2

theorem hz : (![0, 0] : Fin 2 → Nat) = fun _ => 0 := funext fun a => by fin_cases a <;> rfl

end Cert.Feed
-- ==== Proof.Dw7.lean ====
module

public import proofs.«01_k».proof.Proof.Sums
public import proofs.«01_k».proof.Proof.Gen.Kernel7Ideal.Value
public import proofs.«01_k».proof.Proof.Gen.Reference7Ideal.Read
public import Idealize.ShloMosaic.Lib.Pipeline.ValueKit
public import Idealize.ShloMosaic.Lib.StableHlo.RunRead

/-!
# The gradient of the input projection’s weights

The kernel adds up the products of the rows of its two operands 1024 rows at a time, in a scratch buffer it keeps between
grid points; at the last of the eight it writes the sum out. So each entry of the result is the sum over all 8192 rows.
-/

@[expose] public section

set_option maxRecDepth 16384

namespace Cert.Kernel7Ideal.Val

open Idealize.ShloMosaic TcCoe Tactic
open Idealize.ShloMosaic.Pipeline (Dat)
open Cert.Kernel7Ideal Cert.Kernel7Ideal.Gen Cert.Feed

/-- The block the first of the eight points starts from. -/
theorem pay1_at (a : Fin 1024) (b : Fin 1024) : k0_pay1 (F := Ideal) (ix2 a b : S1024x1024.Idx) = (0 : EReal) := by
  pointwise [k0_pay1]

/-- One step of the sum. -/
theorem pay2_at (x : Vec Ideal S1024x1024 .bf16) (o : Vec Ideal S1024x1024 .f32) (w : Vec Ideal S1024x1024 .bf16) (a : Fin 1024) (b : Fin 1024) :
    k0_pay2 (F := Ideal) x o w (ix2 a b : S1024x1024.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x1024 .bf16) (hp : p.IsWhole)
  (q : Memref sig .tc .vmem S1024x1024 .bf16) (hq : q.IsWhole) (r : Memref sig .tc .vmem S1024x1024 .f32) (hr : r.IsWhole)
  (s : Memref sig .tc .vmem S1024x1024 .f32) (hs : s.IsWhole) (x0 : Vec Ideal S1024x1024 .bf16) (x1 : Vec Ideal S1024x1024 .bf16) (xs : Vec Ideal S1024x1024 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S1024x1024) hz, View.readCov_unit_zero (S := S1024x1024) _ hz]
  simp only [View.readAt_eq_ld, hp.read_unread, hq.read_unread, View.ld_unit_zero (S := S1024x1024) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S1024x1024) hz]
  simp only [View.readAt_eq_ld, hp.read_unread, hq.read_unread, hs.read_unread, View.ld_unit_zero (S := S1024x1024) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S1024x1024) hz]
  simp only [View.readAt_eq_ld, hp.read_unread, hq.read_unread, hs.read_unread, View.ld_unit_zero (S := S1024x1024) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S1024x1024) hz, View.readCov_unit_zero (S := S1024x1024) _ hz]
  simp only [View.readAt_eq_ld, hp.read_unread, hq.read_unread, hs.read_unread, View.ld_unit_zero (S := S1024x1024) hz]

end pieces

theorem lt0 (t : Fin cfg0.N) : t.val < 32 := t.isLt

theorem idx0 : ∀ t : Fin cfg0.N, win0_0.index t = ![t.val % 8, 0] ∧ win0_1.index t = ![t.val % 8, t.val / 8] ∧ win0_2.index t = ![0, t.val / 8] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x1024.Idx → EReal := V m c main_v0
noncomputable def opB : S8192x4096.Idx → EReal := V m c main_v1

/-- The products one entry of the result adds up. -/
noncomputable def prods (a : Fin 1024) (b : Fin 4096) : Fin 8192 → EReal := fun k => opA m c (ix2 k a) * opB m c (ix2 k b)

/-- The column of an operand a block's column is. -/
def colA (n : ℕ) (hn : n < 32) (a : Fin 1024) : Fin 1024 := ⟨1024 * (0) + a.val, by omega⟩
def colB (n : ℕ) (hn : n < 32) (b : Fin 1024) : Fin 4096 := ⟨1024 * (n / 8) + b.val, by omega⟩

theorem blkA (t : Fin cfg0.N) (k : Fin 1024) (a : Fin 1024) (r : Fin 8192) (hr : r.val = 1024 * (t.val % 8) + k.val) :
    (iblk m c 0 t : Vec Ideal S1024x1024 .bf16) (ix2 k a) = opA m c (ix2 r (colA t.val (lt0 t) a)) := by
  refine Eq.trans (b := (V m c main_v0 : S8192x1024.Idx → EReal) (((cfg0.win 0).blk t).view.emb (ix2 k a : S1024x1024.Idx))) ?_ (congrArg (V m c main_v0 : S8192x1024.Idx → EReal) ?_)
  · blk_simp [iblk]
  · apply ext2 <;> apply Fin.ext <;> blk_simp [idx0 t]
    · simp [hr]; omega
    · simp [colA]; try omega

theorem blkB (t : Fin cfg0.N) (k : Fin 1024) (a : Fin 1024) (r : Fin 8192) (hr : r.val = 1024 * (t.val % 8) + k.val) :
    (iblk m c 1 t : Vec Ideal S1024x1024 .bf16) (ix2 k a) = opB m c (ix2 r (colB t.val (lt0 t) a)) := by
  refine Eq.trans (b := (V m c main_v1 : S8192x4096.Idx → EReal) (((cfg0.win 1).blk t).view.emb (ix2 k a : S1024x1024.Idx))) ?_ (congrArg (V m c main_v1 : S8192x4096.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S1024x1024 .f32) (a : Fin 1024) (b : Fin 1024)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S1024x1024.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 1024) (b : Fin 1024),
    ((outsAt0 m c n hn).2 : Vec Ideal S1024x1024 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S1024x1024.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S1024x1024.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S1024x1024.Idx)).trans ?_
        dsimp only
        rw [sC]
        exact step m c ⟨n, hn⟩ _ a b hp
      · refine (congrFun (congrArg Prod.snd (outsAt0_B m c ⟨n, hn⟩ h0 h1)) (ix2 a b : S1024x1024.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 1024) (b : Fin 1024) :
    ((outsAt0 m c t.val t.isLt).1 : Vec Ideal S1024x1024 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S1024x4096.Idx → EReal := fun i => ∑ k, prods m c (i 0) (i 1) k

theorem arr : ((dats m 0 c).arrAt 2 cfg0.N : S1024x4096.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 1024) (d : Fin 1024), y = ix2 a d := ⟨y 0, y 1, ext2 rfl rfl⟩
  refine (out_scr m c t h7 a d).trans ?_
  rw [psum_full]
  unfold total
  have e0 : colA t.val (lt0 t) a = (((cfg0.win 2).blk t).view.emb (ix2 a d : S1024x1024.Idx) : S1024x4096.Idx) 0 := by
    apply Fin.ext; blk_simp [idx0 t]; simp [colA]; try omega
  have e1 : colB t.val (lt0 t) d = (((cfg0.win 2).blk t).view.emb (ix2 a d : S1024x1024.Idx) : S1024x4096.Idx) 1 := by
    apply Fin.ext; blk_simp [idx0 t]; simp [colB]; try omega
  rw [e0, e1]

theorem opA_eq : opA m c = (m ((c : Thread nD τ).loc main_arg0) : S8192x1024.Idx → EReal) := by
  unfold opA
  show StableHlo.after hostOps0 (fun b => m (c, b)) (Proc.devRef .tc main_v0) = _
  after_results_simp
  rfl

theorem opB_eq : opB m c = (m ((c : Thread nD τ).loc main_arg1) : S8192x4096.Idx → EReal) := by
  unfold opB
  show StableHlo.after hostOps0 (fun b => m (c, b)) (Proc.devRef .tc main_v1) = _
  after_results_simp
  rfl

/-- The reference's result is the same sum, its factors in the other order. -/
theorem ref_total : (Cert.Reference7Ideal.Read.val_main_v3 (F := Ideal) (m ((c : Thread nD τ).loc main_arg0)) (m ((c : Thread nD τ).loc main_arg1)) : S1024x4096.Idx → EReal) = total m c := by
  funext i
  rw [Cert.Reference7Ideal.Read.val_main_v3_apply, Cert.Reference7Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel7Ideal.Val
-- ==== Proof.Merge.lean ====
module

public import proofs.«01_k».proof.Proof.Lin
public import proofs.«01_k».proof.Proof.Gen.Kernel8Ideal.Frame

/-!
# The merge kernels, call by call
-/

@[expose] public section

set_option maxRecDepth 16384

noncomputable section

namespace Cert.Kernel8Ideal.Val

open Idealize.ShloMosaic TcCoe Tactic
open Idealize.ShloMosaic.Pipeline (Dat)
open Cert.Kernel8Ideal Cert.Kernel8Ideal.Gen Cert.Lin

/-- One of the two gates at a position: the logistic of its projection plus its bias. -/
def gt (p : S8192x4096.Idx → EReal) (g : S2x1024.Idx → EReal) (j : Fin 2) (u : Fin 8192) (v : Fin 1024) : EReal :=
  sg (p (ix2 u ⟨1024 * j.val + v.val, by omega⟩) + g (ix2 j v))

/-- A product and a sum of two numbers, where the types of the factors are spelled in another way. -/
def mu (p q : EReal) : EReal := p * q
def ad (p q : EReal) : EReal := p + q

theorem o0_2 (x0 : Vec Ideal S1024x1024 .bf16) (x1 : Vec Ideal S1024x1024 .bf16) (a : Fin 1024) (b : Fin 1024) :
    out0_2 (F := Ideal) x0 x1 (ix2 a b) = rc (M := 1024) (K := 1024) (N := 1024) x0 x1 (ix2 a b) := by
  unfold out0_2
  rw [View.canon_unit_zero (S := S1024x1024) hz, View.ld_unit_zero (S := S1024x1024) hz, View.ld_unit_zero (S := S1024x1024) hz]
  pointwise [k0_pay1]
  rfl

theorem o1_2 (x0 : Vec Ideal S1024x512 .bf16) (x1 : Vec Ideal S512x1024 .bf16) (a : Fin 1024) (b : Fin 1024) :
    out1_2 (F := Ideal) x0 x1 (ix2 a b) = rc (M := 1024) (K := 512) (N := 1024) x0 x1 (ix2 a b) := by
  unfold out1_2
  rw [View.canon_unit_zero (S := S1024x1024) hz, View.ld_unit_zero (S := S512x1024) hz, View.ld_unit_zero (S := S1024x512) hz]
  pointwise [k1_pay1]
  rfl

theorem o2_5 (x0 x1 x2 x3 : Vec Ideal S512x1024 .bf16) (x4 : Vec Ideal S2x1024 .f32) (a : Fin 512) (b : Fin 1024) :
    out2_5 (F := Ideal) x0 x1 x2 x3 x4 (ix2 a b) = sg (ad ((x0 : S512x1024.Idx → EReal) (ix2 a b)) ((x4 : S2x1024.Idx → EReal) (ix2 0 b))) * (x2 : S512x1024.Idx → EReal) (ix2 a b) + sg (ad ((x1 : S512x1024.Idx → EReal) (ix2 a b)) ((x4 : S2x1024.Idx → EReal) (ix2 1 b))) * (x3 : S512x1024.Idx → EReal) (ix2 a b) := by
  unfold out2_5
  rw [View.canon_unit_zero (S := S512x1024) hz, View.ld_unit_zero (S := S512x1024) hz, View.ld_unit_zero (S := S512x1024) hz, View.ld_unit_zero (S := S512x1024) hz, View.ld_unit_zero (S := S512x1024) hz]
  pointwise [k2_pay1]
  rfl

theorem o3_4 (x0 : Vec Ideal S1024x1024 .bf16) (x1 : Vec Ideal S1024x1024 .bf16) (x2 : Vec Ideal S1024x1024 .f32) (x3 : Vec Ideal S1x1024 .f32) (a : Fin 1024) (b : Fin 1024) :
    out3_4 (F := Ideal) x0 x1 x2 x3 (ix2 a b) = rc (M := 1024) (K := 1024) (N := 1024) x0 x1 (ix2 a b) + (x2 : S1024x1024.Idx → EReal) (ix2 a b) := by
  unfold out3_4
  rw [View.canon_unit_zero (S := S1024x1024) hz, View.ld_unit_zero (S := S1024x1024) hz, View.ld_unit_zero (S := S1024x1024) hz, View.ld_unit_zero (S := S1024x1024) hz]
  pointwise [k3_pay1]
  rfl

theorem o3_5 (x0 : Vec Ideal S1024x1024 .bf16) (x1 : Vec Ideal S1024x1024 .bf16) (x2 : Vec Ideal S1024x1024 .f32) (x3 : Vec Ideal S1x1024 .f32) (a : Fin 1024) (b : Fin 1024) :
    out3_5 (F := Ideal) x0 x1 x2 x3 (ix2 a b) = rn (M := 1024) (K := 1024) (fun y => rc (M := 1024) (K := 1024) (N := 1024) x0 x1 y + (x2 : S1024x1024.Idx → EReal) y) x3 (ix2 a b) := by
  unfold out3_5
  rw [View.canon_unit_zero (S := S1024x1024) hz, View.ld_unit_zero (S := S1024x1024) hz, View.ld_unit_zero (S := S1024x1024) hz, View.ld_unit_zero (S := S1024x1024) hz, View.ld_unit_zero (S := S1x1024) hz]
  pointwise [k3_pay2, k3_pay1]
  rfl

theorem o4_2 (x0 : Vec Ideal S1024x1024 .f32) (x1 : Vec Ideal S1024x1024 .bf16) (a : Fin 1024) (b : Fin 1024) :
    out4_2 (F := Ideal) x0 x1 (ix2 a b) = rr (M := 1024) (K := 1024) (N := 1024) x0 x1 (ix2 a b) := by
  unfold out4_2
  rw [View.canon_unit_zero (S := S1024x1024) hz, View.ld_unit_zero (S := S1024x1024) hz, View.ld_unit_zero (S := S1024x1024) hz]
  pointwise [k4_pay1]
  rfl

theorem o6_2 (x0 : Vec Ideal S1024x1024 .bf16) (x1 : Vec Ideal S1024x1024 .bf16) (a : Fin 1024) (b : Fin 1024) :
    out6_2 (F := Ideal) x0 x1 (ix2 a b) = rr (M := 1024) (K := 1024) (N := 1024) x0 x1 (ix2 a b) := by
  unfold out6_2
  rw [View.canon_unit_zero (S := S1024x1024) hz, View.ld_unit_zero (S := S1024x1024) hz, View.ld_unit_zero (S := S1024x1024) hz]
  pointwise [k6_pay1]
  rfl

theorem o7_2 (x0 : Vec Ideal S1024x1024 .bf16) (x1 : Vec Ideal S512x1024 .bf16) (a : Fin 1024) (b : Fin 512) :
    out7_2 (F := Ideal) x0 x1 (ix2 a b) = rr (M := 1024) (K := 1024) (N := 512) x0 x1 (ix2 a b) := by
  unfold out7_2
  rw [View.canon_unit_zero (S := S1024x512) hz, View.ld_unit_zero (S := S512x1024) hz, View.ld_unit_zero (S := S1024x1024) hz]
  pointwise [k7_pay1]
  rfl

variable (V : (c : Dev nD) → (b : Ref sig .tc) → Buf (Elt Ideal) ((c : Thread nD τ).loc b)) (c : Dev nD)

theorem lt0 (t : Fin cfg0.N) : t.val < 8 := t.isLt

theorem idx0 : ∀ t : Fin cfg0.N, win0_0.index t = ![t.val, 0] ∧ win0_1.index t = ![0, 0] ∧ win0_2.index t = ![t.val, 0] :=
  (by decide +kernel : ∀ t : Fin grid0.N, _)

theorem emb0_0 (t : Fin cfg0.N) (a : Fin 1024) (b : Fin 1024) :
    (win0_0.blk t).view.emb (ix2 a b : S1024x1024.Idx) = (ix2 ⟨1024 * (t.val) + a.val, by have := lt0 t; omega⟩ b : S8192x1024.Idx) := by
  funext q; match q with
    | ⟨0, _⟩ | ⟨1, _⟩ => apply Fin.ext; blk_simp [idx0 t]; try simp; try omega

theorem blk0_0 (t : Fin cfg0.N) (a : Fin 1024) (b : Fin 1024) :
    (iblk0 V c 0 t : Vec Ideal S1024x1024 .bf16) (ix2 a b) = (V c main_v1 : S8192x1024.Idx → EReal) (ix2 ⟨1024 * (t.val) + a.val, by have := lt0 t; omega⟩ b) := by
  blk_simp [iblk0]
  rw [emb0_0]

theorem emb0_1 (t : Fin cfg0.N) (a : Fin 1024) (b : Fin 1024) :
    (win0_1.blk t).view.emb (ix2 a b : S1024x1024.Idx) = (ix2 a b : S1024x1024.Idx) := by
  funext q; match q with
    | ⟨0, _⟩ | ⟨1, _⟩ => apply Fin.ext; blk_simp [idx0 t]; try simp; try omega

theorem blk0_1 (t : Fin cfg0.N) (a : Fin 1024) (b : Fin 1024) :
    (iblk0 V c 1 t : Vec Ideal S1024x1024 .bf16) (ix2 a b) = (V c main_v3 : S1024x1024.Idx → EReal) (ix2 a b) := by
  blk_simp [iblk0]
  rw [emb0_1]

theorem emb0_2 (t : Fin cfg0.N) (a : Fin 1024) (b : Fin 1024) :
    (win0_2.blk t).view.emb (ix2 a b : S1024x1024.Idx) = (ix2 ⟨1024 * (t.val) + a.val, by have := lt0 t; omega⟩ b : S8192x1024.Idx) := by
  funext q; match q with
    | ⟨0, _⟩ | ⟨1, _⟩ => apply Fin.ext; blk_simp [idx0 t]; try simp; try omega

theorem lt1 (t : Fin cfg1.N) : t.val < 8 := t.isLt

theorem idx1 : ∀ t : Fin cfg1.N, win1_0.index t = ![t.val, 0] ∧ win1_1.index t = ![0, 0] ∧ win1_2.index t = ![t.val, 0] :=
  (by decide +kernel : ∀ t : Fin grid1.N, _)

theorem emb1_0 (t : Fin cfg1.N) (a : Fin 1024) (b : Fin 512) :
    (win1_0.blk t).view.emb (ix2 a b : S1024x512.Idx) = (ix2 ⟨1024 * (t.val) + a.val, by have := lt1 t; omega⟩ b : S8192x512.Idx) := by
  funext q; match q with
    | ⟨0, _⟩ | ⟨1, _⟩ => apply Fin.ext; blk_simp [idx1 t]; try simp; try omega

theorem blk1_0 (t : Fin cfg1.N) (a : Fin 1024) (b : Fin 512) :
    (iblk1 V c 0 t : Vec Ideal S1024x512 .bf16) (ix2 a b) = (V c main_v2 : S8192x512.Idx → EReal) (ix2 ⟨1024 * (t.val) + a.val, by have := lt1 t; omega⟩ b) := by
  blk_simp [iblk1]
  rw [emb1_0]

theorem emb1_1 (t : Fin cfg1.N) (a : Fin 512) (b : Fin 1024) :
    (win1_1.blk t).view.emb (ix2 a b : S512x1024.Idx) = (ix2 a b : S512x1024.Idx) := by
  funext q; match q with
    | ⟨0, _⟩ | ⟨1, _⟩ => apply Fin.ext; blk_simp [idx1 t]; try simp; try omega

theorem blk1_1 (t : Fin cfg1.N) (a : Fin 512) (b : Fin 1024) :
    (iblk1 V c 1 t : Vec Ideal S512x1024 .bf16) (ix2 a b) = (V c main_v4 : S512x1024.Idx → EReal) (ix2 a b) := by
  blk_simp [iblk1]
  rw [emb1_1]

theorem emb1_2 (t : Fin cfg1.N) (a : Fin 1024) (b : Fin 1024) :
    (win1_2.blk t).view.emb (ix2 a b : S1024x1024.Idx) = (ix2 ⟨1024 * (t.val) + a.val, by have := lt1 t; omega⟩ b : S8192x1024.Idx) := by
  funext q; match q with
    | ⟨0, _⟩ | ⟨1, _⟩ => apply Fin.ext; blk_simp [idx1 t]; try simp; try omega

theorem lt2 (t : Fin cfg2.N) : t.val < 16 := t.isLt

theorem idx2 : ∀ t : Fin cfg2.N, win2_0.index t = ![t.val, 0] ∧ win2_1.index t = ![t.val, 1] ∧ win2_2.index t = ![t.val, 0] ∧ win2_3.index t = ![t.val, 0] ∧ win2_4.index t = ![0, 0] ∧ win2_5.index t = ![t.val, 0] :=
  (by decide +kernel : ∀ t : Fin grid2.N, _)

theorem emb2_0 (t : Fin cfg2.N) (a : Fin 512) (b : Fin 1024) :
    (win2_0.blk t).view.emb (ix2 a b : S512x1024.Idx) = (ix2 ⟨512 * (t.val) + a.val, by have := lt2 t; omega⟩ ⟨1024 * (0) + b.val, by have := lt2 t; omega⟩ : S8192x4096.Idx) := by
  funext q; match q with
    | ⟨0, _⟩ | ⟨1, _⟩ => apply Fin.ext; blk_simp [idx2 t]; try simp; try omega

theorem blk2_0 (t : Fin cfg2.N) (a : Fin 512) (b : Fin 1024) :
    (iblk2 V c 0 t : Vec Ideal S512x1024 .bf16) (ix2 a b) = (V c main_v0 : S8192x4096.Idx → EReal) (ix2 ⟨512 * (t.val) + a.val, by have := lt2 t; omega⟩ ⟨1024 * (0) + b.val, by have := lt2 t; omega⟩) := by
  blk_simp [iblk2]
  rw [emb2_0]

theorem emb2_1 (t : Fin cfg2.N) (a : Fin 512) (b : Fin 1024) :
    (win2_1.blk t).view.emb (ix2 a b : S512x1024.Idx) = (ix2 ⟨512 * (t.val) + a.val, by have := lt2 t; omega⟩ ⟨1024 * (1) + b.val, by have := lt2 t; omega⟩ : S8192x4096.Idx) := by
  funext q; match q with
    | ⟨0, _⟩ | ⟨1, _⟩ => apply Fin.ext; blk_simp [idx2 t]; try simp; try omega

theorem blk2_1 (t : Fin cfg2.N) (a : Fin 512) (b : Fin 1024) :
    (iblk2 V c 1 t : Vec Ideal S512x1024 .bf16) (ix2 a b) = (V c main_v0 : S8192x4096.Idx → EReal) (ix2 ⟨512 * (t.val) + a.val, by have := lt2 t; omega⟩ ⟨1024 * (1) + b.val, by have := lt2 t; omega⟩) := by
  blk_simp [iblk2]
  rw [emb2_1]

theorem emb2_2 (t : Fin cfg2.N) (a : Fin 512) (b : Fin 1024) :
    (win2_2.blk t).view.emb (ix2 a b : S512x1024.Idx) = (ix2 ⟨512 * (t.val) + a.val, by have := lt2 t; omega⟩ b : S8192x1024.Idx) := by
  funext q; match q with
    | ⟨0, _⟩ | ⟨1, _⟩ => apply Fin.ext; blk_simp [idx2 t]; try simp; try omega

theorem blk2_2 (t : Fin cfg2.N) (a : Fin 512) (b : Fin 1024) :
    (iblk2 V c 2 t : Vec Ideal S512x1024 .bf16) (ix2 a b) = (V c main_v6 : S8192x1024.Idx → EReal) (ix2 ⟨512 * (t.val) + a.val, by have := lt2 t; omega⟩ b) := by
  blk_simp [iblk2]
  rw [emb2_2]

theorem emb2_3 (t : Fin cfg2.N) (a : Fin 512) (b : Fin 1024) :
    (win2_3.blk t).view.emb (ix2 a b : S512x1024.Idx) = (ix2 ⟨512 * (t.val) + a.val, by have := lt2 t; omega⟩ b : S8192x1024.Idx) := by
  funext q; match q with
    | ⟨0, _⟩ | ⟨1, _⟩ => apply Fin.ext; blk_simp [idx2 t]; try simp; try omega

theorem blk2_3 (t : Fin cfg2.N) (a : Fin 512) (b : Fin 1024) :
    (iblk2 V c 3 t : Vec Ideal S512x1024 .bf16) (ix2 a b) = (V c main_v7 : S8192x1024.Idx → EReal) (ix2 ⟨512 * (t.val) + a.val, by have := lt2 t; omega⟩ b) := by
  blk_simp [iblk2]
  rw [emb2_3]

theorem emb2_4 (t : Fin cfg2.N) (a : Fin 2) (b : Fin 1024) :
    (win2_4.blk t).view.emb (ix2 a b : S2x1024.Idx) = (ix2 a b : S2x1024.Idx) := by
  funext q; match q with
    | ⟨0, _⟩ | ⟨1, _⟩ => apply Fin.ext; blk_simp [idx2 t]; try simp; try omega

theorem blk2_4 (t : Fin cfg2.N) (a : Fin 2) (b : Fin 1024) :
    (iblk2 V c 4 t : Vec Ideal S2x1024 .f32) (ix2 a b) = (V c main_arg4 : S2x1024.Idx → EReal) (ix2 a b) := by
  blk_simp [iblk2]
  rw [emb2_4]

theorem emb2_5 (t : Fin cfg2.N) (a : Fin 512) (b : Fin 1024) :
    (win2_5.blk t).view.emb (ix2 a b : S512x1024.Idx) = (ix2 ⟨512 * (t.val) + a.val, by have := lt2 t; omega⟩ b : S8192x1024.Idx) := by
  funext q; match q with
    | ⟨0, _⟩ | ⟨1, _⟩ => apply Fin.ext; blk_simp [idx2 t]; try simp; try omega

theorem lt3 (t : Fin cfg3.N) : t.val < 8 := t.isLt

theorem idx3 : ∀ t : Fin cfg3.N, win3_0.index t = ![t.val, 0] ∧ win3_1.index t = ![0, 0] ∧ win3_2.index t = ![t.val, 0] ∧ win3_3.index t = ![0, 0] ∧ win3_4.index t = ![t.val, 0] ∧ win3_5.index t = ![t.val, 0] :=
  (by decide +kernel : ∀ t : Fin grid3.N, _)

theorem emb3_0 (t : Fin cfg3.N) (a : Fin 1024) (b : Fin 1024) :
    (win3_0.blk t).view.emb (ix2 a b : S1024x1024.Idx) = (ix2 ⟨1024 * (t.val) + a.val, by have := lt3 t; omega⟩ b : S8192x1024.Idx) := by
  funext q; match q with
    | ⟨0, _⟩ | ⟨1, _⟩ => apply Fin.ext; blk_simp [idx3 t]; try simp; try omega

theorem blk3_0 (t : Fin cfg3.N) (a : Fin 1024) (b : Fin 1024) :
    (iblk3 V c 0 t : Vec Ideal S1024x1024 .bf16) (ix2 a b) = (V c main_v8 : S8192x1024.Idx → EReal) (ix2 ⟨1024 * (t.val) + a.val, by have := lt3 t; omega⟩ b) := by
  blk_simp [iblk3]
  rw [emb3_0]

theorem emb3_1 (t : Fin cfg3.N) (a : Fin 1024) (b : Fin 1024) :
    (win3_1.blk t).view.emb (ix2 a b : S1024x1024.Idx) = (ix2 a b : S1024x1024.Idx) := by
  funext q; match q with
    | ⟨0, _⟩ | ⟨1, _⟩ => apply Fin.ext; blk_simp [idx3 t]; try simp; try omega

theorem blk3_1 (t : Fin cfg3.N) (a : Fin 1024) (b : Fin 1024) :
    (iblk3 V c 1 t : Vec Ideal S1024x1024 .bf16) (ix2 a b) = (V c main_v5 : S1024x1024.Idx → EReal) (ix2 a b) := by
  blk_simp [iblk3]
  rw [emb3_1]

theorem emb3_2 (t : Fin cfg3.N) (a : Fin 1024) (b : Fin 1024) :
    (win3_2.blk t).view.emb (ix2 a b : S1024x1024.Idx) = (ix2 ⟨1024 * (t.val) + a.val, by have := lt3 t; omega⟩ b : S8192x1024.Idx) := by
  funext q; match q with
    | ⟨0, _⟩ | ⟨1, _⟩ => apply Fin.ext; blk_simp [idx3 t]; try simp; try omega

theorem blk3_2 (t : Fin cfg3.N) (a : Fin 1024) (b : Fin 1024) :
    (iblk3 V c 2 t : Vec Ideal S1024x1024 .f32) (ix2 a b) = (V c main_arg0 : S8192x1024.Idx → EReal) (ix2 ⟨1024 * (t.val) + a.val, by have := lt3 t; omega⟩ b) := by
  blk_simp [iblk3]
  rw [emb3_2]

theorem emb3_3 (t : Fin cfg3.N) (a : Fin 1) (b : Fin 1024) :
    (win3_3.blk t).view.emb (ix2 a b : S1x1024.Idx) = (ix2 a b : S1x1024.Idx) := by
  funext q; match q with
    | ⟨0, _⟩ | ⟨1, _⟩ => apply Fin.ext; blk_simp [idx3 t]; try simp; try omega

theorem blk3_3 (t : Fin cfg3.N) (a : Fin 1) (b : Fin 1024) :
    (iblk3 V c 3 t : Vec Ideal S1x1024 .f32) (ix2 a b) = (V c main_arg8 : S1x1024.Idx → EReal) (ix2 a b) := by
  blk_simp [iblk3]
  rw [emb3_3]

theorem emb3_4 (t : Fin cfg3.N) (a : Fin 1024) (b : Fin 1024) :
    (win3_4.blk t).view.emb (ix2 a b : S1024x1024.Idx) = (ix2 ⟨1024 * (t.val) + a.val, by have := lt3 t; omega⟩ b : S8192x1024.Idx) := by
  funext q; match q with
    | ⟨0, _⟩ | ⟨1, _⟩ => apply Fin.ext; blk_simp [idx3 t]; try simp; try omega

theorem emb3_5 (t : Fin cfg3.N) (a : Fin 1024) (b : Fin 1024) :
    (win3_5.blk t).view.emb (ix2 a b : S1024x1024.Idx) = (ix2 ⟨1024 * (t.val) + a.val, by have := lt3 t; omega⟩ b : S8192x1024.Idx) := by
  funext q; match q with
    | ⟨0, _⟩ | ⟨1, _⟩ => apply Fin.ext; blk_simp [idx3 t]; try simp; try omega

theorem lt4 (t : Fin cfg4.N) : t.val < 8 := t.isLt

theorem idx4 : ∀ t : Fin cfg4.N, win4_0.index t = ![t.val, 0] ∧ win4_1.index t = ![0, 0] ∧ win4_2.index t = ![t.val, 0] :=
  (by decide +kernel : ∀ t : Fin grid4.N, _)

theorem emb4_0 (t : Fin cfg4.N) (a : Fin 1024) (b : Fin 1024) :
    (win4_0.blk t).view.emb (ix2 a b : S1024x1024.Idx) = (ix2 ⟨1024 * (t.val) + a.val, by have := lt4 t; omega⟩ b : S8192x1024.Idx) := by
  funext q; match q with
    | ⟨0, _⟩ | ⟨1, _⟩ => apply Fin.ext; blk_simp [idx4 t]; try simp; try omega

theorem blk4_0 (t : Fin cfg4.N) (a : Fin 1024) (b : Fin 1024) :
    (iblk4 V c 0 t : Vec Ideal S1024x1024 .f32) (ix2 a b) = (V c main_arg9 : S8192x1024.Idx → EReal) (ix2 ⟨1024 * (t.val) + a.val, by have := lt4 t; omega⟩ b) := by
  blk_simp [iblk4]
  rw [emb4_0]

theorem emb4_1 (t : Fin cfg4.N) (a : Fin 1024) (b : Fin 1024) :
    (win4_1.blk t).view.emb (ix2 a b : S1024x1024.Idx) = (ix2 a b : S1024x1024.Idx) := by
  funext q; match q with
    | ⟨0, _⟩ | ⟨1, _⟩ => apply Fin.ext; blk_simp [idx4 t]; try simp; try omega

theorem blk4_1 (t : Fin cfg4.N) (a : Fin 1024) (b : Fin 1024) :
    (iblk4 V c 1 t : Vec Ideal S1024x1024 .bf16) (ix2 a b) = (V c main_v5 : S1024x1024.Idx → EReal) (ix2 a b) := by
  blk_simp [iblk4]
  rw [emb4_1]

theorem emb4_2 (t : Fin cfg4.N) (a : Fin 1024) (b : Fin 1024) :
    (win4_2.blk t).view.emb (ix2 a b : S1024x1024.Idx) = (ix2 ⟨1024 * (t.val) + a.val, by have := lt4 t; omega⟩ b : S8192x1024.Idx) := by
  funext q; match q with
    | ⟨0, _⟩ | ⟨1, _⟩ => apply Fin.ext; blk_simp [idx4 t]; try simp; try omega

theorem lt6 (t : Fin cfg6.N) : t.val < 8 := t.isLt

theorem idx6 : ∀ t : Fin cfg6.N, win6_0.index t = ![t.val, 0] ∧ win6_1.index t = ![0, 0] ∧ win6_2.index t = ![t.val, 0] :=
  (by decide +kernel : ∀ t : Fin grid6.N, _)

theorem emb6_0 (t : Fin cfg6.N) (a : Fin 1024) (b : Fin 1024) :
    (win6_0.blk t).view.emb (ix2 a b : S1024x1024.Idx) = (ix2 ⟨1024 * (t.val) + a.val, by have := lt6 t; omega⟩ b : S8192x1024.Idx) := by
  funext q; match q with
    | ⟨0, _⟩ | ⟨1, _⟩ => apply Fin.ext; blk_simp [idx6 t]; try simp; try omega

theorem blk6_0 (t : Fin cfg6.N) (a : Fin 1024) (b : Fin 1024) :
    (iblk6 V c 0 t : Vec Ideal S1024x1024 .bf16) (ix2 a b) = (V c main_v11_0 : S8192x1024.Idx → EReal) (ix2 ⟨1024 * (t.val) + a.val, by have := lt6 t; omega⟩ b) := by
  blk_simp [iblk6]
  rw [emb6_0]

theorem emb6_1 (t : Fin cfg6.N) (a : Fin 1024) (b : Fin 1024) :
    (win6_1.blk t).view.emb (ix2 a b : S1024x1024.Idx) = (ix2 a b : S1024x1024.Idx) := by
  funext q; match q with
    | ⟨0, _⟩ | ⟨1, _⟩ => apply Fin.ext; blk_simp [idx6 t]; try simp; try omega

theorem blk6_1 (t : Fin cfg6.N) (a : Fin 1024) (b : Fin 1024) :
    (iblk6 V c 1 t : Vec Ideal S1024x1024 .bf16) (ix2 a b) = (V c main_v3 : S1024x1024.Idx → EReal) (ix2 a b) := by
  blk_simp [iblk6]
  rw [emb6_1]

theorem emb6_2 (t : Fin cfg6.N) (a : Fin 1024) (b : Fin 1024) :
    (win6_2.blk t).view.emb (ix2 a b : S1024x1024.Idx) = (ix2 ⟨1024 * (t.val) + a.val, by have := lt6 t; omega⟩ b : S8192x1024.Idx) := by
  funext q; match q with
    | ⟨0, _⟩ | ⟨1, _⟩ => apply Fin.ext; blk_simp [idx6 t]; try simp; try omega

theorem lt7 (t : Fin cfg7.N) : t.val < 8 := t.isLt

theorem idx7 : ∀ t : Fin cfg7.N, win7_0.index t = ![t.val, 0] ∧ win7_1.index t = ![0, 0] ∧ win7_2.index t = ![t.val, 0] :=
  (by decide +kernel : ∀ t : Fin grid7.N, _)

theorem emb7_0 (t : Fin cfg7.N) (a : Fin 1024) (b : Fin 1024) :
    (win7_0.blk t).view.emb (ix2 a b : S1024x1024.Idx) = (ix2 ⟨1024 * (t.val) + a.val, by have := lt7 t; omega⟩ b : S8192x1024.Idx) := by
  funext q; match q with
    | ⟨0, _⟩ | ⟨1, _⟩ => apply Fin.ext; blk_simp [idx7 t]; try simp; try omega

theorem blk7_0 (t : Fin cfg7.N) (a : Fin 1024) (b : Fin 1024) :
    (iblk7 V c 0 t : Vec Ideal S1024x1024 .bf16) (ix2 a b) = (V c main_v11_1 : S8192x1024.Idx → EReal) (ix2 ⟨1024 * (t.val) + a.val, by have := lt7 t; omega⟩ b) := by
  blk_simp [iblk7]
  rw [emb7_0]

theorem emb7_1 (t : Fin cfg7.N) (a : Fin 512) (b : Fin 1024) :
    (win7_1.blk t).view.emb (ix2 a b : S512x1024.Idx) = (ix2 a b : S512x1024.Idx) := by
  funext q; match q with
    | ⟨0, _⟩ | ⟨1, _⟩ => apply Fin.ext; blk_simp [idx7 t]; try simp; try omega

theorem blk7_1 (t : Fin cfg7.N) (a : Fin 512) (b : Fin 1024) :
    (iblk7 V c 1 t : Vec Ideal S512x1024 .bf16) (ix2 a b) = (V c main_v4 : S512x1024.Idx → EReal) (ix2 a b) := by
  blk_simp [iblk7]
  rw [emb7_1]

theorem emb7_2 (t : Fin cfg7.N) (a : Fin 1024) (b : Fin 512) :
    (win7_2.blk t).view.emb (ix2 a b : S1024x512.Idx) = (ix2 ⟨1024 * (t.val) + a.val, by have := lt7 t; omega⟩ b : S8192x512.Idx) := by
  funext q; match q with
    | ⟨0, _⟩ | ⟨1, _⟩ => apply Fin.ext; blk_simp [idx7 t]; try simp; try omega

theorem arr0_2 : ((dat0 V c).arrAt 2 cfg0.N : S8192x1024.Idx → EReal) = fun y => rc (M := 8192) (K := 1024) (N := 1024) (V c main_v1 : S8192x1024.Idx → EReal) (V c main_v3 : S1024x1024.Idx → EReal) y := by
  refine (dat0 V c).arrAt_eq_of_covers 2 (fun y => rc (M := 8192) (K := 1024) (N := 1024) (V c main_v1 : S8192x1024.Idx → EReal) (V c main_v3 : S1024x1024.Idx → EReal) y) (by decide +kernel) fun t _ y => ?_
  obtain ⟨a, b, rfl⟩ := idx2_self y
  blk_simp
  rw [after0_2, emb0_2]
  refine (o0_2 _ _ a b).trans ?_
  exact rc_blk (fun k => blk0_0 V c t _ _) (fun k => blk0_1 V c t _ _)
theorem arr1_2 : ((dat1 V c).arrAt 2 cfg1.N : S8192x1024.Idx → EReal) = fun y => rc (M := 8192) (K := 512) (N := 1024) (V c main_v2 : S8192x512.Idx → EReal) (V c main_v4 : S512x1024.Idx → EReal) y := by
  refine (dat1 V c).arrAt_eq_of_covers 2 (fun y => rc (M := 8192) (K := 512) (N := 1024) (V c main_v2 : S8192x512.Idx → EReal) (V c main_v4 : S512x1024.Idx → EReal) y) (by decide +kernel) fun t _ y => ?_
  obtain ⟨a, b, rfl⟩ := idx2_self y
  blk_simp
  rw [after1_2, emb1_2]
  refine (o1_2 _ _ a b).trans ?_
  exact rc_blk (fun k => blk1_0 V c t _ _) (fun k => blk1_1 V c t _ _)
theorem arr2_5 : ((dat2 V c).arrAt 5 cfg2.N : S8192x1024.Idx → EReal) = fun y => gt (V c main_v0 : S8192x4096.Idx → EReal) (V c main_arg4 : S2x1024.Idx → EReal) 0 (y 0) (y 1) * (V c main_v6 : S8192x1024.Idx → EReal) y + gt (V c main_v0 : S8192x4096.Idx → EReal) (V c main_arg4 : S2x1024.Idx → EReal) 1 (y 0) (y 1) * (V c main_v7 : S8192x1024.Idx → EReal) y := by
  refine (dat2 V c).arrAt_eq_of_covers 5 (fun y => gt (V c main_v0 : S8192x4096.Idx → EReal) (V c main_arg4 : S2x1024.Idx → EReal) 0 (y 0) (y 1) * (V c main_v6 : S8192x1024.Idx → EReal) y + gt (V c main_v0 : S8192x4096.Idx → EReal) (V c main_arg4 : S2x1024.Idx → EReal) 1 (y 0) (y 1) * (V c main_v7 : S8192x1024.Idx → EReal) y) (by decide +kernel) fun t _ y => ?_
  obtain ⟨a, b, rfl⟩ := idx2_self y
  blk_simp
  rw [after2_5, emb2_5]
  refine (o2_5 _ _ _ _ _ a b).trans ?_
  exact congrArg₂ (fun p q : EReal => p + q) (congrArg₂ (fun p q : EReal => p * q) (congrArg sg (congrArg₂ (fun p q : EReal => p + q) (blk2_0 V c t a b) (blk2_4 V c t 0 b))) (blk2_2 V c t a b)) (congrArg₂ (fun p q : EReal => p * q) (congrArg sg (congrArg₂ (fun p q : EReal => p + q) (blk2_1 V c t a b) (blk2_4 V c t 1 b))) (blk2_3 V c t a b))
theorem arr3_4 : ((dat3 V c).arrAt 4 cfg3.N : S8192x1024.Idx → EReal) = fun y => rc (M := 8192) (K := 1024) (N := 1024) (V c main_v8 : S8192x1024.Idx → EReal) (V c main_v5 : S1024x1024.Idx → EReal) y + (V c main_arg0 : S8192x1024.Idx → EReal) y := by
  refine (dat3 V c).arrAt_eq_of_covers 4 (fun y => rc (M := 8192) (K := 1024) (N := 1024) (V c main_v8 : S8192x1024.Idx → EReal) (V c main_v5 : S1024x1024.Idx → EReal) y + (V c main_arg0 : S8192x1024.Idx → EReal) y) (by decide +kernel) fun t _ y => ?_
  obtain ⟨a, b, rfl⟩ := idx2_self y
  blk_simp
  rw [after3_4, emb3_4]
  refine (o3_4 _ _ _ (iblk3 V c 3 t) a b).trans ?_
  exact congrArg₂ (fun p q : EReal => p + q) (rc_blk (fun k => blk3_0 V c t _ _) (fun k => blk3_1 V c t _ _)) (blk3_2 V c t a b)
theorem arr3_5 : ((dat3 V c).arrAt 5 cfg3.N : S8192x1024.Idx → EReal) = fun y => rn (M := 8192) (K := 1024) (fun y => rc (M := 8192) (K := 1024) (N := 1024) (V c main_v8 : S8192x1024.Idx → EReal) (V c main_v5 : S1024x1024.Idx → EReal) y + (V c main_arg0 : S8192x1024.Idx → EReal) y) (V c main_arg8 : S1x1024.Idx → EReal) y := by
  refine (dat3 V c).arrAt_eq_of_covers 5 (fun y => rn (M := 8192) (K := 1024) (fun y => rc (M := 8192) (K := 1024) (N := 1024) (V c main_v8 : S8192x1024.Idx → EReal) (V c main_v5 : S1024x1024.Idx → EReal) y + (V c main_arg0 : S8192x1024.Idx → EReal) y) (V c main_arg8 : S1x1024.Idx → EReal) y) (by decide +kernel) fun t _ y => ?_
  obtain ⟨a, b, rfl⟩ := idx2_self y
  blk_simp
  rw [after3_5, emb3_5]
  refine (o3_5 _ _ _ _ a b).trans ?_
  exact rn_blk (fun k => congrArg₂ (fun p q : EReal => p + q) (rc_blk (fun k => blk3_0 V c t _ _) (fun k => blk3_1 V c t _ _)) (blk3_2 V c t a k)) (fun k => blk3_3 V c t _ _)
theorem arr4_2 : ((dat4 V c).arrAt 2 cfg4.N : S8192x1024.Idx → EReal) = fun y => rr (M := 8192) (K := 1024) (N := 1024) (V c main_arg9 : S8192x1024.Idx → EReal) (V c main_v5 : S1024x1024.Idx → EReal) y := by
  refine (dat4 V c).arrAt_eq_of_covers 2 (fun y => rr (M := 8192) (K := 1024) (N := 1024) (V c main_arg9 : S8192x1024.Idx → EReal) (V c main_v5 : S1024x1024.Idx → EReal) y) (by decide +kernel) fun t _ y => ?_
  obtain ⟨a, b, rfl⟩ := idx2_self y
  blk_simp
  rw [after4_2, emb4_2]
  refine (o4_2 _ _ a b).trans ?_
  exact rr_blk (fun k => blk4_0 V c t _ _) (fun k => blk4_1 V c t _ _)
theorem arr6_2 : ((dat6 V c).arrAt 2 cfg6.N : S8192x1024.Idx → EReal) = fun y => rr (M := 8192) (K := 1024) (N := 1024) (V c main_v11_0 : S8192x1024.Idx → EReal) (V c main_v3 : S1024x1024.Idx → EReal) y := by
  refine (dat6 V c).arrAt_eq_of_covers 2 (fun y => rr (M := 8192) (K := 1024) (N := 1024) (V c main_v11_0 : S8192x1024.Idx → EReal) (V c main_v3 : S1024x1024.Idx → EReal) y) (by decide +kernel) fun t _ y => ?_
  obtain ⟨a, b, rfl⟩ := idx2_self y
  blk_simp
  rw [after6_2, emb6_2]
  refine (o6_2 _ _ a b).trans ?_
  exact rr_blk (fun k => blk6_0 V c t _ _) (fun k => blk6_1 V c t _ _)
theorem arr7_2 : ((dat7 V c).arrAt 2 cfg7.N : S8192x512.Idx → EReal) = fun y => rr (M := 8192) (K := 1024) (N := 512) (V c main_v11_1 : S8192x1024.Idx → EReal) (V c main_v4 : S512x1024.Idx → EReal) y := by
  refine (dat7 V c).arrAt_eq_of_covers 2 (fun y => rr (M := 8192) (K := 1024) (N := 512) (V c main_v11_1 : S8192x1024.Idx → EReal) (V c main_v4 : S512x1024.Idx → EReal) y) (by decide +kernel) fun t _ y => ?_
  obtain ⟨a, b, rfl⟩ := idx2_self y
  blk_simp
  rw [after7_2, emb7_2]
  refine (o7_2 _ _ a b).trans ?_
  exact rr_blk (fun k => blk7_0 V c t _ _) (fun k => blk7_1 V c t _ _)

end Cert.Kernel8Ideal.Val
-- ==== Proof.MergeG.lean ====
module

public import proofs.«01_k».proof.Proof.Merge

/-!
# The gradients of the gates, block by block
-/

@[expose] public section

set_option maxRecDepth 16384

noncomputable section

namespace Cert.Kernel8Ideal.Val

open Idealize.ShloMosaic TcCoe Tactic
open Idealize.ShloMosaic.Pipeline (Dat)
open Cert.Kernel8Ideal Cert.Kernel8Ideal.Gen Cert.Lin

section pieces

variable (c : Dev nD) (i : grid5.Coords) (p1 : Memref sig .tc .vmem S512x1024 .bf16) (h1 : p1.IsWhole) (p2 : Memref sig .tc .vmem S512x1024 .bf16) (h2 : p2.IsWhole) (p3 : Memref sig .tc .vmem S512x1024 .bf16) (h3 : p3.IsWhole) (p4 : Memref sig .tc .vmem S512x1024 .bf16) (h4 : p4.IsWhole) (p5 : Memref sig .tc .vmem S512x1024 .bf16) (h5 : p5.IsWhole) (p6 : Memref sig .tc .vmem S2x1024 .f32) (h6 : p6.IsWhole) (p7 : Memref sig .tc .vmem S512x1024 .bf16) (h7 : p7.IsWhole) (p8 : Memref sig .tc .vmem S512x1024 .bf16) (h8 : p8.IsWhole) (p9 : Memref sig .tc .vmem S512x1024 .bf16) (h9 : p9.IsWhole) (p10 : Memref sig .tc .vmem S512x1024 .bf16) (h10 : p10.IsWhole) (p11 : Memref sig .tc .vmem S2x1024 .f32) (h11 : p11.IsWhole)
  (x0 x1 x2 x3 x4 : Vec Ideal S512x1024 .bf16) (x5 : Vec Ideal S2x1024 .f32) (xo : Vec Ideal S2x1024 .f32)

theorem o5_A_6 (hc : cond5_0 i) (a : Fin 512) (b : Fin 1024) :
    out5_A_6 (F := Ideal) c i p1 h1 p2 h2 p3 h3 p4 h4 p5 h5 p6 h6 p7 h7 p8 h8 p9 h9 p10 h10 p11 h11 hc x0 x1 x2 x3 x4 x5 (ix2 a b) = mu ((x4 : S512x1024.Idx → EReal) (ix2 a b)) (sg (ad ((x0 : S512x1024.Idx → EReal) (ix2 a b)) ((x5 : S2x1024.Idx → EReal) (ix2 0 b)))) := by
  unfold out5_A_6
  rw [View.read_writes_eq_canon _ _ _ (cover5_A_6 c i p1 h1 p2 h2 p3 h3 p4 h4 p5 h5 p6 h6 p7 h7 p8 h8 p9 h9 p10 h10 p11 h11 hc x0 x1 x2 x3 x4 x5)]
  unfold kernelRun5_A
  dsimp only
  sl_unfold_words
  rw [View.canon_unit_zero (S := S512x1024) hz]
  simp only [View.readAt_eq_ld, h1.read_unread, h2.read_unread, h3.read_unread, h4.read_unread, h5.read_unread, h6.read_unread, View.ld_unit_zero (S := S512x1024) hz]
  pointwise [k5_pay8, k5_pay2, k5_pay3]
  rfl

theorem o5_A_7 (hc : cond5_0 i) (a : Fin 512) (b : Fin 1024) :
    out5_A_7 (F := Ideal) c i p1 h1 p2 h2 p3 h3 p4 h4 p5 h5 p6 h6 p7 h7 p8 h8 p9 h9 p10 h10 p11 h11 hc x0 x1 x2 x3 x4 x5 (ix2 a b) = mu ((x4 : S512x1024.Idx → EReal) (ix2 a b)) (sg (ad ((x1 : S512x1024.Idx → EReal) (ix2 a b)) ((x5 : S2x1024.Idx → EReal) (ix2 1 b)))) := by
  unfold out5_A_7
  rw [View.read_writes_eq_canon _ _ _ (cover5_A_7 c i p1 h1 p2 h2 p3 h3 p4 h4 p5 h5 p6 h6 p7 h7 p8 h8 p9 h9 p10 h10 p11 h11 hc x0 x1 x2 x3 x4 x5)]
  unfold kernelRun5_A
  dsimp only
  sl_unfold_words
  rw [View.canon_unit_zero (S := S512x1024) hz]
  simp only [View.readAt_eq_ld, h1.read_unread, h2.read_unread, h3.read_unread, h4.read_unread, h5.read_unread, h6.read_unread, View.ld_unit_zero (S := S512x1024) hz]
  pointwise [k5_pay9, k5_pay2, k5_pay4]
  rfl

theorem o5_A_8 (hc : cond5_0 i) (a : Fin 512) (b : Fin 1024) :
    out5_A_8 (F := Ideal) c i p1 h1 p2 h2 p3 h3 p4 h4 p5 h5 p6 h6 p7 h7 p8 h8 p9 h9 p10 h10 p11 h11 hc x0 x1 x2 x3 x4 x5 (ix2 a b) = mu (mu (mu ((x4 : S512x1024.Idx → EReal) (ix2 a b)) ((x2 : S512x1024.Idx → EReal) (ix2 a b))) (sg (ad ((x0 : S512x1024.Idx → EReal) (ix2 a b)) ((x5 : S2x1024.Idx → EReal) (ix2 0 b))))) (1 - sg (ad ((x0 : S512x1024.Idx → EReal) (ix2 a b)) ((x5 : S2x1024.Idx → EReal) (ix2 0 b)))) := by
  unfold out5_A_8
  rw [View.read_writes_eq_canon _ _ _ (cover5_A_8 c i p1 h1 p2 h2 p3 h3 p4 h4 p5 h5 p6 h6 p7 h7 p8 h8 p9 h9 p10 h10 p11 h11 hc x0 x1 x2 x3 x4 x5)]
  unfold kernelRun5_A
  dsimp only
  sl_unfold_words
  rw [View.canon_unit_zero (S := S512x1024) hz]
  simp only [View.readAt_eq_ld, h1.read_unread, h2.read_unread, h3.read_unread, h4.read_unread, h5.read_unread, h6.read_unread, View.ld_unit_zero (S := S512x1024) hz]
  pointwise [k5_pay10, k5_pay6, k5_pay5, k5_pay3, k5_pay2]
  rfl

theorem o5_A_9 (hc : cond5_0 i) (a : Fin 512) (b : Fin 1024) :
    out5_A_9 (F := Ideal) c i p1 h1 p2 h2 p3 h3 p4 h4 p5 h5 p6 h6 p7 h7 p8 h8 p9 h9 p10 h10 p11 h11 hc x0 x1 x2 x3 x4 x5 (ix2 a b) = mu (mu (mu ((x4 : S512x1024.Idx → EReal) (ix2 a b)) ((x3 : S512x1024.Idx → EReal) (ix2 a b))) (sg (ad ((x1 : S512x1024.Idx → EReal) (ix2 a b)) ((x5 : S2x1024.Idx → EReal) (ix2 1 b))))) (1 - sg (ad ((x1 : S512x1024.Idx → EReal) (ix2 a b)) ((x5 : S2x1024.Idx → EReal) (ix2 1 b)))) := by
  unfold out5_A_9
  rw [View.read_writes_eq_canon _ _ _ (cover5_A_9 c i p1 h1 p2 h2 p3 h3 p4 h4 p5 h5 p6 h6 p7 h7 p8 h8 p9 h9 p10 h10 p11 h11 hc x0 x1 x2 x3 x4 x5)]
  unfold kernelRun5_A
  dsimp only
  sl_unfold_words
  rw [View.canon_unit_zero (S := S512x1024) hz]
  simp only [View.readAt_eq_ld, h1.read_unread, h2.read_unread, h3.read_unread, h4.read_unread, h5.read_unread, h6.read_unread, View.ld_unit_zero (S := S512x1024) hz]
  pointwise [k5_pay11, k5_pay7, k5_pay2, k5_pay4]
  rfl

theorem o5_B_6 (hc : ¬cond5_0 i) (a : Fin 512) (b : Fin 1024) :
    out5_B_6 (F := Ideal) c i p1 h1 p2 h2 p3 h3 p4 h4 p5 h5 p6 h6 p7 h7 p8 h8 p9 h9 p10 h10 p11 h11 hc x0 x1 x2 x3 x4 x5 xo (ix2 a b) = mu ((x4 : S512x1024.Idx → EReal) (ix2 a b)) (sg (ad ((x0 : S512x1024.Idx → EReal) (ix2 a b)) ((x5 : S2x1024.Idx → EReal) (ix2 0 b)))) := by
  unfold out5_B_6
  rw [View.read_writes_eq_canon _ _ _ (cover5_B_6 c i p1 h1 p2 h2 p3 h3 p4 h4 p5 h5 p6 h6 p7 h7 p8 h8 p9 h9 p10 h10 p11 h11 hc x0 x1 x2 x3 x4 x5 xo)]
  unfold kernelRun5_B
  dsimp only
  sl_unfold_words
  rw [View.canon_unit_zero (S := S512x1024) hz]
  simp only [View.readAt_eq_ld, h1.read_unread, h2.read_unread, h3.read_unread, h4.read_unread, h5.read_unread, h6.read_unread, View.ld_unit_zero (S := S512x1024) hz]
  pointwise [k5_pay8, k5_pay2, k5_pay3]
  rfl

theorem o5_B_7 (hc : ¬cond5_0 i) (a : Fin 512) (b : Fin 1024) :
    out5_B_7 (F := Ideal) c i p1 h1 p2 h2 p3 h3 p4 h4 p5 h5 p6 h6 p7 h7 p8 h8 p9 h9 p10 h10 p11 h11 hc x0 x1 x2 x3 x4 x5 xo (ix2 a b) = mu ((x4 : S512x1024.Idx → EReal) (ix2 a b)) (sg (ad ((x1 : S512x1024.Idx → EReal) (ix2 a b)) ((x5 : S2x1024.Idx → EReal) (ix2 1 b)))) := by
  unfold out5_B_7
  rw [View.read_writes_eq_canon _ _ _ (cover5_B_7 c i p1 h1 p2 h2 p3 h3 p4 h4 p5 h5 p6 h6 p7 h7 p8 h8 p9 h9 p10 h10 p11 h11 hc x0 x1 x2 x3 x4 x5 xo)]
  unfold kernelRun5_B
  dsimp only
  sl_unfold_words
  rw [View.canon_unit_zero (S := S512x1024) hz]
  simp only [View.readAt_eq_ld, h1.read_unread, h2.read_unread, h3.read_unread, h4.read_unread, h5.read_unread, h6.read_unread, View.ld_unit_zero (S := S512x1024) hz]
  pointwise [k5_pay9, k5_pay2, k5_pay4]
  rfl

theorem o5_B_8 (hc : ¬cond5_0 i) (a : Fin 512) (b : Fin 1024) :
    out5_B_8 (F := Ideal) c i p1 h1 p2 h2 p3 h3 p4 h4 p5 h5 p6 h6 p7 h7 p8 h8 p9 h9 p10 h10 p11 h11 hc x0 x1 x2 x3 x4 x5 xo (ix2 a b) = mu (mu (mu ((x4 : S512x1024.Idx → EReal) (ix2 a b)) ((x2 : S512x1024.Idx → EReal) (ix2 a b))) (sg (ad ((x0 : S512x1024.Idx → EReal) (ix2 a b)) ((x5 : S2x1024.Idx → EReal) (ix2 0 b))))) (1 - sg (ad ((x0 : S512x1024.Idx → EReal) (ix2 a b)) ((x5 : S2x1024.Idx → EReal) (ix2 0 b)))) := by
  unfold out5_B_8
  rw [View.read_writes_eq_canon _ _ _ (cover5_B_8 c i p1 h1 p2 h2 p3 h3 p4 h4 p5 h5 p6 h6 p7 h7 p8 h8 p9 h9 p10 h10 p11 h11 hc x0 x1 x2 x3 x4 x5 xo)]
  unfold kernelRun5_B
  dsimp only
  sl_unfold_words
  rw [View.canon_unit_zero (S := S512x1024) hz]
  simp only [View.readAt_eq_ld, h1.read_unread, h2.read_unread, h3.read_unread, h4.read_unread, h5.read_unread, h6.read_unread, View.ld_unit_zero (S := S512x1024) hz]
  pointwise [k5_pay10, k5_pay6, k5_pay5, k5_pay3, k5_pay2]
  rfl

theorem o5_B_9 (hc : ¬cond5_0 i) (a : Fin 512) (b : Fin 1024) :
    out5_B_9 (F := Ideal) c i p1 h1 p2 h2 p3 h3 p4 h4 p5 h5 p6 h6 p7 h7 p8 h8 p9 h9 p10 h10 p11 h11 hc x0 x1 x2 x3 x4 x5 xo (ix2 a b) = mu (mu (mu ((x4 : S512x1024.Idx → EReal) (ix2 a b)) ((x3 : S512x1024.Idx → EReal) (ix2 a b))) (sg (ad ((x1 : S512x1024.Idx → EReal) (ix2 a b)) ((x5 : S2x1024.Idx → EReal) (ix2 1 b))))) (1 - sg (ad ((x1 : S512x1024.Idx → EReal) (ix2 a b)) ((x5 : S2x1024.Idx → EReal) (ix2 1 b)))) := by
  unfold out5_B_9
  rw [View.read_writes_eq_canon _ _ _ (cover5_B_9 c i p1 h1 p2 h2 p3 h3 p4 h4 p5 h5 p6 h6 p7 h7 p8 h8 p9 h9 p10 h10 p11 h11 hc x0 x1 x2 x3 x4 x5 xo)]
  unfold kernelRun5_B
  dsimp only
  sl_unfold_words
  rw [View.canon_unit_zero (S := S512x1024) hz]
  simp only [View.readAt_eq_ld, h1.read_unread, h2.read_unread, h3.read_unread, h4.read_unread, h5.read_unread, h6.read_unread, View.ld_unit_zero (S := S512x1024) hz]
  pointwise [k5_pay11, k5_pay7, k5_pay2, k5_pay4]
  rfl

end pieces

variable (V : (c : Dev nD) → (b : Ref sig .tc) → Buf (Elt Ideal) ((c : Thread nD τ).loc b)) (c : Dev nD)

theorem lt5 (t : Fin cfg5.N) : t.val < 16 := t.isLt

theorem idx5 : ∀ t : Fin cfg5.N, win5_0.index t = ![t.val, 0] ∧ win5_1.index t = ![t.val, 1] ∧ win5_2.index t = ![t.val, 0] ∧ win5_3.index t = ![t.val, 0] ∧ win5_4.index t = ![t.val, 0] ∧ win5_5.index t = ![0, 0] ∧ win5_6.index t = ![t.val, 0] ∧ win5_7.index t = ![t.val, 0] ∧ win5_8.index t = ![t.val, 0] ∧ win5_9.index t = ![t.val, 0] :=
  (by decide +kernel : ∀ t : Fin grid5.N, _)

theorem emb5_0 (t : Fin cfg5.N) (a : Fin 512) (b : Fin 1024) :
    (win5_0.blk t).view.emb (ix2 a b : S512x1024.Idx) = (ix2 ⟨512 * (t.val) + a.val, by have := lt5 t; omega⟩ ⟨1024 * (0) + b.val, by have := lt5 t; omega⟩ : S8192x4096.Idx) := by
  funext q; match q with
    | ⟨0, _⟩ | ⟨1, _⟩ => apply Fin.ext; blk_simp [idx5 t]; try simp; try omega

theorem blk5_0 (t : Fin cfg5.N) (a : Fin 512) (b : Fin 1024) :
    (iblk5 V c 0 t : Vec Ideal S512x1024 .bf16) (ix2 a b) = (V c main_v0 : S8192x4096.Idx → EReal) (ix2 ⟨512 * (t.val) + a.val, by have := lt5 t; omega⟩ ⟨1024 * (0) + b.val, by have := lt5 t; omega⟩) := by
  blk_simp [iblk5]
  rw [emb5_0]

theorem emb5_1 (t : Fin cfg5.N) (a : Fin 512) (b : Fin 1024) :
    (win5_1.blk t).view.emb (ix2 a b : S512x1024.Idx) = (ix2 ⟨512 * (t.val) + a.val, by have := lt5 t; omega⟩ ⟨1024 * (1) + b.val, by have := lt5 t; omega⟩ : S8192x4096.Idx) := by
  funext q; match q with
    | ⟨0, _⟩ | ⟨1, _⟩ => apply Fin.ext; blk_simp [idx5 t]; try simp; try omega

theorem blk5_1 (t : Fin cfg5.N) (a : Fin 512) (b : Fin 1024) :
    (iblk5 V c 1 t : Vec Ideal S512x1024 .bf16) (ix2 a b) = (V c main_v0 : S8192x4096.Idx → EReal) (ix2 ⟨512 * (t.val) + a.val, by have := lt5 t; omega⟩ ⟨1024 * (1) + b.val, by have := lt5 t; omega⟩) := by
  blk_simp [iblk5]
  rw [emb5_1]

theorem emb5_2 (t : Fin cfg5.N) (a : Fin 512) (b : Fin 1024) :
    (win5_2.blk t).view.emb (ix2 a b : S512x1024.Idx) = (ix2 ⟨512 * (t.val) + a.val, by have := lt5 t; omega⟩ b : S8192x1024.Idx) := by
  funext q; match q with
    | ⟨0, _⟩ | ⟨1, _⟩ => apply Fin.ext; blk_simp [idx5 t]; try simp; try omega

theorem blk5_2 (t : Fin cfg5.N) (a : Fin 512) (b : Fin 1024) :
    (iblk5 V c 2 t : Vec Ideal S512x1024 .bf16) (ix2 a b) = (V c main_v6 : S8192x1024.Idx → EReal) (ix2 ⟨512 * (t.val) + a.val, by have := lt5 t; omega⟩ b) := by
  blk_simp [iblk5]
  rw [emb5_2]

theorem emb5_3 (t : Fin cfg5.N) (a : Fin 512) (b : Fin 1024) :
    (win5_3.blk t).view.emb (ix2 a b : S512x1024.Idx) = (ix2 ⟨512 * (t.val) + a.val, by have := lt5 t; omega⟩ b : S8192x1024.Idx) := by
  funext q; match q with
    | ⟨0, _⟩ | ⟨1, _⟩ => apply Fin.ext; blk_simp [idx5 t]; try simp; try omega

theorem blk5_3 (t : Fin cfg5.N) (a : Fin 512) (b : Fin 1024) :
    (iblk5 V c 3 t : Vec Ideal S512x1024 .bf16) (ix2 a b) = (V c main_v7 : S8192x1024.Idx → EReal) (ix2 ⟨512 * (t.val) + a.val, by have := lt5 t; omega⟩ b) := by
  blk_simp [iblk5]
  rw [emb5_3]

theorem emb5_4 (t : Fin cfg5.N) (a : Fin 512) (b : Fin 1024) :
    (win5_4.blk t).view.emb (ix2 a b : S512x1024.Idx) = (ix2 ⟨512 * (t.val) + a.val, by have := lt5 t; omega⟩ b : S8192x1024.Idx) := by
  funext q; match q with
    | ⟨0, _⟩ | ⟨1, _⟩ => apply Fin.ext; blk_simp [idx5 t]; try simp; try omega

theorem blk5_4 (t : Fin cfg5.N) (a : Fin 512) (b : Fin 1024) :
    (iblk5 V c 4 t : Vec Ideal S512x1024 .bf16) (ix2 a b) = (V c main_v10 : S8192x1024.Idx → EReal) (ix2 ⟨512 * (t.val) + a.val, by have := lt5 t; omega⟩ b) := by
  blk_simp [iblk5]
  rw [emb5_4]

theorem emb5_5 (t : Fin cfg5.N) (a : Fin 2) (b : Fin 1024) :
    (win5_5.blk t).view.emb (ix2 a b : S2x1024.Idx) = (ix2 a b : S2x1024.Idx) := by
  funext q; match q with
    | ⟨0, _⟩ | ⟨1, _⟩ => apply Fin.ext; blk_simp [idx5 t]; try simp; try omega

theorem blk5_5 (t : Fin cfg5.N) (a : Fin 2) (b : Fin 1024) :
    (iblk5 V c 5 t : Vec Ideal S2x1024 .f32) (ix2 a b) = (V c main_arg4 : S2x1024.Idx → EReal) (ix2 a b) := by
  blk_simp [iblk5]
  rw [emb5_5]

theorem emb5_6 (t : Fin cfg5.N) (a : Fin 512) (b : Fin 1024) :
    (win5_6.blk t).view.emb (ix2 a b : S512x1024.Idx) = (ix2 ⟨512 * (t.val) + a.val, by have := lt5 t; omega⟩ b : S8192x1024.Idx) := by
  funext q; match q with
    | ⟨0, _⟩ | ⟨1, _⟩ => apply Fin.ext; blk_simp [idx5 t]; try simp; try omega

theorem emb5_7 (t : Fin cfg5.N) (a : Fin 512) (b : Fin 1024) :
    (win5_7.blk t).view.emb (ix2 a b : S512x1024.Idx) = (ix2 ⟨512 * (t.val) + a.val, by have := lt5 t; omega⟩ b : S8192x1024.Idx) := by
  funext q; match q with
    | ⟨0, _⟩ | ⟨1, _⟩ => apply Fin.ext; blk_simp [idx5 t]; try simp; try omega

theorem emb5_8 (t : Fin cfg5.N) (a : Fin 512) (b : Fin 1024) :
    (win5_8.blk t).view.emb (ix2 a b : S512x1024.Idx) = (ix2 ⟨512 * (t.val) + a.val, by have := lt5 t; omega⟩ b : S8192x1024.Idx) := by
  funext q; match q with
    | ⟨0, _⟩ | ⟨1, _⟩ => apply Fin.ext; blk_simp [idx5 t]; try simp; try omega

theorem emb5_9 (t : Fin cfg5.N) (a : Fin 512) (b : Fin 1024) :
    (win5_9.blk t).view.emb (ix2 a b : S512x1024.Idx) = (ix2 ⟨512 * (t.val) + a.val, by have := lt5 t; omega⟩ b : S8192x1024.Idx) := by
  funext q; match q with
    | ⟨0, _⟩ | ⟨1, _⟩ => apply Fin.ext; blk_simp [idx5 t]; try simp; try omega

theorem out5_6 (t : Fin cfg5.N) (a : Fin 512) (b : Fin 1024) :
    ((outsAt5 V c t.val t.isLt).1 : S512x1024.Idx → EReal) (ix2 a b) = mu ((iblk5 V c 4 t : S512x1024.Idx → EReal) (ix2 a b)) (sg (ad ((iblk5 V c 0 t : S512x1024.Idx → EReal) (ix2 a b)) ((iblk5 V c 5 t : S2x1024.Idx → EReal) (ix2 0 b)))) := by
  by_cases h0 : t.val % 16 = 0
  · refine (congrFun (congrArg (fun p => p.1) (outsAt5_A V c t h0)) (ix2 a b : S512x1024.Idx)).trans ?_
    dsimp only
    rw [o5_A_6]
  · refine (congrFun (congrArg (fun p => p.1) (outsAt5_B V c t h0)) (ix2 a b : S512x1024.Idx)).trans ?_
    dsimp only
    rw [o5_B_6]

theorem arr5_6 : ((dat5 V c).arrAt 6 cfg5.N : S8192x1024.Idx → EReal) = fun y => mu ((V c main_v10 : S8192x1024.Idx → EReal) y) (gt (V c main_v0 : S8192x4096.Idx → EReal) (V c main_arg4 : S2x1024.Idx → EReal) 0 (y 0) (y 1)) := by
  refine (dat5 V c).arrAt_eq_of_covers 6 (fun y => mu ((V c main_v10 : S8192x1024.Idx → EReal) y) (gt (V c main_v0 : S8192x4096.Idx → EReal) (V c main_arg4 : S2x1024.Idx → EReal) 0 (y 0) (y 1))) (by decide +kernel) fun t _ y => ?_
  obtain ⟨a, b, rfl⟩ := idx2_self y
  blk_simp
  rw [after5_6, emb5_6]
  refine (out5_6 V c t a b).trans ?_
  exact congrArg₂ (fun p q : EReal => p * q) (blk5_4 V c t a b) (congrArg sg (congrArg₂ (fun p q : EReal => p + q) (blk5_0 V c t a b) (blk5_5 V c t 0 b)))
theorem out5_7 (t : Fin cfg5.N) (a : Fin 512) (b : Fin 1024) :
    ((outsAt5 V c t.val t.isLt).2.1 : S512x1024.Idx → EReal) (ix2 a b) = mu ((iblk5 V c 4 t : S512x1024.Idx → EReal) (ix2 a b)) (sg (ad ((iblk5 V c 1 t : S512x1024.Idx → EReal) (ix2 a b)) ((iblk5 V c 5 t : S2x1024.Idx → EReal) (ix2 1 b)))) := by
  by_cases h0 : t.val % 16 = 0
  · refine (congrFun (congrArg (fun p => p.2.1) (outsAt5_A V c t h0)) (ix2 a b : S512x1024.Idx)).trans ?_
    dsimp only
    rw [o5_A_7]
  · refine (congrFun (congrArg (fun p => p.2.1) (outsAt5_B V c t h0)) (ix2 a b : S512x1024.Idx)).trans ?_
    dsimp only
    rw [o5_B_7]

theorem arr5_7 : ((dat5 V c).arrAt 7 cfg5.N : S8192x1024.Idx → EReal) = fun y => mu ((V c main_v10 : S8192x1024.Idx → EReal) y) (gt (V c main_v0 : S8192x4096.Idx → EReal) (V c main_arg4 : S2x1024.Idx → EReal) 1 (y 0) (y 1)) := by
  refine (dat5 V c).arrAt_eq_of_covers 7 (fun y => mu ((V c main_v10 : S8192x1024.Idx → EReal) y) (gt (V c main_v0 : S8192x4096.Idx → EReal) (V c main_arg4 : S2x1024.Idx → EReal) 1 (y 0) (y 1))) (by decide +kernel) fun t _ y => ?_
  obtain ⟨a, b, rfl⟩ := idx2_self y
  blk_simp
  rw [after5_7, emb5_7]
  refine (out5_7 V c t a b).trans ?_
  exact congrArg₂ (fun p q : EReal => p * q) (blk5_4 V c t a b) (congrArg sg (congrArg₂ (fun p q : EReal => p + q) (blk5_1 V c t a b) (blk5_5 V c t 1 b)))
theorem out5_8 (t : Fin cfg5.N) (a : Fin 512) (b : Fin 1024) :
    ((outsAt5 V c t.val t.isLt).2.2.1 : S512x1024.Idx → EReal) (ix2 a b) = mu (mu (mu ((iblk5 V c 4 t : S512x1024.Idx → EReal) (ix2 a b)) ((iblk5 V c 2 t : S512x1024.Idx → EReal) (ix2 a b))) (sg (ad ((iblk5 V c 0 t : S512x1024.Idx → EReal) (ix2 a b)) ((iblk5 V c 5 t : S2x1024.Idx → EReal) (ix2 0 b))))) (1 - sg (ad ((iblk5 V c 0 t : S512x1024.Idx → EReal) (ix2 a b)) ((iblk5 V c 5 t : S2x1024.Idx → EReal) (ix2 0 b)))) := by
  by_cases h0 : t.val % 16 = 0
  · refine (congrFun (congrArg (fun p => p.2.2.1) (outsAt5_A V c t h0)) (ix2 a b : S512x1024.Idx)).trans ?_
    dsimp only
    rw [o5_A_8]
  · refine (congrFun (congrArg (fun p => p.2.2.1) (outsAt5_B V c t h0)) (ix2 a b : S512x1024.Idx)).trans ?_
    dsimp only
    rw [o5_B_8]

theorem arr5_8 : ((dat5 V c).arrAt 8 cfg5.N : S8192x1024.Idx → EReal) = fun y => mu (mu (mu ((V c main_v10 : S8192x1024.Idx → EReal) y) ((V c main_v6 : S8192x1024.Idx → EReal) y)) (gt (V c main_v0 : S8192x4096.Idx → EReal) (V c main_arg4 : S2x1024.Idx → EReal) 0 (y 0) (y 1))) (1 - gt (V c main_v0 : S8192x4096.Idx → EReal) (V c main_arg4 : S2x1024.Idx → EReal) 0 (y 0) (y 1)) := by
  refine (dat5 V c).arrAt_eq_of_covers 8 (fun y => mu (mu (mu ((V c main_v10 : S8192x1024.Idx → EReal) y) ((V c main_v6 : S8192x1024.Idx → EReal) y)) (gt (V c main_v0 : S8192x4096.Idx → EReal) (V c main_arg4 : S2x1024.Idx → EReal) 0 (y 0) (y 1))) (1 - gt (V c main_v0 : S8192x4096.Idx → EReal) (V c main_arg4 : S2x1024.Idx → EReal) 0 (y 0) (y 1))) (by decide +kernel) fun t _ y => ?_
  obtain ⟨a, b, rfl⟩ := idx2_self y
  blk_simp
  rw [after5_8, emb5_8]
  refine (out5_8 V c t a b).trans ?_
  exact congrArg₂ (fun p q : EReal => p * q) (congrArg₂ (fun p q : EReal => p * q) (congrArg₂ (fun p q : EReal => p * q) (blk5_4 V c t a b) (blk5_2 V c t a b)) (congrArg sg (congrArg₂ (fun p q : EReal => p + q) (blk5_0 V c t a b) (blk5_5 V c t 0 b)))) (congrArg (fun p : EReal => 1 - p) (congrArg sg (congrArg₂ (fun p q : EReal => p + q) (blk5_0 V c t a b) (blk5_5 V c t 0 b))))
theorem out5_9 (t : Fin cfg5.N) (a : Fin 512) (b : Fin 1024) :
    ((outsAt5 V c t.val t.isLt).2.2.2.1 : S512x1024.Idx → EReal) (ix2 a b) = mu (mu (mu ((iblk5 V c 4 t : S512x1024.Idx → EReal) (ix2 a b)) ((iblk5 V c 3 t : S512x1024.Idx → EReal) (ix2 a b))) (sg (ad ((iblk5 V c 1 t : S512x1024.Idx → EReal) (ix2 a b)) ((iblk5 V c 5 t : S2x1024.Idx → EReal) (ix2 1 b))))) (1 - sg (ad ((iblk5 V c 1 t : S512x1024.Idx → EReal) (ix2 a b)) ((iblk5 V c 5 t : S2x1024.Idx → EReal) (ix2 1 b)))) := by
  by_cases h0 : t.val % 16 = 0
  · refine (congrFun (congrArg (fun p => p.2.2.2.1) (outsAt5_A V c t h0)) (ix2 a b : S512x1024.Idx)).trans ?_
    dsimp only
    rw [o5_A_9]
  · refine (congrFun (congrArg (fun p => p.2.2.2.1) (outsAt5_B V c t h0)) (ix2 a b : S512x1024.Idx)).trans ?_
    dsimp only
    rw [o5_B_9]

theorem arr5_9 : ((dat5 V c).arrAt 9 cfg5.N : S8192x1024.Idx → EReal) = fun y => mu (mu (mu ((V c main_v10 : S8192x1024.Idx → EReal) y) ((V c main_v7 : S8192x1024.Idx → EReal) y)) (gt (V c main_v0 : S8192x4096.Idx → EReal) (V c main_arg4 : S2x1024.Idx → EReal) 1 (y 0) (y 1))) (1 - gt (V c main_v0 : S8192x4096.Idx → EReal) (V c main_arg4 : S2x1024.Idx → EReal) 1 (y 0) (y 1)) := by
  refine (dat5 V c).arrAt_eq_of_covers 9 (fun y => mu (mu (mu ((V c main_v10 : S8192x1024.Idx → EReal) y) ((V c main_v7 : S8192x1024.Idx → EReal) y)) (gt (V c main_v0 : S8192x4096.Idx → EReal) (V c main_arg4 : S2x1024.Idx → EReal) 1 (y 0) (y 1))) (1 - gt (V c main_v0 : S8192x4096.Idx → EReal) (V c main_arg4 : S2x1024.Idx → EReal) 1 (y 0) (y 1))) (by decide +kernel) fun t _ y => ?_
  obtain ⟨a, b, rfl⟩ := idx2_self y
  blk_simp
  rw [after5_9, emb5_9]
  refine (out5_9 V c t a b).trans ?_
  exact congrArg₂ (fun p q : EReal => p * q) (congrArg₂ (fun p q : EReal => p * q) (congrArg₂ (fun p q : EReal => p * q) (blk5_4 V c t a b) (blk5_3 V c t a b)) (congrArg sg (congrArg₂ (fun p q : EReal => p + q) (blk5_1 V c t a b) (blk5_5 V c t 1 b)))) (congrArg (fun p : EReal => 1 - p) (congrArg sg (congrArg₂ (fun p q : EReal => p + q) (blk5_1 V c t a b) (blk5_5 V c t 1 b))))

end Cert.Kernel8Ideal.Val
-- ==== Proof.MergeMain.lean ====
module

public import proofs.«01_k».proof.Proof.MergeG
public import proofs.«01_k».proof.Proof.Gen.Reference8Ideal.Read
public import proofs.«01_k».proof.Proof.Gen.Reference8Ideal.Run
public import proofs.«01_k».proof.Defs

/-!
# The merge kernels, side by side with the reference
-/

@[expose] public section

set_option maxRecDepth 16384

noncomputable section

namespace Cert.Kernel8Ideal.Val

open Idealize.ShloMosaic TcCoe Tactic
open Idealize.ShloMosaic.Pipeline (Dat)
open Cert.Kernel8Ideal Cert.Kernel8Ideal.Gen Cert.Lin

/-- The two mixers' projections, the merged rows, the block's output and its norm. -/
def mPA (oa : S8192x1024.Idx → EReal) (wa : S1024x1024.Idx → EReal) : S8192x1024.Idx → EReal := fun y => rc (M := 8192) (K := 1024) (N := 1024) oa wa y
def mPB (ob : S8192x512.Idx → EReal) (wb : S512x1024.Idx → EReal) : S8192x1024.Idx → EReal := fun y => rc (M := 8192) (K := 512) (N := 1024) ob wb y
def mMG (p : S8192x4096.Idx → EReal) (oa : S8192x1024.Idx → EReal) (ob : S8192x512.Idx → EReal) (g : S2x1024.Idx → EReal) (wa : S1024x1024.Idx → EReal) (wb : S512x1024.Idx → EReal) : S8192x1024.Idx → EReal :=
  fun y => gt p g 0 (y 0) (y 1) * mPA oa wa y + gt p g 1 (y 0) (y 1) * mPB ob wb y
def mX (x : S8192x1024.Idx → EReal) (p : S8192x4096.Idx → EReal) (oa : S8192x1024.Idx → EReal) (ob : S8192x512.Idx → EReal) (g : S2x1024.Idx → EReal) (wa : S1024x1024.Idx → EReal) (wb : S512x1024.Idx → EReal)
    (wo : S1024x1024.Idx → EReal) : S8192x1024.Idx → EReal := fun y => rc (M := 8192) (K := 1024) (N := 1024) (mMG p oa ob g wa wb) wo y + x y
def mN (x : S8192x1024.Idx → EReal) (p : S8192x4096.Idx → EReal) (oa : S8192x1024.Idx → EReal) (ob : S8192x512.Idx → EReal) (g : S2x1024.Idx → EReal) (wa : S1024x1024.Idx → EReal) (wb : S512x1024.Idx → EReal)
    (wo : S1024x1024.Idx → EReal) (gx : S1x1024.Idx → EReal) : S8192x1024.Idx → EReal := fun y => rn (M := 8192) (K := 1024) (mX x p oa ob g wa wb wo) gx y

/-- The gradients of the merged rows, of the two projections, of the two gates, and of the two mixers' outputs. -/
def mDM (wo : S1024x1024.Idx → EReal) (dx : S8192x1024.Idx → EReal) : S8192x1024.Idx → EReal := fun y => rr (M := 8192) (K := 1024) (N := 1024) dx wo y
def mD (j : Fin 2) (p : S8192x4096.Idx → EReal) (g : S2x1024.Idx → EReal) (wo : S1024x1024.Idx → EReal) (dx : S8192x1024.Idx → EReal) : S8192x1024.Idx → EReal := fun y => mDM wo dx y * gt p g j (y 0) (y 1)
def mG (j : Fin 2) (pr : S8192x1024.Idx → EReal) (p : S8192x4096.Idx → EReal) (g : S2x1024.Idx → EReal) (wo : S1024x1024.Idx → EReal) (dx : S8192x1024.Idx → EReal) : S8192x1024.Idx → EReal :=
  fun y => mDM wo dx y * pr y * gt p g j (y 0) (y 1) * (1 - gt p g j (y 0) (y 1))
def mOA (p : S8192x4096.Idx → EReal) (g : S2x1024.Idx → EReal) (wa wo : S1024x1024.Idx → EReal) (dx : S8192x1024.Idx → EReal) : S8192x1024.Idx → EReal := fun y => rr (M := 8192) (K := 1024) (N := 1024) (mD 0 p g wo dx) wa y
def mOB (p : S8192x4096.Idx → EReal) (g : S2x1024.Idx → EReal) (wb : S512x1024.Idx → EReal) (wo : S1024x1024.Idx → EReal) (dx : S8192x1024.Idx → EReal) : S8192x512.Idx → EReal := fun y => rr (M := 8192) (K := 1024) (N := 512) (mD 1 p g wo dx) wb y

variable (m : (ℓ : Loc nD τ sig) → Buf (Elt Ideal) ℓ) (ρ : Dev nD → PrngReg) (c : Dev nD)

/-- The arguments. -/
def a0 : S8192x1024.Idx → EReal := m ((c : Thread nD τ).loc main_arg0)
def a1 : S8192x4096.Idx → EReal := m ((c : Thread nD τ).loc main_arg1)
def a2 : S8192x1024.Idx → EReal := m ((c : Thread nD τ).loc main_arg2)
def a3 : S8192x512.Idx → EReal := m ((c : Thread nD τ).loc main_arg3)
def a4 : S2x1024.Idx → EReal := m ((c : Thread nD τ).loc main_arg4)
def a5 : S1024x1024.Idx → EReal := m ((c : Thread nD τ).loc main_arg5)
def a6 : S512x1024.Idx → EReal := m ((c : Thread nD τ).loc main_arg6)
def a7 : S1024x1024.Idx → EReal := m ((c : Thread nD τ).loc main_arg7)
def a8 : S1x1024.Idx → EReal := m ((c : Thread nD τ).loc main_arg8)
def a9 : S8192x1024.Idx → EReal := m ((c : Thread nD τ).loc main_arg9)

theorem V1_v0 : (V1 m ρ c main_v0 : S8192x4096.Idx → EReal) = a1 m c := by
  show W1 m ρ c (Proc.devRef .tc main_v0) = _
  after_results_simp
  rfl

theorem V1_v1 : (V1 m ρ c main_v1 : S8192x1024.Idx → EReal) = a2 m c := by
  show W1 m ρ c (Proc.devRef .tc main_v1) = _
  after_results_simp
  rfl

theorem V1_v2 : (V1 m ρ c main_v2 : S8192x512.Idx → EReal) = a3 m c := by
  show W1 m ρ c (Proc.devRef .tc main_v2) = _
  after_results_simp
  rfl

theorem V1_v3 : (V1 m ρ c main_v3 : S1024x1024.Idx → EReal) = a5 m c := by
  show W1 m ρ c (Proc.devRef .tc main_v3) = _
  after_results_simp
  rfl

theorem V1_v4 : (V1 m ρ c main_v4 : S512x1024.Idx → EReal) = a6 m c := by
  show W1 m ρ c (Proc.devRef .tc main_v4) = _
  after_results_simp
  rfl

theorem V1_v5 : (V1 m ρ c main_v5 : S1024x1024.Idx → EReal) = a7 m c := by
  show W1 m ρ c (Proc.devRef .tc main_v5) = _
  after_results_simp
  rfl

theorem V1_arg0 : (V1 m ρ c main_arg0 : S8192x1024.Idx → EReal) = a0 m c := by
  show W1 m ρ c (Proc.devRef .tc main_arg0) = _
  after_results_simp
  rfl

theorem V1_arg4 : (V1 m ρ c main_arg4 : S2x1024.Idx → EReal) = a4 m c := by
  show W1 m ρ c (Proc.devRef .tc main_arg4) = _
  after_results_simp
  rfl

theorem V1_arg8 : (V1 m ρ c main_arg8 : S1x1024.Idx → EReal) = a8 m c := by
  show W1 m ρ c (Proc.devRef .tc main_arg8) = _
  after_results_simp
  rfl

theorem V1_arg9 : (V1 m ρ c main_arg9 : S8192x1024.Idx → EReal) = a9 m c := by
  show W1 m ρ c (Proc.devRef .tc main_arg9) = _
  after_results_simp
  rfl

theorem V2_of (r : Ref sig .tc) (h : ∀ w : Fin cfg0.W, Pipeline.arrRef spec0 w = r → (cfg0.win w).isOut = false) : V2 m ρ c r = V1 m ρ c r := W2_of m ρ c r h
theorem V3_of (r : Ref sig .tc) (h : ∀ w : Fin cfg1.W, Pipeline.arrRef spec1 w = r → (cfg1.win w).isOut = false) : V3 m ρ c r = V2 m ρ c r := W3_of m ρ c r h
theorem V4_of (r : Ref sig .tc) (h : ∀ w : Fin cfg2.W, Pipeline.arrRef spec2 w = r → (cfg2.win w).isOut = false) : V4 m ρ c r = V3 m ρ c r := W4_of m ρ c r h
theorem V5_of (r : Ref sig .tc) (h : ∀ w : Fin cfg3.W, Pipeline.arrRef spec3 w = r → (cfg3.win w).isOut = false) : V5 m ρ c r = V4 m ρ c r := W5_of m ρ c r h
theorem V6_of (r : Ref sig .tc) (h : ∀ w : Fin cfg4.W, Pipeline.arrRef spec4 w = r → (cfg4.win w).isOut = false) : V6 m ρ c r = V5 m ρ c r := W6_of m ρ c r h
theorem V7_of (r : Ref sig .tc) (h : ∀ w : Fin cfg5.W, Pipeline.arrRef spec5 w = r → (cfg5.win w).isOut = false) : V7 m ρ c r = V6 m ρ c r := W7_of m ρ c r h
theorem V8_of (r : Ref sig .tc) (h : ∀ w : Fin cfg6.W, Pipeline.arrRef spec6 w = r → (cfg6.win w).isOut = false) : V8 m ρ c r = V7 m ρ c r := W8_of m ρ c r h
theorem V2_v0 : (V2 m ρ c main_v0 : S8192x4096.Idx → EReal) = a1 m c := (V2_of m ρ c main_v0 (by decide)).trans (V1_v0 m ρ c)
theorem V3_v0 : (V3 m ρ c main_v0 : S8192x4096.Idx → EReal) = a1 m c := (V3_of m ρ c main_v0 (by decide)).trans (V2_v0 m ρ c)
theorem V4_v0 : (V4 m ρ c main_v0 : S8192x4096.Idx → EReal) = a1 m c := (V4_of m ρ c main_v0 (by decide)).trans (V3_v0 m ρ c)
theorem V5_v0 : (V5 m ρ c main_v0 : S8192x4096.Idx → EReal) = a1 m c := (V5_of m ρ c main_v0 (by decide)).trans (V4_v0 m ρ c)
theorem V6_v0 : (V6 m ρ c main_v0 : S8192x4096.Idx → EReal) = a1 m c := (V6_of m ρ c main_v0 (by decide)).trans (V5_v0 m ρ c)
theorem V2_v2 : (V2 m ρ c main_v2 : S8192x512.Idx → EReal) = a3 m c := (V2_of m ρ c main_v2 (by decide)).trans (V1_v2 m ρ c)
theorem V2_v3 : (V2 m ρ c main_v3 : S1024x1024.Idx → EReal) = a5 m c := (V2_of m ρ c main_v3 (by decide)).trans (V1_v3 m ρ c)
theorem V3_v3 : (V3 m ρ c main_v3 : S1024x1024.Idx → EReal) = a5 m c := (V3_of m ρ c main_v3 (by decide)).trans (V2_v3 m ρ c)
theorem V4_v3 : (V4 m ρ c main_v3 : S1024x1024.Idx → EReal) = a5 m c := (V4_of m ρ c main_v3 (by decide)).trans (V3_v3 m ρ c)
theorem V5_v3 : (V5 m ρ c main_v3 : S1024x1024.Idx → EReal) = a5 m c := (V5_of m ρ c main_v3 (by decide)).trans (V4_v3 m ρ c)
theorem V6_v3 : (V6 m ρ c main_v3 : S1024x1024.Idx → EReal) = a5 m c := (V6_of m ρ c main_v3 (by decide)).trans (V5_v3 m ρ c)
theorem V7_v3 : (V7 m ρ c main_v3 : S1024x1024.Idx → EReal) = a5 m c := (V7_of m ρ c main_v3 (by decide)).trans (V6_v3 m ρ c)
theorem V2_v4 : (V2 m ρ c main_v4 : S512x1024.Idx → EReal) = a6 m c := (V2_of m ρ c main_v4 (by decide)).trans (V1_v4 m ρ c)
theorem V3_v4 : (V3 m ρ c main_v4 : S512x1024.Idx → EReal) = a6 m c := (V3_of m ρ c main_v4 (by decide)).trans (V2_v4 m ρ c)
theorem V4_v4 : (V4 m ρ c main_v4 : S512x1024.Idx → EReal) = a6 m c := (V4_of m ρ c main_v4 (by decide)).trans (V3_v4 m ρ c)
theorem V5_v4 : (V5 m ρ c main_v4 : S512x1024.Idx → EReal) = a6 m c := (V5_of m ρ c main_v4 (by decide)).trans (V4_v4 m ρ c)
theorem V6_v4 : (V6 m ρ c main_v4 : S512x1024.Idx → EReal) = a6 m c := (V6_of m ρ c main_v4 (by decide)).trans (V5_v4 m ρ c)
theorem V7_v4 : (V7 m ρ c main_v4 : S512x1024.Idx → EReal) = a6 m c := (V7_of m ρ c main_v4 (by decide)).trans (V6_v4 m ρ c)
theorem V8_v4 : (V8 m ρ c main_v4 : S512x1024.Idx → EReal) = a6 m c := (V8_of m ρ c main_v4 (by decide)).trans (V7_v4 m ρ c)
theorem V2_v5 : (V2 m ρ c main_v5 : S1024x1024.Idx → EReal) = a7 m c := (V2_of m ρ c main_v5 (by decide)).trans (V1_v5 m ρ c)
theorem V3_v5 : (V3 m ρ c main_v5 : S1024x1024.Idx → EReal) = a7 m c := (V3_of m ρ c main_v5 (by decide)).trans (V2_v5 m ρ c)
theorem V4_v5 : (V4 m ρ c main_v5 : S1024x1024.Idx → EReal) = a7 m c := (V4_of m ρ c main_v5 (by decide)).trans (V3_v5 m ρ c)
theorem V5_v5 : (V5 m ρ c main_v5 : S1024x1024.Idx → EReal) = a7 m c := (V5_of m ρ c main_v5 (by decide)).trans (V4_v5 m ρ c)
theorem V2_arg0 : (V2 m ρ c main_arg0 : S8192x1024.Idx → EReal) = a0 m c := (V2_of m ρ c main_arg0 (by decide)).trans (V1_arg0 m ρ c)
theorem V3_arg0 : (V3 m ρ c main_arg0 : S8192x1024.Idx → EReal) = a0 m c := (V3_of m ρ c main_arg0 (by decide)).trans (V2_arg0 m ρ c)
theorem V4_arg0 : (V4 m ρ c main_arg0 : S8192x1024.Idx → EReal) = a0 m c := (V4_of m ρ c main_arg0 (by decide)).trans (V3_arg0 m ρ c)
theorem V2_arg4 : (V2 m ρ c main_arg4 : S2x1024.Idx → EReal) = a4 m c := (V2_of m ρ c main_arg4 (by decide)).trans (V1_arg4 m ρ c)
theorem V3_arg4 : (V3 m ρ c main_arg4 : S2x1024.Idx → EReal) = a4 m c := (V3_of m ρ c main_arg4 (by decide)).trans (V2_arg4 m ρ c)
theorem V4_arg4 : (V4 m ρ c main_arg4 : S2x1024.Idx → EReal) = a4 m c := (V4_of m ρ c main_arg4 (by decide)).trans (V3_arg4 m ρ c)
theorem V5_arg4 : (V5 m ρ c main_arg4 : S2x1024.Idx → EReal) = a4 m c := (V5_of m ρ c main_arg4 (by decide)).trans (V4_arg4 m ρ c)
theorem V6_arg4 : (V6 m ρ c main_arg4 : S2x1024.Idx → EReal) = a4 m c := (V6_of m ρ c main_arg4 (by decide)).trans (V5_arg4 m ρ c)
theorem V2_arg8 : (V2 m ρ c main_arg8 : S1x1024.Idx → EReal) = a8 m c := (V2_of m ρ c main_arg8 (by decide)).trans (V1_arg8 m ρ c)
theorem V3_arg8 : (V3 m ρ c main_arg8 : S1x1024.Idx → EReal) = a8 m c := (V3_of m ρ c main_arg8 (by decide)).trans (V2_arg8 m ρ c)
theorem V4_arg8 : (V4 m ρ c main_arg8 : S1x1024.Idx → EReal) = a8 m c := (V4_of m ρ c main_arg8 (by decide)).trans (V3_arg8 m ρ c)
theorem V2_arg9 : (V2 m ρ c main_arg9 : S8192x1024.Idx → EReal) = a9 m c := (V2_of m ρ c main_arg9 (by decide)).trans (V1_arg9 m ρ c)
theorem V3_arg9 : (V3 m ρ c main_arg9 : S8192x1024.Idx → EReal) = a9 m c := (V3_of m ρ c main_arg9 (by decide)).trans (V2_arg9 m ρ c)
theorem V4_arg9 : (V4 m ρ c main_arg9 : S8192x1024.Idx → EReal) = a9 m c := (V4_of m ρ c main_arg9 (by decide)).trans (V3_arg9 m ρ c)
theorem V5_arg9 : (V5 m ρ c main_arg9 : S8192x1024.Idx → EReal) = a9 m c := (V5_of m ρ c main_arg9 (by decide)).trans (V4_arg9 m ρ c)
theorem V2_v6 : (V2 m ρ c main_v6 : S8192x1024.Idx → EReal) = mPA (a2 m c) (a5 m c) :=
  (W2_arr m ρ c 2).trans ((arr0_2 (V1 m ρ) c).trans (by rw [V1_v1, V1_v3]; rfl))
theorem V3_v6 : (V3 m ρ c main_v6 : S8192x1024.Idx → EReal) = mPA (a2 m c) (a5 m c) := (V3_of m ρ c main_v6 (by decide)).trans (V2_v6 m ρ c)
theorem V4_v6 : (V4 m ρ c main_v6 : S8192x1024.Idx → EReal) = mPA (a2 m c) (a5 m c) := (V4_of m ρ c main_v6 (by decide)).trans (V3_v6 m ρ c)
theorem V5_v6 : (V5 m ρ c main_v6 : S8192x1024.Idx → EReal) = mPA (a2 m c) (a5 m c) := (V5_of m ρ c main_v6 (by decide)).trans (V4_v6 m ρ c)
theorem V6_v6 : (V6 m ρ c main_v6 : S8192x1024.Idx → EReal) = mPA (a2 m c) (a5 m c) := (V6_of m ρ c main_v6 (by decide)).trans (V5_v6 m ρ c)
theorem V3_v7 : (V3 m ρ c main_v7 : S8192x1024.Idx → EReal) = mPB (a3 m c) (a6 m c) :=
  (W3_arr m ρ c 2).trans ((arr1_2 (V2 m ρ) c).trans (by rw [V2_v2, V2_v4]; rfl))
theorem V4_v7 : (V4 m ρ c main_v7 : S8192x1024.Idx → EReal) = mPB (a3 m c) (a6 m c) := (V4_of m ρ c main_v7 (by decide)).trans (V3_v7 m ρ c)
theorem V5_v7 : (V5 m ρ c main_v7 : S8192x1024.Idx → EReal) = mPB (a3 m c) (a6 m c) := (V5_of m ρ c main_v7 (by decide)).trans (V4_v7 m ρ c)
theorem V6_v7 : (V6 m ρ c main_v7 : S8192x1024.Idx → EReal) = mPB (a3 m c) (a6 m c) := (V6_of m ρ c main_v7 (by decide)).trans (V5_v7 m ρ c)
theorem V4_v8 : (V4 m ρ c main_v8 : S8192x1024.Idx → EReal) = mMG (a1 m c) (a2 m c) (a3 m c) (a4 m c) (a5 m c) (a6 m c) :=
  (W4_arr m ρ c 5).trans ((arr2_5 (V3 m ρ) c).trans (by rw [V3_v0, V3_arg4, V3_v6, V3_v7]; rfl))
theorem V5_v9_0 : (V5 m ρ c main_v9_0 : S8192x1024.Idx → EReal) = mX (a0 m c) (a1 m c) (a2 m c) (a3 m c) (a4 m c) (a5 m c) (a6 m c) (a7 m c) :=
  (W5_arr m ρ c 4).trans ((arr3_4 (V4 m ρ) c).trans (by rw [V4_v8, V4_v5, V4_arg0]; rfl))
theorem V6_v9_0 : (V6 m ρ c main_v9_0 : S8192x1024.Idx → EReal) = mX (a0 m c) (a1 m c) (a2 m c) (a3 m c) (a4 m c) (a5 m c) (a6 m c) (a7 m c) := (V6_of m ρ c main_v9_0 (by decide)).trans (V5_v9_0 m ρ c)
theorem V7_v9_0 : (V7 m ρ c main_v9_0 : S8192x1024.Idx → EReal) = mX (a0 m c) (a1 m c) (a2 m c) (a3 m c) (a4 m c) (a5 m c) (a6 m c) (a7 m c) := (V7_of m ρ c main_v9_0 (by decide)).trans (V6_v9_0 m ρ c)
theorem V8_v9_0 : (V8 m ρ c main_v9_0 : S8192x1024.Idx → EReal) = mX (a0 m c) (a1 m c) (a2 m c) (a3 m c) (a4 m c) (a5 m c) (a6 m c) (a7 m c) := (V8_of m ρ c main_v9_0 (by decide)).trans (V7_v9_0 m ρ c)
theorem W9_v9_0 : (W9 m ρ c (Proc.devRef .tc main_v9_0) : S8192x1024.Idx → EReal) = mX (a0 m c) (a1 m c) (a2 m c) (a3 m c) (a4 m c) (a5 m c) (a6 m c) (a7 m c) := (W9_of m ρ c main_v9_0 (by decide)).trans (V8_v9_0 m ρ c)
theorem V5_v9_1 : (V5 m ρ c main_v9_1 : S8192x1024.Idx → EReal) = mN (a0 m c) (a1 m c) (a2 m c) (a3 m c) (a4 m c) (a5 m c) (a6 m c) (a7 m c) (a8 m c) :=
  (W5_arr m ρ c 5).trans ((arr3_5 (V4 m ρ) c).trans (by rw [V4_v8, V4_v5, V4_arg0, V4_arg8]; rfl))
theorem V6_v9_1 : (V6 m ρ c main_v9_1 : S8192x1024.Idx → EReal) = mN (a0 m c) (a1 m c) (a2 m c) (a3 m c) (a4 m c) (a5 m c) (a6 m c) (a7 m c) (a8 m c) := (V6_of m ρ c main_v9_1 (by decide)).trans (V5_v9_1 m ρ c)
theorem V7_v9_1 : (V7 m ρ c main_v9_1 : S8192x1024.Idx → EReal) = mN (a0 m c) (a1 m c) (a2 m c) (a3 m c) (a4 m c) (a5 m c) (a6 m c) (a7 m c) (a8 m c) := (V7_of m ρ c main_v9_1 (by decide)).trans (V6_v9_1 m ρ c)
theorem V8_v9_1 : (V8 m ρ c main_v9_1 : S8192x1024.Idx → EReal) = mN (a0 m c) (a1 m c) (a2 m c) (a3 m c) (a4 m c) (a5 m c) (a6 m c) (a7 m c) (a8 m c) := (V8_of m ρ c main_v9_1 (by decide)).trans (V7_v9_1 m ρ c)
theorem W9_v9_1 : (W9 m ρ c (Proc.devRef .tc main_v9_1) : S8192x1024.Idx → EReal) = mN (a0 m c) (a1 m c) (a2 m c) (a3 m c) (a4 m c) (a5 m c) (a6 m c) (a7 m c) (a8 m c) := (W9_of m ρ c main_v9_1 (by decide)).trans (V8_v9_1 m ρ c)
theorem V6_v10 : (V6 m ρ c main_v10 : S8192x1024.Idx → EReal) = mDM (a7 m c) (a9 m c) :=
  (W6_arr m ρ c 2).trans ((arr4_2 (V5 m ρ) c).trans (by rw [V5_arg9, V5_v5]; rfl))
theorem V7_v11_0 : (V7 m ρ c main_v11_0 : S8192x1024.Idx → EReal) = mD 0 (a1 m c) (a4 m c) (a7 m c) (a9 m c) :=
  (W7_arr m ρ c 6).trans ((arr5_6 (V6 m ρ) c).trans (by rw [V6_v10, V6_v0, V6_arg4]; rfl))
theorem V7_v11_1 : (V7 m ρ c main_v11_1 : S8192x1024.Idx → EReal) = mD 1 (a1 m c) (a4 m c) (a7 m c) (a9 m c) :=
  (W7_arr m ρ c 7).trans ((arr5_7 (V6 m ρ) c).trans (by rw [V6_v10, V6_v0, V6_arg4]; rfl))
theorem V8_v11_1 : (V8 m ρ c main_v11_1 : S8192x1024.Idx → EReal) = mD 1 (a1 m c) (a4 m c) (a7 m c) (a9 m c) := (V8_of m ρ c main_v11_1 (by decide)).trans (V7_v11_1 m ρ c)
theorem V7_v11_2 : (V7 m ρ c main_v11_2 : S8192x1024.Idx → EReal) = mG 0 (mPA (a2 m c) (a5 m c)) (a1 m c) (a4 m c) (a7 m c) (a9 m c) :=
  (W7_arr m ρ c 8).trans ((arr5_8 (V6 m ρ) c).trans (by rw [V6_v10, V6_v0, V6_arg4, V6_v6]; rfl))
theorem V8_v11_2 : (V8 m ρ c main_v11_2 : S8192x1024.Idx → EReal) = mG 0 (mPA (a2 m c) (a5 m c)) (a1 m c) (a4 m c) (a7 m c) (a9 m c) := (V8_of m ρ c main_v11_2 (by decide)).trans (V7_v11_2 m ρ c)
theorem W9_v11_2 : (W9 m ρ c (Proc.devRef .tc main_v11_2) : S8192x1024.Idx → EReal) = mG 0 (mPA (a2 m c) (a5 m c)) (a1 m c) (a4 m c) (a7 m c) (a9 m c) := (W9_of m ρ c main_v11_2 (by decide)).trans (V8_v11_2 m ρ c)
theorem V7_v11_3 : (V7 m ρ c main_v11_3 : S8192x1024.Idx → EReal) = mG 1 (mPB (a3 m c) (a6 m c)) (a1 m c) (a4 m c) (a7 m c) (a9 m c) :=
  (W7_arr m ρ c 9).trans ((arr5_9 (V6 m ρ) c).trans (by rw [V6_v10, V6_v0, V6_arg4, V6_v7]; rfl))
theorem V8_v11_3 : (V8 m ρ c main_v11_3 : S8192x1024.Idx → EReal) = mG 1 (mPB (a3 m c) (a6 m c)) (a1 m c) (a4 m c) (a7 m c) (a9 m c) := (V8_of m ρ c main_v11_3 (by decide)).trans (V7_v11_3 m ρ c)
theorem W9_v11_3 : (W9 m ρ c (Proc.devRef .tc main_v11_3) : S8192x1024.Idx → EReal) = mG 1 (mPB (a3 m c) (a6 m c)) (a1 m c) (a4 m c) (a7 m c) (a9 m c) := (W9_of m ρ c main_v11_3 (by decide)).trans (V8_v11_3 m ρ c)
theorem V8_v12 : (V8 m ρ c main_v12 : S8192x1024.Idx → EReal) = mOA (a1 m c) (a4 m c) (a5 m c) (a7 m c) (a9 m c) :=
  (W8_arr m ρ c 2).trans ((arr6_2 (V7 m ρ) c).trans (by rw [V7_v11_0, V7_v3]; rfl))
theorem W9_v12 : (W9 m ρ c (Proc.devRef .tc main_v12) : S8192x1024.Idx → EReal) = mOA (a1 m c) (a4 m c) (a5 m c) (a7 m c) (a9 m c) := (W9_of m ρ c main_v12 (by decide)).trans (V8_v12 m ρ c)
theorem W9_v13 : (W9 m ρ c (Proc.devRef .tc main_v13) : S8192x512.Idx → EReal) = mOB (a1 m c) (a4 m c) (a6 m c) (a7 m c) (a9 m c) :=
  (W9_arr m ρ c 2).trans ((arr7_2 (V8 m ρ) c).trans (by rw [V8_v11_1, V8_v4]; rfl))

end Cert.Kernel8Ideal.Val

namespace Cert.Reference8Ideal.Val

open Idealize.ShloMosaic TcCoe Tactic
open Cert.Reference8Ideal Cert.Reference8Ideal.Gen Cert.Reference8Ideal.Read Cert.Lin

open Cert.Kernel8Ideal.Val (gt mPA mPB mMG mX mN mDM mD mG mOA mOB)

variable {x0 : (⟨S8192x1024, .f32⟩ : BufTy).Contents (Elt Ideal)} {x1 : (⟨S8192x4096, .f32⟩ : BufTy).Contents (Elt Ideal)} {x2 : (⟨S8192x1024, .f32⟩ : BufTy).Contents (Elt Ideal)} {x3 : (⟨S8192x512, .f32⟩ : BufTy).Contents (Elt Ideal)} {x4 : (⟨S2x1024, .f32⟩ : BufTy).Contents (Elt Ideal)} {x5 : (⟨S1024x1024, .f32⟩ : BufTy).Contents (Elt Ideal)} {x6 : (⟨S512x1024, .f32⟩ : BufTy).Contents (Elt Ideal)} {x7 : (⟨S1024x1024, .f32⟩ : BufTy).Contents (Elt Ideal)} {x8 : (⟨S1x1024, .f32⟩ : BufTy).Contents (Elt Ideal)} {x9 : (⟨S8192x1024, .f32⟩ : BufTy).Contents (Elt Ideal)}

theorem r12 (y : S8192x1024.Idx) : val_main_v12 (F := Ideal) x1 x4 y = gt x1 x4 0 (y 0) (y 1) := by
  have e : val_main_v12 (F := Ideal) x1 x4 y = Ideal.div (Ideal.ofBits .f32 0x3F800000#32) (Ideal.ofBits .f32 0x3F800000#32 + Ideal.exp (-(val_main_v6 (F := Ideal) x1 x4 y))) := rfl
  have e' : val_main_v6 (F := Ideal) x1 x4 y = x1 (ix2 (y 0) ⟨1024 * ((0 : Fin 2) : ℕ) + (y 1).val, Nat.lt_of_lt_of_le (Nat.add_lt_add_left (y 1).isLt _) (by decide)⟩) + x4 (ix2 0 (y 1)) := by
    rw [val_main_v6_apply, val_main_v0_apply, val_main_v5_apply, val_main_v4_apply, val_main_v3_apply, val_main_v2_apply]
    exact congrArg₂ (fun p q : EReal => p + q) (congrArg x1 (idx_eq (by first | rfl | (simp; done)) (by first | rfl | (simp; done) | (simp; omega)))) (congrArg x4 (idx_eq (by first | rfl | (simp; done)) (by first | rfl | (simp; done) | (simp; omega))))
  rw [e, e', c1]
  unfold gt sg
  rw [zero_sub]

theorem r28 (y : S8192x1024.Idx) : val_main_v28 (F := Ideal) x1 x4 y = gt x1 x4 1 (y 0) (y 1) := by
  have e : val_main_v28 (F := Ideal) x1 x4 y = Ideal.div (Ideal.ofBits .f32 0x3F800000#32) (Ideal.ofBits .f32 0x3F800000#32 + Ideal.exp (-(val_main_v22 (F := Ideal) x1 x4 y))) := rfl
  have e' : val_main_v22 (F := Ideal) x1 x4 y = x1 (ix2 (y 0) ⟨1024 * ((1 : Fin 2) : ℕ) + (y 1).val, Nat.lt_of_lt_of_le (Nat.add_lt_add_left (y 1).isLt _) (by decide)⟩) + x4 (ix2 1 (y 1)) := by
    rw [val_main_v22_apply, val_main_v1_apply, val_main_v21_apply, val_main_v20_apply, val_main_v19_apply, val_main_v18_apply]
    exact congrArg₂ (fun p q : EReal => p + q) (congrArg x1 (idx_eq (by first | rfl | (simp; done)) (by first | rfl | (simp; done) | (simp; omega)))) (congrArg x4 (idx_eq (by first | rfl | (simp; done)) (by first | rfl | (simp; done) | (simp; omega))))
  rw [e, e', c1]
  unfold gt sg
  rw [zero_sub]

theorem r15 (y : S8192x1024.Idx) : val_main_v15 (F := Ideal) x1 x4 y = gt x1 x4 0 (y 0) (y 1) * (1 - gt x1 x4 0 (y 0) (y 1)) := by
  have e : val_main_v15 (F := Ideal) x1 x4 y = val_main_v12 (F := Ideal) x1 x4 y * (Ideal.ofBits .f32 0x3F800000#32 - val_main_v12 (F := Ideal) x1 x4 y) := rfl
  rw [e, r12, c1]

theorem r31 (y : S8192x1024.Idx) : val_main_v31 (F := Ideal) x1 x4 y = gt x1 x4 1 (y 0) (y 1) * (1 - gt x1 x4 1 (y 0) (y 1)) := by
  have e : val_main_v31 (F := Ideal) x1 x4 y = val_main_v28 (F := Ideal) x1 x4 y * (Ideal.ofBits .f32 0x3F800000#32 - val_main_v28 (F := Ideal) x1 x4 y) := rfl
  rw [e, r28, c1]

theorem r16  (y : S8192x1024.Idx) : val_main_v16 (F := Ideal) x2 x5 y = mPA x2 x5 y := by
  rw [val_main_v16_apply]
  unfold mPA
  exact Finset.sum_congr rfl fun k _ => congrArg₂ (· * ·) (congrArg (x2) (idx_eq rfl rfl)) (congrArg (x5) (idx_eq rfl rfl))

theorem r32  (y : S8192x1024.Idx) : val_main_v32 (F := Ideal) x3 x6 y = mPB x3 x6 y := by
  rw [val_main_v32_apply]
  unfold mPB
  exact Finset.sum_congr rfl fun k _ => congrArg₂ (· * ·) (congrArg (x3) (idx_eq rfl rfl)) (congrArg (x6) (idx_eq rfl rfl))

theorem r50  (y : S8192x1024.Idx) : val_main_v50 (F := Ideal) x7 x9 y = mDM x7 x9 y := by
  rw [val_main_v50_apply]
  unfold mDM
  exact Finset.sum_congr rfl fun k _ => congrArg₂ (· * ·) (congrArg (x9) (idx_eq rfl rfl)) (congrArg (x7) (idx_eq rfl rfl))

theorem r34 (y : S8192x1024.Idx) : val_main_v34 (F := Ideal) x1 x2 x3 x4 x5 x6 y = mMG x1 x2 x3 x4 x5 x6 y :=
  (show val_main_v34 (F := Ideal) x1 x2 x3 x4 x5 x6 y = val_main_v12 (F := Ideal) x1 x4 y * val_main_v16 (F := Ideal) x2 x5 y + val_main_v28 (F := Ideal) x1 x4 y * val_main_v32 (F := Ideal) x3 x6 y from rfl).trans
    (congrArg₂ (fun p q : EReal => p + q) (congrArg₂ (fun p q : EReal => p * q) (r12 y) (r16 y)) (congrArg₂ (fun p q : EReal => p * q) (r28 y) (r32 y)))

theorem r36 : val_main_v36 (F := Ideal) x0 x1 x2 x3 x4 x5 x6 x7 = mX x0 x1 x2 x3 x4 x5 x6 x7 := by
  funext y
  have e : val_main_v36 (F := Ideal) x0 x1 x2 x3 x4 x5 x6 x7 y = x0 y + val_main_v35 (F := Ideal) x1 x2 x3 x4 x5 x6 x7 y := rfl
  rw [e, val_main_v35_apply, add_comm]
  exact congrArg (fun p : EReal => p + x0 y) (Finset.sum_congr rfl fun k _ => congrArg₂ (· * ·) ((r34 _).trans (congrArg (mMG x1 x2 x3 x4 x5 x6) (idx_eq rfl rfl))) (congrArg x7 (idx_eq rfl rfl)))

/-- The norm of the rows. -/
theorem r48  (y : S8192x1024.Idx) : val_main_v48 (F := Ideal) x0 x1 x2 x3 x4 x5 x6 x7 x8 y = rn (M := 8192) (K := 1024) (val_main_v36 (F := Ideal) x0 x1 x2 x3 x4 x5 x6 x7) x8 y := by
  obtain ⟨u, v, rfl⟩ := idx2_self y
  rw [val_main_v48_apply, val_main_v46_apply, val_main_v45_apply, val_main_v44_apply, val_main_v43_apply, val_main_v41_apply, val_main_v39_apply, val_main_v38_apply, val_main_v40_apply, val_main_v42_apply, val_main_v47_apply]
  generalize hX : (val_main_v36 (F := Ideal) x0 x1 x2 x3 x4 x5 x6 x7) = X
  have e : ∀ i : S8192x1024.Idx, val_main_v37 (F := Ideal) x0 x1 x2 x3 x4 x5 x6 x7 i = X i * X i := fun i => by subst hX; rfl
  simp only [e]
  show X (ix2 u v) * Ideal.rsqrt (Ideal.div (Ideal.ofBits .f32 0x00000000#32 + ∑ k : Fin 1024, X _ * X _) _ + _) * x8 _ = X (ix2 u v) * Ideal.rsqrt (Ideal.div (∑ k : Fin 1024, X (ix2 u k) * X (ix2 u k)) _ + _) * x8 (ix2 0 v)
  rw [c0, zero_add]
  refine congrArg₂ (fun p q : EReal => p * q) (congrArg (fun p : EReal => X (ix2 u v) * Ideal.rsqrt (Ideal.div p _ + _)) (Finset.sum_congr rfl fun k _ => ?_)) (congrArg x8 (idx_eq rfl rfl))
  exact congrArg₂ (fun p q : EReal => p * q) (congrArg X (idx_eq rfl rfl)) (congrArg X (idx_eq rfl rfl))

theorem r48' (y : S8192x1024.Idx) : val_main_v48 (F := Ideal) x0 x1 x2 x3 x4 x5 x6 x7 x8 y = mN x0 x1 x2 x3 x4 x5 x6 x7 x8 y :=
  (r48 y).trans (by rw [r36]; rfl)

theorem r55 (y : S8192x1024.Idx) : val_main_v55 (F := Ideal) x1 x4 x7 x9 y = mD 0 x1 x4 x7 x9 y :=
  (show val_main_v55 (F := Ideal) x1 x4 x7 x9 y = val_main_v12 (F := Ideal) x1 x4 y * val_main_v50 (F := Ideal) x7 x9 y from rfl).trans
    ((congrArg₂ (fun p q : EReal => p * q) (r12 y) (r50 y)).trans (mul_comm _ _))

theorem r51 (y : S8192x1024.Idx) : val_main_v51 (F := Ideal) x1 x4 x7 x9 y = mD 1 x1 x4 x7 x9 y :=
  (show val_main_v51 (F := Ideal) x1 x4 x7 x9 y = val_main_v28 (F := Ideal) x1 x4 y * val_main_v50 (F := Ideal) x7 x9 y from rfl).trans
    ((congrArg₂ (fun p q : EReal => p * q) (r28 y) (r50 y)).trans (mul_comm _ _))

theorem r58 (y : S8192x1024.Idx) : val_main_v58 (F := Ideal) x1 x2 x4 x5 x7 x9 y = mG 0 (mPA x2 x5) x1 x4 x7 x9 y :=
  (show val_main_v58 (F := Ideal) x1 x2 x4 x5 x7 x9 y = val_main_v50 (F := Ideal) x7 x9 y * val_main_v16 (F := Ideal) x2 x5 y * val_main_v15 (F := Ideal) x1 x4 y from rfl).trans
    ((congrArg₂ (fun p q : EReal => p * q) (congrArg₂ (fun p q : EReal => p * q) (r50 y) (r16 y)) (r15 y)).trans (mul_assoc _ _ _).symm)

theorem r54 (y : S8192x1024.Idx) : val_main_v54 (F := Ideal) x1 x3 x4 x6 x7 x9 y = mG 1 (mPB x3 x6) x1 x4 x7 x9 y :=
  (show val_main_v54 (F := Ideal) x1 x3 x4 x6 x7 x9 y = val_main_v50 (F := Ideal) x7 x9 y * val_main_v32 (F := Ideal) x3 x6 y * val_main_v31 (F := Ideal) x1 x4 y from rfl).trans
    ((congrArg₂ (fun p q : EReal => p * q) (congrArg₂ (fun p q : EReal => p * q) (r50 y) (r32 y)) (r31 y)).trans (mul_assoc _ _ _).symm)

theorem r57  (y : S8192x1024.Idx) : val_main_v57 (F := Ideal) x1 x4 x5 x7 x9 y = mOA x1 x4 x5 x7 x9 y := by
  rw [val_main_v57_apply]
  unfold mOA
  exact Finset.sum_congr rfl fun k _ => congrArg₂ (· * ·) ((r55 _).trans (congrArg (mD 0 x1 x4 x7 x9) (idx_eq rfl rfl))) (congrArg (x5) (idx_eq rfl rfl))

theorem r53  (y : S8192x512.Idx) : val_main_v53 (F := Ideal) x1 x4 x6 x7 x9 y = mOB x1 x4 x6 x7 x9 y := by
  rw [val_main_v53_apply]
  unfold mOB
  exact Finset.sum_congr rfl fun k _ => congrArg₂ (· * ·) ((r51 _).trans (congrArg (mD 1 x1 x4 x7 x9) (idx_eq rfl rfl))) (congrArg (x6) (idx_eq rfl rfl))

end Cert.Reference8Ideal.Val

namespace Cert.Kernel8Ideal.Val

open Idealize.ShloMosaic TcCoe Tactic
open Idealize.ShloMosaic.Pipeline (Dat)
open Cert.Kernel8Ideal Cert.Kernel8Ideal.Gen Cert.Lin
open Idealize.SL Idealize.SL.RA Idealize.SL.BI
open scoped Idealize.SL.BI
open Idealize.SL.BI.BIBase Idealize.SL.BI.Laws Idealize.SL.ProofMode Idealize.SL.Sem
open Idealize.ShloMosaic.Rounds

section run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, and every buffer ends at what the segments leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

end run

/-- The value claim. -/
theorem algebraic : Cert.algebraic_Kernel8Ideal_Reference8Ideal := by
  intro m g m' g' _ hagree
  refine ⟨fun c => mX (a0 m c) (a1 m c) (a2 m c) (a3 m c) (a4 m c) (a5 m c) (a6 m c) (a7 m c), fun c => mN (a0 m c) (a1 m c) (a2 m c) (a3 m c) (a4 m c) (a5 m c) (a6 m c) (a7 m c) (a8 m c), fun c => mG 0 (mPA (a2 m c) (a5 m c)) (a1 m c) (a4 m c) (a7 m c) (a9 m c), fun c => mG 1 (mPB (a3 m c) (a6 m c)) (a1 m c) (a4 m c) (a7 m c) (a9 m c), fun c => mOA (a1 m c) (a4 m c) (a5 m c) (a7 m c) (a9 m c), fun c => mOB (a1 m c) (a4 m c) (a6 m c) (a7 m c) (a9 m c), ?_, ?_⟩
  · refine θ_run_mono (run_all m g) ?_
    intro r h c
    exact ⟨(h c _ (mem_uc main_v9_0 (by decide))).trans (W9_v9_0 m g c), (h c _ (mem_uc main_v9_1 (by decide))).trans (W9_v9_1 m g c), (h c _ (mem_uc main_v11_2 (by decide))).trans (W9_v11_2 m g c), (h c _ (mem_uc main_v11_3 (by decide))).trans (W9_v11_3 m g c), (h c _ (mem_uc main_v12 (by decide))).trans (W9_v12 m g c), (h c _ (mem_uc main_v13 (by decide))).trans (W9_v13 m g c), (h c _ (mem_uc main_arg0 (by decide))).trans (W9_main_arg0 m g c), (h c _ (mem_uc main_arg1 (by decide))).trans (W9_main_arg1 m g c), (h c _ (mem_uc main_arg2 (by decide))).trans (W9_main_arg2 m g c), (h c _ (mem_uc main_arg3 (by decide))).trans (W9_main_arg3 m g c), (h c _ (mem_uc main_arg4 (by decide))).trans (W9_main_arg4 m g c), (h c _ (mem_uc main_arg5 (by decide))).trans (W9_main_arg5 m g c), (h c _ (mem_uc main_arg6 (by decide))).trans (W9_main_arg6 m g c), (h c _ (mem_uc main_arg7 (by decide))).trans (W9_main_arg7 m g c), (h c _ (mem_uc main_arg8 (by decide))).trans (W9_main_arg8 m g c), (h c _ (mem_uc main_arg9 (by decide))).trans (W9_main_arg9 m g c)⟩
  · refine θ_run_mono (Cert.Reference8Ideal.Value.run m' g') ?_
    intro r h c
    obtain ⟨h0, h1, h2, h3, h4, h5, ha⟩ := h c
    obtain ⟨a0, a1, a2, a3, a4, a5, a6, a7, a8, a9⟩ := hagree c
    rw [Cert.Reference8Ideal.Read.val_main_v36_eq, a0, a1, a2, a3, a4, a5, a6, a7] at h0
    rw [Cert.Reference8Ideal.Read.val_main_v49_eq, a0, a1, a2, a3, a4, a5, a6, a7, a8] at h1
    rw [Cert.Reference8Ideal.Read.val_main_v59_eq, a1, a2, a4, a5, a7, a9] at h2
    rw [Cert.Reference8Ideal.Read.val_main_v60_eq, a1, a3, a4, a6, a7, a9] at h3
    rw [Cert.Reference8Ideal.Read.val_main_v61_eq, a1, a4, a5, a7, a9] at h4
    rw [Cert.Reference8Ideal.Read.val_main_v62_eq, a1, a4, a6, a7, a9] at h5
    exact ⟨h0.trans (funext fun y => congrFun Cert.Reference8Ideal.Val.r36 y), h1.trans (funext fun y => Cert.Reference8Ideal.Val.r48' y), h2.trans (funext fun y => Cert.Reference8Ideal.Val.r58 y), h3.trans (funext fun y => Cert.Reference8Ideal.Val.r54 y), h4.trans (funext fun y => Cert.Reference8Ideal.Val.r57 y), h5.trans (funext fun y => Cert.Reference8Ideal.Val.r53 y), ha⟩

end Cert.Kernel8Ideal.Val
-- ==== Proof.Dw9.lean ====
module

public import proofs.«01_k».proof.Proof.Sums
public import proofs.«01_k».proof.Proof.Gen.Kernel9Ideal.Value
public import proofs.«01_k».proof.Proof.Gen.Reference9Ideal.Read
public import Idealize.ShloMosaic.Lib.Pipeline.ValueKit
public import Idealize.ShloMosaic.Lib.StableHlo.RunRead

/-!
# The gradient of the output projection’s weights

The kernel adds up the products of the rows of its two operands 1024 rows at a time, in a scratch buffer it keeps between
grid points; at the last of the eight it writes the sum out. So each entry of the result is the sum over all 8192 rows.
-/

@[expose] public section

set_option maxRecDepth 16384

namespace Cert.Kernel9Ideal.Val

open Idealize.ShloMosaic TcCoe Tactic
open Idealize.ShloMosaic.Pipeline (Dat)
open Cert.Kernel9Ideal Cert.Kernel9Ideal.Gen Cert.Feed

/-- The block the first of the eight points starts from. -/
theorem pay1_at (a : Fin 1024) (b : Fin 1024) : k0_pay1 (F := Ideal) (ix2 a b : S1024x1024.Idx) = (0 : EReal) := by
  pointwise [k0_pay1]

/-- One step of the sum. -/
theorem pay2_at (x : Vec Ideal S1024x1024 .bf16) (o : Vec Ideal S1024x1024 .f32) (w : Vec Ideal S1024x1024 .f32) (a : Fin 1024) (b : Fin 1024) :
    k0_pay2 (F := Ideal) x o w (ix2 a b : S1024x1024.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x1024 .bf16) (hp : p.IsWhole)
  (q : Memref sig .tc .vmem S1024x1024 .f32) (hq : q.IsWhole) (r : Memref sig .tc .vmem S1024x1024 .f32) (hr : r.IsWhole)
  (s : Memref sig .tc .vmem S1024x1024 .f32) (hs : s.IsWhole) (x0 : Vec Ideal S1024x1024 .bf16) (x1 : Vec Ideal S1024x1024 .f32) (xs : Vec Ideal S1024x1024 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S1024x1024) hz, View.readCov_unit_zero (S := S1024x1024) _ hz]
  simp only [View.readAt_eq_ld, hp.read_unread, hq.read_unread, View.ld_unit_zero (S := S1024x1024) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S1024x1024) hz]
  simp only [View.readAt_eq_ld, hp.read_unread, hq.read_unread, hs.read_unread, View.ld_unit_zero (S := S1024x1024) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S1024x1024) hz]
  simp only [View.readAt_eq_ld, hp.read_unread, hq.read_unread, hs.read_unread, View.ld_unit_zero (S := S1024x1024) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S1024x1024) hz, View.readCov_unit_zero (S := S1024x1024) _ hz]
  simp only [View.readAt_eq_ld, hp.read_unread, hq.read_unread, hs.read_unread, View.ld_unit_zero (S := S1024x1024) hz]

end pieces

theorem lt0 (t : Fin cfg0.N) : t.val < 8 := t.isLt

theorem idx0 : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x1024.Idx → EReal := V m c main_v0
noncomputable def opB : S8192x1024.Idx → EReal := V m c main_arg1

/-- The products one entry of the result adds up. -/
noncomputable def prods (a : Fin 1024) (b : Fin 1024) : Fin 8192 → EReal := fun k => opA m c (ix2 k a) * opB m c (ix2 k b)

/-- The column of an operand a block's column is. -/
def colA (n : ℕ) (hn : n < 8) (a : Fin 1024) : Fin 1024 := ⟨1024 * (0) + a.val, by omega⟩
def colB (n : ℕ) (hn : n < 8) (b : Fin 1024) : Fin 1024 := ⟨1024 * (0) + b.val, by omega⟩

theorem blkA (t : Fin cfg0.N) (k : Fin 1024) (a : Fin 1024) (r : Fin 8192) (hr : r.val = 1024 * (t.val % 8) + k.val) :
    (iblk m c 0 t : Vec Ideal S1024x1024 .bf16) (ix2 k a) = opA m c (ix2 r (colA t.val (lt0 t) a)) := by
  refine Eq.trans (b := (V m c main_v0 : S8192x1024.Idx → EReal) (((cfg0.win 0).blk t).view.emb (ix2 k a : S1024x1024.Idx))) ?_ (congrArg (V m c main_v0 : S8192x1024.Idx → EReal) ?_)
  · blk_simp [iblk]
  · apply ext2 <;> apply Fin.ext <;> blk_simp [idx0 t]
    · simp [hr]; omega
    · simp [colA]; try omega

theorem blkB (t : Fin cfg0.N) (k : Fin 1024) (a : Fin 1024) (r : Fin 8192) (hr : r.val = 1024 * (t.val % 8) + k.val) :
    (iblk m c 1 t : Vec Ideal S1024x1024 .f32) (ix2 k a) = opB m c (ix2 r (colB t.val (lt0 t) a)) := by
  refine Eq.trans (b := (V m c main_arg1 : S8192x1024.Idx → EReal) (((cfg0.win 1).blk t).view.emb (ix2 k a : S1024x1024.Idx))) ?_ (congrArg (V m c main_arg1 : S8192x1024.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S1024x1024 .f32) (a : Fin 1024) (b : Fin 1024)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S1024x1024.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 1024) (b : Fin 1024),
    ((outsAt0 m c n hn).2 : Vec Ideal S1024x1024 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S1024x1024.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S1024x1024.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S1024x1024.Idx)).trans ?_
        dsimp only
        rw [sC]
        exact step m c ⟨n, hn⟩ _ a b hp
      · refine (congrFun (congrArg Prod.snd (outsAt0_B m c ⟨n, hn⟩ h0 h1)) (ix2 a b : S1024x1024.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 1024) (b : Fin 1024) :
    ((outsAt0 m c t.val t.isLt).1 : Vec Ideal S1024x1024 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S1024x1024.Idx → EReal := fun i => ∑ k, prods m c (i 0) (i 1) k

theorem arr : ((dats m 0 c).arrAt 2 cfg0.N : S1024x1024.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 1024) (d : Fin 1024), y = ix2 a d := ⟨y 0, y 1, ext2 rfl rfl⟩
  refine (out_scr m c t h7 a d).trans ?_
  rw [psum_full]
  unfold total
  have e0 : colA t.val (lt0 t) a = (((cfg0.win 2).blk t).view.emb (ix2 a d : S1024x1024.Idx) : S1024x1024.Idx) 0 := by
    apply Fin.ext; blk_simp [idx0 t]; simp [colA]; try omega
  have e1 : colB t.val (lt0 t) d = (((cfg0.win 2).blk t).view.emb (ix2 a d : S1024x1024.Idx) : S1024x1024.Idx) 1 := by
    apply Fin.ext; blk_simp [idx0 t]; simp [colB]; try omega
  rw [e0, e1]

theorem opA_eq : opA m c = (m ((c : Thread nD τ).loc main_arg0) : S8192x1024.Idx → EReal) := by
  unfold opA
  show StableHlo.after hostOps0 (fun b => m (c, b)) (Proc.devRef .tc main_v0) = _
  after_results_simp
  rfl

theorem opB_eq : opB m c = (m ((c : Thread nD τ).loc main_arg1) : S8192x1024.Idx → EReal) := by
  unfold opB
  exact V_main_arg1 m c

/-- The reference's result is the same sum, its factors in the other order. -/
theorem ref_total : (Cert.Reference9Ideal.Read.val_main_v3 (F := Ideal) (m ((c : Thread nD τ).loc main_arg0)) (m ((c : Thread nD τ).loc main_arg1)) : S1024x1024.Idx → EReal) = total m c := by
  funext i
  rw [Cert.Reference9Ideal.Read.val_main_v3_apply, Cert.Reference9Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel9Ideal.Val
-- ==== Proof.Dw10.lean ====
module

public import proofs.«01_k».proof.Proof.Sums
public import proofs.«01_k».proof.Proof.Gen.Kernel10Ideal.Value
public import proofs.«01_k».proof.Proof.Gen.Reference10Ideal.Read
public import Idealize.ShloMosaic.Lib.Pipeline.ValueKit
public import Idealize.ShloMosaic.Lib.StableHlo.RunRead

/-!
# The gradient of the first mixer’s projection

The kernel adds up the products of the rows of its two operands 1024 rows at a time, in a scratch buffer it keeps between
grid points; at the last of the eight it writes the sum out. So each entry of the result is the sum over all 8192 rows.
-/

@[expose] public section

set_option maxRecDepth 16384

namespace Cert.Kernel10Ideal.Val

open Idealize.ShloMosaic TcCoe Tactic
open Idealize.ShloMosaic.Pipeline (Dat)
open Cert.Kernel10Ideal Cert.Kernel10Ideal.Gen Cert.Feed

/-- The block the first of the eight points starts from. -/
theorem pay1_at (a : Fin 1024) (b : Fin 1024) : k0_pay1 (F := Ideal) (ix2 a b : S1024x1024.Idx) = (0 : EReal) := by
  pointwise [k0_pay1]

/-- One step of the sum. -/
theorem pay2_at (x : Vec Ideal S1024x1024 .bf16) (o : Vec Ideal S1024x1024 .f32) (w : Vec Ideal S1024x1024 .bf16) (a : Fin 1024) (b : Fin 1024) :
    k0_pay2 (F := Ideal) x o w (ix2 a b : S1024x1024.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x1024 .bf16) (hp : p.IsWhole)
  (q : Memref sig .tc .vmem S1024x1024 .bf16) (hq : q.IsWhole) (r : Memref sig .tc .vmem S1024x1024 .f32) (hr : r.IsWhole)
  (s : Memref sig .tc .vmem S1024x1024 .f32) (hs : s.IsWhole) (x0 : Vec Ideal S1024x1024 .bf16) (x1 : Vec Ideal S1024x1024 .bf16) (xs : Vec Ideal S1024x1024 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S1024x1024) hz, View.readCov_unit_zero (S := S1024x1024) _ hz]
  simp only [View.readAt_eq_ld, hp.read_unread, hq.read_unread, View.ld_unit_zero (S := S1024x1024) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S1024x1024) hz]
  simp only [View.readAt_eq_ld, hp.read_unread, hq.read_unread, hs.read_unread, View.ld_unit_zero (S := S1024x1024) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S1024x1024) hz]
  simp only [View.readAt_eq_ld, hp.read_unread, hq.read_unread, hs.read_unread, View.ld_unit_zero (S := S1024x1024) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S1024x1024) hz, View.readCov_unit_zero (S := S1024x1024) _ hz]
  simp only [View.readAt_eq_ld, hp.read_unread, hq.read_unread, hs.read_unread, View.ld_unit_zero (S := S1024x1024) hz]

end pieces

theorem lt0 (t : Fin cfg0.N) : t.val < 8 := t.isLt

theorem idx0 : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x1024.Idx → EReal := V m c main_v0
noncomputable def opB : S8192x1024.Idx → EReal := V m c main_v1

/-- The products one entry of the result adds up. -/
noncomputable def prods (a : Fin 1024) (b : Fin 1024) : Fin 8192 → EReal := fun k => opA m c (ix2 k a) * opB m c (ix2 k b)

/-- The column of an operand a block's column is. -/
def colA (n : ℕ) (hn : n < 8) (a : Fin 1024) : Fin 1024 := ⟨1024 * (0) + a.val, by omega⟩
def colB (n : ℕ) (hn : n < 8) (b : Fin 1024) : Fin 1024 := ⟨1024 * (0) + b.val, by omega⟩

theorem blkA (t : Fin cfg0.N) (k : Fin 1024) (a : Fin 1024) (r : Fin 8192) (hr : r.val = 1024 * (t.val % 8) + k.val) :
    (iblk m c 0 t : Vec Ideal S1024x1024 .bf16) (ix2 k a) = opA m c (ix2 r (colA t.val (lt0 t) a)) := by
  refine Eq.trans (b := (V m c main_v0 : S8192x1024.Idx → EReal) (((cfg0.win 0).blk t).view.emb (ix2 k a : S1024x1024.Idx))) ?_ (congrArg (V m c main_v0 : S8192x1024.Idx → EReal) ?_)
  · blk_simp [iblk]
  · apply ext2 <;> apply Fin.ext <;> blk_simp [idx0 t]
    · simp [hr]; omega
    · simp [colA]; try omega

theorem blkB (t : Fin cfg0.N) (k : Fin 1024) (a : Fin 1024) (r : Fin 8192) (hr : r.val = 1024 * (t.val % 8) + k.val) :
    (iblk m c 1 t : Vec Ideal S1024x1024 .bf16) (ix2 k a) = opB m c (ix2 r (colB t.val (lt0 t) a)) := by
  refine Eq.trans (b := (V m c main_v1 : S8192x1024.Idx → EReal) (((cfg0.win 1).blk t).view.emb (ix2 k a : S1024x1024.Idx))) ?_ (congrArg (V m c main_v1 : S8192x1024.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S1024x1024 .f32) (a : Fin 1024) (b : Fin 1024)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S1024x1024.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 1024) (b : Fin 1024),
    ((outsAt0 m c n hn).2 : Vec Ideal S1024x1024 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S1024x1024.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S1024x1024.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S1024x1024.Idx)).trans ?_
        dsimp only
        rw [sC]
        exact step m c ⟨n, hn⟩ _ a b hp
      · refine (congrFun (congrArg Prod.snd (outsAt0_B m c ⟨n, hn⟩ h0 h1)) (ix2 a b : S1024x1024.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 1024) (b : Fin 1024) :
    ((outsAt0 m c t.val t.isLt).1 : Vec Ideal S1024x1024 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S1024x1024.Idx → EReal := fun i => ∑ k, prods m c (i 0) (i 1) k

theorem arr : ((dats m 0 c).arrAt 2 cfg0.N : S1024x1024.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 1024) (d : Fin 1024), y = ix2 a d := ⟨y 0, y 1, ext2 rfl rfl⟩
  refine (out_scr m c t h7 a d).trans ?_
  rw [psum_full]
  unfold total
  have e0 : colA t.val (lt0 t) a = (((cfg0.win 2).blk t).view.emb (ix2 a d : S1024x1024.Idx) : S1024x1024.Idx) 0 := by
    apply Fin.ext; blk_simp [idx0 t]; simp [colA]; try omega
  have e1 : colB t.val (lt0 t) d = (((cfg0.win 2).blk t).view.emb (ix2 a d : S1024x1024.Idx) : S1024x1024.Idx) 1 := by
    apply Fin.ext; blk_simp [idx0 t]; simp [colB]; try omega
  rw [e0, e1]

theorem opA_eq : opA m c = (m ((c : Thread nD τ).loc main_arg0) : S8192x1024.Idx → EReal) := by
  unfold opA
  show StableHlo.after hostOps0 (fun b => m (c, b)) (Proc.devRef .tc main_v0) = _
  after_results_simp
  rfl

theorem opB_eq : opB m c = (m ((c : Thread nD τ).loc main_arg1) : S8192x1024.Idx → EReal) := by
  unfold opB
  show StableHlo.after hostOps0 (fun b => m (c, b)) (Proc.devRef .tc main_v1) = _
  after_results_simp
  rfl

/-- The reference's result is the same sum, its factors in the other order. -/
theorem ref_total : (Cert.Reference10Ideal.Read.val_main_v3 (F := Ideal) (m ((c : Thread nD τ).loc main_arg0)) (m ((c : Thread nD τ).loc main_arg1)) : S1024x1024.Idx → EReal) = total m c := by
  funext i
  rw [Cert.Reference10Ideal.Read.val_main_v3_apply, Cert.Reference10Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel10Ideal.Val
-- ==== Proof.Dw11.lean ====
module

public import proofs.«01_k».proof.Proof.Sums
public import proofs.«01_k».proof.Proof.Gen.Kernel11Ideal.Value
public import proofs.«01_k».proof.Proof.Gen.Reference11Ideal.Read
public import Idealize.ShloMosaic.Lib.Pipeline.ValueKit
public import Idealize.ShloMosaic.Lib.StableHlo.RunRead

/-!
# The gradient of the second mixer’s projection

The kernel adds up the products of the rows of its two operands 1024 rows at a time, in a scratch buffer it keeps between
grid points; at the last of the eight it writes the sum out. So each entry of the result is the sum over all 8192 rows.
-/

@[expose] public section

set_option maxRecDepth 16384

namespace Cert.Kernel11Ideal.Val

open Idealize.ShloMosaic TcCoe Tactic
open Idealize.ShloMosaic.Pipeline (Dat)
open Cert.Kernel11Ideal Cert.Kernel11Ideal.Gen Cert.Feed

/-- The block the first of the eight points starts from. -/
theorem pay1_at (a : Fin 512) (b : Fin 1024) : k0_pay1 (F := Ideal) (ix2 a b : S512x1024.Idx) = (0 : EReal) := by
  pointwise [k0_pay1]

/-- One step of the sum. -/
theorem pay2_at (x : Vec Ideal S1024x512 .bf16) (o : Vec Ideal S512x1024 .f32) (w : Vec Ideal S1024x1024 .bf16) (a : Fin 512) (b : Fin 1024) :
    k0_pay2 (F := Ideal) x o w (ix2 a b : S512x1024.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x512 .bf16) (hp : p.IsWhole)
  (q : Memref sig .tc .vmem S1024x1024 .bf16) (hq : q.IsWhole) (r : Memref sig .tc .vmem S512x1024 .f32) (hr : r.IsWhole)
  (s : Memref sig .tc .vmem S512x1024 .f32) (hs : s.IsWhole) (x0 : Vec Ideal S1024x512 .bf16) (x1 : Vec Ideal S1024x1024 .bf16) (xs : Vec Ideal S512x1024 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S512x1024) hz, View.readCov_unit_zero (S := S512x1024) _ hz]
  simp only [View.readAt_eq_ld, hp.read_unread, hq.read_unread, View.ld_unit_zero (S := S1024x512) hz, View.ld_unit_zero (S := S1024x1024) hz, View.ld_unit_zero (S := S512x1024) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S512x1024) hz]
  simp only [View.readAt_eq_ld, hp.read_unread, hq.read_unread, hs.read_unread, View.ld_unit_zero (S := S1024x512) hz, View.ld_unit_zero (S := S1024x1024) hz, View.ld_unit_zero (S := S512x1024) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S512x1024) hz]
  simp only [View.readAt_eq_ld, hp.read_unread, hq.read_unread, hs.read_unread, View.ld_unit_zero (S := S1024x512) hz, View.ld_unit_zero (S := S1024x1024) hz, View.ld_unit_zero (S := S512x1024) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S512x1024) hz, View.readCov_unit_zero (S := S512x1024) _ hz]
  simp only [View.readAt_eq_ld, hp.read_unread, hq.read_unread, hs.read_unread, View.ld_unit_zero (S := S1024x512) hz, View.ld_unit_zero (S := S1024x1024) hz, View.ld_unit_zero (S := S512x1024) hz]

end pieces

theorem lt0 (t : Fin cfg0.N) : t.val < 8 := t.isLt

theorem idx0 : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x512.Idx → EReal := V m c main_v0
noncomputable def opB : S8192x1024.Idx → EReal := V m c main_v1

/-- The products one entry of the result adds up. -/
noncomputable def prods (a : Fin 512) (b : Fin 1024) : Fin 8192 → EReal := fun k => opA m c (ix2 k a) * opB m c (ix2 k b)

/-- The column of an operand a block's column is. -/
def colA (n : ℕ) (hn : n < 8) (a : Fin 512) : Fin 512 := ⟨512 * (0) + a.val, by omega⟩
def colB (n : ℕ) (hn : n < 8) (b : Fin 1024) : Fin 1024 := ⟨1024 * (0) + b.val, by omega⟩

theorem blkA (t : Fin cfg0.N) (k : Fin 1024) (a : Fin 512) (r : Fin 8192) (hr : r.val = 1024 * (t.val % 8) + k.val) :
    (iblk m c 0 t : Vec Ideal S1024x512 .bf16) (ix2 k a) = opA m c (ix2 r (colA t.val (lt0 t) a)) := by
  refine Eq.trans (b := (V m c main_v0 : S8192x512.Idx → EReal) (((cfg0.win 0).blk t).view.emb (ix2 k a : S1024x512.Idx))) ?_ (congrArg (V m c main_v0 : S8192x512.Idx → EReal) ?_)
  · blk_simp [iblk]
  · apply ext2 <;> apply Fin.ext <;> blk_simp [idx0 t]
    · simp [hr]; omega
    · simp [colA]; try omega

theorem blkB (t : Fin cfg0.N) (k : Fin 1024) (a : Fin 1024) (r : Fin 8192) (hr : r.val = 1024 * (t.val % 8) + k.val) :
    (iblk m c 1 t : Vec Ideal S1024x1024 .bf16) (ix2 k a) = opB m c (ix2 r (colB t.val (lt0 t) a)) := by
  refine Eq.trans (b := (V m c main_v1 : S8192x1024.Idx → EReal) (((cfg0.win 1).blk t).view.emb (ix2 k a : S1024x1024.Idx))) ?_ (congrArg (V m c main_v1 : S8192x1024.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S512x1024 .f32) (a : Fin 512) (b : Fin 1024)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S512x1024.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 512) (b : Fin 1024),
    ((outsAt0 m c n hn).2 : Vec Ideal S512x1024 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S512x1024.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S512x1024.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S512x1024.Idx)).trans ?_
        dsimp only
        rw [sC]
        exact step m c ⟨n, hn⟩ _ a b hp
      · refine (congrFun (congrArg Prod.snd (outsAt0_B m c ⟨n, hn⟩ h0 h1)) (ix2 a b : S512x1024.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 512) (b : Fin 1024) :
    ((outsAt0 m c t.val t.isLt).1 : Vec Ideal S512x1024 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S512x1024.Idx → EReal := fun i => ∑ k, prods m c (i 0) (i 1) k

theorem arr : ((dats m 0 c).arrAt 2 cfg0.N : S512x1024.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 512) (d : Fin 1024), y = ix2 a d := ⟨y 0, y 1, ext2 rfl rfl⟩
  refine (out_scr m c t h7 a d).trans ?_
  rw [psum_full]
  unfold total
  have e0 : colA t.val (lt0 t) a = (((cfg0.win 2).blk t).view.emb (ix2 a d : S512x1024.Idx) : S512x1024.Idx) 0 := by
    apply Fin.ext; blk_simp [idx0 t]; simp [colA]; try omega
  have e1 : colB t.val (lt0 t) d = (((cfg0.win 2).blk t).view.emb (ix2 a d : S512x1024.Idx) : S512x1024.Idx) 1 := by
    apply Fin.ext; blk_simp [idx0 t]; simp [colB]; try omega
  rw [e0, e1]

theorem opA_eq : opA m c = (m ((c : Thread nD τ).loc main_arg0) : S8192x512.Idx → EReal) := by
  unfold opA
  show StableHlo.after hostOps0 (fun b => m (c, b)) (Proc.devRef .tc main_v0) = _
  after_results_simp
  rfl

theorem opB_eq : opB m c = (m ((c : Thread nD τ).loc main_arg1) : S8192x1024.Idx → EReal) := by
  unfold opB
  show StableHlo.after hostOps0 (fun b => m (c, b)) (Proc.devRef .tc main_v1) = _
  after_results_simp
  rfl

/-- The reference's result is the same sum, its factors in the other order. -/
theorem ref_total : (Cert.Reference11Ideal.Read.val_main_v3 (F := Ideal) (m ((c : Thread nD τ).loc main_arg0)) (m ((c : Thread nD τ).loc main_arg1)) : S512x1024.Idx → EReal) = total m c := by
  funext i
  rw [Cert.Reference11Ideal.Read.val_main_v3_apply, Cert.Reference11Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel11Ideal.Val
-- ==== Proof.Cross.lean ====
module

public import proofs.«01_k».proof.Proof.Lin
public import proofs.«01_k».proof.Proof.Gen.Kernel12Ideal.Frame

/-!
# The cross-attention projections
-/

@[expose] public section

set_option maxRecDepth 16384

noncomputable section

namespace Cert.Kernel12Ideal.Val

open Idealize.ShloMosaic TcCoe Tactic
open Idealize.ShloMosaic.Pipeline (Dat)
open Cert.Kernel12Ideal Cert.Kernel12Ideal.Gen Cert.Lin

theorem o0_2 (x0 : Vec Ideal S1024x1024 .bf16) (x1 : Vec Ideal S1024x512 .bf16) (a : Fin 1024) (b : Fin 512) :
    out0_2 (F := Ideal) x0 x1 (ix2 a b) = rc (M := 1024) (K := 1024) (N := 512) x0 x1 (ix2 a b) := by
  unfold out0_2
  rw [View.canon_unit_zero (S := S1024x512) hz, View.ld_unit_zero (S := S1024x512) hz, View.ld_unit_zero (S := S1024x1024) hz]
  pointwise [k0_pay1]
  rfl

theorem o1_4 (x0 : Vec Ideal S1024x512 .bf16) (x1 : Vec Ideal S512x1024 .bf16) (x2 : Vec Ideal S1024x1024 .f32) (x3 : Vec Ideal S1x1024 .f32) (a : Fin 1024) (b : Fin 1024) :
    out1_4 (F := Ideal) x0 x1 x2 x3 (ix2 a b) = rc (M := 1024) (K := 512) (N := 1024) x0 x1 (ix2 a b) + (x2 : S1024x1024.Idx → EReal) (ix2 a b) := by
  unfold out1_4
  rw [View.canon_unit_zero (S := S1024x1024) hz, View.ld_unit_zero (S := S512x1024) hz, View.ld_unit_zero (S := S1024x512) hz, View.ld_unit_zero (S := S1024x1024) hz]
  pointwise [k1_pay1]
  rfl

theorem o1_5 (x0 : Vec Ideal S1024x512 .bf16) (x1 : Vec Ideal S512x1024 .bf16) (x2 : Vec Ideal S1024x1024 .f32) (x3 : Vec Ideal S1x1024 .f32) (a : Fin 1024) (b : Fin 1024) :
    out1_5 (F := Ideal) x0 x1 x2 x3 (ix2 a b) = rn (M := 1024) (K := 1024) (fun y => rc (M := 1024) (K := 512) (N := 1024) x0 x1 y + (x2 : S1024x1024.Idx → EReal) y) x3 (ix2 a b) := by
  unfold out1_5
  rw [View.canon_unit_zero (S := S1024x1024) hz, View.ld_unit_zero (S := S512x1024) hz, View.ld_unit_zero (S := S1024x512) hz, View.ld_unit_zero (S := S1024x1024) hz, View.ld_unit_zero (S := S1x1024) hz]
  pointwise [k1_pay2, k1_pay1]
  rfl

theorem o2_2 (x0 : Vec Ideal S1024x1024 .f32) (x1 : Vec Ideal S512x1024 .bf16) (a : Fin 1024) (b : Fin 512) :
    out2_2 (F := Ideal) x0 x1 (ix2 a b) = rr (M := 1024) (K := 1024) (N := 512) x0 x1 (ix2 a b) := by
  unfold out2_2
  rw [View.canon_unit_zero (S := S1024x512) hz, View.ld_unit_zero (S := S512x1024) hz, View.ld_unit_zero (S := S1024x1024) hz]
  pointwise [k2_pay1]
  rfl

theorem o3_2 (x0 : Vec Ideal S1024x512 .bf16) (x1 : Vec Ideal S1024x512 .bf16) (a : Fin 1024) (b : Fin 1024) :
    out3_2 (F := Ideal) x0 x1 (ix2 a b) = rr (M := 1024) (K := 512) (N := 1024) x0 x1 (ix2 a b) := by
  unfold out3_2
  rw [View.canon_unit_zero (S := S1024x1024) hz, View.ld_unit_zero (S := S1024x512) hz, View.ld_unit_zero (S := S1024x512) hz]
  pointwise [k3_pay1]
  rfl

variable (V : (c : Dev nD) → (b : Ref sig .tc) → Buf (Elt Ideal) ((c : Thread nD τ).loc b)) (c : Dev nD)

theorem lt0 (t : Fin cfg0.N) : t.val < 8 := t.isLt

theorem idx0 : ∀ t : Fin cfg0.N, win0_0.index t = ![t.val, 0] ∧ win0_1.index t = ![0, 0] ∧ win0_2.index t = ![t.val, 0] :=
  (by decide +kernel : ∀ t : Fin grid0.N, _)

theorem emb0_0 (t : Fin cfg0.N) (a : Fin 1024) (b : Fin 1024) :
    (win0_0.blk t).view.emb (ix2 a b : S1024x1024.Idx) = (ix2 ⟨1024 * (t.val) + a.val, by have := lt0 t; omega⟩ b : S8192x1024.Idx) := by
  funext q; match q with
    | ⟨0, _⟩ | ⟨1, _⟩ => apply Fin.ext; blk_simp [idx0 t]; try simp; try omega

theorem blk0_0 (t : Fin cfg0.N) (a : Fin 1024) (b : Fin 1024) :
    (iblk0 V c 0 t : Vec Ideal S1024x1024 .bf16) (ix2 a b) = (V c main_v0 : S8192x1024.Idx → EReal) (ix2 ⟨1024 * (t.val) + a.val, by have := lt0 t; omega⟩ b) := by
  blk_simp [iblk0]
  rw [emb0_0]

theorem emb0_1 (t : Fin cfg0.N) (a : Fin 1024) (b : Fin 512) :
    (win0_1.blk t).view.emb (ix2 a b : S1024x512.Idx) = (ix2 a b : S1024x512.Idx) := by
  funext q; match q with
    | ⟨0, _⟩ | ⟨1, _⟩ => apply Fin.ext; blk_simp [idx0 t]; try simp; try omega

theorem blk0_1 (t : Fin cfg0.N) (a : Fin 1024) (b : Fin 512) :
    (iblk0 V c 1 t : Vec Ideal S1024x512 .bf16) (ix2 a b) = (V c main_v3 : S1024x512.Idx → EReal) (ix2 a b) := by
  blk_simp [iblk0]
  rw [emb0_1]

theorem emb0_2 (t : Fin cfg0.N) (a : Fin 1024) (b : Fin 512) :
    (win0_2.blk t).view.emb (ix2 a b : S1024x512.Idx) = (ix2 ⟨1024 * (t.val) + a.val, by have := lt0 t; omega⟩ b : S8192x512.Idx) := by
  funext q; match q with
    | ⟨0, _⟩ | ⟨1, _⟩ => apply Fin.ext; blk_simp [idx0 t]; try simp; try omega

theorem lt1 (t : Fin cfg1.N) : t.val < 8 := t.isLt

theorem idx1 : ∀ t : Fin cfg1.N, win1_0.index t = ![t.val, 0] ∧ win1_1.index t = ![0, 0] ∧ win1_2.index t = ![t.val, 0] ∧ win1_3.index t = ![0, 0] ∧ win1_4.index t = ![t.val, 0] ∧ win1_5.index t = ![t.val, 0] :=
  (by decide +kernel : ∀ t : Fin grid1.N, _)

theorem emb1_0 (t : Fin cfg1.N) (a : Fin 1024) (b : Fin 512) :
    (win1_0.blk t).view.emb (ix2 a b : S1024x512.Idx) = (ix2 ⟨1024 * (t.val) + a.val, by have := lt1 t; omega⟩ b : S8192x512.Idx) := by
  funext q; match q with
    | ⟨0, _⟩ | ⟨1, _⟩ => apply Fin.ext; blk_simp [idx1 t]; try simp; try omega

theorem blk1_0 (t : Fin cfg1.N) (a : Fin 1024) (b : Fin 512) :
    (iblk1 V c 0 t : Vec Ideal S1024x512 .bf16) (ix2 a b) = (V c main_v1 : S8192x512.Idx → EReal) (ix2 ⟨1024 * (t.val) + a.val, by have := lt1 t; omega⟩ b) := by
  blk_simp [iblk1]
  rw [emb1_0]

theorem emb1_1 (t : Fin cfg1.N) (a : Fin 512) (b : Fin 1024) :
    (win1_1.blk t).view.emb (ix2 a b : S512x1024.Idx) = (ix2 a b : S512x1024.Idx) := by
  funext q; match q with
    | ⟨0, _⟩ | ⟨1, _⟩ => apply Fin.ext; blk_simp [idx1 t]; try simp; try omega

theorem blk1_1 (t : Fin cfg1.N) (a : Fin 512) (b : Fin 1024) :
    (iblk1 V c 1 t : Vec Ideal S512x1024 .bf16) (ix2 a b) = (V c main_v4 : S512x1024.Idx → EReal) (ix2 a b) := by
  blk_simp [iblk1]
  rw [emb1_1]

theorem emb1_2 (t : Fin cfg1.N) (a : Fin 1024) (b : Fin 1024) :
    (win1_2.blk t).view.emb (ix2 a b : S1024x1024.Idx) = (ix2 ⟨1024 * (t.val) + a.val, by have := lt1 t; omega⟩ b : S8192x1024.Idx) := by
  funext q; match q with
    | ⟨0, _⟩ | ⟨1, _⟩ => apply Fin.ext; blk_simp [idx1 t]; try simp; try omega

theorem blk1_2 (t : Fin cfg1.N) (a : Fin 1024) (b : Fin 1024) :
    (iblk1 V c 2 t : Vec Ideal S1024x1024 .f32) (ix2 a b) = (V c main_arg0 : S8192x1024.Idx → EReal) (ix2 ⟨1024 * (t.val) + a.val, by have := lt1 t; omega⟩ b) := by
  blk_simp [iblk1]
  rw [emb1_2]

theorem emb1_3 (t : Fin cfg1.N) (a : Fin 1) (b : Fin 1024) :
    (win1_3.blk t).view.emb (ix2 a b : S1x1024.Idx) = (ix2 a b : S1x1024.Idx) := by
  funext q; match q with
    | ⟨0, _⟩ | ⟨1, _⟩ => apply Fin.ext; blk_simp [idx1 t]; try simp; try omega

theorem blk1_3 (t : Fin cfg1.N) (a : Fin 1) (b : Fin 1024) :
    (iblk1 V c 3 t : Vec Ideal S1x1024 .f32) (ix2 a b) = (V c main_arg5 : S1x1024.Idx → EReal) (ix2 a b) := by
  blk_simp [iblk1]
  rw [emb1_3]

theorem emb1_4 (t : Fin cfg1.N) (a : Fin 1024) (b : Fin 1024) :
    (win1_4.blk t).view.emb (ix2 a b : S1024x1024.Idx) = (ix2 ⟨1024 * (t.val) + a.val, by have := lt1 t; omega⟩ b : S8192x1024.Idx) := by
  funext q; match q with
    | ⟨0, _⟩ | ⟨1, _⟩ => apply Fin.ext; blk_simp [idx1 t]; try simp; try omega

theorem emb1_5 (t : Fin cfg1.N) (a : Fin 1024) (b : Fin 1024) :
    (win1_5.blk t).view.emb (ix2 a b : S1024x1024.Idx) = (ix2 ⟨1024 * (t.val) + a.val, by have := lt1 t; omega⟩ b : S8192x1024.Idx) := by
  funext q; match q with
    | ⟨0, _⟩ | ⟨1, _⟩ => apply Fin.ext; blk_simp [idx1 t]; try simp; try omega

theorem lt2 (t : Fin cfg2.N) : t.val < 8 := t.isLt

theorem idx2 : ∀ t : Fin cfg2.N, win2_0.index t = ![t.val, 0] ∧ win2_1.index t = ![0, 0] ∧ win2_2.index t = ![t.val, 0] :=
  (by decide +kernel : ∀ t : Fin grid2.N, _)

theorem emb2_0 (t : Fin cfg2.N) (a : Fin 1024) (b : Fin 1024) :
    (win2_0.blk t).view.emb (ix2 a b : S1024x1024.Idx) = (ix2 ⟨1024 * (t.val) + a.val, by have := lt2 t; omega⟩ b : S8192x1024.Idx) := by
  funext q; match q with
    | ⟨0, _⟩ | ⟨1, _⟩ => apply Fin.ext; blk_simp [idx2 t]; try simp; try omega

theorem blk2_0 (t : Fin cfg2.N) (a : Fin 1024) (b : Fin 1024) :
    (iblk2 V c 0 t : Vec Ideal S1024x1024 .f32) (ix2 a b) = (V c main_arg6 : S8192x1024.Idx → EReal) (ix2 ⟨1024 * (t.val) + a.val, by have := lt2 t; omega⟩ b) := by
  blk_simp [iblk2]
  rw [emb2_0]

theorem emb2_1 (t : Fin cfg2.N) (a : Fin 512) (b : Fin 1024) :
    (win2_1.blk t).view.emb (ix2 a b : S512x1024.Idx) = (ix2 a b : S512x1024.Idx) := by
  funext q; match q with
    | ⟨0, _⟩ | ⟨1, _⟩ => apply Fin.ext; blk_simp [idx2 t]; try simp; try omega

theorem blk2_1 (t : Fin cfg2.N) (a : Fin 512) (b : Fin 1024) :
    (iblk2 V c 1 t : Vec Ideal S512x1024 .bf16) (ix2 a b) = (V c main_v4 : S512x1024.Idx → EReal) (ix2 a b) := by
  blk_simp [iblk2]
  rw [emb2_1]

theorem emb2_2 (t : Fin cfg2.N) (a : Fin 1024) (b : Fin 512) :
    (win2_2.blk t).view.emb (ix2 a b : S1024x512.Idx) = (ix2 ⟨1024 * (t.val) + a.val, by have := lt2 t; omega⟩ b : S8192x512.Idx) := by
  funext q; match q with
    | ⟨0, _⟩ | ⟨1, _⟩ => apply Fin.ext; blk_simp [idx2 t]; try simp; try omega

theorem lt3 (t : Fin cfg3.N) : t.val < 8 := t.isLt

theorem idx3 : ∀ t : Fin cfg3.N, win3_0.index t = ![t.val, 0] ∧ win3_1.index t = ![0, 0] ∧ win3_2.index t = ![t.val, 0] :=
  (by decide +kernel : ∀ t : Fin grid3.N, _)

theorem emb3_0 (t : Fin cfg3.N) (a : Fin 1024) (b : Fin 512) :
    (win3_0.blk t).view.emb (ix2 a b : S1024x512.Idx) = (ix2 ⟨1024 * (t.val) + a.val, by have := lt3 t; omega⟩ b : S8192x512.Idx) := by
  funext q; match q with
    | ⟨0, _⟩ | ⟨1, _⟩ => apply Fin.ext; blk_simp [idx3 t]; try simp; try omega

theorem blk3_0 (t : Fin cfg3.N) (a : Fin 1024) (b : Fin 512) :
    (iblk3 V c 0 t : Vec Ideal S1024x512 .bf16) (ix2 a b) = (V c main_v2 : S8192x512.Idx → EReal) (ix2 ⟨1024 * (t.val) + a.val, by have := lt3 t; omega⟩ b) := by
  blk_simp [iblk3]
  rw [emb3_0]

theorem emb3_1 (t : Fin cfg3.N) (a : Fin 1024) (b : Fin 512) :
    (win3_1.blk t).view.emb (ix2 a b : S1024x512.Idx) = (ix2 a b : S1024x512.Idx) := by
  funext q; match q with
    | ⟨0, _⟩ | ⟨1, _⟩ => apply Fin.ext; blk_simp [idx3 t]; try simp; try omega

theorem blk3_1 (t : Fin cfg3.N) (a : Fin 1024) (b : Fin 512) :
    (iblk3 V c 1 t : Vec Ideal S1024x512 .bf16) (ix2 a b) = (V c main_v3 : S1024x512.Idx → EReal) (ix2 a b) := by
  blk_simp [iblk3]
  rw [emb3_1]

theorem emb3_2 (t : Fin cfg3.N) (a : Fin 1024) (b : Fin 1024) :
    (win3_2.blk t).view.emb (ix2 a b : S1024x1024.Idx) = (ix2 ⟨1024 * (t.val) + a.val, by have := lt3 t; omega⟩ b : S8192x1024.Idx) := by
  funext q; match q with
    | ⟨0, _⟩ | ⟨1, _⟩ => apply Fin.ext; blk_simp [idx3 t]; try simp; try omega

theorem arr0_2 : ((dat0 V c).arrAt 2 cfg0.N : S8192x512.Idx → EReal) = fun y => rc (M := 8192) (K := 1024) (N := 512) (V c main_v0 : S8192x1024.Idx → EReal) (V c main_v3 : S1024x512.Idx → EReal) y := by
  refine (dat0 V c).arrAt_eq_of_covers 2 (fun y => rc (M := 8192) (K := 1024) (N := 512) (V c main_v0 : S8192x1024.Idx → EReal) (V c main_v3 : S1024x512.Idx → EReal) y) (by decide +kernel) fun t _ y => ?_
  obtain ⟨a, b, rfl⟩ := idx2_self y
  blk_simp
  rw [after0_2, emb0_2]
  refine (o0_2 _ _ a b).trans ?_
  exact rc_blk (fun k => blk0_0 V c t _ _) (fun k => blk0_1 V c t _ _)
theorem arr1_4 : ((dat1 V c).arrAt 4 cfg1.N : S8192x1024.Idx → EReal) = fun y => rc (M := 8192) (K := 512) (N := 1024) (V c main_v1 : S8192x512.Idx → EReal) (V c main_v4 : S512x1024.Idx → EReal) y + (V c main_arg0 : S8192x1024.Idx → EReal) y := by
  refine (dat1 V c).arrAt_eq_of_covers 4 (fun y => rc (M := 8192) (K := 512) (N := 1024) (V c main_v1 : S8192x512.Idx → EReal) (V c main_v4 : S512x1024.Idx → EReal) y + (V c main_arg0 : S8192x1024.Idx → EReal) y) (by decide +kernel) fun t _ y => ?_
  obtain ⟨a, b, rfl⟩ := idx2_self y
  blk_simp
  rw [after1_4, emb1_4]
  refine (o1_4 _ _ _ (iblk1 V c 3 t) a b).trans ?_
  exact congrArg₂ (fun p q : EReal => p + q) (rc_blk (fun k => blk1_0 V c t _ _) (fun k => blk1_1 V c t _ _)) (blk1_2 V c t a b)
theorem arr1_5 : ((dat1 V c).arrAt 5 cfg1.N : S8192x1024.Idx → EReal) = fun y => rn (M := 8192) (K := 1024) (fun y => rc (M := 8192) (K := 512) (N := 1024) (V c main_v1 : S8192x512.Idx → EReal) (V c main_v4 : S512x1024.Idx → EReal) y + (V c main_arg0 : S8192x1024.Idx → EReal) y) (V c main_arg5 : S1x1024.Idx → EReal) y := by
  refine (dat1 V c).arrAt_eq_of_covers 5 (fun y => rn (M := 8192) (K := 1024) (fun y => rc (M := 8192) (K := 512) (N := 1024) (V c main_v1 : S8192x512.Idx → EReal) (V c main_v4 : S512x1024.Idx → EReal) y + (V c main_arg0 : S8192x1024.Idx → EReal) y) (V c main_arg5 : S1x1024.Idx → EReal) y) (by decide +kernel) fun t _ y => ?_
  obtain ⟨a, b, rfl⟩ := idx2_self y
  blk_simp
  rw [after1_5, emb1_5]
  refine (o1_5 _ _ _ _ a b).trans ?_
  exact rn_blk (fun k => congrArg₂ (fun p q : EReal => p + q) (rc_blk (fun k => blk1_0 V c t _ _) (fun k => blk1_1 V c t _ _)) (blk1_2 V c t a k)) (fun k => blk1_3 V c t _ _)
theorem arr2_2 : ((dat2 V c).arrAt 2 cfg2.N : S8192x512.Idx → EReal) = fun y => rr (M := 8192) (K := 1024) (N := 512) (V c main_arg6 : S8192x1024.Idx → EReal) (V c main_v4 : S512x1024.Idx → EReal) y := by
  refine (dat2 V c).arrAt_eq_of_covers 2 (fun y => rr (M := 8192) (K := 1024) (N := 512) (V c main_arg6 : S8192x1024.Idx → EReal) (V c main_v4 : S512x1024.Idx → EReal) y) (by decide +kernel) fun t _ y => ?_
  obtain ⟨a, b, rfl⟩ := idx2_self y
  blk_simp
  rw [after2_2, emb2_2]
  refine (o2_2 _ _ a b).trans ?_
  exact rr_blk (fun k => blk2_0 V c t _ _) (fun k => blk2_1 V c t _ _)
theorem arr3_2 : ((dat3 V c).arrAt 2 cfg3.N : S8192x1024.Idx → EReal) = fun y => rr (M := 8192) (K := 512) (N := 1024) (V c main_v2 : S8192x512.Idx → EReal) (V c main_v3 : S1024x512.Idx → EReal) y := by
  refine (dat3 V c).arrAt_eq_of_covers 2 (fun y => rr (M := 8192) (K := 512) (N := 1024) (V c main_v2 : S8192x512.Idx → EReal) (V c main_v3 : S1024x512.Idx → EReal) y) (by decide +kernel) fun t _ y => ?_
  obtain ⟨a, b, rfl⟩ := idx2_self y
  blk_simp
  rw [after3_2, emb3_2]
  refine (o3_2 _ _ a b).trans ?_
  exact rr_blk (fun k => blk3_0 V c t _ _) (fun k => blk3_1 V c t _ _)

end Cert.Kernel12Ideal.Val
-- ==== Proof.CrossMain.lean ====
module

public import proofs.«01_k».proof.Proof.Cross
public import proofs.«01_k».proof.Proof.Gen.Reference12Ideal.Read
public import proofs.«01_k».proof.Proof.Gen.Reference12Ideal.Run
public import proofs.«01_k».proof.Defs

/-!
# The cross-attention projections, side by side with the reference
-/

@[expose] public section

set_option maxRecDepth 16384

noncomputable section

namespace Cert.Kernel12Ideal.Val

open Idealize.ShloMosaic TcCoe Tactic
open Idealize.ShloMosaic.Pipeline (Dat)
open Cert.Kernel12Ideal Cert.Kernel12Ideal.Gen Cert.Lin

variable (m : (ℓ : Loc nD τ sig) → Buf (Elt Ideal) ℓ) (ρ : Dev nD → PrngReg) (c : Dev nD)

/-- The arguments. -/
def a0 : S8192x1024.Idx → EReal := m ((c : Thread nD τ).loc main_arg0)
def a1 : S8192x1024.Idx → EReal := m ((c : Thread nD τ).loc main_arg1)
def a2 : S8192x512.Idx → EReal := m ((c : Thread nD τ).loc main_arg2)
def a3 : S1024x512.Idx → EReal := m ((c : Thread nD τ).loc main_arg3)
def a4 : S512x1024.Idx → EReal := m ((c : Thread nD τ).loc main_arg4)
def a5 : S1x1024.Idx → EReal := m ((c : Thread nD τ).loc main_arg5)
def a6 : S8192x1024.Idx → EReal := m ((c : Thread nD τ).loc main_arg6)
def a7 : S8192x512.Idx → EReal := m ((c : Thread nD τ).loc main_arg7)

theorem V1_v0 : (V1 m ρ c main_v0 : S8192x1024.Idx → EReal) = a1 m c := by
  show W1 m ρ c (Proc.devRef .tc main_v0) = _
  after_results_simp
  rfl

theorem V1_v1 : (V1 m ρ c main_v1 : S8192x512.Idx → EReal) = a2 m c := by
  show W1 m ρ c (Proc.devRef .tc main_v1) = _
  after_results_simp
  rfl

theorem V1_v2 : (V1 m ρ c main_v2 : S8192x512.Idx → EReal) = a7 m c := by
  show W1 m ρ c (Proc.devRef .tc main_v2) = _
  after_results_simp
  rfl

theorem V1_v3 : (V1 m ρ c main_v3 : S1024x512.Idx → EReal) = a3 m c := by
  show W1 m ρ c (Proc.devRef .tc main_v3) = _
  after_results_simp
  rfl

theorem V1_v4 : (V1 m ρ c main_v4 : S512x1024.Idx → EReal) = a4 m c := by
  show W1 m ρ c (Proc.devRef .tc main_v4) = _
  after_results_simp
  rfl

theorem V1_arg0 : (V1 m ρ c main_arg0 : S8192x1024.Idx → EReal) = a0 m c := by
  show W1 m ρ c (Proc.devRef .tc main_arg0) = _
  after_results_simp
  rfl

theorem V1_arg5 : (V1 m ρ c main_arg5 : S1x1024.Idx → EReal) = a5 m c := by
  show W1 m ρ c (Proc.devRef .tc main_arg5) = _
  after_results_simp
  rfl

theorem V1_arg6 : (V1 m ρ c main_arg6 : S8192x1024.Idx → EReal) = a6 m c := by
  show W1 m ρ c (Proc.devRef .tc main_arg6) = _
  after_results_simp
  rfl

theorem V2_of (r : Ref sig .tc) (h : ∀ w : Fin cfg0.W, Pipeline.arrRef spec0 w = r → (cfg0.win w).isOut = false) : V2 m ρ c r = V1 m ρ c r := W2_of m ρ c r h
theorem V3_of (r : Ref sig .tc) (h : ∀ w : Fin cfg1.W, Pipeline.arrRef spec1 w = r → (cfg1.win w).isOut = false) : V3 m ρ c r = V2 m ρ c r := W3_of m ρ c r h
theorem V4_of (r : Ref sig .tc) (h : ∀ w : Fin cfg2.W, Pipeline.arrRef spec2 w = r → (cfg2.win w).isOut = false) : V4 m ρ c r = V3 m ρ c r := W4_of m ρ c r h
theorem V2_v1 : (V2 m ρ c main_v1 : S8192x512.Idx → EReal) = a2 m c := (V2_of m ρ c main_v1 (by decide)).trans (V1_v1 m ρ c)
theorem V2_v2 : (V2 m ρ c main_v2 : S8192x512.Idx → EReal) = a7 m c := (V2_of m ρ c main_v2 (by decide)).trans (V1_v2 m ρ c)
theorem V3_v2 : (V3 m ρ c main_v2 : S8192x512.Idx → EReal) = a7 m c := (V3_of m ρ c main_v2 (by decide)).trans (V2_v2 m ρ c)
theorem V4_v2 : (V4 m ρ c main_v2 : S8192x512.Idx → EReal) = a7 m c := (V4_of m ρ c main_v2 (by decide)).trans (V3_v2 m ρ c)
theorem V2_v3 : (V2 m ρ c main_v3 : S1024x512.Idx → EReal) = a3 m c := (V2_of m ρ c main_v3 (by decide)).trans (V1_v3 m ρ c)
theorem V3_v3 : (V3 m ρ c main_v3 : S1024x512.Idx → EReal) = a3 m c := (V3_of m ρ c main_v3 (by decide)).trans (V2_v3 m ρ c)
theorem V4_v3 : (V4 m ρ c main_v3 : S1024x512.Idx → EReal) = a3 m c := (V4_of m ρ c main_v3 (by decide)).trans (V3_v3 m ρ c)
theorem V2_v4 : (V2 m ρ c main_v4 : S512x1024.Idx → EReal) = a4 m c := (V2_of m ρ c main_v4 (by decide)).trans (V1_v4 m ρ c)
theorem V3_v4 : (V3 m ρ c main_v4 : S512x1024.Idx → EReal) = a4 m c := (V3_of m ρ c main_v4 (by decide)).trans (V2_v4 m ρ c)
theorem V2_arg0 : (V2 m ρ c main_arg0 : S8192x1024.Idx → EReal) = a0 m c := (V2_of m ρ c main_arg0 (by decide)).trans (V1_arg0 m ρ c)
theorem V2_arg5 : (V2 m ρ c main_arg5 : S1x1024.Idx → EReal) = a5 m c := (V2_of m ρ c main_arg5 (by decide)).trans (V1_arg5 m ρ c)
theorem V2_arg6 : (V2 m ρ c main_arg6 : S8192x1024.Idx → EReal) = a6 m c := (V2_of m ρ c main_arg6 (by decide)).trans (V1_arg6 m ρ c)
theorem V3_arg6 : (V3 m ρ c main_arg6 : S8192x1024.Idx → EReal) = a6 m c := (V3_of m ρ c main_arg6 (by decide)).trans (V2_arg6 m ρ c)
theorem W2_v5 : (W2 m ρ c (Proc.devRef .tc main_v5) : S8192x512.Idx → EReal) = fun y => rc (M := 8192) (K := 1024) (N := 512) (a1 m c) (a3 m c) y :=
  (W2_arr m ρ c 2).trans ((arr0_2 (V1 m ρ) c).trans (by rw [V1_v0, V1_v3]))
theorem W3_v5 : (W3 m ρ c (Proc.devRef .tc main_v5) : S8192x512.Idx → EReal) = fun y => rc (M := 8192) (K := 1024) (N := 512) (a1 m c) (a3 m c) y := (W3_of m ρ c main_v5 (by decide)).trans (W2_v5 m ρ c)
theorem W4_v5 : (W4 m ρ c (Proc.devRef .tc main_v5) : S8192x512.Idx → EReal) = fun y => rc (M := 8192) (K := 1024) (N := 512) (a1 m c) (a3 m c) y := (W4_of m ρ c main_v5 (by decide)).trans (W3_v5 m ρ c)
theorem W5_v5 : (W5 m ρ c (Proc.devRef .tc main_v5) : S8192x512.Idx → EReal) = fun y => rc (M := 8192) (K := 1024) (N := 512) (a1 m c) (a3 m c) y := (W5_of m ρ c main_v5 (by decide)).trans (W4_v5 m ρ c)
theorem W3_v6_0 : (W3 m ρ c (Proc.devRef .tc main_v6_0) : S8192x1024.Idx → EReal) = fun y => rc (M := 8192) (K := 512) (N := 1024) (a2 m c) (a4 m c) y + a0 m c y :=
  (W3_arr m ρ c 4).trans ((arr1_4 (V2 m ρ) c).trans (by rw [V2_v1, V2_v4, V2_arg0]))
theorem W4_v6_0 : (W4 m ρ c (Proc.devRef .tc main_v6_0) : S8192x1024.Idx → EReal) = fun y => rc (M := 8192) (K := 512) (N := 1024) (a2 m c) (a4 m c) y + a0 m c y := (W4_of m ρ c main_v6_0 (by decide)).trans (W3_v6_0 m ρ c)
theorem W5_v6_0 : (W5 m ρ c (Proc.devRef .tc main_v6_0) : S8192x1024.Idx → EReal) = fun y => rc (M := 8192) (K := 512) (N := 1024) (a2 m c) (a4 m c) y + a0 m c y := (W5_of m ρ c main_v6_0 (by decide)).trans (W4_v6_0 m ρ c)
theorem W3_v6_1 : (W3 m ρ c (Proc.devRef .tc main_v6_1) : S8192x1024.Idx → EReal) = fun y => rn (M := 8192) (K := 1024) (fun y => rc (M := 8192) (K := 512) (N := 1024) (a2 m c) (a4 m c) y + a0 m c y) (a5 m c) y :=
  (W3_arr m ρ c 5).trans ((arr1_5 (V2 m ρ) c).trans (by rw [V2_v1, V2_v4, V2_arg0, V2_arg5]))
theorem W4_v6_1 : (W4 m ρ c (Proc.devRef .tc main_v6_1) : S8192x1024.Idx → EReal) = fun y => rn (M := 8192) (K := 1024) (fun y => rc (M := 8192) (K := 512) (N := 1024) (a2 m c) (a4 m c) y + a0 m c y) (a5 m c) y := (W4_of m ρ c main_v6_1 (by decide)).trans (W3_v6_1 m ρ c)
theorem W5_v6_1 : (W5 m ρ c (Proc.devRef .tc main_v6_1) : S8192x1024.Idx → EReal) = fun y => rn (M := 8192) (K := 1024) (fun y => rc (M := 8192) (K := 512) (N := 1024) (a2 m c) (a4 m c) y + a0 m c y) (a5 m c) y := (W5_of m ρ c main_v6_1 (by decide)).trans (W4_v6_1 m ρ c)
theorem W4_v7 : (W4 m ρ c (Proc.devRef .tc main_v7) : S8192x512.Idx → EReal) = fun y => rr (M := 8192) (K := 1024) (N := 512) (a6 m c) (a4 m c) y :=
  (W4_arr m ρ c 2).trans ((arr2_2 (V3 m ρ) c).trans (by rw [V3_arg6, V3_v4]))
theorem W5_v7 : (W5 m ρ c (Proc.devRef .tc main_v7) : S8192x512.Idx → EReal) = fun y => rr (M := 8192) (K := 1024) (N := 512) (a6 m c) (a4 m c) y := (W5_of m ρ c main_v7 (by decide)).trans (W4_v7 m ρ c)
theorem W5_v8 : (W5 m ρ c (Proc.devRef .tc main_v8) : S8192x1024.Idx → EReal) = fun y => rr (M := 8192) (K := 512) (N := 1024) (a7 m c) (a3 m c) y :=
  (W5_arr m ρ c 2).trans ((arr3_2 (V4 m ρ) c).trans (by rw [V4_v2, V4_v3]))

end Cert.Kernel12Ideal.Val

namespace Cert.Reference12Ideal.Val

open Idealize.ShloMosaic TcCoe Tactic
open Cert.Reference12Ideal Cert.Reference12Ideal.Gen Cert.Reference12Ideal.Read Cert.Lin

variable {x0 : (⟨S8192x1024, .f32⟩ : BufTy).Contents (Elt Ideal)} {x1 : (⟨S8192x1024, .f32⟩ : BufTy).Contents (Elt Ideal)} {x2 : (⟨S8192x512, .f32⟩ : BufTy).Contents (Elt Ideal)} {x3 : (⟨S1024x512, .f32⟩ : BufTy).Contents (Elt Ideal)} {x4 : (⟨S512x1024, .f32⟩ : BufTy).Contents (Elt Ideal)} {x5 : (⟨S1x1024, .f32⟩ : BufTy).Contents (Elt Ideal)} {x6 : (⟨S8192x1024, .f32⟩ : BufTy).Contents (Elt Ideal)} {x7 : (⟨S8192x512, .f32⟩ : BufTy).Contents (Elt Ideal)}

theorem r0  (y : S8192x512.Idx) : val_main_v0 (F := Ideal) x1 x3 y = rc (M := 8192) (K := 1024) (N := 512) x1 x3 y := by
  rw [val_main_v0_apply]
  exact Finset.sum_congr rfl fun k _ => congrArg₂ (· * ·) (congrArg (x1) (idx_eq rfl rfl)) (congrArg (x3) (idx_eq rfl rfl))

theorem r1  (y : S8192x1024.Idx) : val_main_v1 (F := Ideal) x2 x4 y = rc (M := 8192) (K := 512) (N := 1024) x2 x4 y := by
  rw [val_main_v1_apply]
  exact Finset.sum_congr rfl fun k _ => congrArg₂ (· * ·) (congrArg (x2) (idx_eq rfl rfl)) (congrArg (x4) (idx_eq rfl rfl))

theorem r17  (y : S8192x512.Idx) : val_main_v17 (F := Ideal) x4 x6 y = rr (M := 8192) (K := 1024) (N := 512) x6 x4 y := by
  rw [val_main_v17_apply]
  exact Finset.sum_congr rfl fun k _ => congrArg₂ (· * ·) (congrArg (x6) (idx_eq rfl rfl)) (congrArg (x4) (idx_eq rfl rfl))

theorem r19  (y : S8192x1024.Idx) : val_main_v19 (F := Ideal) x3 x7 y = rr (M := 8192) (K := 512) (N := 1024) x7 x3 y := by
  rw [val_main_v19_apply]
  exact Finset.sum_congr rfl fun k _ => congrArg₂ (· * ·) (congrArg (x7) (idx_eq rfl rfl)) (congrArg (x3) (idx_eq rfl rfl))

theorem r2 : val_main_v2 (F := Ideal) x0 x2 x4 = fun y => rc (M := 8192) (K := 512) (N := 1024) x2 x4 y + x0 y := by
  funext y
  exact (show val_main_v2 (F := Ideal) x0 x2 x4 y = x0 y + val_main_v1 (F := Ideal) x2 x4 y from rfl).trans ((add_comm _ _).trans (congrArg (fun p : EReal => p + x0 y) (r1 y)))

/-- The norm of the rows. -/
theorem r15  (y : S8192x1024.Idx) : val_main_v15 (F := Ideal) x0 x2 x4 x5 y = rn (M := 8192) (K := 1024) (val_main_v2 (F := Ideal) x0 x2 x4) x5 y := by
  obtain ⟨u, v, rfl⟩ := idx2_self y
  rw [val_main_v15_apply, val_main_v13_apply, val_main_v12_apply, val_main_v11_apply, val_main_v10_apply, val_main_v8_apply, val_main_v6_apply, val_main_v5_apply, val_main_v7_apply, val_main_v9_apply, val_main_v14_apply]
  generalize hX : (val_main_v2 (F := Ideal) x0 x2 x4) = X
  have e : ∀ i : S8192x1024.Idx, val_main_v4 (F := Ideal) x0 x2 x4 i = X i * X i := fun i => by subst hX; rfl
  simp only [e]
  show X (ix2 u v) * Ideal.rsqrt (Ideal.div (Ideal.ofBits .f32 0x00000000#32 + ∑ k : Fin 1024, X _ * X _) _ + _) * x5 _ = X (ix2 u v) * Ideal.rsqrt (Ideal.div (∑ k : Fin 1024, X (ix2 u k) * X (ix2 u k)) _ + _) * x5 (ix2 0 v)
  rw [c0, zero_add]
  refine congrArg₂ (fun p q : EReal => p * q) (congrArg (fun p : EReal => X (ix2 u v) * Ideal.rsqrt (Ideal.div p _ + _)) (Finset.sum_congr rfl fun k _ => ?_)) (congrArg x5 (idx_eq rfl rfl))
  exact congrArg₂ (fun p q : EReal => p * q) (congrArg X (idx_eq rfl rfl)) (congrArg X (idx_eq rfl rfl))

end Cert.Reference12Ideal.Val

namespace Cert.Kernel12Ideal.Val

open Idealize.ShloMosaic TcCoe Tactic
open Idealize.ShloMosaic.Pipeline (Dat)
open Cert.Kernel12Ideal Cert.Kernel12Ideal.Gen Cert.Lin
open Idealize.SL Idealize.SL.RA Idealize.SL.BI
open scoped Idealize.SL.BI
open Idealize.SL.BI.BIBase Idealize.SL.BI.Laws Idealize.SL.ProofMode Idealize.SL.Sem
open Idealize.ShloMosaic.Rounds

section run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, and every buffer ends at what the segments leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end run

/-- The value claim. -/
theorem algebraic : Cert.algebraic_Kernel12Ideal_Reference12Ideal := by
  intro m g m' g' _ hagree
  refine ⟨fun c => fun y => rc (M := 8192) (K := 1024) (N := 512) (a1 m c) (a3 m c) y, fun c => fun y => rc (M := 8192) (K := 512) (N := 1024) (a2 m c) (a4 m c) y + a0 m c y, fun c => fun y => rn (M := 8192) (K := 1024) (fun y => rc (M := 8192) (K := 512) (N := 1024) (a2 m c) (a4 m c) y + a0 m c y) (a5 m c) y, fun c => fun y => rr (M := 8192) (K := 1024) (N := 512) (a6 m c) (a4 m c) y, fun c => fun y => rr (M := 8192) (K := 512) (N := 1024) (a7 m c) (a3 m c) y, ?_, ?_⟩
  · refine θ_run_mono (run_all m g) ?_
    intro r h c
    exact ⟨(h c _ (mem_uc main_v5 (by decide))).trans (W5_v5 m g c), (h c _ (mem_uc main_v6_0 (by decide))).trans (W5_v6_0 m g c), (h c _ (mem_uc main_v6_1 (by decide))).trans (W5_v6_1 m g c), (h c _ (mem_uc main_v7 (by decide))).trans (W5_v7 m g c), (h c _ (mem_uc main_v8 (by decide))).trans (W5_v8 m g c), (h c _ (mem_uc main_arg0 (by decide))).trans (W5_main_arg0 m g c), (h c _ (mem_uc main_arg1 (by decide))).trans (W5_main_arg1 m g c), (h c _ (mem_uc main_arg2 (by decide))).trans (W5_main_arg2 m g c), (h c _ (mem_uc main_arg3 (by decide))).trans (W5_main_arg3 m g c), (h c _ (mem_uc main_arg4 (by decide))).trans (W5_main_arg4 m g c), (h c _ (mem_uc main_arg5 (by decide))).trans (W5_main_arg5 m g c), (h c _ (mem_uc main_arg6 (by decide))).trans (W5_main_arg6 m g c), (h c _ (mem_uc main_arg7 (by decide))).trans (W5_main_arg7 m g c)⟩
  · refine θ_run_mono (Cert.Reference12Ideal.Value.run m' g') ?_
    intro r h c
    obtain ⟨h0, h1, h2, h3, h4, ha⟩ := h c
    obtain ⟨a0, a1, a2, a3, a4, a5, a6, a7⟩ := hagree c
    rw [Cert.Reference12Ideal.Read.val_main_v3_eq, a1, a3] at h0
    rw [Cert.Reference12Ideal.Read.val_main_v2_eq, a0, a2, a4] at h1
    rw [Cert.Reference12Ideal.Read.val_main_v16_eq, a0, a2, a4, a5] at h2
    rw [Cert.Reference12Ideal.Read.val_main_v18_eq, a4, a6] at h3
    rw [Cert.Reference12Ideal.Read.val_main_v20_eq, a3, a7] at h4
    exact ⟨h0.trans (funext fun y => Cert.Reference12Ideal.Val.r0 y), h1.trans (funext fun y => congrFun Cert.Reference12Ideal.Val.r2 y), h2.trans (funext fun y => (Cert.Reference12Ideal.Val.r15 y).trans (by rw [Cert.Reference12Ideal.Val.r2]; rfl)), h3.trans (funext fun y => Cert.Reference12Ideal.Val.r17 y), h4.trans (funext fun y => Cert.Reference12Ideal.Val.r19 y), ha⟩

end Cert.Kernel12Ideal.Val
-- ==== Proof.Dw13.lean ====
module

public import proofs.«01_k».proof.Proof.Sums
public import proofs.«01_k».proof.Proof.Gen.Kernel13Ideal.Value
public import proofs.«01_k».proof.Proof.Gen.Reference13Ideal.Read
public import Idealize.ShloMosaic.Lib.Pipeline.ValueKit
public import Idealize.ShloMosaic.Lib.StableHlo.RunRead

/-!
# The gradient of the cross-attention query projection

The kernel adds up the products of the rows of its two operands 1024 rows at a time, in a scratch buffer it keeps between
grid points; at the last of the eight it writes the sum out. So each entry of the result is the sum over all 8192 rows.
-/

@[expose] public section

set_option maxRecDepth 16384

namespace Cert.Kernel13Ideal.Val

open Idealize.ShloMosaic TcCoe Tactic
open Idealize.ShloMosaic.Pipeline (Dat)
open Cert.Kernel13Ideal Cert.Kernel13Ideal.Gen Cert.Feed

/-- The block the first of the eight points starts from. -/
theorem pay1_at (a : Fin 1024) (b : Fin 512) : k0_pay1 (F := Ideal) (ix2 a b : S1024x512.Idx) = (0 : EReal) := by
  pointwise [k0_pay1]

/-- One step of the sum. -/
theorem pay2_at (x : Vec Ideal S1024x1024 .bf16) (o : Vec Ideal S1024x512 .f32) (w : Vec Ideal S1024x512 .bf16) (a : Fin 1024) (b : Fin 512) :
    k0_pay2 (F := Ideal) x o w (ix2 a b : S1024x512.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x1024 .bf16) (hp : p.IsWhole)
  (q : Memref sig .tc .vmem S1024x512 .bf16) (hq : q.IsWhole) (r : Memref sig .tc .vmem S1024x512 .f32) (hr : r.IsWhole)
  (s : Memref sig .tc .vmem S1024x512 .f32) (hs : s.IsWhole) (x0 : Vec Ideal S1024x1024 .bf16) (x1 : Vec Ideal S1024x512 .bf16) (xs : Vec Ideal S1024x512 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S1024x512) hz, View.readCov_unit_zero (S := S1024x512) _ hz]
  simp only [View.readAt_eq_ld, hp.read_unread, hq.read_unread, View.ld_unit_zero (S := S1024x1024) hz, View.ld_unit_zero (S := S1024x512) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S1024x512) hz]
  simp only [View.readAt_eq_ld, hp.read_unread, hq.read_unread, hs.read_unread, View.ld_unit_zero (S := S1024x1024) hz, View.ld_unit_zero (S := S1024x512) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S1024x512) hz]
  simp only [View.readAt_eq_ld, hp.read_unread, hq.read_unread, hs.read_unread, View.ld_unit_zero (S := S1024x1024) hz, View.ld_unit_zero (S := S1024x512) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S1024x512) hz, View.readCov_unit_zero (S := S1024x512) _ hz]
  simp only [View.readAt_eq_ld, hp.read_unread, hq.read_unread, hs.read_unread, View.ld_unit_zero (S := S1024x1024) hz, View.ld_unit_zero (S := S1024x512) hz]

end pieces

theorem lt0 (t : Fin cfg0.N) : t.val < 8 := t.isLt

theorem idx0 : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x1024.Idx → EReal := V m c main_v0
noncomputable def opB : S8192x512.Idx → EReal := V m c main_v1

/-- The products one entry of the result adds up. -/
noncomputable def prods (a : Fin 1024) (b : Fin 512) : Fin 8192 → EReal := fun k => opA m c (ix2 k a) * opB m c (ix2 k b)

/-- The column of an operand a block's column is. -/
def colA (n : ℕ) (hn : n < 8) (a : Fin 1024) : Fin 1024 := ⟨1024 * (0) + a.val, by omega⟩
def colB (n : ℕ) (hn : n < 8) (b : Fin 512) : Fin 512 := ⟨512 * (0) + b.val, by omega⟩

theorem blkA (t : Fin cfg0.N) (k : Fin 1024) (a : Fin 1024) (r : Fin 8192) (hr : r.val = 1024 * (t.val % 8) + k.val) :
    (iblk m c 0 t : Vec Ideal S1024x1024 .bf16) (ix2 k a) = opA m c (ix2 r (colA t.val (lt0 t) a)) := by
  refine Eq.trans (b := (V m c main_v0 : S8192x1024.Idx → EReal) (((cfg0.win 0).blk t).view.emb (ix2 k a : S1024x1024.Idx))) ?_ (congrArg (V m c main_v0 : S8192x1024.Idx → EReal) ?_)
  · blk_simp [iblk]
  · apply ext2 <;> apply Fin.ext <;> blk_simp [idx0 t]
    · simp [hr]; omega
    · simp [colA]; try omega

theorem blkB (t : Fin cfg0.N) (k : Fin 1024) (a : Fin 512) (r : Fin 8192) (hr : r.val = 1024 * (t.val % 8) + k.val) :
    (iblk m c 1 t : Vec Ideal S1024x512 .bf16) (ix2 k a) = opB m c (ix2 r (colB t.val (lt0 t) a)) := by
  refine Eq.trans (b := (V m c main_v1 : S8192x512.Idx → EReal) (((cfg0.win 1).blk t).view.emb (ix2 k a : S1024x512.Idx))) ?_ (congrArg (V m c main_v1 : S8192x512.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S1024x512 .f32) (a : Fin 1024) (b : Fin 512)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S1024x512.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 1024) (b : Fin 512),
    ((outsAt0 m c n hn).2 : Vec Ideal S1024x512 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S1024x512.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S1024x512.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S1024x512.Idx)).trans ?_
        dsimp only
        rw [sC]
        exact step m c ⟨n, hn⟩ _ a b hp
      · refine (congrFun (congrArg Prod.snd (outsAt0_B m c ⟨n, hn⟩ h0 h1)) (ix2 a b : S1024x512.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 1024) (b : Fin 512) :
    ((outsAt0 m c t.val t.isLt).1 : Vec Ideal S1024x512 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S1024x512.Idx → EReal := fun i => ∑ k, prods m c (i 0) (i 1) k

theorem arr : ((dats m 0 c).arrAt 2 cfg0.N : S1024x512.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 1024) (d : Fin 512), y = ix2 a d := ⟨y 0, y 1, ext2 rfl rfl⟩
  refine (out_scr m c t h7 a d).trans ?_
  rw [psum_full]
  unfold total
  have e0 : colA t.val (lt0 t) a = (((cfg0.win 2).blk t).view.emb (ix2 a d : S1024x512.Idx) : S1024x512.Idx) 0 := by
    apply Fin.ext; blk_simp [idx0 t]; simp [colA]; try omega
  have e1 : colB t.val (lt0 t) d = (((cfg0.win 2).blk t).view.emb (ix2 a d : S1024x512.Idx) : S1024x512.Idx) 1 := by
    apply Fin.ext; blk_simp [idx0 t]; simp [colB]; try omega
  rw [e0, e1]

theorem opA_eq : opA m c = (m ((c : Thread nD τ).loc main_arg0) : S8192x1024.Idx → EReal) := by
  unfold opA
  show StableHlo.after hostOps0 (fun b => m (c, b)) (Proc.devRef .tc main_v0) = _
  after_results_simp
  rfl

theorem opB_eq : opB m c = (m ((c : Thread nD τ).loc main_arg1) : S8192x512.Idx → EReal) := by
  unfold opB
  show StableHlo.after hostOps0 (fun b => m (c, b)) (Proc.devRef .tc main_v1) = _
  after_results_simp
  rfl

/-- The reference's result is the same sum, its factors in the other order. -/
theorem ref_total : (Cert.Reference13Ideal.Read.val_main_v3 (F := Ideal) (m ((c : Thread nD τ).loc main_arg0)) (m ((c : Thread nD τ).loc main_arg1)) : S1024x512.Idx → EReal) = total m c := by
  funext i
  rw [Cert.Reference13Ideal.Read.val_main_v3_apply, Cert.Reference13Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel13Ideal.Val
-- ==== Proof.Dw14.lean ====
module

public import proofs.«01_k».proof.Proof.Sums
public import proofs.«01_k».proof.Proof.Gen.Kernel14Ideal.Value
public import proofs.«01_k».proof.Proof.Gen.Reference14Ideal.Read
public import Idealize.ShloMosaic.Lib.Pipeline.ValueKit
public import Idealize.ShloMosaic.Lib.StableHlo.RunRead

/-!
# The gradient of the cross-attention output projection

The kernel adds up the products of the rows of its two operands 1024 rows at a time, in a scratch buffer it keeps between
grid points; at the last of the eight it writes the sum out. So each entry of the result is the sum over all 8192 rows.
-/

@[expose] public section

set_option maxRecDepth 16384

namespace Cert.Kernel14Ideal.Val

open Idealize.ShloMosaic TcCoe Tactic
open Idealize.ShloMosaic.Pipeline (Dat)
open Cert.Kernel14Ideal Cert.Kernel14Ideal.Gen Cert.Feed

/-- The block the first of the eight points starts from. -/
theorem pay1_at (a : Fin 512) (b : Fin 1024) : k0_pay1 (F := Ideal) (ix2 a b : S512x1024.Idx) = (0 : EReal) := by
  pointwise [k0_pay1]

/-- One step of the sum. -/
theorem pay2_at (x : Vec Ideal S1024x512 .bf16) (o : Vec Ideal S512x1024 .f32) (w : Vec Ideal S1024x1024 .f32) (a : Fin 512) (b : Fin 1024) :
    k0_pay2 (F := Ideal) x o w (ix2 a b : S512x1024.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x512 .bf16) (hp : p.IsWhole)
  (q : Memref sig .tc .vmem S1024x1024 .f32) (hq : q.IsWhole) (r : Memref sig .tc .vmem S512x1024 .f32) (hr : r.IsWhole)
  (s : Memref sig .tc .vmem S512x1024 .f32) (hs : s.IsWhole) (x0 : Vec Ideal S1024x512 .bf16) (x1 : Vec Ideal S1024x1024 .f32) (xs : Vec Ideal S512x1024 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S512x1024) hz, View.readCov_unit_zero (S := S512x1024) _ hz]
  simp only [View.readAt_eq_ld, hp.read_unread, hq.read_unread, View.ld_unit_zero (S := S1024x512) hz, View.ld_unit_zero (S := S1024x1024) hz, View.ld_unit_zero (S := S512x1024) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S512x1024) hz]
  simp only [View.readAt_eq_ld, hp.read_unread, hq.read_unread, hs.read_unread, View.ld_unit_zero (S := S1024x512) hz, View.ld_unit_zero (S := S1024x1024) hz, View.ld_unit_zero (S := S512x1024) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S512x1024) hz]
  simp only [View.readAt_eq_ld, hp.read_unread, hq.read_unread, hs.read_unread, View.ld_unit_zero (S := S1024x512) hz, View.ld_unit_zero (S := S1024x1024) hz, View.ld_unit_zero (S := S512x1024) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S512x1024) hz, View.readCov_unit_zero (S := S512x1024) _ hz]
  simp only [View.readAt_eq_ld, hp.read_unread, hq.read_unread, hs.read_unread, View.ld_unit_zero (S := S1024x512) hz, View.ld_unit_zero (S := S1024x1024) hz, View.ld_unit_zero (S := S512x1024) hz]

end pieces

theorem lt0 (t : Fin cfg0.N) : t.val < 8 := t.isLt

theorem idx0 : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x512.Idx → EReal := V m c main_v0
noncomputable def opB : S8192x1024.Idx → EReal := V m c main_arg1

/-- The products one entry of the result adds up. -/
noncomputable def prods (a : Fin 512) (b : Fin 1024) : Fin 8192 → EReal := fun k => opA m c (ix2 k a) * opB m c (ix2 k b)

/-- The column of an operand a block's column is. -/
def colA (n : ℕ) (hn : n < 8) (a : Fin 512) : Fin 512 := ⟨512 * (0) + a.val, by omega⟩
def colB (n : ℕ) (hn : n < 8) (b : Fin 1024) : Fin 1024 := ⟨1024 * (0) + b.val, by omega⟩

theorem blkA (t : Fin cfg0.N) (k : Fin 1024) (a : Fin 512) (r : Fin 8192) (hr : r.val = 1024 * (t.val % 8) + k.val) :
    (iblk m c 0 t : Vec Ideal S1024x512 .bf16) (ix2 k a) = opA m c (ix2 r (colA t.val (lt0 t) a)) := by
  refine Eq.trans (b := (V m c main_v0 : S8192x512.Idx → EReal) (((cfg0.win 0).blk t).view.emb (ix2 k a : S1024x512.Idx))) ?_ (congrArg (V m c main_v0 : S8192x512.Idx → EReal) ?_)
  · blk_simp [iblk]
  · apply ext2 <;> apply Fin.ext <;> blk_simp [idx0 t]
    · simp [hr]; omega
    · simp [colA]; try omega

theorem blkB (t : Fin cfg0.N) (k : Fin 1024) (a : Fin 1024) (r : Fin 8192) (hr : r.val = 1024 * (t.val % 8) + k.val) :
    (iblk m c 1 t : Vec Ideal S1024x1024 .f32) (ix2 k a) = opB m c (ix2 r (colB t.val (lt0 t) a)) := by
  refine Eq.trans (b := (V m c main_arg1 : S8192x1024.Idx → EReal) (((cfg0.win 1).blk t).view.emb (ix2 k a : S1024x1024.Idx))) ?_ (congrArg (V m c main_arg1 : S8192x1024.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S512x1024 .f32) (a : Fin 512) (b : Fin 1024)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S512x1024.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 512) (b : Fin 1024),
    ((outsAt0 m c n hn).2 : Vec Ideal S512x1024 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S512x1024.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S512x1024.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S512x1024.Idx)).trans ?_
        dsimp only
        rw [sC]
        exact step m c ⟨n, hn⟩ _ a b hp
      · refine (congrFun (congrArg Prod.snd (outsAt0_B m c ⟨n, hn⟩ h0 h1)) (ix2 a b : S512x1024.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 512) (b : Fin 1024) :
    ((outsAt0 m c t.val t.isLt).1 : Vec Ideal S512x1024 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S512x1024.Idx → EReal := fun i => ∑ k, prods m c (i 0) (i 1) k

theorem arr : ((dats m 0 c).arrAt 2 cfg0.N : S512x1024.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 512) (d : Fin 1024), y = ix2 a d := ⟨y 0, y 1, ext2 rfl rfl⟩
  refine (out_scr m c t h7 a d).trans ?_
  rw [psum_full]
  unfold total
  have e0 : colA t.val (lt0 t) a = (((cfg0.win 2).blk t).view.emb (ix2 a d : S512x1024.Idx) : S512x1024.Idx) 0 := by
    apply Fin.ext; blk_simp [idx0 t]; simp [colA]; try omega
  have e1 : colB t.val (lt0 t) d = (((cfg0.win 2).blk t).view.emb (ix2 a d : S512x1024.Idx) : S512x1024.Idx) 1 := by
    apply Fin.ext; blk_simp [idx0 t]; simp [colB]; try omega
  rw [e0, e1]

theorem opA_eq : opA m c = (m ((c : Thread nD τ).loc main_arg0) : S8192x512.Idx → EReal) := by
  unfold opA
  show StableHlo.after hostOps0 (fun b => m (c, b)) (Proc.devRef .tc main_v0) = _
  after_results_simp
  rfl

theorem opB_eq : opB m c = (m ((c : Thread nD τ).loc main_arg1) : S8192x1024.Idx → EReal) := by
  unfold opB
  exact V_main_arg1 m c

/-- The reference's result is the same sum, its factors in the other order. -/
theorem ref_total : (Cert.Reference14Ideal.Read.val_main_v3 (F := Ideal) (m ((c : Thread nD τ).loc main_arg0)) (m ((c : Thread nD τ).loc main_arg1)) : S512x1024.Idx → EReal) = total m c := by
  funext i
  rw [Cert.Reference14Ideal.Read.val_main_v3_apply, Cert.Reference14Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel14Ideal.Val
-- ==== Proof.Up.lean ====
module

public import proofs.«01_k».proof.Proof.Lin
public import proofs.«01_k».proof.Proof.Gen.Kernel15Ideal.Frame

/-!
# The values of the latents, and the gradient into the query latents
-/

@[expose] public section

set_option maxRecDepth 16384

noncomputable section

namespace Cert.Kernel15Ideal.Val

open Idealize.ShloMosaic TcCoe Tactic
open Idealize.ShloMosaic.Pipeline (Dat)
open Cert.Kernel15Ideal Cert.Kernel15Ideal.Gen Cert.Lin

theorem o0_2 (x0 : Vec Ideal S1024x128 .bf16) (x1 : Vec Ideal S128x1024 .bf16) (a : Fin 1024) (b : Fin 1024) :
    out0_2 (F := Ideal) x0 x1 (ix2 a b) = rc (M := 1024) (K := 128) (N := 1024) x0 x1 (ix2 a b) := by
  unfold out0_2
  rw [View.canon_unit_zero (S := S1024x1024) hz, View.ld_unit_zero (S := S128x1024) hz, View.ld_unit_zero (S := S1024x128) hz]
  pointwise [k0_pay1]
  rfl

theorem o1_2 (x0 : Vec Ideal S1024x1024 .bf16) (x1 : Vec Ideal S256x1024 .bf16) (a : Fin 1024) (b : Fin 256) :
    out1_2 (F := Ideal) x0 x1 (ix2 a b) = rr (M := 1024) (K := 1024) (N := 256) x0 x1 (ix2 a b) := by
  unfold out1_2
  rw [View.canon_unit_zero (S := S1024x256) hz, View.ld_unit_zero (S := S256x1024) hz, View.ld_unit_zero (S := S1024x1024) hz]
  pointwise [k1_pay1]
  rfl

variable (V : (c : Dev nD) → (b : Ref sig .tc) → Buf (Elt Ideal) ((c : Thread nD τ).loc b)) (c : Dev nD)

theorem lt0 (t : Fin cfg0.N) : t.val < 8 := t.isLt

theorem idx0 : ∀ t : Fin cfg0.N, win0_0.index t = ![t.val, 0] ∧ win0_1.index t = ![0, 0] ∧ win0_2.index t = ![t.val, 0] :=
  (by decide +kernel : ∀ t : Fin grid0.N, _)

theorem emb0_0 (t : Fin cfg0.N) (a : Fin 1024) (b : Fin 128) :
    (win0_0.blk t).view.emb (ix2 a b : S1024x128.Idx) = (ix2 ⟨1024 * (t.val) + a.val, by have := lt0 t; omega⟩ b : S8192x128.Idx) := by
  funext q; match q with
    | ⟨0, _⟩ | ⟨1, _⟩ => apply Fin.ext; blk_simp [idx0 t]; try simp; try omega

theorem blk0_0 (t : Fin cfg0.N) (a : Fin 1024) (b : Fin 128) :
    (iblk0 V c 0 t : Vec Ideal S1024x128 .bf16) (ix2 a b) = (V c main_v0 : S8192x128.Idx → EReal) (ix2 ⟨1024 * (t.val) + a.val, by have := lt0 t; omega⟩ b) := by
  blk_simp [iblk0]
  rw [emb0_0]

theorem emb0_1 (t : Fin cfg0.N) (a : Fin 128) (b : Fin 1024) :
    (win0_1.blk t).view.emb (ix2 a b : S128x1024.Idx) = (ix2 a b : S128x1024.Idx) := by
  funext q; match q with
    | ⟨0, _⟩ | ⟨1, _⟩ => apply Fin.ext; blk_simp [idx0 t]; try simp; try omega

theorem blk0_1 (t : Fin cfg0.N) (a : Fin 128) (b : Fin 1024) :
    (iblk0 V c 1 t : Vec Ideal S128x1024 .bf16) (ix2 a b) = (V c main_v1 : S128x1024.Idx → EReal) (ix2 a b) := by
  blk_simp [iblk0]
  rw [emb0_1]

theorem emb0_2 (t : Fin cfg0.N) (a : Fin 1024) (b : Fin 1024) :
    (win0_2.blk t).view.emb (ix2 a b : S1024x1024.Idx) = (ix2 ⟨1024 * (t.val) + a.val, by have := lt0 t; omega⟩ b : S8192x1024.Idx) := by
  funext q; match q with
    | ⟨0, _⟩ | ⟨1, _⟩ => apply Fin.ext; blk_simp [idx0 t]; try simp; try omega

theorem lt1 (t : Fin cfg1.N) : t.val < 8 := t.isLt

theorem idx1 : ∀ t : Fin cfg1.N, win1_0.index t = ![t.val, 0] ∧ win1_1.index t = ![0, 0] ∧ win1_2.index t = ![t.val, 0] :=
  (by decide +kernel : ∀ t : Fin grid1.N, _)

theorem emb1_0 (t : Fin cfg1.N) (a : Fin 1024) (b : Fin 1024) :
    (win1_0.blk t).view.emb (ix2 a b : S1024x1024.Idx) = (ix2 ⟨1024 * (t.val) + a.val, by have := lt1 t; omega⟩ b : S8192x1024.Idx) := by
  funext q; match q with
    | ⟨0, _⟩ | ⟨1, _⟩ => apply Fin.ext; blk_simp [idx1 t]; try simp; try omega

theorem blk1_0 (t : Fin cfg1.N) (a : Fin 1024) (b : Fin 1024) :
    (iblk1 V c 0 t : Vec Ideal S1024x1024 .bf16) (ix2 a b) = (V c main_v3 : S8192x1024.Idx → EReal) (ix2 ⟨1024 * (t.val) + a.val, by have := lt1 t; omega⟩ b) := by
  blk_simp [iblk1]
  rw [emb1_0]

theorem emb1_1 (t : Fin cfg1.N) (a : Fin 256) (b : Fin 1024) :
    (win1_1.blk t).view.emb (ix2 a b : S256x1024.Idx) = (ix2 a b : S256x1024.Idx) := by
  funext q; match q with
    | ⟨0, _⟩ | ⟨1, _⟩ => apply Fin.ext; blk_simp [idx1 t]; try simp; try omega

theorem blk1_1 (t : Fin cfg1.N) (a : Fin 256) (b : Fin 1024) :
    (iblk1 V c 1 t : Vec Ideal S256x1024 .bf16) (ix2 a b) = (V c main_v4 : S256x1024.Idx → EReal) (ix2 a b) := by
  blk_simp [iblk1]
  rw [emb1_1]

theorem emb1_2 (t : Fin cfg1.N) (a : Fin 1024) (b : Fin 256) :
    (win1_2.blk t).view.emb (ix2 a b : S1024x256.Idx) = (ix2 ⟨1024 * (t.val) + a.val, by have := lt1 t; omega⟩ b : S8192x256.Idx) := by
  funext q; match q with
    | ⟨0, _⟩ | ⟨1, _⟩ => apply Fin.ext; blk_simp [idx1 t]; try simp; try omega

theorem arr0_2 : ((dat0 V c).arrAt 2 cfg0.N : S8192x1024.Idx → EReal) = fun y => rc (M := 8192) (K := 128) (N := 1024) (V c main_v0 : S8192x128.Idx → EReal) (V c main_v1 : S128x1024.Idx → EReal) y := by
  refine (dat0 V c).arrAt_eq_of_covers 2 (fun y => rc (M := 8192) (K := 128) (N := 1024) (V c main_v0 : S8192x128.Idx → EReal) (V c main_v1 : S128x1024.Idx → EReal) y) (by decide +kernel) fun t _ y => ?_
  obtain ⟨a, b, rfl⟩ := idx2_self y
  blk_simp
  rw [after0_2, emb0_2]
  refine (o0_2 _ _ a b).trans ?_
  exact rc_blk (fun k => blk0_0 V c t _ _) (fun k => blk0_1 V c t _ _)
theorem arr1_2 : ((dat1 V c).arrAt 2 cfg1.N : S8192x256.Idx → EReal) = fun y => rr (M := 8192) (K := 1024) (N := 256) (V c main_v3 : S8192x1024.Idx → EReal) (V c main_v4 : S256x1024.Idx → EReal) y := by
  refine (dat1 V c).arrAt_eq_of_covers 2 (fun y => rr (M := 8192) (K := 1024) (N := 256) (V c main_v3 : S8192x1024.Idx → EReal) (V c main_v4 : S256x1024.Idx → EReal) y) (by decide +kernel) fun t _ y => ?_
  obtain ⟨a, b, rfl⟩ := idx2_self y
  blk_simp
  rw [after1_2, emb1_2]
  refine (o1_2 _ _ a b).trans ?_
  exact rr_blk (fun k => blk1_0 V c t _ _) (fun k => blk1_1 V c t _ _)

end Cert.Kernel15Ideal.Val
-- ==== Proof.UpMain.lean ====
module

public import proofs.«01_k».proof.Proof.Up
public import proofs.«01_k».proof.Proof.Gen.Reference15Ideal.Read
public import proofs.«01_k».proof.Proof.Gen.Reference15Ideal.Run
public import proofs.«01_k».proof.Defs

/-!
# The maps of the latents, side by side with the reference
-/

@[expose] public section

set_option maxRecDepth 16384

noncomputable section

namespace Cert.Kernel15Ideal.Val

open Idealize.ShloMosaic TcCoe Tactic
open Idealize.ShloMosaic.Pipeline (Dat)
open Cert.Kernel15Ideal Cert.Kernel15Ideal.Gen Cert.Lin

variable (m : (ℓ : Loc nD τ sig) → Buf (Elt Ideal) ℓ) (ρ : Dev nD → PrngReg) (c : Dev nD)

/-- The arguments. -/
def a0 : S8192x128.Idx → EReal := m ((c : Thread nD τ).loc main_arg0)
def a1 : S128x1024.Idx → EReal := m ((c : Thread nD τ).loc main_arg1)
def a2 : S8192x1024.Idx → EReal := m ((c : Thread nD τ).loc main_arg2)
def a3 : S256x1024.Idx → EReal := m ((c : Thread nD τ).loc main_arg3)

theorem V1_v0 : (V1 m ρ c main_v0 : S8192x128.Idx → EReal) = a0 m c := by
  show W1 m ρ c (Proc.devRef .tc main_v0) = _
  after_results_simp
  rfl

theorem V1_v1 : (V1 m ρ c main_v1 : S128x1024.Idx → EReal) = a1 m c := by
  show W1 m ρ c (Proc.devRef .tc main_v1) = _
  after_results_simp
  rfl

theorem W2_v2 : (W2 m ρ c (Proc.devRef .tc main_v2) : S8192x1024.Idx → EReal) = fun y => rc (M := 8192) (K := 128) (N := 1024) (a0 m c) (a1 m c) y :=
  (W2_arr m ρ c 2).trans ((arr0_2 (V1 m ρ) c).trans (by rw [V1_v0, V1_v1]))
theorem W3_v2 : (W3 m ρ c (Proc.devRef .tc main_v2) : S8192x1024.Idx → EReal) = fun y => rc (M := 8192) (K := 128) (N := 1024) (a0 m c) (a1 m c) y := (W3_of m ρ c main_v2 (by decide)).trans (W2_v2 m ρ c)
theorem W4_v2 : (W4 m ρ c (Proc.devRef .tc main_v2) : S8192x1024.Idx → EReal) = fun y => rc (M := 8192) (K := 128) (N := 1024) (a0 m c) (a1 m c) y := (W4_of m ρ c main_v2 (by decide)).trans (W3_v2 m ρ c)
theorem V3_v3 : (V3 m ρ c main_v3 : S8192x1024.Idx → EReal) = a2 m c := by
  refine Eq.trans ?_ (W2_args m ρ c main_arg2 (by decide))
  show W3 m ρ c (Proc.devRef .tc main_v3) = _
  after_results_simp
  rfl

theorem V3_v4 : (V3 m ρ c main_v4 : S256x1024.Idx → EReal) = a3 m c := by
  refine Eq.trans ?_ (W2_args m ρ c main_arg3 (by decide))
  show W3 m ρ c (Proc.devRef .tc main_v4) = _
  after_results_simp
  rfl

theorem W4_v5 : (W4 m ρ c (Proc.devRef .tc main_v5) : S8192x256.Idx → EReal) = fun y => rr (M := 8192) (K := 1024) (N := 256) (a2 m c) (a3 m c) y :=
  (W4_arr m ρ c 2).trans ((arr1_2 (V3 m ρ) c).trans (by rw [V3_v3, V3_v4]))

end Cert.Kernel15Ideal.Val

namespace Cert.Reference15Ideal.Val

open Idealize.ShloMosaic TcCoe Tactic
open Cert.Reference15Ideal Cert.Reference15Ideal.Gen Cert.Reference15Ideal.Read Cert.Lin

variable {x0 : (⟨S8192x128, .f32⟩ : BufTy).Contents (Elt Ideal)} {x1 : (⟨S128x1024, .f32⟩ : BufTy).Contents (Elt Ideal)} {x2 : (⟨S8192x1024, .f32⟩ : BufTy).Contents (Elt Ideal)} {x3 : (⟨S256x1024, .f32⟩ : BufTy).Contents (Elt Ideal)}

theorem r2  (y : S8192x1024.Idx) : val_main_v2 (F := Ideal) x0 x1 y = rc (M := 8192) (K := 128) (N := 1024) x0 x1 y := by
  rw [val_main_v2_apply]
  exact Finset.sum_congr rfl fun k _ => congrArg₂ (· * ·) (congrArg (x0) (idx_eq rfl rfl)) (congrArg (x1) (idx_eq rfl rfl))

theorem r4  (y : S8192x256.Idx) : val_main_v4 (F := Ideal) x2 x3 y = rr (M := 8192) (K := 1024) (N := 256) x2 x3 y := by
  rw [val_main_v4_apply]
  exact Finset.sum_congr rfl fun k _ => congrArg₂ (· * ·) (congrArg (x2) (idx_eq rfl rfl)) (congrArg (x3) (idx_eq rfl rfl))

end Cert.Reference15Ideal.Val

namespace Cert.Kernel15Ideal.Val

open Idealize.ShloMosaic TcCoe Tactic
open Idealize.ShloMosaic.Pipeline (Dat)
open Cert.Kernel15Ideal Cert.Kernel15Ideal.Gen Cert.Lin
open Idealize.SL Idealize.SL.RA Idealize.SL.BI
open scoped Idealize.SL.BI
open Idealize.SL.BI.BIBase Idealize.SL.BI.Laws Idealize.SL.ProofMode Idealize.SL.Sem
open Idealize.ShloMosaic.Rounds

section run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, and every buffer ends at what the segments leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end run

/-- The value claim. -/
theorem algebraic : Cert.algebraic_Kernel15Ideal_Reference15Ideal := by
  intro m g m' g' _ hagree
  refine ⟨fun c => fun y => rc (M := 8192) (K := 128) (N := 1024) (a0 m c) (a1 m c) y, fun c => fun y => rr (M := 8192) (K := 1024) (N := 256) (a2 m c) (a3 m c) y, ?_, ?_⟩
  · refine θ_run_mono (run_all m g) ?_
    intro r h c
    exact ⟨(h c _ (mem_uc main_v2 (by decide))).trans (W4_v2 m g c), (h c _ (mem_uc main_v5 (by decide))).trans (W4_v5 m g c), (h c _ (mem_uc main_arg0 (by decide))).trans (W4_main_arg0 m g c), (h c _ (mem_uc main_arg1 (by decide))).trans (W4_main_arg1 m g c), (h c _ (mem_uc main_arg2 (by decide))).trans (W4_main_arg2 m g c), (h c _ (mem_uc main_arg3 (by decide))).trans (W4_main_arg3 m g c)⟩
  · refine θ_run_mono (Cert.Reference15Ideal.Value.run m' g') ?_
    intro r h c
    obtain ⟨h0, h1, ha⟩ := h c
    obtain ⟨a0, a1, a2, a3⟩ := hagree c
    rw [Cert.Reference15Ideal.Read.val_main_v3_eq, a0, a1] at h0
    rw [Cert.Reference15Ideal.Read.val_main_v4_eq, a2, a3] at h1
    exact ⟨h0.trans (funext fun y => Cert.Reference15Ideal.Val.r2 y), h1.trans (funext fun y => Cert.Reference15Ideal.Val.r4 y), ha⟩

end Cert.Kernel15Ideal.Val
-- ==== Proof.In16.lean ====
module

public import proofs.«01_k».proof.Proof.Lin
public import proofs.«01_k».proof.Proof.Gen.Kernel16Ideal.Value
public import proofs.«01_k».proof.Proof.Gen.Reference16Ideal.Read

/-!
# The gradient of the latents of the keys and values
-/

@[expose] public section

set_option maxRecDepth 16384

namespace Cert.Kernel16Ideal.Val

open Idealize.ShloMosaic TcCoe Tactic
open Idealize.ShloMosaic.Pipeline (Dat)
open Cert.Kernel16Ideal Cert.Kernel16Ideal.Gen Cert.Lin

theorem pay1_at (a : Fin 1024) (b : Fin 128) : k0_pay1 (F := Ideal) (ix2 a b : S1024x128.Idx) = (0 : EReal) := by
  pointwise [k0_pay1]

/-- One step of the sum. -/
theorem pay2_at (x : Vec Ideal S1024x1024 .bf16) (o : Vec Ideal S1024x128 .f32) (w : Vec Ideal S128x1024 .bf16) (a : Fin 1024) (b : Fin 128) :
    k0_pay2 (F := Ideal) x o w (ix2 a b : S1024x128.Idx) = (o (ix2 a b) : EReal) + ∑ k : Fin 1024, (x (ix2 a k) : EReal) * (w (ix2 b k) : EReal) := by
  pointwise [k0_pay2]

section pieces

variable (c : Dev nD) (i : grid0.Coords) (arg3 : Memref sig .tc .vmem S1024x1024 .bf16) (harg3 : arg3.IsWhole)
  (arg4 : Memref sig .tc .vmem S128x1024 .bf16) (harg4 : arg4.IsWhole) (arg5 : Memref sig .tc .vmem S1024x128 .f32) (harg5 : arg5.IsWhole)
  (arg6 : Memref sig .tc .vmem S1024x128 .f32) (harg6 : arg6.IsWhole) (x0 : Vec Ideal S1024x1024 .bf16) (x1 : Vec Ideal S128x1024 .bf16) (xs : Vec Ideal S1024x128 .f32)

theorem sA (h0 : cond0_0 i) (h1 : ¬cond0_1 i) :
    sout0_A_0 (F := Ideal) c i arg3 harg3 arg4 harg4 arg5 harg5 arg6 harg6 h0 h1 x0 x1 = k0_pay2 (F := Ideal) x0 (k0_pay1 (F := Ideal)) x1 := by
  unfold sout0_A_0
  rw [View.read_writes_eq_canon _ _ _ (scover0_A_0 c i arg3 harg3 arg4 harg4 arg5 harg5 arg6 harg6 h0 h1 x0 x1)]
  unfold kernelRun0_A
  dsimp only
  sl_unfold_words
  rw [View.canon_cons_unit_zero (S := S1024x128) hz, View.readCov_unit_zero (S := S1024x128) _ hz]
  simp only [View.readAt_eq_ld, harg3.read_unread, harg4.read_unread, View.ld_unit_zero (S := S1024x1024) hz, View.ld_unit_zero (S := S128x1024) hz, View.ld_unit_zero (S := S1024x128) hz]

theorem oB (h0 : ¬cond0_0 i) (h1 : cond0_1 i) :
    out0_B_2 (F := Ideal) c i arg3 harg3 arg4 harg4 arg5 harg5 arg6 harg6 h0 h1 x0 x1 xs = k0_pay2 (F := Ideal) x0 xs x1 := by
  unfold out0_B_2
  rw [View.read_writes_eq_canon _ _ _ (cover0_B_2 c i arg3 harg3 arg4 harg4 arg5 harg5 arg6 harg6 h0 h1 x0 x1 xs)]
  unfold kernelRun0_B
  dsimp only
  sl_unfold_words
  rw [View.canon_unit_zero (S := S1024x128) hz, View.readCov_unit_zero (S := S1024x128) _ hz]
  simp only [View.readAt_eq_ld, harg3.read_unread, harg4.read_unread, harg6.read_unread, View.ld_unit_zero (S := S1024x1024) hz, View.ld_unit_zero (S := S128x1024) hz, View.ld_unit_zero (S := S1024x128) hz]

end pieces

theorem lt0 (t : Fin cfg0.N) : t.val < 16 := t.isLt

theorem idx0 : ∀ t : Fin cfg0.N, win0_0.index t = ![t.val / 2, t.val % 2] ∧ win0_1.index t = ![0, t.val % 2] ∧ win0_2.index t = ![t.val / 2, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x2048.Idx → EReal := V m c main_v0
noncomputable def opB : S128x2048.Idx → EReal := V m c main_v1

/-- The row of the first operand a block's row is. -/
def rowA (n : ℕ) (hn : n < 16) (a : Fin 1024) : Fin 8192 := ⟨1024 * (n / 2) + a.val, by omega⟩

theorem blkA (t : Fin cfg0.N) (a : Fin 1024) (k : Fin 1024) (r : Fin 8192) (hr : r = rowA t.val (lt0 t) a) (q : Fin 2048) (hq : q.val = 1024 * (t.val % 2) + k.val) :
    (iblk m c 0 t : Vec Ideal S1024x1024 .bf16) (ix2 a k) = opA m c (ix2 r q) := by
  subst hr
  refine Eq.trans (b := (V m c main_v0 : S8192x2048.Idx → EReal) (((cfg0.win 0).blk t).view.emb (ix2 a k : S1024x1024.Idx))) ?_ (congrArg (V m c main_v0 : S8192x2048.Idx → EReal) ?_)
  · blk_simp [iblk]
  · funext b
    match b with
    | ⟨0, _⟩ => apply Fin.ext; blk_simp [idx0 t]; simp [rowA]; try omega
    | ⟨1, _⟩ => apply Fin.ext; blk_simp [idx0 t]; simp [hq]; try omega

theorem blkB (t : Fin cfg0.N) (a : Fin 128) (k : Fin 1024) (q : Fin 2048) (hq : q.val = 1024 * (t.val % 2) + k.val) :
    (iblk m c 1 t : Vec Ideal S128x1024 .bf16) (ix2 a k) = opB m c (ix2 a q) := by
  refine Eq.trans (b := (V m c main_v1 : S128x2048.Idx → EReal) (((cfg0.win 1).blk t).view.emb (ix2 a k : S128x1024.Idx))) ?_ (congrArg (V m c main_v1 : S128x2048.Idx → EReal) ?_)
  · blk_simp [iblk]
  · funext b
    match b with
    | ⟨0, _⟩ => apply Fin.ext; blk_simp [idx0 t]; try simp; try omega
    | ⟨1, _⟩ => apply Fin.ext; blk_simp [idx0 t]; simp [hq]; try omega

/-- The first half of an entry's sum, in the scratch after an even point. -/
theorem scr (t : Fin cfg0.N) (h0 : t.val % 2 = 0) (a : Fin 1024) (b : Fin 128) :
    ((outsAt0 m c t.val t.isLt).2 : Vec Ideal S1024x128 .f32) (ix2 a b)
      = ∑ k : Fin 1024, opA m c (ix2 (rowA t.val (lt0 t) a) (Fin.castAdd 1024 k)) * opB m c (ix2 b (Fin.castAdd 1024 k)) := by
  have h1 : ¬ t.val % 2 = 1 := by omega
  refine (congrFun (congrArg Prod.snd (outsAt0_A m c t h0 h1)) (ix2 a b : S1024x128.Idx)).trans ?_
  dsimp only
  rw [sA]
  refine (pay2_at _ _ _ a b).trans ?_
  rw [pay1_at, zero_add]
  exact Finset.sum_congr rfl fun k _ => congrArg₂ (· * ·) (blkA m c t a k _ rfl _ (by rw [h0]; simp)) (blkB m c t b k _ (by rw [h0]; simp))

/-- What the output's buffer holds after an odd point: the whole sum. -/
theorem out_at (t : Fin cfg0.N) (h1 : t.val % 2 = 1) (a : Fin 1024) (b : Fin 128) :
    ((outsAt0 m c t.val t.isLt).1 : Vec Ideal S1024x128 .f32) (ix2 a b)
      = ∑ k : Fin 2048, opA m c (ix2 (rowA t.val (lt0 t) a) k) * opB m c (ix2 b k) := by
  have h0 : ¬ t.val % 2 = 0 := by omega
  refine (congrFun (congrArg Prod.fst (outsAt0_B m c t h0 h1)) (ix2 a b : S1024x128.Idx)).trans ?_
  dsimp only
  rw [oB]
  refine (pay2_at _ _ _ a b).trans ?_
  have hl : t.val - 1 < cfg0.N := Nat.lt_of_le_of_lt (Nat.sub_le _ _) t.isLt
  have hp := scr m c ⟨t.val - 1, hl⟩ (show (t.val - 1) % 2 = 0 by omega) a b
  have hr : rowA (t.val - 1) (lt0 ⟨t.val - 1, hl⟩) a = rowA t.val (lt0 t) a := Fin.ext (by simp only [rowA]; omega)
  dsimp only at hp
  rw [hr] at hp
  rw [show (∑ k : Fin 2048, opA m c (ix2 (rowA t.val (lt0 t) a) k) * opB m c (ix2 b k)) = _ from
    Fin.sum_univ_add (a := 1024) (b := 1024) (fun k : Fin (1024 + 1024) => opA m c (ix2 (rowA t.val (lt0 t) a) k) * opB m c (ix2 b k))]
  exact congrArg₂ (fun p q : EReal => p + q) hp (Finset.sum_congr rfl fun k _ => congrArg₂ (· * ·)
    (blkA m c t a k _ rfl (Fin.natAdd 1024 k) (by rw [h1]; simp [Nat.add_comm])) (blkB m c t b k (Fin.natAdd 1024 k) (by rw [h1]; simp [Nat.add_comm])))

/-- The result. -/
noncomputable def total : S8192x128.Idx → EReal := fun i => rr (M := 8192) (K := 2048) (N := 128) (opA m c) (opB m c) i

theorem arr : ((dats m 0 c).arrAt 2 cfg0.N : S8192x128.Idx → EReal) = total m c := by
  refine (dats m 0 c).arrAt_eq_of_covers 2 (total m c) (by decide +kernel) fun t hf y => ?_
  have h1 : t.val % 2 = 1 := (flush0_2 t).mp hf
  blk_simp
  rw [after0_2]
  obtain ⟨a, d, rfl⟩ := idx2_self y
  refine (out_at m c t h1 a d).trans ?_
  have e : (((cfg0.win 2).blk t).view.emb (ix2 a d : S1024x128.Idx) : S8192x128.Idx) = ix2 (rowA t.val (lt0 t) a) d := by
    funext b
    match b with
    | ⟨0, _⟩ => apply Fin.ext; blk_simp [idx0 t]; simp [rowA]; try omega
    | ⟨1, _⟩ => apply Fin.ext; blk_simp [idx0 t]; try simp; try omega
  refine Eq.trans ?_ (congrArg (total m c) e.symm)
  rfl

theorem opA_eq : opA m c = (m ((c : Thread nD τ).loc main_arg0) : S8192x2048.Idx → EReal) := by
  unfold opA
  show StableHlo.after hostOps0 (fun b => m (c, b)) (Proc.devRef .tc main_v0) = _
  after_results_simp
  rfl

theorem opB_eq : opB m c = (m ((c : Thread nD τ).loc main_arg1) : S128x2048.Idx → EReal) := by
  unfold opB
  show StableHlo.after hostOps0 (fun b => m (c, b)) (Proc.devRef .tc main_v1) = _
  after_results_simp
  rfl

/-- The reference's result is the same sum. -/
theorem ref_total : (Cert.Reference16Ideal.Read.val_main_v2 (F := Ideal) (m ((c : Thread nD τ).loc main_arg0)) (m ((c : Thread nD τ).loc main_arg1)) : S8192x128.Idx → EReal) = total m c := by
  funext i
  rw [Cert.Reference16Ideal.Read.val_main_v2_apply]

  unfold total rr
  refine Finset.sum_congr rfl fun k _ => ?_
  rw [opA_eq, opB_eq]
  refine congrArg₂ (· * ·) (congrArg _ ?_) (congrArg _ ?_)
  · funext b
    match b with
    | ⟨0, _⟩ | ⟨1, _⟩ => rfl
  · funext b
    match b with
    | ⟨0, _⟩ | ⟨1, _⟩ => rfl

end Cert.Kernel16Ideal.Val
-- ==== Proof.Dw17.lean ====
module

public import proofs.«01_k».proof.Proof.Sums
public import proofs.«01_k».proof.Proof.Gen.Kernel17Ideal.Value
public import proofs.«01_k».proof.Proof.Gen.Reference17Ideal.Read
public import Idealize.ShloMosaic.Lib.Pipeline.ValueKit
public import Idealize.ShloMosaic.Lib.StableHlo.RunRead

/-!
# The gradient of the projection of the queries

The kernel adds up the products of the rows of its two operands 1024 rows at a time, in a scratch buffer it keeps between
grid points; at the last of the eight it writes the sum out. So each entry of the result is the sum over all 8192 rows.
-/

@[expose] public section

set_option maxRecDepth 16384

namespace Cert.Kernel17Ideal.Val

open Idealize.ShloMosaic TcCoe Tactic
open Idealize.ShloMosaic.Pipeline (Dat)
open Cert.Kernel17Ideal Cert.Kernel17Ideal.Gen Cert.Feed

/-- The block the first of the eight points starts from. -/
theorem pay1_at (a : Fin 256) (b : Fin 1024) : k0_pay1 (F := Ideal) (ix2 a b : S256x1024.Idx) = (0 : EReal) := by
  pointwise [k0_pay1]

/-- One step of the sum. -/
theorem pay2_at (x : Vec Ideal S1024x256 .bf16) (o : Vec Ideal S256x1024 .f32) (w : Vec Ideal S1024x1024 .bf16) (a : Fin 256) (b : Fin 1024) :
    k0_pay2 (F := Ideal) x o w (ix2 a b : S256x1024.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x256 .bf16) (hp : p.IsWhole)
  (q : Memref sig .tc .vmem S1024x1024 .bf16) (hq : q.IsWhole) (r : Memref sig .tc .vmem S256x1024 .f32) (hr : r.IsWhole)
  (s : Memref sig .tc .vmem S256x1024 .f32) (hs : s.IsWhole) (x0 : Vec Ideal S1024x256 .bf16) (x1 : Vec Ideal S1024x1024 .bf16) (xs : Vec Ideal S256x1024 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S256x1024) hz, View.readCov_unit_zero (S := S256x1024) _ hz]
  simp only [View.readAt_eq_ld, hp.read_unread, hq.read_unread, View.ld_unit_zero (S := S1024x256) hz, View.ld_unit_zero (S := S1024x1024) hz, View.ld_unit_zero (S := S256x1024) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S256x1024) hz]
  simp only [View.readAt_eq_ld, hp.read_unread, hq.read_unread, hs.read_unread, View.ld_unit_zero (S := S1024x256) hz, View.ld_unit_zero (S := S1024x1024) hz, View.ld_unit_zero (S := S256x1024) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S256x1024) hz]
  simp only [View.readAt_eq_ld, hp.read_unread, hq.read_unread, hs.read_unread, View.ld_unit_zero (S := S1024x256) hz, View.ld_unit_zero (S := S1024x1024) hz, View.ld_unit_zero (S := S256x1024) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S256x1024) hz, View.readCov_unit_zero (S := S256x1024) _ hz]
  simp only [View.readAt_eq_ld, hp.read_unread, hq.read_unread, hs.read_unread, View.ld_unit_zero (S := S1024x256) hz, View.ld_unit_zero (S := S1024x1024) hz, View.ld_unit_zero (S := S256x1024) hz]

end pieces

theorem lt0 (t : Fin cfg0.N) : t.val < 8 := t.isLt

theorem idx0 : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x256.Idx → EReal := V m c main_v0
noncomputable def opB : S8192x1024.Idx → EReal := V m c main_v1

/-- The products one entry of the result adds up. -/
noncomputable def prods (a : Fin 256) (b : Fin 1024) : Fin 8192 → EReal := fun k => opA m c (ix2 k a) * opB m c (ix2 k b)

/-- The column of an operand a block's column is. -/
def colA (n : ℕ) (hn : n < 8) (a : Fin 256) : Fin 256 := ⟨256 * (0) + a.val, by omega⟩
def colB (n : ℕ) (hn : n < 8) (b : Fin 1024) : Fin 1024 := ⟨1024 * (0) + b.val, by omega⟩

theorem blkA (t : Fin cfg0.N) (k : Fin 1024) (a : Fin 256) (r : Fin 8192) (hr : r.val = 1024 * (t.val % 8) + k.val) :
    (iblk m c 0 t : Vec Ideal S1024x256 .bf16) (ix2 k a) = opA m c (ix2 r (colA t.val (lt0 t) a)) := by
  refine Eq.trans (b := (V m c main_v0 : S8192x256.Idx → EReal) (((cfg0.win 0).blk t).view.emb (ix2 k a : S1024x256.Idx))) ?_ (congrArg (V m c main_v0 : S8192x256.Idx → EReal) ?_)
  · blk_simp [iblk]
  · apply ext2 <;> apply Fin.ext <;> blk_simp [idx0 t]
    · simp [hr]; omega
    · simp [colA]; try omega

theorem blkB (t : Fin cfg0.N) (k : Fin 1024) (a : Fin 1024) (r : Fin 8192) (hr : r.val = 1024 * (t.val % 8) + k.val) :
    (iblk m c 1 t : Vec Ideal S1024x1024 .bf16) (ix2 k a) = opB m c (ix2 r (colB t.val (lt0 t) a)) := by
  refine Eq.trans (b := (V m c main_v1 : S8192x1024.Idx → EReal) (((cfg0.win 1).blk t).view.emb (ix2 k a : S1024x1024.Idx))) ?_ (congrArg (V m c main_v1 : S8192x1024.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S256x1024 .f32) (a : Fin 256) (b : Fin 1024)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S256x1024.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 256) (b : Fin 1024),
    ((outsAt0 m c n hn).2 : Vec Ideal S256x1024 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S256x1024.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S256x1024.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S256x1024.Idx)).trans ?_
        dsimp only
        rw [sC]
        exact step m c ⟨n, hn⟩ _ a b hp
      · refine (congrFun (congrArg Prod.snd (outsAt0_B m c ⟨n, hn⟩ h0 h1)) (ix2 a b : S256x1024.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 256) (b : Fin 1024) :
    ((outsAt0 m c t.val t.isLt).1 : Vec Ideal S256x1024 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S256x1024.Idx → EReal := fun i => ∑ k, prods m c (i 0) (i 1) k

theorem arr : ((dats m 0 c).arrAt 2 cfg0.N : S256x1024.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 256) (d : Fin 1024), y = ix2 a d := ⟨y 0, y 1, ext2 rfl rfl⟩
  refine (out_scr m c t h7 a d).trans ?_
  rw [psum_full]
  unfold total
  have e0 : colA t.val (lt0 t) a = (((cfg0.win 2).blk t).view.emb (ix2 a d : S256x1024.Idx) : S256x1024.Idx) 0 := by
    apply Fin.ext; blk_simp [idx0 t]; simp [colA]; try omega
  have e1 : colB t.val (lt0 t) d = (((cfg0.win 2).blk t).view.emb (ix2 a d : S256x1024.Idx) : S256x1024.Idx) 1 := by
    apply Fin.ext; blk_simp [idx0 t]; simp [colB]; try omega
  rw [e0, e1]

theorem opA_eq : opA m c = (m ((c : Thread nD τ).loc main_arg0) : S8192x256.Idx → EReal) := by
  unfold opA
  show StableHlo.after hostOps0 (fun b => m (c, b)) (Proc.devRef .tc main_v0) = _
  after_results_simp
  rfl

theorem opB_eq : opB m c = (m ((c : Thread nD τ).loc main_arg1) : S8192x1024.Idx → EReal) := by
  unfold opB
  show StableHlo.after hostOps0 (fun b => m (c, b)) (Proc.devRef .tc main_v1) = _
  after_results_simp
  rfl

/-- The reference's result is the same sum, its factors in the other order. -/
theorem ref_total : (Cert.Reference17Ideal.Read.val_main_v3 (F := Ideal) (m ((c : Thread nD τ).loc main_arg0)) (m ((c : Thread nD τ).loc main_arg1)) : S256x1024.Idx → EReal) = total m c := by
  funext i
  rw [Cert.Reference17Ideal.Read.val_main_v3_apply, Cert.Reference17Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel17Ideal.Val
-- ==== Proof.Dw18.lean ====
module

public import proofs.«01_k».proof.Proof.Sums
public import proofs.«01_k».proof.Proof.Gen.Kernel18Ideal.Value
public import proofs.«01_k».proof.Proof.Gen.Reference18Ideal.Read
public import Idealize.ShloMosaic.Lib.Pipeline.ValueKit
public import Idealize.ShloMosaic.Lib.StableHlo.RunRead

/-!
# The gradient of the projection of the keys and values

The kernel adds up the products of the rows of its two operands 1024 rows at a time, in a scratch buffer it keeps between
grid points; at the last of the eight it writes the sum out. So each entry of the result is the sum over all 8192 rows.
-/

@[expose] public section

set_option maxRecDepth 16384

namespace Cert.Kernel18Ideal.Val

open Idealize.ShloMosaic TcCoe Tactic
open Idealize.ShloMosaic.Pipeline (Dat)
open Cert.Kernel18Ideal Cert.Kernel18Ideal.Gen Cert.Feed

/-- The block the first of the eight points starts from. -/
theorem pay1_at (a : Fin 128) (b : Fin 1024) : k0_pay1 (F := Ideal) (ix2 a b : S128x1024.Idx) = (0 : EReal) := by
  pointwise [k0_pay1]

/-- One step of the sum. -/
theorem pay2_at (x : Vec Ideal S1024x128 .bf16) (o : Vec Ideal S128x1024 .f32) (w : Vec Ideal S1024x1024 .bf16) (a : Fin 128) (b : Fin 1024) :
    k0_pay2 (F := Ideal) x o w (ix2 a b : S128x1024.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x128 .bf16) (hp : p.IsWhole)
  (q : Memref sig .tc .vmem S1024x1024 .bf16) (hq : q.IsWhole) (r : Memref sig .tc .vmem S128x1024 .f32) (hr : r.IsWhole)
  (s : Memref sig .tc .vmem S128x1024 .f32) (hs : s.IsWhole) (x0 : Vec Ideal S1024x128 .bf16) (x1 : Vec Ideal S1024x1024 .bf16) (xs : Vec Ideal S128x1024 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S128x1024) hz, View.readCov_unit_zero (S := S128x1024) _ hz]
  simp only [View.readAt_eq_ld, hp.read_unread, hq.read_unread, View.ld_unit_zero (S := S1024x128) hz, View.ld_unit_zero (S := S1024x1024) hz, View.ld_unit_zero (S := S128x1024) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S128x1024) hz]
  simp only [View.readAt_eq_ld, hp.read_unread, hq.read_unread, hs.read_unread, View.ld_unit_zero (S := S1024x128) hz, View.ld_unit_zero (S := S1024x1024) hz, View.ld_unit_zero (S := S128x1024) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S128x1024) hz]
  simp only [View.readAt_eq_ld, hp.read_unread, hq.read_unread, hs.read_unread, View.ld_unit_zero (S := S1024x128) hz, View.ld_unit_zero (S := S1024x1024) hz, View.ld_unit_zero (S := S128x1024) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S128x1024) hz, View.readCov_unit_zero (S := S128x1024) _ hz]
  simp only [View.readAt_eq_ld, hp.read_unread, hq.read_unread, hs.read_unread, View.ld_unit_zero (S := S1024x128) hz, View.ld_unit_zero (S := S1024x1024) hz, View.ld_unit_zero (S := S128x1024) hz]

end pieces

theorem lt0 (t : Fin cfg0.N) : t.val < 16 := t.isLt

theorem idx0 : ∀ t : Fin cfg0.N, win0_0.index t = ![t.val % 8, 0] ∧ win0_1.index t = ![t.val % 8, t.val / 8] ∧ win0_2.index t = ![0, t.val / 8] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x128.Idx → EReal := V m c main_v0
noncomputable def opB : S8192x2048.Idx → EReal := V m c main_v1

/-- The products one entry of the result adds up. -/
noncomputable def prods (a : Fin 128) (b : Fin 2048) : Fin 8192 → EReal := fun k => opA m c (ix2 k a) * opB m c (ix2 k b)

/-- The column of an operand a block's column is. -/
def colA (n : ℕ) (hn : n < 16) (a : Fin 128) : Fin 128 := ⟨128 * (0) + a.val, by omega⟩
def colB (n : ℕ) (hn : n < 16) (b : Fin 1024) : Fin 2048 := ⟨1024 * (n / 8) + b.val, by omega⟩

theorem blkA (t : Fin cfg0.N) (k : Fin 1024) (a : Fin 128) (r : Fin 8192) (hr : r.val = 1024 * (t.val % 8) + k.val) :
    (iblk m c 0 t : Vec Ideal S1024x128 .bf16) (ix2 k a) = opA m c (ix2 r (colA t.val (lt0 t) a)) := by
  refine Eq.trans (b := (V m c main_v0 : S8192x128.Idx → EReal) (((cfg0.win 0).blk t).view.emb (ix2 k a : S1024x128.Idx))) ?_ (congrArg (V m c main_v0 : S8192x128.Idx → EReal) ?_)
  · blk_simp [iblk]
  · apply ext2 <;> apply Fin.ext <;> blk_simp [idx0 t]
    · simp [hr]; omega
    · simp [colA]; try omega

theorem blkB (t : Fin cfg0.N) (k : Fin 1024) (a : Fin 1024) (r : Fin 8192) (hr : r.val = 1024 * (t.val % 8) + k.val) :
    (iblk m c 1 t : Vec Ideal S1024x1024 .bf16) (ix2 k a) = opB m c (ix2 r (colB t.val (lt0 t) a)) := by
  refine Eq.trans (b := (V m c main_v1 : S8192x2048.Idx → EReal) (((cfg0.win 1).blk t).view.emb (ix2 k a : S1024x1024.Idx))) ?_ (congrArg (V m c main_v1 : S8192x2048.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S128x1024 .f32) (a : Fin 128) (b : Fin 1024)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S128x1024.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 128) (b : Fin 1024),
    ((outsAt0 m c n hn).2 : Vec Ideal S128x1024 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S128x1024.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S128x1024.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S128x1024.Idx)).trans ?_
        dsimp only
        rw [sC]
        exact step m c ⟨n, hn⟩ _ a b hp
      · refine (congrFun (congrArg Prod.snd (outsAt0_B m c ⟨n, hn⟩ h0 h1)) (ix2 a b : S128x1024.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 128) (b : Fin 1024) :
    ((outsAt0 m c t.val t.isLt).1 : Vec Ideal S128x1024 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S128x2048.Idx → EReal := fun i => ∑ k, prods m c (i 0) (i 1) k

theorem arr : ((dats m 0 c).arrAt 2 cfg0.N : S128x2048.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 128) (d : Fin 1024), y = ix2 a d := ⟨y 0, y 1, ext2 rfl rfl⟩
  refine (out_scr m c t h7 a d).trans ?_
  rw [psum_full]
  unfold total
  have e0 : colA t.val (lt0 t) a = (((cfg0.win 2).blk t).view.emb (ix2 a d : S128x1024.Idx) : S128x2048.Idx) 0 := by
    apply Fin.ext; blk_simp [idx0 t]; simp [colA]; try omega
  have e1 : colB t.val (lt0 t) d = (((cfg0.win 2).blk t).view.emb (ix2 a d : S128x1024.Idx) : S128x2048.Idx) 1 := by
    apply Fin.ext; blk_simp [idx0 t]; simp [colB]; try omega
  rw [e0, e1]

theorem opA_eq : opA m c = (m ((c : Thread nD τ).loc main_arg0) : S8192x128.Idx → EReal) := by
  unfold opA
  show StableHlo.after hostOps0 (fun b => m (c, b)) (Proc.devRef .tc main_v0) = _
  after_results_simp
  rfl

theorem opB_eq : opB m c = (m ((c : Thread nD τ).loc main_arg1) : S8192x2048.Idx → EReal) := by
  unfold opB
  show StableHlo.after hostOps0 (fun b => m (c, b)) (Proc.devRef .tc main_v1) = _
  after_results_simp
  rfl

/-- The reference's result is the same sum, its factors in the other order. -/
theorem ref_total : (Cert.Reference18Ideal.Read.val_main_v3 (F := Ideal) (m ((c : Thread nD τ).loc main_arg0)) (m ((c : Thread nD τ).loc main_arg1)) : S128x2048.Idx → EReal) = total m c := by
  funext i
  rw [Cert.Reference18Ideal.Read.val_main_v3_apply, Cert.Reference18Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel18Ideal.Val
-- ==== Proof.XFwd.lean ====
module

public import proofs.«01_k».proof.Proof.Lin
public import proofs.«01_k».proof.Proof.Gen.Kernel19Ideal.Value
public import proofs.«01_k».proof.Proof.Gen.Reference19Ideal.Read

/-!
# The forward pass of the cross attention

A row of the output is the average of the 256 value rows under the softmax of the row's scores. Both programs take the same
extended real expression of their operands, head by head, so no operand has to be finite.
-/

@[expose] public section

set_option maxRecDepth 16384

namespace Cert.Kernel19Ideal.Val

open Idealize.ShloMosaic TcCoe Tactic
open Idealize.ShloMosaic.Pipeline (Dat)
open Cert.Kernel19Ideal Cert.Kernel19Ideal.Gen Cert.Lin

/-- The largest score. -/
noncomputable def top (s : Fin 256 → EReal) : EReal := Finset.univ.fold max ⊥ s

/-- The average of `v` under the softmax of the scores `s`. -/
noncomputable def average (s v : Fin 256 → EReal) : EReal :=
  ∑ j, Ideal.div (Ideal.exp (s j - top s)) (∑ k, Ideal.exp (s k - top s)) * v j

/-- The factor of the scores. -/
noncomputable def scale : EReal := (((Real.sqrt 128)⁻¹ : ℝ) : EReal)

theorem scale_eq : Named.named (F := Ideal) (φ := .f32) κ "xscale" 0x3DB504F3#32 = scale := IdealRules.named_const.ideal_named_scalar _ _ _ _ rfl

theorem bot_eq : Ideal.ofBits .f32 0xFF800000#32 = (⊥ : EReal) := by simp [Ideal.ofBits, Ideal.ieee]

/-- Coordinate `e` of the head that column `n` belongs to. -/
def colQ (n : Fin 512) (e : Fin 128) : Fin 512 := ⟨128 * (n.val / 128) + e.val, by omega⟩
def colK (n : Fin 512) (e : Fin 128) : Fin 1024 := ⟨128 * (n.val / 128) + e.val, by omega⟩
def colV (n : Fin 512) : Fin 1024 := ⟨512 + n.val, by omega⟩

/-- The scores of row `r` in the head of column `n`. -/
noncomputable def score {M : ℕ} (q : (⟨2, ![M, 512]⟩ : Shape).Idx → EReal) (kv : S256x1024.Idx → EReal) (r : Fin M) (n : Fin 512) (j : Fin 256) : EReal :=
  (∑ e : Fin 128, q (ix2 r (colQ n e)) * kv (ix2 j (colK n e))) * scale

/-- The output at row `r` and column `n`. -/
noncomputable def xo {M : ℕ} (q : (⟨2, ![M, 512]⟩ : Shape).Idx → EReal) (kv : S256x1024.Idx → EReal) (r : Fin M) (n : Fin 512) : EReal :=
  average (score q kv r n) fun j => kv (ix2 j (colV n))

/-- One head's output from its queries, keys and values. -/
noncomputable def head (x : S512x128.Idx → EReal) (k v : S256x128.Idx → EReal) (a : Fin 512) (d : Fin 128) : EReal :=
  average (fun j => (∑ e : Fin 128, x (ix2 a e) * k (ix2 j e)) * scale) fun j => v (ix2 j d)

section pays

variable (x : Vec Ideal S512x128 .bf16) (k v : Vec Ideal S256x128 .bf16) (a : Fin 512) (d : Fin 128)

theorem pay2_at : k0_pay2 (F := Ideal) x k v (ix2 a d : S512x128.Idx) = head x k v a d := by
  pointwise [k0_pay2]
  rw [scale_eq, bot_eq]
  rfl

theorem pay6_at : k0_pay6 (F := Ideal) x k v (ix2 a d : S512x128.Idx) = head x k v a d := by
  pointwise [k0_pay6]
  rw [scale_eq, bot_eq]
  rfl

theorem pay5_at : k0_pay5 (F := Ideal) (k0_pay3 x k) (k0_pay4 x k) v (ix2 a d : S512x128.Idx) = head x k v a d := by
  pointwise [k0_pay5, k0_pay4, k0_pay3]
  rw [scale_eq, bot_eq]
  rfl

theorem pay1_at : k0_pay1 (F := Ideal) (k0_pay7 x k) (Named.named κ "xscale" 0x3DB504F3#32) v (ix2 a d : S512x128.Idx) = head x k v a d := by
  pointwise [k0_pay1, k0_pay7]
  rw [scale_eq, bot_eq]
  rfl

end pays

/-- Head `h` of a block is the block's output in that head's columns. -/
theorem head_eq (x0 : S512x512.Idx → EReal) (x1 : S256x1024.Idx → EReal) (x : S512x128.Idx → EReal) (k v : S256x128.Idx → EReal) (h : ℕ) (hh : h < 4)
    (hx : ∀ a e, x (ix2 a e) = x0 (ix2 a ⟨128 * h + e.val, by omega⟩)) (hk : ∀ a e, k (ix2 a e) = x1 (ix2 a ⟨128 * h + e.val, by omega⟩))
    (hv : ∀ a e, v (ix2 a e) = x1 (ix2 a ⟨512 + (128 * h + e.val), by omega⟩)) (a : Fin 512) (d : Fin 128) (n : Fin 512) (hn : n.val = 128 * h + d.val) :
    head x k v a d = xo (M := 512) x0 x1 a n := by
  have hq : n.val / 128 = h := by omega
  unfold head xo
  refine congrArg₂ average (funext fun j => congrArg (fun t : EReal => t * scale) (Finset.sum_congr rfl fun e _ => ?_)) (funext fun j => ?_)
  · rw [hx, hk]
    exact congrArg₂ (fun p q : EReal => p * q) (congrArg (fun t => x0 (ix2 a t)) (Fin.ext (by simp only [colQ, hq]))) (congrArg (fun t => x1 (ix2 j t)) (Fin.ext (by simp only [colK, hq])))
  · rw [hv]
    exact congrArg (fun t => x1 (ix2 j t)) (Fin.ext (by simp only [colV, hn]))

theorem emb_q (o : ℕ) (inb) (a : Fin 512) (e : Fin 128) (ho : o + 128 ≤ 512) :
    ((Rect.unit (s := S512x512) ![0, o] S512x128.size inb).emb (ix2 a e : S512x128.Idx) : S512x512.Idx) = ix2 a ⟨o + e.val, by omega⟩ := by
  funext t; match t with
    | ⟨0, _⟩ => exact Fin.ext (by show 0 + 1 * a.val = a.val; omega)
    | ⟨1, _⟩ => exact Fin.ext (by show o + 1 * e.val = o + e.val; omega)

theorem emb_k (o : ℕ) (inb) (a : Fin 256) (e : Fin 128) (ho : o + 128 ≤ 1024) :
    ((Rect.unit (s := S256x1024) ![0, o] S256x128.size inb).emb (ix2 a e : S256x128.Idx) : S256x1024.Idx) = ix2 a ⟨o + e.val, by omega⟩ := by
  funext t; match t with
    | ⟨0, _⟩ => exact Fin.ext (by show 0 + 1 * a.val = a.val; omega)
    | ⟨1, _⟩ => exact Fin.ext (by show o + 1 * e.val = o + e.val; omega)

/-- The block that a grid point leaves. -/
theorem out_eq (x0 : Vec Ideal S512x512 .bf16) (x1 : Vec Ideal S256x1024 .bf16) (y : S512x512.Idx) :
    out0_2 (F := Ideal) x0 x1 y = xo (M := 512) x0 x1 (y 0) (y 1) := by
  unfold out0_2
  refine View.canon_apply_of_pieces (Val := Elt Ideal) (e := .bf16) (fun y : S512x512.Idx => (xo (M := 512) x0 x1 (y 0) (y 1) : EReal)) _ (fun p hp j => ?_) y (cover0_2 _ _ _ _ y)
  simp only [List.mem_cons, List.mem_nil_iff, or_false] at hp
  rcases hp with rfl | rfl | rfl | rfl
  · obtain ⟨u, v, rfl⟩ := idx2_self j
    refine (pay1_at _ _ _ u v).trans ?_
    rw [emb_q 384 _ u v (by omega)]
    exact head_eq x0 x1 _ _ _ 3 (by omega) (fun a e => congrArg x0 (emb_q 384 _ a e (by omega))) (fun a e => congrArg x1 (emb_k 384 _ a e (by omega))) (fun a e => congrArg x1 ((emb_k 896 _ a e (by omega)).trans (congrArg (ix2 a) (Fin.ext (by simp only []; omega))))) u v _ rfl
  · obtain ⟨u, v, rfl⟩ := idx2_self j
    refine (pay6_at _ _ _ u v).trans ?_
    rw [emb_q 256 _ u v (by omega)]
    exact head_eq x0 x1 _ _ _ 2 (by omega) (fun a e => congrArg x0 (emb_q 256 _ a e (by omega))) (fun a e => congrArg x1 (emb_k 256 _ a e (by omega))) (fun a e => congrArg x1 ((emb_k 768 _ a e (by omega)).trans (congrArg (ix2 a) (Fin.ext (by simp only []; omega))))) u v _ rfl
  · obtain ⟨u, v, rfl⟩ := idx2_self j
    refine (pay5_at _ _ _ u v).trans ?_
    rw [emb_q 128 _ u v (by omega)]
    exact head_eq x0 x1 _ _ _ 1 (by omega) (fun a e => congrArg x0 (emb_q 128 _ a e (by omega))) (fun a e => congrArg x1 (emb_k 128 _ a e (by omega))) (fun a e => congrArg x1 ((emb_k 640 _ a e (by omega)).trans (congrArg (ix2 a) (Fin.ext (by simp only []; omega))))) u v _ rfl
  · obtain ⟨u, v, rfl⟩ := idx2_self j
    refine (pay2_at _ _ _ u v).trans ?_
    rw [emb_q 0 _ u v (by omega)]
    exact head_eq x0 x1 _ _ _ 0 (by omega) (fun a e => congrArg x0 (emb_q 0 _ a e (by omega))) (fun a e => congrArg x1 (emb_k 0 _ a e (by omega))) (fun a e => congrArg x1 ((emb_k 512 _ a e (by omega)).trans (congrArg (ix2 a) (Fin.ext (by simp only []; omega))))) u v _ (by simp)

end Cert.Kernel19Ideal.Val
-- ==== Proof.XFwdMain.lean ====
module

public import proofs.«01_k».proof.Proof.XFwd
public import proofs.«01_k».proof.Proof.Sums
public import proofs.«01_k».proof.Proof.Gen.Reference19Ideal.Run
public import proofs.«01_k».proof.Defs

/-!
# The two programs of the cross attention's forward pass agree
-/

@[expose] public section

set_option maxRecDepth 16384

namespace Cert.Kernel19Ideal.Val

open Idealize.ShloMosaic TcCoe Tactic
open Idealize.ShloMosaic.Pipeline (Dat)
open Cert.Feed (ext2 ext3)
open Cert.Kernel19Ideal Cert.Kernel19Ideal.Gen Cert.Lin

theorem lt0 (t : Fin cfg0.N) : t.val < 16 := t.isLt

theorem idx0 : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x512.Idx → EReal := V m c main_v0
noncomputable def opB : S256x1024.Idx → EReal := V m c main_v1

/-- The array's row that a block's row is. -/
def rowA (n : ℕ) (hn : n < 16) (a : Fin 512) : Fin 8192 := ⟨512 * n + a.val, by omega⟩

theorem blkA (t : Fin cfg0.N) (a k : Fin 512) : (iblk m c 0 t : Vec Ideal S512x512 .bf16) (ix2 a k) = opA m c (ix2 (rowA t.val (lt0 t) a) k) := by
  refine Eq.trans (b := (V m c main_v0 : S8192x512.Idx → EReal) (((cfg0.win 0).blk t).view.emb (ix2 a k : S512x512.Idx))) ?_ (congrArg (V m c main_v0 : S8192x512.Idx → EReal) ?_)
  · blk_simp [iblk]
  · funext b
    match b with
    | ⟨0, _⟩ => apply Fin.ext; blk_simp [idx0 t]; simp [rowA]; try omega
    | ⟨1, _⟩ => apply Fin.ext; blk_simp [idx0 t]; try simp; try omega

theorem blkB (t : Fin cfg0.N) (a : Fin 256) (k : Fin 1024) : (iblk m c 1 t : Vec Ideal S256x1024 .bf16) (ix2 a k) = opB m c (ix2 a k) := by
  refine Eq.trans (b := (V m c main_v1 : S256x1024.Idx → EReal) (((cfg0.win 1).blk t).view.emb (ix2 a k : S256x1024.Idx))) ?_ (congrArg (V m c main_v1 : S256x1024.Idx → EReal) ?_)
  · blk_simp [iblk]
  · funext b
    match b with
    | ⟨0, _⟩ | ⟨1, _⟩ => apply Fin.ext; blk_simp [idx0 t]; try simp; try omega

/-- The result. -/
noncomputable def total : S8192x512.Idx → EReal := fun i => xo (M := 8192) (opA m c) (opB m c) (i 0) (i 1)

theorem arr : ((dats m 0 c).arrAt 2 cfg0.N : S8192x512.Idx → EReal) = total m c := by
  refine (dats m 0 c).arrAt_eq_of_covers 2 (total m c) (by decide +kernel) fun t hf y => ?_
  blk_simp
  rw [after0_2]
  obtain ⟨a, d, rfl⟩ := idx2_self y
  refine (out_eq _ _ (ix2 a d)).trans ?_
  have e : (((cfg0.win 2).blk t).view.emb (ix2 a d : S512x512.Idx) : S8192x512.Idx) = ix2 (rowA t.val (lt0 t) a) d := by
    funext b
    match b with
    | ⟨0, _⟩ => apply Fin.ext; blk_simp [idx0 t]; simp [rowA]; try omega
    | ⟨1, _⟩ => apply Fin.ext; blk_simp [idx0 t]; try simp; try omega
  refine Eq.trans ?_ (congrArg (total m c) e.symm)
  show xo (M := 512) _ _ a d = xo (M := 8192) _ _ (rowA t.val (lt0 t) a) d
  unfold xo score
  refine congrArg₂ average (funext fun j => congrArg (fun t : EReal => t * scale) (Finset.sum_congr rfl fun e _ => ?_)) (funext fun j => blkB m c t j _)
  exact congrArg₂ (fun p q : EReal => p * q) (blkA m c t a _) (blkB m c t j _)

theorem opA_eq : opA m c = (m ((c : Thread nD τ).loc main_arg0) : S8192x512.Idx → EReal) := by
  unfold opA
  show StableHlo.after hostOps0 (fun b => m (c, b)) (Proc.devRef .tc main_v0) = _
  after_results_simp
  rfl

theorem opB_eq : opB m c = (m ((c : Thread nD τ).loc main_arg1) : S256x1024.Idx → EReal) := by
  unfold opB
  show StableHlo.after hostOps0 (fun b => m (c, b)) (Proc.devRef .tc main_v1) = _
  after_results_simp
  rfl

section reference

open Cert.Reference19Ideal.Read

variable (x0 : S8192x512.Idx → EReal) (x1 : S256x1024.Idx → EReal)

/-- The root that the scores are divided by. -/
theorem root_eq (i) : val_main_v7 (F := Ideal) i = ((Real.sqrt 128 : ℝ) : EReal) := by
  rw [val_main_v7_apply, val_main_v6_apply, val_main_cst_apply]
  show Ideal.sqrt (Ideal.ofBits .f32 0x43000000#32) = _
  have h : Ideal.ofBits .f32 0x43000000#32 = ((128 : ℝ) : EReal) := by
    simp [Ideal.ofBits, Ideal.ieee]
    rw [← EReal.coe_mul]; norm_num
  rw [h, Ideal.sqrt_coe, if_neg (by norm_num)]

theorem v8_eq (h : Fin 4) (r : Fin 8192) (j : Fin 256) (n : Fin 512) (hn : n.val / 128 = h.val) :
    val_main_v8 (F := Ideal) x0 x1 (ix3 h r j) = score (M := 8192) x0 x1 r n j := by
  rw [val_main_v8_apply, root_eq, val_main_v5_apply]
  show Ideal.div _ _ = _
  rw [Ideal.div_coe (by positivity), one_div]
  unfold score scale
  refine congrArg (fun t : EReal => t * (((Real.sqrt 128)⁻¹ : ℝ) : EReal)) (Finset.sum_congr rfl fun e _ => ?_)
  rw [val_main_v2_apply, val_main_v3_apply, val_main_v0_apply]
  refine congrArg₂ (fun p q : EReal => p * q) (congrArg x0 ?_) (congrArg x1 ?_)
  · exact ext2 (Fin.ext (by show ((r.val * 4 + h.val) * 128 + e.val) / 512 = r.val; omega)) (Fin.ext (by show ((r.val * 4 + h.val) * 128 + e.val) % 512 = 128 * (n.val / 128) + e.val; omega))
  · funext b
    match b with
    | ⟨0, _⟩ => exact Fin.ext (by show ((j.val * 4 + h.val) * 128 + e.val) / 512 = j.val; omega)
    | ⟨1, _⟩ => exact Fin.ext (by show ((j.val * 4 + h.val) * 128 + e.val) % 512 = 128 * (n.val / 128) + e.val; omega)

theorem v11_eq (h : Fin 4) (r : Fin 8192) (n : Fin 512) (hn : n.val / 128 = h.val) :
    val_main_v11 (F := Ideal) x0 x1 (ix2 h r) = top (score (M := 8192) x0 x1 r n) := by
  rw [val_main_v11_apply, val_main_v10_apply, val_main_cst_1_apply]
  unfold val_main_v9
  rw [Host.reduce_eq_fold_single FloatOps.maximumf _ _ _ (by decide : Cert.Reference19Ideal.S4x8192x256.Reduces [2] Cert.Reference19Ideal.S4x8192)]
  show max (Ideal.ofBits .f32 0xFF800000#32) (Finset.univ.fold max (Ideal.ofBits .f32 0xFF800000#32) _) = _
  rw [bot_eq, max_eq_right bot_le]
  unfold top
  refine congrArg (fun f : Fin 256 → EReal => Finset.univ.fold max ⊥ f) (funext fun j => ?_)
  refine Eq.trans (congrArg (val_main_v8 (F := Ideal) x0 x1) ?_) (v8_eq x0 x1 h r j n hn)
  exact ext3 rfl rfl rfl

theorem v15_eq (h : Fin 4) (r : Fin 8192) (j : Fin 256) (n : Fin 512) (hn : n.val / 128 = h.val) :
    val_main_v15 (F := Ideal) x0 x1 (ix3 h r j) = Ideal.exp (score (M := 8192) x0 x1 r n j - top (score (M := 8192) x0 x1 r n)) := by
  rw [val_main_v15_apply, val_main_v14_apply, v8_eq x0 x1 h r j n hn, val_main_v13_apply, val_main_v12_apply]
  show Ideal.exp (_ - _) = _
  refine congrArg (fun t : EReal => Ideal.exp (score (M := 8192) x0 x1 r n j - t)) ?_
  refine Eq.trans (congrArg (val_main_v11 (F := Ideal) x0 x1) ?_) (v11_eq x0 x1 h r n hn)
  exact ext2 rfl rfl

theorem ref_eq (i : S8192x512.Idx) : (val_main_v23 (F := Ideal) x0 x1 i : EReal) = xo (M := 8192) x0 x1 (i 0) (i 1) := by
  obtain ⟨r, n, rfl⟩ := idx2_self i
  show (val_main_v22 (F := Ideal) x0 x1 (ix2 r n) : EReal) = xo (M := 8192) x0 x1 r n
  rw [val_main_v22_apply, val_main_v21_apply, val_main_v20_apply]
  have hh : n.val / 128 < 4 := by omega
  unfold xo average
  refine Finset.sum_congr rfl fun j _ => ?_
  have e1 : (val_main_v4 (F := Ideal) x1 (lidx_main_v20 (idx_main_v21 (idx_main_v22 (ix2 r n))) j) : EReal) = x1 (ix2 j (colV n)) := by
    rw [val_main_v4_apply, val_main_v1_apply]
    refine congrArg x1 ?_
    exact ext2 (Fin.ext (by show ((j.val * 4 + (r.val * 512 + n.val) / 128 % 4) * 128 + (r.val * 512 + n.val) % 128) / 512 = j.val; omega)) (Fin.ext (by show 512 + ((j.val * 4 + (r.val * 512 + n.val) / 128 % 4) * 128 + (r.val * 512 + n.val) % 128) % 512 = 512 + n.val; omega))
  have e2 : ridx_main_v20 (idx_main_v21 (idx_main_v22 (ix2 r n))) j = ix3 (⟨n.val / 128, hh⟩ : Fin 4) r j := by
    exact ext3 (Fin.ext (by show (r.val * 512 + n.val) / 128 % 4 = n.val / 128; omega)) (Fin.ext (by show (r.val * 512 + n.val) / 512 = r.val; omega)) rfl
  rw [e2]
  refine (congrArg₂ (fun p q : EReal => p * q) e1 ?_).trans (mul_comm _ _)
  rw [val_main_v19_apply, v15_eq x0 x1 _ r j n rfl, val_main_v18_apply, val_main_v17_apply, val_main_v16_apply]
  show Ideal.div _ (Ideal.ofBits .f32 0x00000000#32 + _) = _
  have hz : Ideal.ofBits .f32 0x00000000#32 = (0 : EReal) := by simp [Ideal.ofBits, Ideal.ieee]
  rw [hz, zero_add]
  refine congrArg (Ideal.div _) (Finset.sum_congr rfl fun k _ => ?_)
  refine Eq.trans (congrArg (val_main_v15 (F := Ideal) x0 x1) ?_) (v15_eq x0 x1 (⟨n.val / 128, hh⟩ : Fin 4) r k n rfl)
  exact ext3 rfl rfl rfl

end reference

/-- The reference's result is the same array. -/
theorem ref_total : (Cert.Reference19Ideal.Read.val_main_v23 (F := Ideal) (m ((c : Thread nD τ).loc main_arg0)) (m ((c : Thread nD τ).loc main_arg1)) : S8192x512.Idx → EReal) = total m c := by
  funext i
  refine (ref_eq _ _ i).trans ?_
  unfold total
  rw [opA_eq, opB_eq]

open Idealize.SL.Sem in
/-- The value claim. -/
theorem algebraic : Cert.algebraic_Kernel19Ideal_Reference19Ideal := by
  intro m g m' g' _ hagree
  refine ⟨fun c => total m c, ?_, ?_⟩
  · exact (θ_run _ _ _).mono (fun r h c => ⟨(h c).1.trans (arr m c), (h c).2⟩) (Cert.Kernel19Ideal.Value.run_blocks m g)
  · refine (θ_run _ _ _).mono (fun r h c => ?_) (Cert.Reference19Ideal.Value.run m' g')
    obtain ⟨h0, ha⟩ := h c
    obtain ⟨a0, a1⟩ := hagree c
    rw [Cert.Reference19Ideal.Read.val_main_v23_eq, a0, a1] at h0
    exact ⟨h0.trans (ref_total m c), ha⟩

end Cert.Kernel19Ideal.Val
-- ==== Proof.XBwd.lean ====
module

public import proofs.«01_k».proof.Proof.XFwd
public import proofs.«01_k».proof.Proof.Gen.Kernel20Ideal.Value
public import Idealize.ShloMosaic.Lib.Pipeline.ReadBack

/-!
# The backward pass of the cross attention: what a grid point leaves

From its 512 rows a grid point computes the gradients of the rows' queries, and adds what the rows contribute to the
gradients of the keys and of the values, head by head.
-/

@[expose] public section

set_option maxRecDepth 16384

namespace Cert.Kernel20Ideal.Val

open Idealize.ShloMosaic TcCoe Tactic
open Cert.Kernel20Ideal Cert.Kernel20Ideal.Gen Cert.Lin
open Cert.Kernel19Ideal.Val (top scale colQ colK colV bot_eq emb_q emb_k)

/-- The softmax of the scores `s`. -/
noncomputable def soft (s : Fin 256 → EReal) (j : Fin 256) : EReal := Ideal.div (Ideal.exp (s j - top s)) (∑ k, Ideal.exp (s k - top s))

/-- The gradient of a score before its factor, the softmax's gradient being `d`. -/
noncomputable def slope (s d : Fin 256 → EReal) (j : Fin 256) : EReal := soft s j * (d j - ∑ k, soft s k * d k) * scale

theorem scale_eq : Named.named (F := Ideal) (φ := .f32) κ "xscale" 0x3DB504F3#32 = scale := IdealRules.named_const.ideal_named_scalar _ _ _ _ rfl

/-- One head's scores and its softmax's gradient, in row `a`. -/
noncomputable def hs (x : S512x128.Idx → EReal) (k : S256x128.Idx → EReal) (a : Fin 512) (j : Fin 256) : EReal := (∑ e : Fin 128, x (ix2 a e) * k (ix2 j e)) * scale
noncomputable def hd (g : S512x128.Idx → EReal) (v : S256x128.Idx → EReal) (a : Fin 512) (j : Fin 256) : EReal := ∑ e : Fin 128, g (ix2 a e) * v (ix2 j e)

section pays

variable (x g : Vec Ideal S512x128 .bf16) (k v : Vec Ideal S256x128 .bf16) (o : Vec Ideal S256x128 .f32) (a : Fin 512) (j : Fin 256) (d : Fin 128)

/-- A head's gradient of the queries, and its two running sums after the point. -/
noncomputable def pq : EReal := ∑ j, slope (hs x k a) (hd g v a) j * k (ix2 j d)
noncomputable def pk : EReal := (o (ix2 j d) : EReal) + ∑ a : Fin 512, slope (hs x k a) (hd g v a) j * x (ix2 a d)
noncomputable def pv : EReal := (o (ix2 j d) : EReal) + ∑ a : Fin 512, soft (hs x k a) j * g (ix2 a d)

theorem q0 : k0_pay8 (F := Ideal) x k v g (ix2 a d : S512x128.Idx) = pq x g k v a d := by
  pointwise [k0_pay8, k0_pay7, k0_pay6, k0_pay5, k0_pay4, k0_pay3]
  rw [scale_eq, bot_eq]
  rfl

theorem k0 : k0_pay9 (F := Ideal) (k0_pay3 x) (k0_pay7 x k v g) o (ix2 j d : S256x128.Idx) = pk x g k v o j d := by
  pointwise [k0_pay9, k0_pay7, k0_pay6, k0_pay5, k0_pay4, k0_pay3]
  rw [scale_eq, bot_eq]
  rfl

theorem v0 : k0_pay10 (F := Ideal) (k0_pay5 g) (k0_pay6 x k) o (ix2 j d : S256x128.Idx) = pv x g k o j d := by
  pointwise [k0_pay10, k0_pay6, k0_pay5, k0_pay4, k0_pay3]
  rw [scale_eq, bot_eq]
  rfl

theorem q1 : k0_pay18 (F := Ideal) (k0_pay12 k) (k0_pay14 x k) (k0_pay15 v g) (k0_pay16 x k v g) (ix2 a d : S512x128.Idx) = pq x g k v a d := by
  pointwise [k0_pay18, k0_pay17, k0_pay16, k0_pay15, k0_pay14, k0_pay13, k0_pay12, k0_pay11]
  rw [scale_eq, bot_eq]
  rfl

theorem k1 : k0_pay19 (F := Ideal) (k0_pay11 x) (k0_pay14 x k) (k0_pay15 v g) (k0_pay16 x k v g) o (ix2 j d : S256x128.Idx) = pk x g k v o j d := by
  pointwise [k0_pay19, k0_pay17, k0_pay16, k0_pay15, k0_pay14, k0_pay13, k0_pay12, k0_pay11]
  rw [scale_eq, bot_eq]
  rfl

theorem v1 : k0_pay20 (F := Ideal) (k0_pay13 g) (k0_pay14 x k) o (ix2 j d : S256x128.Idx) = pv x g k o j d := by
  pointwise [k0_pay20, k0_pay14, k0_pay13, k0_pay12, k0_pay11]
  rw [scale_eq, bot_eq]
  rfl

theorem q2 : k0_pay29 (F := Ideal) (k0_pay22 k) (k0_pay23 v) (k0_pay24 g) (k0_pay25 x k) (k0_pay26 x k) (ix2 a d : S512x128.Idx) = pq x g k v a d := by
  pointwise [k0_pay29, k0_pay28, k0_pay27, k0_pay26, k0_pay25, k0_pay24, k0_pay23, k0_pay22, k0_pay21]
  rw [scale_eq, bot_eq]
  rfl

theorem k2 : k0_pay30 (F := Ideal) (k0_pay21 x) (k0_pay23 v) (k0_pay24 g) (k0_pay25 x k) (k0_pay26 x k) o (ix2 j d : S256x128.Idx) = pk x g k v o j d := by
  pointwise [k0_pay30, k0_pay28, k0_pay27, k0_pay26, k0_pay25, k0_pay24, k0_pay23, k0_pay22, k0_pay21]
  rw [scale_eq, bot_eq]
  rfl

theorem v2 : k0_pay31 (F := Ideal) (k0_pay24 g) (k0_pay25 x k) (k0_pay26 x k) o (ix2 j d : S256x128.Idx) = pv x g k o j d := by
  pointwise [k0_pay31, k0_pay27, k0_pay26, k0_pay25, k0_pay24, k0_pay22, k0_pay21]
  rw [scale_eq, bot_eq]
  rfl

theorem q3 : k0_pay37 (F := Ideal) (k0_pay32 x) (k0_pay33 k) v g (ix2 a d : S512x128.Idx) = pq x g k v a d := by
  pointwise [k0_pay37, k0_pay36, k0_pay35, k0_pay34, k0_pay33, k0_pay32]
  rw [scale_eq, bot_eq]
  rfl

theorem k3 : k0_pay38 (F := Ideal) (k0_pay32 x) (k0_pay33 k) v g o (ix2 j d : S256x128.Idx) = pk x g k v o j d := by
  pointwise [k0_pay38, k0_pay36, k0_pay35, k0_pay34, k0_pay33, k0_pay32]
  rw [scale_eq, bot_eq]
  rfl

theorem v3 : k0_pay1 (F := Ideal) (k0_pay34 g) (k0_pay39 o) (k0_pay40 (k0_pay32 x) (k0_pay33 k)) (ix2 j d : S256x128.Idx) = pv x g k o j d := by
  pointwise [k0_pay1, k0_pay40, k0_pay39, k0_pay35, k0_pay34, k0_pay33, k0_pay32]
  rw [scale_eq, bot_eq]
  rfl

end pays

/-- Row `r` of an array of 512 columns. -/
def row {M : ℕ} (x : (⟨2, ![M, 512]⟩ : Shape).Idx → EReal) (r : Fin M) (n : Fin 512) : EReal := x (ix2 r n)

/-- The scores and the softmax's gradient of a row, in the head of column `n`. -/
noncomputable def rs (q : Fin 512 → EReal) (kv : S256x1024.Idx → EReal) (n : Fin 512) (j : Fin 256) : EReal := (∑ e : Fin 128, q (colQ n e) * kv (ix2 j (colK n e))) * scale
noncomputable def rd (g : Fin 512 → EReal) (kv : S256x1024.Idx → EReal) (n : Fin 512) (j : Fin 256) : EReal := ∑ e : Fin 128, g (colQ n e) * kv (ix2 j (colV (colQ n e)))

/-- The gradient of a row's query at column `n`. -/
noncomputable def dq (q g : Fin 512 → EReal) (kv : S256x1024.Idx → EReal) (n : Fin 512) : EReal :=
  ∑ j, slope (rs q kv n) (rd g kv n) j * kv (ix2 j (⟨n.val, by omega⟩ : Fin 1024))

/-- The head's column that a column of the keys and the values is. -/
def lo (t : Fin 1024) : Fin 512 := ⟨t.val % 512, by omega⟩

/-- What a row adds to the gradient of the keys (the first 512 columns) and of the values. -/
noncomputable def term (q g : Fin 512 → EReal) (kv : S256x1024.Idx → EReal) (j : Fin 256) (t : Fin 1024) : EReal :=
  if t.val < 512 then slope (rs q kv (lo t)) (rd g kv (lo t)) j * q (lo t) else soft (rs q kv (lo t)) j * g (lo t)

section blocks

variable (x0 x1 : Vec Ideal S512x512 .bf16) (x2 : Vec Ideal S256x1024 .bf16) (w : Vec Ideal S256x1024 .f32)

/-- The gradient of the block's queries, and the running sums after the block. -/
noncomputable def G3 (y : S512x512.Idx) : EReal := dq (row (M := 512) x0 (y 0)) (row (M := 512) x1 (y 0)) x2 (y 1)
noncomputable def G4 (y : S256x1024.Idx) : EReal := (w y : EReal) + ∑ a : Fin 512, term (row (M := 512) x0 a) (row (M := 512) x1 a) x2 (y 0) (y 1)

variable {o o' : ℕ} (h : ℕ) (hh : h < 4) (ho : o = 128 * h) (ho' : o' = 512 + 128 * h)
include hh ho

theorem hs_eq (i i') (a : Fin 512) (n : Fin 512) (hn : n.val / 128 = h) :
    hs (View.ld x0 (Rect.unit (s := S512x512) ![0, o] S512x128.size i)) (View.ld x2 (Rect.unit (s := S256x1024) ![0, o] S256x128.size i')) a = rs (row (M := 512) x0 a) x2 n := by
  subst ho
  funext j
  refine congrArg (fun t : EReal => t * scale) (Finset.sum_congr rfl fun e _ => congrArg₂ (fun p q : EReal => p * q) ?_ ?_)
  · exact congrArg x0 ((emb_q (128 * h) i a e (by omega)).trans (congrArg (ix2 a) (Fin.ext (by simp only [colQ, hn]))))
  · exact congrArg x2 ((emb_k (128 * h) i' j e (by omega)).trans (congrArg (ix2 j) (Fin.ext (by simp only [colK, hn]))))

include ho'

theorem hd_eq (i i') (a : Fin 512) (n : Fin 512) (hn : n.val / 128 = h) :
    hd (View.ld x1 (Rect.unit (s := S512x512) ![0, o] S512x128.size i)) (View.ld x2 (Rect.unit (s := S256x1024) ![0, o'] S256x128.size i')) a = rd (row (M := 512) x1 a) x2 n := by
  subst ho ho'
  funext j
  refine Finset.sum_congr rfl fun e _ => congrArg₂ (fun p q : EReal => p * q) ?_ ?_
  · exact congrArg x1 ((emb_q (128 * h) i a e (by omega)).trans (congrArg (ix2 a) (Fin.ext (by simp only [colQ, hn]))))
  · exact congrArg x2 ((emb_k (512 + 128 * h) i' j e (by omega)).trans (congrArg (ix2 j) (Fin.ext (by simp only [colV, colQ, hn]; omega))))

theorem piece_q (i i' i'') (a : Fin 512) (d : Fin 128) :
    pq (View.ld x0 (Rect.unit (s := S512x512) ![0, o] S512x128.size i)) (View.ld x1 (Rect.unit (s := S512x512) ![0, o] S512x128.size i))
      (View.ld x2 (Rect.unit (s := S256x1024) ![0, o] S256x128.size i')) (View.ld x2 (Rect.unit (s := S256x1024) ![0, o'] S256x128.size i'')) a d
      = G3 x0 x1 x2 ((Rect.unit (s := S512x512) ![0, o] S512x128.size i).emb (ix2 a d : S512x128.Idx)) := by
  refine Eq.trans ?_ (congrArg (G3 x0 x1 x2) (emb_q o i a d (by omega)).symm)
  unfold pq
  rw [hs_eq x0 x2 h hh ho i i' a ⟨o + d.val, by omega⟩ (by show (o + d.val) / 128 = h; omega), hd_eq x1 x2 h hh ho ho' i i'' a ⟨o + d.val, by omega⟩ (by show (o + d.val) / 128 = h; omega)]
  exact Finset.sum_congr rfl fun j _ => congrArg (fun t : EReal => slope _ _ j * t) (congrArg x2 (emb_k o i' j d (by omega)))

theorem piece_k (i i' i'') (j : Fin 256) (d : Fin 128) :
    pk (View.ld x0 (Rect.unit (s := S512x512) ![0, o] S512x128.size i)) (View.ld x1 (Rect.unit (s := S512x512) ![0, o] S512x128.size i))
      (View.ld x2 (Rect.unit (s := S256x1024) ![0, o] S256x128.size i')) (View.ld x2 (Rect.unit (s := S256x1024) ![0, o'] S256x128.size i''))
      (View.ld w (Rect.unit (s := S256x1024) ![0, o] S256x128.size i')) j d
      = G4 x0 x1 x2 w ((Rect.unit (s := S256x1024) ![0, o] S256x128.size i').emb (ix2 j d : S256x128.Idx)) := by
  refine Eq.trans ?_ (congrArg (G4 x0 x1 x2 w) (emb_k o i' j d (by omega)).symm)
  refine congrArg₂ (fun p q : EReal => p + q) (congrArg w (emb_k o i' j d (by omega))) (Finset.sum_congr rfl fun a _ => ?_)
  have e : lo ⟨o + d.val, by omega⟩ = ⟨o + d.val, by omega⟩ := Fin.ext (by show (o + d.val) % 512 = o + d.val; omega)
  unfold term
  refine Eq.trans ?_ (if_pos (show o + d.val < 512 by omega)).symm
  show _ = slope (rs _ _ (lo ⟨o + d.val, _⟩)) (rd _ _ (lo ⟨o + d.val, _⟩)) j * row (M := 512) x0 a (lo ⟨o + d.val, _⟩)
  rw [e, hs_eq x0 x2 h hh ho i i' a ⟨o + d.val, by omega⟩ (by show (o + d.val) / 128 = h; omega), hd_eq x1 x2 h hh ho ho' i i'' a ⟨o + d.val, by omega⟩ (by show (o + d.val) / 128 = h; omega)]
  exact congrArg (fun t : EReal => slope _ _ j * t) (congrArg x0 (emb_q o i a d (by omega)))

theorem piece_v (i i' i'') (j : Fin 256) (d : Fin 128) :
    pv (View.ld x0 (Rect.unit (s := S512x512) ![0, o] S512x128.size i)) (View.ld x1 (Rect.unit (s := S512x512) ![0, o] S512x128.size i))
      (View.ld x2 (Rect.unit (s := S256x1024) ![0, o] S256x128.size i')) (View.ld w (Rect.unit (s := S256x1024) ![0, o'] S256x128.size i'')) j d
      = G4 x0 x1 x2 w ((Rect.unit (s := S256x1024) ![0, o'] S256x128.size i'').emb (ix2 j d : S256x128.Idx)) := by
  refine Eq.trans ?_ (congrArg (G4 x0 x1 x2 w) (emb_k o' i'' j d (by omega)).symm)
  refine congrArg₂ (fun p q : EReal => p + q) (congrArg w (emb_k o' i'' j d (by omega))) (Finset.sum_congr rfl fun a _ => ?_)
  have e : lo ⟨o' + d.val, by omega⟩ = ⟨o + d.val, by omega⟩ := Fin.ext (by show (o' + d.val) % 512 = o + d.val; omega)
  unfold term
  refine Eq.trans ?_ (if_neg (show ¬ o' + d.val < 512 by omega)).symm
  show _ = soft (rs _ _ (lo ⟨o' + d.val, _⟩)) j * row (M := 512) x1 a (lo ⟨o' + d.val, _⟩)
  rw [e, hs_eq x0 x2 h hh ho i i' a ⟨o + d.val, by omega⟩ (by show (o + d.val) / 128 = h; omega)]
  exact congrArg (fun t : EReal => soft _ j * t) (congrArg x1 (emb_q o i a d (by omega)))

end blocks

section pieces

variable (c : Dev nD) (i : grid0.Coords) (arg1 : Memref sig .tc .vmem S512x512 .bf16) (harg1 : arg1.IsWhole) (arg2 : Memref sig .tc .vmem S512x512 .bf16) (harg2 : arg2.IsWhole)
  (arg3 : Memref sig .tc .vmem S256x1024 .bf16) (harg3 : arg3.IsWhole) (arg4 : Memref sig .tc .vmem S512x512 .bf16) (harg4 : arg4.IsWhole)
  (arg5 : Memref sig .tc .vmem S256x1024 .f32) (harg5 : arg5.IsWhole) (x0 x1 : Vec Ideal S512x512 .bf16) (x2 : Vec Ideal S256x1024 .bf16) (w : Vec Ideal S256x1024 .f32)

/-- A piece's entries one by one. -/
theorem each {a b : ℕ} {P : (⟨2, ![a, b]⟩ : Shape).Idx → Prop} (h : ∀ u v, P (ix2 u v)) : ∀ j, P j := fun j => by
  obtain ⟨u, v, rfl⟩ := idx2_self j
  exact h u v

theorem oB4 (h0 : ¬cond0_0 i) (y) :
    out0_B_4 (F := Ideal) c i arg1 harg1 arg2 harg2 arg3 harg3 arg4 harg4 arg5 harg5 h0 x0 x1 x2 w y = G4 x0 x1 x2 w y := by
  unfold out0_B_4
  rw [View.read_writes_eq_canon _ _ _ (cover0_B_4 c i arg1 harg1 arg2 harg2 arg3 harg3 arg4 harg4 arg5 harg5 h0 x0 x1 x2 w)]
  unfold kernelRun0_B
  dsimp only
  sl_unfold_words
  simp (disch := first | decide | rfl) only [↓View.readCov_skip, ↓View.readCov_fill, View.readAt_eq_ld, harg1.read_unread, harg2.read_unread, harg3.read_unread, harg5.read_unread]
  refine View.canon_append_of_piecesOf (Val := Elt Ideal) (e := .f32) (G4 x0 x1 x2 w) [] [_, _, _, _, _, _, _, _] ⟨?_, ?_, ?_, ?_, ?_, ?_, ?_, ?_, trivial⟩ y (View.cover_of_tiled _ ![256, 128] rfl y)
  · exact each fun u v => (v3 _ _ _ _ u v).trans (piece_v x0 x1 x2 w 3 (by omega) rfl rfl _ _ _ u v)
  · exact each fun u v => (k3 _ _ _ _ _ u v).trans (piece_k x0 x1 x2 w 3 (by omega) rfl rfl _ _ _ u v)
  · exact each fun u v => (v2 _ _ _ _ u v).trans (piece_v x0 x1 x2 w 2 (by omega) rfl rfl _ _ _ u v)
  · exact each fun u v => (k2 _ _ _ _ _ u v).trans (piece_k x0 x1 x2 w 2 (by omega) rfl rfl _ _ _ u v)
  · exact each fun u v => (v1 _ _ _ _ u v).trans (piece_v x0 x1 x2 w 1 (by omega) rfl rfl _ _ _ u v)
  · exact each fun u v => (k1 _ _ _ _ _ u v).trans (piece_k x0 x1 x2 w 1 (by omega) rfl rfl _ _ _ u v)
  · exact each fun u v => (v0 _ _ _ _ u v).trans (piece_v x0 x1 x2 w 0 (by omega) rfl rfl _ _ _ u v)
  · exact each fun u v => (k0 _ _ _ _ _ u v).trans (piece_k x0 x1 x2 w 0 (by omega) rfl rfl _ _ _ u v)

theorem oA4 (h0 : cond0_0 i) (y) :
    out0_A_4 (F := Ideal) c i arg1 harg1 arg2 harg2 arg3 harg3 arg4 harg4 arg5 harg5 h0 x0 x1 x2 y = G4 x0 x1 x2 (k0_pay2 (F := Ideal)) y := by
  unfold out0_A_4
  rw [View.read_writes_eq_canon _ _ _ (cover0_A_4 c i arg1 harg1 arg2 harg2 arg3 harg3 arg4 harg4 arg5 harg5 h0 x0 x1 x2)]
  unfold kernelRun0_A
  dsimp only
  sl_unfold_words
  simp (disch := first | decide | rfl) only [↓View.readCov_skip, ↓View.readCov_fill, View.readAt_eq_ld, harg1.read_unread, harg2.read_unread, harg3.read_unread]
  refine View.canon_append_of_piecesOf (Val := Elt Ideal) (e := .f32) (G4 x0 x1 x2 (k0_pay2 (F := Ideal))) [_] [_, _, _, _, _, _, _, _] ⟨?_, ?_, ?_, ?_, ?_, ?_, ?_, ?_, trivial⟩ y (View.cover_of_tiled _ ![256, 128] rfl y)
  · exact each fun u v => (v3 _ _ _ _ u v).trans (piece_v x0 x1 x2 _ 3 (by omega) rfl rfl _ _ _ u v)
  · exact each fun u v => (k3 _ _ _ _ _ u v).trans (piece_k x0 x1 x2 _ 3 (by omega) rfl rfl _ _ _ u v)
  · exact each fun u v => (v2 _ _ _ _ u v).trans (piece_v x0 x1 x2 _ 2 (by omega) rfl rfl _ _ _ u v)
  · exact each fun u v => (k2 _ _ _ _ _ u v).trans (piece_k x0 x1 x2 _ 2 (by omega) rfl rfl _ _ _ u v)
  · exact each fun u v => (v1 _ _ _ _ u v).trans (piece_v x0 x1 x2 _ 1 (by omega) rfl rfl _ _ _ u v)
  · exact each fun u v => (k1 _ _ _ _ _ u v).trans (piece_k x0 x1 x2 _ 1 (by omega) rfl rfl _ _ _ u v)
  · exact each fun u v => (v0 _ _ _ _ u v).trans (piece_v x0 x1 x2 _ 0 (by omega) rfl rfl _ _ _ u v)
  · exact each fun u v => (k0 _ _ _ _ _ u v).trans (piece_k x0 x1 x2 _ 0 (by omega) rfl rfl _ _ _ u v)

theorem oA3 (h0 : cond0_0 i) (y) :
    out0_A_3 (F := Ideal) c i arg1 harg1 arg2 harg2 arg3 harg3 arg4 harg4 arg5 harg5 h0 x0 x1 x2 y = G3 x0 x1 x2 y := by
  unfold out0_A_3
  rw [View.read_writes_eq_canon _ _ _ (cover0_A_3 c i arg1 harg1 arg2 harg2 arg3 harg3 arg4 harg4 arg5 harg5 h0 x0 x1 x2)]
  unfold kernelRun0_A
  dsimp only
  sl_unfold_words
  simp only [View.readAt_eq_ld, harg1.read_unread, harg2.read_unread, harg3.read_unread]
  refine View.canon_append_of_piecesOf (Val := Elt Ideal) (e := .bf16) (G3 x0 x1 x2) [] [_, _, _, _] ⟨?_, ?_, ?_, ?_, trivial⟩ y (View.cover_of_tiled _ ![512, 128] rfl y)
  · exact each fun u v => (q3 _ _ _ _ u v).trans (piece_q x0 x1 x2 3 (by omega) rfl rfl _ _ _ u v)
  · exact each fun u v => (q2 _ _ _ _ u v).trans (piece_q x0 x1 x2 2 (by omega) rfl rfl _ _ _ u v)
  · exact each fun u v => (q1 _ _ _ _ u v).trans (piece_q x0 x1 x2 1 (by omega) rfl rfl _ _ _ u v)
  · exact each fun u v => (q0 _ _ _ _ u v).trans (piece_q x0 x1 x2 0 (by omega) rfl rfl _ _ _ u v)

theorem oB3 (h0 : ¬cond0_0 i) (y) :
    out0_B_3 (F := Ideal) c i arg1 harg1 arg2 harg2 arg3 harg3 arg4 harg4 arg5 harg5 h0 x0 x1 x2 w y = G3 x0 x1 x2 y := by
  unfold out0_B_3
  rw [View.read_writes_eq_canon _ _ _ (cover0_B_3 c i arg1 harg1 arg2 harg2 arg3 harg3 arg4 harg4 arg5 harg5 h0 x0 x1 x2 w)]
  unfold kernelRun0_B
  dsimp only
  sl_unfold_words
  simp only [View.readAt_eq_ld, harg1.read_unread, harg2.read_unread, harg3.read_unread]
  refine View.canon_append_of_piecesOf (Val := Elt Ideal) (e := .bf16) (G3 x0 x1 x2) [] [_, _, _, _] ⟨?_, ?_, ?_, ?_, trivial⟩ y (View.cover_of_tiled _ ![512, 128] rfl y)
  · exact each fun u v => (q3 _ _ _ _ u v).trans (piece_q x0 x1 x2 3 (by omega) rfl rfl _ _ _ u v)
  · exact each fun u v => (q2 _ _ _ _ u v).trans (piece_q x0 x1 x2 2 (by omega) rfl rfl _ _ _ u v)
  · exact each fun u v => (q1 _ _ _ _ u v).trans (piece_q x0 x1 x2 1 (by omega) rfl rfl _ _ _ u v)
  · exact each fun u v => (q0 _ _ _ _ u v).trans (piece_q x0 x1 x2 0 (by omega) rfl rfl _ _ _ u v)

end pieces

end Cert.Kernel20Ideal.Val
-- ==== Proof.Math.lean ====
module

public import Idealize.ShloMosaic.Lib.Pipeline.ValueKit
public import Mathlib.Analysis.SpecialFunctions.Pow.Real
public import Mathlib.Analysis.SpecialFunctions.Log.Basic

/-!
# The real mathematics of causal attention and of its gradient

Nothing in this file mentions a program. It has three parts:

* sums of real numbers read as extended reals;
* one step of the running softmax (the "online" softmax), a tile of columns at a time;
* the forward and backward formulas as functions of real arrays.
-/

@[expose] public section

namespace Cert.Attn

open Idealize.ShloMosaic
open Finset

/-- A finite sum of reals, read in the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The power of two used for the weights, as a positive real. -/
noncomputable def pw (x : ℝ) : ℝ := Real.rpow 2 x

theorem pw_pos (x : ℝ) : 0 < pw x := Real.rpow_pos_of_pos (by norm_num) x

theorem pw_add (x y : ℝ) : pw (x + y) = pw x * pw y := Real.rpow_add (by norm_num) x y

theorem pw_sub (x y : ℝ) : pw (x - y) = pw x / pw y := Real.rpow_sub (by norm_num) x y

theorem exp2_coe (x : ℝ) : Ideal.exp2 (x : EReal) = (pw x : EReal) := Ideal.exp2_coe x

theorem pw_eq_exp (x : ℝ) : pw x = Real.exp (Real.log 2 * x) := Real.rpow_def_of_pos (by norm_num) x

theorem log2_pos : 0 < Real.log 2 := Real.log_pos (by norm_num)

/-- What the running maximum `m`, the running sum `l` and the running weighted sums `a` of one row say about
    the set `C` of columns met so far: nothing yet, or, for some real shift `μ`, the shifted sums over `C`. -/
def Rep {κ : Type} {δ : Type} (s : κ → ℝ) (w : κ → δ → ℝ) (C : Finset κ) (m l : EReal) (a : δ → EReal) : Prop :=
  (C = ∅ ∧ m = ⊥ ∧ l = 0 ∧ ∀ d, a d = 0) ∨
  ∃ μ : ℝ, m = (μ : EReal) ∧ l = ((∑ c ∈ C, pw (s c - μ) : ℝ) : EReal)
    ∧ ∀ d, a d = ((∑ c ∈ C, pw (s c - μ) * w c d : ℝ) : EReal)

/-- The maximum of `m` (a real or `⊥`) and of finitely many entries, each a real or `⊥` and one of them real, is a real. -/
theorem max_fold_real {ι : Type} [Fintype ι] (m : EReal) (hm : m ≠ ⊤) (t : ι → EReal) (ht : ∀ x, t x ≠ ⊤)
    (x₀ : ι) (h₀ : t x₀ ≠ ⊥) : ∃ μ : ℝ, max m (Finset.univ.fold max ⊥ t) = (μ : EReal) := by
  have h1 : max m (Finset.univ.fold max ⊥ t) ≠ ⊤ := by
    apply ne_of_lt
    rw [max_lt_iff, Finset.fold_max_lt]
    exact ⟨lt_top_iff_ne_top.2 hm, bot_lt_top, fun x _ => lt_top_iff_ne_top.2 (ht x)⟩
  have h2 : max m (Finset.univ.fold max ⊥ t) ≠ ⊥ := by
    apply ne_of_gt
    apply lt_max_of_lt_right
    rw [Finset.lt_fold_max]
    exact Or.inr ⟨x₀, Finset.mem_univ _, bot_lt_iff_ne_bot.2 h₀⟩
  exact ⟨_, (EReal.coe_toReal h1 h2).symm⟩

section step

variable {κ δ ι : Type} [DecidableEq κ] [Fintype ι]

/-- The shifted weights of one tile: a kept entry gives the power, a masked one zero. -/
theorem weight_eq (s : κ → ℝ) (e : ι → κ) (K : ι → Prop) [DecidablePred K] (t : ι → EReal)
    (ht : ∀ x, t x = if K x then ((s (e x) : ℝ) : EReal) else ⊥) (μ : ℝ) (x : ι) :
    Ideal.exp2 (t x - (μ : EReal)) = ((if K x then pw (s (e x) - μ) else 0 : ℝ) : EReal) := by
  rw [ht]
  by_cases h : K x
  · rw [if_pos h, if_pos h, ← EReal.coe_sub, exp2_coe]
  · rw [if_neg h, if_neg h, EReal.bot_sub, Ideal.exp2_bot, EReal.coe_zero]

/-- ONE STEP of the running softmax of one row. The tile's columns are `e x`, those with `K x` kept; `t x` is the
    score of a kept entry and `⊥` for a masked one. -/
theorem Rep.step (s : κ → ℝ) (w : κ → δ → ℝ) {C : Finset κ} {m l : EReal} {a : δ → EReal} (h : Rep s w C m l a)
    (e : ι → κ) (he : Function.Injective e) (K : ι → Prop) [DecidablePred K] (x₀ : ι) (hx₀ : K x₀)
    (hdis : ∀ x, K x → e x ∉ C) (t : ι → EReal)
    (ht : ∀ x, t x = if K x then ((s (e x) : ℝ) : EReal) else ⊥)
    (C' : Finset κ) (hC' : C' = C ∪ (Finset.univ.filter K).image e) (M : EReal)
    (hM : M = max m (Finset.univ.fold max ⊥ t)) (l' : EReal)
    (hl' : l' = Ideal.exp2 (m - M) * l + ∑ x, Ideal.exp2 (t x - M)) (a' : δ → EReal)
    (ha' : ∀ d, a' d = Ideal.exp2 (m - M) * a d + ∑ x, Ideal.exp2 (t x - M) * ((w (e x) d : ℝ) : EReal)) :
    Rep s w C' M l' a' := by
  have hm : m ≠ ⊤ := by
    rcases h with ⟨_, hm, _⟩ | ⟨μ, hm, _⟩
    · rw [hm]; exact bot_ne_top
    · rw [hm]; exact EReal.coe_ne_top μ
  have htt : ∀ x, t x ≠ ⊤ := fun x => by
    rw [ht]; split
    · exact EReal.coe_ne_top _
    · exact bot_ne_top
  have ht₀ : t x₀ ≠ ⊥ := by rw [ht, if_pos hx₀]; exact EReal.coe_ne_bot _
  obtain ⟨μ', hμ'⟩ := max_fold_real m hm t htt x₀ ht₀
  rw [hμ'] at hM
  have hsum : ∀ f : κ → ℝ, ∑ c ∈ C', f c = ∑ c ∈ C, f c + ∑ x, if K x then f (e x) else 0 := fun f => by
    rw [hC', Finset.sum_union, Finset.sum_image (fun x _ y _ hxy => he hxy), Finset.sum_filter]
    rw [Finset.disjoint_left]
    intro c hc hc'
    obtain ⟨x, hx, rfl⟩ := Finset.mem_image.1 hc'
    exact hdis x (Finset.mem_filter.1 hx).2 hc
  have hp : ∑ x, Ideal.exp2 (t x - M) = ((∑ x, if K x then pw (s (e x) - μ') else 0 : ℝ) : EReal) := by
    rw [coe_sum, hM]
    exact Finset.sum_congr rfl fun x _ => weight_eq s e K t ht μ' x
  have hq : ∀ d, ∑ x, Ideal.exp2 (t x - M) * ((w (e x) d : ℝ) : EReal)
      = ((∑ x, if K x then pw (s (e x) - μ') * w (e x) d else 0 : ℝ) : EReal) := fun d => by
    rw [coe_sum, hM]
    refine Finset.sum_congr rfl fun x _ => ?_
    rw [weight_eq s e K t ht μ' x, ← EReal.coe_mul, ite_mul, zero_mul]
  refine Or.inr ⟨μ', hM, ?_, fun d => ?_⟩
  · rw [hl', hp, hsum]
    rcases h with ⟨hC, hm, hl, ha⟩ | ⟨μ, hm, hl, ha⟩
    · rw [hl, hC, mul_zero, zero_add, Finset.sum_empty, zero_add]
    · rw [hl, hm, hM, ← EReal.coe_sub, exp2_coe, ← EReal.coe_mul, ← EReal.coe_add, Finset.mul_sum]
      congr 2
      refine Finset.sum_congr rfl fun c _ => ?_
      rw [← pw_add]; congr 1; ring
  · rw [ha', hq, hsum]
    rcases h with ⟨hC, hm, hl, ha⟩ | ⟨μ, hm, hl, ha⟩
    · rw [ha, hC, mul_zero, zero_add, Finset.sum_empty, zero_add]
    · rw [ha, hm, hM, ← EReal.coe_sub, exp2_coe, ← EReal.coe_mul, ← EReal.coe_add, Finset.mul_sum]
      congr 2
      refine Finset.sum_congr rfl fun c _ => ?_
      rw [← mul_assoc, ← pw_add]; congr 2; ring

end step

/-- When every column of a nonempty set has been met, the quotient of the running sums is the softmax average. -/
theorem Rep.out {κ δ : Type} {s : κ → ℝ} {w : κ → δ → ℝ} {C : Finset κ} {m l : EReal} {a : δ → EReal}
    (h : Rep s w C m l a) (hC : C.Nonempty) (d : δ) :
    Ideal.div (a d) l = (((∑ c ∈ C, pw (s c) * w c d) / ∑ c ∈ C, pw (s c) : ℝ) : EReal) := by
  rcases h with ⟨h, _⟩ | ⟨μ, hm, hl, ha⟩
  · exact absurd h hC.ne_empty
  · have hpos : 0 < ∑ c ∈ C, pw (s c - μ) := Finset.sum_pos (fun c _ => pw_pos _) hC
    have h0 : 0 < ∑ c ∈ C, pw (s c) := Finset.sum_pos (fun c _ => pw_pos _) hC
    rw [ha, hl, Ideal.div_coe hpos.ne', ← EReal.coe_mul]
    congr 1
    have e1 : ∑ c ∈ C, pw (s c - μ) = (∑ c ∈ C, pw (s c)) / pw μ := by
      rw [Finset.sum_div]; exact Finset.sum_congr rfl fun c _ => pw_sub _ _
    have e2 : ∑ c ∈ C, pw (s c - μ) * w c d = (∑ c ∈ C, pw (s c) * w c d) / pw μ := by
      rw [Finset.sum_div]; refine Finset.sum_congr rfl fun c _ => ?_
      rw [pw_sub]; ring
    rw [e1, e2]
    have := (pw_pos μ).ne'
    field_simp

/-- … and the shift plus the binary logarithm of the running sum is the binary logarithm of the whole sum. -/
theorem Rep.lse {κ δ : Type} {s : κ → ℝ} {w : κ → δ → ℝ} {C : Finset κ} {m l : EReal} {a : δ → EReal}
    (h : Rep s w C m l a) (hC : C.Nonempty) :
    m + Ideal.log l * (((Real.log 2)⁻¹ : ℝ) : EReal) = ((Real.log (∑ c ∈ C, pw (s c)) * (Real.log 2)⁻¹ : ℝ) : EReal) := by
  rcases h with ⟨h, _⟩ | ⟨μ, hm, hl, ha⟩
  · exact absurd h hC.ne_empty
  · have hpos : 0 < ∑ c ∈ C, pw (s c - μ) := Finset.sum_pos (fun c _ => pw_pos _) hC
    have h0 : 0 < ∑ c ∈ C, pw (s c) := Finset.sum_pos (fun c _ => pw_pos _) hC
    rw [hm, hl, Ideal.log_coe, if_neg hpos.not_ge, ← EReal.coe_mul, ← EReal.coe_add]
    congr 1
    have e1 : ∑ c ∈ C, pw (s c - μ) = (∑ c ∈ C, pw (s c)) / pw μ := by
      rw [Finset.sum_div]; exact Finset.sum_congr rfl fun c _ => pw_sub _ _
    rw [e1, Real.log_div h0.ne' (pw_pos μ).ne', pw_eq_exp μ, Real.log_exp]
    have := log2_pos.ne'
    field_simp
    ring

end Cert.Attn
-- ==== Proof.XBwdRef.lean ====
module

public import proofs.«01_k».proof.Proof.XBwd
public import proofs.«01_k».proof.Proof.XFwdMain
public import proofs.«01_k».proof.Proof.Math
public import proofs.«01_k».proof.Proof.Gen.Reference20Ideal.Read

/-!
# The reference for the backward pass of the cross attention

At finite arguments the reference's gradient of the scores is the softmax times what its own gradient is above the
average under the softmax; the three gradients follow.
-/

@[expose] public section

set_option maxRecDepth 16384

namespace Cert.Kernel20Ideal.Val

open Idealize.ShloMosaic TcCoe Tactic
open Cert.Feed (ext2 ext3)
open Cert.Kernel20Ideal Cert.Lin Cert.Attn
open Cert.Kernel19Ideal.Val (top scale colQ colK colV)
open Cert.Reference20Ideal.Read

/-- The quotient rule's two forms, at real numbers. -/
theorem quotient_rule (e d : Fin 256 → ℝ) (L q : ℝ) (hL : L ≠ 0) (hq : q ≠ 0) (j : Fin 256) :
    Ideal.div ((Ideal.div (d j : EReal) (L : EReal) + -∑ k, (d k : EReal) * Ideal.div 1 ((L : EReal) * (L : EReal)) * (e k : EReal)) * (e j : EReal)) (q : EReal)
      = Ideal.div (e j : EReal) (L : EReal) * ((d j : EReal) - ∑ k, Ideal.div (e k : EReal) (L : EReal) * (d k : EReal)) * ((q⁻¹ : ℝ) : EReal) := by
  have hLL : L * L ≠ 0 := mul_ne_zero hL hL
  have h : ∑ k, d k * (1 * (1 / (L * L))) * e k = 1 / L * ∑ k, e k * (1 / L) * d k := by
    rw [Finset.mul_sum]
    refine Finset.sum_congr rfl fun k _ => ?_
    field_simp
  simp only [← EReal.coe_mul, ← EReal.coe_one, Ideal.div_coe hL, Ideal.div_coe hLL, Ideal.div_coe hq, ← coe_sum, ← EReal.coe_neg, ← EReal.coe_add, ← EReal.coe_sub]
  rw [h]
  congr 1
  rw [one_div q]
  ring

/-- The same, of the softmax of real scores. -/
theorem slope_eq (s d : Fin 256 → EReal) (hs : ∀ j, ∃ r : ℝ, s j = (r : EReal)) (hd : ∀ j, ∃ r : ℝ, d j = (r : EReal)) (j : Fin 256) :
    Ideal.div ((Ideal.div (d j) (∑ k, Ideal.exp (s k - top s)) + -∑ k, d k * Ideal.div 1 ((∑ k, Ideal.exp (s k - top s)) * ∑ k, Ideal.exp (s k - top s)) * Ideal.exp (s k - top s))
      * Ideal.exp (s j - top s)) ((Real.sqrt 128 : ℝ) : EReal) = slope s d j := by
  choose s' hs using hs
  choose d' hd using hd
  obtain ⟨μ, hμ⟩ : ∃ μ : ℝ, top s = (μ : EReal) := by
    have h := max_fold_real ⊥ bot_ne_top s (fun x => by rw [hs x]; exact EReal.coe_ne_top _) 0 (by rw [hs 0]; exact EReal.coe_ne_bot _)
    rwa [max_eq_right bot_le] at h
  have hE : ∀ k, Ideal.exp (s k - top s) = ((Real.exp (s' k - μ) : ℝ) : EReal) := fun k => by
    rw [hs, hμ, ← EReal.coe_sub, Ideal.exp_coe]
  have hL : (∑ k : Fin 256, Real.exp (s' k - μ)) ≠ 0 := (Finset.sum_pos (fun k _ => Real.exp_pos _) ⟨0, Finset.mem_univ _⟩).ne'
  unfold slope soft scale
  simp only [hE, hd, ← coe_sum Finset.univ (fun k => Real.exp (s' k - μ))]
  exact quotient_rule (fun k => Real.exp (s' k - μ)) d' _ _ hL (by positivity) j

section stages

variable (x0 : S8192x512.Idx → EReal) (x1 : S256x1024.Idx → EReal) (x2 : S8192x512.Idx → EReal)

/-- The scores of row `r` in the head of column `n`, and the gradients of their softmax. -/
noncomputable def sc (r : Fin 8192) (n : Fin 512) : Fin 256 → EReal := rs (row x0 r) x1 n
noncomputable def gr (r : Fin 8192) (n : Fin 512) : Fin 256 → EReal := rd (row x2 r) x1 n

theorem hz0 : Ideal.ofBits .f32 0x00000000#32 = (0 : EReal) := by simp [Ideal.ofBits, Ideal.ieee]

variable (h : Fin 4) (r : Fin 8192) (j : Fin 256) (n : Fin 512) (hn : n.val / 128 = h.val)
include hn

theorem v29_eq : (val_main_v29 (F := Ideal) x0 x1 (ix3 h r j) : EReal) = Ideal.exp (sc x0 x1 r n j - top (sc x0 x1 r n)) :=
  Cert.Kernel19Ideal.Val.v15_eq x0 x1 h r j n hn

theorem v30_eq : (val_main_v30 (F := Ideal) x0 x1 (ix2 h r) : EReal) = ∑ k, Ideal.exp (sc x0 x1 r n k - top (sc x0 x1 r n)) := by
  rw [val_main_v30_apply, val_main_cst_8_apply]
  show Ideal.ofBits .f32 0x00000000#32 + _ = _
  rw [hz0, zero_add]
  refine Finset.sum_congr rfl fun k _ => Eq.trans (congrArg (val_main_v29 (F := Ideal) x0 x1) ?_) (v29_eq x0 x1 h r k n hn)
  exact ext3 rfl rfl rfl

theorem v31_eq : (val_main_v31 (F := Ideal) x0 x1 (ix3 h r 0) : EReal) = ∑ k, Ideal.exp (sc x0 x1 r n k - top (sc x0 x1 r n)) := by
  rw [val_main_v31_apply]
  refine Eq.trans (congrArg (val_main_v30 (F := Ideal) x0 x1) ?_) (v30_eq x0 x1 h r n hn)
  exact ext2 rfl rfl

theorem v33_eq : (val_main_v33 (F := Ideal) x0 x1 (ix3 h r j) : EReal) = soft (sc x0 x1 r n) j := by
  rw [val_main_v33_apply, v29_eq x0 x1 h r j n hn, val_main_v32_apply]
  refine congrArg (Ideal.div _) (Eq.trans (congrArg (val_main_v31 (F := Ideal) x0 x1) ?_) (v31_eq x0 x1 h r n hn))
  exact ext3 rfl rfl rfl

theorem v42_eq : (val_main_v42 (F := Ideal) x1 x2 (ix3 h r j) : EReal) = gr x1 x2 r n j := by
  rw [val_main_v42_apply]
  unfold gr rd row
  refine Finset.sum_congr rfl fun e _ => ?_
  rw [val_main_v41_apply, val_main_v40_apply, val_main_v4_apply, val_main_v1_apply]
  refine congrArg₂ (fun p q : EReal => p * q) (congrArg x2 ?_) (congrArg x1 ?_)
  · exact ext2 (Fin.ext (by show ((r.val * 4 + h.val) * 128 + e.val) / 512 = r.val; omega)) (Fin.ext (by show ((r.val * 4 + h.val) * 128 + e.val) % 512 = 128 * (n.val / 128) + e.val; omega))
  · funext b
    match b with
    | ⟨0, _⟩ => exact Fin.ext (by show ((j.val * 4 + h.val) * 128 + e.val) / 512 = j.val; omega)
    | ⟨1, _⟩ => exact Fin.ext (by show 512 + ((j.val * 4 + h.val) * 128 + e.val) % 512 = 512 + (128 * (n.val / 128) + e.val); omega)

theorem v47_eq : (val_main_v47 (F := Ideal) x0 x1 x2 (ix3 h r j) : EReal)
    = gr x1 x2 r n j * Ideal.div 1 ((∑ k, Ideal.exp (sc x0 x1 r n k - top (sc x0 x1 r n))) * ∑ k, Ideal.exp (sc x0 x1 r n k - top (sc x0 x1 r n)))
      * Ideal.exp (sc x0 x1 r n j - top (sc x0 x1 r n)) := by
  have e : idx_main_v45 (ix3 h r j) = ix3 h r 0 := by
    exact ext3 rfl rfl rfl
  rw [val_main_v47_apply, val_main_v46_apply, v29_eq x0 x1 h r j n hn, v42_eq x1 x2 h r j n hn, val_main_v45_apply, e, val_main_v36_apply, val_main_v35_apply, val_main_cst_9_apply,
    val_main_v34_apply, v31_eq x0 x1 h r n hn]
  show _ * Ideal.div (Ideal.ofBits .f32 0x3F800000#32) _ * _ = _
  rw [c1]
  rfl

theorem v53_eq : (val_main_v53 (F := Ideal) x0 x1 x2 (ix2 h r) : EReal)
    = -∑ k, gr x1 x2 r n k * Ideal.div 1 ((∑ k, Ideal.exp (sc x0 x1 r n k - top (sc x0 x1 r n))) * ∑ k, Ideal.exp (sc x0 x1 r n k - top (sc x0 x1 r n)))
      * Ideal.exp (sc x0 x1 r n k - top (sc x0 x1 r n)) := by
  rw [val_main_v53_apply, val_main_cst_11_apply, Fin.sum_univ_one, val_main_v50_apply, val_main_v49_apply, val_main_v48_apply, val_main_cst_10_apply]
  show Ideal.ofBits .f32 0x00000000#32 + -(Ideal.ofBits .f32 0x00000000#32 + _) = _
  rw [hz0, zero_add, zero_add]
  refine congrArg (fun t : EReal => -t) (Finset.sum_congr rfl fun k _ => Eq.trans (congrArg (val_main_v47 (F := Ideal) x0 x1 x2) ?_) (v47_eq x0 x1 x2 h r k n hn))
  exact ext3 (Fin.ext (by show ((h.val * 8192 + r.val) * 1 + 0) / 8192 = h.val; omega)) (Fin.ext (by show ((h.val * 8192 + r.val) * 1 + 0) % 8192 = r.val; omega)) rfl

variable (f0 : ∀ i, ∃ r : ℝ, x0 i = (r : EReal)) (f1 : ∀ i, ∃ r : ℝ, x1 i = (r : EReal)) (f2 : ∀ i, ∃ r : ℝ, x2 i = (r : EReal))
include f0 f1 f2

theorem v58_eq : (val_main_v58 (F := Ideal) x0 x1 x2 (ix3 h r j) : EReal) = slope (sc x0 x1 r n) (gr x1 x2 r n) j := by
  have hs : ∀ j, ∃ t : ℝ, sc x0 x1 r n j = (t : EReal) := fun j => by
    choose y0 h0 using f0
    choose y1 h1 using f1
    refine ⟨(∑ e : Fin 128, y0 (ix2 r (colQ n e)) * y1 (ix2 j (colK n e))) * (Real.sqrt 128)⁻¹, ?_⟩
    unfold sc rs row scale
    simp only [h0, h1, ← EReal.coe_mul, ← coe_sum]
  have hd : ∀ j, ∃ t : ℝ, gr x1 x2 r n j = (t : EReal) := fun j => by
    choose y2 h2 using f2
    choose y1 h1 using f1
    refine ⟨∑ e : Fin 128, y2 (ix2 r (colQ n e)) * y1 (ix2 j (colV (colQ n e))), ?_⟩
    unfold gr rd row
    simp only [h2, h1, ← EReal.coe_mul, ← coe_sum]
  have e1 : idx_main_v51 (ix3 h r j) = ix3 h r 0 := by
    exact ext3 rfl rfl rfl
  have e2 : idx_main_v54 (ix3 h r j) = ix2 h r := by
    exact ext2 rfl rfl
  have e3 : (val_main_v57 (F := Ideal) (ix3 h r j) : EReal) = ((Real.sqrt 128 : ℝ) : EReal) := Cert.Kernel19Ideal.Val.root_eq (ix3 h r j)
  rw [val_main_v58_apply, val_main_v56_apply, val_main_v55_apply, v29_eq x0 x1 h r j n hn, val_main_v52_apply, v42_eq x1 x2 h r j n hn, val_main_v51_apply, e1, v31_eq x0 x1 h r n hn,
    val_main_v54_apply, e2, v53_eq x0 x1 x2 h r n hn, e3]
  exact slope_eq _ _ hs hd j

omit hn

theorem v66_at : (val_main_v66 (F := Ideal) x0 x1 x2 (ix2 r n) : EReal) = dq (row x0 r) (row x2 r) x1 n := by
  show (val_main_v65 (F := Ideal) x0 x1 x2 (ix2 r n) : EReal) = _
  have hh : n.val / 128 < 4 := by omega
  rw [val_main_v65_apply, val_main_v62_apply, val_main_v61_apply]
  unfold dq
  refine Finset.sum_congr rfl fun k _ => congrArg₂ (fun p q : EReal => p * q) (Eq.trans (congrArg (val_main_v58 (F := Ideal) x0 x1 x2) ?_) (v58_eq x0 x1 x2 ⟨n.val / 128, hh⟩ r k n rfl f0 f1 f2)) ?_
  · exact ext3 (Fin.ext (by show (r.val * 512 + n.val) / 128 % 4 = n.val / 128; omega)) (Fin.ext (by show (r.val * 512 + n.val) / 512 = r.val; omega)) rfl
  · rw [val_main_v3_apply, val_main_v0_apply]
    refine congrArg x1 ?_
    exact ext2 (Fin.ext (by show ((k.val * 4 + (r.val * 512 + n.val) / 128 % 4) * 128 + (r.val * 512 + n.val) % 128) / 512 = k.val; omega)) (Fin.ext (by show ((k.val * 4 + (r.val * 512 + n.val) / 128 % 4) * 128 + (r.val * 512 + n.val) % 128) % 512 = n.val; omega))

theorem v64_at : (val_main_v64 (F := Ideal) x0 x1 x2 (ix2 j n) : EReal) = ∑ r, slope (sc x0 x1 r n) (gr x1 x2 r n) j * row x0 r n := by
  have hh : n.val / 128 < 4 := by omega
  rw [val_main_v64_apply, val_main_v60_apply, val_main_v59_apply]
  refine Finset.sum_congr rfl fun r _ => congrArg₂ (fun p q : EReal => p * q) (Eq.trans (congrArg (val_main_v58 (F := Ideal) x0 x1 x2) ?_) (v58_eq x0 x1 x2 ⟨n.val / 128, hh⟩ r j n rfl f0 f1 f2)) ?_
  · exact ext3 (Fin.ext (by show (j.val * 512 + n.val) / 128 % 4 = n.val / 128; omega)) rfl (Fin.ext (by show (j.val * 512 + n.val) / 512 = j.val; omega))
  · rw [val_main_v2_apply]
    refine congrArg x0 ?_
    exact ext2 (Fin.ext (by show ((r.val * 4 + (j.val * 512 + n.val) / 128 % 4) * 128 + (j.val * 512 + n.val) % 128) / 512 = r.val; omega)) (Fin.ext (by show ((r.val * 4 + (j.val * 512 + n.val) / 128 % 4) * 128 + (j.val * 512 + n.val) % 128) % 512 = n.val; omega))

omit f0 f1 f2

theorem v63_at : (val_main_v63 (F := Ideal) x0 x1 x2 (ix2 j n) : EReal) = ∑ r, soft (sc x0 x1 r n) j * row x2 r n := by
  have hh : n.val / 128 < 4 := by omega
  rw [val_main_v63_apply, val_main_v44_apply, val_main_v43_apply]
  refine Finset.sum_congr rfl fun r _ => (congrArg₂ (fun p q : EReal => p * q) ?_ (Eq.trans (congrArg (val_main_v33 (F := Ideal) x0 x1) ?_) (v33_eq x0 x1 ⟨n.val / 128, hh⟩ r j n rfl))).trans (mul_comm _ _)
  · rw [val_main_v41_apply, val_main_v40_apply]
    refine congrArg x2 ?_
    exact ext2 (Fin.ext (by show ((r.val * 4 + (j.val * 512 + n.val) / 128 % 4) * 128 + (j.val * 512 + n.val) % 128) / 512 = r.val; omega)) (Fin.ext (by show ((r.val * 4 + (j.val * 512 + n.val) / 128 % 4) * 128 + (j.val * 512 + n.val) % 128) % 512 = n.val; omega))
  · funext b
    match b with
    | ⟨0, _⟩ => exact Fin.ext (by show (j.val * 512 + n.val) / 128 % 4 = n.val / 128; omega)
    | ⟨1, _⟩ => rfl
    | ⟨2, _⟩ => exact Fin.ext (by show (j.val * 512 + n.val) / 512 = j.val; omega)

include f0 f1 f2

theorem v67_at (t : Fin 1024) : (val_main_v67 (F := Ideal) x0 x1 x2 (ix2 j t) : EReal) = ∑ r, term (row x0 r) (row x2 r) x1 j t := by
  unfold val_main_v67
  have hl : (lo t).val = t.val % 512 := rfl
  by_cases ht : t.val < 512
  · refine (concatenate_pair_apply_left (s₁ := Cert.Reference20Ideal.S256x512) (s₂ := Cert.Reference20Ideal.S256x512) 1 _ _ _ (ix2 j t) rfl (ix2 j (lo t)) fun b => ?_).trans ?_
    · match b with
      | ⟨0, _⟩ => rfl
      | ⟨1, _⟩ => show t.val % 512 = t.val; omega
    · refine (v64_at x0 x1 x2 j (lo t) f0 f1 f2).trans (Finset.sum_congr rfl fun r _ => ?_)
      unfold term
      exact (if_pos ht).symm
  · refine (concatenate_pair_apply_right (s₁ := Cert.Reference20Ideal.S256x512) (s₂ := Cert.Reference20Ideal.S256x512) 1 _ _ _ (ix2 j t) rfl rfl (ix2 j (lo t)) (fun b hb => ?_) ?_).trans ?_
    · match b with
      | ⟨0, _⟩ => rfl
      | ⟨1, _⟩ => exact absurd rfl hb
    · show t.val % 512 + 512 = t.val
      omega
    · refine (v63_at x0 x1 x2 j (lo t)).trans (Finset.sum_congr rfl fun r _ => ?_)
      unfold term
      exact (if_neg ht).symm

end stages

end Cert.Kernel20Ideal.Val
-- ==== Proof.FeedRows.lean ====
module

public import proofs.«01_k».proof.Proof.Gen.Kernel2Ideal.Frame
public import Idealize.ShloMosaic.Lib.Pipeline.ValueKit

/-!
# What each of the five feed-forward kernels leaves in a block
-/

@[expose] public section

set_option maxRecDepth 16384

namespace Cert.Kernel2Ideal.Val

open Idealize.ShloMosaic TcCoe Tactic
open Cert.Kernel2Ideal Cert.Kernel2Ideal.Gen

theorem hz : (![0, 0] : Fin 2 → Nat) = fun _ => 0 := funext fun a => by fin_cases a <;> rfl

/-- The logistic function as the kernels write it. -/
noncomputable def sg (g : EReal) : EReal := Ideal.div 1 (1 + Ideal.exp (0 - g))

/-- The gradient with respect to the gate, before its product, of a feed-forward unit with gate `g`, input `u` and gradient `h`. -/
noncomputable def dGate (h g u : EReal) : EReal := h * u * sg g * (1 + g * (1 - sg g))

/-- The gradient with respect to the unit's input. -/
noncomputable def dUp (h g : EReal) : EReal := h * g * sg g

/-- A block's rows times a matrix's columns. -/
noncomputable def rc {M K N : ℕ} (x : (⟨2, ![M, K]⟩ : Shape).Idx → EReal) (w : (⟨2, ![K, N]⟩ : Shape).Idx → EReal) (y : (⟨2, ![M, N]⟩ : Shape).Idx) : EReal :=
  ∑ k : Fin K, x (ix2 (y 0) k) * w (ix2 k (y 1))

/-- A block's rows times a matrix's rows. -/
noncomputable def rr {M K N : ℕ} (x : (⟨2, ![M, K]⟩ : Shape).Idx → EReal) (w : (⟨2, ![N, K]⟩ : Shape).Idx → EReal) (y : (⟨2, ![M, N]⟩ : Shape).Idx) : EReal :=
  ∑ k : Fin K, x (ix2 (y 0) k) * w (ix2 (y 1) k)

theorem idx2_self {a b : ℕ} (i : (⟨2, ![a, b]⟩ : Shape).Idx) : ∃ (u : Fin a) (v : Fin b), i = ix2 u v :=
  ⟨i 0, i 1, by funext t; match t with | ⟨0, _⟩ => rfl | ⟨1, _⟩ => rfl⟩

theorem emb_0_8 (u : Fin 256) (v : Fin 1408) : r0_8.emb (ix2 u v : S256x1408.Idx) = (ix2 ⟨768 + u.val, by omega⟩ v : S1024x1408.Idx) := by
  funext t; match t with
    | ⟨0, _⟩ => exact Fin.ext (by show 768 + 1 * u.val = 768 + u.val; omega)
    | ⟨1, _⟩ => exact Fin.ext (by show 0 + 1 * v.val = v.val; omega)

theorem emb_0_6 (u : Fin 256) (v : Fin 1408) : r0_6.emb (ix2 u v : S256x1408.Idx) = (ix2 ⟨512 + u.val, by omega⟩ v : S1024x1408.Idx) := by
  funext t; match t with
    | ⟨0, _⟩ => exact Fin.ext (by show 512 + 1 * u.val = 512 + u.val; omega)
    | ⟨1, _⟩ => exact Fin.ext (by show 0 + 1 * v.val = v.val; omega)

theorem emb_0_4 (u : Fin 256) (v : Fin 1408) : r0_4.emb (ix2 u v : S256x1408.Idx) = (ix2 ⟨256 + u.val, by omega⟩ v : S1024x1408.Idx) := by
  funext t; match t with
    | ⟨0, _⟩ => exact Fin.ext (by show 256 + 1 * u.val = 256 + u.val; omega)
    | ⟨1, _⟩ => exact Fin.ext (by show 0 + 1 * v.val = v.val; omega)

theorem emb_0_2 (u : Fin 256) (v : Fin 1408) : r0_2.emb (ix2 u v : S256x1408.Idx) = (ix2 ⟨u.val, by omega⟩ v : S1024x1408.Idx) := by
  funext t; match t with
    | ⟨0, _⟩ => exact Fin.ext (by show 0 + 1 * u.val = u.val; omega)
    | ⟨1, _⟩ => exact Fin.ext (by show 0 + 1 * v.val = v.val; omega)

theorem emb_2_8 (u : Fin 256) (v : Fin 1408) : r2_8.emb (ix2 u v : S256x1408.Idx) = (ix2 ⟨768 + u.val, by omega⟩ v : S1024x1408.Idx) := by
  funext t; match t with
    | ⟨0, _⟩ => exact Fin.ext (by show 768 + 1 * u.val = 768 + u.val; omega)
    | ⟨1, _⟩ => exact Fin.ext (by show 0 + 1 * v.val = v.val; omega)

theorem emb_2_6 (u : Fin 256) (v : Fin 1408) : r2_6.emb (ix2 u v : S256x1408.Idx) = (ix2 ⟨512 + u.val, by omega⟩ v : S1024x1408.Idx) := by
  funext t; match t with
    | ⟨0, _⟩ => exact Fin.ext (by show 512 + 1 * u.val = 512 + u.val; omega)
    | ⟨1, _⟩ => exact Fin.ext (by show 0 + 1 * v.val = v.val; omega)

theorem emb_2_4 (u : Fin 256) (v : Fin 1408) : r2_4.emb (ix2 u v : S256x1408.Idx) = (ix2 ⟨256 + u.val, by omega⟩ v : S1024x1408.Idx) := by
  funext t; match t with
    | ⟨0, _⟩ => exact Fin.ext (by show 256 + 1 * u.val = 256 + u.val; omega)
    | ⟨1, _⟩ => exact Fin.ext (by show 0 + 1 * v.val = v.val; omega)

theorem emb_2_2 (u : Fin 256) (v : Fin 1408) : r2_2.emb (ix2 u v : S256x1408.Idx) = (ix2 ⟨u.val, by omega⟩ v : S1024x1408.Idx) := by
  funext t; match t with
    | ⟨0, _⟩ => exact Fin.ext (by show 0 + 1 * u.val = u.val; omega)
    | ⟨1, _⟩ => exact Fin.ext (by show 0 + 1 * v.val = v.val; omega)

theorem o0_3 (x0 : Vec Ideal S1024x1024 .bf16) (x1 x2 : Vec Ideal S1024x1408 .bf16) (y : S1024x1408.Idx) :
    out0_3 (F := Ideal) x0 x1 x2 y = rc (M := 1024) (K := 1024) (N := 1408) x0 x1 y := by
  unfold out0_3
  refine View.canon_apply_of_pieces (Val := Elt Ideal) (e := .bf16) (fun y : S1024x1408.Idx => (rc (M := 1024) (K := 1024) (N := 1408) x0 x1 y : EReal)) _ (fun p hp j => ?_) y (cover0_3 _ _ _ _ y)
  simp only [List.mem_cons, List.mem_nil_iff, or_false] at hp
  rcases hp with rfl | rfl | rfl | rfl
  · obtain ⟨u, v, rfl⟩ := idx2_self j
    pointwise [k0_pay3, k0_pay1, k0_pay29, k0_pay6, k0_pay33, k0_pay28]
    rw [emb_0_8]
    rfl
  · obtain ⟨u, v, rfl⟩ := idx2_self j
    pointwise [k0_pay25, k0_pay23, k0_pay22, k0_pay29, k0_pay6]
    rw [emb_0_6]
    rfl
  · obtain ⟨u, v, rfl⟩ := idx2_self j
    pointwise [k0_pay19, k0_pay31, k0_pay15, k0_pay14, k0_pay6]
    rw [emb_0_4]
    rfl
  · obtain ⟨u, v, rfl⟩ := idx2_self j
    pointwise [k0_pay11, k0_pay9, k0_pay8, k0_pay6]
    rw [emb_0_2]
    rfl

theorem o0_4 (x0 : Vec Ideal S1024x1024 .bf16) (x1 x2 : Vec Ideal S1024x1408 .bf16) (y : S1024x1408.Idx) :
    out0_4 (F := Ideal) x0 x1 x2 y = rc (M := 1024) (K := 1024) (N := 1408) x0 x2 y := by
  unfold out0_4
  refine View.canon_apply_of_pieces (Val := Elt Ideal) (e := .bf16) (fun y : S1024x1408.Idx => (rc (M := 1024) (K := 1024) (N := 1408) x0 x2 y : EReal)) _ (fun p hp j => ?_) y (cover0_4 _ _ _ _ y)
  simp only [List.mem_cons, List.mem_nil_iff, or_false] at hp
  rcases hp with rfl | rfl | rfl | rfl
  · obtain ⟨u, v, rfl⟩ := idx2_self j
    pointwise [k0_pay4, k0_pay2, k0_pay30, k0_pay7, k0_pay33, k0_pay28]
    rw [emb_0_8]
    rfl
  · obtain ⟨u, v, rfl⟩ := idx2_self j
    pointwise [k0_pay26, k0_pay24, k0_pay22, k0_pay30, k0_pay7]
    rw [emb_0_6]
    rfl
  · obtain ⟨u, v, rfl⟩ := idx2_self j
    pointwise [k0_pay20, k0_pay32, k0_pay16, k0_pay14, k0_pay7]
    rw [emb_0_4]
    rfl
  · obtain ⟨u, v, rfl⟩ := idx2_self j
    pointwise [k0_pay12, k0_pay10, k0_pay8, k0_pay7]
    rw [emb_0_2]
    rfl

theorem o0_5 (x0 : Vec Ideal S1024x1024 .bf16) (x1 x2 : Vec Ideal S1024x1408 .bf16) (y : S1024x1408.Idx) :
    out0_5 (F := Ideal) x0 x1 x2 y = rc (M := 1024) (K := 1024) (N := 1408) x0 x1 y * sg (rc (M := 1024) (K := 1024) (N := 1408) x0 x1 y) * rc (M := 1024) (K := 1024) (N := 1408) x0 x2 y := by
  unfold out0_5
  refine View.canon_apply_of_pieces (Val := Elt Ideal) (e := .bf16) (fun y : S1024x1408.Idx => (rc (M := 1024) (K := 1024) (N := 1408) x0 x1 y * sg (rc (M := 1024) (K := 1024) (N := 1408) x0 x1 y) * rc (M := 1024) (K := 1024) (N := 1408) x0 x2 y : EReal)) _ (fun p hp j => ?_) y (cover0_5 _ _ _ _ y)
  simp only [List.mem_cons, List.mem_nil_iff, or_false] at hp
  rcases hp with rfl | rfl | rfl | rfl
  · obtain ⟨u, v, rfl⟩ := idx2_self j
    pointwise [k0_pay5, k0_pay1, k0_pay2, k0_pay29, k0_pay6, k0_pay30, k0_pay7, k0_pay33, k0_pay28]
    rw [emb_0_8]
    rfl
  · obtain ⟨u, v, rfl⟩ := idx2_self j
    pointwise [k0_pay27, k0_pay23, k0_pay22, k0_pay24, k0_pay29, k0_pay6, k0_pay30, k0_pay7]
    rw [emb_0_6]
    rfl
  · obtain ⟨u, v, rfl⟩ := idx2_self j
    pointwise [k0_pay21, k0_pay31, k0_pay15, k0_pay14, k0_pay6, k0_pay32, k0_pay16, k0_pay7, k0_pay17, k0_pay18]
    rw [emb_0_4]
    rfl
  · obtain ⟨u, v, rfl⟩ := idx2_self j
    pointwise [k0_pay13, k0_pay9, k0_pay8, k0_pay6, k0_pay10, k0_pay7]
    rw [emb_0_2]
    rfl

theorem o2_4 (x0 : Vec Ideal S1024x1024 .f32) (x1 : Vec Ideal S1408x1024 .bf16) (x2 x3 : Vec Ideal S1024x1408 .bf16) (y : S1024x1408.Idx) :
    out2_4 (F := Ideal) x0 x1 x2 x3 y = dGate (rr (M := 1024) (K := 1024) (N := 1408) x0 x1 y) (x2 y) (x3 y) := by
  unfold out2_4
  refine View.canon_apply_of_pieces (Val := Elt Ideal) (e := .bf16) (fun y : S1024x1408.Idx => (dGate (rr (M := 1024) (K := 1024) (N := 1408) x0 x1 y) (x2 y) (x3 y) : EReal)) _ (fun p hp j => ?_) y (cover2_4 _ _ _ _ y)
  simp only [List.mem_cons, List.mem_nil_iff, or_false] at hp
  rcases hp with rfl | rfl | rfl | rfl
  · obtain ⟨u, v, rfl⟩ := idx2_self j
    pointwise [k2_pay1, k2_pay30, k2_pay22, k2_pay31, k2_pay23, k2_pay24, k2_pay21, k2_pay26, k2_pay3]
    rw [emb_2_8]
    rfl
  · obtain ⟨u, v, rfl⟩ := idx2_self j
    pointwise [k2_pay19, k2_pay18, k2_pay28, k2_pay15, k2_pay26, k2_pay3, k2_pay29, k2_pay16, k2_pay17]
    rw [emb_2_6]
    rfl
  · obtain ⟨u, v, rfl⟩ := idx2_self j
    pointwise [k2_pay13, k2_pay10, k2_pay12, k2_pay11, k2_pay26, k2_pay3, k2_pay27, k2_pay9, k2_pay25]
    rw [emb_2_4]
    rfl
  · obtain ⟨u, v, rfl⟩ := idx2_self j
    pointwise [k2_pay7, k2_pay4, k2_pay3, k2_pay6, k2_pay5]
    rw [emb_2_2]
    rfl

theorem o2_5 (x0 : Vec Ideal S1024x1024 .f32) (x1 : Vec Ideal S1408x1024 .bf16) (x2 x3 : Vec Ideal S1024x1408 .bf16) (y : S1024x1408.Idx) :
    out2_5 (F := Ideal) x0 x1 x2 x3 y = dUp (rr (M := 1024) (K := 1024) (N := 1408) x0 x1 y) (x2 y) := by
  unfold out2_5
  refine View.canon_apply_of_pieces (Val := Elt Ideal) (e := .bf16) (fun y : S1024x1408.Idx => (dUp (rr (M := 1024) (K := 1024) (N := 1408) x0 x1 y) (x2 y) : EReal)) _ (fun p hp j => ?_) y (cover2_5 _ _ _ _ y)
  simp only [List.mem_cons, List.mem_nil_iff, or_false] at hp
  rcases hp with rfl | rfl | rfl | rfl
  · obtain ⟨u, v, rfl⟩ := idx2_self j
    pointwise [k2_pay2, k2_pay21, k2_pay26, k2_pay3, k2_pay30, k2_pay22, k2_pay31, k2_pay23]
    rw [emb_2_8]
    rfl
  · obtain ⟨u, v, rfl⟩ := idx2_self j
    pointwise [k2_pay20, k2_pay18, k2_pay28, k2_pay15, k2_pay26, k2_pay3, k2_pay29, k2_pay16]
    rw [emb_2_6]
    rfl
  · obtain ⟨u, v, rfl⟩ := idx2_self j
    pointwise [k2_pay14, k2_pay10, k2_pay11, k2_pay12, k2_pay26, k2_pay3, k2_pay27, k2_pay9, k2_pay25]
    rw [emb_2_4]
    rfl
  · obtain ⟨u, v, rfl⟩ := idx2_self j
    pointwise [k2_pay8, k2_pay4, k2_pay3, k2_pay5, k2_pay6]
    rw [emb_2_2]
    rfl

theorem o1_3 (x0 : Vec Ideal S1024x2816 .bf16) (x1 : Vec Ideal S2816x1024 .bf16) (x2 : Vec Ideal S1024x1024 .f32) (a b : Fin 1024) :
    out1_3 (F := Ideal) x0 x1 x2 (ix2 a b) = (∑ k : Fin 2816, (x0 (ix2 a k) : EReal) * (x1 (ix2 k b) : EReal)) + (x2 (ix2 a b) : EReal) := by
  unfold out1_3
  rw [View.canon_unit_zero (S := S1024x1024) hz, View.ld_unit_zero (S := S2816x1024) hz, View.ld_unit_zero (S := S1024x2816) hz, View.ld_unit_zero (S := S1024x1024) hz]
  pointwise [k1_pay1]

theorem o3_2 (x0 x1 : Vec Ideal S1024x2816 .bf16) (a b : Fin 1024) :
    out3_2 (F := Ideal) x0 x1 (ix2 a b) = ∑ k : Fin 2816, (x0 (ix2 a k) : EReal) * (x1 (ix2 b k) : EReal) := by
  unfold out3_2
  rw [View.canon_unit_zero (S := S1024x1024) hz, View.ld_unit_zero (S := S1024x2816) hz, View.ld_unit_zero (S := S1024x2816) hz]
  pointwise [k3_pay1]

theorem o4_3 (x0 x1 : Vec Ideal S1024x2816 .bf16) (x2 : Vec Ideal S1024x1024 .f32) (a b : Fin 1024) :
    out4_3 (F := Ideal) x0 x1 x2 (ix2 a b) = (∑ k : Fin 2816, (x0 (ix2 a k) : EReal) * (x1 (ix2 b k) : EReal)) + (x2 (ix2 a b) : EReal) := by
  unfold out4_3
  rw [View.canon_unit_zero (S := S1024x1024) hz, View.ld_unit_zero (S := S1024x2816) hz, View.ld_unit_zero (S := S1024x2816) hz, View.ld_unit_zero (S := S1024x1024) hz]
  pointwise [k4_pay1]

end Cert.Kernel2Ideal.Val
-- ==== Proof.FeedArr.lean ====
module

public import proofs.«01_k».proof.Proof.FeedRows

/-!
# The arrays the five feed-forward kernels leave
-/

@[expose] public section

set_option maxRecDepth 16384

namespace Cert.Kernel2Ideal.Val

open Idealize.ShloMosaic TcCoe Tactic
open Idealize.ShloMosaic.Pipeline (Dat)
open Cert.Kernel2Ideal Cert.Kernel2Ideal.Gen

/-- A product of blocks is the product of the arrays where their rows and columns are the arrays'. -/
theorem rc_blk {M K N M' N' : ℕ} {x : (⟨2, ![M, K]⟩ : Shape).Idx → EReal} {w : (⟨2, ![K, N]⟩ : Shape).Idx → EReal} {X : (⟨2, ![M', K]⟩ : Shape).Idx → EReal}
    {W : (⟨2, ![K, N']⟩ : Shape).Idx → EReal} {a : Fin M} {b : Fin N} {a' : Fin M'} {b' : Fin N'}
    (hx : ∀ k, x (ix2 a k) = X (ix2 a' k)) (hw : ∀ k, w (ix2 k b) = W (ix2 k b')) : rc x w (ix2 a b) = rc X W (ix2 a' b') :=
  Finset.sum_congr rfl fun k _ => congrArg₂ (· * ·) (hx k) (hw k)

theorem rr_blk {M K N M' N' : ℕ} {x : (⟨2, ![M, K]⟩ : Shape).Idx → EReal} {w : (⟨2, ![N, K]⟩ : Shape).Idx → EReal} {X : (⟨2, ![M', K]⟩ : Shape).Idx → EReal}
    {W : (⟨2, ![N', K]⟩ : Shape).Idx → EReal} {a : Fin M} {b : Fin N} {a' : Fin M'} {b' : Fin N'}
    (hx : ∀ k, x (ix2 a k) = X (ix2 a' k)) (hw : ∀ k, w (ix2 b k) = W (ix2 b' k)) : rr x w (ix2 a b) = rr X W (ix2 a' b') :=
  Finset.sum_congr rfl fun k _ => congrArg₂ (· * ·) (hx k) (hw k)

variable (V : (c : Dev nD) → (b : Ref sig .tc) → Buf (Elt Ideal) ((c : Thread nD τ).loc b)) (c : Dev nD)

theorem idx0 : ∀ t : Fin cfg0.N, win0_0.index t = ![t.val / 2, 0] ∧ win0_1.index t = ![0, t.val % 2] ∧ win0_2.index t = ![0, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

theorem idx1 : ∀ t : Fin cfg1.N, win1_0.index t = ![t.val, 0] ∧ win1_1.index t = ![0, 0] ∧ win1_2.index t = ![t.val, 0] ∧ win1_3.index t = ![t.val, 0] :=
  (by decide +kernel : ∀ t : Fin grid1.N, _)

theorem idx2 : ∀ t : Fin cfg2.N, win2_0.index t = ![t.val / 2, 0] ∧ win2_1.index t = ![t.val % 2, 0] ∧ win2_2.index t = ![t.val / 2, t.val % 2]
    ∧ win2_3.index t = ![t.val / 2, t.val % 2] ∧ win2_4.index t = ![t.val / 2, t.val % 2] ∧ win2_5.index t = ![t.val / 2, t.val % 2] :=
  (by decide +kernel : ∀ t : Fin grid2.N, _)

theorem idx3 : ∀ t : Fin cfg3.N, win3_0.index t = ![t.val, 0] ∧ win3_1.index t = ![0, 0] ∧ win3_2.index t = ![t.val, 0] :=
  (by decide +kernel : ∀ t : Fin grid3.N, _)

theorem idx4 : ∀ t : Fin cfg4.N, win4_0.index t = ![t.val, 0] ∧ win4_1.index t = ![0, 0] ∧ win4_2.index t = ![t.val, 0] ∧ win4_3.index t = ![t.val, 0] :=
  (by decide +kernel : ∀ t : Fin grid4.N, _)

/-- The row of the arrays a row of a block is, and the column. -/
def rowA (t : ℕ) (ht : t < 16) (a : Fin 1024) : Fin 8192 := ⟨1024 * (t / 2) + a.val, by omega⟩
def colA (t : ℕ) (b : Fin 1408) : Fin 2816 := ⟨1408 * (t % 2) + b.val, by omega⟩
def rowB (t : ℕ) (ht : t < 8) (a : Fin 1024) : Fin 8192 := ⟨1024 * t + a.val, by omega⟩

theorem emb0_0 (t : Fin cfg0.N) (a : Fin 1024) (b : Fin 1024) :
    (win0_0.blk t).view.emb (ix2 a b : S1024x1024.Idx) = (ix2 (rowA t.val t.isLt a) b : S8192x1024.Idx) := by
  funext q; match q with
    | ⟨0, _⟩ | ⟨1, _⟩ => apply Fin.ext; blk_simp [idx0 t]; try simp [rowA, rowB, colA]; try omega

theorem emb0_1 (t : Fin cfg0.N) (a : Fin 1024) (b : Fin 1408) :
    (win0_1.blk t).view.emb (ix2 a b : S1024x1408.Idx) = (ix2 a (colA t.val b) : S1024x2816.Idx) := by
  funext q; match q with
    | ⟨0, _⟩ | ⟨1, _⟩ => apply Fin.ext; blk_simp [idx0 t]; try simp [rowA, rowB, colA]; try omega

theorem emb0_2 (t : Fin cfg0.N) (a : Fin 1024) (b : Fin 1408) :
    (win0_2.blk t).view.emb (ix2 a b : S1024x1408.Idx) = (ix2 a (colA t.val b) : S1024x2816.Idx) := by
  funext q; match q with
    | ⟨0, _⟩ | ⟨1, _⟩ => apply Fin.ext; blk_simp [idx0 t]; try simp [rowA, rowB, colA]; try omega

theorem emb0_3 (t : Fin cfg0.N) (a : Fin 1024) (b : Fin 1408) :
    (win0_3.blk t).view.emb (ix2 a b : S1024x1408.Idx) = (ix2 (rowA t.val t.isLt a) (colA t.val b) : S8192x2816.Idx) := by
  funext q; match q with
    | ⟨0, _⟩ | ⟨1, _⟩ => apply Fin.ext; blk_simp [idx0 t]; try simp [rowA, rowB, colA]; try omega

theorem emb0_4 (t : Fin cfg0.N) (a : Fin 1024) (b : Fin 1408) :
    (win0_4.blk t).view.emb (ix2 a b : S1024x1408.Idx) = (ix2 (rowA t.val t.isLt a) (colA t.val b) : S8192x2816.Idx) := by
  funext q; match q with
    | ⟨0, _⟩ | ⟨1, _⟩ => apply Fin.ext; blk_simp [idx0 t]; try simp [rowA, rowB, colA]; try omega

theorem emb0_5 (t : Fin cfg0.N) (a : Fin 1024) (b : Fin 1408) :
    (win0_5.blk t).view.emb (ix2 a b : S1024x1408.Idx) = (ix2 (rowA t.val t.isLt a) (colA t.val b) : S8192x2816.Idx) := by
  funext q; match q with
    | ⟨0, _⟩ | ⟨1, _⟩ => apply Fin.ext; blk_simp [idx0 t]; try simp [rowA, rowB, colA]; try omega

theorem blk0_0 (t : Fin cfg0.N) (a : Fin 1024) (b : Fin 1024) :
    (iblk0 V c 0 t : Vec Ideal S1024x1024 .bf16) (ix2 a b) = (V c main_v3 : S8192x1024.Idx → EReal) (ix2 (rowA t.val t.isLt a) b) := by
  blk_simp [iblk0]
  rw [emb0_0]

theorem blk0_1 (t : Fin cfg0.N) (a : Fin 1024) (b : Fin 1408) :
    (iblk0 V c 1 t : Vec Ideal S1024x1408 .bf16) (ix2 a b) = (V c main_v0 : S1024x2816.Idx → EReal) (ix2 a (colA t.val b)) := by
  blk_simp [iblk0]
  rw [emb0_1]

theorem blk0_2 (t : Fin cfg0.N) (a : Fin 1024) (b : Fin 1408) :
    (iblk0 V c 2 t : Vec Ideal S1024x1408 .bf16) (ix2 a b) = (V c main_v1 : S1024x2816.Idx → EReal) (ix2 a (colA t.val b)) := by
  blk_simp [iblk0]
  rw [emb0_2]

theorem emb1_0 (t : Fin cfg1.N) (a : Fin 1024) (b : Fin 2816) :
    (win1_0.blk t).view.emb (ix2 a b : S1024x2816.Idx) = (ix2 (rowB t.val t.isLt a) b : S8192x2816.Idx) := by
  funext q; match q with
    | ⟨0, _⟩ | ⟨1, _⟩ => apply Fin.ext; blk_simp [idx1 t]; try simp [rowA, rowB, colA]; try omega

theorem emb1_1 (t : Fin cfg1.N) (a : Fin 2816) (b : Fin 1024) :
    (win1_1.blk t).view.emb (ix2 a b : S2816x1024.Idx) = (ix2 a b : S2816x1024.Idx) := by
  funext q; match q with
    | ⟨0, _⟩ | ⟨1, _⟩ => apply Fin.ext; blk_simp [idx1 t]; try simp [rowA, rowB, colA]; try omega

theorem emb1_2 (t : Fin cfg1.N) (a : Fin 1024) (b : Fin 1024) :
    (win1_2.blk t).view.emb (ix2 a b : S1024x1024.Idx) = (ix2 (rowB t.val t.isLt a) b : S8192x1024.Idx) := by
  funext q; match q with
    | ⟨0, _⟩ | ⟨1, _⟩ => apply Fin.ext; blk_simp [idx1 t]; try simp [rowA, rowB, colA]; try omega

theorem emb1_3 (t : Fin cfg1.N) (a : Fin 1024) (b : Fin 1024) :
    (win1_3.blk t).view.emb (ix2 a b : S1024x1024.Idx) = (ix2 (rowB t.val t.isLt a) b : S8192x1024.Idx) := by
  funext q; match q with
    | ⟨0, _⟩ | ⟨1, _⟩ => apply Fin.ext; blk_simp [idx1 t]; try simp [rowA, rowB, colA]; try omega

theorem blk1_0 (t : Fin cfg1.N) (a : Fin 1024) (b : Fin 2816) :
    (iblk1 V c 0 t : Vec Ideal S1024x2816 .bf16) (ix2 a b) = (V c main_v4_2 : S8192x2816.Idx → EReal) (ix2 (rowB t.val t.isLt a) b) := by
  blk_simp [iblk1]
  rw [emb1_0]

theorem blk1_1 (t : Fin cfg1.N) (a : Fin 2816) (b : Fin 1024) :
    (iblk1 V c 1 t : Vec Ideal S2816x1024 .bf16) (ix2 a b) = (V c main_v2 : S2816x1024.Idx → EReal) (ix2 a b) := by
  blk_simp [iblk1]
  rw [emb1_1]

theorem blk1_2 (t : Fin cfg1.N) (a : Fin 1024) (b : Fin 1024) :
    (iblk1 V c 2 t : Vec Ideal S1024x1024 .f32) (ix2 a b) = (V c main_arg0 : S8192x1024.Idx → EReal) (ix2 (rowB t.val t.isLt a) b) := by
  blk_simp [iblk1]
  rw [emb1_2]

theorem emb2_0 (t : Fin cfg2.N) (a : Fin 1024) (b : Fin 1024) :
    (win2_0.blk t).view.emb (ix2 a b : S1024x1024.Idx) = (ix2 (rowA t.val t.isLt a) b : S8192x1024.Idx) := by
  funext q; match q with
    | ⟨0, _⟩ | ⟨1, _⟩ => apply Fin.ext; blk_simp [idx2 t]; try simp [rowA, rowB, colA]; try omega

theorem emb2_1 (t : Fin cfg2.N) (a : Fin 1408) (b : Fin 1024) :
    (win2_1.blk t).view.emb (ix2 a b : S1408x1024.Idx) = (ix2 (colA t.val a) b : S2816x1024.Idx) := by
  funext q; match q with
    | ⟨0, _⟩ | ⟨1, _⟩ => apply Fin.ext; blk_simp [idx2 t]; try simp [rowA, rowB, colA]; try omega

theorem emb2_2 (t : Fin cfg2.N) (a : Fin 1024) (b : Fin 1408) :
    (win2_2.blk t).view.emb (ix2 a b : S1024x1408.Idx) = (ix2 (rowA t.val t.isLt a) (colA t.val b) : S8192x2816.Idx) := by
  funext q; match q with
    | ⟨0, _⟩ | ⟨1, _⟩ => apply Fin.ext; blk_simp [idx2 t]; try simp [rowA, rowB, colA]; try omega

theorem emb2_3 (t : Fin cfg2.N) (a : Fin 1024) (b : Fin 1408) :
    (win2_3.blk t).view.emb (ix2 a b : S1024x1408.Idx) = (ix2 (rowA t.val t.isLt a) (colA t.val b) : S8192x2816.Idx) := by
  funext q; match q with
    | ⟨0, _⟩ | ⟨1, _⟩ => apply Fin.ext; blk_simp [idx2 t]; try simp [rowA, rowB, colA]; try omega

theorem emb2_4 (t : Fin cfg2.N) (a : Fin 1024) (b : Fin 1408) :
    (win2_4.blk t).view.emb (ix2 a b : S1024x1408.Idx) = (ix2 (rowA t.val t.isLt a) (colA t.val b) : S8192x2816.Idx) := by
  funext q; match q with
    | ⟨0, _⟩ | ⟨1, _⟩ => apply Fin.ext; blk_simp [idx2 t]; try simp [rowA, rowB, colA]; try omega

theorem emb2_5 (t : Fin cfg2.N) (a : Fin 1024) (b : Fin 1408) :
    (win2_5.blk t).view.emb (ix2 a b : S1024x1408.Idx) = (ix2 (rowA t.val t.isLt a) (colA t.val b) : S8192x2816.Idx) := by
  funext q; match q with
    | ⟨0, _⟩ | ⟨1, _⟩ => apply Fin.ext; blk_simp [idx2 t]; try simp [rowA, rowB, colA]; try omega

theorem blk2_0 (t : Fin cfg2.N) (a : Fin 1024) (b : Fin 1024) :
    (iblk2 V c 0 t : Vec Ideal S1024x1024 .f32) (ix2 a b) = (V c main_arg5 : S8192x1024.Idx → EReal) (ix2 (rowA t.val t.isLt a) b) := by
  blk_simp [iblk2]
  rw [emb2_0]

theorem blk2_1 (t : Fin cfg2.N) (a : Fin 1408) (b : Fin 1024) :
    (iblk2 V c 1 t : Vec Ideal S1408x1024 .bf16) (ix2 a b) = (V c main_v2 : S2816x1024.Idx → EReal) (ix2 (colA t.val a) b) := by
  blk_simp [iblk2]
  rw [emb2_1]

theorem blk2_2 (t : Fin cfg2.N) (a : Fin 1024) (b : Fin 1408) :
    (iblk2 V c 2 t : Vec Ideal S1024x1408 .bf16) (ix2 a b) = (V c main_v4_0 : S8192x2816.Idx → EReal) (ix2 (rowA t.val t.isLt a) (colA t.val b)) := by
  blk_simp [iblk2]
  rw [emb2_2]

theorem blk2_3 (t : Fin cfg2.N) (a : Fin 1024) (b : Fin 1408) :
    (iblk2 V c 3 t : Vec Ideal S1024x1408 .bf16) (ix2 a b) = (V c main_v4_1 : S8192x2816.Idx → EReal) (ix2 (rowA t.val t.isLt a) (colA t.val b)) := by
  blk_simp [iblk2]
  rw [emb2_3]

theorem emb3_0 (t : Fin cfg3.N) (a : Fin 1024) (b : Fin 2816) :
    (win3_0.blk t).view.emb (ix2 a b : S1024x2816.Idx) = (ix2 (rowB t.val t.isLt a) b : S8192x2816.Idx) := by
  funext q; match q with
    | ⟨0, _⟩ | ⟨1, _⟩ => apply Fin.ext; blk_simp [idx3 t]; try simp [rowA, rowB, colA]; try omega

theorem emb3_1 (t : Fin cfg3.N) (a : Fin 1024) (b : Fin 2816) :
    (win3_1.blk t).view.emb (ix2 a b : S1024x2816.Idx) = (ix2 a b : S1024x2816.Idx) := by
  funext q; match q with
    | ⟨0, _⟩ | ⟨1, _⟩ => apply Fin.ext; blk_simp [idx3 t]; try simp [rowA, rowB, colA]; try omega

theorem emb3_2 (t : Fin cfg3.N) (a : Fin 1024) (b : Fin 1024) :
    (win3_2.blk t).view.emb (ix2 a b : S1024x1024.Idx) = (ix2 (rowB t.val t.isLt a) b : S8192x1024.Idx) := by
  funext q; match q with
    | ⟨0, _⟩ | ⟨1, _⟩ => apply Fin.ext; blk_simp [idx3 t]; try simp [rowA, rowB, colA]; try omega

theorem blk3_0 (t : Fin cfg3.N) (a : Fin 1024) (b : Fin 2816) :
    (iblk3 V c 0 t : Vec Ideal S1024x2816 .bf16) (ix2 a b) = (V c main_v6_0 : S8192x2816.Idx → EReal) (ix2 (rowB t.val t.isLt a) b) := by
  blk_simp [iblk3]
  rw [emb3_0]

theorem blk3_1 (t : Fin cfg3.N) (a : Fin 1024) (b : Fin 2816) :
    (iblk3 V c 1 t : Vec Ideal S1024x2816 .bf16) (ix2 a b) = (V c main_v0 : S1024x2816.Idx → EReal) (ix2 a b) := by
  blk_simp [iblk3]
  rw [emb3_1]

theorem emb4_0 (t : Fin cfg4.N) (a : Fin 1024) (b : Fin 2816) :
    (win4_0.blk t).view.emb (ix2 a b : S1024x2816.Idx) = (ix2 (rowB t.val t.isLt a) b : S8192x2816.Idx) := by
  funext q; match q with
    | ⟨0, _⟩ | ⟨1, _⟩ => apply Fin.ext; blk_simp [idx4 t]; try simp [rowA, rowB, colA]; try omega

theorem emb4_1 (t : Fin cfg4.N) (a : Fin 1024) (b : Fin 2816) :
    (win4_1.blk t).view.emb (ix2 a b : S1024x2816.Idx) = (ix2 a b : S1024x2816.Idx) := by
  funext q; match q with
    | ⟨0, _⟩ | ⟨1, _⟩ => apply Fin.ext; blk_simp [idx4 t]; try simp [rowA, rowB, colA]; try omega

theorem emb4_2 (t : Fin cfg4.N) (a : Fin 1024) (b : Fin 1024) :
    (win4_2.blk t).view.emb (ix2 a b : S1024x1024.Idx) = (ix2 (rowB t.val t.isLt a) b : S8192x1024.Idx) := by
  funext q; match q with
    | ⟨0, _⟩ | ⟨1, _⟩ => apply Fin.ext; blk_simp [idx4 t]; try simp [rowA, rowB, colA]; try omega

theorem emb4_3 (t : Fin cfg4.N) (a : Fin 1024) (b : Fin 1024) :
    (win4_3.blk t).view.emb (ix2 a b : S1024x1024.Idx) = (ix2 (rowB t.val t.isLt a) b : S8192x1024.Idx) := by
  funext q; match q with
    | ⟨0, _⟩ | ⟨1, _⟩ => apply Fin.ext; blk_simp [idx4 t]; try simp [rowA, rowB, colA]; try omega

theorem blk4_0 (t : Fin cfg4.N) (a : Fin 1024) (b : Fin 2816) :
    (iblk4 V c 0 t : Vec Ideal S1024x2816 .bf16) (ix2 a b) = (V c main_v6_1 : S8192x2816.Idx → EReal) (ix2 (rowB t.val t.isLt a) b) := by
  blk_simp [iblk4]
  rw [emb4_0]

theorem blk4_1 (t : Fin cfg4.N) (a : Fin 1024) (b : Fin 2816) :
    (iblk4 V c 1 t : Vec Ideal S1024x2816 .bf16) (ix2 a b) = (V c main_v1 : S1024x2816.Idx → EReal) (ix2 a b) := by
  blk_simp [iblk4]
  rw [emb4_1]

theorem blk4_2 (t : Fin cfg4.N) (a : Fin 1024) (b : Fin 1024) :
    (iblk4 V c 2 t : Vec Ideal S1024x1024 .f32) (ix2 a b) = (V c main_v7 : S8192x1024.Idx → EReal) (ix2 (rowB t.val t.isLt a) b) := by
  blk_simp [iblk4]
  rw [emb4_2]

theorem arr0_3 : ((dat0 V c).arrAt 3 cfg0.N : S8192x2816.Idx → EReal) = fun y => rc (M := 8192) (K := 1024) (N := 2816) (V c main_v3 : S8192x1024.Idx → EReal) (V c main_v0 : S1024x2816.Idx → EReal) y := by
  refine (dat0 V c).arrAt_eq_of_covers 3 (fun y => rc (M := 8192) (K := 1024) (N := 2816) (V c main_v3 : S8192x1024.Idx → EReal) (V c main_v0 : S1024x2816.Idx → EReal) y) (by decide +kernel) fun t _ y => ?_
  obtain ⟨a, b, rfl⟩ := idx2_self y
  blk_simp
  rw [after0_3, emb0_3]
  refine (o0_3 _ _ _ (ix2 a b)).trans ?_
  exact rc_blk (fun k => blk0_0 V c t _ _) (fun k => blk0_1 V c t _ _)

theorem arr0_4 : ((dat0 V c).arrAt 4 cfg0.N : S8192x2816.Idx → EReal) = fun y => rc (M := 8192) (K := 1024) (N := 2816) (V c main_v3 : S8192x1024.Idx → EReal) (V c main_v1 : S1024x2816.Idx → EReal) y := by
  refine (dat0 V c).arrAt_eq_of_covers 4 (fun y => rc (M := 8192) (K := 1024) (N := 2816) (V c main_v3 : S8192x1024.Idx → EReal) (V c main_v1 : S1024x2816.Idx → EReal) y) (by decide +kernel) fun t _ y => ?_
  obtain ⟨a, b, rfl⟩ := idx2_self y
  blk_simp
  rw [after0_4, emb0_4]
  refine (o0_4 _ _ _ (ix2 a b)).trans ?_
  exact rc_blk (fun k => blk0_0 V c t _ _) (fun k => blk0_2 V c t _ _)

theorem arr0_5 : ((dat0 V c).arrAt 5 cfg0.N : S8192x2816.Idx → EReal) = fun y => rc (M := 8192) (K := 1024) (N := 2816) (V c main_v3 : S8192x1024.Idx → EReal) (V c main_v0 : S1024x2816.Idx → EReal) y * sg (rc (M := 8192) (K := 1024) (N := 2816) (V c main_v3 : S8192x1024.Idx → EReal) (V c main_v0 : S1024x2816.Idx → EReal) y) * rc (M := 8192) (K := 1024) (N := 2816) (V c main_v3 : S8192x1024.Idx → EReal) (V c main_v1 : S1024x2816.Idx → EReal) y := by
  refine (dat0 V c).arrAt_eq_of_covers 5 (fun y => rc (M := 8192) (K := 1024) (N := 2816) (V c main_v3 : S8192x1024.Idx → EReal) (V c main_v0 : S1024x2816.Idx → EReal) y * sg (rc (M := 8192) (K := 1024) (N := 2816) (V c main_v3 : S8192x1024.Idx → EReal) (V c main_v0 : S1024x2816.Idx → EReal) y) * rc (M := 8192) (K := 1024) (N := 2816) (V c main_v3 : S8192x1024.Idx → EReal) (V c main_v1 : S1024x2816.Idx → EReal) y) (by decide +kernel) fun t _ y => ?_
  obtain ⟨a, b, rfl⟩ := idx2_self y
  blk_simp
  rw [after0_5, emb0_5]
  refine (o0_5 _ _ _ (ix2 a b)).trans ?_
  exact congrArg₂ (fun p q : EReal => p * sg p * q) (rc_blk (fun k => blk0_0 V c t _ _) (fun k => blk0_1 V c t _ _)) (rc_blk (fun k => blk0_0 V c t _ _) (fun k => blk0_2 V c t _ _))

theorem arr1_3 : ((dat1 V c).arrAt 3 cfg1.N : S8192x1024.Idx → EReal) = fun y => rc (M := 8192) (K := 2816) (N := 1024) (V c main_v4_2 : S8192x2816.Idx → EReal) (V c main_v2 : S2816x1024.Idx → EReal) y + (V c main_arg0 : S8192x1024.Idx → EReal) y := by
  refine (dat1 V c).arrAt_eq_of_covers 3 (fun y => rc (M := 8192) (K := 2816) (N := 1024) (V c main_v4_2 : S8192x2816.Idx → EReal) (V c main_v2 : S2816x1024.Idx → EReal) y + (V c main_arg0 : S8192x1024.Idx → EReal) y) (by decide +kernel) fun t _ y => ?_
  obtain ⟨a, b, rfl⟩ := idx2_self y
  blk_simp
  rw [after1_3, emb1_3]
  refine (o1_3 _ _ _ a b).trans ?_
  exact congrArg₂ (fun p q : EReal => p + q) (rc_blk (fun k => blk1_0 V c t _ _) (fun k => blk1_1 V c t _ _)) (blk1_2 V c t _ _)

theorem arr2_4 : ((dat2 V c).arrAt 4 cfg2.N : S8192x2816.Idx → EReal) = fun y => dGate (rr (M := 8192) (K := 1024) (N := 2816) (V c main_arg5 : S8192x1024.Idx → EReal) (V c main_v2 : S2816x1024.Idx → EReal) y) (((V c main_v4_0 : S8192x2816.Idx → EReal) y : EReal)) (((V c main_v4_1 : S8192x2816.Idx → EReal) y : EReal)) := by
  refine (dat2 V c).arrAt_eq_of_covers 4 (fun y => dGate (rr (M := 8192) (K := 1024) (N := 2816) (V c main_arg5 : S8192x1024.Idx → EReal) (V c main_v2 : S2816x1024.Idx → EReal) y) (((V c main_v4_0 : S8192x2816.Idx → EReal) y : EReal)) (((V c main_v4_1 : S8192x2816.Idx → EReal) y : EReal))) (by decide +kernel) fun t _ y => ?_
  obtain ⟨a, b, rfl⟩ := idx2_self y
  blk_simp
  rw [after2_4, emb2_4]
  refine (o2_4 _ _ _ _ (ix2 a b)).trans ?_
  exact (congrArg₂ (fun p q : EReal => dGate p q _) (rr_blk (fun k => blk2_0 V c t _ _) (fun k => blk2_1 V c t _ _)) (blk2_2 V c t _ _)).trans (congrArg (dGate _ _) (blk2_3 V c t _ _))

theorem arr2_5 : ((dat2 V c).arrAt 5 cfg2.N : S8192x2816.Idx → EReal) = fun y => dUp (rr (M := 8192) (K := 1024) (N := 2816) (V c main_arg5 : S8192x1024.Idx → EReal) (V c main_v2 : S2816x1024.Idx → EReal) y) (((V c main_v4_0 : S8192x2816.Idx → EReal) y : EReal)) := by
  refine (dat2 V c).arrAt_eq_of_covers 5 (fun y => dUp (rr (M := 8192) (K := 1024) (N := 2816) (V c main_arg5 : S8192x1024.Idx → EReal) (V c main_v2 : S2816x1024.Idx → EReal) y) (((V c main_v4_0 : S8192x2816.Idx → EReal) y : EReal))) (by decide +kernel) fun t _ y => ?_
  obtain ⟨a, b, rfl⟩ := idx2_self y
  blk_simp
  rw [after2_5, emb2_5]
  refine (o2_5 _ _ _ _ (ix2 a b)).trans ?_
  exact congrArg₂ dUp (rr_blk (fun k => blk2_0 V c t _ _) (fun k => blk2_1 V c t _ _)) (blk2_2 V c t _ _)

theorem arr3_2 : ((dat3 V c).arrAt 2 cfg3.N : S8192x1024.Idx → EReal) = fun y => rr (M := 8192) (K := 2816) (N := 1024) (V c main_v6_0 : S8192x2816.Idx → EReal) (V c main_v0 : S1024x2816.Idx → EReal) y := by
  refine (dat3 V c).arrAt_eq_of_covers 2 (fun y => rr (M := 8192) (K := 2816) (N := 1024) (V c main_v6_0 : S8192x2816.Idx → EReal) (V c main_v0 : S1024x2816.Idx → EReal) y) (by decide +kernel) fun t _ y => ?_
  obtain ⟨a, b, rfl⟩ := idx2_self y
  blk_simp
  rw [after3_2, emb3_2]
  refine (o3_2 _ _ a b).trans ?_
  exact rr_blk (fun k => blk3_0 V c t _ _) (fun k => blk3_1 V c t _ _)

theorem arr4_3 : ((dat4 V c).arrAt 3 cfg4.N : S8192x1024.Idx → EReal) = fun y => rr (M := 8192) (K := 2816) (N := 1024) (V c main_v6_1 : S8192x2816.Idx → EReal) (V c main_v1 : S1024x2816.Idx → EReal) y + (V c main_v7 : S8192x1024.Idx → EReal) y := by
  refine (dat4 V c).arrAt_eq_of_covers 3 (fun y => rr (M := 8192) (K := 2816) (N := 1024) (V c main_v6_1 : S8192x2816.Idx → EReal) (V c main_v1 : S1024x2816.Idx → EReal) y + (V c main_v7 : S8192x1024.Idx → EReal) y) (by decide +kernel) fun t _ y => ?_
  obtain ⟨a, b, rfl⟩ := idx2_self y
  blk_simp
  rw [after4_3, emb4_3]
  refine (o4_3 _ _ _ a b).trans ?_
  exact congrArg₂ (fun p q : EReal => p + q) (rr_blk (fun k => blk4_0 V c t _ _) (fun k => blk4_1 V c t _ _)) (blk4_2 V c t _ _)

end Cert.Kernel2Ideal.Val
-- ==== Proof.FeedPrep.lean ====
module

public import proofs.«01_k».proof.Proof.FeedArr
public import Idealize.ShloMosaic.Lib.StableHlo.RunRead

/-!
# The two results of the feed-forward kernels

The arrays are read through the program, call by call: the block's output is `feedOut` of the arguments and the gradient with respect
to its normalized input is `feedGrad`.
-/

@[expose] public section

set_option maxRecDepth 16384

namespace Cert.Kernel2Ideal.Val

open Idealize.ShloMosaic TcCoe Tactic
open Cert.Kernel2Ideal Cert.Kernel2Ideal.Gen

/-- The unit's value: gate, logistic of the gate, and input. -/
noncomputable def feedUnit (hf : S8192x1024.Idx → EReal) (wg wu : S1024x2816.Idx → EReal) : S8192x2816.Idx → EReal := fun y =>
  rc (M := 8192) (K := 1024) (N := 2816) hf wg y * sg (rc (M := 8192) (K := 1024) (N := 2816) hf wg y) * rc (M := 8192) (K := 1024) (N := 2816) hf wu y

/-- The block's output. -/
noncomputable def feedOut (x : S8192x1024.Idx → EReal) (hf : S8192x1024.Idx → EReal) (wg wu : S1024x2816.Idx → EReal) (wd : S2816x1024.Idx → EReal) :
    S8192x1024.Idx → EReal := fun y => rc (M := 8192) (K := 2816) (N := 1024) (feedUnit hf wg wu) wd y + x y

/-- The gradients with respect to the two products a unit is made of. -/
noncomputable def feedDGate (hf : S8192x1024.Idx → EReal) (wg wu : S1024x2816.Idx → EReal) (wd : S2816x1024.Idx → EReal) (ct : S8192x1024.Idx → EReal) :
    S8192x2816.Idx → EReal := fun y => dGate (rr (M := 8192) (K := 1024) (N := 2816) ct wd y) (rc (M := 8192) (K := 1024) (N := 2816) hf wg y) (rc (M := 8192) (K := 1024) (N := 2816) hf wu y)
noncomputable def feedDUp (hf : S8192x1024.Idx → EReal) (wg : S1024x2816.Idx → EReal) (wd : S2816x1024.Idx → EReal) (ct : S8192x1024.Idx → EReal) :
    S8192x2816.Idx → EReal := fun y => dUp (rr (M := 8192) (K := 1024) (N := 2816) ct wd y) (rc (M := 8192) (K := 1024) (N := 2816) hf wg y)

/-- The gradient with respect to the block's normalized input. -/
noncomputable def feedGrad (hf : S8192x1024.Idx → EReal) (wg wu : S1024x2816.Idx → EReal) (wd : S2816x1024.Idx → EReal) (ct : S8192x1024.Idx → EReal) :
    S8192x1024.Idx → EReal := fun y => rr (M := 8192) (K := 2816) (N := 1024) (feedDUp hf wg wd ct) wu y + rr (M := 8192) (K := 2816) (N := 1024) (feedDGate hf wg wu wd ct) wg y

variable (m : (ℓ : Loc nD τ sig) → Buf (Elt Ideal) ℓ) (ρ : Dev nD → PrngReg) (c : Dev nD)

/-- The arguments. -/
def aX : S8192x1024.Idx → EReal := m ((c : Thread nD τ).loc main_arg0)
def aH : S8192x1024.Idx → EReal := m ((c : Thread nD τ).loc main_arg1)
def aG : S1024x2816.Idx → EReal := m ((c : Thread nD τ).loc main_arg2)
def aU : S1024x2816.Idx → EReal := m ((c : Thread nD τ).loc main_arg3)
def aD : S2816x1024.Idx → EReal := m ((c : Thread nD τ).loc main_arg4)
def aC : S8192x1024.Idx → EReal := m ((c : Thread nD τ).loc main_arg5)

theorem V1_v0 : (V1 m ρ c main_v0 : S1024x2816.Idx → EReal) = aG m c := by
  show W1 m ρ c (Proc.devRef .tc main_v0) = _
  after_results_simp
  rfl

theorem V1_v1 : (V1 m ρ c main_v1 : S1024x2816.Idx → EReal) = aU m c := by
  show W1 m ρ c (Proc.devRef .tc main_v1) = _
  after_results_simp
  rfl

theorem V1_v2 : (V1 m ρ c main_v2 : S2816x1024.Idx → EReal) = aD m c := by
  show W1 m ρ c (Proc.devRef .tc main_v2) = _
  after_results_simp
  rfl

theorem V1_v3 : (V1 m ρ c main_v3 : S8192x1024.Idx → EReal) = aH m c := by
  show W1 m ρ c (Proc.devRef .tc main_v3) = _
  after_results_simp
  rfl

theorem V1_arg0 : (V1 m ρ c main_arg0 : S8192x1024.Idx → EReal) = aX m c := by
  show W1 m ρ c (Proc.devRef .tc main_arg0) = _
  after_results_simp
  rfl

theorem V1_arg5 : (V1 m ρ c main_arg5 : S8192x1024.Idx → EReal) = aC m c := by
  show W1 m ρ c (Proc.devRef .tc main_arg5) = _
  after_results_simp
  rfl

theorem V2_of (r : Ref sig .tc) (h : ∀ w : Fin cfg0.W, Pipeline.arrRef spec0 w = r → (cfg0.win w).isOut = false) : V2 m ρ c r = V1 m ρ c r := W2_of m ρ c r h
theorem V3_of (r : Ref sig .tc) (h : ∀ w : Fin cfg1.W, Pipeline.arrRef spec1 w = r → (cfg1.win w).isOut = false) : V3 m ρ c r = V2 m ρ c r := W3_of m ρ c r h
theorem V4_of (r : Ref sig .tc) (h : ∀ w : Fin cfg2.W, Pipeline.arrRef spec2 w = r → (cfg2.win w).isOut = false) : V4 m ρ c r = V3 m ρ c r := W4_of m ρ c r h
theorem V5_of (r : Ref sig .tc) (h : ∀ w : Fin cfg3.W, Pipeline.arrRef spec3 w = r → (cfg3.win w).isOut = false) : V5 m ρ c r = V4 m ρ c r := W5_of m ρ c r h

/-- After the first call. -/
theorem V2_g : (V2 m ρ c main_v4_0 : S8192x2816.Idx → EReal) = fun y => rc (M := 8192) (K := 1024) (N := 2816) (aH m c) (aG m c) y :=
  (W2_arr m ρ c 3).trans ((arr0_3 (V1 m ρ) c).trans (by rw [V1_v3, V1_v0]))

theorem V2_u : (V2 m ρ c main_v4_1 : S8192x2816.Idx → EReal) = fun y => rc (M := 8192) (K := 1024) (N := 2816) (aH m c) (aU m c) y :=
  (W2_arr m ρ c 4).trans ((arr0_4 (V1 m ρ) c).trans (by rw [V1_v3, V1_v1]))

theorem V2_h : (V2 m ρ c main_v4_2 : S8192x2816.Idx → EReal) = feedUnit (aH m c) (aG m c) (aU m c) :=
  (W2_arr m ρ c 5).trans ((arr0_5 (V1 m ρ) c).trans (by rw [V1_v3, V1_v0, V1_v1]; rfl))

theorem V2_v2 : (V2 m ρ c main_v2 : S2816x1024.Idx → EReal) = aD m c := (V2_of m ρ c main_v2 (by decide)).trans (V1_v2 m ρ c)
theorem V2_arg0 : (V2 m ρ c main_arg0 : S8192x1024.Idx → EReal) = aX m c := (V2_of m ρ c main_arg0 (by decide)).trans (V1_arg0 m ρ c)

/-- After the second. -/
theorem V3_out : (W3 m ρ c (Proc.devRef .tc main_v5) : S8192x1024.Idx → EReal) = feedOut (aX m c) (aH m c) (aG m c) (aU m c) (aD m c) :=
  (W3_arr m ρ c 3).trans ((arr1_3 (V2 m ρ) c).trans (by rw [V2_h, V2_v2, V2_arg0]; rfl))

theorem V3_g : (V3 m ρ c main_v4_0 : S8192x2816.Idx → EReal) = fun y => rc (M := 8192) (K := 1024) (N := 2816) (aH m c) (aG m c) y :=
  (V3_of m ρ c main_v4_0 (by decide)).trans (V2_g m ρ c)
theorem V3_u : (V3 m ρ c main_v4_1 : S8192x2816.Idx → EReal) = fun y => rc (M := 8192) (K := 1024) (N := 2816) (aH m c) (aU m c) y :=
  (V3_of m ρ c main_v4_1 (by decide)).trans (V2_u m ρ c)
theorem V3_v2 : (V3 m ρ c main_v2 : S2816x1024.Idx → EReal) = aD m c := (V3_of m ρ c main_v2 (by decide)).trans (V2_v2 m ρ c)
theorem V3_arg5 : (V3 m ρ c main_arg5 : S8192x1024.Idx → EReal) = aC m c :=
  (V3_of m ρ c main_arg5 (by decide)).trans ((V2_of m ρ c main_arg5 (by decide)).trans (V1_arg5 m ρ c))

/-- After the third. -/
theorem V4_dg : (V4 m ρ c main_v6_0 : S8192x2816.Idx → EReal) = feedDGate (aH m c) (aG m c) (aU m c) (aD m c) (aC m c) :=
  (W4_arr m ρ c 4).trans ((arr2_4 (V3 m ρ) c).trans (by rw [V3_arg5, V3_v2, V3_g, V3_u]; rfl))

theorem V4_du : (V4 m ρ c main_v6_1 : S8192x2816.Idx → EReal) = feedDUp (aH m c) (aG m c) (aD m c) (aC m c) :=
  (W4_arr m ρ c 5).trans ((arr2_5 (V3 m ρ) c).trans (by rw [V3_arg5, V3_v2, V3_g]; rfl))

theorem V4_v0 : (V4 m ρ c main_v0 : S1024x2816.Idx → EReal) = aG m c :=
  (V4_of m ρ c main_v0 (by decide)).trans ((V3_of m ρ c main_v0 (by decide)).trans ((V2_of m ρ c main_v0 (by decide)).trans (V1_v0 m ρ c)))

/-- After the fourth. -/
theorem V5_v7 : (V5 m ρ c main_v7 : S8192x1024.Idx → EReal) = fun y => rr (M := 8192) (K := 2816) (N := 1024) (feedDGate (aH m c) (aG m c) (aU m c) (aD m c) (aC m c)) (aG m c) y :=
  (W5_arr m ρ c 2).trans ((arr3_2 (V4 m ρ) c).trans (by rw [V4_dg, V4_v0]))

theorem V5_du : (V5 m ρ c main_v6_1 : S8192x2816.Idx → EReal) = feedDUp (aH m c) (aG m c) (aD m c) (aC m c) :=
  (V5_of m ρ c main_v6_1 (by decide)).trans (V4_du m ρ c)

theorem V5_v1 : (V5 m ρ c main_v1 : S1024x2816.Idx → EReal) = aU m c :=
  (V5_of m ρ c main_v1 (by decide)).trans ((V4_of m ρ c main_v1 (by decide)).trans ((V3_of m ρ c main_v1 (by decide)).trans ((V2_of m ρ c main_v1 (by decide)).trans (V1_v1 m ρ c))))

/-- After the fifth. -/
theorem W6_v8 : (W6 m ρ c (Proc.devRef .tc main_v8) : S8192x1024.Idx → EReal) = feedGrad (aH m c) (aG m c) (aU m c) (aD m c) (aC m c) :=
  (W6_arr m ρ c 3).trans ((arr4_3 (V5 m ρ) c).trans (by rw [V5_du, V5_v1, V5_v7]; rfl))

theorem W6_v5 : (W6 m ρ c (Proc.devRef .tc main_v5) : S8192x1024.Idx → EReal) = feedOut (aX m c) (aH m c) (aG m c) (aU m c) (aD m c) :=
  (W6_of m ρ c main_v5 (by decide)).trans ((W5_of m ρ c main_v5 (by decide)).trans ((W4_of m ρ c main_v5 (by decide)).trans (V3_out m ρ c)))

/-- The results. -/
theorem W7_v9 : (W7 m ρ c (Proc.devRef .tc main_v9) : S8192x1024.Idx → EReal) = feedGrad (aH m c) (aG m c) (aU m c) (aD m c) (aC m c) := by
  refine Eq.trans ?_ (W6_v8 m ρ c)
  after_results_simp
  rfl

theorem W7_v5 : (W7 m ρ c (Proc.devRef .tc main_v5) : S8192x1024.Idx → EReal) = feedOut (aX m c) (aH m c) (aG m c) (aU m c) (aD m c) := by
  refine Eq.trans ?_ (W6_v5 m ρ c)
  after_results_simp

end Cert.Kernel2Ideal.Val
-- ==== Proof.FeedRef.lean ====
module

public import proofs.«01_k».proof.Proof.FeedPrep
public import proofs.«01_k».proof.Proof.Math
public import proofs.«01_k».proof.Proof.Gen.Reference2Ideal.Read

/-!
# What the feed-forward reference computes

With the arguments holding real numbers every gate and every gradient is a real number, and the reference's elementwise formulas are
those of the kernels.
-/

@[expose] public section

set_option maxRecDepth 16384

namespace Cert.Reference2Ideal.Val

open Idealize.ShloMosaic TcCoe Tactic
open Cert.Reference2Ideal Cert.Reference2Ideal.Gen Cert.Reference2Ideal.Read Cert.Attn
open Cert.Kernel2Ideal.Val (rc rr sg dGate dUp feedUnit feedOut feedDGate feedDUp feedGrad)

theorem c1 : Ideal.ofBits .f32 0x3F800000#32 = (1 : EReal) := by
  simp [Ideal.ofBits, Ideal.ieee]
  rw [← EReal.coe_mul, ← EReal.coe_one]; norm_num

/-- The logistic of a real number is real. -/
theorem sg_real (g : ℝ) : sg (g : EReal) = ((1 / (1 + Real.exp (-g)) : ℝ) : EReal) := by
  unfold sg
  rw [zero_sub, ← EReal.coe_neg, Ideal.exp_coe, ← EReal.coe_one, ← EReal.coe_add, Ideal.div_coe (by positivity), ← EReal.coe_mul]
  congr 1; ring

theorem rc_real {M K N : ℕ} {x : (⟨2, ![M, K]⟩ : Shape).Idx → EReal} {w : (⟨2, ![K, N]⟩ : Shape).Idx → EReal}
    (hx : ∀ i, ∃ r : ℝ, x i = r) (hw : ∀ i, ∃ r : ℝ, w i = r) (y) : ∃ r : ℝ, rc x w y = r := by
  choose p hp using hx
  choose q hq using hw
  exact ⟨_, by unfold rc; simp only [hp, hq, ← EReal.coe_mul, ← coe_sum]; rfl⟩

theorem rr_real {M K N : ℕ} {x : (⟨2, ![M, K]⟩ : Shape).Idx → EReal} {w : (⟨2, ![N, K]⟩ : Shape).Idx → EReal}
    (hx : ∀ i, ∃ r : ℝ, x i = r) (hw : ∀ i, ∃ r : ℝ, w i = r) (y) : ∃ r : ℝ, rr x w y = r := by
  choose p hp using hx
  choose q hq using hw
  exact ⟨_, by unfold rr; simp only [hp, hq, ← EReal.coe_mul, ← coe_sum]; rfl⟩

/-- The reference's gradient of the gate is the kernel's. -/
theorem gate_eq {h g u : EReal} (hh : ∃ r : ℝ, h = r) (hg : ∃ r : ℝ, g = r) (hu : ∃ r : ℝ, u = r) :
    h * u * sg g + g * (h * u) * (sg g * (1 - sg g)) = dGate h g u := by
  obtain ⟨h, rfl⟩ := hh; obtain ⟨g, rfl⟩ := hg; obtain ⟨u, rfl⟩ := hu
  unfold dGate
  rw [sg_real]
  simp only [← EReal.coe_one, ← EReal.coe_mul, ← EReal.coe_sub, ← EReal.coe_add]
  congr 1; ring

variable {x : (⟨S8192x1024, .f32⟩ : BufTy).Contents (Elt Ideal)} {hf : (⟨S8192x1024, .f32⟩ : BufTy).Contents (Elt Ideal)} {wg wu : (⟨S1024x2816, .f32⟩ : BufTy).Contents (Elt Ideal)}
  {wd : (⟨S2816x1024, .f32⟩ : BufTy).Contents (Elt Ideal)} {ct : (⟨S8192x1024, .f32⟩ : BufTy).Contents (Elt Ideal)}

theorem idx_eq {a b : ℕ} {i j : (⟨2, ![a, b]⟩ : Shape).Idx} (h0 : (i 0).val = (j 0).val) (h1 : (i 1).val = (j 1).val) : i = j := by
  funext t; match t with
    | ⟨0, _⟩ => exact Fin.ext h0
    | ⟨1, _⟩ => exact Fin.ext h1

theorem r0 (y : S8192x2816.Idx) : val_main_v0 (F := Ideal) hf wg y = rc (M := 8192) (K := 1024) (N := 2816) hf wg y := by
  rw [val_main_v0_apply]
  exact Finset.sum_congr rfl fun k _ => congrArg₂ (· * ·) (congrArg hf (idx_eq rfl rfl)) (congrArg wg (idx_eq rfl rfl))

theorem r2 (y : S8192x2816.Idx) : val_main_v2 (F := Ideal) hf wu y = rc (M := 8192) (K := 1024) (N := 2816) hf wu y := by
  rw [val_main_v2_apply]
  exact Finset.sum_congr rfl fun k _ => congrArg₂ (· * ·) (congrArg hf (idx_eq rfl rfl)) (congrArg wu (idx_eq rfl rfl))

theorem r6 (y : S8192x2816.Idx) : val_main_v6 (F := Ideal) wd ct y = rr (M := 8192) (K := 1024) (N := 2816) ct wd y := by
  rw [val_main_v6_apply]
  exact Finset.sum_congr rfl fun k _ => congrArg₂ (· * ·) (congrArg ct (idx_eq rfl rfl)) (congrArg wd (idx_eq rfl rfl))

/-- The logistic of the gate. -/
theorem r1_2 (y : S8192x2816.Idx) : val_main_v1_2 (F := Ideal) hf wg y = sg (rc (M := 8192) (K := 1024) (N := 2816) hf wg y) := by
  have e : val_main_v1_2 (F := Ideal) hf wg y = Ideal.div (Ideal.ofBits .f32 0x3F800000#32) (Ideal.ofBits .f32 0x3F800000#32 + Ideal.exp (-(val_main_v0 (F := Ideal) hf wg y))) := rfl
  rw [e, r0, c1]
  unfold sg
  rw [zero_sub]

theorem r1_0 (y : S8192x2816.Idx) : val_main_v1_0 (F := Ideal) hf wg y
    = rc (M := 8192) (K := 1024) (N := 2816) hf wg y * sg (rc (M := 8192) (K := 1024) (N := 2816) hf wg y) :=
  (show val_main_v1_0 (F := Ideal) hf wg y = val_main_v0 (F := Ideal) hf wg y * val_main_v1_2 (F := Ideal) hf wg y from rfl).trans
    (congrArg₂ (fun p q : EReal => p * q) (r0 y) (r1_2 y))

theorem r1_1 (y : S8192x2816.Idx) : val_main_v1_1 (F := Ideal) hf wg y
    = sg (rc (M := 8192) (K := 1024) (N := 2816) hf wg y) * (1 - sg (rc (M := 8192) (K := 1024) (N := 2816) hf wg y)) := by
  have e : val_main_v1_1 (F := Ideal) hf wg y = val_main_v1_2 (F := Ideal) hf wg y * (Ideal.ofBits .f32 0x3F800000#32 - val_main_v1_2 (F := Ideal) hf wg y) := rfl
  rw [e, r1_2, c1]

theorem r3 (y : S8192x2816.Idx) : val_main_v3 (F := Ideal) hf wg wu y = feedUnit hf wg wu y :=
  (show val_main_v3 (F := Ideal) hf wg wu y = val_main_v1_0 (F := Ideal) hf wg y * val_main_v2 (F := Ideal) hf wu y from rfl).trans
    (congrArg₂ (fun p q : EReal => p * q) (r1_0 y) (r2 y))

/-- The block's output. -/
theorem r5 (y : S8192x1024.Idx) : val_main_v5 (F := Ideal) x hf wg wu wd y = feedOut x hf wg wu wd y := by
  have e : val_main_v5 (F := Ideal) x hf wg wu wd y = x y + val_main_v4 (F := Ideal) hf wg wu wd y := rfl
  rw [e, val_main_v4_apply, add_comm]
  unfold feedOut
  refine congrArg (fun p : EReal => p + x y) (Finset.sum_congr rfl fun k _ => congrArg₂ (· * ·) ((r3 _).trans (congrArg (feedUnit hf wg wu) (idx_eq rfl rfl))) (congrArg wd (idx_eq rfl rfl)))

theorem r7 (y : S8192x2816.Idx) : val_main_v7 (F := Ideal) hf wg wd ct y = feedDUp hf wg wd ct y := by
  have e : val_main_v7 (F := Ideal) hf wg wd ct y = val_main_v1_0 (F := Ideal) hf wg y * val_main_v6 (F := Ideal) wd ct y := rfl
  rw [e, r1_0, r6, mul_comm, ← mul_assoc]
  rfl

theorem r8 (y : S8192x2816.Idx) : val_main_v8 (F := Ideal) hf wu wd ct y
    = rr (M := 8192) (K := 1024) (N := 2816) ct wd y * rc (M := 8192) (K := 1024) (N := 2816) hf wu y :=
  (show val_main_v8 (F := Ideal) hf wu wd ct y = val_main_v6 (F := Ideal) wd ct y * val_main_v2 (F := Ideal) hf wu y from rfl).trans
    (congrArg₂ (fun p q : EReal => p * q) (r6 y) (r2 y))

variable (hhf : ∀ i, ∃ r : ℝ, (hf i : EReal) = r) (hwg : ∀ i, ∃ r : ℝ, (wg i : EReal) = r) (hwu : ∀ i, ∃ r : ℝ, (wu i : EReal) = r)
  (hwd : ∀ i, ∃ r : ℝ, (wd i : EReal) = r) (hct : ∀ i, ∃ r : ℝ, (ct i : EReal) = r)

include hhf hwg hwu hwd hct in
theorem r10 (y : S8192x2816.Idx) : val_main_v10 (F := Ideal) hf wg wu wd ct y = feedDGate hf wg wu wd ct y := by
  have e : val_main_v10 (F := Ideal) hf wg wu wd ct y = val_main_v8 (F := Ideal) hf wu wd ct y * val_main_v1_2 (F := Ideal) hf wg y
      + val_main_v0 (F := Ideal) hf wg y * val_main_v8 (F := Ideal) hf wu wd ct y * val_main_v1_1 (F := Ideal) hf wg y := rfl
  rw [e, r8, r1_2, r0, r1_1]
  exact gate_eq (rr_real hct hwd y) (rc_real hhf hwg y) (rc_real hhf hwu y)

include hhf hwg hwu hwd hct in
/-- The gradient with respect to the block's normalized input. -/
theorem r12 (y : S8192x1024.Idx) : val_main_v12 (F := Ideal) hf wg wu wd ct y = feedGrad hf wg wu wd ct y := by
  have e : val_main_v12 (F := Ideal) hf wg wu wd ct y = val_main_v9 (F := Ideal) hf wg wu wd ct y + val_main_v11 (F := Ideal) hf wg wu wd ct y := rfl
  rw [e, val_main_v9_apply, val_main_v11_apply]
  unfold feedGrad
  refine congrArg₂ (fun p q : EReal => p + q) (Finset.sum_congr rfl fun k _ => congrArg₂ (· * ·) ((r7 _).trans (congrArg (feedDUp hf wg wd ct) (idx_eq rfl rfl))) (congrArg wu (idx_eq rfl rfl)))
    (Finset.sum_congr rfl fun k _ => congrArg₂ (· * ·) ((r10 hhf hwg hwu hwd hct _).trans (congrArg (feedDGate hf wg wu wd ct) (idx_eq rfl rfl))) (congrArg wg (idx_eq rfl rfl)))

end Cert.Reference2Ideal.Val
-- ==== Proof.FeedMain.lean ====
module

public import proofs.«01_k».proof.Proof.FeedRef
public import proofs.«01_k».proof.Proof.Gen.Reference2Ideal.Run
public import proofs.«01_k».proof.Defs

/-!
# The run of the feed-forward kernels, and the two programs side by side
-/

@[expose] public section

set_option maxRecDepth 16384

noncomputable section

namespace Cert.Kernel2Ideal.Val

open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

section run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, and every buffer ends at what the segments leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end run

/-- A number whose magnitude is below infinity is real. -/
theorem finite_real {s : Shape} (x : s.Idx → EReal) (hb : (⟨0, ![]⟩ : Shape).BroadcastsInDim s (![] : Fin 0 → Fin s.rank))
    (h : cmpf (F := Ideal) (φ := .f32) .olt (Host.absf x) (broadcastInDim s ![] hb (constant (F := Ideal) ⟨0, ![]⟩ .f32 0x7F800000#32)) = fun _ => 1#1)
    (i : s.Idx) : ∃ r : ℝ, x i = (r : EReal) := by
  have ct : Ideal.ofBits .f32 0x7F800000#32 = (⊤ : EReal) := by simp [Ideal.ofBits, Ideal.ieee]
  have e : BitVec.ofBool (decide (max (x i) (-(x i)) < Ideal.ofBits .f32 0x7F800000#32)) = 1#1 := congrFun h i
  rw [ct] at e
  generalize x i = y at e
  induction y with
  | bot => simp at e
  | top => simp at e
  | coe r => exact ⟨r, rfl⟩

instance facts_finite2 : Cert.Pre_finite2.Facts where
  bcast_S_S8192x1024 := by decide
  bcast_S_S1024x2816 := by decide
  bcast_S_S2816x1024 := by decide

/-- The value claim. -/
theorem algebraic : Cert.algebraic_Kernel2Ideal_Reference2Ideal_pre_finite2 := by
  intro m g m' g' hpre hagree
  refine ⟨fun c => feedOut (aX m c) (aH m c) (aG m c) (aU m c) (aD m c), fun c => feedGrad (aH m c) (aG m c) (aU m c) (aD m c) (aC m c), ?_, ?_⟩
  · refine θ_run_mono (run_all m g) ?_
    intro r h c
    exact ⟨(h c _ (mem_uc main_v5 (by decide))).trans (W7_v5 m g c), (h c _ (mem_uc main_v9 (by decide))).trans (W7_v9 m g c),
      (h c _ (mem_uc main_arg0 (by decide))).trans (W7_main_arg0 m g c), (h c _ (mem_uc main_arg1 (by decide))).trans (W7_main_arg1 m g c),
      (h c _ (mem_uc main_arg2 (by decide))).trans (W7_main_arg2 m g c), (h c _ (mem_uc main_arg3 (by decide))).trans (W7_main_arg3 m g c),
      (h c _ (mem_uc main_arg4 (by decide))).trans (W7_main_arg4 m g c), (h c _ (mem_uc main_arg5 (by decide))).trans (W7_main_arg5 m g c)⟩
  · refine θ_run_mono (Cert.Reference2Ideal.Value.run m' g') ?_
    intro r h c
    obtain ⟨h0, h1, ha⟩ := h c
    obtain ⟨a0, a1, a2, a3, a4, a5⟩ := hagree c
    obtain ⟨p1, p2, p3, p4, p5⟩ := hpre c
    rw [Cert.Reference2Ideal.Read.val_main_v5_eq, a0, a1, a2, a3, a4] at h0
    rw [Cert.Reference2Ideal.Read.val_main_v12_eq, a1, a2, a3, a4, a5] at h1
    exact ⟨h0.trans (funext fun y => Cert.Reference2Ideal.Val.r5 y),
      h1.trans (funext fun y => Cert.Reference2Ideal.Val.r12 (finite_real (s := S8192x1024) _ _ p1) (finite_real (s := S1024x2816) _ _ p2) (finite_real (s := S1024x2816) _ _ p3)
        (finite_real (s := S2816x1024) _ _ p4) (finite_real (s := S8192x1024) _ _ p5) y), ha⟩

end Cert.Kernel2Ideal.Val
-- ==== Proof.XBwdMain.lean ====
module

public import proofs.«01_k».proof.Proof.XBwdRef
public import proofs.«01_k».proof.Proof.Sums
public import proofs.«01_k».proof.Proof.FeedMain
public import proofs.«01_k».proof.Proof.Gen.Reference20Ideal.Run
public import proofs.«01_k».proof.Defs

/-!
# The two programs of the cross attention's backward pass agree
-/

@[expose] public section

set_option maxRecDepth 16384

namespace Cert.Kernel20Ideal.Val

open Idealize.ShloMosaic TcCoe Tactic
open Idealize.ShloMosaic.Pipeline (Dat)
open Cert.Kernel20Ideal Cert.Kernel20Ideal.Gen Cert.Lin Cert.Feed

theorem lt0 (t : Fin cfg0.N) : t.val < 16 := t.isLt

theorem idx0 : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

variable (m : (ℓ : Loc nD τ sig) → Buf (Elt Ideal) ℓ) (ρ : Dev nD → PrngReg) (c : Dev nD)

/-- The queries, the keys and values, and the result's gradient, as the kernel finds them. -/
noncomputable def opA : S8192x512.Idx → EReal := V m c main_v0
noncomputable def opB : S256x1024.Idx → EReal := V m c main_v1
noncomputable def opG : S8192x512.Idx → EReal := V m c main_v2

/-- The array's row that a block's row is. -/
def rowA (n : ℕ) (hn : n < 16) (a : Fin 512) : Fin 8192 := ⟨512 * n + a.val, by omega⟩

theorem blkA (t : Fin cfg0.N) (a : Fin 512) : row (iblk m c 0 t : Vec Ideal S512x512 .bf16) a = row (opA m c) (rowA t.val (lt0 t) a) := by
  funext k
  refine Eq.trans (b := (V m c main_v0 : S8192x512.Idx → EReal) (((cfg0.win 0).blk t).view.emb (ix2 a k : S512x512.Idx))) ?_ (congrArg (V m c main_v0 : S8192x512.Idx → EReal) ?_)
  · unfold row; blk_simp [iblk]
  · funext b
    match b with
    | ⟨0, _⟩ => apply Fin.ext; blk_simp [idx0 t]; simp [rowA]; try omega
    | ⟨1, _⟩ => apply Fin.ext; blk_simp [idx0 t]; try simp; try omega

theorem blkG (t : Fin cfg0.N) (a : Fin 512) : row (iblk m c 1 t : Vec Ideal S512x512 .bf16) a = row (opG m c) (rowA t.val (lt0 t) a) := by
  funext k
  refine Eq.trans (b := (V m c main_v2 : S8192x512.Idx → EReal) (((cfg0.win 1).blk t).view.emb (ix2 a k : S512x512.Idx))) ?_ (congrArg (V m c main_v2 : S8192x512.Idx → EReal) ?_)
  · unfold row; blk_simp [iblk]
  · funext b
    match b with
    | ⟨0, _⟩ => apply Fin.ext; blk_simp [idx0 t]; simp [rowA]; try omega
    | ⟨1, _⟩ => apply Fin.ext; blk_simp [idx0 t]; try simp; try omega

theorem blkB (t : Fin cfg0.N) : (iblk m c 2 t : Vec Ideal S256x1024 .bf16) = opB m c := by
  funext y
  refine Eq.trans (b := (V m c main_v1 : S256x1024.Idx → EReal) (((cfg0.win 2).blk t).view.emb (y : S256x1024.Idx))) ?_ (congrArg (V m c main_v1 : S256x1024.Idx → EReal) ?_)
  · blk_simp [iblk]
  · funext b
    match b with
    | ⟨0, _⟩ | ⟨1, _⟩ => apply Fin.ext; blk_simp [idx0 t]; try simp; try omega

/-- The two results. -/
noncomputable def totQ : S8192x512.Idx → EReal := fun i => dq (row (opA m c) (i 0)) (row (opG m c) (i 0)) (opB m c) (i 1)

/-- What each row adds to an entry of the second. -/
noncomputable def terms (j : Fin 256) (t : Fin 1024) : Fin 8192 → EReal := fun r => term (row (opA m c) r) (row (opG m c) r) (opB m c) j t

noncomputable def totKV : S256x1024.Idx → EReal := fun i => ∑ r, terms m c (i 0) (i 1) r

/-- One more block of 512 terms. -/
theorem psum512 (f : Fin 8192 → EReal) (n : ℕ) (hn : n + 512 ≤ 8192) : psum f (n + 512) = psum f n + ∑ k : Fin 512, f ⟨n + k.val, by omega⟩ := by
  unfold psum
  rw [Finset.sum_range_add, Finset.sum_range (n := 512)]
  congr 1
  exact Finset.sum_congr rfl fun k _ => dif_pos _

/-- A grid point adds its 512 rows' terms. -/
theorem step (t : Fin cfg0.N) (o : S256x1024.Idx → EReal) (j : Fin 256) (d : Fin 1024) (ho : o (ix2 j d) = psum (terms m c j d) (512 * t.val)) :
    G4 (iblk m c 0 t : Vec Ideal S512x512 .bf16) (iblk m c 1 t : Vec Ideal S512x512 .bf16) (iblk m c 2 t : Vec Ideal S256x1024 .bf16) o (ix2 j d) = psum (terms m c j d) (512 * t.val + 512) := by
  have := lt0 t
  rw [psum512 _ _ (by omega), ← ho]
  refine congrArg (fun z : EReal => o (ix2 j d) + z) (Finset.sum_congr rfl fun a _ => ?_)
  rw [blkA m c t a, blkG m c t a, blkB m c t]
  rfl

theorem start_at (y : S256x1024.Idx) : (k0_pay2 (F := Ideal) y : EReal) = 0 := by
  pointwise [k0_pay2]

/-- What the running sums hold after each point. -/
theorem scr : ∀ (n : ℕ) (hn : n < cfg0.N) (j : Fin 256) (d : Fin 1024),
    ((outsAt0 m c n hn).2 : Vec Ideal S256x1024 .f32) (ix2 j d) = psum (terms m c j d) (512 * n + 512) := by
  intro n
  induction n with
  | zero =>
    intro hn j d
    refine (congrFun (congrArg Prod.snd (outsAt0_A m c ⟨0, hn⟩ rfl)) (ix2 j d : S256x1024.Idx)).trans ?_
    dsimp only
    rw [oA4]
    exact step m c ⟨0, hn⟩ _ j d (start_at _)
  | succ n ih =>
    intro hn j d
    have hN : n + 1 < 16 := hn
    have h0 : ¬ (n + 1) % 16 = 0 := by omega
    refine (congrFun (congrArg Prod.snd (outsAt0_B m c ⟨n + 1, hn⟩ h0)) (ix2 j d : S256x1024.Idx)).trans ?_
    dsimp only
    rw [oB4]
    exact step m c ⟨n + 1, hn⟩ _ j d (ih (Nat.lt_of_succ_lt hn) j d)

theorem arr3 : ((dats m 0 c).arrAt 3 cfg0.N : S8192x512.Idx → EReal) = totQ m c := by
  refine (dats m 0 c).arrAt_eq_of_covers 3 (totQ m c) (by decide +kernel) fun t hf y => ?_
  blk_simp
  rw [after0_3]
  obtain ⟨a, d, rfl⟩ := idx2_self y
  have h : ((outsAt0 m c t.val t.isLt).1 : Vec Ideal S512x512 .bf16) (ix2 a d)
      = G3 (iblk m c 0 t : Vec Ideal S512x512 .bf16) (iblk m c 1 t : Vec Ideal S512x512 .bf16) (iblk m c 2 t : Vec Ideal S256x1024 .bf16) (ix2 a d) := by
    by_cases h0 : t.val % 16 = 0
    · rw [outsAt0_A m c t h0]
      dsimp only
      rw [oA3]
    · rw [outsAt0_B m c t h0]
      dsimp only
      rw [oB3]
  refine h.trans ?_
  have e : (((cfg0.win 3).blk t).view.emb (ix2 a d : S512x512.Idx) : S8192x512.Idx) = ix2 (rowA t.val (lt0 t) a) d := by
    funext b
    match b with
    | ⟨0, _⟩ => apply Fin.ext; blk_simp [idx0 t]; simp [rowA]; try omega
    | ⟨1, _⟩ => apply Fin.ext; blk_simp [idx0 t]; try simp; try omega
  refine Eq.trans ?_ (congrArg (totQ m c) e.symm)
  show dq _ _ _ _ = dq _ _ _ _
  exact congr (congr (congrArg₂ dq (blkA m c t a) (blkG m c t a)) (blkB m c t)) rfl

theorem arr4 : ((dats m 0 c).arrAt 4 cfg0.N : S256x1024.Idx → EReal) = totKV m c := by
  refine (dats m 0 c).arrAt_eq_of_covers 4 (totKV m c) (by decide +kernel) fun t hf y => ?_
  have h15 : t.val % 16 = 15 := (flush0_4 t).mp hf
  have := lt0 t
  blk_simp
  rw [after0_4]
  obtain ⟨j, d, rfl⟩ := idx2_self y
  refine (scr m c t.val t.isLt j d).trans ?_
  have h8 : 512 * t.val + 512 = 8192 := by omega
  rw [h8, psum_full]
  have e : (((cfg0.win 4).blk t).view.emb (ix2 j d : S256x1024.Idx) : S256x1024.Idx) = ix2 j d := by
    funext b
    match b with
    | ⟨0, _⟩ | ⟨1, _⟩ => apply Fin.ext; blk_simp [idx0 t]; try simp; try omega
  exact (congrArg (totKV m c) e.symm)

theorem opA_eq : opA m c = (m ((c : Thread nD τ).loc main_arg0) : S8192x512.Idx → EReal) := by
  unfold opA
  show StableHlo.after hostOps0 (fun b => m (c, b)) (Proc.devRef .tc main_v0) = _
  after_results_simp
  rfl

theorem opB_eq : opB m c = (m ((c : Thread nD τ).loc main_arg1) : S256x1024.Idx → EReal) := by
  unfold opB
  show StableHlo.after hostOps0 (fun b => m (c, b)) (Proc.devRef .tc main_v1) = _
  after_results_simp
  rfl

theorem opG_eq : opG m c = (m ((c : Thread nD τ).loc main_arg2) : S8192x512.Idx → EReal) := by
  unfold opG
  show StableHlo.after hostOps0 (fun b => m (c, b)) (Proc.devRef .tc main_v2) = _
  after_results_simp
  rfl

instance facts_finite20 : Cert.Pre_finite20.Facts where
  bcast_S_S8192x512 := by decide
  bcast_S_S256x1024 := by decide

open Idealize.SL.Sem in
/-- The value claim. -/
theorem algebraic : Cert.algebraic_Kernel20Ideal_Reference20Ideal_pre_finite20 := by
  intro m g m' g' hpre hagree
  refine ⟨fun c => totQ m c, fun c => totKV m c, ?_, ?_⟩
  · exact (θ_run _ _ _).mono (fun r h c => ⟨(h c).1.trans (arr3 m c), (h c).2.1.trans (arr4 m c), (h c).2.2⟩) (Cert.Kernel20Ideal.Value.run_blocks m g)
  · refine (θ_run _ _ _).mono (fun r h c => ?_) (Cert.Reference20Ideal.Value.run m' g')
    obtain ⟨h0, h1, ha⟩ := h c
    obtain ⟨a0, a1, a2⟩ := hagree c
    obtain ⟨p0, p1, p2⟩ := hpre c
    have f0 := Cert.Kernel2Ideal.Val.finite_real (s := S8192x512) _ _ p0
    have f1 := Cert.Kernel2Ideal.Val.finite_real (s := S256x1024) _ _ p1
    have f2 := Cert.Kernel2Ideal.Val.finite_real (s := S8192x512) _ _ p2
    rw [Cert.Reference20Ideal.Read.val_main_v66_eq, a0, a1, a2] at h0
    rw [Cert.Reference20Ideal.Read.val_main_v67_eq, a0, a1, a2] at h1
    refine ⟨h0.trans (funext fun i => ?_), h1.trans (funext fun i => ?_), ha⟩
    · obtain ⟨r, n, rfl⟩ := idx2_self i
      refine (v66_at _ _ _ r n f0 f1 f2).trans ?_
      show _ = dq (row (opA m c) r) (row (opG m c) r) (opB m c) n
      rw [opA_eq, opB_eq, opG_eq]
    · obtain ⟨j, t, rfl⟩ := idx2_self i
      refine (v67_at _ _ _ j f0 f1 f2 t).trans ?_
      show _ = ∑ r, term (row (opA m c) r) (row (opG m c) r) (opB m c) j t
      rw [opA_eq, opB_eq, opG_eq]

end Cert.Kernel20Ideal.Val
-- ==== Proof.Gate.lean ====
module

public import proofs.«01_k».proof.Proof.Merge
public import proofs.«01_k».proof.Proof.XBwdMain
public import proofs.«01_k».proof.Proof.Gen.Kernel21Ideal.Value
public import proofs.«01_k».proof.Proof.Gen.Reference21Ideal.Run
public import proofs.«01_k».proof.Proof.Gen.Reference21Ideal.Read

/-!
# The gradient of the gates' biases

Each grid point adds what its 512 rows contribute to the gradient, one row of the result for each gate.
-/

@[expose] public section

set_option maxRecDepth 16384

namespace Cert.Kernel21Ideal.Val

open Idealize.ShloMosaic TcCoe Tactic
open Idealize.ShloMosaic.Pipeline (Dat)
open Cert.Kernel21Ideal Cert.Kernel21Ideal.Gen Cert.Lin
open Cert.Feed (psum psum_full)
open Cert.Kernel8Ideal.Val (gt)
open Cert.Kernel20Ideal.Val (each psum512 rowA)

/-- The gradient of a gate of which `z` is the logistic, `d` being the gradient of the merged entry and `p` the entry the gate multiplies. -/
noncomputable def slope (d p z : EReal) : EReal := d * p * z * (1 - z)

section pays

variable (x p d : Vec Ideal S512x1024 .bf16) (g w : Vec Ideal S1x1024 .f32) (u : Fin 1) (b : Fin 1024)

/-- A running sum after the point. -/
noncomputable def acc : EReal := (w (ix2 u b) : EReal) + ∑ a : Fin 512, slope (d (ix2 a b)) (p (ix2 a b)) (sg ((x (ix2 a b) : EReal) + g (ix2 0 b)))

theorem pay0 : k0_pay12 (F := Ideal) (k0_pay3 x g) (k0_pay5 d x g p) (Scalar.ofBits .f32 0x3F800000#32) w (ix2 u b : S1x1024.Idx) = acc x p d g w u b := by
  pointwise [k0_pay12, k0_pay6, k0_pay5, k0_pay3, k0_pay2]
  rfl

theorem pay1 : k0_pay13 (F := Ideal) (k0_pay2 d) (k0_pay4 x g) p w (ix2 u b : S1x1024.Idx) = acc x p d g w u b := by
  pointwise [k0_pay13, k0_pay7, k0_pay4, k0_pay2]
  rfl

end pays

/-- The one or the other, as the gate is the first or the second. -/
def sel {α : Type} (j : Fin 2) (p q : α) : α := if j = 0 then p else q

section blocks

variable (x0 x1 x2 x3 x4 : Vec Ideal S512x1024 .bf16) (x5 w : Vec Ideal S2x1024 .f32)

/-- What a row of the block adds to gate `j`'s bias at column `b`. -/
noncomputable def bt (j : Fin 2) (b : Fin 1024) (a : Fin 512) : EReal :=
  slope (x4 (ix2 a b)) (sel j (x2 (ix2 a b) : EReal) (x3 (ix2 a b))) (sg (sel j (x0 (ix2 a b) : EReal) (x1 (ix2 a b)) + x5 (ix2 j b)))

/-- The running sums after the block. -/
noncomputable def G (y : S2x1024.Idx) : EReal := (w y : EReal) + ∑ a : Fin 512, bt x0 x1 x2 x3 x4 x5 (y 0) (y 1) a

theorem emb_r (o : ℕ) (inb) (u : Fin 1) (b : Fin 1024) (ho : o < 2) :
    ((Rect.unit (s := S2x1024) ![o, 0] S1x1024.size inb).emb (ix2 u b : S1x1024.Idx) : S2x1024.Idx) = ix2 ⟨o, ho⟩ b :=
  idx_eq (by show o + 1 * u.val = o; omega) (by show 0 + 1 * b.val = b.val; omega)

theorem piece0 (i) (u : Fin 1) (b : Fin 1024) :
    acc x0 x2 x4 (View.ld x5 (Rect.unit (s := S2x1024) ![0, 0] S1x1024.size i)) (View.ld w (Rect.unit (s := S2x1024) ![0, 0] S1x1024.size i)) u b
      = G x0 x1 x2 x3 x4 x5 w ((Rect.unit (s := S2x1024) ![0, 0] S1x1024.size i).emb (ix2 u b : S1x1024.Idx)) := by
  refine Eq.trans ?_ (congrArg (G x0 x1 x2 x3 x4 x5 w) (emb_r 0 i u b (by omega)).symm)
  exact congrArg₂ (fun p q : EReal => p + q) (congrArg w (emb_r 0 i u b (by omega))) (Finset.sum_congr rfl fun a _ =>
    congrArg (fun t : EReal => slope (x4 (ix2 a b)) (x2 (ix2 a b)) (sg ((x0 (ix2 a b) : EReal) + t))) (congrArg x5 (emb_r 0 i 0 b (by omega))))

theorem piece1 (i) (u : Fin 1) (b : Fin 1024) :
    acc x1 x3 x4 (View.ld x5 (Rect.unit (s := S2x1024) ![1, 0] S1x1024.size i)) (View.ld w (Rect.unit (s := S2x1024) ![1, 0] S1x1024.size i)) u b
      = G x0 x1 x2 x3 x4 x5 w ((Rect.unit (s := S2x1024) ![1, 0] S1x1024.size i).emb (ix2 u b : S1x1024.Idx)) := by
  refine Eq.trans ?_ (congrArg (G x0 x1 x2 x3 x4 x5 w) (emb_r 1 i u b (by omega)).symm)
  exact congrArg₂ (fun p q : EReal => p + q) (congrArg w (emb_r 1 i u b (by omega))) (Finset.sum_congr rfl fun a _ =>
    congrArg (fun t : EReal => slope (x4 (ix2 a b)) (x3 (ix2 a b)) (sg ((x1 (ix2 a b) : EReal) + t))) (congrArg x5 (emb_r 1 i 0 b (by omega))))

variable (c : Dev nD) (i : grid0.Coords) (p1 : Memref sig .tc .vmem S512x1024 .bf16) (h1 : p1.IsWhole) (p2 : Memref sig .tc .vmem S512x1024 .bf16) (h2 : p2.IsWhole) (p3 : Memref sig .tc .vmem S512x1024 .bf16) (h3 : p3.IsWhole) (p4 : Memref sig .tc .vmem S512x1024 .bf16) (h4 : p4.IsWhole) (p5 : Memref sig .tc .vmem S512x1024 .bf16) (h5 : p5.IsWhole) (p6 : Memref sig .tc .vmem S2x1024 .f32) (h6 : p6.IsWhole) (p7 : Memref sig .tc .vmem S512x1024 .bf16) (h7 : p7.IsWhole) (p8 : Memref sig .tc .vmem S512x1024 .bf16) (h8 : p8.IsWhole) (p9 : Memref sig .tc .vmem S512x1024 .bf16) (h9 : p9.IsWhole) (p10 : Memref sig .tc .vmem S512x1024 .bf16) (h10 : p10.IsWhole) (p11 : Memref sig .tc .vmem S2x1024 .f32) (h11 : p11.IsWhole)

theorem oB (h0 : ¬cond0_0 i) (y) : out0_B_10 (F := Ideal) c i p1 h1 p2 h2 p3 h3 p4 h4 p5 h5 p6 h6 p7 h7 p8 h8 p9 h9 p10 h10 p11 h11 h0 x0 x1 x2 x3 x4 x5 w y = G x0 x1 x2 x3 x4 x5 w y := by
  unfold out0_B_10
  rw [View.read_writes_eq_canon _ _ _ (cover0_B_10 c i p1 h1 p2 h2 p3 h3 p4 h4 p5 h5 p6 h6 p7 h7 p8 h8 p9 h9 p10 h10 p11 h11 h0 x0 x1 x2 x3 x4 x5 w)]
  unfold kernelRun0_B
  dsimp only
  sl_unfold_words
  simp (disch := first | decide | rfl) only [↓View.readCov_skip, ↓View.readCov_fill, View.readAt_eq_ld, h1.read_unread, h2.read_unread, h3.read_unread, h4.read_unread, h5.read_unread, h6.read_unread, h11.read_unread, View.ld_unit_zero (S := S512x1024) hz]
  refine View.canon_append_of_piecesOf (Val := Elt Ideal) (e := .f32) (G x0 x1 x2 x3 x4 x5 w) [] [_, _] ⟨?_, ?_, trivial⟩ y (View.cover_of_tiled _ ![1, 1024] rfl y)
  · exact each fun u v => (pay1 _ _ _ _ _ u v).trans (piece1 x0 x1 x2 x3 x4 x5 w _ u v)
  · exact each fun u v => (pay0 _ _ _ _ _ u v).trans (piece0 x0 x1 x2 x3 x4 x5 w _ u v)

theorem oA (h0 : cond0_0 i) (y) : out0_A_10 (F := Ideal) c i p1 h1 p2 h2 p3 h3 p4 h4 p5 h5 p6 h6 p7 h7 p8 h8 p9 h9 p10 h10 p11 h11 h0 x0 x1 x2 x3 x4 x5 y = G x0 x1 x2 x3 x4 x5 (k0_pay1 (F := Ideal)) y := by
  unfold out0_A_10
  rw [View.read_writes_eq_canon _ _ _ (cover0_A_10 c i p1 h1 p2 h2 p3 h3 p4 h4 p5 h5 p6 h6 p7 h7 p8 h8 p9 h9 p10 h10 p11 h11 h0 x0 x1 x2 x3 x4 x5)]
  unfold kernelRun0_A
  dsimp only
  sl_unfold_words
  simp (disch := first | decide | rfl) only [↓View.readCov_skip, ↓View.readCov_fill, View.readAt_eq_ld, h1.read_unread, h2.read_unread, h3.read_unread, h4.read_unread, h5.read_unread, h6.read_unread, View.ld_unit_zero (S := S512x1024) hz]
  refine View.canon_append_of_piecesOf (Val := Elt Ideal) (e := .f32) (G x0 x1 x2 x3 x4 x5 (k0_pay1 (F := Ideal))) [_] [_, _] ⟨?_, ?_, trivial⟩ y (View.cover_of_tiled _ ![1, 1024] rfl y)
  · exact each fun u v => (pay1 _ _ _ _ _ u v).trans (piece1 x0 x1 x2 x3 x4 x5 _ _ u v)
  · exact each fun u v => (pay0 _ _ _ _ _ u v).trans (piece0 x0 x1 x2 x3 x4 x5 _ _ u v)

end blocks

theorem lt0 (t : Fin cfg0.N) : t.val < 16 := t.isLt

theorem idx0 : ∀ t : Fin cfg0.N, win0_0.index t = ![t.val, 0] ∧ win0_1.index t = ![t.val, 1] ∧ win0_2.index t = ![t.val, 0] ∧ win0_3.index t = ![t.val, 0] ∧ win0_4.index t = ![t.val, 0] ∧ win0_5.index t = ![0, 0] ∧ win0_10.index t = ![0, 0] :=
  (by decide +kernel : ∀ t : Fin grid0.N, _)

variable (m : (ℓ : Loc nD τ sig) → Buf (Elt Ideal) ℓ) (ρ : Dev nD → PrngReg) (c : Dev nD)

/-- The projections, the two mixers' projected outputs, the biases and the merged rows' gradient, as the kernel finds them. -/
noncomputable def oP : S8192x4096.Idx → EReal := V m c main_v0
noncomputable def oA' : S8192x1024.Idx → EReal := V m c main_v1
noncomputable def oB' : S8192x1024.Idx → EReal := V m c main_v2
noncomputable def oD : S8192x1024.Idx → EReal := V m c main_v3
noncomputable def oG : S2x1024.Idx → EReal := V m c main_arg3

/-- What row `r` adds to gate `j`'s bias at column `b`. -/
noncomputable def rt (P : S8192x4096.Idx → EReal) (A B D : S8192x1024.Idx → EReal) (g : S2x1024.Idx → EReal) (j : Fin 2) (b : Fin 1024) (r : Fin 8192) : EReal :=
  slope (D (ix2 r b)) (sel j (A (ix2 r b)) (B (ix2 r b))) (gt P g j r b)

noncomputable def terms (j : Fin 2) (b : Fin 1024) : Fin 8192 → EReal := rt (oP m c) (oA' m c) (oB' m c) (oD m c) (oG m c) j b

noncomputable def tot : S2x1024.Idx → EReal := fun i => ∑ r, terms m c (i 0) (i 1) r

theorem blkP (t : Fin cfg0.N) (a : Fin 512) (b : Fin 1024) : (iblk m c 0 t : Vec Ideal S512x1024 .bf16) (ix2 a b) = oP m c (ix2 (rowA t.val (lt0 t) a) ⟨b.val, by omega⟩) := by
  refine Eq.trans (b := (V m c main_v0 : S8192x4096.Idx → EReal) (((cfg0.win 0).blk t).view.emb (ix2 a b : S512x1024.Idx))) ?_ (congrArg (V m c main_v0 : S8192x4096.Idx → EReal) ?_)
  · blk_simp [iblk]
  · refine idx_eq ?_ ?_ <;> blk_simp [idx0 t] <;> try (simp [rowA]; try omega)

theorem blkQ (t : Fin cfg0.N) (a : Fin 512) (b : Fin 1024) : (iblk m c 1 t : Vec Ideal S512x1024 .bf16) (ix2 a b) = oP m c (ix2 (rowA t.val (lt0 t) a) ⟨1024 + b.val, by omega⟩) := by
  refine Eq.trans (b := (V m c main_v0 : S8192x4096.Idx → EReal) (((cfg0.win 1).blk t).view.emb (ix2 a b : S512x1024.Idx))) ?_ (congrArg (V m c main_v0 : S8192x4096.Idx → EReal) ?_)
  · blk_simp [iblk]
  · refine idx_eq ?_ ?_ <;> blk_simp [idx0 t] <;> try (simp [rowA]; try omega)

theorem blkA (t : Fin cfg0.N) (a : Fin 512) (b : Fin 1024) : (iblk m c 2 t : Vec Ideal S512x1024 .bf16) (ix2 a b) = oA' m c (ix2 (rowA t.val (lt0 t) a) b) := by
  refine Eq.trans (b := (V m c main_v1 : S8192x1024.Idx → EReal) (((cfg0.win 2).blk t).view.emb (ix2 a b : S512x1024.Idx))) ?_ (congrArg (V m c main_v1 : S8192x1024.Idx → EReal) ?_)
  · blk_simp [iblk]
  · refine idx_eq ?_ ?_ <;> blk_simp [idx0 t] <;> try (simp [rowA]; try omega)

theorem blkB (t : Fin cfg0.N) (a : Fin 512) (b : Fin 1024) : (iblk m c 3 t : Vec Ideal S512x1024 .bf16) (ix2 a b) = oB' m c (ix2 (rowA t.val (lt0 t) a) b) := by
  refine Eq.trans (b := (V m c main_v2 : S8192x1024.Idx → EReal) (((cfg0.win 3).blk t).view.emb (ix2 a b : S512x1024.Idx))) ?_ (congrArg (V m c main_v2 : S8192x1024.Idx → EReal) ?_)
  · blk_simp [iblk]
  · refine idx_eq ?_ ?_ <;> blk_simp [idx0 t] <;> try (simp [rowA]; try omega)

theorem blkD (t : Fin cfg0.N) (a : Fin 512) (b : Fin 1024) : (iblk m c 4 t : Vec Ideal S512x1024 .bf16) (ix2 a b) = oD m c (ix2 (rowA t.val (lt0 t) a) b) := by
  refine Eq.trans (b := (V m c main_v3 : S8192x1024.Idx → EReal) (((cfg0.win 4).blk t).view.emb (ix2 a b : S512x1024.Idx))) ?_ (congrArg (V m c main_v3 : S8192x1024.Idx → EReal) ?_)
  · blk_simp [iblk]
  · refine idx_eq ?_ ?_ <;> blk_simp [idx0 t] <;> try (simp [rowA]; try omega)

theorem blkG (t : Fin cfg0.N) (a : Fin 2) (b : Fin 1024) : (iblk m c 5 t : Vec Ideal S2x1024 .f32) (ix2 a b) = oG m c (ix2 a b) := by
  refine Eq.trans (b := (V m c main_arg3 : S2x1024.Idx → EReal) (((cfg0.win 5).blk t).view.emb (ix2 a b : S2x1024.Idx))) ?_ (congrArg (V m c main_arg3 : S2x1024.Idx → EReal) ?_)
  · blk_simp [iblk]
  · refine idx_eq ?_ ?_ <;> blk_simp [idx0 t] <;> try (simp [rowA]; try omega)

/-- A row of a block adds what the array's row adds. -/
theorem bt_eq (t : Fin cfg0.N) (j : Fin 2) (b : Fin 1024) (a : Fin 512) :
    bt (iblk m c 0 t) (iblk m c 1 t) (iblk m c 2 t) (iblk m c 3 t) (iblk m c 4 t) (iblk m c 5 t) j b a = terms m c j b (rowA t.val (lt0 t) a) := by
  unfold bt
  rw [blkP m c t a b, blkQ m c t a b, blkA m c t a b, blkB m c t a b, blkD m c t a b, blkG m c t j b]
  unfold terms rt gt
  obtain rfl | rfl : j = 0 ∨ j = 1 := by omega
  · have e : (ix2 (rowA t.val (lt0 t) a) ⟨1024 * (0 : Fin 2).val + b.val, by omega⟩ : S8192x4096.Idx) = ix2 (rowA t.val (lt0 t) a) ⟨b.val, by omega⟩ := idx_eq rfl (by simp)
    exact congrArg (fun z => slope (oD m c (ix2 (rowA t.val (lt0 t) a) b)) (oA' m c (ix2 (rowA t.val (lt0 t) a) b)) (sg (oP m c z + oG m c (ix2 0 b)))) e.symm
  · rfl

theorem step (t : Fin cfg0.N) (o : S2x1024.Idx → EReal) (j : Fin 2) (d : Fin 1024) (ho : o (ix2 j d) = psum (terms m c j d) (512 * t.val)) :
    G (iblk m c 0 t) (iblk m c 1 t) (iblk m c 2 t) (iblk m c 3 t) (iblk m c 4 t) (iblk m c 5 t) o (ix2 j d) = psum (terms m c j d) (512 * t.val + 512) := by
  have := lt0 t
  rw [psum512 _ _ (by omega), ← ho]
  exact congrArg (fun z : EReal => o (ix2 j d) + z) (Finset.sum_congr rfl fun a _ => bt_eq m c t j d a)

theorem start_at (y : S2x1024.Idx) : (k0_pay1 (F := Ideal) y : EReal) = 0 := by
  pointwise [k0_pay1]

/-- What the running sums hold after each point. -/
theorem scr : ∀ (n : ℕ) (hn : n < cfg0.N) (j : Fin 2) (d : Fin 1024),
    ((outsAt0 m c n hn).2.2.2.2 : Vec Ideal S2x1024 .f32) (ix2 j d) = psum (terms m c j d) (512 * n + 512) := by
  intro n
  induction n with
  | zero =>
    intro hn j d
    refine (congrFun (congrArg (fun p => p.2.2.2.2) (outsAt0_A m c ⟨0, hn⟩ rfl)) (ix2 j d : S2x1024.Idx)).trans ?_
    dsimp only
    rw [oA]
    exact step m c ⟨0, hn⟩ _ j d (start_at _)
  | succ n ih =>
    intro hn j d
    have hN : n + 1 < 16 := hn
    have h0 : ¬ (n + 1) % 16 = 0 := by omega
    refine (congrFun (congrArg (fun p => p.2.2.2.2) (outsAt0_B m c ⟨n + 1, hn⟩ h0)) (ix2 j d : S2x1024.Idx)).trans ?_
    dsimp only
    rw [oB]
    exact step m c ⟨n + 1, hn⟩ _ j d (ih (Nat.lt_of_succ_lt hn) j d)

theorem emb10 (t : Fin cfg0.N) (j : Fin 2) (d : Fin 1024) : (((cfg0.win 10).blk t).view.emb (ix2 j d : S2x1024.Idx) : S2x1024.Idx) = ix2 j d := by
  refine idx_eq ?_ ?_ <;> blk_simp [idx0 t] <;> try (simp; try omega)

theorem fin10 (t : Fin cfg0.N) (h15 : t.val % 16 = 15) (j : Fin 2) (d : Fin 1024) :
    ((outsAt0 m c t.val t.isLt).2.2.2.2 : Vec Ideal S2x1024 .f32) (ix2 j d) = tot m c (((cfg0.win 10).blk t).view.emb (ix2 j d : S2x1024.Idx) : S2x1024.Idx) := by
  rw [emb10, scr]
  have := lt0 t
  have h8 : 512 * t.val + 512 = 8192 := by omega
  rw [h8, psum_full]
  rfl

theorem arr10 : ((dats m 0 c).arrAt 10 cfg0.N : S2x1024.Idx → EReal) = tot m c := by
  refine (dats m 0 c).arrAt_eq_of_covers 10 (tot m c) (by decide +kernel) fun t hf y => ?_
  blk_simp
  rw [after0_10]
  obtain ⟨j, d, rfl⟩ := idx2_self y
  exact fin10 m c t ((flush0_10 t).mp hf) j d

theorem oP_eq : oP m c = (m ((c : Thread nD τ).loc main_arg0) : S8192x4096.Idx → EReal) := by
  unfold oP
  show StableHlo.after hostOps0 (fun b => m (c, b)) (Proc.devRef .tc main_v0) = _
  after_results_simp
  rfl

theorem oA'_eq : oA' m c = (m ((c : Thread nD τ).loc main_arg1) : S8192x1024.Idx → EReal) := by
  unfold oA'
  show StableHlo.after hostOps0 (fun b => m (c, b)) (Proc.devRef .tc main_v1) = _
  after_results_simp
  rfl

theorem oB'_eq : oB' m c = (m ((c : Thread nD τ).loc main_arg2) : S8192x1024.Idx → EReal) := by
  unfold oB'
  show StableHlo.after hostOps0 (fun b => m (c, b)) (Proc.devRef .tc main_v2) = _
  after_results_simp
  rfl

theorem oD_eq : oD m c = (m ((c : Thread nD τ).loc main_arg4) : S8192x1024.Idx → EReal) := by
  unfold oD
  show StableHlo.after hostOps0 (fun b => m (c, b)) (Proc.devRef .tc main_v3) = _
  after_results_simp
  rfl

theorem oG_eq : oG m c = (m ((c : Thread nD τ).loc main_arg3) : S2x1024.Idx → EReal) := V_main_arg3 m c

end Cert.Kernel21Ideal.Val
-- ==== Proof.GateMain.lean ====
module

public import proofs.«01_k».proof.Proof.Gate
public import proofs.«01_k».proof.Defs
public import Idealize.ShloMosaic.Lib.KernelVsHost

/-!
# The gradient of the gates' biases, side by side with the reference
-/

@[expose] public section

set_option maxRecDepth 16384

namespace Cert.Reference21Ideal.Val

open Idealize.ShloMosaic TcCoe Tactic
open Cert.Reference21Ideal Cert.Reference21Ideal.Gen Cert.Reference21Ideal.Read Cert.Lin
open Cert.Kernel8Ideal.Val (gt)
open Cert.Kernel21Ideal.Val (slope rt)

variable (x0 : (⟨S8192x4096, .f32⟩ : BufTy).Contents (Elt Ideal)) (x1 x2 x4 : (⟨S8192x1024, .f32⟩ : BufTy).Contents (Elt Ideal)) (x3 : (⟨S2x1024, .f32⟩ : BufTy).Contents (Elt Ideal))

theorem r12 (y : S8192x1024.Idx) : val_main_v12 (F := Ideal) x0 x3 y = gt x0 x3 0 (y 0) (y 1) := by
  have e : val_main_v12 (F := Ideal) x0 x3 y = Ideal.div (Ideal.ofBits .f32 0x3F800000#32) (Ideal.ofBits .f32 0x3F800000#32 + Ideal.exp (-(val_main_v6 (F := Ideal) x0 x3 y))) := rfl
  have e' : val_main_v6 (F := Ideal) x0 x3 y = x0 (ix2 (y 0) ⟨1024 * ((0 : Fin 2) : ℕ) + (y 1).val, Nat.lt_of_lt_of_le (Nat.add_lt_add_left (y 1).isLt _) (by decide)⟩) + x3 (ix2 0 (y 1)) := by
    rw [val_main_v6_apply, val_main_v0_apply, val_main_v5_apply, val_main_v4_apply, val_main_v3_apply, val_main_v2_apply]
    exact congrArg₂ (fun p q : EReal => p + q) (congrArg x0 (idx_eq (by first | rfl | (simp; done)) (by first | rfl | (simp; done) | (simp; omega)))) (congrArg x3 (idx_eq (by first | rfl | (simp; done)) (by first | rfl | (simp; done) | (simp; omega))))
  rw [e, e', c1]
  unfold gt sg
  rw [zero_sub]

theorem r27 (y : S8192x1024.Idx) : val_main_v27 (F := Ideal) x0 x3 y = gt x0 x3 1 (y 0) (y 1) := by
  have e : val_main_v27 (F := Ideal) x0 x3 y = Ideal.div (Ideal.ofBits .f32 0x3F800000#32) (Ideal.ofBits .f32 0x3F800000#32 + Ideal.exp (-(val_main_v21 (F := Ideal) x0 x3 y))) := rfl
  have e' : val_main_v21 (F := Ideal) x0 x3 y = x0 (ix2 (y 0) ⟨1024 * ((1 : Fin 2) : ℕ) + (y 1).val, Nat.lt_of_lt_of_le (Nat.add_lt_add_left (y 1).isLt _) (by decide)⟩) + x3 (ix2 1 (y 1)) := by
    rw [val_main_v21_apply, val_main_v1_apply, val_main_v20_apply, val_main_v19_apply, val_main_v18_apply, val_main_v17_apply]
    exact congrArg₂ (fun p q : EReal => p + q) (congrArg x0 (idx_eq (by first | rfl | (simp; done)) (by first | rfl | (simp; done) | (simp; omega)))) (congrArg x3 (idx_eq (by first | rfl | (simp; done)) (by first | rfl | (simp; done) | (simp; omega))))
  rw [e, e', c1]
  unfold gt sg
  rw [zero_sub]

theorem r36 (r : Fin 8192) (b : Fin 1024) : val_main_v36 (F := Ideal) x0 x2 x3 x4 (ix2 r b) = rt x0 x1 x2 x4 x3 1 b r := by
  have e : val_main_v36 (F := Ideal) x0 x2 x3 x4 (ix2 r b) = val_main_v34 (F := Ideal) x4 (ix2 r b) * x2 (ix2 r b) * (val_main_v27 (F := Ideal) x0 x3 (ix2 r b) * (Ideal.ofBits .f32 0x3F800000#32 - val_main_v27 (F := Ideal) x0 x3 (ix2 r b))) := rfl
  have e' : val_main_v34 (F := Ideal) x4 (ix2 r b) = x4 (ix2 r b) := by
    rw [val_main_v34_apply]
    exact congrArg x4 (idx_eq (by show (r.val * 1024 + b.val) / 1024 = r.val; omega) (by show (r.val * 1024 + b.val) % 1024 = b.val; omega))
  rw [e, e', r27, c1, ← mul_assoc]
  rfl

theorem r43 (r : Fin 8192) (b : Fin 1024) : val_main_v43 (F := Ideal) x0 x1 x3 x4 (ix2 r b) = rt x0 x1 x2 x4 x3 0 b r := by
  have e : val_main_v43 (F := Ideal) x0 x1 x3 x4 (ix2 r b) = val_main_v33 (F := Ideal) x4 (ix2 r b) * x1 (ix2 r b) * (val_main_v12 (F := Ideal) x0 x3 (ix2 r b) * (Ideal.ofBits .f32 0x3F800000#32 - val_main_v12 (F := Ideal) x0 x3 (ix2 r b))) := rfl
  have e' : val_main_v33 (F := Ideal) x4 (ix2 r b) = x4 (ix2 r b) := by
    rw [val_main_v33_apply]
    exact congrArg x4 (idx_eq (by show (r.val * 1024 + b.val) / 1024 = r.val; omega) (by show (r.val * 1024 + b.val) % 1024 = b.val; omega))
  rw [e, e', r12, c1, ← mul_assoc]
  rfl

theorem r40 (u : Fin 1) (b : Fin 1024) : val_main_v40 (F := Ideal) x0 x2 x3 x4 (ix2 u b) = ∑ r, rt x0 x1 x2 x4 x3 1 b r := by
  rw [val_main_v40_apply, val_main_v39_apply, Fin.sum_univ_one, val_main_v38_apply, val_main_v37_apply]
  show Ideal.ofBits .f32 0x00000000#32 + (Ideal.ofBits .f32 0x00000000#32 + _) = _
  rw [c0, zero_add, zero_add]
  exact Finset.sum_congr rfl fun r _ => (congrArg (val_main_v36 (F := Ideal) x0 x2 x3 x4) (show (idx_main_v37 (idx_main_v38 (idx_main_v39 (idx_main_v40 (ix2 u b)) 0)) r) = ix2 r b from idx_eq rfl (by first | rfl | (simp; done) | (simp; omega)))).trans (r36 x0 x1 x2 x4 x3 r b)

theorem r47 (u : Fin 1) (b : Fin 1024) : val_main_v47 (F := Ideal) x0 x1 x3 x4 (ix2 u b) = ∑ r, rt x0 x1 x2 x4 x3 0 b r := by
  rw [val_main_v47_apply, val_main_v46_apply, Fin.sum_univ_one, val_main_v45_apply, val_main_v44_apply]
  show Ideal.ofBits .f32 0x00000000#32 + (Ideal.ofBits .f32 0x00000000#32 + _) = _
  rw [c0, zero_add, zero_add]
  exact Finset.sum_congr rfl fun r _ => (congrArg (val_main_v43 (F := Ideal) x0 x1 x3 x4) (show (idx_main_v44 (idx_main_v45 (idx_main_v46 (idx_main_v47 (ix2 u b)) 0)) r) = ix2 r b from idx_eq rfl (by first | rfl | (simp; done) | (simp; omega)))).trans (r43 x0 x1 x2 x4 x3 r b)

theorem p41 (b : Fin 1024) : val_main_v41 (F := Ideal) x0 x2 x3 x4 (ix2 0 b) = Ideal.ofBits .f32 0x00000000#32 :=
  pad_apply_of_not_inside _ _ _ _ _ pads_S1x1024_S2x1024_100_000 h_S_ (ix2 0 b : S2x1024.Idx) (0 : Fin 2) (fun h => absurd h.1 (by show ¬ (1 ≤ 0); omega))

theorem p41' (b : Fin 1024) : val_main_v41 (F := Ideal) x0 x2 x3 x4 (ix2 1 b) = val_main_v40 (F := Ideal) x0 x2 x3 x4 (ix2 0 b) :=
  pad_apply_of_inside _ _ _ _ _ pads_S1x1024_S2x1024_100_000 h_S_ (ix2 1 b : S2x1024.Idx) (ix2 0 b : S1x1024.Idx) (fun a => match a with | ⟨0, _⟩ => rfl | ⟨1, _⟩ => by show b.val = 0 + b.val * (0 + 1); omega)

theorem p48 (b : Fin 1024) : val_main_v48 (F := Ideal) x0 x1 x3 x4 (ix2 0 b) = val_main_v47 (F := Ideal) x0 x1 x3 x4 (ix2 0 b) :=
  pad_apply_of_inside _ _ _ _ _ pads_S1x1024_S2x1024_010_000 h_S_ (ix2 0 b : S2x1024.Idx) (ix2 0 b : S1x1024.Idx) (fun a => match a with | ⟨0, _⟩ => rfl | ⟨1, _⟩ => by show b.val = 0 + b.val * (0 + 1); omega)

theorem p48' (b : Fin 1024) : val_main_v48 (F := Ideal) x0 x1 x3 x4 (ix2 1 b) = Ideal.ofBits .f32 0x00000000#32 :=
  pad_apply_of_not_inside _ _ _ _ _ pads_S1x1024_S2x1024_010_000 h_S_ (ix2 1 b : S2x1024.Idx) (0 : Fin 2) (fun h => absurd h.2.2 (by show ¬ ((1 - 0) / (0 + 1) < 1); omega))

theorem r49 (j : Fin 2) (b : Fin 1024) : val_main_v49 (F := Ideal) x0 x1 x2 x3 x4 (ix2 j b) = ∑ r, rt x0 x1 x2 x4 x3 j b r := by
  have e : val_main_v49 (F := Ideal) x0 x1 x2 x3 x4 (ix2 j b) = (val_main_v41 (F := Ideal) x0 x2 x3 x4 (ix2 j b) + val_main_v48 (F := Ideal) x0 x1 x3 x4 (ix2 j b) : EReal) := rfl
  rw [e]
  obtain rfl | rfl : j = 0 ∨ j = 1 := by omega
  · rw [p41, p48, r47 x0 x1 x2 x4 x3, c0, zero_add]
  · rw [p41', p48', r40 x0 x1 x2 x4 x3, c0, add_zero]

end Cert.Reference21Ideal.Val

namespace Cert.Kernel21Ideal.Val

open Idealize.ShloMosaic TcCoe Tactic
open Cert.Kernel21Ideal Cert.Kernel21Ideal.Gen

open Idealize.SL.Sem in
/-- The value claim. -/
theorem algebraic : Cert.algebraic_Kernel21Ideal_Reference21Ideal := by
  intro m g m' g' _ hagree
  refine ⟨fun c => tot m c, ?_, ?_⟩
  · exact (θ_run _ _ _).mono (fun r h c => ⟨(h c).2.2.2.2.1.trans (arr10 m c), (h c).2.2.2.2.2⟩) (Cert.Kernel21Ideal.Value.run_blocks m g)
  · refine (θ_run _ _ _).mono (fun r h c => ?_) (Cert.Reference21Ideal.Value.run m' g')
    obtain ⟨h0, ha⟩ := h c
    obtain ⟨a0, a1, a2, a3, a4⟩ := hagree c
    rw [Cert.Reference21Ideal.Read.val_main_v49_eq, a0, a1, a2, a3, a4] at h0
    refine ⟨h0.trans (funext fun i => ?_), ha⟩
    obtain ⟨j, b, rfl⟩ := Cert.Lin.idx2_self i
    refine (Cert.Reference21Ideal.Val.r49 _ _ _ _ _ j b).trans ?_
    show _ = ∑ r, rt (oP m c) (oA' m c) (oB' m c) (oD m c) (oG m c) j b r
    rw [oP_eq, oA'_eq, oB'_eq, oD_eq, oG_eq]

end Cert.Kernel21Ideal.Val
-- ==== Proof.DwMain2.lean ====
module

public import proofs.«01_k».proof.Proof.In6
public import proofs.«01_k».proof.Proof.Gen.Reference6Ideal.Run
public import proofs.«01_k».proof.Proof.Dw7
public import proofs.«01_k».proof.Proof.Gen.Reference7Ideal.Run
public import proofs.«01_k».proof.Proof.Dw9
public import proofs.«01_k».proof.Proof.Gen.Reference9Ideal.Run
public import proofs.«01_k».proof.Proof.Dw10
public import proofs.«01_k».proof.Proof.Gen.Reference10Ideal.Run
public import proofs.«01_k».proof.Proof.Dw11
public import proofs.«01_k».proof.Proof.Gen.Reference11Ideal.Run
public import proofs.«01_k».proof.Proof.Dw13
public import proofs.«01_k».proof.Proof.Gen.Reference13Ideal.Run
public import proofs.«01_k».proof.Proof.Dw14
public import proofs.«01_k».proof.Proof.Gen.Reference14Ideal.Run
public import proofs.«01_k».proof.Defs

/-!
# The projections' gradients, side by side with the reference
-/

@[expose] public section

set_option maxRecDepth 16384

namespace Cert.Kernel6Ideal.Val

open Idealize.ShloMosaic Idealize.ShloMosaic.TcCoe Idealize.SL.Sem
open Cert.Kernel6Ideal Cert.Kernel6Ideal.Gen

/-- The value claim. -/
theorem algebraic : Cert.algebraic_Kernel6Ideal_Reference6Ideal := by
  intro m g m' g' _ hagree
  refine ⟨fun c => total m c, ?_, ?_⟩
  · exact (θ_run _ _ _).mono (fun r h c => ⟨(h c).1.trans (arr m c), (h c).2⟩) (Cert.Kernel6Ideal.Value.run_blocks m g)
  · refine (θ_run _ _ _).mono (fun r h c => ?_) (Cert.Reference6Ideal.Value.run m' g')
    obtain ⟨h0, ha⟩ := h c
    obtain ⟨a0, a1⟩ := hagree c
    rw [Cert.Reference6Ideal.Read.val_main_v3_eq, a0, a1] at h0
    exact ⟨h0.trans (ref_total m c), ha⟩

end Cert.Kernel6Ideal.Val

namespace Cert.Kernel7Ideal.Val

open Idealize.ShloMosaic Idealize.ShloMosaic.TcCoe Idealize.SL.Sem
open Cert.Kernel7Ideal Cert.Kernel7Ideal.Gen

/-- The value claim. -/
theorem algebraic : Cert.algebraic_Kernel7Ideal_Reference7Ideal := by
  intro m g m' g' _ hagree
  refine ⟨fun c => total m c, ?_, ?_⟩
  · exact (θ_run _ _ _).mono (fun r h c => ⟨(h c).1.trans (arr m c), (h c).2⟩) (Cert.Kernel7Ideal.Value.run_blocks m g)
  · refine (θ_run _ _ _).mono (fun r h c => ?_) (Cert.Reference7Ideal.Value.run m' g')
    obtain ⟨h0, ha⟩ := h c
    obtain ⟨a0, a1⟩ := hagree c
    rw [Cert.Reference7Ideal.Read.val_main_v3_eq, a0, a1] at h0
    exact ⟨h0.trans (ref_total m c), ha⟩

end Cert.Kernel7Ideal.Val

namespace Cert.Kernel9Ideal.Val

open Idealize.ShloMosaic Idealize.ShloMosaic.TcCoe Idealize.SL.Sem
open Cert.Kernel9Ideal Cert.Kernel9Ideal.Gen

/-- The value claim. -/
theorem algebraic : Cert.algebraic_Kernel9Ideal_Reference9Ideal := by
  intro m g m' g' _ hagree
  refine ⟨fun c => total m c, ?_, ?_⟩
  · exact (θ_run _ _ _).mono (fun r h c => ⟨(h c).1.trans (arr m c), (h c).2⟩) (Cert.Kernel9Ideal.Value.run_blocks m g)
  · refine (θ_run _ _ _).mono (fun r h c => ?_) (Cert.Reference9Ideal.Value.run m' g')
    obtain ⟨h0, ha⟩ := h c
    obtain ⟨a0, a1⟩ := hagree c
    rw [Cert.Reference9Ideal.Read.val_main_v3_eq, a0, a1] at h0
    exact ⟨h0.trans (ref_total m c), ha⟩

end Cert.Kernel9Ideal.Val

namespace Cert.Kernel10Ideal.Val

open Idealize.ShloMosaic Idealize.ShloMosaic.TcCoe Idealize.SL.Sem
open Cert.Kernel10Ideal Cert.Kernel10Ideal.Gen

/-- The value claim. -/
theorem algebraic : Cert.algebraic_Kernel10Ideal_Reference10Ideal := by
  intro m g m' g' _ hagree
  refine ⟨fun c => total m c, ?_, ?_⟩
  · exact (θ_run _ _ _).mono (fun r h c => ⟨(h c).1.trans (arr m c), (h c).2⟩) (Cert.Kernel10Ideal.Value.run_blocks m g)
  · refine (θ_run _ _ _).mono (fun r h c => ?_) (Cert.Reference10Ideal.Value.run m' g')
    obtain ⟨h0, ha⟩ := h c
    obtain ⟨a0, a1⟩ := hagree c
    rw [Cert.Reference10Ideal.Read.val_main_v3_eq, a0, a1] at h0
    exact ⟨h0.trans (ref_total m c), ha⟩

end Cert.Kernel10Ideal.Val

namespace Cert.Kernel11Ideal.Val

open Idealize.ShloMosaic Idealize.ShloMosaic.TcCoe Idealize.SL.Sem
open Cert.Kernel11Ideal Cert.Kernel11Ideal.Gen

/-- The value claim. -/
theorem algebraic : Cert.algebraic_Kernel11Ideal_Reference11Ideal := by
  intro m g m' g' _ hagree
  refine ⟨fun c => total m c, ?_, ?_⟩
  · exact (θ_run _ _ _).mono (fun r h c => ⟨(h c).1.trans (arr m c), (h c).2⟩) (Cert.Kernel11Ideal.Value.run_blocks m g)
  · refine (θ_run _ _ _).mono (fun r h c => ?_) (Cert.Reference11Ideal.Value.run m' g')
    obtain ⟨h0, ha⟩ := h c
    obtain ⟨a0, a1⟩ := hagree c
    rw [Cert.Reference11Ideal.Read.val_main_v3_eq, a0, a1] at h0
    exact ⟨h0.trans (ref_total m c), ha⟩

end Cert.Kernel11Ideal.Val

namespace Cert.Kernel13Ideal.Val

open Idealize.ShloMosaic Idealize.ShloMosaic.TcCoe Idealize.SL.Sem
open Cert.Kernel13Ideal Cert.Kernel13Ideal.Gen

/-- The value claim. -/
theorem algebraic : Cert.algebraic_Kernel13Ideal_Reference13Ideal := by
  intro m g m' g' _ hagree
  refine ⟨fun c => total m c, ?_, ?_⟩
  · exact (θ_run _ _ _).mono (fun r h c => ⟨(h c).1.trans (arr m c), (h c).2⟩) (Cert.Kernel13Ideal.Value.run_blocks m g)
  · refine (θ_run _ _ _).mono (fun r h c => ?_) (Cert.Reference13Ideal.Value.run m' g')
    obtain ⟨h0, ha⟩ := h c
    obtain ⟨a0, a1⟩ := hagree c
    rw [Cert.Reference13Ideal.Read.val_main_v3_eq, a0, a1] at h0
    exact ⟨h0.trans (ref_total m c), ha⟩

end Cert.Kernel13Ideal.Val

namespace Cert.Kernel14Ideal.Val

open Idealize.ShloMosaic Idealize.ShloMosaic.TcCoe Idealize.SL.Sem
open Cert.Kernel14Ideal Cert.Kernel14Ideal.Gen

/-- The value claim. -/
theorem algebraic : Cert.algebraic_Kernel14Ideal_Reference14Ideal := by
  intro m g m' g' _ hagree
  refine ⟨fun c => total m c, ?_, ?_⟩
  · exact (θ_run _ _ _).mono (fun r h c => ⟨(h c).1.trans (arr m c), (h c).2⟩) (Cert.Kernel14Ideal.Value.run_blocks m g)
  · refine (θ_run _ _ _).mono (fun r h c => ?_) (Cert.Reference14Ideal.Value.run m' g')
    obtain ⟨h0, ha⟩ := h c
    obtain ⟨a0, a1⟩ := hagree c
    rw [Cert.Reference14Ideal.Read.val_main_v3_eq, a0, a1] at h0
    exact ⟨h0.trans (ref_total m c), ha⟩

end Cert.Kernel14Ideal.Val
-- ==== Proof.DwMain3.lean ====
module

public import proofs.«01_k».proof.Proof.In16
public import proofs.«01_k».proof.Proof.Gen.Reference16Ideal.Run
public import proofs.«01_k».proof.Proof.Dw17
public import proofs.«01_k».proof.Proof.Gen.Reference17Ideal.Run
public import proofs.«01_k».proof.Proof.Dw18
public import proofs.«01_k».proof.Proof.Gen.Reference18Ideal.Run
public import proofs.«01_k».proof.Defs

/-!
# The gradients of the latents and of their weights, side by side with the reference
-/

@[expose] public section

set_option maxRecDepth 16384

namespace Cert.Kernel16Ideal.Val

open Idealize.ShloMosaic Idealize.ShloMosaic.TcCoe Idealize.SL.Sem
open Cert.Kernel16Ideal Cert.Kernel16Ideal.Gen

/-- The value claim. -/
theorem algebraic : Cert.algebraic_Kernel16Ideal_Reference16Ideal := by
  intro m g m' g' _ hagree
  refine ⟨fun c => total m c, ?_, ?_⟩
  · exact (θ_run _ _ _).mono (fun r h c => ⟨(h c).1.trans (arr m c), (h c).2⟩) (Cert.Kernel16Ideal.Value.run_blocks m g)
  · refine (θ_run _ _ _).mono (fun r h c => ?_) (Cert.Reference16Ideal.Value.run m' g')
    obtain ⟨h0, ha⟩ := h c
    obtain ⟨a0, a1⟩ := hagree c
    rw [Cert.Reference16Ideal.Read.val_main_v2_eq, a0, a1] at h0
    exact ⟨h0.trans (ref_total m c), ha⟩

end Cert.Kernel16Ideal.Val

namespace Cert.Kernel17Ideal.Val

open Idealize.ShloMosaic Idealize.ShloMosaic.TcCoe Idealize.SL.Sem
open Cert.Kernel17Ideal Cert.Kernel17Ideal.Gen

/-- The value claim. -/
theorem algebraic : Cert.algebraic_Kernel17Ideal_Reference17Ideal := by
  intro m g m' g' _ hagree
  refine ⟨fun c => total m c, ?_, ?_⟩
  · exact (θ_run _ _ _).mono (fun r h c => ⟨(h c).1.trans (arr m c), (h c).2⟩) (Cert.Kernel17Ideal.Value.run_blocks m g)
  · refine (θ_run _ _ _).mono (fun r h c => ?_) (Cert.Reference17Ideal.Value.run m' g')
    obtain ⟨h0, ha⟩ := h c
    obtain ⟨a0, a1⟩ := hagree c
    rw [Cert.Reference17Ideal.Read.val_main_v3_eq, a0, a1] at h0
    exact ⟨h0.trans (ref_total m c), ha⟩

end Cert.Kernel17Ideal.Val

namespace Cert.Kernel18Ideal.Val

open Idealize.ShloMosaic Idealize.ShloMosaic.TcCoe Idealize.SL.Sem
open Cert.Kernel18Ideal Cert.Kernel18Ideal.Gen

/-- The value claim. -/
theorem algebraic : Cert.algebraic_Kernel18Ideal_Reference18Ideal := by
  intro m g m' g' _ hagree
  refine ⟨fun c => total m c, ?_, ?_⟩
  · exact (θ_run _ _ _).mono (fun r h c => ⟨(h c).1.trans (arr m c), (h c).2⟩) (Cert.Kernel18Ideal.Value.run_blocks m g)
  · refine (θ_run _ _ _).mono (fun r h c => ?_) (Cert.Reference18Ideal.Value.run m' g')
    obtain ⟨h0, ha⟩ := h c
    obtain ⟨a0, a1⟩ := hagree c
    rw [Cert.Reference18Ideal.Read.val_main_v3_eq, a0, a1] at h0
    exact ⟨h0.trans (ref_total m c), ha⟩

end Cert.Kernel18Ideal.Val
-- ==== Proof.FwdPays.lean ====
module

public import proofs.«01_k».proof.Proof.Gen.KernelIdeal.Loops
public import proofs.«01_k».proof.Proof.Math
public import Idealize.ShloMosaic.Lib.Pipeline.ValueKit
public import Idealize.ShloMosaic.Lib.WordCmp

/-!
# The forward kernel's arithmetic at an index

What each vector the forward kernel's body computes holds at an index, in terms of the vectors it is computed from.
-/

@[expose] public section

set_option maxRecDepth 16384

namespace Cert.KernelIdeal.Val

open Idealize.ShloMosaic Idealize.ShloMosaic.TcCoe Idealize.ShloMosaic.Tactic
open Cert.KernelIdeal.Gen Cert.Attn

/-! ## The values at an index -/

theorem pay32_at (q : FVec Ideal S1024x128 .bf16) (k : Vec Ideal S1024x128 .bf16) (y x : Fin 1024) :
    k0_pay32 (F := Ideal) q k (ix2 y x) = ∑ d : Fin 128, (q (ix2 y d) : EReal) * (k (ix2 x d) : EReal) := by
  pointwise [k0_pay32]

theorem pay33_at (q : FVec Ideal S1024x128 .bf16) (k : Vec Ideal S1024x128 .bf16) (m : FVec Ideal S1024x1 .f32) (y : Fin 1024) :
    k0_pay33 (F := Ideal) q m k (ix2 y 0)
      = max (m (ix2 y 0) : EReal) (Finset.univ.fold max ⊥ fun x : Fin 1024 => (k0_pay32 q k (ix2 y x) : EReal)) := by
  have hb : Ideal.ofBits .f32 0xFF800000#32 = ⊥ := by simp [Ideal.ofBits, Ideal.ieee]
  pointwise [k0_pay33]
  rw [hb]

theorem pay36_at (q : FVec Ideal S1024x128 .bf16) (k : Vec Ideal S1024x128 .bf16) (m l : FVec Ideal S1024x1 .f32) (y : Fin 1024) :
    k0_pay36 (F := Ideal) q m l k (ix2 y 0)
      = Ideal.exp2 ((m (ix2 y 0) : EReal) - k0_pay33 (F := Ideal) q m k (ix2 y 0)) * (l (ix2 y 0) : EReal)
        + ∑ x : Fin 1024, Ideal.exp2 ((k0_pay32 (F := Ideal) q k (ix2 y x) : EReal) - k0_pay33 (F := Ideal) q m k (ix2 y 0)) := by
  pointwise [k0_pay36, k0_pay35, k0_pay34]
  rfl

theorem pay37_at (q : FVec Ideal S1024x128 .bf16) (k v : Vec Ideal S1024x128 .bf16) (m : FVec Ideal S1024x1 .f32)
    (a : FVec Ideal S1024x128 .f32) (y : Fin 1024) (d : Fin 128) :
    k0_pay37 (F := Ideal) q m a k v (ix2 y d)
      = Ideal.exp2 ((m (ix2 y 0) : EReal) - k0_pay33 (F := Ideal) q m k (ix2 y 0)) * (a (ix2 y d) : EReal)
        + ∑ x : Fin 1024, Ideal.exp2 ((k0_pay32 (F := Ideal) q k (ix2 y x) : EReal) - k0_pay33 (F := Ideal) q m k (ix2 y 0))
            * (v (ix2 x d) : EReal) := by
  pointwise [k0_pay37, k0_pay35, k0_pay34]
  rfl

theorem pay44_at (q : FVec Ideal S1024x128 .bf16) (k : Vec Ideal S1024x128 .bf16) (y x : Fin 1024) :
    k0_pay44 (F := Ideal) q k (ix2 y x)
      = if x.val ≤ y.val then ∑ d : Fin 128, (q (ix2 y d) : EReal) * (k (ix2 x d) : EReal) else ⊥ := by
  have hm : Named.named (F := Ideal) (φ := .f32) κ "mask" 0xF149F2CA#32 = (⊥ : EReal) := IdealRules.named_const.ideal_named_scalar _ _ _ _ rfl
  pointwise [k0_pay44]
  rw [hm]
  have hx : IntOp.addi (BitVec.ofNat 32 x.val) 0#32 = BitVec.ofNat 32 x.val := by simp [IntOp.addi]
  simp only [ix2_0, ix2_1, hx]
  by_cases h : x.val ≤ y.val
  · rw [if_pos h, (WordCmp.cmpi_sle_ofNat_eq_one_iff (lt_of_lt_of_le x.isLt (by norm_num)) (lt_of_lt_of_le y.isLt (by norm_num))).2 h]; rfl
  · rw [if_neg h, (WordCmp.cmpi_sle_ofNat_eq_zero_iff (lt_of_lt_of_le x.isLt (by norm_num)) (lt_of_lt_of_le y.isLt (by norm_num))).2 (by omega)]; rfl

theorem pay45_at (q : FVec Ideal S1024x128 .bf16) (k : Vec Ideal S1024x128 .bf16) (m : FVec Ideal S1024x1 .f32) (y : Fin 1024) :
    k0_pay45 (F := Ideal) q m k (ix2 y 0)
      = max (m (ix2 y 0) : EReal) (Finset.univ.fold max ⊥ fun x : Fin 1024 => (k0_pay44 q k (ix2 y x) : EReal)) := by
  have hb : Ideal.ofBits .f32 0xFF800000#32 = ⊥ := by simp [Ideal.ofBits, Ideal.ieee]
  pointwise [k0_pay45]
  rw [hb]

theorem sum_at (q : FVec Ideal S1024x128 .bf16) (k : Vec Ideal S1024x128 .bf16) (m l : FVec Ideal S1024x1 .f32) (y : Fin 1024) :
    k0_pay1 (F := Ideal) (k0_pay48 q m l k) (k0_pay49 q m k) (ix2 y 0)
      = Ideal.exp2 ((m (ix2 y 0) : EReal) - k0_pay45 (F := Ideal) q m k (ix2 y 0)) * (l (ix2 y 0) : EReal)
        + ∑ x : Fin 1024, Ideal.exp2 ((k0_pay44 (F := Ideal) q k (ix2 y x) : EReal) - k0_pay45 (F := Ideal) q m k (ix2 y 0)) := by
  pointwise [k0_pay1, k0_pay48, k0_pay49, k0_pay47, k0_pay46]
  rfl

theorem pay2_at (a : FVec Ideal S1024x128 .f32) (q : FVec Ideal S1024x128 .bf16) (k v : Vec Ideal S1024x128 .bf16)
    (m l : FVec Ideal S1024x1 .f32) (b c : FVec Ideal S1024x1 .f32) (y : Fin 1024) (d : Fin 128) :
    k0_pay2 (F := Ideal) a (k0_pay46 q m k) (k0_pay47 q m k) b c v (ix2 y d)
      = Ideal.div (Ideal.exp2 ((m (ix2 y 0) : EReal) - k0_pay45 (F := Ideal) q m k (ix2 y 0)) * (a (ix2 y d) : EReal)
        + ∑ x : Fin 1024, Ideal.exp2 ((k0_pay44 (F := Ideal) q k (ix2 y x) : EReal) - k0_pay45 (F := Ideal) q m k (ix2 y 0))
            * (v (ix2 x d) : EReal)) (k0_pay1 (F := Ideal) b c (ix2 y 0)) := by
  pointwise [k0_pay2, k0_pay47, k0_pay46]
  rfl

theorem pay3_at (m b c : FVec Ideal S1024x1 .f32) (y : Fin 1024) :
    k0_pay3 (F := Ideal) m b c (ix3 0 y 0)
      = (m (ix2 y 0) : EReal) + Ideal.log (k0_pay1 (F := Ideal) b c (ix2 y 0)) * (((Real.log 2)⁻¹ : ℝ) : EReal) := by
  have hm : Named.named (F := Ideal) (φ := .f32) κ "log2e" 0x3FB8AA3B#32 = (((Real.log 2)⁻¹ : ℝ) : EReal) :=
    IdealRules.named_const.ideal_named_scalar _ _ _ _ rfl
  pointwise [k0_pay3]
  rw [hm]

end Cert.KernelIdeal.Val
-- ==== Proof.FwdRows.lean ====
module

public import proofs.«01_k».proof.Proof.FwdPays

/-!
# The forward kernel's arithmetic, row by row

What one tile of keys does to the three carried values (running maximum, running sum, running weighted sum) of
each of the 1024 query rows, and what the tile on the diagonal and the final division give.
-/

@[expose] public section

set_option maxRecDepth 16384

namespace Cert.KernelIdeal.Val

open Idealize.ShloMosaic Idealize.ShloMosaic.TcCoe Idealize.ShloMosaic.Tactic
open Cert.KernelIdeal.Gen Cert.Attn

/-- Row `x` of the tile of 1024 rows that starts at row `n`. -/
def col (n : ℕ) (h : n + 1024 ≤ 8192) (x : Fin 1024) : Fin 8192 := ⟨n + x.val, by omega⟩

theorem col_injective (n : ℕ) (h : n + 1024 ≤ 8192) : Function.Injective (col n h) := fun x y hxy => by
  have := congrArg Fin.val hxy
  simp only [col] at this
  exact Fin.ext (by omega)

/-- The tile's rows of a real array, as a block of the kernel holds them. -/
def TileAt (kv : Vec Ideal S1024x128 .bf16) (K : Fin 8192 → Fin 128 → ℝ) (n : ℕ) (h : n + 1024 ≤ 8192) : Prop :=
  ∀ x d, kv (ix2 x d) = ((K (col n h x) d : ℝ) : EReal)

/-- The columns before column `n`. -/
def below (n : ℕ) : Finset (Fin 8192) := Finset.univ.filter fun c => c.val < n

/-- The scores of one query row against every key row. -/
def score (Q K : Fin 8192 → Fin 128 → ℝ) (r c : Fin 8192) : ℝ := ∑ d, Q r d * K c d

/-- The three carried values, row by row. -/
def RepV (Q K V : Fin 8192 → Fin 128 → ℝ) (q0 : ℕ) (hq0 : q0 + 1024 ≤ 8192) (n : ℕ)
    (st : FVec Ideal S1024x1 .f32 × FVec Ideal S1024x1 .f32 × FVec Ideal S1024x128 .f32) : Prop :=
  ∀ y : Fin 1024, Rep (score Q K (col q0 hq0 y)) V (below n) (st.1 (ix2 y 0)) (st.2.1 (ix2 y 0)) (fun d => st.2.2 (ix2 y d))

/-- One tile's new carried values, from the query block `q`, the tile's keys `k` and its values `v`. -/
noncomputable def stepV (q : FVec Ideal S1024x128 .bf16) (k v : Vec Ideal S1024x128 .bf16)
    (st : FVec Ideal S1024x1 .f32 × FVec Ideal S1024x1 .f32 × FVec Ideal S1024x128 .f32) :
    FVec Ideal S1024x1 .f32 × FVec Ideal S1024x1 .f32 × FVec Ideal S1024x128 .f32 :=
  (k0_pay33 q st.1 k, k0_pay36 q st.1 st.2.1 k, k0_pay37 q st.1 st.2.2 k v)

/-- The scores of a tile, from blocks holding real rows. -/
theorem tile_score {Q K : Fin 8192 → Fin 128 → ℝ} {q k : Vec Ideal S1024x128 .bf16} {q0 n : ℕ} {hq0 : q0 + 1024 ≤ 8192}
    {hn : n + 1024 ≤ 8192} (hq : TileAt q Q q0 hq0) (hk : TileAt k K n hn) (y x : Fin 1024) :
    ∑ d : Fin 128, (q (ix2 y d) : EReal) * (k (ix2 x d) : EReal) = ((score Q K (col q0 hq0 y) (col n hn x) : ℝ) : EReal) := by
  rw [score, coe_sum]
  exact Finset.sum_congr rfl fun d _ => by rw [hq, hk, EReal.coe_mul]

theorem below_add (n : ℕ) (hn : n + 1024 ≤ 8192) :
    below (n + 1024) = below n ∪ (Finset.univ.filter fun _ : Fin 1024 => True).image (col n hn) := by
  ext c
  simp only [below, Finset.mem_filter, Finset.mem_univ, true_and, Finset.mem_union, Finset.mem_image, Finset.filter_true]
  constructor
  · intro h
    by_cases h' : c.val < n
    · exact Or.inl h'
    · exact Or.inr ⟨⟨c.val - n, by omega⟩, Fin.ext (by simp only [col]; omega)⟩
  · rintro (h | ⟨x, rfl⟩)
    · omega
    · simp only [col]; omega

/-- The columns up to and including the row's own, as those before the tile and the kept ones of the tile. -/
theorem upto_eq (q0 : ℕ) (hq0 : q0 + 1024 ≤ 8192) (y : Fin 1024) :
    (Finset.univ.filter fun c : Fin 8192 => c ≤ col q0 hq0 y)
      = below q0 ∪ (Finset.univ.filter fun x : Fin 1024 => x.val ≤ y.val).image (col q0 hq0) := by
  ext c
  simp only [below, Finset.mem_filter, Finset.mem_univ, true_and, Finset.mem_union, Finset.mem_image, Fin.le_def, col]
  constructor
  · intro h
    by_cases h' : c.val < q0
    · exact Or.inl h'
    · exact Or.inr ⟨⟨c.val - q0, by omega⟩, by show c.val - q0 ≤ y.val; omega, Fin.ext (by show q0 + (c.val - q0) = c.val; omega)⟩
  · rintro (h | ⟨x, hx, rfl⟩)
    · omega
    · show q0 + x.val ≤ q0 + y.val; omega

/-- One full tile. -/
theorem RepV.step {Q K V : Fin 8192 → Fin 128 → ℝ} {q0 : ℕ} {hq0 : q0 + 1024 ≤ 8192} {n : ℕ} (hn : n + 1024 ≤ 8192)
    {q k v : Vec Ideal S1024x128 .bf16} (hq : TileAt q Q q0 hq0) (hk : TileAt k K n hn) (hv : TileAt v V n hn)
    {st : FVec Ideal S1024x1 .f32 × FVec Ideal S1024x1 .f32 × FVec Ideal S1024x128 .f32} (h : RepV Q K V q0 hq0 n st) :
    RepV Q K V q0 hq0 (n + 1024) (stepV q k v st) := fun y => by
  refine (h y).step _ _ (col n hn) (col_injective n hn) (fun _ => True) 0 trivial ?_
    (fun x => (k0_pay32 (F := Ideal) q k (ix2 y x) : EReal)) ?_ _ (below_add n hn) _ ?_ _ ?_ _ ?_
  · intro x _ hx
    have := (Finset.mem_filter.1 hx).2
    simp only [col] at this
    omega
  · intro x
    rw [if_pos trivial, pay32_at]
    exact tile_score hq hk y x
  · exact pay33_at q k st.1 y
  · exact pay36_at q k st.1 st.2.1 y
  · intro d
    refine (pay37_at q k v st.1 st.2.2 y d).trans ?_
    congr 1
    exact Finset.sum_congr rfl fun x _ => by rw [hv]; rfl

/-- The diagonal tile: what the row's three values stand for after it. -/
theorem RepV.diag {Q K V : Fin 8192 → Fin 128 → ℝ} {q0 : ℕ} {hq0 : q0 + 1024 ≤ 8192}
    {q k v : Vec Ideal S1024x128 .bf16} (hq : TileAt q Q q0 hq0) (hk : TileAt k K q0 hq0) (hv : TileAt v V q0 hq0)
    {st : FVec Ideal S1024x1 .f32 × FVec Ideal S1024x1 .f32 × FVec Ideal S1024x128 .f32} (h : RepV Q K V q0 hq0 q0 st)
    (y : Fin 1024) :
    Rep (score Q K (col q0 hq0 y)) V (Finset.univ.filter fun c : Fin 8192 => c ≤ col q0 hq0 y)
      (k0_pay45 (F := Ideal) q st.1 k (ix2 y 0))
      (k0_pay1 (F := Ideal) (k0_pay48 q st.1 st.2.1 k) (k0_pay49 q st.1 k) (ix2 y 0))
      (fun d => Ideal.exp2 ((st.1 (ix2 y 0) : EReal) - k0_pay45 (F := Ideal) q st.1 k (ix2 y 0)) * (st.2.2 (ix2 y d) : EReal)
        + ∑ x : Fin 1024, Ideal.exp2 ((k0_pay44 (F := Ideal) q k (ix2 y x) : EReal) - k0_pay45 (F := Ideal) q st.1 k (ix2 y 0))
            * (v (ix2 x d) : EReal)) := by
  refine (h y).step _ _ (col q0 hq0) (col_injective q0 hq0) (fun x => x.val ≤ y.val) y le_rfl ?_
    (fun x => (k0_pay44 (F := Ideal) q k (ix2 y x) : EReal)) ?_ _ (upto_eq q0 hq0 y) _ ?_ _ ?_ _ ?_
  · intro x _ hx
    have := (Finset.mem_filter.1 hx).2
    simp only [col] at this
    omega
  · intro x
    rw [pay44_at]
    by_cases hxy : x.val ≤ y.val
    · rw [if_pos hxy, if_pos hxy]; exact tile_score hq hk y x
    · rw [if_neg hxy, if_neg hxy]
  · exact pay45_at q k st.1 y
  · exact sum_at q k st.1 st.2.1 y
  · intro d
    congr 1
    exact Finset.sum_congr rfl fun x _ => by rw [hv]

theorem upto_nonempty (r : Fin 8192) : (Finset.univ.filter fun c : Fin 8192 => c ≤ r).Nonempty :=
  ⟨r, Finset.mem_filter.2 ⟨Finset.mem_univ _, le_rfl⟩⟩

/-- The sum of the weights of a row. -/
noncomputable def wsum (Q K : Fin 8192 → Fin 128 → ℝ) (r : Fin 8192) : ℝ :=
  ∑ c ∈ Finset.univ.filter (fun c : Fin 8192 => c ≤ r), pw (score Q K r c)

/-- The attention's output at a row and a lane. -/
noncomputable def attO (Q K V : Fin 8192 → Fin 128 → ℝ) (r : Fin 8192) (d : Fin 128) : ℝ :=
  (∑ c ∈ Finset.univ.filter (fun c : Fin 8192 => c ≤ r), pw (score Q K r c) * V c d) / wsum Q K r

/-- The binary logarithm of the sum of the weights of a row. -/
noncomputable def attL (Q K : Fin 8192 → Fin 128 → ℝ) (r : Fin 8192) : ℝ := Real.log (wsum Q K r) * (Real.log 2)⁻¹

/-- The block of outputs a query block leaves. -/
theorem out_at {Q K V : Fin 8192 → Fin 128 → ℝ} {q0 : ℕ} {hq0 : q0 + 1024 ≤ 8192}
    {q k v : Vec Ideal S1024x128 .bf16} (hq : TileAt q Q q0 hq0) (hk : TileAt k K q0 hq0) (hv : TileAt v V q0 hq0)
    {st : FVec Ideal S1024x1 .f32 × FVec Ideal S1024x1 .f32 × FVec Ideal S1024x128 .f32} (h : RepV Q K V q0 hq0 q0 st)
    (y : Fin 1024) (d : Fin 128) :
    k0_pay2 (F := Ideal) st.2.2 (k0_pay46 q st.1 k) (k0_pay47 q st.1 k) (k0_pay48 q st.1 st.2.1 k) (k0_pay49 q st.1 k) v (ix2 y d)
      = ((attO Q K V (col q0 hq0 y) d : ℝ) : EReal) := by
  rw [pay2_at (l := st.2.1)]
  exact (RepV.diag hq hk hv h y).out (upto_nonempty _) d

/-- The block of logarithms a query block leaves. -/
theorem lse_at {Q K V : Fin 8192 → Fin 128 → ℝ} {q0 : ℕ} {hq0 : q0 + 1024 ≤ 8192}
    {q k v : Vec Ideal S1024x128 .bf16} (hq : TileAt q Q q0 hq0) (hk : TileAt k K q0 hq0) (hv : TileAt v V q0 hq0)
    {st : FVec Ideal S1024x1 .f32 × FVec Ideal S1024x1 .f32 × FVec Ideal S1024x128 .f32} (h : RepV Q K V q0 hq0 q0 st)
    (y : Fin 1024) :
    k0_pay3 (F := Ideal) (k0_pay45 q st.1 k) (k0_pay48 q st.1 st.2.1 k) (k0_pay49 q st.1 k) (ix3 0 y 0)
      = ((attL Q K (col q0 hq0 y) : ℝ) : EReal) := by
  rw [pay3_at]
  exact (RepV.diag hq hk hv h y).lse (upto_nonempty _)

end Cert.KernelIdeal.Val
-- ==== Proof.FwdBody.lean ====
module

public import proofs.«01_k».proof.Proof.Gen.KernelIdeal.Frame
public import proofs.«01_k».proof.Proof.FwdRows
public import Idealize.ShloMosaic.Lib.VecWindow
public import Idealize.ShloMosaic.Lib.WritesUnit

/-!
# What one grid point of the forward kernel leaves

The body of the forward kernel at the point of head `h` and query block `i`: its loops over the key tiles before the
diagonal, the diagonal tile, and the two blocks it stores.
-/

@[expose] public section

set_option maxRecDepth 16384

namespace Cert.KernelIdeal.Val

open Idealize.ShloMosaic Idealize.ShloMosaic.TcCoe Idealize.ShloMosaic.Tactic
open Cert.KernelIdeal.Gen Cert.Attn

/-! ## Loads -/

/-- A load of 1024 rows from row `n` on reads the contents at those rows. -/
theorem readAt_rows {e : EltTy} (a : Memref sig .tc .vmem S8192x128 e) (f : BufTy.Contents (Elt Ideal) a.view.ty) {off : Fin 2 → ℕ}
    (inb : ∀ b, off b + S1024x128.size b ≤ S8192x128.size b) {n : ℕ} (hoff : off = ![n, 0]) (hn : n + 1024 ≤ 8192) (x : Fin 1024) (d : Fin 128) :
    View.readAt (Elt Ideal) a.view (Rect.unit (s := S8192x128) off S1024x128.size inb).toLoadRect f (ix2 x d)
      = a.view.read (Elt Ideal) f (ix2 (col n hn x) d) := by
  subst hoff
  rw [View.readAt_apply]
  congr 1
  funext b
  apply Fin.ext
  rw [LoadRect.idx_apply]
  match b with
  | ⟨0, _⟩ => show n + 1 * x.val = n + x.val; omega
  | ⟨1, _⟩ => show 0 + 1 * d.val = d.val; omega

/-- The array's `1024` rows from row `n` on, as a load of them reads them. -/
theorem load_rows {a : Memref sig .tc .vmem S8192x128 .bf16} (ha : a.IsWhole) {X : Vec Ideal S8192x128 .bf16}
    {K : Fin 8192 → Fin 128 → ℝ} (hX : ∀ r d, X (ix2 r d) = ((K r d : ℝ) : EReal)) {off : Fin 2 → ℕ}
    (inb : ∀ b, off b + S1024x128.size b ≤ S8192x128.size b) {n : ℕ} (hoff : off = ![n, 0]) (hn : n + 1024 ≤ 8192) :
    TileAt (View.readAt (Elt Ideal) a.view (Rect.unit (s := S8192x128) off S1024x128.size inb).toLoadRect (ha.unread X)) K n hn :=
  fun x d => by rw [readAt_rows a _ inb hoff hn, ha.read_unread, hX]

/-- A block loaded whole is the block. -/
theorem load_block {e : EltTy} {a : Memref sig .tc .vmem S1024x128 e} (ha : a.IsWhole) (X : Vec Ideal S1024x128 e) :
    View.readAt (Elt Ideal) a.view (Rect.unit ![0, 0] S1024x128.size inb_S1024x128_S1024x128_0_0).toLoadRect (ha.unread X) = X := by
  funext j
  rw [View.readAt_apply, ha.read_unread]
  congr 1
  funext b
  apply Fin.ext
  rw [LoadRect.idx_apply]
  match b with
  | ⟨0, _⟩ => show 0 + 1 * (j 0).val = (j 0).val; omega
  | ⟨1, _⟩ => show 0 + 1 * (j 1).val = (j 1).val; omega

theorem pay24_eq (v : Vec Ideal S1024x128 .bf16) : k0_pay24 (F := Ideal) v = v := by
  unfold k0_pay24
  exact shapeCast_self _ _

/-! ## The loops' bounds and the places they load, at each grid point -/

theorem trips_t1 : ∀ t : Fin cfg0.N, (k0_t1_loop (grid0.coords t)).trips = t.val % 8 / 2 := by decide +kernel
theorem trips_t2 : ∀ t : Fin cfg0.N, (k0_t2_loop (grid0.coords t)).trips = 0 := by decide +kernel
theorem trips_t3 : ∀ t : Fin cfg0.N, (k0_t3_loop (grid0.coords t)).trips = t.val % 2 := by decide +kernel
theorem trips_t4 : ∀ t : Fin cfg0.N, (k0_t4_loop (grid0.coords t)).trips = 0 := by decide +kernel
theorem off1_eq : ∀ t : Fin cfg0.N, ∀ k : Fin (k0_t1_loop (grid0.coords t)).trips, k0_off1 (grid0.coords t) k = ![2048 * k.val, 0] := by
  decide +kernel
theorem off2_eq : ∀ t : Fin cfg0.N, ∀ k : Fin (k0_t1_loop (grid0.coords t)).trips, k0_off2 (grid0.coords t) k = ![2048 * k.val + 1024, 0] := by
  decide +kernel
theorem off5_eq : ∀ t : Fin cfg0.N, ∀ k : Fin (k0_t3_loop (grid0.coords t)).trips, k0_off5 (grid0.coords t) k = ![1024 * (t.val % 8 - 1), 0] := by
  decide +kernel
theorem off7_eq : ∀ t : Fin cfg0.N, k0_off7 (grid0.coords t) = ![1024 * (t.val % 8), 0] := by decide +kernel

section body

variable (c : Dev nD) (i : grid0.Coords) (arg2 : Memref sig .tc .vmem S1024x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S1024x128 .bf16) (harg5 : arg5.IsWhole) (arg6 : Memref sig .tc .vmem S1x1024x1 .f32) (harg6 : arg6.IsWhole)
  (x0 : Vec Ideal S1024x128 .bf16) (x1 : Vec Ideal S8192x128 .bf16) (x2 : Vec Ideal S8192x128 .bf16)

/-- The carried values of the loops. -/
abbrev Car : Type := FVec Ideal S1024x1 .f32 × FVec Ideal S1024x1 .f32 × FVec Ideal S1024x128 .f32

/-- The query block as the body loads it. -/
noncomputable abbrev ldQ : Vec Ideal S1024x128 .bf16 :=
  View.readAt (Elt Ideal) arg2.view (Rect.unit ![0, 0] S1024x128.size inb_S1024x128_S1024x128_0_0).toLoadRect (harg2.unread x0)

/-- A tile of 1024 rows of a whole array, loaded at `off`. -/
noncomputable abbrev ldT {e : EltTy} (a : Memref sig .tc .vmem S8192x128 e) (X : BufTy.Contents (Elt Ideal) a.view.ty) (off : Fin 2 → ℕ)
    (inb : ∀ b, off b + S1024x128.size b ≤ S8192x128.size b) : Vec Ideal S1024x128 e :=
  View.readAt (Elt Ideal) a.view (Rect.unit (s := S8192x128) off S1024x128.size inb).toLoadRect X

/-- One trip of the loop over pairs of tiles: two tiles. -/
theorem trip1_eq (v0 : Vec Ideal S1024x128 .bf16) (X3 : BufTy.Contents (Elt Ideal) arg3.view.ty) (X4 : BufTy.Contents (Elt Ideal) arg4.view.ty)
    (k : Fin (k0_t1_loop i).trips) (acc : Car) :
    (trip_k0_t1 (F := Ideal) Variants.none c none i arg2 harg2 arg3 harg3 arg4 harg4 arg5 harg5 arg6 harg6 v0 X3 X4 k).1 acc
      = stepV (k0_pay24 v0) (ldT arg3 X3 (k0_off2 i k) (k0_off2_inb i k)) (ldT arg4 X4 (k0_off2 i k) (k0_off2_inb i k))
          (stepV (k0_pay24 v0) (ldT arg3 X3 (k0_off1 i k) (k0_off1_inb i k)) (ldT arg4 X4 (k0_off1 i k) (k0_off1_inb i k)) acc) := by
  unfold trip_k0_t1
  rfl

/-- One trip of the loop over the tile left over: one tile. -/
theorem trip3_eq (a1 : BitVec 32) (v1 : FVec Ideal S1024x128 .bf16) (v5 : BitVec 32) (m0 l0 : FVec Ideal S1024x1 .f32)
    (a0 : FVec Ideal S1024x128 .f32) (c2 v30 v35 : BitVec 32) (v36 : BitVec 1)
    (X3 : BufTy.Contents (Elt Ideal) arg3.view.ty) (X4 : BufTy.Contents (Elt Ideal) arg4.view.ty) (k : Fin (k0_t3_loop i).trips) (acc : Car) :
    (trip_k0_t3 (F := Ideal) Variants.none c none i arg2 harg2 arg3 harg3 arg4 harg4 arg5 harg5 arg6 harg6 a1 v1 v5 m0 l0 a0 c2 v30 v35 v36
        X3 X4 k).1 acc
      = stepV v1 (ldT arg3 X3 (k0_off5 i k) (k0_off5_inb i k)) (ldT arg4 X4 (k0_off5 i k) (k0_off5_inb i k)) acc := by
  unfold trip_k0_t3
  rfl

/-- The carried values after the loop over pairs of tiles. -/
noncomputable def fst1 : Car := st_k0_t1 Variants.none c none i arg2 harg2 arg3 harg3 arg4 harg4 arg5 harg5 arg6 harg6 (ldQ arg2 harg2 x0)
  (harg3.unread x1) (harg4.unread x2) (k0_pay25, k0_pay26, k0_pay27) (k0_t1_loop i).trips

/-- … after the loop for the rounding-off of its trip count, which has none. -/
noncomputable def fst2 : Car := st_k0_t2 Variants.none c none i arg2 harg2 arg3 harg3 arg4 harg4 arg5 harg5 arg6 harg6 (ldQ arg2 harg2 x0)
  (kernelRun0_A.sl.v27 i) (harg3.unread x1) (harg4.unread x2) (fst1 c i arg2 harg2 arg3 harg3 arg4 harg4 arg5 harg5 arg6 harg6 x0 x1 x2)
  (k0_t2_loop i).trips

/-- … after the loop over the tile left over. -/
noncomputable def fst3 : Car :=
  let p := fst2 c i arg2 harg2 arg3 harg3 arg4 harg4 arg5 harg5 arg6 harg6 x0 x1 x2
  st_k0_t3 Variants.none c none i arg2 harg2 arg3 harg3 arg4 harg4 arg5 harg5 arg6 harg6 (BitVec.ofNat 32 ↑(i 1))
    (k0_pay24 (ldQ arg2 harg2 x0)) (kernelRun0_A.sl.v5 i) p.1 p.2.1 p.2.2 (2#32) (kernelRun0_A.sl.v30 i) (kernelRun0_A.sl.v35 i) (1#1)
    (harg3.unread x1) (harg4.unread x2) p (k0_t3_loop i).trips

/-- … and after the last one, which has no trips. -/
noncomputable def fst4 : Car :=
  let p := fst2 c i arg2 harg2 arg3 harg3 arg4 harg4 arg5 harg5 arg6 harg6 x0 x1 x2
  st_k0_t4 Variants.none c none i arg2 harg2 arg3 harg3 arg4 harg4 arg5 harg5 arg6 harg6 (BitVec.ofNat 32 ↑(i 1))
    (k0_pay24 (ldQ arg2 harg2 x0)) (kernelRun0_A.sl.v5 i) p.1 p.2.1 p.2.2 (2#32) (kernelRun0_A.sl.v30 i) (kernelRun0_A.sl.v35 i) (1#1)
    (harg3.unread x1) (harg4.unread x2) (fst3 c i arg2 harg2 arg3 harg3 arg4 harg4 arg5 harg5 arg6 harg6 x0 x1 x2) (k0_t4_loop i).trips

/-- The block of outputs, as the payload over the carried values. -/
theorem out3_eq : out0_A_3 c i arg2 harg2 arg3 harg3 arg4 harg4 arg5 harg5 arg6 harg6 x0 x1 x2 =
    let p := fst4 c i arg2 harg2 arg3 harg3 arg4 harg4 arg5 harg5 arg6 harg6 x0 x1 x2
    let q := k0_pay24 (F := Ideal) (ldQ arg2 harg2 x0)
    let k := ldT arg3 (harg3.unread x1) (k0_off7 i) (k0_off7_inb i)
    let v := ldT arg4 (harg4.unread x2) (k0_off7 i) (k0_off7_inb i)
    VO0_3.read (Elt Ideal) (VO0_3.writes (Elt Ideal) VO0_3.junk [⟨Rect.unit ![0, 0] ![1024, 128] inb_S1024x128_S1024x128_0_0,
      k0_pay2 (F := Ideal) p.2.2 (k0_pay46 q p.1 k) (k0_pay47 q p.1 k) (k0_pay48 q p.1 p.2.1 k) (k0_pay49 q p.1 k) v⟩]) := by
  unfold out0_A_3 kernelRun0_A
  rfl

/-- The block of logarithms, as the payload over the carried values. -/
theorem out4_eq : out0_A_4 c i arg2 harg2 arg3 harg3 arg4 harg4 arg5 harg5 arg6 harg6 x0 x1 x2 =
    let p := fst4 c i arg2 harg2 arg3 harg3 arg4 harg4 arg5 harg5 arg6 harg6 x0 x1 x2
    let q := k0_pay24 (F := Ideal) (ldQ arg2 harg2 x0)
    let k := ldT arg3 (harg3.unread x1) (k0_off7 i) (k0_off7_inb i)
    VO0_4.read (Elt Ideal) (VO0_4.writes (Elt Ideal) VO0_4.junk [⟨Rect.unit ![0, 0, 0] ![1, 1024, 1] inb_S1x1024x1_S1x1024x1_0_0_0,
      k0_pay3 (F := Ideal) (k0_pay45 q p.1 k) (k0_pay48 q p.1 p.2.1 k) (k0_pay49 q p.1 k)⟩]) := by
  unfold out0_A_4 kernelRun0_A
  rfl

end body

section point

variable (c : Dev nD) (t : Fin cfg0.N) (arg2 : Memref sig .tc .vmem S1024x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S1024x128 .bf16) (harg5 : arg5.IsWhole) (arg6 : Memref sig .tc .vmem S1x1024x1 .f32) (harg6 : arg6.IsWhole)
  {x0 : Vec Ideal S1024x128 .bf16} {x1 : Vec Ideal S8192x128 .bf16} {x2 : Vec Ideal S8192x128 .bf16}
  {Q K V : Fin 8192 → Fin 128 → ℝ}

theorem tile_bound (n : ℕ) : 1024 * (n % 8) + 1024 ≤ 8192 := by omega

variable (h0 : TileAt x0 Q (1024 * (t.val % 8)) (tile_bound t.val))
  (h1 : ∀ r d, x1 (ix2 r d) = ((K r d : ℝ) : EReal)) (h2 : ∀ r d, x2 (ix2 r d) = ((V r d : ℝ) : EReal))

theorem RepV.start (q0 : ℕ) (hq0 : q0 + 1024 ≤ 8192) : RepV Q K V q0 hq0 0 (k0_pay25, k0_pay26, k0_pay27) := fun y => by
  have hm : Named.named (F := Ideal) (φ := .f32) κ "mask" 0xF149F2CA#32 = (⊥ : EReal) := IdealRules.named_const.ideal_named_scalar _ _ _ _ rfl
  have hz : Ideal.ofBits .f32 0x00000000#32 = 0 := by simp [Ideal.ofBits, Ideal.ieee]
  refine Or.inl ⟨by simp [below], hm, hz, fun d => hz⟩

include h0 h1 h2

theorem fst1_rep (n : ℕ) (hn : n ≤ (k0_t1_loop (grid0.coords t)).trips) :
    RepV Q K V (1024 * (t.val % 8)) (tile_bound t.val) (2048 * n)
      (st_k0_t1 Variants.none c none (grid0.coords t) arg2 harg2 arg3 harg3 arg4 harg4 arg5 harg5 arg6 harg6 (ldQ arg2 harg2 x0)
        (harg3.unread x1) (harg4.unread x2) (k0_pay25, k0_pay26, k0_pay27) n) := by
  induction n with
  | zero => exact RepV.start _ _
  | succ n ih =>
    have hq : TileAt (k0_pay24 (F := Ideal) (ldQ arg2 harg2 x0)) Q (1024 * (t.val % 8)) (tile_bound t.val) := by
      rw [pay24_eq, ldQ, load_block]; exact h0
    have ht := trips_t1 t
    have hb1 : 2048 * n + 1024 ≤ 8192 := by omega
    have hb2 : 2048 * n + 1024 + 1024 ≤ 8192 := by omega
    rw [st_k0_t1_succ Variants.none c none (grid0.coords t) arg2 harg2 arg3 harg3 arg4 harg4 arg5 harg5 arg6 harg6 (ldQ arg2 harg2 x0)
        (harg3.unread x1) (harg4.unread x2) (k0_pay25, k0_pay26, k0_pay27) ⟨n, by omega⟩]
    rw [tripR_k0_t1, trip1_eq]
    exact ((ih (by omega)).step hb1 hq (load_rows harg3 h1 _ (off1_eq t ⟨n, by omega⟩) hb1) (load_rows harg4 h2 _ (off1_eq t ⟨n, by omega⟩) hb1)).step
      hb2 hq (load_rows harg3 h1 _ (off2_eq t ⟨n, by omega⟩) hb2) (load_rows harg4 h2 _ (off2_eq t ⟨n, by omega⟩) hb2)

/-- Before the diagonal tile the carried values stand for every earlier column. -/
theorem fst4_rep : RepV Q K V (1024 * (t.val % 8)) (tile_bound t.val) (1024 * (t.val % 8))
    (fst4 c (grid0.coords t) arg2 harg2 arg3 harg3 arg4 harg4 arg5 harg5 arg6 harg6 x0 x1 x2) := by
  have hq : TileAt (k0_pay24 (F := Ideal) (ldQ arg2 harg2 x0)) Q (1024 * (t.val % 8)) (tile_bound t.val) := by
    rw [pay24_eq, ldQ, load_block]; exact h0
  have e1 := fst1_rep c t arg2 harg2 arg3 harg3 arg4 harg4 arg5 harg5 arg6 harg6 h0 h1 h2 _ le_rfl
  have e2 : fst2 c (grid0.coords t) arg2 harg2 arg3 harg3 arg4 harg4 arg5 harg5 arg6 harg6 x0 x1 x2
      = fst1 c (grid0.coords t) arg2 harg2 arg3 harg3 arg4 harg4 arg5 harg5 arg6 harg6 x0 x1 x2 := by
    rw [fst2, trips_t2]; rfl
  have e4 : fst4 c (grid0.coords t) arg2 harg2 arg3 harg3 arg4 harg4 arg5 harg5 arg6 harg6 x0 x1 x2
      = fst3 c (grid0.coords t) arg2 harg2 arg3 harg3 arg4 harg4 arg5 harg5 arg6 harg6 x0 x1 x2 := by
    rw [fst4, trips_t4]; rfl
  rw [e4]
  have hb := tile_bound t.val
  rcases Nat.mod_two_eq_zero_or_one t.val with hp | hp
  · have e3 : fst3 c (grid0.coords t) arg2 harg2 arg3 harg3 arg4 harg4 arg5 harg5 arg6 harg6 x0 x1 x2
        = fst2 c (grid0.coords t) arg2 harg2 arg3 harg3 arg4 harg4 arg5 harg5 arg6 harg6 x0 x1 x2 := by
      rw [fst3, trips_t3, hp]; rfl
    have hn : 1024 * (t.val % 8) = 2048 * (k0_t1_loop (grid0.coords t)).trips := by rw [trips_t1]; omega
    rw [e3, e2]
    exact fun y => by
      have := e1 y
      rw [← hn] at this
      exact this
  · have hk : 0 < (k0_t3_loop (grid0.coords t)).trips := by rw [trips_t3]; omega
    have hn : 1024 * (t.val % 8) = 2048 * (k0_t1_loop (grid0.coords t)).trips + 1024 := by rw [trips_t1]; omega
    have hb1 : 2048 * (k0_t1_loop (grid0.coords t)).trips + 1024 ≤ 8192 := by rw [trips_t1]; omega
    have hoff : k0_off5 (grid0.coords t) ⟨0, hk⟩ = ![2048 * (k0_t1_loop (grid0.coords t)).trips, 0] := by
      rw [off5_eq t ⟨0, hk⟩, trips_t1]
      congr 1
      omega
    have h3 : (k0_t3_loop (grid0.coords t)).trips = 0 + 1 := by rw [trips_t3, hp]
    have e3 := st_k0_t3_succ (F := Ideal) Variants.none c none (grid0.coords t) arg2 harg2 arg3 harg3 arg4 harg4 arg5 harg5 arg6 harg6
      (BitVec.ofNat 32 ↑((grid0.coords t) 1)) (k0_pay24 (ldQ arg2 harg2 x0)) (kernelRun0_A.sl.v5 (grid0.coords t))
      (fst1 c (grid0.coords t) arg2 harg2 arg3 harg3 arg4 harg4 arg5 harg5 arg6 harg6 x0 x1 x2).1
      (fst1 c (grid0.coords t) arg2 harg2 arg3 harg3 arg4 harg4 arg5 harg5 arg6 harg6 x0 x1 x2).2.1
      (fst1 c (grid0.coords t) arg2 harg2 arg3 harg3 arg4 harg4 arg5 harg5 arg6 harg6 x0 x1 x2).2.2
      (2#32) (kernelRun0_A.sl.v30 (grid0.coords t)) (kernelRun0_A.sl.v35 (grid0.coords t)) (1#1)
      (harg3.unread x1) (harg4.unread x2) (fst1 c (grid0.coords t) arg2 harg2 arg3 harg3 arg4 harg4 arg5 harg5 arg6 harg6 x0 x1 x2) ⟨0, hk⟩
    rw [fst3, e2]
    dsimp only
    rw [h3]
    refine (congrArg (RepV Q K V (1024 * (t.val % 8)) (tile_bound t.val) (1024 * (t.val % 8))) e3).mpr ?_
    rw [tripR_k0_t3, trip3_eq]
    have := RepV.step (n := 2048 * (k0_t1_loop (grid0.coords t)).trips) hb1 hq
      (load_rows harg3 h1 (k0_off5_inb (grid0.coords t) ⟨0, hk⟩) hoff hb1)
      (load_rows harg4 h2 (k0_off5_inb (grid0.coords t) ⟨0, hk⟩) hoff hb1) e1
    rw [← hn] at this
    exact this

/-- The block of outputs the point leaves. -/
theorem out3_at (y : Fin 1024) (d : Fin 128) :
    out0_A_3 c (grid0.coords t) arg2 harg2 arg3 harg3 arg4 harg4 arg5 harg5 arg6 harg6 x0 x1 x2 (ix2 y d)
      = ((attO Q K V (col (1024 * (t.val % 8)) (tile_bound t.val) y) d : ℝ) : EReal) := by
  have hq : TileAt (k0_pay24 (F := Ideal) (ldQ arg2 harg2 x0)) Q (1024 * (t.val % 8)) (tile_bound t.val) := by
    rw [pay24_eq, ldQ, load_block]; exact h0
  rw [out3_eq]
  dsimp only
  rw [View.read_writes_full]
  exact out_at hq (load_rows harg3 h1 _ (off7_eq t) _) (load_rows harg4 h2 _ (off7_eq t) _)
    (fst4_rep c t arg2 harg2 arg3 harg3 arg4 harg4 arg5 harg5 arg6 harg6 h0 h1 h2) y d

/-- The block of logarithms the point leaves. -/
theorem out4_at (y : Fin 1024) :
    out0_A_4 c (grid0.coords t) arg2 harg2 arg3 harg3 arg4 harg4 arg5 harg5 arg6 harg6 x0 x1 x2 (ix3 0 y 0)
      = ((attL Q K (col (1024 * (t.val % 8)) (tile_bound t.val) y) : ℝ) : EReal) := by
  have hq : TileAt (k0_pay24 (F := Ideal) (ldQ arg2 harg2 x0)) Q (1024 * (t.val % 8)) (tile_bound t.val) := by
    rw [pay24_eq, ldQ, load_block]; exact h0
  rw [out4_eq]
  dsimp only
  rw [View.read_writes_full]
  exact lse_at hq (load_rows harg3 h1 _ (off7_eq t) _) (load_rows harg4 h2 (k0_off7_inb (grid0.coords t)) (off7_eq t) _)
    (fst4_rep c t arg2 harg2 arg3 harg3 arg4 harg4 arg5 harg5 arg6 harg6 h0 h1 h2) y

end point

end Cert.KernelIdeal.Val
-- ==== Proof.BwdRuns.lean ====
module

public import proofs.«01_k».proof.Proof.FwdBody

/-!
# The backward kernel's body over its loops

The three blocks one grid point of the backward kernel leaves, written over the state its loop over key tiles ends in.
-/

@[expose] public section

set_option maxRecDepth 16384

namespace Cert.KernelIdeal.Val

open Idealize.ShloMosaic Idealize.ShloMosaic.TcCoe Idealize.ShloMosaic.Tactic
open Cert.KernelIdeal.Gen

/-- A block of 1024 rows, loaded whole. -/
noncomputable abbrev ldB (a : Memref sig .tc .vmem S1024x128 .bf16) (ha : a.IsWhole) (x : Vec Ideal S1024x128 .bf16) : Vec Ideal S1024x128 .bf16 :=
  View.readAt (Elt Ideal) a.view (Rect.unit ![0, 0] S1024x128.size inb_S1024x128_S1024x128_0_0).toLoadRect (ha.unread x)

/-- The block of logarithms, loaded whole. -/
noncomputable abbrev ldL (a : Memref sig .tc .vmem S1x1024x1 .f32) (ha : a.IsWhole) (x : Vec Ideal S1x1024x1 .f32) : Vec Ideal S1x1024x1 .f32 :=
  View.readAt (Elt Ideal) a.view (Rect.unit ![0, 0, 0] S1x1024x1.size inb_S1x1024x1_S1x1024x1_0_0_0).toLoadRect (ha.unread x)

section body

variable (c : Dev nD) (i : grid1.Coords) (arg2 : Memref sig .tc .vmem S1024x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S1024x128 .bf16) (harg5 : arg5.IsWhole) (arg6 : Memref sig .tc .vmem S1024x128 .bf16) (harg6 : arg6.IsWhole)
  (arg7 : Memref sig .tc .vmem S1x1024x1 .f32) (harg7 : arg7.IsWhole) (arg8 : Memref sig .tc .vmem S1024x128 .f32) (harg8 : arg8.IsWhole)
  (arg9 : Memref sig .tc .vmem S8192x128 .f32) (harg9 : arg9.IsWhole) (arg10 : Memref sig .tc .vmem S8192x128 .f32) (harg10 : arg10.IsWhole)
  (x0 : Vec Ideal S1024x128 .bf16) (x1 x2 : Vec Ideal S8192x128 .bf16) (x3 x4 : Vec Ideal S1024x128 .bf16) (x5 : Vec Ideal S1x1024x1 .f32)

/-- The state of the loop over the tiles before the diagonal, after its last trip, from the contents `G9`, `G10`. -/
noncomputable def bs1 (G9 : BufTy.Contents (Elt Ideal) arg9.view.ty) (G10 : BufTy.Contents (Elt Ideal) arg10.view.ty) :
    FVec Ideal S1024x128 .f32 × List (View.Piece (Elt Ideal) S8192x128 .f32) × List (View.Piece (Elt Ideal) S8192x128 .f32) :=
  st_k1_t1 Variants.none c none i arg2 harg2 arg3 harg3 arg4 harg4 arg5 harg5 arg6 harg6 arg7 harg7 arg8 harg8 arg9 harg9 arg10 harg10
    (ldB arg2 harg2 x0) (ldB arg6 harg6 x4) (ldL arg7 harg7 x5) (ldB arg5 harg5 x3) (harg3.unread x1) (harg4.unread x2) G9 G10
    k1_pay12 (k1_t1_loop i).trips

/-- The state of the loop for the rounding-off of its trip count. -/
noncomputable def bs2 (G9 : BufTy.Contents (Elt Ideal) arg9.view.ty) (G10 : BufTy.Contents (Elt Ideal) arg10.view.ty) (init : FVec Ideal S1024x128 .f32) :
    FVec Ideal S1024x128 .f32 × List (View.Piece (Elt Ideal) S8192x128 .f32) × List (View.Piece (Elt Ideal) S8192x128 .f32) :=
  st_k1_t2 Variants.none c none i arg2 harg2 arg3 harg3 arg4 harg4 arg5 harg5 arg6 harg6 arg7 harg7 arg8 harg8 arg9 harg9 arg10 harg10
    (ldB arg2 harg2 x0) (ldB arg6 harg6 x4) (ldL arg7 harg7 x5) (ldB arg5 harg5 x3) (harg3.unread x1) (harg4.unread x2) G9 G10
    init (k1_t2_loop i).trips

/-- What the diagonal tile adds to the rows of the gradient of the keys. -/
noncomputable def diagK (old : Vec Ideal S1024x128 .f32) : FVec Ideal S1024x128 .f32 :=
  k1_pay3 (k1_pay8 (ldB arg2 harg2 x0)) (k1_pay9 (ldB arg6 harg6 x4)) (k1_pay10 (ldL arg7 harg7 x5))
    (k1_pay11 (ldB arg6 harg6 x4) (ldB arg5 harg5 x3)) (k1_pay25 (ldT arg3 (harg3.unread x1) (k1_off3 i) (k1_off3_inb i)))
    (ldT arg4 (harg4.unread x2) (k1_off3 i) (k1_off3_inb i)) old

/-- What the diagonal tile adds to the rows of the gradient of the values. -/
noncomputable def diagV (old : Vec Ideal S1024x128 .f32) : FVec Ideal S1024x128 .f32 :=
  k1_pay4 (k1_pay8 (ldB arg2 harg2 x0)) (k1_pay9 (ldB arg6 harg6 x4)) (k1_pay10 (ldL arg7 harg7 x5))
    (k1_pay25 (ldT arg3 (harg3.unread x1) (k1_off3 i) (k1_off3_inb i))) old

/-- The block of the gradient of the queries. -/
noncomputable def diagQ (acc : FVec Ideal S1024x128 .f32) : FVec Ideal S1024x128 .f32 :=
  k1_pay5 (k1_pay8 (ldB arg2 harg2 x0)) (k1_pay9 (ldB arg6 harg6 x4)) (k1_pay10 (ldL arg7 harg7 x5))
    (k1_pay11 (ldB arg6 harg6 x4) (ldB arg5 harg5 x3)) acc (k1_pay25 (ldT arg3 (harg3.unread x1) (k1_off3 i) (k1_off3_inb i)))
    (ldT arg4 (harg4.unread x2) (k1_off3 i) (k1_off3_inb i))

section B

variable (hc0 : ¬cond1_0 i) (xo7 xo8 : Vec Ideal S8192x128 .f32)

theorem outB6_eq : out1_B_6 c i arg2 harg2 arg3 harg3 arg4 harg4 arg5 harg5 arg6 harg6 arg7 harg7 arg8 harg8 arg9 harg9 arg10 harg10 hc0
      x0 x1 x2 x3 x4 x5 xo7 xo8 =
    let s1 := bs1 c i arg2 harg2 arg3 harg3 arg4 harg4 arg5 harg5 arg6 harg6 arg7 harg7 arg8 harg8 arg9 harg9 arg10 harg10 x0 x1 x2 x3 x4 x5
      (harg9.unread xo7) (harg10.unread xo8)
    let s2 := bs2 c i arg2 harg2 arg3 harg3 arg4 harg4 arg5 harg5 arg6 harg6 arg7 harg7 arg8 harg8 arg9 harg9 arg10 harg10 x0 x1 x2 x3 x4 x5
      (arg9.view.writes (Elt Ideal) (harg9.unread xo7) s1.2.1) (arg10.view.writes (Elt Ideal) (harg10.unread xo8) s1.2.2) s1.1
    VO1_6.read (Elt Ideal) (VO1_6.writes (Elt Ideal) VO1_6.junk [⟨Rect.unit ![0, 0] ![1024, 128] inb_S1024x128_S1024x128_0_0,
      diagQ i arg2 harg2 arg3 harg3 arg4 harg4 arg5 harg5 arg6 harg6 arg7 harg7 x0 x1 x2 x3 x4 x5 s2.1⟩]) := by
  unfold out1_B_6 kernelRun1_B
  rfl

theorem outB7_eq : out1_B_7 c i arg2 harg2 arg3 harg3 arg4 harg4 arg5 harg5 arg6 harg6 arg7 harg7 arg8 harg8 arg9 harg9 arg10 harg10 hc0
      x0 x1 x2 x3 x4 x5 xo7 xo8 =
    let s1 := bs1 c i arg2 harg2 arg3 harg3 arg4 harg4 arg5 harg5 arg6 harg6 arg7 harg7 arg8 harg8 arg9 harg9 arg10 harg10 x0 x1 x2 x3 x4 x5
      (harg9.unread xo7) (harg10.unread xo8)
    let s2 := bs2 c i arg2 harg2 arg3 harg3 arg4 harg4 arg5 harg5 arg6 harg6 arg7 harg7 arg8 harg8 arg9 harg9 arg10 harg10 x0 x1 x2 x3 x4 x5
      (arg9.view.writes (Elt Ideal) (harg9.unread xo7) s1.2.1) (arg10.view.writes (Elt Ideal) (harg10.unread xo8) s1.2.2) s1.1
    let L := s2.2.1 ++ s1.2.1
    arg9.view.read (Elt Ideal) (arg9.view.writes (Elt Ideal) (harg9.unread xo7) (⟨Rect.unit (s := S8192x128) (k1_off3 i) S1024x128.size (k1_off3_inb i),
      diagK i arg2 harg2 arg3 harg3 arg4 harg4 arg5 harg5 arg6 harg6 arg7 harg7 x0 x1 x2 x3 x4 x5
        (ldT arg9 (arg9.view.writes (Elt Ideal) (harg9.unread xo7) L) (k1_off3 i) (k1_off3_inb i))⟩ :: L)) := by
  unfold out1_B_7 kernelRun1_B
  rfl

theorem outB8_eq : out1_B_8 c i arg2 harg2 arg3 harg3 arg4 harg4 arg5 harg5 arg6 harg6 arg7 harg7 arg8 harg8 arg9 harg9 arg10 harg10 hc0
      x0 x1 x2 x3 x4 x5 xo7 xo8 =
    let s1 := bs1 c i arg2 harg2 arg3 harg3 arg4 harg4 arg5 harg5 arg6 harg6 arg7 harg7 arg8 harg8 arg9 harg9 arg10 harg10 x0 x1 x2 x3 x4 x5
      (harg9.unread xo7) (harg10.unread xo8)
    let s2 := bs2 c i arg2 harg2 arg3 harg3 arg4 harg4 arg5 harg5 arg6 harg6 arg7 harg7 arg8 harg8 arg9 harg9 arg10 harg10 x0 x1 x2 x3 x4 x5
      (arg9.view.writes (Elt Ideal) (harg9.unread xo7) s1.2.1) (arg10.view.writes (Elt Ideal) (harg10.unread xo8) s1.2.2) s1.1
    let L := s2.2.2 ++ s1.2.2
    arg10.view.read (Elt Ideal) (arg10.view.writes (Elt Ideal) (harg10.unread xo8) (⟨Rect.unit (s := S8192x128) (k1_off3 i) S1024x128.size (k1_off3_inb i),
      diagV i arg2 harg2 arg3 harg3 arg6 harg6 arg7 harg7 x0 x1 x4 x5
        (ldT arg10 (arg10.view.writes (Elt Ideal) (harg10.unread xo8) L) (k1_off3 i) (k1_off3_inb i))⟩ :: L)) := by
  unfold out1_B_8 kernelRun1_B
  rfl

end B

section A

variable (hc0 : cond1_0 i)

/-- The zero fill of a whole array of 8192 rows. -/
noncomputable abbrev zeroK : List (View.Piece (Elt Ideal) S8192x128 .f32) :=
  [⟨Rect.unit (s := S8192x128) ![0, 0] S8192x128.size inb_S8192x128_S8192x128_0_0, k1_pay6 (F := Ideal)⟩]
/-- The zero fill of the other. -/
noncomputable abbrev zeroV : List (View.Piece (Elt Ideal) S8192x128 .f32) :=
  [⟨Rect.unit (s := S8192x128) ![0, 0] S8192x128.size inb_S8192x128_S8192x128_0_0, k1_pay7 (F := Ideal)⟩]

theorem outA6_eq : out1_A_6 c i arg2 harg2 arg3 harg3 arg4 harg4 arg5 harg5 arg6 harg6 arg7 harg7 arg8 harg8 arg9 harg9 arg10 harg10 hc0
      x0 x1 x2 x3 x4 x5 =
    let s1 := bs1 c i arg2 harg2 arg3 harg3 arg4 harg4 arg5 harg5 arg6 harg6 arg7 harg7 arg8 harg8 arg9 harg9 arg10 harg10 x0 x1 x2 x3 x4 x5
      (arg9.view.writes (Elt Ideal) arg9.view.junk zeroK) (arg10.view.writes (Elt Ideal) arg10.view.junk zeroV)
    let s2 := bs2 c i arg2 harg2 arg3 harg3 arg4 harg4 arg5 harg5 arg6 harg6 arg7 harg7 arg8 harg8 arg9 harg9 arg10 harg10 x0 x1 x2 x3 x4 x5
      (arg9.view.writes (Elt Ideal) arg9.view.junk (s1.2.1 ++ zeroK)) (arg10.view.writes (Elt Ideal) arg10.view.junk (s1.2.2 ++ zeroV)) s1.1
    VO1_6.read (Elt Ideal) (VO1_6.writes (Elt Ideal) VO1_6.junk [⟨Rect.unit ![0, 0] ![1024, 128] inb_S1024x128_S1024x128_0_0,
      diagQ i arg2 harg2 arg3 harg3 arg4 harg4 arg5 harg5 arg6 harg6 arg7 harg7 x0 x1 x2 x3 x4 x5 s2.1⟩]) := by
  unfold out1_A_6 kernelRun1_A
  rfl

theorem outA7_eq : out1_A_7 c i arg2 harg2 arg3 harg3 arg4 harg4 arg5 harg5 arg6 harg6 arg7 harg7 arg8 harg8 arg9 harg9 arg10 harg10 hc0
      x0 x1 x2 x3 x4 x5 =
    let s1 := bs1 c i arg2 harg2 arg3 harg3 arg4 harg4 arg5 harg5 arg6 harg6 arg7 harg7 arg8 harg8 arg9 harg9 arg10 harg10 x0 x1 x2 x3 x4 x5
      (arg9.view.writes (Elt Ideal) arg9.view.junk zeroK) (arg10.view.writes (Elt Ideal) arg10.view.junk zeroV)
    let s2 := bs2 c i arg2 harg2 arg3 harg3 arg4 harg4 arg5 harg5 arg6 harg6 arg7 harg7 arg8 harg8 arg9 harg9 arg10 harg10 x0 x1 x2 x3 x4 x5
      (arg9.view.writes (Elt Ideal) arg9.view.junk (s1.2.1 ++ zeroK)) (arg10.view.writes (Elt Ideal) arg10.view.junk (s1.2.2 ++ zeroV)) s1.1
    let L := s2.2.1 ++ (s1.2.1 ++ zeroK)
    VO1_7.read (Elt Ideal) (VO1_7.writes (Elt Ideal) VO1_7.junk (⟨Rect.unit (s := S8192x128) (k1_off3 i) S1024x128.size (k1_off3_inb i),
      diagK i arg2 harg2 arg3 harg3 arg4 harg4 arg5 harg5 arg6 harg6 arg7 harg7 x0 x1 x2 x3 x4 x5
        (ldT arg9 (arg9.view.writes (Elt Ideal) arg9.view.junk L) (k1_off3 i) (k1_off3_inb i))⟩ :: L)) := by
  unfold out1_A_7 kernelRun1_A
  rfl

theorem outA8_eq : out1_A_8 c i arg2 harg2 arg3 harg3 arg4 harg4 arg5 harg5 arg6 harg6 arg7 harg7 arg8 harg8 arg9 harg9 arg10 harg10 hc0
      x0 x1 x2 x3 x4 x5 =
    let s1 := bs1 c i arg2 harg2 arg3 harg3 arg4 harg4 arg5 harg5 arg6 harg6 arg7 harg7 arg8 harg8 arg9 harg9 arg10 harg10 x0 x1 x2 x3 x4 x5
      (arg9.view.writes (Elt Ideal) arg9.view.junk zeroK) (arg10.view.writes (Elt Ideal) arg10.view.junk zeroV)
    let s2 := bs2 c i arg2 harg2 arg3 harg3 arg4 harg4 arg5 harg5 arg6 harg6 arg7 harg7 arg8 harg8 arg9 harg9 arg10 harg10 x0 x1 x2 x3 x4 x5
      (arg9.view.writes (Elt Ideal) arg9.view.junk (s1.2.1 ++ zeroK)) (arg10.view.writes (Elt Ideal) arg10.view.junk (s1.2.2 ++ zeroV)) s1.1
    let L := s2.2.2 ++ (s1.2.2 ++ zeroV)
    VO1_8.read (Elt Ideal) (VO1_8.writes (Elt Ideal) VO1_8.junk (⟨Rect.unit (s := S8192x128) (k1_off3 i) S1024x128.size (k1_off3_inb i),
      diagV i arg2 harg2 arg3 harg3 arg6 harg6 arg7 harg7 x0 x1 x4 x5
        (ldT arg10 (arg10.view.writes (Elt Ideal) arg10.view.junk L) (k1_off3 i) (k1_off3_inb i))⟩ :: L)) := by
  unfold out1_A_8 kernelRun1_A
  rfl

end A

end body
end Cert.KernelIdeal.Val
-- ==== Proof.BwdPays.lean ====
module

public import proofs.«01_k».proof.Proof.Gen.KernelIdeal.Loops
public import proofs.«01_k».proof.Proof.Math
public import Idealize.ShloMosaic.Lib.Pipeline.ValueKit
public import Idealize.ShloMosaic.Lib.WordCmp

/-!
# The backward kernel's arithmetic at an index

What each vector the backward kernel's body computes holds at an index, in terms of the vectors it is computed from.
-/

@[expose] public section

set_option maxRecDepth 16384

namespace Cert.KernelIdeal.Val

open Idealize.ShloMosaic Idealize.ShloMosaic.TcCoe Idealize.ShloMosaic.Tactic
open Cert.KernelIdeal.Gen Cert.Attn

theorem bpay8_at (q : Vec Ideal S1024x128 .bf16) (y : Fin 1024) (d : Fin 128) :
    k1_pay8 (F := Ideal) q (ix2 y d) = q (ix2 y d) := by
  pointwise [k1_pay8]

theorem bpay9_at (q : Vec Ideal S1024x128 .bf16) (y : Fin 1024) (d : Fin 128) :
    k1_pay9 (F := Ideal) q (ix2 y d) = q (ix2 y d) := by
  pointwise [k1_pay9]

theorem bpay25_at (q : Vec Ideal S1024x128 .bf16) (y : Fin 1024) (d : Fin 128) :
    k1_pay25 (F := Ideal) q (ix2 y d) = q (ix2 y d) := by
  pointwise [k1_pay25]

theorem bpay12_at (y : Fin 1024) (d : Fin 128) : k1_pay12 (F := Ideal) (ix2 y d) = (0 : EReal) := by
  pointwise [k1_pay12]

theorem bpay6_at (y : Fin 8192) (d : Fin 128) : k1_pay6 (F := Ideal) (ix2 y d) = (0 : EReal) := by
  pointwise [k1_pay6]

theorem bpay7_at (y : Fin 8192) (d : Fin 128) : k1_pay7 (F := Ideal) (ix2 y d) = (0 : EReal) := by
  pointwise [k1_pay7]

theorem bpay10_at (l : Vec Ideal S1x1024x1 .f32) (y : Fin 1024) :
    k1_pay10 (F := Ideal) l (ix2 y 0) = l (ix3 0 y 0) := by
  pointwise [k1_pay10]

theorem bpay11_at (g o : Vec Ideal S1024x128 .bf16) (y : Fin 1024) :
    k1_pay11 (F := Ideal) g o (ix2 y 0) = ∑ d : Fin 128, (g (ix2 y d) : EReal) * (o (ix2 y d) : EReal) := by
  pointwise [k1_pay11, k1_pay9]

/-! ## The tile on the diagonal -/

theorem bpay1_at (q : FVec Ideal S1024x128 .bf16) (l : FVec Ideal S1024x1 .f32) (k : FVec Ideal S1024x128 .bf16) (y x : Fin 1024) :
    k1_pay1 (F := Ideal) q l k (ix2 y x)
      = if x.val ≤ y.val then
          Ideal.exp2 (∑ d : Fin 128, (q (ix2 y d) : EReal) * (k (ix2 x d) : EReal) - (l (ix2 y 0) : EReal)) else 0 := by
  have hz : Ideal.ofBits .f32 0x00000000#32 = 0 := by simp [Ideal.ofBits, Ideal.ieee]
  pointwise [k1_pay1]
  have hx : IntOp.addi (BitVec.ofNat 32 x.val) 0#32 = BitVec.ofNat 32 x.val := by simp [IntOp.addi]
  simp only [ix2_0, ix2_1, hx]
  by_cases h : x.val ≤ y.val
  · rw [if_pos h, (WordCmp.cmpi_sle_ofNat_eq_one_iff (lt_of_lt_of_le x.isLt (by norm_num)) (lt_of_lt_of_le y.isLt (by norm_num))).2 h]; rfl
  · rw [if_neg h, (WordCmp.cmpi_sle_ofNat_eq_zero_iff (lt_of_lt_of_le x.isLt (by norm_num)) (lt_of_lt_of_le y.isLt (by norm_num))).2 (by omega)]
    first | exact hz | rfl | simp

theorem bpay2_at (q g : FVec Ideal S1024x128 .bf16) (l D : FVec Ideal S1024x1 .f32) (k : FVec Ideal S1024x128 .bf16)
    (v : Vec Ideal S1024x128 .bf16) (y x : Fin 1024) :
    k1_pay2 (F := Ideal) q g l D k v (ix2 y x)
      = (k1_pay1 (F := Ideal) q l k (ix2 y x) : EReal)
        * (∑ d : Fin 128, (g (ix2 y d) : EReal) * (v (ix2 x d) : EReal) - (D (ix2 y 0) : EReal)) := by
  pointwise [k1_pay2]

theorem bpay3_at (q g : FVec Ideal S1024x128 .bf16) (l D : FVec Ideal S1024x1 .f32) (k : FVec Ideal S1024x128 .bf16)
    (v : Vec Ideal S1024x128 .bf16) (a : Vec Ideal S1024x128 .f32) (x : Fin 1024) (d : Fin 128) :
    k1_pay3 (F := Ideal) q g l D k v a (ix2 x d)
      = (a (ix2 x d) : EReal) + (∑ y : Fin 1024, (k1_pay2 (F := Ideal) q g l D k v (ix2 y x) : EReal) * (q (ix2 y d) : EReal))
          * ((Real.log 2 : ℝ) : EReal) := by
  have hm : Named.named (F := Ideal) (φ := .f32) κ "ln2" 0x3F317218#32 = ((Real.log 2 : ℝ) : EReal) :=
    IdealRules.named_const.ideal_named_scalar _ _ _ _ rfl
  pointwise [k1_pay3]
  rw [hm]

theorem bpay4_at (q g : FVec Ideal S1024x128 .bf16) (l : FVec Ideal S1024x1 .f32) (k : FVec Ideal S1024x128 .bf16)
    (a : Vec Ideal S1024x128 .f32) (x : Fin 1024) (d : Fin 128) :
    k1_pay4 (F := Ideal) q g l k a (ix2 x d)
      = (a (ix2 x d) : EReal) + ∑ y : Fin 1024, (k1_pay1 (F := Ideal) q l k (ix2 y x) : EReal) * (g (ix2 y d) : EReal) := by
  pointwise [k1_pay4]

theorem bpay5_at (q g : FVec Ideal S1024x128 .bf16) (l D : FVec Ideal S1024x1 .f32) (a : FVec Ideal S1024x128 .f32)
    (k : FVec Ideal S1024x128 .bf16) (v : Vec Ideal S1024x128 .bf16) (y : Fin 1024) (d : Fin 128) :
    k1_pay5 (F := Ideal) q g l D a k v (ix2 y d)
      = ((a (ix2 y d) : EReal) + ∑ x : Fin 1024, (k1_pay2 (F := Ideal) q g l D k v (ix2 y x) : EReal) * (k (ix2 x d) : EReal))
          * (((Real.sqrt 96)⁻¹ : ℝ) : EReal) := by
  have hm : Named.named (F := Ideal) (φ := .f32) κ "scale" 0x3DD105EC#32 = (((Real.sqrt 96)⁻¹ : ℝ) : EReal) :=
    IdealRules.named_const.ideal_named_scalar _ _ _ _ rfl
  pointwise [k1_pay5]
  rw [hm]

/-! ## A tile before it -/

theorem bpay14_at (q : Vec Ideal S1024x128 .bf16) (l : Vec Ideal S1x1024x1 .f32) (k : Vec Ideal S1024x128 .bf16) (y x : Fin 1024) :
    k1_pay14 (F := Ideal) q l k (ix2 y x)
      = Ideal.exp2 (∑ d : Fin 128, (q (ix2 y d) : EReal) * (k (ix2 x d) : EReal) - (l (ix3 0 y 0) : EReal)) := by
  pointwise [k1_pay14, k1_pay8, k1_pay13, k1_pay10]
  rfl

theorem bpay15_at (q g : Vec Ideal S1024x128 .bf16) (l : Vec Ideal S1x1024x1 .f32) (o k v : Vec Ideal S1024x128 .bf16) (y x : Fin 1024) :
    k1_pay15 (F := Ideal) q g l o k v (ix2 y x)
      = (k1_pay14 (F := Ideal) q l k (ix2 y x) : EReal)
        * (∑ d : Fin 128, (g (ix2 y d) : EReal) * (v (ix2 x d) : EReal)
            - ∑ d : Fin 128, (g (ix2 y d) : EReal) * (o (ix2 y d) : EReal)) := by
  pointwise [k1_pay15, k1_pay9, k1_pay11]

theorem bpay16_at (q g : Vec Ideal S1024x128 .bf16) (l : Vec Ideal S1x1024x1 .f32) (o k v : Vec Ideal S1024x128 .bf16)
    (a : Vec Ideal S1024x128 .f32) (x : Fin 1024) (d : Fin 128) :
    k1_pay16 (F := Ideal) q g l o k v a (ix2 x d)
      = (a (ix2 x d) : EReal) + (∑ y : Fin 1024, (k1_pay15 (F := Ideal) q g l o k v (ix2 y x) : EReal) * (q (ix2 y d) : EReal))
          * ((Real.log 2 : ℝ) : EReal) := by
  have hm : Named.named (F := Ideal) (φ := .f32) κ "ln2" 0x3F317218#32 = ((Real.log 2 : ℝ) : EReal) :=
    IdealRules.named_const.ideal_named_scalar _ _ _ _ rfl
  pointwise [k1_pay16, k1_pay8]
  rw [hm]

theorem bpay17_at (q g : Vec Ideal S1024x128 .bf16) (l : Vec Ideal S1x1024x1 .f32) (k : Vec Ideal S1024x128 .bf16)
    (a : Vec Ideal S1024x128 .f32) (x : Fin 1024) (d : Fin 128) :
    k1_pay17 (F := Ideal) q g l k a (ix2 x d)
      = (a (ix2 x d) : EReal) + ∑ y : Fin 1024, (k1_pay14 (F := Ideal) q l k (ix2 y x) : EReal) * (g (ix2 y d) : EReal) := by
  pointwise [k1_pay17, k1_pay9]

theorem bpay18_at (q g : Vec Ideal S1024x128 .bf16) (l : Vec Ideal S1x1024x1 .f32) (o : Vec Ideal S1024x128 .bf16)
    (a : FVec Ideal S1024x128 .f32) (k v : Vec Ideal S1024x128 .bf16) (y : Fin 1024) (d : Fin 128) :
    k1_pay18 (F := Ideal) q g l o a k v (ix2 y d)
      = (a (ix2 y d) : EReal) + ∑ x : Fin 1024, (k1_pay15 (F := Ideal) q g l o k v (ix2 y x) : EReal) * (k (ix2 x d) : EReal) := by
  pointwise [k1_pay18, k1_pay13]

end Cert.KernelIdeal.Val
-- ==== Proof.BwdRows.lean ====
module

public import proofs.«01_k».proof.Proof.BwdPays
public import proofs.«01_k».proof.Proof.FwdRows

/-!
# The backward kernel's arithmetic, tile by tile

The weights of a tile, their gradient, and what a tile adds to the gradients of the queries, of the keys and of the
values, for blocks that hold real rows.
-/

@[expose] public section

set_option maxRecDepth 16384

namespace Cert.KernelIdeal.Val

open Idealize.ShloMosaic Idealize.ShloMosaic.TcCoe Idealize.ShloMosaic.Tactic
open Cert.KernelIdeal.Gen Cert.Attn

/-- The weight of column `c` in row `r`, from the row's logarithm `L r`. -/
noncomputable def prob (Q K : Fin 8192 → Fin 128 → ℝ) (L : Fin 8192 → ℝ) (r c : Fin 8192) : ℝ :=
  if c ≤ r then pw (score Q K r c - L r) else 0

/-- The gradient of a score, but for the scale. -/
noncomputable def dsc (Q K V O G : Fin 8192 → Fin 128 → ℝ) (L : Fin 8192 → ℝ) (r c : Fin 8192) : ℝ :=
  prob Q K L r c * (∑ d, G r d * V c d - ∑ d, G r d * O r d)

theorem prob_of_lt (Q K : Fin 8192 → Fin 128 → ℝ) (L : Fin 8192 → ℝ) {r c : Fin 8192} (h : r.val < c.val) : prob Q K L r c = 0 :=
  if_neg (by rw [Fin.le_def]; omega)

theorem dsc_of_lt (Q K V O G : Fin 8192 → Fin 128 → ℝ) (L : Fin 8192 → ℝ) {r c : Fin 8192} (h : r.val < c.val) : dsc Q K V O G L r c = 0 := by
  rw [dsc, prob_of_lt Q K L h, zero_mul]

/-- What the query rows from `q0` on add to the gradient of the keys. -/
noncomputable def updK (Q K V O G : Fin 8192 → Fin 128 → ℝ) (L : Fin 8192 → ℝ) (q0 : ℕ) (hq0 : q0 + 1024 ≤ 8192) (c : Fin 8192) (d : Fin 128) : ℝ :=
  (∑ y, dsc Q K V O G L (col q0 hq0 y) c * Q (col q0 hq0 y) d) * Real.log 2

/-- What the query rows from `q0` on add to the gradient of the values. -/
noncomputable def updV (Q K G : Fin 8192 → Fin 128 → ℝ) (L : Fin 8192 → ℝ) (q0 : ℕ) (hq0 : q0 + 1024 ≤ 8192) (c : Fin 8192) (d : Fin 128) : ℝ :=
  ∑ y, prob Q K L (col q0 hq0 y) c * G (col q0 hq0 y) d

theorem updK_of_le (Q K V O G : Fin 8192 → Fin 128 → ℝ) (L : Fin 8192 → ℝ) (q0 : ℕ) (hq0 : q0 + 1024 ≤ 8192) {c : Fin 8192} (h : q0 + 1024 ≤ c.val)
    (d : Fin 128) : updK Q K V O G L q0 hq0 c d = 0 := by
  rw [updK, Finset.sum_eq_zero, zero_mul]
  intro y _
  rw [dsc_of_lt, zero_mul]
  simp only [col]; omega

theorem updV_of_le (Q K G : Fin 8192 → Fin 128 → ℝ) (L : Fin 8192 → ℝ) (q0 : ℕ) (hq0 : q0 + 1024 ≤ 8192) {c : Fin 8192} (h : q0 + 1024 ≤ c.val)
    (d : Fin 128) : updV Q K G L q0 hq0 c d = 0 := by
  rw [updV, Finset.sum_eq_zero]
  intro y _
  rw [prob_of_lt, zero_mul]
  simp only [col]; omega

/-- A sum over the columns before `n + 1024` is the sum before `n` and the tile's. -/
theorem sum_below_add (f : Fin 8192 → ℝ) (n : ℕ) (hn : n + 1024 ≤ 8192) :
    ∑ c ∈ below (n + 1024), f c = ∑ c ∈ below n, f c + ∑ x, f (col n hn x) := by
  rw [below_add n hn, Finset.sum_union, Finset.sum_image (fun x _ y _ hxy => col_injective n hn hxy), Finset.filter_true]
  rw [Finset.disjoint_left]
  intro c hc hc'
  obtain ⟨x, _, rfl⟩ := Finset.mem_image.1 hc'
  have := (Finset.mem_filter.1 hc).2
  simp only [col] at this
  omega

theorem below_zero : below 0 = ∅ := by simp [below]

theorem below_all : below 8192 = Finset.univ := by
  ext c; simp only [below, Finset.mem_filter, Finset.mem_univ, true_and]; exact iff_of_true c.isLt trivial

section tile

variable {Q K V O G : Fin 8192 → Fin 128 → ℝ} {L : Fin 8192 → ℝ} {q0 : ℕ} {hq0 : q0 + 1024 ≤ 8192} {n : ℕ} {hn : n + 1024 ≤ 8192}
  {q g o k v : Vec Ideal S1024x128 .bf16} {l : Vec Ideal S1x1024x1 .f32}
  (hq : TileAt q Q q0 hq0) (hg : TileAt g G q0 hq0) (ho : TileAt o O q0 hq0) (hl : ∀ y, l (ix3 0 y 0) = ((L (col q0 hq0 y) : ℝ) : EReal))

include hq hl in
theorem full_prob (hk : TileAt k K n hn) (h : n + 1024 ≤ q0) (y x : Fin 1024) :
    k1_pay14 (F := Ideal) q l k (ix2 y x) = ((prob Q K L (col q0 hq0 y) (col n hn x) : ℝ) : EReal) := by
  rw [bpay14_at, tile_score hq hk, hl, ← EReal.coe_sub, exp2_coe, prob, if_pos]
  rw [Fin.le_def]; simp only [col]; omega

include hq hg ho hl in
theorem full_dsc (hk : TileAt k K n hn) (hv : TileAt v V n hn) (h : n + 1024 ≤ q0) (y x : Fin 1024) :
    k1_pay15 (F := Ideal) q g l o k v (ix2 y x) = ((dsc Q K V O G L (col q0 hq0 y) (col n hn x) : ℝ) : EReal) := by
  rw [bpay15_at, full_prob hq hl hk h, tile_score hg hv, dsc, EReal.coe_mul, EReal.coe_sub]
  congr 2
  rw [coe_sum]
  exact Finset.sum_congr rfl fun d _ => by rw [hg, ho, EReal.coe_mul]

include hq hg ho hl in
theorem full_updK (hk : TileAt k K n hn) (hv : TileAt v V n hn) (h : n + 1024 ≤ q0) (a : Vec Ideal S1024x128 .f32) (x : Fin 1024) (d : Fin 128) :
    k1_pay16 (F := Ideal) q g l o k v a (ix2 x d) = (a (ix2 x d) : EReal) + ((updK Q K V O G L q0 hq0 (col n hn x) d : ℝ) : EReal) := by
  rw [bpay16_at, updK, EReal.coe_mul, coe_sum]
  congr 2
  exact Finset.sum_congr rfl fun y _ => by rw [full_dsc hq hg ho hl hk hv h, hq, EReal.coe_mul]

include hq hg hl in
theorem full_updV (hk : TileAt k K n hn) (h : n + 1024 ≤ q0) (a : Vec Ideal S1024x128 .f32) (x : Fin 1024) (d : Fin 128) :
    k1_pay17 (F := Ideal) q g l k a (ix2 x d) = (a (ix2 x d) : EReal) + ((updV Q K G L q0 hq0 (col n hn x) d : ℝ) : EReal) := by
  rw [bpay17_at, updV, coe_sum]
  congr 1
  exact Finset.sum_congr rfl fun y _ => by rw [full_prob hq hl hk h, hg, EReal.coe_mul]

include hq hg ho hl in
theorem full_dq (hk : TileAt k K n hn) (hv : TileAt v V n hn) (h : n + 1024 ≤ q0) (a : FVec Ideal S1024x128 .f32) (y : Fin 1024) (d : Fin 128) :
    k1_pay18 (F := Ideal) q g l o a k v (ix2 y d)
      = (a (ix2 y d) : EReal) + ((∑ x, dsc Q K V O G L (col q0 hq0 y) (col n hn x) * K (col n hn x) d : ℝ) : EReal) := by
  rw [bpay18_at, coe_sum]
  congr 1
  exact Finset.sum_congr rfl fun x _ => by rw [full_dsc hq hg ho hl hk hv h, hk, EReal.coe_mul]

include hq hl in
theorem diag_prob (hk : TileAt k K q0 hq0) (y x : Fin 1024) :
    k1_pay1 (F := Ideal) (k1_pay8 q) (k1_pay10 l) (k1_pay25 k) (ix2 y x) = ((prob Q K L (col q0 hq0 y) (col q0 hq0 x) : ℝ) : EReal) := by
  have hs : ∑ d : Fin 128, (k1_pay8 (F := Ideal) q (ix2 y d) : EReal) * (k1_pay25 (F := Ideal) k (ix2 x d) : EReal)
      = ((score Q K (col q0 hq0 y) (col q0 hq0 x) : ℝ) : EReal) := by
    rw [← tile_score hq hk]
    exact Finset.sum_congr rfl fun d _ => by rw [bpay8_at, bpay25_at]
  rw [bpay1_at, hs, bpay10_at, hl, ← EReal.coe_sub, exp2_coe, prob]
  by_cases h : x.val ≤ y.val
  · rw [if_pos h, if_pos]
    rw [Fin.le_def]; simp only [col]; omega
  · rw [if_neg h, if_neg, EReal.coe_zero]
    rw [Fin.le_def]; simp only [col]; omega

include hq hg ho hl in
theorem diag_dsc (hk : TileAt k K q0 hq0) (hv : TileAt v V q0 hq0) (y x : Fin 1024) :
    k1_pay2 (F := Ideal) (k1_pay8 q) (k1_pay9 g) (k1_pay10 l) (k1_pay11 g o) (k1_pay25 k) v (ix2 y x)
      = ((dsc Q K V O G L (col q0 hq0 y) (col q0 hq0 x) : ℝ) : EReal) := by
  have hs : ∑ d : Fin 128, (k1_pay9 (F := Ideal) g (ix2 y d) : EReal) * (v (ix2 x d) : EReal)
      = ((score G V (col q0 hq0 y) (col q0 hq0 x) : ℝ) : EReal) := by
    rw [← tile_score hg hv]
    exact Finset.sum_congr rfl fun d _ => by rw [bpay9_at]
  rw [bpay2_at, diag_prob hq hl hk, hs, bpay11_at, dsc, EReal.coe_mul, EReal.coe_sub]
  congr 2
  rw [coe_sum]
  exact Finset.sum_congr rfl fun d _ => by rw [hg, ho, EReal.coe_mul]

include hq hg ho hl in
theorem diag_updK (hk : TileAt k K q0 hq0) (hv : TileAt v V q0 hq0) (a : Vec Ideal S1024x128 .f32) (x : Fin 1024) (d : Fin 128) :
    k1_pay3 (F := Ideal) (k1_pay8 q) (k1_pay9 g) (k1_pay10 l) (k1_pay11 g o) (k1_pay25 k) v a (ix2 x d)
      = (a (ix2 x d) : EReal) + ((updK Q K V O G L q0 hq0 (col q0 hq0 x) d : ℝ) : EReal) := by
  rw [bpay3_at, updK, EReal.coe_mul, coe_sum]
  congr 2
  exact Finset.sum_congr rfl fun y _ => by rw [diag_dsc hq hg ho hl hk hv, bpay8_at, hq, EReal.coe_mul]

include hq hg hl in
theorem diag_updV (hk : TileAt k K q0 hq0) (a : Vec Ideal S1024x128 .f32) (x : Fin 1024) (d : Fin 128) :
    k1_pay4 (F := Ideal) (k1_pay8 q) (k1_pay9 g) (k1_pay10 l) (k1_pay25 k) a (ix2 x d)
      = (a (ix2 x d) : EReal) + ((updV Q K G L q0 hq0 (col q0 hq0 x) d : ℝ) : EReal) := by
  rw [bpay4_at, updV, coe_sum]
  congr 1
  exact Finset.sum_congr rfl fun y _ => by rw [diag_prob hq hl hk, bpay9_at, hg, EReal.coe_mul]

include hq hg ho hl in
theorem diag_dq (hk : TileAt k K q0 hq0) (hv : TileAt v V q0 hq0) (a : FVec Ideal S1024x128 .f32)
    (ha : ∀ y d, a (ix2 y d) = ((∑ c ∈ below q0, dsc Q K V O G L (col q0 hq0 y) c * K c d : ℝ) : EReal)) (y : Fin 1024) (d : Fin 128) :
    k1_pay5 (F := Ideal) (k1_pay8 q) (k1_pay9 g) (k1_pay10 l) (k1_pay11 g o) a (k1_pay25 k) v (ix2 y d)
      = (((∑ c, dsc Q K V O G L (col q0 hq0 y) c * K c d) * (Real.sqrt 96)⁻¹ : ℝ) : EReal) := by
  have hsum : ∑ c, dsc Q K V O G L (col q0 hq0 y) c * K c d = ∑ c ∈ below (q0 + 1024), dsc Q K V O G L (col q0 hq0 y) c * K c d := by
    refine (Finset.sum_subset (Finset.subset_univ _) fun c _ hc => ?_).symm
    rw [dsc_of_lt, zero_mul]
    simp only [below, Finset.mem_filter, Finset.mem_univ, true_and] at hc
    simp only [col]; omega
  rw [bpay5_at, hsum, sum_below_add _ q0 hq0, ha, EReal.coe_mul, EReal.coe_add]
  congr 2
  rw [coe_sum]
  exact Finset.sum_congr rfl fun x _ => by rw [diag_dsc hq hg ho hl hk hv, bpay25_at, hk, EReal.coe_mul]

end tile

end Cert.KernelIdeal.Val
-- ==== Proof.BwdBody.lean ====
module

public import proofs.«01_k».proof.Proof.BwdRuns
public import proofs.«01_k».proof.Proof.BwdRows

/-!
# What one grid point of the backward kernel leaves

The body of the backward kernel at the point of head `h` and query block `i`: its loop over the key tiles before the
diagonal, the diagonal tile, the block of the gradient of the queries it stores and what it adds to the gradients of the
keys and of the values, which the points of one head accumulate.
-/

@[expose] public section

set_option maxRecDepth 16384

namespace Cert.KernelIdeal.Val

open Idealize.ShloMosaic Idealize.ShloMosaic.TcCoe Idealize.ShloMosaic.Tactic
open Cert.KernelIdeal.Gen Cert.Attn

/-! ## Stores of a tile of rows -/

/-- Storing a tile of rows that adds `B` to what the rows held adds `B` at those rows. -/
theorem read_add_rows (v : View sig .tc .vmem S8192x128 .f32) (f : BufTy.Contents (Elt Ideal) v.ty) {off : Fin 2 → ℕ}
    (inb : ∀ b, off b + S1024x128.size b ≤ S8192x128.size b) {n : ℕ} (hoff : off = ![n, 0]) (hn : n + 1024 ≤ 8192)
    (w : FVec Ideal S1024x128 .f32) (L : List (View.Piece (Elt Ideal) S8192x128 .f32)) {A B : Fin 8192 → Fin 128 → ℝ}
    (hL : ∀ r d, v.read (Elt Ideal) (v.writes (Elt Ideal) f L) (ix2 r d) = ((A r d : ℝ) : EReal))
    (hw : ∀ x d, w (ix2 x d) = ((A (col n hn x) d + B (col n hn x) d : ℝ) : EReal)) (r : Fin 8192) (d : Fin 128) :
    v.read (Elt Ideal) (v.writes (Elt Ideal) f (⟨Rect.unit (s := S8192x128) off S1024x128.size inb, w⟩ :: L)) (ix2 r d)
      = ((A r d + (if n ≤ r.val ∧ r.val < n + 1024 then B r d else 0) : ℝ) : EReal) := by
  by_cases h : n ≤ r.val ∧ r.val < n + 1024
  · have hr : col n hn ⟨r.val - n, by omega⟩ = r := Fin.ext (by simp only [col]; omega)
    refine (View.read_writes_cons_rows_of_mem v f inb w L (ix2 r d) (ix2 (⟨r.val - n, by omega⟩ : Fin 1024) d) hoff ?_ rfl).trans ?_
    · show r.val = n + (r.val - n); omega
    · rw [hw, hr, if_pos h]
  · rw [if_neg h, add_zero, ← hL]
    refine View.read_writes_cons_rows_of_not_mem (W := 1024) v f inb w L (ix2 r d) hoff rfl ?_
    show r.val < n ∨ n + 1024 ≤ r.val
    omega

/-- The block of logarithms loaded whole is the block. -/
theorem load_blockL {a : Memref sig .tc .vmem S1x1024x1 .f32} (ha : a.IsWhole) (X : Vec Ideal S1x1024x1 .f32) : ldL a ha X = X := by
  funext j
  rw [ldL, View.readAt_apply, ha.read_unread]
  congr 1
  funext b
  apply Fin.ext
  rw [LoadRect.idx_apply]
  match b with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- The rows of the tiles before tile `n` and the rows of tile `n` are the rows of the tiles before tile `n + 1`. -/
theorem add_step (a b : ℝ) (n r : ℕ) :
    a + (if r < 1024 * n then b else 0) + (if 1024 * n ≤ r ∧ r < 1024 * n + 1024 then b else 0) = a + (if r < 1024 * (n + 1) then b else 0) := by
  by_cases a1 : r < 1024 * n
  · rw [if_pos a1, if_neg (by omega), if_pos (by omega), add_zero]
  · by_cases a2 : r < 1024 * n + 1024
    · rw [if_neg a1, if_pos (by omega), if_pos (by omega), add_zero]
    · rw [if_neg a1, if_neg (by omega), if_neg (by omega), add_zero]

/-- The rows before the diagonal tile and the tile's rows are all the rows a query block adds to. -/
theorem add_both (a b : ℝ) (i : ℕ) (r : ℕ) (hb : 1024 * i + 1024 ≤ r → b = 0) :
    a + (if r < 1024 * i then b else 0) + (if 1024 * i ≤ r ∧ r < 1024 * i + 1024 then b else 0) = a + b := by
  by_cases h1 : r < 1024 * i
  · rw [if_pos h1, if_neg (by omega), add_zero]
  · by_cases h2 : r < 1024 * i + 1024
    · rw [if_neg h1, if_pos (by omega), add_zero]
    · rw [if_neg h1, if_neg (by omega), hb (by omega)]; simp

/-- After its zero fill the gradient of the keys is zero. -/
theorem zeroK_read (v : View sig .tc .vmem S8192x128 .f32) (r : Fin 8192) (d : Fin 128) :
    v.read (Elt Ideal) (v.writes (Elt Ideal) v.junk zeroK) (ix2 r d) = ((0 : ℝ) : EReal) := by
  rw [zeroK, View.read_writes_full, bpay6_at, EReal.coe_zero]

/-- After its zero fill the gradient of the values is zero. -/
theorem zeroV_read (v : View sig .tc .vmem S8192x128 .f32) (r : Fin 8192) (d : Fin 128) :
    v.read (Elt Ideal) (v.writes (Elt Ideal) v.junk zeroV) (ix2 r d) = ((0 : ℝ) : EReal) := by
  rw [zeroV, View.read_writes_full, bpay7_at, EReal.coe_zero]

/-! ## The loop's bounds and the places it loads and stores, at each grid point -/

theorem btrips_t1 : ∀ t : Fin cfg1.N, (k1_t1_loop (grid1.coords t)).trips = t.val % 8 := by decide +kernel
theorem btrips_t2 : ∀ t : Fin cfg1.N, (k1_t2_loop (grid1.coords t)).trips = 0 := by decide +kernel
theorem boff1_eq : ∀ t : Fin cfg1.N, ∀ k : Fin (k1_t1_loop (grid1.coords t)).trips, k1_off1 (grid1.coords t) k = ![1024 * k.val, 0] := by
  decide +kernel
theorem boff3_eq : ∀ t : Fin cfg1.N, k1_off3 (grid1.coords t) = ![1024 * (t.val % 8), 0] := by decide +kernel

section trip

variable (c : Dev nD) (i : grid1.Coords) (arg2 : Memref sig .tc .vmem S1024x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S1024x128 .bf16) (harg5 : arg5.IsWhole) (arg6 : Memref sig .tc .vmem S1024x128 .bf16) (harg6 : arg6.IsWhole)
  (arg7 : Memref sig .tc .vmem S1x1024x1 .f32) (harg7 : arg7.IsWhole) (arg8 : Memref sig .tc .vmem S1024x128 .f32) (harg8 : arg8.IsWhole)
  (arg9 : Memref sig .tc .vmem S8192x128 .f32) (harg9 : arg9.IsWhole) (arg10 : Memref sig .tc .vmem S8192x128 .f32) (harg10 : arg10.IsWhole)
  (v3 v5 : Vec Ideal S1024x128 .bf16) (v7 : Vec Ideal S1x1024x1 .f32) (v10 : Vec Ideal S1024x128 .bf16)
  (X3 : BufTy.Contents (Elt Ideal) arg3.view.ty) (X4 : BufTy.Contents (Elt Ideal) arg4.view.ty) (k : Fin (k1_t1_loop i).trips)
  (acc : FVec Ideal S1024x128 .f32) (f9 : BufTy.Contents (Elt Ideal) arg9.view.ty) (f10 : BufTy.Contents (Elt Ideal) arg10.view.ty)

/-- The carried gradient of the queries after a trip. -/
theorem btrip_acc : (trip_k1_t1 (F := Ideal) Variants.none c none i arg2 harg2 arg3 harg3 arg4 harg4 arg5 harg5 arg6 harg6 arg7 harg7 arg8 harg8
      arg9 harg9 arg10 harg10 v3 v5 v7 v10 X3 X4 k).1 acc f9 f10
    = k1_pay18 v3 v5 v7 v10 acc (ldT arg3 X3 (k1_off1 i k) (k1_off1_inb i k)) (ldT arg4 X4 (k1_off1 i k) (k1_off1_inb i k)) := by
  unfold trip_k1_t1
  rfl

/-- What a trip stores in the gradient of the keys. -/
theorem btrip_K : (trip_k1_t1 (F := Ideal) Variants.none c none i arg2 harg2 arg3 harg3 arg4 harg4 arg5 harg5 arg6 harg6 arg7 harg7 arg8 harg8
      arg9 harg9 arg10 harg10 v3 v5 v7 v10 X3 X4 k).2.1 acc f9 f10
    = [⟨Rect.unit (s := S8192x128) (k1_off1 i k) S1024x128.size (k1_off1_inb i k),
        k1_pay16 v3 v5 v7 v10 (ldT arg3 X3 (k1_off1 i k) (k1_off1_inb i k)) (ldT arg4 X4 (k1_off1 i k) (k1_off1_inb i k))
          (ldT arg9 f9 (k1_off1 i k) (k1_off1_inb i k))⟩] := by
  unfold trip_k1_t1
  rfl

/-- What a trip stores in the gradient of the values. -/
theorem btrip_V : (trip_k1_t1 (F := Ideal) Variants.none c none i arg2 harg2 arg3 harg3 arg4 harg4 arg5 harg5 arg6 harg6 arg7 harg7 arg8 harg8
      arg9 harg9 arg10 harg10 v3 v5 v7 v10 X3 X4 k).2.2.1 acc f9 f10
    = [⟨Rect.unit (s := S8192x128) (k1_off1 i k) S1024x128.size (k1_off1_inb i k),
        k1_pay17 v3 v5 v7 (ldT arg3 X3 (k1_off1 i k) (k1_off1_inb i k)) (ldT arg10 f10 (k1_off1 i k) (k1_off1_inb i k))⟩] := by
  unfold trip_k1_t1
  rfl

end trip

section point

variable (c : Dev nD) (t : Fin cfg1.N) (arg2 : Memref sig .tc .vmem S1024x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S1024x128 .bf16) (harg5 : arg5.IsWhole) (arg6 : Memref sig .tc .vmem S1024x128 .bf16) (harg6 : arg6.IsWhole)
  (arg7 : Memref sig .tc .vmem S1x1024x1 .f32) (harg7 : arg7.IsWhole) (arg8 : Memref sig .tc .vmem S1024x128 .f32) (harg8 : arg8.IsWhole)
  (arg9 : Memref sig .tc .vmem S8192x128 .f32) (harg9 : arg9.IsWhole) (arg10 : Memref sig .tc .vmem S8192x128 .f32) (harg10 : arg10.IsWhole)
  {x0 : Vec Ideal S1024x128 .bf16} {x1 x2 : Vec Ideal S8192x128 .bf16} {x3 x4 : Vec Ideal S1024x128 .bf16} {x5 : Vec Ideal S1x1024x1 .f32}
  {Q K V O G : Fin 8192 → Fin 128 → ℝ} {L : Fin 8192 → ℝ}
  (h0 : TileAt x0 Q (1024 * (t.val % 8)) (tile_bound t.val))
  (h1 : ∀ r d, x1 (ix2 r d) = ((K r d : ℝ) : EReal)) (h2 : ∀ r d, x2 (ix2 r d) = ((V r d : ℝ) : EReal))
  (h3 : TileAt x3 O (1024 * (t.val % 8)) (tile_bound t.val)) (h4 : TileAt x4 G (1024 * (t.val % 8)) (tile_bound t.val))
  (h5 : ∀ y, x5 (ix3 0 y 0) = ((L (col (1024 * (t.val % 8)) (tile_bound t.val) y) : ℝ) : EReal))

theorem ldB_tile {a : Memref sig .tc .vmem S1024x128 .bf16} (ha : a.IsWhole) {x : Vec Ideal S1024x128 .bf16} {K : Fin 8192 → Fin 128 → ℝ} {n : ℕ}
    {hn : n + 1024 ≤ 8192} (h : TileAt x K n hn) : TileAt (ldB a ha x) K n hn := by rw [ldB, load_block]; exact h

include h0 h1 h2 h3 h4 h5

section loop

variable (G9 : BufTy.Contents (Elt Ideal) arg9.view.ty) (G10 : BufTy.Contents (Elt Ideal) arg10.view.ty) {A A' : Fin 8192 → Fin 128 → ℝ}
  (h9 : ∀ r d, arg9.view.read (Elt Ideal) G9 (ix2 r d) = ((A r d : ℝ) : EReal))
  (h10 : ∀ r d, arg10.view.read (Elt Ideal) G10 (ix2 r d) = ((A' r d : ℝ) : EReal))

include h9 h10

/-- The loop's state before trip `n`: the gradient of the queries over the columns met, and the rows of the two
    accumulated gradients that have been added to. -/
theorem bloop (n : ℕ) (hn : n ≤ (k1_t1_loop (grid1.coords t)).trips) :
    let s := st_k1_t1 (F := Ideal) Variants.none c none (grid1.coords t) arg2 harg2 arg3 harg3 arg4 harg4 arg5 harg5 arg6 harg6 arg7 harg7 arg8 harg8
      arg9 harg9 arg10 harg10 (ldB arg2 harg2 x0) (ldB arg6 harg6 x4) (ldL arg7 harg7 x5) (ldB arg5 harg5 x3) (harg3.unread x1) (harg4.unread x2)
      G9 G10 k1_pay12 n
    (∀ y d, s.1 (ix2 y d) = ((∑ k ∈ below (1024 * n), dsc Q K V O G L (col (1024 * (t.val % 8)) (tile_bound t.val) y) k * K k d : ℝ) : EReal))
    ∧ (∀ r d, arg9.view.read (Elt Ideal) (arg9.view.writes (Elt Ideal) G9 s.2.1) (ix2 r d)
        = ((A r d + (if r.val < 1024 * n then updK Q K V O G L (1024 * (t.val % 8)) (tile_bound t.val) r d else 0) : ℝ) : EReal))
    ∧ (∀ r d, arg10.view.read (Elt Ideal) (arg10.view.writes (Elt Ideal) G10 s.2.2) (ix2 r d)
        = ((A' r d + (if r.val < 1024 * n then updV Q K G L (1024 * (t.val % 8)) (tile_bound t.val) r d else 0) : ℝ) : EReal)) := by
  have hq := ldB_tile harg2 h0
  have hg := ldB_tile harg6 h4
  have ho := ldB_tile harg5 h3
  have hl : ∀ y, ldL arg7 harg7 x5 (ix3 0 y 0) = ((L (col (1024 * (t.val % 8)) (tile_bound t.val) y) : ℝ) : EReal) := fun y => by
    rw [load_blockL]; exact h5 y
  induction n with
  | zero =>
    refine ⟨fun y d => ?_, fun r d => ?_, fun r d => ?_⟩
    · refine (bpay12_at y d).trans ?_
      rw [Nat.mul_zero, below_zero, Finset.sum_empty, EReal.coe_zero]
    · rw [if_neg (by omega), add_zero, ← h9]; rfl
    · rw [if_neg (by omega), add_zero, ← h10]; rfl
  | succ n ih =>
    have ht := btrips_t1 t
    have hb : 1024 * n + 1024 ≤ 8192 := by omega
    have hlt : 1024 * n + 1024 ≤ 1024 * (t.val % 8) := by omega
    have hn' : n < (k1_t1_loop (grid1.coords t)).trips := by omega
    obtain ⟨i1, i2, i3⟩ := ih (by omega)
    have hk := load_rows harg3 h1 (k1_off1_inb (grid1.coords t) ⟨n, hn'⟩) (boff1_eq t ⟨n, hn'⟩) hb
    have hv := load_rows harg4 h2 (k1_off1_inb (grid1.coords t) ⟨n, hn'⟩) (boff1_eq t ⟨n, hn'⟩) hb
    have hs := st_k1_t1_succ (F := Ideal) Variants.none c none (grid1.coords t) arg2 harg2 arg3 harg3 arg4 harg4 arg5 harg5 arg6 harg6 arg7 harg7
      arg8 harg8 arg9 harg9 arg10 harg10 (ldB arg2 harg2 x0) (ldB arg6 harg6 x4) (ldL arg7 harg7 x5) (ldB arg5 harg5 x3) (harg3.unread x1)
      (harg4.unread x2) G9 G10 k1_pay12 ⟨n, hn'⟩
    rw [tripR_k1_t1, tripL_k1_t1, btrip_acc, btrip_K, btrip_V] at hs
    dsimp only at hs
    dsimp only
    rw [hs]
    refine ⟨fun y d => ?_, fun r d => ?_, fun r d => ?_⟩
    · refine (full_dq hq hg ho hl hk hv hlt _ y d).trans ?_
      rw [i1, ← EReal.coe_add, Nat.mul_succ, sum_below_add _ (1024 * n) hb]
    · refine (read_add_rows arg9.view G9 (k1_off1_inb (grid1.coords t) ⟨n, hn'⟩) (boff1_eq t ⟨n, hn'⟩) hb _ _
        (B := updK Q K V O G L (1024 * (t.val % 8)) (tile_bound t.val)) i2 (fun x d => ?_) r d).trans ?_
      · refine (full_updK hq hg ho hl hk hv hlt _ x d).trans ?_
        rw [ldT, readAt_rows arg9 _ _ (boff1_eq t ⟨n, hn'⟩) hb, i2, ← EReal.coe_add]
      · exact congrArg (fun x : ℝ => (x : EReal)) (add_step _ _ n r.val)
    · refine (read_add_rows arg10.view G10 (k1_off1_inb (grid1.coords t) ⟨n, hn'⟩) (boff1_eq t ⟨n, hn'⟩) hb _ _
        (B := updV Q K G L (1024 * (t.val % 8)) (tile_bound t.val)) i3 (fun x d => ?_) r d).trans ?_
      · refine (full_updV hq hg hl hk hlt _ x d).trans ?_
        rw [ldT, readAt_rows arg10 _ _ (boff1_eq t ⟨n, hn'⟩) hb, i3, ← EReal.coe_add]
      · exact congrArg (fun x : ℝ => (x : EReal)) (add_step _ _ n r.val)

end loop

/-- The block of the gradient of the queries, from the carried value before the diagonal tile. -/
theorem diagQ_at (acc : FVec Ideal S1024x128 .f32)
    (hacc : ∀ y d, acc (ix2 y d) = ((∑ k ∈ below (1024 * (t.val % 8)), dsc Q K V O G L (col (1024 * (t.val % 8)) (tile_bound t.val) y) k * K k d : ℝ) : EReal))
    (y : Fin 1024) (d : Fin 128) :
    diagQ (grid1.coords t) arg2 harg2 arg3 harg3 arg4 harg4 arg5 harg5 arg6 harg6 arg7 harg7 x0 x1 x2 x3 x4 x5 acc (ix2 y d)
      = (((∑ k, dsc Q K V O G L (col (1024 * (t.val % 8)) (tile_bound t.val) y) k * K k d) * (Real.sqrt 96)⁻¹ : ℝ) : EReal) :=
  diag_dq (ldB_tile harg2 h0) (ldB_tile harg6 h4) (ldB_tile harg5 h3) (fun y => by rw [load_blockL]; exact h5 y)
    (load_rows harg3 h1 _ (boff3_eq t) _) (load_rows harg4 h2 _ (boff3_eq t) _) acc hacc y d

theorem diagK_at (old : Vec Ideal S1024x128 .f32) (x : Fin 1024) (d : Fin 128) :
    diagK (grid1.coords t) arg2 harg2 arg3 harg3 arg4 harg4 arg5 harg5 arg6 harg6 arg7 harg7 x0 x1 x2 x3 x4 x5 old (ix2 x d)
      = (old (ix2 x d) : EReal)
        + ((updK Q K V O G L (1024 * (t.val % 8)) (tile_bound t.val) (col (1024 * (t.val % 8)) (tile_bound t.val) x) d : ℝ) : EReal) :=
  diag_updK (ldB_tile harg2 h0) (ldB_tile harg6 h4) (ldB_tile harg5 h3) (fun y => by rw [load_blockL]; exact h5 y)
    (load_rows harg3 h1 _ (boff3_eq t) _) (load_rows harg4 h2 _ (boff3_eq t) _) old x d

omit h2 h3 in
theorem diagV_at (old : Vec Ideal S1024x128 .f32) (x : Fin 1024) (d : Fin 128) :
    diagV (grid1.coords t) arg2 harg2 arg3 harg3 arg6 harg6 arg7 harg7 x0 x1 x4 x5 old (ix2 x d)
      = (old (ix2 x d) : EReal)
        + ((updV Q K G L (1024 * (t.val % 8)) (tile_bound t.val) (col (1024 * (t.val % 8)) (tile_bound t.val) x) d : ℝ) : EReal) :=
  diag_updV (ldB_tile harg2 h0) (ldB_tile harg6 h4) (fun y => by rw [load_blockL]; exact h5 y)
    (load_rows harg3 h1 _ (boff3_eq t) _) old x d

section after

variable (hc0 : ¬cond1_0 (grid1.coords t)) (xo7 xo8 : Vec Ideal S8192x128 .f32) {A A' : Fin 8192 → Fin 128 → ℝ}
  (h9 : ∀ r d, xo7 (ix2 r d) = ((A r d : ℝ) : EReal)) (h10 : ∀ r d, xo8 (ix2 r d) = ((A' r d : ℝ) : EReal))

include h9 h10

theorem outB6_at (y : Fin 1024) (d : Fin 128) :
    out1_B_6 c (grid1.coords t) arg2 harg2 arg3 harg3 arg4 harg4 arg5 harg5 arg6 harg6 arg7 harg7 arg8 harg8 arg9 harg9 arg10 harg10 hc0
        x0 x1 x2 x3 x4 x5 xo7 xo8 (ix2 y d)
      = (((∑ k, dsc Q K V O G L (col (1024 * (t.val % 8)) (tile_bound t.val) y) k * K k d) * (Real.sqrt 96)⁻¹ : ℝ) : EReal) := by
  have hl := bloop c t arg2 harg2 arg3 harg3 arg4 harg4 arg5 harg5 arg6 harg6 arg7 harg7 arg8 harg8 arg9 harg9 arg10 harg10 h0 h1 h2 h3 h4 h5
    (harg9.unread xo7) (harg10.unread xo8) (A := A) (A' := A') (fun r d => by rw [harg9.read_unread]; exact h9 r d)
    (fun r d => by rw [harg10.read_unread]; exact h10 r d) _ le_rfl
  rw [outB6_eq]
  dsimp only
  rw [View.read_writes_full, bs2, btrips_t2]
  refine diagQ_at t arg2 harg2 arg3 harg3 arg4 harg4 arg5 harg5 arg6 harg6 arg7 harg7 h0 h1 h2 h3 h4 h5 _ (fun y d => ?_) y d
  refine (hl.1 y d).trans ?_
  rw [btrips_t1]

theorem outB7_at (r : Fin 8192) (d : Fin 128) :
    out1_B_7 c (grid1.coords t) arg2 harg2 arg3 harg3 arg4 harg4 arg5 harg5 arg6 harg6 arg7 harg7 arg8 harg8 arg9 harg9 arg10 harg10 hc0
        x0 x1 x2 x3 x4 x5 xo7 xo8 (ix2 r d)
      = ((A r d + updK Q K V O G L (1024 * (t.val % 8)) (tile_bound t.val) r d : ℝ) : EReal) := by
  have hl := (bloop c t arg2 harg2 arg3 harg3 arg4 harg4 arg5 harg5 arg6 harg6 arg7 harg7 arg8 harg8 arg9 harg9 arg10 harg10 h0 h1 h2 h3 h4 h5
    (harg9.unread xo7) (harg10.unread xo8) (A := A) (A' := A') (fun r d => by rw [harg9.read_unread]; exact h9 r d)
    (fun r d => by rw [harg10.read_unread]; exact h10 r d) _ le_rfl).2.1
  rw [btrips_t1 t] at hl
  rw [outB7_eq]
  dsimp only
  rw [bs2, btrips_t2, bs1, btrips_t1]
  refine (read_add_rows arg9.view (harg9.unread xo7) (k1_off3_inb (grid1.coords t)) (boff3_eq t) (tile_bound t.val) _ _
    (B := updK Q K V O G L (1024 * (t.val % 8)) (tile_bound t.val)) hl (fun x d => ?_) r d).trans ?_
  · refine (diagK_at t arg2 harg2 arg3 harg3 arg4 harg4 arg5 harg5 arg6 harg6 arg7 harg7 h0 h1 h2 h3 h4 h5 _ x d).trans ?_
    rw [ldT, readAt_rows arg9 _ _ (boff3_eq t) (tile_bound t.val), EReal.coe_add]
    congr 1
    exact hl _ _
  · congr 1
    exact add_both _ _ _ _ fun h => updK_of_le Q K V O G L _ _ h d

theorem outB8_at (r : Fin 8192) (d : Fin 128) :
    out1_B_8 c (grid1.coords t) arg2 harg2 arg3 harg3 arg4 harg4 arg5 harg5 arg6 harg6 arg7 harg7 arg8 harg8 arg9 harg9 arg10 harg10 hc0
        x0 x1 x2 x3 x4 x5 xo7 xo8 (ix2 r d)
      = ((A' r d + updV Q K G L (1024 * (t.val % 8)) (tile_bound t.val) r d : ℝ) : EReal) := by
  have hl := (bloop c t arg2 harg2 arg3 harg3 arg4 harg4 arg5 harg5 arg6 harg6 arg7 harg7 arg8 harg8 arg9 harg9 arg10 harg10 h0 h1 h2 h3 h4 h5
    (harg9.unread xo7) (harg10.unread xo8) (A := A) (A' := A') (fun r d => by rw [harg9.read_unread]; exact h9 r d)
    (fun r d => by rw [harg10.read_unread]; exact h10 r d) _ le_rfl).2.2
  rw [btrips_t1 t] at hl
  rw [outB8_eq]
  dsimp only
  rw [bs2, btrips_t2, bs1, btrips_t1]
  refine (read_add_rows arg10.view (harg10.unread xo8) (k1_off3_inb (grid1.coords t)) (boff3_eq t) (tile_bound t.val) _ _
    (B := updV Q K G L (1024 * (t.val % 8)) (tile_bound t.val)) hl (fun x d => ?_) r d).trans ?_
  · refine (diagV_at t arg2 harg2 arg3 harg3 arg6 harg6 arg7 harg7 h0 h1 h4 h5 _ x d).trans ?_
    rw [ldT, readAt_rows arg10 _ _ (boff3_eq t) (tile_bound t.val), EReal.coe_add]
    congr 1
    exact hl _ _
  · congr 1
    exact add_both _ _ _ _ fun h => updV_of_le Q K G L _ _ h d

end after

section first

variable (ht : t.val % 8 = 0) (hc0 : cond1_0 (grid1.coords t))

include ht

theorem outA6_at (y : Fin 1024) (d : Fin 128) :
    out1_A_6 c (grid1.coords t) arg2 harg2 arg3 harg3 arg4 harg4 arg5 harg5 arg6 harg6 arg7 harg7 arg8 harg8 arg9 harg9 arg10 harg10 hc0
        x0 x1 x2 x3 x4 x5 (ix2 y d)
      = (((∑ k, dsc Q K V O G L (col (1024 * (t.val % 8)) (tile_bound t.val) y) k * K k d) * (Real.sqrt 96)⁻¹ : ℝ) : EReal) := by
  have h8 := (btrips_t1 t).trans ht
  rw [outA6_eq]
  dsimp only
  rw [View.read_writes_full, bs2, btrips_t2, bs1, h8]
  refine diagQ_at t arg2 harg2 arg3 harg3 arg4 harg4 arg5 harg5 arg6 harg6 arg7 harg7 h0 h1 h2 h3 h4 h5 _ (fun y d => ?_) y d
  refine (bpay12_at y d).trans ?_
  have hb : below (1024 * (t.val % 8)) = ∅ := by rw [ht]; exact below_zero
  rw [hb, Finset.sum_empty, EReal.coe_zero]

theorem outA7_at (r : Fin 8192) (d : Fin 128) :
    out1_A_7 c (grid1.coords t) arg2 harg2 arg3 harg3 arg4 harg4 arg5 harg5 arg6 harg6 arg7 harg7 arg8 harg8 arg9 harg9 arg10 harg10 hc0
        x0 x1 x2 x3 x4 x5 (ix2 r d)
      = ((updK Q K V O G L (1024 * (t.val % 8)) (tile_bound t.val) r d : ℝ) : EReal) := by
  have h8 := (btrips_t1 t).trans ht
  rw [outA7_eq]
  dsimp only
  rw [bs2, btrips_t2, bs1, h8]
  refine (read_add_rows VO1_7 VO1_7.junk (k1_off3_inb (grid1.coords t)) (boff3_eq t) (tile_bound t.val) _ _ (A := fun _ _ => 0)
    (B := updK Q K V O G L (1024 * (t.val % 8)) (tile_bound t.val)) (zeroK_read VO1_7) (fun x d => ?_) r d).trans ?_
  · refine (diagK_at t arg2 harg2 arg3 harg3 arg4 harg4 arg5 harg5 arg6 harg6 arg7 harg7 h0 h1 h2 h3 h4 h5 _ x d).trans ?_
    rw [ldT, readAt_rows arg9 _ _ (boff3_eq t) (tile_bound t.val), EReal.coe_add]
    congr 1
    exact zeroK_read arg9.view _ _
  · congr 1
    have := add_both 0 (updK Q K V O G L (1024 * (t.val % 8)) (tile_bound t.val) r d) (t.val % 8) r.val fun h => updK_of_le Q K V O G L _ _ h d
    rw [if_neg (by omega : ¬ r.val < 1024 * (t.val % 8))] at this
    simpa using this

theorem outA8_at (r : Fin 8192) (d : Fin 128) :
    out1_A_8 c (grid1.coords t) arg2 harg2 arg3 harg3 arg4 harg4 arg5 harg5 arg6 harg6 arg7 harg7 arg8 harg8 arg9 harg9 arg10 harg10 hc0
        x0 x1 x2 x3 x4 x5 (ix2 r d)
      = ((updV Q K G L (1024 * (t.val % 8)) (tile_bound t.val) r d : ℝ) : EReal) := by
  have h8 := (btrips_t1 t).trans ht
  rw [outA8_eq]
  dsimp only
  rw [bs2, btrips_t2, bs1, h8]
  refine (read_add_rows VO1_8 VO1_8.junk (k1_off3_inb (grid1.coords t)) (boff3_eq t) (tile_bound t.val) _ _ (A := fun _ _ => 0)
    (B := updV Q K G L (1024 * (t.val % 8)) (tile_bound t.val)) (zeroV_read VO1_8) (fun x d => ?_) r d).trans ?_
  · refine (diagV_at t arg2 harg2 arg3 harg3 arg6 harg6 arg7 harg7 h0 h1 h4 h5 _ x d).trans ?_
    rw [ldT, readAt_rows arg10 _ _ (boff3_eq t) (tile_bound t.val), EReal.coe_add]
    congr 1
    exact zeroV_read arg10.view _ _
  · congr 1
    have := add_both 0 (updV Q K G L (1024 * (t.val % 8)) (tile_bound t.val) r d) (t.val % 8) r.val fun h => updV_of_le Q K G L _ _ h d
    rw [if_neg (by omega : ¬ r.val < 1024 * (t.val % 8))] at this
    simpa using this

end first

end point

end Cert.KernelIdeal.Val
-- ==== Proof.FwdArr.lean ====
module

public import proofs.«01_k».proof.Proof.FwdBody
public import Idealize.ShloMosaic.Lib.Pipeline.ValueKit

/-!
# The arrays the forward kernel leaves

Heads lie side by side along the lanes of the arrays of the kernels: lane `128 * h + d` is coordinate `d` of head `h`. With
the arrays of the queries, keys and values holding real numbers, the arrays of outputs and of logarithms hold, head by head,
the attention of Proof/FwdRows.lean.
-/

@[expose] public section

set_option maxRecDepth 16384

namespace Cert.KernelIdeal.Val

open Idealize.ShloMosaic Idealize.ShloMosaic.TcCoe Idealize.ShloMosaic.Tactic
open Idealize.ShloMosaic.Pipeline (Dat)
open Cert.KernelIdeal Cert.KernelIdeal.Gen Cert.Attn

/-- Heads side by side: the array whose lane `128 * h + d` of row `r` holds `f h r d`. -/
noncomputable def byLane (f : Fin 8 → Fin 8192 → Fin 128 → ℝ) : S8192x1024.Idx → EReal := fun i =>
  ((f ⟨(i 1).val / 128, by have h : (i 1).val < 1024 := (i 1).isLt; omega⟩ ⟨(i 0).val, (i 0).isLt⟩ ⟨(i 1).val % 128, Nat.mod_lt _ (by decide)⟩ : ℝ) : EReal)

/-- The array of logarithms: one column of each head's rows. -/
noncomputable def byHead (f : Fin 8 → Fin 8192 → ℝ) : S8x8192x1.Idx → EReal := fun i =>
  ((f ⟨(i 0).val, (i 0).isLt⟩ ⟨(i 1).val, (i 1).isLt⟩ : ℝ) : EReal)

theorem byLane_at (f : Fin 8 → Fin 8192 → Fin 128 → ℝ) (i : S8192x1024.Idx) (h : Fin 8) (r : Fin 8192) (d : Fin 128)
    (h0 : (i 0).val = r.val) (h1 : (i 1).val = h.val * 128 + d.val) : byLane f i = ((f h r d : ℝ) : EReal) := by
  unfold byLane
  have e1 : (⟨(i 1).val / 128, by have h : (i 1).val < 1024 := (i 1).isLt; omega⟩ : Fin 8) = h := Fin.ext (by dsimp only; omega)
  have e2 : (⟨(i 0).val, (i 0).isLt⟩ : Fin 8192) = r := Fin.ext h0
  have e3 : (⟨(i 1).val % 128, Nat.mod_lt _ (by decide)⟩ : Fin 128) = d := Fin.ext (by dsimp only; omega)
  rw [e1, e2, e3]

theorem byHead_at (f : Fin 8 → Fin 8192 → ℝ) (i : S8x8192x1.Idx) (h : Fin 8) (r : Fin 8192)
    (h0 : (i 0).val = h.val) (h1 : (i 1).val = r.val) : byHead f i = ((f h r : ℝ) : EReal) := by
  unfold byHead
  have e1 : (⟨(i 0).val, (i 0).isLt⟩ : Fin 8) = h := Fin.ext h0
  have e2 : (⟨(i 1).val, (i 1).isLt⟩ : Fin 8192) = r := Fin.ext h1
  rw [e1, e2]

/-- The head of a grid point. -/
def hd (n : ℕ) (hn : n < 64) : Fin 8 := ⟨n / 8, by omega⟩

theorem lt0 (t : Fin cfg0.N) : t.val < 64 := t.isLt

theorem idx0 : ∀ t : Fin cfg0.N, win0_0.index t = ![t.val % 8, t.val / 8] ∧ win0_1.index t = ![0, t.val / 8]
    ∧ win0_2.index t = ![0, t.val / 8] ∧ win0_3.index t = ![t.val % 8, t.val / 8] ∧ win0_4.index t = ![t.val / 8, t.val % 8, 0] :=
  (by decide +kernel : ∀ t : Fin grid0.N, _)

section fwd

variable (V : (c : Dev nD) → (b : Ref sig .tc) → Buf (Elt Ideal) ((c : Thread nD τ).loc b)) (c : Dev nD)
  {Q K W : Fin 8 → Fin 8192 → Fin 128 → ℝ}
  (hQ : (V c main_v8 : S8192x1024.Idx → EReal) = byLane Q) (hK : (V c main_v11 : S8192x1024.Idx → EReal) = byLane K)
  (hW : (V c main_v14 : S8192x1024.Idx → EReal) = byLane W)

include hQ in
theorem blk0_0 (t : Fin cfg0.N) : TileAt (iblk0 V c 0 t : Vec Ideal S1024x128 .bf16) (Q (hd t.val (lt0 t))) (1024 * (t.val % 8)) (tile_bound t.val) := by
  intro y d
  have e := congrFun hQ (((cfg0.win 0).blk t).view.emb (ix2 y d : S1024x128.Idx))
  refine Eq.trans (b := (V c main_v8 : S8192x1024.Idx → EReal) (((cfg0.win 0).blk t).view.emb (ix2 y d : S1024x128.Idx))) ?_ (e.trans (byLane_at _ _ _ _ _ ?_ ?_))
  · blk_simp [iblk0]
  · blk_simp [idx0 t]; simp [col]; omega
  · blk_simp [idx0 t]; simp [hd]

include hK in
theorem blk0_1 (t : Fin cfg0.N) (r : Fin 8192) (d : Fin 128) :
    (iblk0 V c 1 t : Vec Ideal S8192x128 .bf16) (ix2 r d) = ((K (hd t.val (lt0 t)) r d : ℝ) : EReal) := by
  have e := congrFun hK (((cfg0.win 1).blk t).view.emb (ix2 r d : S8192x128.Idx))
  refine Eq.trans (b := (V c main_v11 : S8192x1024.Idx → EReal) (((cfg0.win 1).blk t).view.emb (ix2 r d : S8192x128.Idx))) ?_ (e.trans (byLane_at _ _ _ _ _ ?_ ?_))
  · blk_simp [iblk0]
  · blk_simp [idx0 t]
  · blk_simp [idx0 t]; simp [hd]

include hW in
theorem blk0_2 (t : Fin cfg0.N) (r : Fin 8192) (d : Fin 128) :
    (iblk0 V c 2 t : Vec Ideal S8192x128 .bf16) (ix2 r d) = ((W (hd t.val (lt0 t)) r d : ℝ) : EReal) := by
  have e := congrFun hW (((cfg0.win 2).blk t).view.emb (ix2 r d : S8192x128.Idx))
  refine Eq.trans (b := (V c main_v14 : S8192x1024.Idx → EReal) (((cfg0.win 2).blk t).view.emb (ix2 r d : S8192x128.Idx))) ?_ (e.trans (byLane_at _ _ _ _ _ ?_ ?_))
  · blk_simp [iblk0]
  · blk_simp [idx0 t]
  · blk_simp [idx0 t]; simp [hd]

include hQ hK hW

/-- The array of outputs. -/
theorem arr0_3 : ((dat0 V c).arrAt 3 cfg0.N : S8192x1024.Idx → EReal) = byLane fun h => attO (Q h) (K h) (W h) := by
  refine (dat0 V c).arrAt_eq_of_covers 3 (byLane fun h => attO (Q h) (K h) (W h)) (by decide +kernel) fun t _ y => ?_
  blk_simp
  rw [after0_3]
  unfold outsAt0
  dsimp only
  obtain ⟨a, d, rfl⟩ : ∃ (a : Fin 1024) (d : Fin 128), y = ix2 a d := ⟨y 0, y 1, by funext b; match b with | ⟨0, _⟩ => rfl | ⟨1, _⟩ => rfl⟩
  refine (out3_at c t _ _ _ _ _ _ _ _ _ _ (blk0_0 V c hQ t) (blk0_1 V c hK t) (blk0_2 V c hW t) a d).trans (Eq.symm (byLane_at _ _ (hd t.val (lt0 t)) _ _ ?_ ?_))
  · blk_simp [idx0 t]; simp [col]; omega
  · blk_simp [idx0 t]; simp [hd]

/-- The array of logarithms. -/
theorem arr0_4 : ((dat0 V c).arrAt 4 cfg0.N : S8x8192x1.Idx → EReal) = byHead fun h => attL (Q h) (K h) := by
  refine (dat0 V c).arrAt_eq_of_covers 4 (byHead fun h => attL (Q h) (K h)) (by decide +kernel) fun t _ y => ?_
  blk_simp
  rw [after0_4]
  unfold outsAt0
  dsimp only
  obtain ⟨a, rfl⟩ : ∃ a : Fin 1024, y = ix3 0 a 0 :=
    ⟨y 1, by funext b; match b with
      | ⟨0, _⟩ => exact Fin.ext (by have h : (y 0).val < 1 := (y 0).isLt; show (y 0).val = 0; omega)
      | ⟨1, _⟩ => rfl
      | ⟨2, _⟩ => exact Fin.ext (by have h : (y 2).val < 1 := (y 2).isLt; show (y 2).val = 0; omega)⟩
  refine (out4_at c t _ _ _ _ _ _ _ _ _ _ (blk0_0 V c hQ t) (blk0_1 V c hK t) (blk0_2 V c hW t) a).trans (Eq.symm (byHead_at _ _ (hd t.val (lt0 t)) _ ?_ ?_))
  · blk_simp [idx0 t]; simp [hd]
  · blk_simp [idx0 t]; simp [col]; omega

end fwd

end Cert.KernelIdeal.Val
-- ==== Proof.BwdArr.lean ====
module

public import proofs.«01_k».proof.Proof.BwdBody
public import proofs.«01_k».proof.Proof.FwdArr

/-!
# The arrays the backward kernel leaves

The gradients of the keys and values of one head gather over its eight query blocks; the eighth point of a head stores
them. The gradient of the queries is stored block by block.
-/

@[expose] public section

set_option maxRecDepth 16384

namespace Cert.KernelIdeal.Val

open Idealize.ShloMosaic Idealize.ShloMosaic.TcCoe Idealize.ShloMosaic.Tactic
open Idealize.ShloMosaic.Pipeline (Dat)
open Cert.KernelIdeal Cert.KernelIdeal.Gen Cert.Attn

theorem lt1 (t : Fin cfg1.N) : t.val < 64 := t.isLt

theorem idx1 : ∀ t : Fin cfg1.N, win1_0.index t = ![t.val % 8, t.val / 8] ∧ win1_1.index t = ![0, t.val / 8]
    ∧ win1_2.index t = ![0, t.val / 8] ∧ win1_3.index t = ![t.val % 8, t.val / 8] ∧ win1_4.index t = ![t.val % 8, t.val / 8]
    ∧ win1_5.index t = ![t.val / 8, t.val % 8, 0] ∧ win1_6.index t = ![t.val % 8, t.val / 8] ∧ win1_7.index t = ![0, t.val / 8]
    ∧ win1_8.index t = ![0, t.val / 8] :=
  (by decide +kernel : ∀ t : Fin grid1.N, _)

/-- The gradient of the queries, but for the scale of the products. -/
noncomputable def gradQ (Q K V O G : Fin 8192 → Fin 128 → ℝ) (L : Fin 8192 → ℝ) (r : Fin 8192) (d : Fin 128) : ℝ :=
  (∑ k, dsc Q K V O G L r k * K k d) * (Real.sqrt 96)⁻¹

/-- What the query rows before `n` give the gradient of the keys. -/
noncomputable def partK (Q K V O G : Fin 8192 → Fin 128 → ℝ) (L : Fin 8192 → ℝ) (n : ℕ) (k : Fin 8192) (d : Fin 128) : ℝ :=
  (∑ r ∈ below n, dsc Q K V O G L r k * Q r d) * Real.log 2

/-- What the query rows before `n` give the gradient of the values. -/
noncomputable def partV (Q K G : Fin 8192 → Fin 128 → ℝ) (L : Fin 8192 → ℝ) (n : ℕ) (k : Fin 8192) (d : Fin 128) : ℝ :=
  ∑ r ∈ below n, prob Q K L r k * G r d

theorem partK_zero (Q K V O G : Fin 8192 → Fin 128 → ℝ) (L : Fin 8192 → ℝ) (k : Fin 8192) (d : Fin 128) :
    partK Q K V O G L 0 k d = 0 := by rw [partK, below_zero, Finset.sum_empty, zero_mul]

theorem partV_zero (Q K G : Fin 8192 → Fin 128 → ℝ) (L : Fin 8192 → ℝ) (k : Fin 8192) (d : Fin 128) :
    partV Q K G L 0 k d = 0 := by rw [partV, below_zero, Finset.sum_empty]

theorem partK_start (Q K V O G : Fin 8192 → Fin 128 → ℝ) (L : Fin 8192 → ℝ) (n : ℕ) (hn : n = 0) (k : Fin 8192) (d : Fin 128) :
    partK Q K V O G L n k d = 0 := by rw [hn, partK_zero]

theorem partV_start (Q K G : Fin 8192 → Fin 128 → ℝ) (L : Fin 8192 → ℝ) (n : ℕ) (hn : n = 0) (k : Fin 8192) (d : Fin 128) :
    partV Q K G L n k d = 0 := by rw [hn, partV_zero]

theorem partK_add (Q K V O G : Fin 8192 → Fin 128 → ℝ) (L : Fin 8192 → ℝ) (n : ℕ) (hn : n + 1024 ≤ 8192) (k : Fin 8192) (d : Fin 128) :
    partK Q K V O G L (n + 1024) k d = partK Q K V O G L n k d + updK Q K V O G L n hn k d := by
  rw [partK, partK, updK, sum_below_add _ n hn, add_mul]

theorem partV_add (Q K G : Fin 8192 → Fin 128 → ℝ) (L : Fin 8192 → ℝ) (n : ℕ) (hn : n + 1024 ≤ 8192) (k : Fin 8192) (d : Fin 128) :
    partV Q K G L (n + 1024) k d = partV Q K G L n k d + updV Q K G L n hn k d := by
  rw [partV, partV, updV, sum_below_add _ n hn]

section bwd

variable (V : (c : Dev nD) → (b : Ref sig .tc) → Buf (Elt Ideal) ((c : Thread nD τ).loc b)) (c : Dev nD)
  {Q K W O G : Fin 8 → Fin 8192 → Fin 128 → ℝ} {L : Fin 8 → Fin 8192 → ℝ}
  (hQ : (V c main_v8 : S8192x1024.Idx → EReal) = byLane Q) (hK : (V c main_v11 : S8192x1024.Idx → EReal) = byLane K)
  (hW : (V c main_v14 : S8192x1024.Idx → EReal) = byLane W) (hO : (V c main_v18_0 : S8192x1024.Idx → EReal) = byLane O)
  (hG : (V c main_v17 : S8192x1024.Idx → EReal) = byLane G) (hL : (V c main_v18_1 : S8x8192x1.Idx → EReal) = byHead L)

include hQ in
theorem blk1_0 (t : Fin cfg1.N) : TileAt (iblk1 V c 0 t : Vec Ideal S1024x128 .bf16) (Q (hd t.val (lt1 t))) (1024 * (t.val % 8)) (tile_bound t.val) := by
  intro y d
  have e := congrFun hQ (((cfg1.win 0).blk t).view.emb (ix2 y d : S1024x128.Idx))
  refine Eq.trans (b := (V c main_v8 : S8192x1024.Idx → EReal) (((cfg1.win 0).blk t).view.emb (ix2 y d : S1024x128.Idx))) ?_ (e.trans (byLane_at _ _ _ _ _ ?_ ?_))
  · blk_simp [iblk1]
  · blk_simp [idx1 t]; simp [col]; omega
  · blk_simp [idx1 t]; simp [hd]

include hK in
theorem blk1_1 (t : Fin cfg1.N) (r : Fin 8192) (d : Fin 128) :
    (iblk1 V c 1 t : Vec Ideal S8192x128 .bf16) (ix2 r d) = ((K (hd t.val (lt1 t)) r d : ℝ) : EReal) := by
  have e := congrFun hK (((cfg1.win 1).blk t).view.emb (ix2 r d : S8192x128.Idx))
  refine Eq.trans (b := (V c main_v11 : S8192x1024.Idx → EReal) (((cfg1.win 1).blk t).view.emb (ix2 r d : S8192x128.Idx))) ?_ (e.trans (byLane_at _ _ _ _ _ ?_ ?_))
  · blk_simp [iblk1]
  · blk_simp [idx1 t]
  · blk_simp [idx1 t]; simp [hd]

include hW in
theorem blk1_2 (t : Fin cfg1.N) (r : Fin 8192) (d : Fin 128) :
    (iblk1 V c 2 t : Vec Ideal S8192x128 .bf16) (ix2 r d) = ((W (hd t.val (lt1 t)) r d : ℝ) : EReal) := by
  have e := congrFun hW (((cfg1.win 2).blk t).view.emb (ix2 r d : S8192x128.Idx))
  refine Eq.trans (b := (V c main_v14 : S8192x1024.Idx → EReal) (((cfg1.win 2).blk t).view.emb (ix2 r d : S8192x128.Idx))) ?_ (e.trans (byLane_at _ _ _ _ _ ?_ ?_))
  · blk_simp [iblk1]
  · blk_simp [idx1 t]
  · blk_simp [idx1 t]; simp [hd]

include hO in
theorem blk1_3 (t : Fin cfg1.N) : TileAt (iblk1 V c 3 t : Vec Ideal S1024x128 .bf16) (O (hd t.val (lt1 t))) (1024 * (t.val % 8)) (tile_bound t.val) := by
  intro y d
  have e := congrFun hO (((cfg1.win 3).blk t).view.emb (ix2 y d : S1024x128.Idx))
  refine Eq.trans (b := (V c main_v18_0 : S8192x1024.Idx → EReal) (((cfg1.win 3).blk t).view.emb (ix2 y d : S1024x128.Idx))) ?_ (e.trans (byLane_at _ _ _ _ _ ?_ ?_))
  · blk_simp [iblk1]
  · blk_simp [idx1 t]; simp [col]; omega
  · blk_simp [idx1 t]; simp [hd]

include hG in
theorem blk1_4 (t : Fin cfg1.N) : TileAt (iblk1 V c 4 t : Vec Ideal S1024x128 .bf16) (G (hd t.val (lt1 t))) (1024 * (t.val % 8)) (tile_bound t.val) := by
  intro y d
  have e := congrFun hG (((cfg1.win 4).blk t).view.emb (ix2 y d : S1024x128.Idx))
  refine Eq.trans (b := (V c main_v17 : S8192x1024.Idx → EReal) (((cfg1.win 4).blk t).view.emb (ix2 y d : S1024x128.Idx))) ?_ (e.trans (byLane_at _ _ _ _ _ ?_ ?_))
  · blk_simp [iblk1]
  · blk_simp [idx1 t]; simp [col]; omega
  · blk_simp [idx1 t]; simp [hd]

include hL in
theorem blk1_5 (t : Fin cfg1.N) (y : Fin 1024) :
    (iblk1 V c 5 t : Vec Ideal S1x1024x1 .f32) (ix3 0 y 0) = ((L (hd t.val (lt1 t)) (col (1024 * (t.val % 8)) (tile_bound t.val) y) : ℝ) : EReal) := by
  have e := congrFun hL (((cfg1.win 5).blk t).view.emb (ix3 0 y 0 : S1x1024x1.Idx))
  refine Eq.trans (b := (V c main_v18_1 : S8x8192x1.Idx → EReal) (((cfg1.win 5).blk t).view.emb (ix3 0 y 0 : S1x1024x1.Idx))) ?_ (e.trans (byHead_at _ _ _ _ ?_ ?_))
  · blk_simp [iblk1]
  · blk_simp [idx1 t]; simp [hd]
  · blk_simp [idx1 t]; simp [col]; omega

include hQ hK hW hO hG hL

/-- What the three outputs' buffers hold after a point: the block of the gradient of the queries, and the two other
    gradients over the query rows met so far. -/
theorem outs_at (t : Fin cfg1.N) :
    (∀ (y : Fin 1024) (d : Fin 128), (outsAt1 V c t.val t.isLt).1 (ix2 y d)
      = ((gradQ (Q (hd t.val (lt1 t))) (K (hd t.val (lt1 t))) (W (hd t.val (lt1 t))) (O (hd t.val (lt1 t))) (G (hd t.val (lt1 t))) (L (hd t.val (lt1 t)))
          (col (1024 * (t.val % 8)) (tile_bound t.val) y) d : ℝ) : EReal))
    ∧ (∀ (r : Fin 8192) (d : Fin 128), (outsAt1 V c t.val t.isLt).2.1 (ix2 r d)
      = ((partK (Q (hd t.val (lt1 t))) (K (hd t.val (lt1 t))) (W (hd t.val (lt1 t))) (O (hd t.val (lt1 t))) (G (hd t.val (lt1 t))) (L (hd t.val (lt1 t)))
          (1024 * (t.val % 8) + 1024) r d : ℝ) : EReal))
    ∧ (∀ (r : Fin 8192) (d : Fin 128), (outsAt1 V c t.val t.isLt).2.2 (ix2 r d)
      = ((partV (Q (hd t.val (lt1 t))) (K (hd t.val (lt1 t))) (G (hd t.val (lt1 t))) (L (hd t.val (lt1 t))) (1024 * (t.val % 8) + 1024) r d : ℝ) : EReal)) := by
  obtain ⟨n, hn⟩ := t
  induction n with
  | zero =>
    have h0 : (⟨0, hn⟩ : Fin cfg1.N).val % 8 = 0 := rfl
    have e := outsAt1_A V c ⟨0, hn⟩ h0
    rw [e]
    dsimp only
    refine ⟨fun y d => ?_, fun r d => ?_, fun r d => ?_⟩
    · exact outA6_at c ⟨0, hn⟩ _ _ _ _ _ _ _ _ _ _ _ _ _ _ _ _ _ _ (blk1_0 V c hQ _) (blk1_1 V c hK _) (blk1_2 V c hW _) (blk1_3 V c hO _)
        (blk1_4 V c hG _) (blk1_5 V c hL _) h0 _ y d
    · refine (outA7_at c ⟨0, hn⟩ _ _ _ _ _ _ _ _ _ _ _ _ _ _ _ _ _ _ (blk1_0 V c hQ _) (blk1_1 V c hK _) (blk1_2 V c hW _) (blk1_3 V c hO _)
        (blk1_4 V c hG _) (blk1_5 V c hL _) h0 _ r d).trans ?_
      rw [partK_add _ _ _ _ _ _ _ (tile_bound 0)]
      dsimp only
      rw [partK_start _ _ _ _ _ _ _ rfl, zero_add]
    · refine (outA8_at c ⟨0, hn⟩ _ _ _ _ _ _ _ _ _ _ _ _ _ _ _ _ _ _ (blk1_0 V c hQ _) (blk1_1 V c hK _) (blk1_2 V c hW _) (blk1_3 V c hO _)
        (blk1_4 V c hG _) (blk1_5 V c hL _) h0 _ r d).trans ?_
      rw [partV_add _ _ _ _ _ (tile_bound 0)]
      dsimp only
      rw [partV_start _ _ _ _ _ rfl, zero_add]
  | succ n ih =>
    by_cases h0 : (n + 1) % 8 = 0
    · have e := outsAt1_A V c ⟨n + 1, hn⟩ h0
      rw [e]
      dsimp only
      refine ⟨fun y d => ?_, fun r d => ?_, fun r d => ?_⟩
      · exact outA6_at c ⟨n + 1, hn⟩ _ _ _ _ _ _ _ _ _ _ _ _ _ _ _ _ _ _ (blk1_0 V c hQ _) (blk1_1 V c hK _) (blk1_2 V c hW _) (blk1_3 V c hO _)
          (blk1_4 V c hG _) (blk1_5 V c hL _) h0 _ y d
      · refine (outA7_at c ⟨n + 1, hn⟩ _ _ _ _ _ _ _ _ _ _ _ _ _ _ _ _ _ _ (blk1_0 V c hQ _) (blk1_1 V c hK _) (blk1_2 V c hW _) (blk1_3 V c hO _)
          (blk1_4 V c hG _) (blk1_5 V c hL _) h0 _ r d).trans ?_
        rw [partK_add _ _ _ _ _ _ _ (tile_bound (n + 1)), EReal.coe_eq_coe_iff, partK_start _ _ _ _ _ _ _ (by omega), zero_add]
      · refine (outA8_at c ⟨n + 1, hn⟩ _ _ _ _ _ _ _ _ _ _ _ _ _ _ _ _ _ _ (blk1_0 V c hQ _) (blk1_1 V c hK _) (blk1_2 V c hW _) (blk1_3 V c hO _)
          (blk1_4 V c hG _) (blk1_5 V c hL _) h0 _ r d).trans ?_
        rw [partV_add _ _ _ _ _ (tile_bound (n + 1)), EReal.coe_eq_coe_iff, partV_start _ _ _ _ _ (by omega), zero_add]
    · obtain ⟨_, i2, i3⟩ := ih (by omega)
      have eh : hd n (lt1 ⟨n, by omega⟩) = hd (n + 1) (lt1 ⟨n + 1, hn⟩) := Fin.ext (by show n / 8 = (n + 1) / 8; omega)
      have eb : 1024 * (n % 8) + 1024 = 1024 * ((n + 1) % 8) := by omega
      dsimp only at i2 i3
      rw [eh, eb] at i2 i3
      have e := outsAt1_B V c ⟨n + 1, hn⟩ h0
      rw [e]
      dsimp only
      refine ⟨fun y d => ?_, fun r d => ?_, fun r d => ?_⟩
      · exact outB6_at c ⟨n + 1, hn⟩ _ _ _ _ _ _ _ _ _ _ _ _ _ _ _ _ _ _ (blk1_0 V c hQ _) (blk1_1 V c hK _) (blk1_2 V c hW _) (blk1_3 V c hO _)
          (blk1_4 V c hG _) (blk1_5 V c hL _) _ _ _ i2 i3 y d
      · refine (outB7_at c ⟨n + 1, hn⟩ _ _ _ _ _ _ _ _ _ _ _ _ _ _ _ _ _ _ (blk1_0 V c hQ _) (blk1_1 V c hK _) (blk1_2 V c hW _) (blk1_3 V c hO _)
          (blk1_4 V c hG _) (blk1_5 V c hL _) _ _ _ i2 i3 r d).trans ?_
        rw [partK_add _ _ _ _ _ _ _ (tile_bound (n + 1))]
      · refine (outB8_at c ⟨n + 1, hn⟩ _ _ _ _ _ _ _ _ _ _ _ _ _ _ _ _ _ _ (blk1_0 V c hQ _) (blk1_1 V c hK _) (blk1_2 V c hW _) (blk1_3 V c hO _)
          (blk1_4 V c hG _) (blk1_5 V c hL _) _ _ _ i2 i3 r d).trans ?_
        rw [partV_add _ _ _ _ _ (tile_bound (n + 1))]

/-- The array of gradients of the queries. -/
theorem arr1_6 : ((dat1 V c).arrAt 6 cfg1.N : S8192x1024.Idx → EReal) = byLane fun h => gradQ (Q h) (K h) (W h) (O h) (G h) (L h) := by
  refine (dat1 V c).arrAt_eq_of_covers 6 (byLane fun h => gradQ (Q h) (K h) (W h) (O h) (G h) (L h)) (by decide +kernel) fun t _ y => ?_
  blk_simp
  rw [after1_6]
  obtain ⟨a, d, rfl⟩ : ∃ (a : Fin 1024) (d : Fin 128), y = ix2 a d := ⟨y 0, y 1, by funext b; match b with | ⟨0, _⟩ => rfl | ⟨1, _⟩ => rfl⟩
  refine ((outs_at V c hQ hK hW hO hG hL t).1 a d).trans (Eq.symm (byLane_at _ _ (hd t.val (lt1 t)) _ _ ?_ ?_))
  · blk_simp [idx1 t]; simp [col]; omega
  · blk_simp [idx1 t]; simp [hd]

/-- The array of gradients of the keys. -/
theorem arr1_7 : ((dat1 V c).arrAt 7 cfg1.N : S8192x1024.Idx → EReal) = byLane fun h => partK (Q h) (K h) (W h) (O h) (G h) (L h) 8192 := by
  refine (dat1 V c).arrAt_eq_of_covers 7 (byLane fun h => partK (Q h) (K h) (W h) (O h) (G h) (L h) 8192) (by decide +kernel) fun t hf y => ?_
  have h7 := (flush1_7 t).mp hf
  blk_simp
  rw [after1_7]
  obtain ⟨a, d, rfl⟩ : ∃ (a : Fin 8192) (d : Fin 128), y = ix2 a d := ⟨y 0, y 1, by funext b; match b with | ⟨0, _⟩ => rfl | ⟨1, _⟩ => rfl⟩
  have e := (outs_at V c hQ hK hW hO hG hL t).2.1 a d
  rw [show 1024 * (t.val % 8) + 1024 = 8192 by omega] at e
  refine e.trans (Eq.symm (byLane_at _ _ (hd t.val (lt1 t)) _ _ ?_ ?_))
  · blk_simp [idx1 t]
  · blk_simp [idx1 t]; simp [hd]

/-- The array of gradients of the values. -/
theorem arr1_8 : ((dat1 V c).arrAt 8 cfg1.N : S8192x1024.Idx → EReal) = byLane fun h => partV (Q h) (K h) (G h) (L h) 8192 := by
  refine (dat1 V c).arrAt_eq_of_covers 8 (byLane fun h => partV (Q h) (K h) (G h) (L h) 8192) (by decide +kernel) fun t hf y => ?_
  have h7 := (flush1_8 t).mp hf
  blk_simp
  rw [after1_8]
  obtain ⟨a, d, rfl⟩ : ∃ (a : Fin 8192) (d : Fin 128), y = ix2 a d := ⟨y 0, y 1, by funext b; match b with | ⟨0, _⟩ => rfl | ⟨1, _⟩ => rfl⟩
  have e := (outs_at V c hQ hK hW hO hG hL t).2.2 a d
  rw [show 1024 * (t.val % 8) + 1024 = 8192 by omega] at e
  refine e.trans (Eq.symm (byLane_at _ _ (hd t.val (lt1 t)) _ _ ?_ ?_))
  · blk_simp [idx1 t]
  · blk_simp [idx1 t]; simp [hd]

end bwd

end Cert.KernelIdeal.Val
-- ==== Proof.Spec.lean ====
module

public import proofs.«01_k».proof.Proof.Math

/-!
# Causal attention and its gradient, written plainly

The arrays are functions of a row, a head and a coordinate. Row `r` of head `h` attends to the rows `c ≤ r`. `aOut` is the output
of the attention, and `aDq`, `aDk`, `aDv` are what the gradient `g` of the output gives back to the queries, the keys and the
values. Both programs are shown to compute these four functions.
-/

@[expose] public section

namespace Cert.Attn

open Idealize.ShloMosaic

variable (q k : Fin 8192 → Fin 8 → Fin 96 → ℝ) (v g : Fin 8192 → Fin 8 → Fin 64 → ℝ)

/-- The scaled score of a query row against a key row. -/
noncomputable def logit (h : Fin 8) (r c : Fin 8192) : ℝ := (∑ d, q r h d * k c h d) * (Real.sqrt 96)⁻¹

/-- The exponential of a score, nought for a row that may not be seen. -/
noncomputable def massAt (h : Fin 8) (r c : Fin 8192) : ℝ := if c ≤ r then Real.exp (logit q k h r c) else 0

/-- The sum the weights of a row are divided by. -/
noncomputable def mass (h : Fin 8) (r : Fin 8192) : ℝ := ∑ c, massAt q k h r c

/-- The weight of a key row for a query row. -/
noncomputable def weight (h : Fin 8) (r c : Fin 8192) : ℝ := massAt q k h r c / mass q k h r

/-- The output of the attention. -/
noncomputable def aOut (r : Fin 8192) (h : Fin 8) (d : Fin 64) : ℝ := ∑ c, v c h d * weight q k h r c

/-- The gradient of a weight. -/
noncomputable def dWeight (h : Fin 8) (r c : Fin 8192) : ℝ := ∑ d, g r h d * v c h d

/-- The mean of those gradients over a row, under the weights. -/
noncomputable def rowMean (h : Fin 8) (r : Fin 8192) : ℝ := ∑ c, dWeight v g h r c * weight q k h r c

/-- The gradient of a score, before the scale. -/
noncomputable def dLogit (h : Fin 8) (r c : Fin 8192) : ℝ := (dWeight v g h r c - rowMean q k v g h r) * weight q k h r c

/-- The gradient of the queries. -/
noncomputable def aDq (r : Fin 8192) (h : Fin 8) (d : Fin 96) : ℝ := ∑ c, dLogit q k v g h r c * (Real.sqrt 96)⁻¹ * k c h d

/-- The gradient of the keys. -/
noncomputable def aDk (c : Fin 8192) (h : Fin 8) (d : Fin 96) : ℝ := ∑ r, dLogit q k v g h r c * (Real.sqrt 96)⁻¹ * q r h d

/-- The gradient of the values. -/
noncomputable def aDv (c : Fin 8192) (h : Fin 8) (d : Fin 64) : ℝ := ∑ r, g r h d * weight q k h r c

theorem massAt_nonneg (h : Fin 8) (r c : Fin 8192) : 0 ≤ massAt q k h r c := by
  unfold massAt; split
  · exact (Real.exp_pos _).le
  · exact le_rfl

theorem mass_pos (h : Fin 8) (r : Fin 8192) : 0 < mass q k h r := by
  refine lt_of_lt_of_le ?_ (Finset.single_le_sum (fun c _ => massAt_nonneg q k h r c) (Finset.mem_univ r))
  rw [massAt, if_pos le_rfl]; exact Real.exp_pos _

theorem weight_of_not_le (h : Fin 8) {r c : Fin 8192} (hc : ¬ c ≤ r) : weight q k h r c = 0 := by
  rw [weight, massAt, if_neg hc, zero_div]

theorem dLogit_of_not_le (h : Fin 8) {r c : Fin 8192} (hc : ¬ c ≤ r) : dLogit q k v g h r c = 0 := by
  rw [dLogit, weight_of_not_le q k h hc, mul_zero]

theorem sqrt96_pos : 0 < Real.sqrt 96 := Real.sqrt_pos.mpr (by norm_num)

/-- The same exponential with a shift of the row taken off the score first. -/
noncomputable def shifted (M : Fin 8 → Fin 8192 → ℝ) (h : Fin 8) (r c : Fin 8192) : ℝ :=
  if c ≤ r then Real.exp (logit q k h r c - M h r) else 0

noncomputable def shiftedSum (M : Fin 8 → Fin 8192 → ℝ) (h : Fin 8) (r : Fin 8192) : ℝ := ∑ c, shifted q k M h r c

theorem shifted_eq (M : Fin 8 → Fin 8192 → ℝ) (h : Fin 8) (r c : Fin 8192) :
    shifted q k M h r c = massAt q k h r c * Real.exp (-M h r) := by
  unfold shifted massAt
  split
  · rw [sub_eq_add_neg, Real.exp_add]
  · rw [zero_mul]

theorem shiftedSum_eq (M : Fin 8 → Fin 8192 → ℝ) (h : Fin 8) (r : Fin 8192) :
    shiftedSum q k M h r = mass q k h r * Real.exp (-M h r) := by
  simp only [shiftedSum, shifted_eq, mass, Finset.sum_mul]

theorem shiftedSum_pos (M : Fin 8 → Fin 8192 → ℝ) (h : Fin 8) (r : Fin 8192) : 0 < shiftedSum q k M h r := by
  rw [shiftedSum_eq]; exact mul_pos (mass_pos q k h r) (Real.exp_pos _)

/-- The shift drops out of a weight. -/
theorem shifted_div (M : Fin 8 → Fin 8192 → ℝ) (h : Fin 8) (r c : Fin 8192) :
    shifted q k M h r c * (1 / shiftedSum q k M h r) = weight q k h r c := by
  have h1 := (mass_pos q k h r).ne'
  have h2 := (Real.exp_pos (-M h r)).ne'
  rw [shifted_eq, shiftedSum_eq, weight]
  field_simp

/-- The shift drops out of the gradient of a score too. -/
theorem shifted_grad (M : Fin 8 → Fin 8192 → ℝ) (h : Fin 8) (r c : Fin 8192) :
    (dWeight v g h r c * (1 / shiftedSum q k M h r)
      + -∑ x, dWeight v g h r x * (1 * (1 / (shiftedSum q k M h r * shiftedSum q k M h r))) * shifted q k M h r x) * shifted q k M h r c
      = dLogit q k v g h r c := by
  have h3 := (shiftedSum_pos q k M h r).ne'
  have e : (∑ x, dWeight v g h r x * (1 * (1 / (shiftedSum q k M h r * shiftedSum q k M h r))) * shifted q k M h r x)
      = rowMean q k v g h r * (1 / shiftedSum q k M h r) := by
    rw [rowMean, Finset.sum_mul]
    refine Finset.sum_congr rfl fun x _ => ?_
    rw [← shifted_div q k M]
    field_simp
  rw [e, dLogit, ← shifted_div q k M h r c]
  ring

end Cert.Attn
-- ==== Proof.Bridge.lean ====
module

public import proofs.«01_k».proof.Proof.BwdArr
public import proofs.«01_k».proof.Proof.Spec

/-!
# The kernels' formulas are the plain ones

The kernels work on heads padded with zeros to 128 lanes, on queries already scaled, and with powers of two. With the padding
and the scale put in, their formulas are those of Proof/Spec.lean.
-/

@[expose] public section

namespace Cert.Attn

open Idealize.ShloMosaic
open Cert.KernelIdeal.Val

/-- A row of `n` numbers followed by zeros. -/
noncomputable def padTo {n : ℕ} (f : Fin n → ℝ) (d : Fin 128) : ℝ := if h : d.val < n then f ⟨d.val, h⟩ else 0

theorem padTo_of_lt {n : ℕ} (f : Fin n → ℝ) (d : Fin 128) (h : d.val < n) : padTo f d = f ⟨d.val, h⟩ := dif_pos h

theorem padTo_mul {n : ℕ} (f g : Fin n → ℝ) (d : Fin 128) : padTo f d * padTo g d = padTo (fun e => f e * g e) d := by
  unfold padTo; split <;> simp

/-- The zeros add nothing to a sum. -/
theorem sum_padTo {n : ℕ} (hn : n ≤ 128) (f : Fin n → ℝ) : ∑ d, padTo f d = ∑ d, f d := by
  have e : ∀ N, ∀ h : n ≤ N, (∑ d : Fin N, (if h : d.val < n then f ⟨d.val, h⟩ else 0)) = ∑ d, f d := by
    intro N h
    obtain ⟨p, rfl⟩ := Nat.exists_eq_add_of_le h
    rw [Fin.sum_univ_add]
    simp
  exact e 128 hn

variable (q k : Fin 8192 → Fin 8 → Fin 96 → ℝ) (v g : Fin 8192 → Fin 8 → Fin 64 → ℝ)

/-- The queries as the kernels take them: scaled, padded, head by head. -/
noncomputable def laneQ (h : Fin 8) (r : Fin 8192) : Fin 128 → ℝ := padTo fun d => q r h d * (1 * (1 / (Real.sqrt 96 * Real.log 2)))

/-- An array of heads as the kernels take it. -/
noncomputable def lanes {n : ℕ} (f : Fin 8192 → Fin 8 → Fin n → ℝ) (h : Fin 8) (r : Fin 8192) : Fin 128 → ℝ := padTo (f r h)

theorem score_lanes (h : Fin 8) (r c : Fin 8192) : Real.log 2 * score (laneQ q h) (lanes k h) r c = logit q k h r c := by
  have l2 := log2_pos.ne'
  have s96 := sqrt96_pos.ne'
  simp only [score, laneQ, lanes, padTo_mul]
  rw [sum_padTo (by decide), logit, Finset.mul_sum, Finset.sum_mul]
  refine Finset.sum_congr rfl fun d _ => ?_
  field_simp

theorem pw_score (h : Fin 8) (r c : Fin 8192) : pw (score (laneQ q h) (lanes k h) r c) = Real.exp (logit q k h r c) := by
  rw [pw_eq_exp, score_lanes]

theorem wsum_lanes (h : Fin 8) (r : Fin 8192) : wsum (laneQ q h) (lanes k h) r = mass q k h r := by
  simp only [wsum, pw_score, Finset.sum_filter]
  rfl

/-- The output of the forward kernel, lane by lane. -/
theorem attO_lanes (h : Fin 8) (r : Fin 8192) (d : Fin 128) :
    attO (laneQ q h) (lanes k h) (lanes v h) r d = padTo (aOut q k v r h) d := by
  have e : attO (laneQ q h) (lanes k h) (lanes v h) r d = ∑ c, padTo (v c h) d * weight q k h r c := by
    simp only [attO, wsum_lanes, pw_score, Finset.sum_filter, Finset.sum_div]
    refine Finset.sum_congr rfl fun c _ => ?_
    unfold weight massAt lanes
    split
    · ring
    · simp
  rw [e]
  unfold padTo
  by_cases hd : d.val < 64
  · simp only [dif_pos hd]; rfl
  · simp only [dif_neg hd, zero_mul, Finset.sum_const_zero]

/-- The weights the backward kernel rebuilds from the saved logarithms. -/
theorem prob_lanes (h : Fin 8) (r c : Fin 8192) :
    prob (laneQ q h) (lanes k h) (attL (laneQ q h) (lanes k h)) r c = weight q k h r c := by
  have l2 := log2_pos.ne'
  unfold prob
  split
  · next hc =>
    rw [pw_eq_exp, mul_sub, score_lanes, attL, wsum_lanes, weight, massAt, if_pos hc, Real.exp_sub,
      show Real.log 2 * (Real.log (mass q k h r) * (Real.log 2)⁻¹) = Real.log (mass q k h r) by field_simp,
      Real.exp_log (mass_pos q k h r)]
  · next hc => rw [weight_of_not_le q k h hc]

theorem dsc_lanes (h : Fin 8) (r c : Fin 8192) :
    dsc (laneQ q h) (lanes k h) (lanes v h) (attO (laneQ q h) (lanes k h) (lanes v h)) (lanes g h)
      (attL (laneQ q h) (lanes k h)) r c = dLogit q k v g h r c := by
  have e1 : (∑ d, lanes g h r d * lanes v h c d) = dWeight v g h r c := by
    simp only [lanes, padTo_mul]
    exact sum_padTo (by decide) _
  have e2 : (∑ d, lanes g h r d * attO (laneQ q h) (lanes k h) (lanes v h) r d) = rowMean q k v g h r := by
    simp only [attO_lanes, lanes, padTo_mul]
    rw [sum_padTo (by decide)]
    simp only [aOut, rowMean, dWeight, Finset.mul_sum, Finset.sum_mul]
    rw [Finset.sum_comm]
    exact Finset.sum_congr rfl fun c _ => Finset.sum_congr rfl fun d _ => by ring
  rw [dsc, prob_lanes, e1, e2, dLogit, mul_comm]

/-- The gradient of the queries. -/
theorem gradQ_lanes (h : Fin 8) (r : Fin 8192) (d : Fin 96) :
    gradQ (laneQ q h) (lanes k h) (lanes v h) (attO (laneQ q h) (lanes k h) (lanes v h)) (lanes g h)
      (attL (laneQ q h) (lanes k h)) r ⟨d.val, by omega⟩ = aDq q k v g r h d := by
  simp only [gradQ, dsc_lanes, aDq, Finset.sum_mul]
  refine Finset.sum_congr rfl fun c _ => ?_
  rw [lanes, padTo_of_lt _ _ d.isLt]
  ring

theorem below_all : below 8192 = Finset.univ := by
  ext c; simp [below]

/-- The gradient of the keys. -/
theorem partK_lanes (h : Fin 8) (c : Fin 8192) (d : Fin 96) :
    partK (laneQ q h) (lanes k h) (lanes v h) (attO (laneQ q h) (lanes k h) (lanes v h)) (lanes g h)
      (attL (laneQ q h) (lanes k h)) 8192 c ⟨d.val, by omega⟩ = aDk q k v g c h d := by
  have l2 := log2_pos.ne'
  have s96 := sqrt96_pos.ne'
  simp only [partK, dsc_lanes, aDk, Finset.sum_mul, below_all]
  refine Finset.sum_congr rfl fun r _ => ?_
  rw [laneQ, padTo_of_lt _ _ d.isLt]
  field_simp

/-- The gradient of the values. -/
theorem partV_lanes (h : Fin 8) (c : Fin 8192) (d : Fin 64) :
    partV (laneQ q h) (lanes k h) (lanes g h) (attL (laneQ q h) (lanes k h)) 8192 c ⟨d.val, by omega⟩ = aDv q k g c h d := by
  simp only [partV, prob_lanes, aDv, below_all]
  refine Finset.sum_congr rfl fun r _ => ?_
  rw [lanes, padTo_of_lt _ _ d.isLt, mul_comm]

end Cert.Attn
-- ==== Proof.Prep.lean ====
module

public import proofs.«01_k».proof.Proof.Bridge
public import Idealize.ShloMosaic.Lib.StableHlo.RunRead
public import Idealize.ShloMosaic.Lib.KernelVsHost

/-!
# Before and after the two kernels

The host operations before the kernels scale the queries, pad each head to 128 lanes and lay the heads side by side; those after
them cut the lanes back. With the arguments holding real numbers the four results are the functions of Proof/Spec.lean.
-/

@[expose] public section

set_option maxRecDepth 16384

namespace Cert.KernelIdeal.Val

open Idealize.ShloMosaic Idealize.ShloMosaic.TcCoe Idealize.ShloMosaic.Tactic
open Cert.KernelIdeal Cert.KernelIdeal.Gen Cert.Attn

/-- Heads padded with zeros and laid side by side. -/
theorem pad_lanes {n : ℕ} (hn : n ≤ 128) (x : (⟨3, ![8192, 8, n]⟩ : Shape).Idx → EReal) {u : Shape} (z : u.Idx → EReal) (hu : 0 < u.numel)
    (f : Fin 8192 → Fin 8 → Fin n → ℝ) (hx : ∀ r h d, x (ix3 r h d) = ((f r h d : ℝ) : EReal)) (hz : ∀ i, z i = 0) (hi : Fin 3 → ℕ)
    (hp : (⟨3, ![8192, 8, n]⟩ : Shape).Pads (![0, 0, 0] : Fin 3 → ℕ) hi (![0, 0, 0] : Fin 3 → ℕ) S8192x8x128) (hs : S8192x8x128.ShapeCasts S8192x1024) :
    shapeCast S8192x1024 (pad S8192x8x128 ![0, 0, 0] hi ![0, 0, 0] x z hp hu) hs = byLane (lanes f) := by
  funext i
  have h1 : (i 1).val < 1024 := (i 1).isLt
  rw [shapeCast_apply _ hs i (ix3 ⟨(i 0).val, (i 0).isLt⟩ ⟨(i 1).val / 128, by omega⟩ ⟨(i 1).val % 128, Nat.mod_lt _ (by decide)⟩ : S8192x8x128.Idx)
    (by rw [Shape.rowMajor_val_two, Shape.rowMajor_val_three]; show ((i 0).val * 8 + (i 1).val / 128) * 128 + (i 1).val % 128 = (i 0).val * 1024 + (i 1).val; omega)]
  unfold byLane lanes padTo
  by_cases hd : (i 1).val % 128 < n
  · rw [dif_pos hd, ← hx]
    exact pad_apply_of_inside _ _ _ x z hp hu _ (ix3 ⟨(i 0).val, (i 0).isLt⟩ ⟨(i 1).val / 128, by omega⟩ ⟨(i 1).val % 128, hd⟩)
      (fun a => match a with
        | ⟨0, _⟩ => by simp [ix3]
        | ⟨1, _⟩ => by simp [ix3]
        | ⟨2, _⟩ => by simp [ix3])
  · rw [dif_neg hd, pad_apply_of_not_inside _ _ _ x z hp hu _ (2 : Fin 3) (fun hh => hd (by
      have := hh.2.2
      simpa [ix3] using this)), hz]
    rfl

variable (m : (ℓ : Loc nD τ sig) → Buf (Elt Ideal) ℓ) (ρ : Dev nD → PrngReg) (c : Dev nD)

/-- The number the queries are multiplied by. -/
theorem scale_at (i : S_.Idx) : (Host.divf (constant (F := Ideal) S_ FTy.f32 0x3F800000#32)
    (mulf (Host.sqrt (constant (F := Ideal) S_ FTy.f32 0x42C00000#32)) (Host.log (constant (F := Ideal) S_ FTy.f32 0x40000000#32))) : S_.Idx → EReal) i
    = ((1 * (1 / (Real.sqrt 96 * Real.log 2)) : ℝ) : EReal) := by
  have c96 : Ideal.ofBits .f32 0x42C00000#32 = ((96 : ℝ) : EReal) := by
    simp [Ideal.ofBits, Ideal.ieee]
    rw [← EReal.coe_mul]; norm_num
  have c2 : Ideal.ofBits .f32 0x40000000#32 = ((2 : ℝ) : EReal) := by
    simp [Ideal.ofBits, Ideal.ieee]
    rw [← EReal.coe_mul]; norm_num
  have c1 : Ideal.ofBits .f32 0x3F800000#32 = ((1 : ℝ) : EReal) := by
    simp [Ideal.ofBits, Ideal.ieee]
    rw [← EReal.coe_mul, ← EReal.coe_one]; norm_num
  show Ideal.div (Ideal.ofBits .f32 0x3F800000#32) (Ideal.sqrt (Ideal.ofBits .f32 0x42C00000#32) * Ideal.log (Ideal.ofBits .f32 0x40000000#32)) = _
  rw [c96, c2, c1, Ideal.sqrt_coe, if_neg (by norm_num), Ideal.log_coe, if_neg (by norm_num), ← EReal.coe_mul,
    Ideal.div_coe (mul_pos sqrt96_pos log2_pos).ne', ← EReal.coe_mul]

variable {q k : Fin 8192 → Fin 8 → Fin 96 → ℝ} {v g : Fin 8192 → Fin 8 → Fin 64 → ℝ}
  (hq : ∀ r h d, (m ((c : Thread nD τ).loc main_arg0) : S8192x8x96.Idx → EReal) (ix3 r h d) = ((q r h d : ℝ) : EReal))
  (hk : ∀ r h d, (m ((c : Thread nD τ).loc main_arg1) : S8192x8x96.Idx → EReal) (ix3 r h d) = ((k r h d : ℝ) : EReal))
  (hv : ∀ r h d, (m ((c : Thread nD τ).loc main_arg2) : S8192x8x64.Idx → EReal) (ix3 r h d) = ((v r h d : ℝ) : EReal))
  (hg : ∀ r h d, (m ((c : Thread nD τ).loc main_arg3) : S8192x8x64.Idx → EReal) (ix3 r h d) = ((g r h d : ℝ) : EReal))

/-- The padding is nought. -/
theorem zero_at (i : S_.Idx) : (sitofp (F := Ideal) FTy.f32 (constantI S_ 32 0#32) : S_.Idx → EReal) i = 0 := by
  show (((0#32 : BitVec 32).toInt : ℝ) : EReal) = 0
  simp

include hq in
theorem read_v8 : (V9 m ρ c main_v8 : S8192x1024.Idx → EReal) = byLane (laneQ q) := by
  have hx : ∀ r h d, (mulf (F := Ideal) (s := S8192x8x96) (φ := .f32) (m ((c : Thread nD τ).loc main_arg0)) (broadcastInDim S8192x8x96 ![] bcast_S_S8192x8x96
      (Host.divf (constant (F := Ideal) S_ FTy.f32 0x3F800000#32)
        (mulf (Host.sqrt (constant (F := Ideal) S_ FTy.f32 0x42C00000#32)) (Host.log (constant (F := Ideal) S_ FTy.f32 0x40000000#32))))) : S8192x8x96.Idx → EReal) (ix3 r h d)
      = ((q r h d * (1 * (1 / (Real.sqrt 96 * Real.log 2))) : ℝ) : EReal) := by
    intro r h d
    rw [EReal.coe_mul]
    exact congrArg₂ _ (hq r h d) ((broadcastInDim_apply _ bcast_S_S8192x8x96 _ _ (fun a => a.elim0 : S_.Idx) (fun a => a.elim0)).trans (scale_at _))
  show W9 m ρ c (Proc.devRef .tc main_v8) = _
  after_results_simp
  exact pad_lanes (by decide) _ (sitofp (F := Ideal) FTy.f32 (constantI S_ 32 0#32)) h_S_ _ hx zero_at ![0, 0, 32] pads_S8192x8x96_S8192x8x128_000_000_0320 shapeCasts_S8192x8x128_S8192x1024

include hk in
theorem read_v11 : (V9 m ρ c main_v11 : S8192x1024.Idx → EReal) = byLane (lanes k) := by
  show W9 m ρ c (Proc.devRef .tc main_v11) = _
  after_results_simp
  exact pad_lanes (by decide) _ (sitofp (F := Ideal) FTy.f32 (constantI S_ 32 0#32)) h_S_ _ hk zero_at ![0, 0, 32] pads_S8192x8x96_S8192x8x128_000_000_0320 shapeCasts_S8192x8x128_S8192x1024

include hv in
theorem read_v14 : (V9 m ρ c main_v14 : S8192x1024.Idx → EReal) = byLane (lanes v) := by
  show W9 m ρ c (Proc.devRef .tc main_v14) = _
  after_results_simp
  exact pad_lanes (by decide) _ (sitofp (F := Ideal) FTy.f32 (constantI S_ 32 0#32)) h_S_ _ hv zero_at ![0, 0, 64] pads_S8192x8x64_S8192x8x128_000_000_0640 shapeCasts_S8192x8x128_S8192x1024

include hg in
theorem read_v17 : (V9 m ρ c main_v17 : S8192x1024.Idx → EReal) = byLane (lanes g) := by
  show W9 m ρ c (Proc.devRef .tc main_v17) = _
  after_results_simp
  exact pad_lanes (by decide) _ (sitofp (F := Ideal) FTy.f32 (constantI S_ 32 0#32)) h_S_ _ hg zero_at ![0, 0, 64] pads_S8192x8x64_S8192x8x128_000_000_0640 shapeCasts_S8192x8x128_S8192x1024

theorem V10_of (r : Ref sig .tc) (h : ∀ w : Fin cfg0.W, Pipeline.arrRef spec0 w = r → (cfg0.win w).isOut = false) :
    V10 m ρ c r = V9 m ρ c r := W10_of m ρ c r h

include hq hk hv in
/-- The forward kernel's outputs. -/
theorem read_v18_0 : (V10 m ρ c main_v18_0 : S8192x1024.Idx → EReal) = byLane fun h => attO (laneQ q h) (lanes k h) (lanes v h) :=
  (W10_arr m ρ c 3).trans (arr0_3 (V9 m ρ) c (read_v8 m ρ c hq) (read_v11 m ρ c hk) (read_v14 m ρ c hv))

include hq hk hv in
theorem read_v18_1 : (V10 m ρ c main_v18_1 : S8x8192x1.Idx → EReal) = byHead fun h => attL (laneQ q h) (lanes k h) :=
  (W10_arr m ρ c 4).trans (arr0_4 (V9 m ρ) c (read_v8 m ρ c hq) (read_v11 m ρ c hk) (read_v14 m ρ c hv))

include hq in
theorem keep_v8 : (V10 m ρ c main_v8 : S8192x1024.Idx → EReal) = byLane (laneQ q) :=
  (V10_of m ρ c main_v8 (by decide)).trans (read_v8 m ρ c hq)

include hk in
theorem keep_v11 : (V10 m ρ c main_v11 : S8192x1024.Idx → EReal) = byLane (lanes k) :=
  (V10_of m ρ c main_v11 (by decide)).trans (read_v11 m ρ c hk)

include hv in
theorem keep_v14 : (V10 m ρ c main_v14 : S8192x1024.Idx → EReal) = byLane (lanes v) :=
  (V10_of m ρ c main_v14 (by decide)).trans (read_v14 m ρ c hv)

include hg in
theorem keep_v17 : (V10 m ρ c main_v17 : S8192x1024.Idx → EReal) = byLane (lanes g) :=
  (V10_of m ρ c main_v17 (by decide)).trans (read_v17 m ρ c hg)

include hq hk hv hg

/-- The backward kernel's outputs. -/
theorem read_v19_0 : (W11 m ρ c (Proc.devRef .tc main_v19_0) : S8192x1024.Idx → EReal) = byLane fun h =>
    gradQ (laneQ q h) (lanes k h) (lanes v h) (attO (laneQ q h) (lanes k h) (lanes v h)) (lanes g h) (attL (laneQ q h) (lanes k h)) :=
  (W11_arr m ρ c 6).trans (arr1_6 (V10 m ρ) c (keep_v8 m ρ c hq) (keep_v11 m ρ c hk) (keep_v14 m ρ c hv)
    (read_v18_0 m ρ c hq hk hv) (keep_v17 m ρ c hg) (read_v18_1 m ρ c hq hk hv))

theorem read_v19_1 : (W11 m ρ c (Proc.devRef .tc main_v19_1) : S8192x1024.Idx → EReal) = byLane fun h =>
    partK (laneQ q h) (lanes k h) (lanes v h) (attO (laneQ q h) (lanes k h) (lanes v h)) (lanes g h) (attL (laneQ q h) (lanes k h)) 8192 :=
  (W11_arr m ρ c 7).trans (arr1_7 (V10 m ρ) c (keep_v8 m ρ c hq) (keep_v11 m ρ c hk) (keep_v14 m ρ c hv)
    (read_v18_0 m ρ c hq hk hv) (keep_v17 m ρ c hg) (read_v18_1 m ρ c hq hk hv))

theorem read_v19_2 : (W11 m ρ c (Proc.devRef .tc main_v19_2) : S8192x1024.Idx → EReal) = byLane fun h =>
    partV (laneQ q h) (lanes k h) (lanes g h) (attL (laneQ q h) (lanes k h)) 8192 :=
  (W11_arr m ρ c 8).trans (arr1_8 (V10 m ρ) c (keep_v8 m ρ c hq) (keep_v11 m ρ c hk) (keep_v14 m ρ c hv)
    (read_v18_0 m ρ c hq hk hv) (keep_v17 m ρ c hg) (read_v18_1 m ρ c hq hk hv))

omit hg in
theorem late_v18_0 : (W11 m ρ c (Proc.devRef .tc main_v18_0) : S8192x1024.Idx → EReal)
    = byLane fun h => attO (laneQ q h) (lanes k h) (lanes v h) :=
  (W11_of m ρ c main_v18_0 (by decide)).trans (read_v18_0 m ρ c hq hk hv)

omit hq hk hv hg in
/-- A head's first `n` lanes, cut back out. -/
theorem cut_lanes {n : ℕ} (hn : n ≤ 128) (x : S8192x1024.Idx → EReal) (F : Fin 8 → Fin 8192 → Fin 128 → ℝ) (hx : x = byLane F)
    (hs : S8192x1024.ShapeCasts S8192x8x128) (hl : S8192x8x128.Slices (![0, 0, 0] : Fin 3 → ℕ) (⟨3, ![8192, 8, n]⟩ : Shape))
    (r : Fin 8192) (h : Fin 8) (d : Fin n) :
    extractStridedSlice (⟨3, ![8192, 8, n]⟩ : Shape) ![0, 0, 0] (shapeCast S8192x8x128 x hs) hl (ix3 r h d)
      = ((F h r ⟨d.val, by omega⟩ : ℝ) : EReal) := by
  have hd : d.val < n := d.isLt
  have hh : h.val < 8 := h.isLt
  rw [extractStridedSlice_apply _ _ hl _ (ix3 r h ⟨d.val, by omega⟩ : S8192x8x128.Idx)
      (fun a => match a with | ⟨0, _⟩ => by simp [ix3] | ⟨1, _⟩ => by simp [ix3] | ⟨2, _⟩ => by simp [ix3]),
    shapeCast_apply _ hs _ (ix2 r ⟨h.val * 128 + d.val, by omega⟩ : S8192x1024.Idx)
      (by rw [Shape.rowMajor_val_two, Shape.rowMajor_val_three]; show r.val * 1024 + (h.val * 128 + d.val) = (r.val * 8 + h.val) * 128 + d.val; omega), hx]
  exact byLane_at F _ h r _ rfl rfl

omit hg in
/-- The output of the attention. -/
theorem result_o (r : Fin 8192) (h : Fin 8) (d : Fin 64) :
    (W12 m ρ c (Proc.devRef .tc main_v22) : S8192x8x64.Idx → EReal) (ix3 r h d) = ((aOut q k v r h d : ℝ) : EReal) := by
  rw [show aOut q k v r h d = padTo (aOut q k v r h) ⟨d.val, by omega⟩ from (padTo_of_lt (aOut q k v r h) ⟨d.val, by omega⟩ d.isLt).symm, ← attO_lanes]
  after_results_simp
  exact cut_lanes (by decide) _ _ (late_v18_0 m ρ c hq hk hv) shapeCasts_S8192x1024_S8192x8x128 slices_S8192x8x128_S8192x8x64_0_0_0 r h d

/-- The gradient of the queries. -/
theorem result_dq (r : Fin 8192) (h : Fin 8) (d : Fin 96) :
    (W12 m ρ c (Proc.devRef .tc main_v24) : S8192x8x96.Idx → EReal) (ix3 r h d) = ((aDq q k v g r h d : ℝ) : EReal) := by
  rw [← gradQ_lanes]
  after_results_simp
  exact cut_lanes (by decide) _ _ (read_v19_0 m ρ c hq hk hv hg) shapeCasts_S8192x1024_S8192x8x128 slices_S8192x8x128_S8192x8x96_0_0_0 r h d

/-- The gradient of the keys. -/
theorem result_dk (r : Fin 8192) (h : Fin 8) (d : Fin 96) :
    (W12 m ρ c (Proc.devRef .tc main_v26) : S8192x8x96.Idx → EReal) (ix3 r h d) = ((aDk q k v g r h d : ℝ) : EReal) := by
  rw [← partK_lanes]
  after_results_simp
  exact cut_lanes (by decide) _ _ (read_v19_1 m ρ c hq hk hv hg) shapeCasts_S8192x1024_S8192x8x128 slices_S8192x8x128_S8192x8x96_0_0_0 r h d

/-- The gradient of the values. -/
theorem result_dv (r : Fin 8192) (h : Fin 8) (d : Fin 64) :
    (W12 m ρ c (Proc.devRef .tc main_v28) : S8192x8x64.Idx → EReal) (ix3 r h d) = ((aDv q k g r h d : ℝ) : EReal) := by
  rw [← partV_lanes]
  after_results_simp
  exact cut_lanes (by decide) _ _ (read_v19_2 m ρ c hq hk hv hg) shapeCasts_S8192x1024_S8192x8x128 slices_S8192x8x128_S8192x8x64_0_0_0 r h d

end Cert.KernelIdeal.Val
-- ==== Proof.Ref.lean ====
module

public import proofs.«01_k».proof.Proof.Spec
public import proofs.«01_k».proof.Proof.Gen.ReferenceIdeal.Read

/-!
# What the reference computes

With the four arguments holding real numbers, every array of the reference is read, in the order of the program: the scores, the
maximum of a row (some real number: what it is does not matter), the shifted exponentials, the weights, the output, and the
gradients. The four results are the functions of Proof/Spec.lean.
-/

@[expose] public section

set_option maxRecDepth 16384

namespace Cert.ReferenceIdeal.Val

open Idealize.ShloMosaic Idealize.ShloMosaic.TcCoe Idealize.ShloMosaic.Tactic
open Cert.ReferenceIdeal Cert.ReferenceIdeal.Gen Cert.ReferenceIdeal.Read Cert.Attn

theorem c96 : Ideal.ofBits .f32 0x42C00000#32 = ((96 : ℝ) : EReal) := by
  simp [Ideal.ofBits, Ideal.ieee]
  rw [← EReal.coe_mul]; norm_num

theorem c1 : Ideal.ofBits .f32 0x3F800000#32 = ((1 : ℝ) : EReal) := by
  simp [Ideal.ofBits, Ideal.ieee]
  rw [← EReal.coe_mul, ← EReal.coe_one]; norm_num

theorem c0 : Ideal.ofBits .f32 0x00000000#32 = ((0 : ℝ) : EReal) := by
  simp [Ideal.ofBits, Ideal.ieee]

theorem cbot : Ideal.ofBits .f32 0xFF800000#32 = (⊥ : EReal) := by
  simp [Ideal.ofBits, Ideal.ieee]

theorem r1 (i : S_.Idx) : val_main_v1 (F := Ideal) i = (((Real.sqrt 96)⁻¹ : ℝ) : EReal) := by
  show Ideal.div (Ideal.ofBits .f32 0x3F800000#32) (Ideal.sqrt (Ideal.ofBits .f32 0x42C00000#32)) = _
  rw [c96, c1, Ideal.sqrt_coe, if_neg (by norm_num), Ideal.div_coe sqrt96_pos.ne', ← EReal.coe_mul, one_mul, one_div]

/-- The mask keeps the columns up to the row. -/
theorem r10 (i : S8192x8192.Idx) : val_main_v10 (F := Ideal) i = if (i 1).val ≤ (i 0).val then 1#1 else 0#1 := by
  rw [val_main_v10_apply, val_main_v8_apply, val_main_v9_apply, val_main_v6_apply, val_main_v7_apply, val_main_v5_apply, val_main_v5_apply]
  show BitVec.ofBool ((BitVec.ofNat 32 (i 1).val).sle (BitVec.ofNat 32 (i 0).val)) = _
  have h0 : (i 0).val < 8192 := (i 0).isLt
  have h1 : (i 1).val < 8192 := (i 1).isLt
  have e : (BitVec.ofNat 32 (i 1).val).sle (BitVec.ofNat 32 (i 0).val) = decide ((i 1).val ≤ (i 0).val) := by
    rw [BitVec.sle_eq_decide]
    congr 1
    rw [BitVec.toInt_eq_toNat_of_lt, BitVec.toInt_eq_toNat_of_lt] <;> simp only [BitVec.toNat_ofNat]
    · rw [Nat.mod_eq_of_lt (by omega), Nat.mod_eq_of_lt (by omega)]; simp
    · omega
    · omega
  rw [e]
  by_cases h : (i 1).val ≤ (i 0).val <;> simp [h]

section
variable (q k : Fin 8192 → Fin 8 → Fin 96 → ℝ) (v g : Fin 8192 → Fin 8 → Fin 64 → ℝ) (M : Fin 8 → Fin 8192 → ℝ) (h : Fin 8) (r c : Fin 8192)

theorem exp_shifted : Ideal.exp ((if c.val ≤ r.val then ((logit q k h r c : ℝ) : EReal) else ⊥) - ((M h r : ℝ) : EReal))
    = ((shifted q k M h r c : ℝ) : EReal) := by
  unfold shifted
  by_cases hc : c.val ≤ r.val
  · rw [if_pos hc, if_pos (Fin.le_def.mpr hc), ← EReal.coe_sub, Ideal.exp_coe]
  · rw [if_neg hc, if_neg (fun h' => hc (Fin.le_def.mp h')), EReal.bot_sub, Ideal.exp_bot]; rfl

theorem div_shifted : Ideal.div ((shifted q k M h r c : ℝ) : EReal) ((shiftedSum q k M h r : ℝ) : EReal) = ((weight q k h r c : ℝ) : EReal) := by
  rw [Ideal.div_coe (shiftedSum_pos q k M _ _).ne', ← EReal.coe_mul, shifted_div]

theorem one_div_shifted : Ideal.div (Ideal.ofBits .f32 0x3F800000#32) (((shiftedSum q k M h r : ℝ) : EReal) * ((shiftedSum q k M h r : ℝ) : EReal))
    = ((1 * (1 / (shiftedSum q k M h r * shiftedSum q k M h r)) : ℝ) : EReal) := by
  rw [c1, ← EReal.coe_mul, Ideal.div_coe (mul_pos (shiftedSum_pos q k M _ _) (shiftedSum_pos q k M _ _)).ne', ← EReal.coe_mul]

theorem grad_shifted : (Ideal.div ((dWeight v g h r c : ℝ) : EReal) ((shiftedSum q k M h r : ℝ) : EReal)
      + ((-∑ x, dWeight v g h r x * (1 * (1 / (shiftedSum q k M h r * shiftedSum q k M h r))) * shifted q k M h r x : ℝ) : EReal))
      * ((shifted q k M h r c : ℝ) : EReal) = ((dLogit q k v g h r c : ℝ) : EReal) := by
  rw [Ideal.div_coe (shiftedSum_pos q k M _ _).ne', ← EReal.coe_mul, ← EReal.coe_add, ← EReal.coe_mul, shifted_grad]

end

variable {x0 x1 : S8192x8x96.Idx → EReal} {x2 x3 : S8192x8x64.Idx → EReal}
  {q k : Fin 8192 → Fin 8 → Fin 96 → ℝ} {v g : Fin 8192 → Fin 8 → Fin 64 → ℝ}
  (hq : ∀ i, x0 i = ((q (i 0) (i 1) (i 2) : ℝ) : EReal)) (hk : ∀ i, x1 i = ((k (i 0) (i 1) (i 2) : ℝ) : EReal))
  (hv : ∀ i, x2 i = ((v (i 0) (i 1) (i 2) : ℝ) : EReal)) (hg : ∀ i, x3 i = ((g (i 0) (i 1) (i 2) : ℝ) : EReal))

include hq hk in
theorem r4 (i : S8x8192x8192.Idx) : val_main_v4 (F := Ideal) x0 x1 i = ((logit q k (i 0) (i 1) (i 2) : ℝ) : EReal) := by
  rw [val_main_v4_apply, val_main_v3_apply, r1, val_main_v2_apply]
  simp only [hq, hk, ← EReal.coe_mul, ← coe_sum]
  show ((_ : ℝ) : EReal) * ((_ : ℝ) : EReal) = _
  rw [← EReal.coe_mul]
  rfl

include hq hk in
theorem r11 (i : S8x8192x8192.Idx) : val_main_v11_0 (F := Ideal) x0 x1 i
    = if (i 2).val ≤ (i 1).val then ((logit q k (i 0) (i 1) (i 2) : ℝ) : EReal) else ⊥ := by
  rw [val_main_v11_0_apply, val_main_v11_1_apply, r10, r4 hq hk, val_main_call0_v2_apply, val_main_call0_v0_apply, val_main_cst_1_apply]
  show Scalar.select (if (i 2).val ≤ (i 1).val then 1#1 else 0#1) _ (Ideal.ofBits .f32 0xFF800000#32) = _
  rw [cbot]
  by_cases h : (i 2).val ≤ (i 1).val
  · rw [if_pos h, if_pos h]; rfl
  · rw [if_neg h, if_neg h]; rfl

include hq hk in
/-- The maximum of a row is a real number. -/
theorem r19 (i : S8x8192.Idx) : ∃ M : ℝ, val_main_v19 (F := Ideal) x0 x1 i = (M : EReal) := by
  rw [val_main_v19_apply, val_main_v18_apply, val_main_cst_4_apply]
  unfold val_main_v12
  rw [Host.reduce_eq_fold_single FloatOps.maximumf _ _ _ (by decide : S8x8192x8192.Reduces [2] S8x8192)]
  show ∃ M : ℝ, max (Ideal.ofBits .f32 0xFF800000#32) (Finset.univ.fold max (Ideal.ofBits .f32 0xFF800000#32) _) = (M : EReal)
  rw [cbot]
  refine max_fold_real ⊥ (by simp) _ (fun x => ?_) (⟨0, by decide⟩ : Fin 8192) ?_
  · rw [Function.comp_apply, r11 hq hk]
    split <;> simp
  · show val_main_v11_0 (F := Ideal) x0 x1 _ ≠ ⊥
    rw [r11 hq hk, if_pos]
    · simp
    · exact Nat.zero_le _

variable {M : Fin 8 → Fin 8192 → ℝ} (hM : ∀ i, val_main_v19 (F := Ideal) x0 x1 i = ((M (i 0) (i 1) : ℝ) : EReal))

include hq hk hM in
/-- The shifted exponentials. -/
theorem r32 (i : S8x8192x8192.Idx) : val_main_v32 (F := Ideal) x0 x1 i = ((shifted q k M (i 0) (i 1) (i 2) : ℝ) : EReal) := by
  rw [val_main_v32_apply, val_main_v31_apply, val_main_v30_apply, val_main_v29_apply, hM, r11 hq hk]
  exact exp_shifted q k M _ _ _

include hq hk hM in
theorem r33 (i : S8x8192.Idx) : val_main_v33 (F := Ideal) x0 x1 i = ((shiftedSum q k M (i 0) (i 1) : ℝ) : EReal) := by
  rw [val_main_v33_apply, val_main_cst_10_apply]
  simp only [r32 hq hk hM, ← coe_sum]
  show Ideal.ofBits .f32 0x00000000#32 + ((_ : ℝ) : EReal) = _
  rw [c0, ← EReal.coe_add, zero_add]
  rfl

include hq hk hM in
theorem r34 (i : S8x8192x1.Idx) : val_main_v34 (F := Ideal) x0 x1 i = ((shiftedSum q k M (i 0) (i 1) : ℝ) : EReal) := by
  rw [val_main_v34_apply, r33 hq hk hM]
  rfl

include hq hk hM in
/-- The weights. -/
theorem r36 (i : S8x8192x8192.Idx) : val_main_v36 (F := Ideal) x0 x1 i = ((weight q k (i 0) (i 1) (i 2) : ℝ) : EReal) := by
  rw [val_main_v36_apply, val_main_v35_apply, r34 hq hk hM, r32 hq hk hM]
  exact div_shifted q k M _ _ _

include hq hk hM in
theorem r39 (i : S8x8192x1.Idx) : val_main_v39 (F := Ideal) x0 x1 i
    = ((1 * (1 / (shiftedSum q k M (i 0) (i 1) * shiftedSum q k M (i 0) (i 1))) : ℝ) : EReal) := by
  rw [val_main_v39_apply, val_main_v38_apply, val_main_cst_11_apply, val_main_v37_apply, r34 hq hk hM]
  exact one_div_shifted q k M _ _

include hq hk hv hM in
/-- The output. -/
theorem r41 (i : S8192x8x64.Idx) : val_main_v41 (F := Ideal) x0 x1 x2 i = ((aOut q k v (i 0) (i 1) (i 2) : ℝ) : EReal) := by
  rw [val_main_v41_apply, val_main_v40_apply]
  simp only [hv, r36 hq hk hM, ← EReal.coe_mul, ← coe_sum]
  rfl

include hg in
theorem r42 (i : S8x64x8192.Idx) : val_main_v42 (F := Ideal) x3 i = ((g (i 2) (i 0) (i 1) : ℝ) : EReal) := by
  rw [val_main_v42_apply, hg]
  rfl

include hv hg in
theorem r43 (i : S8x8192x8192.Idx) : val_main_v43 (F := Ideal) x2 x3 i = ((dWeight v g (i 0) (i 1) (i 2) : ℝ) : EReal) := by
  rw [val_main_v43_apply]
  simp only [hv, r42 hg, ← EReal.coe_mul, ← coe_sum]
  rfl

include hq hk hg hM in
/-- The gradient of the values. -/
theorem r45 (i : S8192x8x64.Idx) : val_main_v45 (F := Ideal) x0 x1 x3 i = ((aDv q k g (i 0) (i 1) (i 2) : ℝ) : EReal) := by
  rw [val_main_v45_apply, val_main_v44_apply]
  simp only [r42 hg, r36 hq hk hM, ← EReal.coe_mul, ← coe_sum]
  rfl

include hq hk hv hg hM in
theorem r48 (i : S8x8192x8192.Idx) : val_main_v48 (F := Ideal) x0 x1 x2 x3 i
    = ((dWeight v g (i 0) (i 1) (i 2) * (1 * (1 / (shiftedSum q k M (i 0) (i 1) * shiftedSum q k M (i 0) (i 1))))
      * shifted q k M (i 0) (i 1) (i 2) : ℝ) : EReal) := by
  rw [val_main_v48_apply, val_main_v47_apply, val_main_v46_apply, r39 hq hk hM, r43 hv hg, r32 hq hk hM]
  show ((_ : ℝ) : EReal) * ((_ : ℝ) : EReal) * ((_ : ℝ) : EReal) = _
  rw [← EReal.coe_mul, ← EReal.coe_mul]
  rfl

include hq hk hv hg hM in
theorem r49 (i : S8x8192.Idx) : val_main_v49 (F := Ideal) x0 x1 x2 x3 i
    = ((∑ x, dWeight v g (i 0) (i 1) x * (1 * (1 / (shiftedSum q k M (i 0) (i 1) * shiftedSum q k M (i 0) (i 1))))
      * shifted q k M (i 0) (i 1) x : ℝ) : EReal) := by
  rw [val_main_v49_apply, val_main_cst_12_apply]
  simp only [r48 hq hk hv hg hM, ← coe_sum]
  show Ideal.ofBits .f32 0x00000000#32 + ((_ : ℝ) : EReal) = _
  rw [c0, ← EReal.coe_add, zero_add]
  rfl

include hq hk hv hg hM in
theorem r51 (i : S8x8192x1.Idx) : val_main_v51 (F := Ideal) x0 x1 x2 x3 i
    = ((-∑ x, dWeight v g (i 0) (i 1) x * (1 * (1 / (shiftedSum q k M (i 0) (i 1) * shiftedSum q k M (i 0) (i 1))))
      * shifted q k M (i 0) (i 1) x : ℝ) : EReal) := by
  have h0 : (i 0).val < 8 := (i 0).isLt
  have h1 : (i 1).val < 8192 := (i 1).isLt
  have h2 : (i 2).val < 1 := (i 2).isLt
  have e0 : (idx_main_v50 i) 0 = i 0 := Fin.ext (by show (((i 0).val * 8192 + (i 1).val) * 1 + (i 2).val) / 8192 = (i 0).val; omega)
  have e1 : (idx_main_v50 i) 1 = i 1 := Fin.ext (by show (((i 0).val * 8192 + (i 1).val) * 1 + (i 2).val) % 8192 = (i 1).val; omega)
  rw [val_main_v51_apply, val_main_v50_apply, r49 hq hk hv hg hM, e0, e1, EReal.coe_neg]
  rfl

include hq hk hv hg hM in
theorem r54 (i : S8x8192.Idx) : val_main_v54 (F := Ideal) x0 x1 x2 x3 i
    = ((-∑ x, dWeight v g (i 0) (i 1) x * (1 * (1 / (shiftedSum q k M (i 0) (i 1) * shiftedSum q k M (i 0) (i 1))))
      * shifted q k M (i 0) (i 1) x : ℝ) : EReal) := by
  rw [val_main_v54_apply, val_main_cst_13_apply]
  simp only [r51 hq hk hv hg hM, ← coe_sum]
  show Ideal.ofBits .f32 0x00000000#32 + ((_ : ℝ) : EReal) = _
  rw [c0, ← EReal.coe_add, zero_add, Fin.sum_univ_one]
  rfl

include hq hk hv hg hM in
/-- The gradient of a scaled score. -/
theorem r60 (i : S8x8192x8192.Idx) : val_main_v60 (F := Ideal) x0 x1 x2 x3 i
    = ((dLogit q k v g (i 0) (i 1) (i 2) * (Real.sqrt 96)⁻¹ : ℝ) : EReal) := by
  have e57 : val_main_v57 (F := Ideal) x0 x1 x2 x3 i = ((dLogit q k v g (i 0) (i 1) (i 2) : ℝ) : EReal) := by
    rw [val_main_v57_apply, val_main_v56_apply, val_main_v55_apply, r54 hq hk hv hg hM, val_main_v53_apply, val_main_v52_apply,
      r34 hq hk hM, r43 hv hg, r32 hq hk hM]
    exact grad_shifted q k v g M _ _ _
  have e58 : val_main_v58 (F := Ideal) x0 x1 x2 x3 i = ((dLogit q k v g (i 0) (i 1) (i 2) : ℝ) : EReal) := by
    rw [val_main_v58_apply, val_main_v11_1_apply, r10, e57, val_main_call1_v0_apply, val_main_call1_cst_apply]
    show Scalar.select (if (i 2).val ≤ (i 1).val then 1#1 else 0#1) _ (Ideal.ofBits .f32 0x00000000#32) = _
    rw [c0]
    by_cases h : (i 2).val ≤ (i 1).val
    · rw [if_pos h]; rfl
    · rw [if_neg h]
      exact congrArg (fun x : ℝ => (x : EReal)) (dLogit_of_not_le q k v g _ (fun h' => h (Fin.le_def.mp h'))).symm
  rw [val_main_v60_apply, val_main_v59_apply, r1, e58, EReal.coe_mul]
  rfl

include hq hk hv hg hM in
/-- The gradient of the keys. -/
theorem r62 (i : S8192x8x96.Idx) : val_main_v62 (F := Ideal) x0 x1 x2 x3 i = ((aDk q k v g (i 0) (i 1) (i 2) : ℝ) : EReal) := by
  rw [val_main_v62_apply, val_main_v61_apply]
  simp only [hq, r60 hq hk hv hg hM, ← EReal.coe_mul, ← coe_sum]
  rfl

include hq hk hv hg hM in
/-- The gradient of the queries. -/
theorem r64 (i : S8192x8x96.Idx) : val_main_v64 (F := Ideal) x0 x1 x2 x3 i = ((aDq q k v g (i 0) (i 1) (i 2) : ℝ) : EReal) := by
  rw [val_main_v64_apply, val_main_v63_apply]
  simp only [hk, r60 hq hk hv hg hM, ← EReal.coe_mul, ← coe_sum]
  rfl

include hq hk in
/-- There is such a function of the head and the row. -/
theorem exists_max : ∃ M : Fin 8 → Fin 8192 → ℝ, ∀ i, val_main_v19 (F := Ideal) x0 x1 i = ((M (i 0) (i 1) : ℝ) : EReal) := by
  choose M hM using r19 hq hk
  refine ⟨fun h r => M (fun a => match a with | ⟨0, _⟩ => h | ⟨1, _⟩ => r), fun i => ?_⟩
  have e : i = (fun a => match a with | ⟨0, _⟩ => i 0 | ⟨1, _⟩ => i 1 : S8x8192.Idx) := by
    funext a; match a with | ⟨0, _⟩ => rfl | ⟨1, _⟩ => rfl
  exact (congrArg _ e).trans (hM _)

end Cert.ReferenceIdeal.Val
-- ==== Proof.Main.lean ====
module

public import proofs.«01_k».proof.Proof.Prep
public import proofs.«01_k».proof.Proof.Ref
public import proofs.«01_k».proof.Proof.Gen.ReferenceIdeal.Run
public import proofs.«01_k».proof.Defs

/-!
# The run of the kernel, and the two programs side by side

`run_all` is the run of the whole program: it ends with every buffer at the contents folded through its segments. With the
arguments finite, hence real, the four results of the kernel and of the reference are the same functions of them.
-/

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Attn

section run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, and every buffer ends at what the segments leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => h)

end run

/-- A number whose magnitude is below infinity is real. -/
theorem finite_real {s : Shape} (x : s.Idx → EReal) (hb : (⟨0, ![]⟩ : Shape).BroadcastsInDim s (![] : Fin 0 → Fin s.rank))
    (h : cmpf (F := Ideal) (φ := .f32) .olt (Host.absf x) (broadcastInDim s ![] hb (constant (F := Ideal) ⟨0, ![]⟩ .f32 0x7F800000#32)) = fun _ => 1#1)
    (i : s.Idx) : ∃ r : ℝ, x i = (r : EReal) := by
  have ct : Ideal.ofBits .f32 0x7F800000#32 = (⊤ : EReal) := by simp [Ideal.ofBits, Ideal.ieee]
  have e : BitVec.ofBool (decide (max (x i) (-(x i)) < Ideal.ofBits .f32 0x7F800000#32)) = 1#1 := congrFun h i
  rw [ct] at e
  generalize x i = y at e
  induction y with
  | bot => simp at e
  | top => simp at e
  | coe r => exact ⟨r, rfl⟩

instance facts_finite : Cert.Pre_finite.Facts where
  bcast_S_S8192x8x96 := bcast_S_S8192x8x96
  bcast_S_S8192x8x64 := by decide

theorem ix3_self {a b n : ℕ} (i : (⟨3, ![a, b, n]⟩ : Shape).Idx) : ix3 (i 0) (i 1) (i 2) = i := by
  funext t; match t with | ⟨0, _⟩ => rfl | ⟨1, _⟩ => rfl | ⟨2, _⟩ => rfl

open Cert.ReferenceIdeal.Read in
/-- The four results of the two programs, at arguments that hold real numbers. -/
theorem same_results (m : (ℓ : Loc nD τ sig) → Buf (Elt Ideal) ℓ) (ρ : Dev nD → PrngReg) (c : Dev nD)
    (hpre : Cert.Pre_KernelIdeal_finite m) :
    (val_main_v41 (F := Ideal) (m ((c : Thread nD τ).loc main_arg0)) (m ((c : Thread nD τ).loc main_arg1)) (m ((c : Thread nD τ).loc main_arg2))
        : S8192x8x64.Idx → EReal) = W12 m ρ c (Proc.devRef .tc main_v22)
    ∧ (val_main_v64 (F := Ideal) (m ((c : Thread nD τ).loc main_arg0)) (m ((c : Thread nD τ).loc main_arg1)) (m ((c : Thread nD τ).loc main_arg2))
        (m ((c : Thread nD τ).loc main_arg3)) : S8192x8x96.Idx → EReal) = W12 m ρ c (Proc.devRef .tc main_v24)
    ∧ (val_main_v62 (F := Ideal) (m ((c : Thread nD τ).loc main_arg0)) (m ((c : Thread nD τ).loc main_arg1)) (m ((c : Thread nD τ).loc main_arg2))
        (m ((c : Thread nD τ).loc main_arg3)) : S8192x8x96.Idx → EReal) = W12 m ρ c (Proc.devRef .tc main_v26)
    ∧ (val_main_v45 (F := Ideal) (m ((c : Thread nD τ).loc main_arg0)) (m ((c : Thread nD τ).loc main_arg1))
        (m ((c : Thread nD τ).loc main_arg3)) : S8192x8x64.Idx → EReal) = W12 m ρ c (Proc.devRef .tc main_v28) := by
  obtain ⟨p0, p1, p2, p3⟩ := hpre c
  choose q0 hq0 using finite_real (s := S8192x8x96) (m ((c : Thread nD τ).loc main_arg0)) _ p0
  choose k0 hk0 using finite_real (s := S8192x8x96) (m ((c : Thread nD τ).loc main_arg1)) _ p1
  choose v0 hv0 using finite_real (s := S8192x8x64) (m ((c : Thread nD τ).loc main_arg2)) _ p2
  choose g0 hg0 using finite_real (s := S8192x8x64) (m ((c : Thread nD τ).loc main_arg3)) _ p3
  have hq : ∀ r h d, (m ((c : Thread nD τ).loc main_arg0) : S8192x8x96.Idx → EReal) (ix3 r h d) = ((q0 (ix3 r h d) : ℝ) : EReal) := fun r h d => hq0 _
  have hk : ∀ r h d, (m ((c : Thread nD τ).loc main_arg1) : S8192x8x96.Idx → EReal) (ix3 r h d) = ((k0 (ix3 r h d) : ℝ) : EReal) := fun r h d => hk0 _
  have hv : ∀ r h d, (m ((c : Thread nD τ).loc main_arg2) : S8192x8x64.Idx → EReal) (ix3 r h d) = ((v0 (ix3 r h d) : ℝ) : EReal) := fun r h d => hv0 _
  have hg : ∀ r h d, (m ((c : Thread nD τ).loc main_arg3) : S8192x8x64.Idx → EReal) (ix3 r h d) = ((g0 (ix3 r h d) : ℝ) : EReal) := fun r h d => hg0 _
  have hq' : ∀ i, (m ((c : Thread nD τ).loc main_arg0) : S8192x8x96.Idx → EReal) i = ((q0 (ix3 (i 0) (i 1) (i 2)) : ℝ) : EReal) := fun i => (hq0 i).trans (congrArg (fun j => ((q0 j : ℝ) : EReal)) (ix3_self i).symm)
  have hk' : ∀ i, (m ((c : Thread nD τ).loc main_arg1) : S8192x8x96.Idx → EReal) i = ((k0 (ix3 (i 0) (i 1) (i 2)) : ℝ) : EReal) := fun i => (hk0 i).trans (congrArg (fun j => ((k0 j : ℝ) : EReal)) (ix3_self i).symm)
  have hv' : ∀ i, (m ((c : Thread nD τ).loc main_arg2) : S8192x8x64.Idx → EReal) i = ((v0 (ix3 (i 0) (i 1) (i 2)) : ℝ) : EReal) := fun i => (hv0 i).trans (congrArg (fun j => ((v0 j : ℝ) : EReal)) (ix3_self i).symm)
  have hg' : ∀ i, (m ((c : Thread nD τ).loc main_arg3) : S8192x8x64.Idx → EReal) i = ((g0 (ix3 (i 0) (i 1) (i 2)) : ℝ) : EReal) := fun i => (hg0 i).trans (congrArg (fun j => ((g0 j : ℝ) : EReal)) (ix3_self i).symm)
  obtain ⟨M, hM⟩ := Cert.ReferenceIdeal.Val.exists_max (q := fun r h d => q0 (ix3 r h d)) (k := fun r h d => k0 (ix3 r h d)) hq' hk'
  refine ⟨?_, ?_, ?_, ?_⟩
  · funext i
    refine (Cert.ReferenceIdeal.Val.r41 (q := fun r h d => q0 (ix3 r h d)) (k := fun r h d => k0 (ix3 r h d)) (v := fun r h d => v0 (ix3 r h d)) hq' hk' hv' hM i).trans (((result_o m ρ c hq hk hv (i 0) (i 1) (i 2)).symm).trans ?_)
    exact congrArg (W12 m ρ c (Proc.devRef .tc main_v22)) (ix3_self i)
  · funext i
    refine (Cert.ReferenceIdeal.Val.r64 (q := fun r h d => q0 (ix3 r h d)) (k := fun r h d => k0 (ix3 r h d)) (v := fun r h d => v0 (ix3 r h d)) (g := fun r h d => g0 (ix3 r h d)) hq' hk' hv' hg' hM i).trans (((result_dq m ρ c hq hk hv hg (i 0) (i 1) (i 2)).symm).trans ?_)
    exact congrArg (W12 m ρ c (Proc.devRef .tc main_v24)) (ix3_self i)
  · funext i
    refine (Cert.ReferenceIdeal.Val.r62 (q := fun r h d => q0 (ix3 r h d)) (k := fun r h d => k0 (ix3 r h d)) (v := fun r h d => v0 (ix3 r h d)) (g := fun r h d => g0 (ix3 r h d)) hq' hk' hv' hg' hM i).trans (((result_dk m ρ c hq hk hv hg (i 0) (i 1) (i 2)).symm).trans ?_)
    exact congrArg (W12 m ρ c (Proc.devRef .tc main_v26)) (ix3_self i)
  · funext i
    refine (Cert.ReferenceIdeal.Val.r45 (q := fun r h d => q0 (ix3 r h d)) (k := fun r h d => k0 (ix3 r h d)) (g := fun r h d => g0 (ix3 r h d)) hq' hk' hg' hM i).trans (((result_dv m ρ c hq hk hv hg (i 0) (i 1) (i 2)).symm).trans ?_)
    exact congrArg (W12 m ρ c (Proc.devRef .tc main_v28)) (ix3_self i)

/-- The value claim. -/
theorem algebraic : Cert.algebraic_KernelIdeal_ReferenceIdeal_pre_finite := by
  intro m g m' g' hpre hagree
  refine ⟨fun c => W12 m g c (Proc.devRef .tc main_v22), fun c => W12 m g c (Proc.devRef .tc main_v24),
    fun c => W12 m g c (Proc.devRef .tc main_v26), fun c => W12 m g c (Proc.devRef .tc main_v28), ?_, ?_⟩
  · refine θ_run_mono (run_all m g) ?_
    intro r h c
    exact ⟨h c _ (mem_uc main_v22 (by decide)), h c _ (mem_uc main_v24 (by decide)), h c _ (mem_uc main_v26 (by decide)),
      h c _ (mem_uc main_v28 (by decide)),
      (h c _ (mem_uc main_arg0 (by decide))).trans (W12_main_arg0 m g c), (h c _ (mem_uc main_arg1 (by decide))).trans (W12_main_arg1 m g c),
      (h c _ (mem_uc main_arg2 (by decide))).trans (W12_main_arg2 m g c), (h c _ (mem_uc main_arg3 (by decide))).trans (W12_main_arg3 m g c)⟩
  · refine θ_run_mono (Cert.ReferenceIdeal.Value.run m' g') ?_
    intro r h c
    obtain ⟨h0, h1, h2, h3, ha⟩ := h c
    obtain ⟨a0, a1, a2, a3⟩ := hagree c
    obtain ⟨e0, e1, e2, e3⟩ := same_results m g c hpre
    rw [Cert.ReferenceIdeal.Read.val_main_v41_eq, a0, a1, a2] at h0
    rw [Cert.ReferenceIdeal.Read.val_main_v64_eq, a0, a1, a2, a3] at h1
    rw [Cert.ReferenceIdeal.Read.val_main_v62_eq, a0, a1, a2, a3] at h2
    rw [Cert.ReferenceIdeal.Read.val_main_v45_eq, a0, a1, a3] at h3
    exact ⟨h0.trans e0, h1.trans e1, h2.trans e2, h3.trans e3, ha⟩

end Cert.KernelIdeal.Val
-- ==== Proof.Dw3.lean ====
module

public import proofs.«01_k».proof.Proof.Sums
public import proofs.«01_k».proof.Proof.Gen.Kernel3Ideal.Value
public import proofs.«01_k».proof.Proof.Gen.Reference3Ideal.Read
public import Idealize.ShloMosaic.Lib.Pipeline.ValueKit
public import Idealize.ShloMosaic.Lib.StableHlo.RunRead

/-!
# The gradient of the gate and up weights

The kernel adds up the products of the rows of its two operands 1024 rows at a time, in a scratch buffer it keeps between
grid points; at the last of the eight it writes the sum out. So each entry of the result is the sum over all 8192 rows.
-/

@[expose] public section

set_option maxRecDepth 16384

namespace Cert.Kernel3Ideal.Val

open Idealize.ShloMosaic TcCoe Tactic
open Idealize.ShloMosaic.Pipeline (Dat)
open Cert.Kernel3Ideal Cert.Kernel3Ideal.Gen Cert.Feed

/-- The block the first of the eight points starts from. -/
theorem pay1_at (a : Fin 1024) (b : Fin 1408) : k0_pay1 (F := Ideal) (ix2 a b : S1024x1408.Idx) = (0 : EReal) := by
  pointwise [k0_pay1]

/-- One step of the sum. -/
theorem pay2_at (x : Vec Ideal S1024x1024 .bf16) (o : Vec Ideal S1024x1408 .f32) (w : Vec Ideal S1024x1408 .bf16) (a : Fin 1024) (b : Fin 1408) :
    k0_pay2 (F := Ideal) x o w (ix2 a b : S1024x1408.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x1024 .bf16) (hp : p.IsWhole)
  (q : Memref sig .tc .vmem S1024x1408 .bf16) (hq : q.IsWhole) (r : Memref sig .tc .vmem S1024x1408 .f32) (hr : r.IsWhole)
  (s : Memref sig .tc .vmem S1024x1408 .f32) (hs : s.IsWhole) (x0 : Vec Ideal S1024x1024 .bf16) (x1 : Vec Ideal S1024x1408 .bf16) (xs : Vec Ideal S1024x1408 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S1024x1408) hz, View.readCov_unit_zero (S := S1024x1408) _ hz]
  simp only [View.readAt_eq_ld, hp.read_unread, hq.read_unread, View.ld_unit_zero (S := S1024x1024) hz, View.ld_unit_zero (S := S1024x1408) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S1024x1408) hz]
  simp only [View.readAt_eq_ld, hp.read_unread, hq.read_unread, hs.read_unread, View.ld_unit_zero (S := S1024x1024) hz, View.ld_unit_zero (S := S1024x1408) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S1024x1408) hz]
  simp only [View.readAt_eq_ld, hp.read_unread, hq.read_unread, hs.read_unread, View.ld_unit_zero (S := S1024x1024) hz, View.ld_unit_zero (S := S1024x1408) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S1024x1408) hz, View.readCov_unit_zero (S := S1024x1408) _ hz]
  simp only [View.readAt_eq_ld, hp.read_unread, hq.read_unread, hs.read_unread, View.ld_unit_zero (S := S1024x1024) hz, View.ld_unit_zero (S := S1024x1408) hz]

end pieces

theorem lt0 (t : Fin cfg0.N) : t.val < 16 := t.isLt

theorem idx0 : ∀ t : Fin cfg0.N, win0_0.index t = ![t.val % 8, 0] ∧ win0_1.index t = ![t.val % 8, t.val / 8] ∧ win0_2.index t = ![0, t.val / 8] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x1024.Idx → EReal := V m c main_v0
noncomputable def opB : S8192x2816.Idx → EReal := V m c main_v1

/-- The products one entry of the result adds up. -/
noncomputable def prods (a : Fin 1024) (b : Fin 2816) : Fin 8192 → EReal := fun k => opA m c (ix2 k a) * opB m c (ix2 k b)

/-- The column of an operand a block's column is. -/
def colA (n : ℕ) (hn : n < 16) (a : Fin 1024) : Fin 1024 := ⟨1024 * (0) + a.val, by omega⟩
def colB (n : ℕ) (hn : n < 16) (b : Fin 1408) : Fin 2816 := ⟨1408 * (n / 8) + b.val, by omega⟩

theorem blkA (t : Fin cfg0.N) (k : Fin 1024) (a : Fin 1024) (r : Fin 8192) (hr : r.val = 1024 * (t.val % 8) + k.val) :
    (iblk m c 0 t : Vec Ideal S1024x1024 .bf16) (ix2 k a) = opA m c (ix2 r (colA t.val (lt0 t) a)) := by
  refine Eq.trans (b := (V m c main_v0 : S8192x1024.Idx → EReal) (((cfg0.win 0).blk t).view.emb (ix2 k a : S1024x1024.Idx))) ?_ (congrArg (V m c main_v0 : S8192x1024.Idx → EReal) ?_)
  · blk_simp [iblk]
  · apply ext2 <;> apply Fin.ext <;> blk_simp [idx0 t]
    · simp [hr]; omega
    · simp [colA]; try omega

theorem blkB (t : Fin cfg0.N) (k : Fin 1024) (a : Fin 1408) (r : Fin 8192) (hr : r.val = 1024 * (t.val % 8) + k.val) :
    (iblk m c 1 t : Vec Ideal S1024x1408 .bf16) (ix2 k a) = opB m c (ix2 r (colB t.val (lt0 t) a)) := by
  refine Eq.trans (b := (V m c main_v1 : S8192x2816.Idx → EReal) (((cfg0.win 1).blk t).view.emb (ix2 k a : S1024x1408.Idx))) ?_ (congrArg (V m c main_v1 : S8192x2816.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S1024x1408 .f32) (a : Fin 1024) (b : Fin 1408)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S1024x1408.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 1024) (b : Fin 1408),
    ((outsAt0 m c n hn).2 : Vec Ideal S1024x1408 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S1024x1408.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S1024x1408.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S1024x1408.Idx)).trans ?_
        dsimp only
        rw [sC]
        exact step m c ⟨n, hn⟩ _ a b hp
      · refine (congrFun (congrArg Prod.snd (outsAt0_B m c ⟨n, hn⟩ h0 h1)) (ix2 a b : S1024x1408.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 1024) (b : Fin 1408) :
    ((outsAt0 m c t.val t.isLt).1 : Vec Ideal S1024x1408 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S1024x2816.Idx → EReal := fun i => ∑ k, prods m c (i 0) (i 1) k

theorem arr : ((dats m 0 c).arrAt 2 cfg0.N : S1024x2816.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 1024) (d : Fin 1408), y = ix2 a d := ⟨y 0, y 1, ext2 rfl rfl⟩
  refine (out_scr m c t h7 a d).trans ?_
  rw [psum_full]
  unfold total
  have e0 : colA t.val (lt0 t) a = (((cfg0.win 2).blk t).view.emb (ix2 a d : S1024x1408.Idx) : S1024x2816.Idx) 0 := by
    apply Fin.ext; blk_simp [idx0 t]; simp [colA]; try omega
  have e1 : colB t.val (lt0 t) d = (((cfg0.win 2).blk t).view.emb (ix2 a d : S1024x1408.Idx) : S1024x2816.Idx) 1 := by
    apply Fin.ext; blk_simp [idx0 t]; simp [colB]; try omega
  rw [e0, e1]

theorem opA_eq : opA m c = (m ((c : Thread nD τ).loc main_arg0) : S8192x1024.Idx → EReal) := by
  unfold opA
  show StableHlo.after hostOps0 (fun b => m (c, b)) (Proc.devRef .tc main_v0) = _
  after_results_simp
  rfl

theorem opB_eq : opB m c = (m ((c : Thread nD τ).loc main_arg1) : S8192x2816.Idx → EReal) := by
  unfold opB
  show StableHlo.after hostOps0 (fun b => m (c, b)) (Proc.devRef .tc main_v1) = _
  after_results_simp
  rfl

/-- The reference's result is the same sum, its factors in the other order. -/
theorem ref_total : (Cert.Reference3Ideal.Read.val_main_v3 (F := Ideal) (m ((c : Thread nD τ).loc main_arg0)) (m ((c : Thread nD τ).loc main_arg1)) : S1024x2816.Idx → EReal) = total m c := by
  funext i
  rw [Cert.Reference3Ideal.Read.val_main_v3_apply, Cert.Reference3Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel3Ideal.Val
-- ==== Proof.Dw4.lean ====
module

public import proofs.«01_k».proof.Proof.Sums
public import proofs.«01_k».proof.Proof.Gen.Kernel4Ideal.Value
public import proofs.«01_k».proof.Proof.Gen.Reference4Ideal.Read
public import Idealize.ShloMosaic.Lib.Pipeline.ValueKit
public import Idealize.ShloMosaic.Lib.StableHlo.RunRead

/-!
# The gradient of the down weights

The kernel adds up the products of the rows of its two operands 1024 rows at a time, in a scratch buffer it keeps between
grid points; at the last of the eight it writes the sum out. So each entry of the result is the sum over all 8192 rows.
-/

@[expose] public section

set_option maxRecDepth 16384

namespace Cert.Kernel4Ideal.Val

open Idealize.ShloMosaic TcCoe Tactic
open Idealize.ShloMosaic.Pipeline (Dat)
open Cert.Kernel4Ideal Cert.Kernel4Ideal.Gen Cert.Feed

/-- The block the first of the eight points starts from. -/
theorem pay1_at (a : Fin 1408) (b : Fin 1024) : k0_pay1 (F := Ideal) (ix2 a b : S1408x1024.Idx) = (0 : EReal) := by
  pointwise [k0_pay1]

/-- One step of the sum. -/
theorem pay2_at (x : Vec Ideal S1024x1408 .bf16) (o : Vec Ideal S1408x1024 .f32) (w : Vec Ideal S1024x1024 .f32) (a : Fin 1408) (b : Fin 1024) :
    k0_pay2 (F := Ideal) x o w (ix2 a b : S1408x1024.Idx) = (o (ix2 a b) : EReal) + ∑ k : Fin 1024, (x (ix2 k a) : EReal) * (w (ix2 k b) : EReal) := by
  pointwise [k0_pay2]

section pieces

variable (c : Dev nD) (i : grid0.Coords) (p : Memref sig .tc .vmem S1024x1408 .bf16) (hp : p.IsWhole)
  (q : Memref sig .tc .vmem S1024x1024 .f32) (hq : q.IsWhole) (r : Memref sig .tc .vmem S1408x1024 .f32) (hr : r.IsWhole)
  (s : Memref sig .tc .vmem S1408x1024 .f32) (hs : s.IsWhole) (x0 : Vec Ideal S1024x1408 .bf16) (x1 : Vec Ideal S1024x1024 .f32) (xs : Vec Ideal S1408x1024 .f32)

theorem sA (h0 : cond0_0 i) (h1 : ¬cond0_1 i) :
    sout0_A_0 (F := Ideal) c i p hp q hq r hr s hs h0 h1 x0 x1 = k0_pay2 (F := Ideal) x0 (k0_pay1 (F := Ideal)) x1 := by
  unfold sout0_A_0
  rw [View.read_writes_eq_canon _ _ _ (scover0_A_0 c i p hp q hq r hr s hs h0 h1 x0 x1)]
  unfold kernelRun0_A
  dsimp only
  sl_unfold_words
  rw [View.canon_cons_unit_zero (S := S1408x1024) hz, View.readCov_unit_zero (S := S1408x1024) _ hz]
  simp only [View.readAt_eq_ld, hp.read_unread, hq.read_unread, View.ld_unit_zero (S := S1024x1408) hz, View.ld_unit_zero (S := S1024x1024) hz, View.ld_unit_zero (S := S1408x1024) hz]

theorem sB (h0 : ¬cond0_0 i) (h1 : ¬cond0_1 i) :
    sout0_B_0 (F := Ideal) c i p hp q hq r hr s hs h0 h1 x0 x1 xs = k0_pay2 x0 xs x1 := by
  unfold sout0_B_0
  rw [View.read_writes_eq_canon _ _ _ (scover0_B_0 c i p hp q hq r hr s hs h0 h1 x0 x1 xs)]
  unfold kernelRun0_B
  dsimp only
  rw [View.canon_unit_zero (S := S1408x1024) hz]
  simp only [View.readAt_eq_ld, hp.read_unread, hq.read_unread, hs.read_unread, View.ld_unit_zero (S := S1024x1408) hz, View.ld_unit_zero (S := S1024x1024) hz, View.ld_unit_zero (S := S1408x1024) hz]

theorem sC (h0 : ¬cond0_0 i) (h1 : cond0_1 i) :
    sout0_C_0 (F := Ideal) c i p hp q hq r hr s hs h0 h1 x0 x1 xs = k0_pay2 x0 xs x1 := by
  unfold sout0_C_0
  rw [View.read_writes_eq_canon _ _ _ (scover0_C_0 c i p hp q hq r hr s hs h0 h1 x0 x1 xs)]
  unfold kernelRun0_C
  dsimp only
  sl_unfold_words
  rw [View.canon_unit_zero (S := S1408x1024) hz]
  simp only [View.readAt_eq_ld, hp.read_unread, hq.read_unread, hs.read_unread, View.ld_unit_zero (S := S1024x1408) hz, View.ld_unit_zero (S := S1024x1024) hz, View.ld_unit_zero (S := S1408x1024) hz]

theorem oC (h0 : ¬cond0_0 i) (h1 : cond0_1 i) :
    out0_C_2 (F := Ideal) c i p hp q hq r hr s hs h0 h1 x0 x1 xs = k0_pay2 x0 xs x1 := by
  unfold out0_C_2
  rw [View.read_writes_eq_canon _ _ _ (cover0_C_2 c i p hp q hq r hr s hs h0 h1 x0 x1 xs)]
  unfold kernelRun0_C
  dsimp only
  sl_unfold_words
  rw [View.canon_unit_zero (S := S1408x1024) hz, View.readCov_unit_zero (S := S1408x1024) _ hz]
  simp only [View.readAt_eq_ld, hp.read_unread, hq.read_unread, hs.read_unread, View.ld_unit_zero (S := S1024x1408) hz, View.ld_unit_zero (S := S1024x1024) hz, View.ld_unit_zero (S := S1408x1024) hz]

end pieces

theorem lt0 (t : Fin cfg0.N) : t.val < 16 := t.isLt

theorem idx0 : ∀ t : Fin cfg0.N, win0_0.index t = ![t.val % 8, t.val / 8] ∧ win0_1.index t = ![t.val % 8, 0] ∧ win0_2.index t = ![t.val / 8, 0] :=
  (by decide +kernel : ∀ t : Fin grid0.N, _)

variable (m : (ℓ : Loc nD τ sig) → Buf (Elt Ideal) ℓ) (ρ : Dev nD → PrngReg) (c : Dev nD)

/-- The two operands, as the kernel finds them. -/
noncomputable def opA : S8192x2816.Idx → EReal := V m c main_v0
noncomputable def opB : S8192x1024.Idx → EReal := V m c main_arg1

/-- The products one entry of the result adds up. -/
noncomputable def prods (a : Fin 2816) (b : Fin 1024) : Fin 8192 → EReal := fun k => opA m c (ix2 k a) * opB m c (ix2 k b)

/-- The column of an operand a block's column is. -/
def colA (n : ℕ) (hn : n < 16) (a : Fin 1408) : Fin 2816 := ⟨1408 * (n / 8) + a.val, by omega⟩
def colB (n : ℕ) (hn : n < 16) (b : Fin 1024) : Fin 1024 := ⟨1024 * (0) + b.val, by omega⟩

theorem blkA (t : Fin cfg0.N) (k : Fin 1024) (a : Fin 1408) (r : Fin 8192) (hr : r.val = 1024 * (t.val % 8) + k.val) :
    (iblk m c 0 t : Vec Ideal S1024x1408 .bf16) (ix2 k a) = opA m c (ix2 r (colA t.val (lt0 t) a)) := by
  refine Eq.trans (b := (V m c main_v0 : S8192x2816.Idx → EReal) (((cfg0.win 0).blk t).view.emb (ix2 k a : S1024x1408.Idx))) ?_ (congrArg (V m c main_v0 : S8192x2816.Idx → EReal) ?_)
  · blk_simp [iblk]
  · apply ext2 <;> apply Fin.ext <;> blk_simp [idx0 t]
    · simp [hr]; omega
    · simp [colA]; try omega

theorem blkB (t : Fin cfg0.N) (k : Fin 1024) (a : Fin 1024) (r : Fin 8192) (hr : r.val = 1024 * (t.val % 8) + k.val) :
    (iblk m c 1 t : Vec Ideal S1024x1024 .f32) (ix2 k a) = opB m c (ix2 r (colB t.val (lt0 t) a)) := by
  refine Eq.trans (b := (V m c main_arg1 : S8192x1024.Idx → EReal) (((cfg0.win 1).blk t).view.emb (ix2 k a : S1024x1024.Idx))) ?_ (congrArg (V m c main_arg1 : S8192x1024.Idx → EReal) ?_)
  · blk_simp [iblk]
  · apply ext2 <;> apply Fin.ext <;> blk_simp [idx0 t]
    · simp [hr]; omega
    · simp [colB]; try omega

/-- One step of the sum at a grid point. -/
theorem step (t : Fin cfg0.N) (o : Vec Ideal S1408x1024 .f32) (a : Fin 1408) (b : Fin 1024)
    (ho : (o (ix2 a b) : EReal) = psum (prods m c (colA t.val (lt0 t) a) (colB t.val (lt0 t) b)) (1024 * (t.val % 8))) :
    k0_pay2 (F := Ideal) (iblk m c 0 t) o (iblk m c 1 t) (ix2 a b : S1408x1024.Idx)
      = psum (prods m c (colA t.val (lt0 t) a) (colB t.val (lt0 t) b)) (1024 * (t.val % 8) + 1024) := by
  rw [psum_add _ _ (by omega)]
  refine (pay2_at _ o _ a b).trans ?_
  rw [ho]
  refine congrArg₂ (· + ·) rfl (Finset.sum_congr rfl fun k _ => ?_)
  exact congrArg₂ (· * ·) (blkA m c t k a _ rfl) (blkB m c t k b _ rfl)

/-- What the scratch holds after each point. -/
theorem scr : ∀ (n : ℕ) (hn : n < cfg0.N) (a : Fin 1408) (b : Fin 1024),
    ((outsAt0 m c n hn).2 : Vec Ideal S1408x1024 .f32) (ix2 a b)
      = psum (prods m c (colA n hn a) (colB n hn b)) (1024 * (n % 8) + 1024) := by
  intro n
  induction n using Nat.strong_induction_on with
  | _ n ih =>
    intro hn a b
    have hN := lt0 ⟨n, hn⟩
    by_cases h0 : n % 8 = 0
    · refine (congrFun (congrArg Prod.snd (outsAt0_A m c ⟨n, hn⟩ h0 (by show ¬ n % 8 = 7; omega))) (ix2 a b : S1408x1024.Idx)).trans ?_
      dsimp only
      rw [sA]
      refine step m c ⟨n, hn⟩ _ a b ((pay1_at a b).trans ?_)
      show _ = psum _ (1024 * (n % 8))
      rw [h0]; rfl
    · have hm : n - 1 < cfg0.N := Nat.lt_of_le_of_lt (Nat.sub_le _ _) hn
      have hp : ((outsAt0 m c (n - 1) hm).2 (ix2 a b : S1408x1024.Idx) : EReal) = psum (prods m c (colA n hn a) (colB n hn b)) (1024 * (n % 8)) := by
        have eA : colA (n - 1) hm a = colA n hn a := Fin.ext (by simp only [colA]; try omega)
        have eB : colB (n - 1) hm b = colB n hn b := Fin.ext (by simp only [colB]; try omega)
        rw [ih (n - 1) (by omega) hm a b, eA, eB]
        congr 1
        omega
      by_cases h1 : n % 8 = 7
      · refine (congrFun (congrArg Prod.snd (outsAt0_C m c ⟨n, hn⟩ h0 h1)) (ix2 a b : S1408x1024.Idx)).trans ?_
        dsimp only
        rw [sC]
        exact step m c ⟨n, hn⟩ _ a b hp
      · refine (congrFun (congrArg Prod.snd (outsAt0_B m c ⟨n, hn⟩ h0 h1)) (ix2 a b : S1408x1024.Idx)).trans ?_
        dsimp only
        rw [sB]
        exact step m c ⟨n, hn⟩ _ a b hp

/-- What the output's buffer holds at the last of the eight points: what the scratch holds. -/
theorem out_scr (t : Fin cfg0.N) (h1 : t.val % 8 = 7) (a : Fin 1408) (b : Fin 1024) :
    ((outsAt0 m c t.val t.isLt).1 : Vec Ideal S1408x1024 .f32) (ix2 a b)
      = psum (prods m c (colA t.val (lt0 t) a) (colB t.val (lt0 t) b)) 8192 := by
  have h0 : ¬ t.val % 8 = 0 := by omega
  have e := outsAt0_C m c t h0 h1
  have hs := scr m c t.val t.isLt a b
  rw [e] at hs ⊢
  dsimp only at hs ⊢
  rw [sC] at hs
  rw [oC]
  refine hs.trans ?_
  rw [h1]

/-- The result: each entry a sum over the 8192 rows. -/
noncomputable def total : S2816x1024.Idx → EReal := fun i => ∑ k, prods m c (i 0) (i 1) k

theorem arr : ((dats m 0 c).arrAt 2 cfg0.N : S2816x1024.Idx → EReal) = total m c := by
  refine (dats m 0 c).arrAt_eq_of_covers 2 (total m c) (by decide +kernel) fun t hf y => ?_
  have h7 : t.val % 8 = 7 := (flush0_2 t).mp hf
  blk_simp
  rw [after0_2]
  obtain ⟨a, d, rfl⟩ : ∃ (a : Fin 1408) (d : Fin 1024), y = ix2 a d := ⟨y 0, y 1, ext2 rfl rfl⟩
  refine (out_scr m c t h7 a d).trans ?_
  rw [psum_full]
  unfold total
  have e0 : colA t.val (lt0 t) a = (((cfg0.win 2).blk t).view.emb (ix2 a d : S1408x1024.Idx) : S2816x1024.Idx) 0 := by
    apply Fin.ext; blk_simp [idx0 t]; simp [colA]; try omega
  have e1 : colB t.val (lt0 t) d = (((cfg0.win 2).blk t).view.emb (ix2 a d : S1408x1024.Idx) : S2816x1024.Idx) 1 := by
    apply Fin.ext; blk_simp [idx0 t]; simp [colB]; try omega
  rw [e0, e1]

theorem opA_eq : opA m c = (m ((c : Thread nD τ).loc main_arg0) : S8192x2816.Idx → EReal) := by
  unfold opA
  show StableHlo.after hostOps0 (fun b => m (c, b)) (Proc.devRef .tc main_v0) = _
  after_results_simp
  rfl

theorem opB_eq : opB m c = (m ((c : Thread nD τ).loc main_arg1) : S8192x1024.Idx → EReal) := by
  unfold opB
  exact V_main_arg1 m c

/-- The reference's result is the same sum, its factors in the other order. -/
theorem ref_total : (Cert.Reference4Ideal.Read.val_main_v3 (F := Ideal) (m ((c : Thread nD τ).loc main_arg0)) (m ((c : Thread nD τ).loc main_arg1)) : S2816x1024.Idx → EReal) = total m c := by
  funext i
  rw [Cert.Reference4Ideal.Read.val_main_v3_apply, Cert.Reference4Ideal.Read.val_main_v2_apply]
  unfold total
  refine Finset.sum_congr rfl fun k _ => ?_
  unfold prods
  rw [opA_eq, opB_eq, mul_comm]
  exact congrArg₂ (· * ·) (congrArg _ (ext2 rfl rfl)) (congrArg _ (ext2 rfl rfl))

end Cert.Kernel4Ideal.Val
-- ==== Proof.DwMain.lean ====
module

public import proofs.«01_k».proof.Proof.Dw3
public import proofs.«01_k».proof.Proof.Dw4
public import proofs.«01_k».proof.Proof.Gen.Reference3Ideal.Run
public import proofs.«01_k».proof.Proof.Gen.Reference4Ideal.Run
public import proofs.«01_k».proof.Defs

/-!
# The gradients of the weights, side by side with the reference
-/

@[expose] public section

set_option maxRecDepth 16384

namespace Cert.Kernel3Ideal.Val

open Idealize.ShloMosaic Idealize.ShloMosaic.TcCoe Idealize.SL.Sem
open Cert.Kernel3Ideal Cert.Kernel3Ideal.Gen

/-- The value claim. -/
theorem algebraic : Cert.algebraic_Kernel3Ideal_Reference3Ideal := by
  intro m g m' g' _ hagree
  refine ⟨fun c => total m c, ?_, ?_⟩
  · exact (θ_run _ _ _).mono (fun r h c => ⟨(h c).1.trans (arr m c), (h c).2⟩) (Cert.Kernel3Ideal.Value.run_blocks m g)
  · refine (θ_run _ _ _).mono (fun r h c => ?_) (Cert.Reference3Ideal.Value.run m' g')
    obtain ⟨h0, ha⟩ := h c
    obtain ⟨a0, a1⟩ := hagree c
    rw [Cert.Reference3Ideal.Read.val_main_v3_eq, a0, a1] at h0
    exact ⟨h0.trans (ref_total m c), ha⟩

end Cert.Kernel3Ideal.Val

namespace Cert.Kernel4Ideal.Val

open Idealize.ShloMosaic Idealize.ShloMosaic.TcCoe Idealize.SL.Sem
open Cert.Kernel4Ideal Cert.Kernel4Ideal.Gen

/-- The value claim. -/
theorem algebraic : Cert.algebraic_Kernel4Ideal_Reference4Ideal := by
  intro m g m' g' _ hagree
  refine ⟨fun c => total m c, ?_, ?_⟩
  · exact (θ_run _ _ _).mono (fun r h c => ⟨(h c).1.trans (arr m c), (h c).2⟩) (Cert.Kernel4Ideal.Value.run_blocks m g)
  · refine (θ_run _ _ _).mono (fun r h c => ?_) (Cert.Reference4Ideal.Value.run m' g')
    obtain ⟨h0, ha⟩ := h c
    obtain ⟨a0, a1⟩ := hagree c
    rw [Cert.Reference4Ideal.Read.val_main_v3_eq, a0, a1] at h0
    exact ⟨h0.trans (ref_total m c), ha⟩

end Cert.Kernel4Ideal.Val
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Lin
public import proofs.«01_k».proof.Proof.In5
public import proofs.«01_k».proof.Proof.In5Main
public import proofs.«01_k».proof.Proof.In6
public import proofs.«01_k».proof.Proof.Dw7
public import proofs.«01_k».proof.Proof.Merge
public import proofs.«01_k».proof.Proof.MergeMain
public import proofs.«01_k».proof.Proof.Dw9
public import proofs.«01_k».proof.Proof.Dw10
public import proofs.«01_k».proof.Proof.Dw11
public import proofs.«01_k».proof.Proof.Cross
public import proofs.«01_k».proof.Proof.CrossMain
public import proofs.«01_k».proof.Proof.Dw13
public import proofs.«01_k».proof.Proof.Dw14
public import proofs.«01_k».proof.Proof.Up
public import proofs.«01_k».proof.Proof.UpMain
public import proofs.«01_k».proof.Proof.In16
public import proofs.«01_k».proof.Proof.Dw17
public import proofs.«01_k».proof.Proof.Dw18
public import proofs.«01_k».proof.Proof.XFwd
public import proofs.«01_k».proof.Proof.XFwdMain
public import proofs.«01_k».proof.Proof.XBwd
public import proofs.«01_k».proof.Proof.XBwdRef
public import proofs.«01_k».proof.Proof.XBwdMain
public import proofs.«01_k».proof.Proof.Gate
public import proofs.«01_k».proof.Proof.GateMain
public import proofs.«01_k».proof.Proof.DwMain2
public import proofs.«01_k».proof.Proof.DwMain3
public import proofs.«01_k».proof.Proof.Main
public import proofs.«01_k».proof.Proof.FeedMain
public import proofs.«01_k».proof.Proof.DwMain
public import Idealize.ShloMosaic.Adequacy
public import Idealize.ShloMosaic.Init

@[expose] public section

noncomputable section

namespace Cert.Proof

open Idealize.ShloMosaic Idealize.SL.Sem

/-- The reference runs to its end, leaves its arguments as they were, and, declaring no semaphore, leaves every
    counter at zero. -/
theorem reference_frame : quiescent_ReferenceIdeal := fun m g _ =>
  (θ_run _ _ _).mono (fun r h => ⟨fun c => (h c).2.2.2.2, sem_eq_zero_of_no_sems (by decide) r.2⟩) (ReferenceIdeal.Value.run m g)

theorem reference2_frame : quiescent_Reference2Ideal := fun m g _ =>
  (θ_run _ _ _).mono (fun r h => ⟨fun c => (h c).2.2, sem_eq_zero_of_no_sems (by decide) r.2⟩) (Reference2Ideal.Value.run m g)

theorem reference3_frame : quiescent_Reference3Ideal := fun m g _ =>
  (θ_run _ _ _).mono (fun r h => ⟨fun c => (h c).2, sem_eq_zero_of_no_sems (by decide) r.2⟩) (Reference3Ideal.Value.run m g)

theorem reference4_frame : quiescent_Reference4Ideal := fun m g _ =>
  (θ_run _ _ _).mono (fun r h => ⟨fun c => (h c).2, sem_eq_zero_of_no_sems (by decide) r.2⟩) (Reference4Ideal.Value.run m g)

theorem reference5_frame : quiescent_Reference5Ideal := fun m g _ =>
  (θ_run _ _ _).mono (fun r h => ⟨fun c => (h c).2, sem_eq_zero_of_no_sems (by decide) r.2⟩) (Reference5Ideal.Value.run m g)

theorem reference6_frame : quiescent_Reference6Ideal := fun m g _ =>
  (θ_run _ _ _).mono (fun r h => ⟨fun c => (h c).2, sem_eq_zero_of_no_sems (by decide) r.2⟩) (Reference6Ideal.Value.run m g)

theorem reference7_frame : quiescent_Reference7Ideal := fun m g _ =>
  (θ_run _ _ _).mono (fun r h => ⟨fun c => (h c).2, sem_eq_zero_of_no_sems (by decide) r.2⟩) (Reference7Ideal.Value.run m g)

theorem reference8_frame : quiescent_Reference8Ideal := fun m g _ =>
  (θ_run _ _ _).mono (fun r h => ⟨fun c => (h c).2.2.2.2.2.2, sem_eq_zero_of_no_sems (by decide) r.2⟩) (Reference8Ideal.Value.run m g)

theorem reference9_frame : quiescent_Reference9Ideal := fun m g _ =>
  (θ_run _ _ _).mono (fun r h => ⟨fun c => (h c).2, sem_eq_zero_of_no_sems (by decide) r.2⟩) (Reference9Ideal.Value.run m g)

theorem reference10_frame : quiescent_Reference10Ideal := fun m g _ =>
  (θ_run _ _ _).mono (fun r h => ⟨fun c => (h c).2, sem_eq_zero_of_no_sems (by decide) r.2⟩) (Reference10Ideal.Value.run m g)

theorem reference11_frame : quiescent_Reference11Ideal := fun m g _ =>
  (θ_run _ _ _).mono (fun r h => ⟨fun c => (h c).2, sem_eq_zero_of_no_sems (by decide) r.2⟩) (Reference11Ideal.Value.run m g)

theorem reference12_frame : quiescent_Reference12Ideal := fun m g _ =>
  (θ_run _ _ _).mono (fun r h => ⟨fun c => (h c).2.2.2.2.2, sem_eq_zero_of_no_sems (by decide) r.2⟩) (Reference12Ideal.Value.run m g)

theorem reference13_frame : quiescent_Reference13Ideal := fun m g _ =>
  (θ_run _ _ _).mono (fun r h => ⟨fun c => (h c).2, sem_eq_zero_of_no_sems (by decide) r.2⟩) (Reference13Ideal.Value.run m g)

theorem reference14_frame : quiescent_Reference14Ideal := fun m g _ =>
  (θ_run _ _ _).mono (fun r h => ⟨fun c => (h c).2, sem_eq_zero_of_no_sems (by decide) r.2⟩) (Reference14Ideal.Value.run m g)

theorem reference15_frame : quiescent_Reference15Ideal := fun m g _ =>
  (θ_run _ _ _).mono (fun r h => ⟨fun c => (h c).2.2, sem_eq_zero_of_no_sems (by decide) r.2⟩) (Reference15Ideal.Value.run m g)

theorem reference16_frame : quiescent_Reference16Ideal := fun m g _ =>
  (θ_run _ _ _).mono (fun r h => ⟨fun c => (h c).2, sem_eq_zero_of_no_sems (by decide) r.2⟩) (Reference16Ideal.Value.run m g)

theorem reference17_frame : quiescent_Reference17Ideal := fun m g _ =>
  (θ_run _ _ _).mono (fun r h => ⟨fun c => (h c).2, sem_eq_zero_of_no_sems (by decide) r.2⟩) (Reference17Ideal.Value.run m g)

theorem reference18_frame : quiescent_Reference18Ideal := fun m g _ =>
  (θ_run _ _ _).mono (fun r h => ⟨fun c => (h c).2, sem_eq_zero_of_no_sems (by decide) r.2⟩) (Reference18Ideal.Value.run m g)

theorem reference19_frame : quiescent_Reference19Ideal := fun m g _ =>
  (θ_run _ _ _).mono (fun r h => ⟨fun c => (h c).2, sem_eq_zero_of_no_sems (by decide) r.2⟩) (Reference19Ideal.Value.run m g)

theorem reference20_frame : quiescent_Reference20Ideal := fun m g _ =>
  (θ_run _ _ _).mono (fun r h => ⟨fun c => (h c).2.2, sem_eq_zero_of_no_sems (by decide) r.2⟩) (Reference20Ideal.Value.run m g)

theorem reference21_frame : quiescent_Reference21Ideal := fun m g _ =>
  (θ_run _ _ _).mono (fun r h => ⟨fun c => (h c).2, sem_eq_zero_of_no_sems (by decide) r.2⟩) (Reference21Ideal.Value.run m g)

/-- Every constant the ideal kernel names stands for the float word the kernel writes. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl,
    IdealRules.named_const.statement Cert.KernelIdeal.κ "scale" .f32 0x3DD105EC#32 (((Real.sqrt 96)⁻¹ : ℝ) : EReal) rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.KernelIdeal.Val.facts_finite, Cert.Kernel2Ideal.Val.facts_finite2, Cert.Kernel20Ideal.Val.facts_finite20,
    fun m ρ _ => Cert.Kernel.Gen.frame m ρ,
    fun m ρ _ => Cert.KernelIdeal.Gen.frame m ρ,
    fun m ρ _ => Cert.KernelIdeal.Gen.frame m ρ,
    fun m ρ _ => reference_frame m ρ trivial,
    fun m ρ _ => reference_frame m ρ trivial,
    fun m ρ _ => Cert.Kernel2.Gen.frame m ρ,
    fun m ρ _ => Cert.Kernel2Ideal.Gen.frame m ρ,
    fun m ρ _ => Cert.Kernel2Ideal.Gen.frame m ρ,
    fun m ρ _ => reference2_frame m ρ trivial,
    fun m ρ _ => reference2_frame m ρ trivial,
    fun m ρ _ => Cert.Kernel3.Gen.frame m ρ,
    fun m ρ _ => Cert.Kernel3Ideal.Gen.frame m ρ,
    fun m ρ _ => reference3_frame m ρ trivial,
    fun m ρ _ => Cert.Kernel4.Gen.frame m ρ,
    fun m ρ _ => Cert.Kernel4Ideal.Gen.frame m ρ,
    fun m ρ _ => reference4_frame m ρ trivial,
    fun m ρ _ => Cert.Kernel5.Gen.frame m ρ,
    fun m ρ _ => Cert.Kernel5Ideal.Gen.frame m ρ,
    fun m ρ _ => reference5_frame m ρ trivial,
    fun m ρ _ => Cert.Kernel6.Gen.frame m ρ,
    fun m ρ _ => Cert.Kernel6Ideal.Gen.frame m ρ,
    fun m ρ _ => reference6_frame m ρ trivial,
    fun m ρ _ => Cert.Kernel7.Gen.frame m ρ,
    fun m ρ _ => Cert.Kernel7Ideal.Gen.frame m ρ,
    fun m ρ _ => reference7_frame m ρ trivial,
    fun m ρ _ => Cert.Kernel8.Gen.frame m ρ,
    fun m ρ _ => Cert.Kernel8Ideal.Gen.frame m ρ,
    fun m ρ _ => reference8_frame m ρ trivial,
    fun m ρ _ => Cert.Kernel9.Gen.frame m ρ,
    fun m ρ _ => Cert.Kernel9Ideal.Gen.frame m ρ,
    fun m ρ _ => reference9_frame m ρ trivial,
    fun m ρ _ => Cert.Kernel10.Gen.frame m ρ,
    fun m ρ _ => Cert.Kernel10Ideal.Gen.frame m ρ,
    fun m ρ _ => reference10_frame m ρ trivial,
    fun m ρ _ => Cert.Kernel11.Gen.frame m ρ,
    fun m ρ _ => Cert.Kernel11Ideal.Gen.frame m ρ,
    fun m ρ _ => reference11_frame m ρ trivial,
    fun m ρ _ => Cert.Kernel12.Gen.frame m ρ,
    fun m ρ _ => Cert.Kernel12Ideal.Gen.frame m ρ,
    fun m ρ _ => reference12_frame m ρ trivial,
    fun m ρ _ => Cert.Kernel13.Gen.frame m ρ,
    fun m ρ _ => Cert.Kernel13Ideal.Gen.frame m ρ,
    fun m ρ _ => reference13_frame m ρ trivial,
    fun m ρ _ => Cert.Kernel14.Gen.frame m ρ,
    fun m ρ _ => Cert.Kernel14Ideal.Gen.frame m ρ,
    fun m ρ _ => reference14_frame m ρ trivial,
    fun m ρ _ => Cert.Kernel15.Gen.frame m ρ,
    fun m ρ _ => Cert.Kernel15Ideal.Gen.frame m ρ,
    fun m ρ _ => reference15_frame m ρ trivial,
    fun m ρ _ => Cert.Kernel16.Gen.frame m ρ,
    fun m ρ _ => Cert.Kernel16Ideal.Gen.frame m ρ,
    fun m ρ _ => reference16_frame m ρ trivial,
    fun m ρ _ => Cert.Kernel17.Gen.frame m ρ,
    fun m ρ _ => Cert.Kernel17Ideal.Gen.frame m ρ,
    fun m ρ _ => reference17_frame m ρ trivial,
    fun m ρ _ => Cert.Kernel18.Gen.frame m ρ,
    fun m ρ _ => Cert.Kernel18Ideal.Gen.frame m ρ,
    fun m ρ _ => reference18_frame m ρ trivial,
    fun m ρ _ => Cert.Kernel19.Gen.frame m ρ,
    fun m ρ _ => Cert.Kernel19Ideal.Gen.frame m ρ,
    fun m ρ _ => reference19_frame m ρ trivial,
    fun m ρ _ => Cert.Kernel20.Gen.frame m ρ,
    fun m ρ _ => Cert.Kernel20Ideal.Gen.frame m ρ,
    fun m ρ _ => Cert.Kernel20Ideal.Gen.frame m ρ,
    fun m ρ _ => reference20_frame m ρ trivial,
    fun m ρ _ => reference20_frame m ρ trivial,
    fun m ρ _ => Cert.Kernel21.Gen.frame m ρ,
    fun m ρ _ => Cert.Kernel21Ideal.Gen.frame m ρ,
    fun m ρ _ => reference21_frame m ρ trivial,
    preserves,
    Cert.KernelIdeal.Val.algebraic,
    trivial,
    Cert.Kernel2Ideal.Val.algebraic,
    trivial,
    Cert.Kernel3Ideal.Val.algebraic,
    trivial,
    Cert.Kernel4Ideal.Val.algebraic,
    trivial,
    Cert.Kernel5Ideal.Val.algebraic,
    trivial,
    Cert.Kernel6Ideal.Val.algebraic,
    trivial,
    Cert.Kernel7Ideal.Val.algebraic,
    trivial,
    Cert.Kernel8Ideal.Val.algebraic,
    trivial,
    Cert.Kernel9Ideal.Val.algebraic,
    trivial,
    Cert.Kernel10Ideal.Val.algebraic,
    trivial,
    Cert.Kernel11Ideal.Val.algebraic,
    trivial,
    Cert.Kernel12Ideal.Val.algebraic,
    trivial,
    Cert.Kernel13Ideal.Val.algebraic,
    trivial,
    Cert.Kernel14Ideal.Val.algebraic,
    trivial,
    Cert.Kernel15Ideal.Val.algebraic,
    trivial,
    Cert.Kernel16Ideal.Val.algebraic,
    trivial,
    Cert.Kernel17Ideal.Val.algebraic,
    trivial,
    Cert.Kernel18Ideal.Val.algebraic,
    IdealRules.named_const.statement Cert.Kernel19Ideal.κ "xscale" .f32 0x3DB504F3#32 (((Real.sqrt 128)⁻¹ : ℝ) : EReal) rfl,
    Cert.Kernel19Ideal.Val.algebraic,
    IdealRules.named_const.statement Cert.Kernel20Ideal.κ "xscale" .f32 0x3DB504F3#32 (((Real.sqrt 128)⁻¹ : ℝ) : EReal) rfl,
    Cert.Kernel20Ideal.Val.algebraic,
    trivial,
    Cert.Kernel21Ideal.Val.algebraic⟩

end Cert.Proof

end
